-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSRefIdeal (m : (ℓ : Loc Cert.InprojSRefIdeal.nD Cert.InprojSRefIdeal.τ Cert.InprojSRefIdeal.sig) → Buf (Elt Ideal) ℓ) : Prop :=
  True

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSRefIdeal (m : (ℓ : Loc Cert.PostSRefIdeal.nD Cert.PostSRefIdeal.τ Cert.PostSRefIdeal.sig) → Buf (Elt Ideal) ℓ) : Prop :=
  True

def Pre_GdnS (m : (ℓ : Loc Cert.GdnS.nD Cert.GdnS.τ Cert.GdnS.sig) → Buf (Elt Bits) ℓ) : Prop :=
  True

def Pre_GdnSIdeal (m : (ℓ : Loc Cert.GdnSIdeal.nD Cert.GdnSIdeal.τ Cert.GdnSIdeal.sig) → Buf (Elt Ideal) ℓ) : Prop :=
  True

def Pre_GdnSRefIdeal (m : (ℓ : Loc Cert.GdnSRefIdeal.nD Cert.GdnSRefIdeal.τ Cert.GdnSRefIdeal.sig) → Buf (Elt Ideal) ℓ) : Prop :=
  True

def Pre_GdnO (m : (ℓ : Loc Cert.GdnO.nD Cert.GdnO.τ Cert.GdnO.sig) → Buf (Elt Bits) ℓ) : Prop :=
  True

def Pre_GdnOIdeal (m : (ℓ : Loc Cert.GdnOIdeal.nD Cert.GdnOIdeal.τ Cert.GdnOIdeal.sig) → Buf (Elt Ideal) ℓ) : Prop :=
  True

def Pre_GdnORefIdeal (m : (ℓ : Loc Cert.GdnORefIdeal.nD Cert.GdnORefIdeal.τ Cert.GdnORefIdeal.sig) → Buf (Elt Ideal) ℓ) : Prop :=
  True

def Pre_GdnP (m : (ℓ : Loc Cert.GdnP.nD Cert.GdnP.τ Cert.GdnP.sig) → Buf (Elt Bits) ℓ) : Prop :=
  True

def Pre_GdnPIdeal (m : (ℓ : Loc Cert.GdnPIdeal.nD Cert.GdnPIdeal.τ Cert.GdnPIdeal.sig) → Buf (Elt Ideal) ℓ) : Prop :=
  True

def Pre_GdnPRefIdeal (m : (ℓ : Loc Cert.GdnPRefIdeal.nD Cert.GdnPRefIdeal.τ Cert.GdnPRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2)
      ∧ r.2.mem ((c.tc : Thread Cert.InprojS.nD Cert.InprojS.τ).loc Cert.InprojS.main_arg3) = m ((c.tc : Thread Cert.InprojS.nD Cert.InprojS.τ).loc Cert.InprojS.main_arg3)
      ∧ r.2.mem ((c.tc : Thread Cert.InprojS.nD Cert.InprojS.τ).loc Cert.InprojS.main_arg4) = m ((c.tc : Thread Cert.InprojS.nD Cert.InprojS.τ).loc Cert.InprojS.main_arg4))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
      ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
      ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2)
      ∧ r.2.mem ((c.tc : Thread Cert.InprojSRefIdeal.nD Cert.InprojSRefIdeal.τ).loc Cert.InprojSRefIdeal.main_arg3) = m ((c.tc : Thread Cert.InprojSRefIdeal.nD Cert.InprojSRefIdeal.τ).loc Cert.InprojSRefIdeal.main_arg3)
      ∧ r.2.mem ((c.tc : Thread Cert.InprojSRefIdeal.nD Cert.InprojSRefIdeal.τ).loc Cert.InprojSRefIdeal.main_arg4) = m ((c.tc : Thread Cert.InprojSRefIdeal.nD Cert.InprojSRefIdeal.τ).loc Cert.InprojSRefIdeal.main_arg4))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6)
      ∧ r.2.mem ((c.tc : Thread Cert.PostS.nD Cert.PostS.τ).loc Cert.PostS.main_arg7) = m ((c.tc : Thread Cert.PostS.nD Cert.PostS.τ).loc Cert.PostS.main_arg7)
      ∧ r.2.mem ((c.tc : Thread Cert.PostS.nD Cert.PostS.τ).loc Cert.PostS.main_arg8) = m ((c.tc : Thread Cert.PostS.nD Cert.PostS.τ).loc Cert.PostS.main_arg8)
      ∧ r.2.mem ((c.tc : Thread Cert.PostS.nD Cert.PostS.τ).loc Cert.PostS.main_arg9) = m ((c.tc : Thread Cert.PostS.nD Cert.PostS.τ).loc Cert.PostS.main_arg9))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
      ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
      ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7)
      ∧ r.2.mem ((c.tc : Thread Cert.PostSRefIdeal.nD Cert.PostSRefIdeal.τ).loc Cert.PostSRefIdeal.main_arg8) = m ((c.tc : Thread Cert.PostSRefIdeal.nD Cert.PostSRefIdeal.τ).loc Cert.PostSRefIdeal.main_arg8)
      ∧ r.2.mem ((c.tc : Thread Cert.PostSRefIdeal.nD Cert.PostSRefIdeal.τ).loc Cert.PostSRefIdeal.main_arg9) = m ((c.tc : Thread Cert.PostSRefIdeal.nD Cert.PostSRefIdeal.τ).loc Cert.PostSRefIdeal.main_arg9))
      ∧ r.2.sem = fun _ => 0)

def quiescent_GdnS [hGdnS : Cert.GdnS.Facts] : Prop :=
  ∀ (m : (ℓ : Loc Cert.GdnS.nD Cert.GdnS.τ Cert.GdnS.sig) → Buf (Elt Bits) ℓ) (g : Dev Cert.GdnS.nD → PrngReg), Pre_GdnS m →
    θ_run (Cert.GdnS.defs (F := Bits)) (onTc (τ := Cert.GdnS.τ) (Cert.GdnS.main (F := Bits))) ⟨m, fun _ => 0, g⟩ (fun r => (∀ c : Dev Cert.GdnS.nD,
      r.2.mem ((c.tc : Thread Cert.GdnS.nD Cert.GdnS.τ).loc Cert.GdnS.main_arg0) = m ((c.tc : Thread Cert.GdnS.nD Cert.GdnS.τ).loc Cert.GdnS.main_arg0)
      ∧ r.2.mem ((c.tc : Thread Cert.GdnS.nD Cert.GdnS.τ).loc Cert.GdnS.main_arg1) = m ((c.tc : Thread Cert.GdnS.nD Cert.GdnS.τ).loc Cert.GdnS.main_arg1))
      ∧ r.2.sem = fun _ => 0)

def quiescent_GdnSIdeal [hGdnSIdeal : Cert.GdnSIdeal.Facts] : Prop :=
  ∀ (m : (ℓ : Loc Cert.GdnSIdeal.nD Cert.GdnSIdeal.τ Cert.GdnSIdeal.sig) → Buf (Elt Ideal) ℓ) (g : Dev Cert.GdnSIdeal.nD → PrngReg), Pre_GdnSIdeal m →
    θ_run (Cert.GdnSIdeal.defs (F := Ideal)) (onTc (τ := Cert.GdnSIdeal.τ) (Cert.GdnSIdeal.main (F := Ideal))) ⟨m, fun _ => 0, g⟩ (fun r => (∀ c : Dev Cert.GdnSIdeal.nD,
      r.2.mem ((c.tc : Thread Cert.GdnSIdeal.nD Cert.GdnSIdeal.τ).loc Cert.GdnSIdeal.main_arg0) = m ((c.tc : Thread Cert.GdnSIdeal.nD Cert.GdnSIdeal.τ).loc Cert.GdnSIdeal.main_arg0)
      ∧ r.2.mem ((c.tc : Thread Cert.GdnSIdeal.nD Cert.GdnSIdeal.τ).loc Cert.GdnSIdeal.main_arg1) = m ((c.tc : Thread Cert.GdnSIdeal.nD Cert.GdnSIdeal.τ).loc Cert.GdnSIdeal.main_arg1))
      ∧ r.2.sem = fun _ => 0)

def quiescent_GdnSRefIdeal [hGdnSRefIdeal : Cert.GdnSRefIdeal.Facts] : Prop :=
  ∀ (m : (ℓ : Loc Cert.GdnSRefIdeal.nD Cert.GdnSRefIdeal.τ Cert.GdnSRefIdeal.sig) → Buf (Elt Ideal) ℓ) (g : Dev Cert.GdnSRefIdeal.nD → PrngReg), Pre_GdnSRefIdeal m →
    θ_run (Cert.GdnSRefIdeal.defs (F := Ideal)) (onTc (τ := Cert.GdnSRefIdeal.τ) (Cert.GdnSRefIdeal.main (F := Ideal))) ⟨m, fun _ => 0, g⟩ (fun r => (∀ c : Dev Cert.GdnSRefIdeal.nD,
      r.2.mem ((c.tc : Thread Cert.GdnSRefIdeal.nD Cert.GdnSRefIdeal.τ).loc Cert.GdnSRefIdeal.main_arg0) = m ((c.tc : Thread Cert.GdnSRefIdeal.nD Cert.GdnSRefIdeal.τ).loc Cert.GdnSRefIdeal.main_arg0)
      ∧ r.2.mem ((c.tc : Thread Cert.GdnSRefIdeal.nD Cert.GdnSRefIdeal.τ).loc Cert.GdnSRefIdeal.main_arg1) = m ((c.tc : Thread Cert.GdnSRefIdeal.nD Cert.GdnSRefIdeal.τ).loc Cert.GdnSRefIdeal.main_arg1))
      ∧ r.2.sem = fun _ => 0)

def quiescent_GdnO [hGdnO : Cert.GdnO.Facts] : Prop :=
  ∀ (m : (ℓ : Loc Cert.GdnO.nD Cert.GdnO.τ Cert.GdnO.sig) → Buf (Elt Bits) ℓ) (g : Dev Cert.GdnO.nD → PrngReg), Pre_GdnO m →
    θ_run (Cert.GdnO.defs (F := Bits)) (onTc (τ := Cert.GdnO.τ) (Cert.GdnO.main (F := Bits))) ⟨m, fun _ => 0, g⟩ (fun r => (∀ c : Dev Cert.GdnO.nD,
      r.2.mem ((c.tc : Thread Cert.GdnO.nD Cert.GdnO.τ).loc Cert.GdnO.main_arg0) = m ((c.tc : Thread Cert.GdnO.nD Cert.GdnO.τ).loc Cert.GdnO.main_arg0)
      ∧ r.2.mem ((c.tc : Thread Cert.GdnO.nD Cert.GdnO.τ).loc Cert.GdnO.main_arg1) = m ((c.tc : Thread Cert.GdnO.nD Cert.GdnO.τ).loc Cert.GdnO.main_arg1)
      ∧ r.2.mem ((c.tc : Thread Cert.GdnO.nD Cert.GdnO.τ).loc Cert.GdnO.main_arg2) = m ((c.tc : Thread Cert.GdnO.nD Cert.GdnO.τ).loc Cert.GdnO.main_arg2)
      ∧ r.2.mem ((c.tc : Thread Cert.GdnO.nD Cert.GdnO.τ).loc Cert.GdnO.main_arg3) = m ((c.tc : Thread Cert.GdnO.nD Cert.GdnO.τ).loc Cert.GdnO.main_arg3)
      ∧ r.2.mem ((c.tc : Thread Cert.GdnO.nD Cert.GdnO.τ).loc Cert.GdnO.main_arg4) = m ((c.tc : Thread Cert.GdnO.nD Cert.GdnO.τ).loc Cert.GdnO.main_arg4))
      ∧ r.2.sem = fun _ => 0)

def quiescent_GdnOIdeal [hGdnOIdeal : Cert.GdnOIdeal.Facts] : Prop :=
  ∀ (m : (ℓ : Loc Cert.GdnOIdeal.nD Cert.GdnOIdeal.τ Cert.GdnOIdeal.sig) → Buf (Elt Ideal) ℓ) (g : Dev Cert.GdnOIdeal.nD → PrngReg), Pre_GdnOIdeal m →
    θ_run (Cert.GdnOIdeal.defs (F := Ideal)) (onTc (τ := Cert.GdnOIdeal.τ) (Cert.GdnOIdeal.main (F := Ideal))) ⟨m, fun _ => 0, g⟩ (fun r => (∀ c : Dev Cert.GdnOIdeal.nD,
      r.2.mem ((c.tc : Thread Cert.GdnOIdeal.nD Cert.GdnOIdeal.τ).loc Cert.GdnOIdeal.main_arg0) = m ((c.tc : Thread Cert.GdnOIdeal.nD Cert.GdnOIdeal.τ).loc Cert.GdnOIdeal.main_arg0)
      ∧ r.2.mem ((c.tc : Thread Cert.GdnOIdeal.nD Cert.GdnOIdeal.τ).loc Cert.GdnOIdeal.main_arg1) = m ((c.tc : Thread Cert.GdnOIdeal.nD Cert.GdnOIdeal.τ).loc Cert.GdnOIdeal.main_arg1)
      ∧ r.2.mem ((c.tc : Thread Cert.GdnOIdeal.nD Cert.GdnOIdeal.τ).loc Cert.GdnOIdeal.main_arg2) = m ((c.tc : Thread Cert.GdnOIdeal.nD Cert.GdnOIdeal.τ).loc Cert.GdnOIdeal.main_arg2)
      ∧ r.2.mem ((c.tc : Thread Cert.GdnOIdeal.nD Cert.GdnOIdeal.τ).loc Cert.GdnOIdeal.main_arg3) = m ((c.tc : Thread Cert.GdnOIdeal.nD Cert.GdnOIdeal.τ).loc Cert.GdnOIdeal.main_arg3)
      ∧ r.2.mem ((c.tc : Thread Cert.GdnOIdeal.nD Cert.GdnOIdeal.τ).loc Cert.GdnOIdeal.main_arg4) = m ((c.tc : Thread Cert.GdnOIdeal.nD Cert.GdnOIdeal.τ).loc Cert.GdnOIdeal.main_arg4))
      ∧ r.2.sem = fun _ => 0)

def quiescent_GdnORefIdeal [hGdnORefIdeal : Cert.GdnORefIdeal.Facts] : Prop :=
  ∀ (m : (ℓ : Loc Cert.GdnORefIdeal.nD Cert.GdnORefIdeal.τ Cert.GdnORefIdeal.sig) → Buf (Elt Ideal) ℓ) (g : Dev Cert.GdnORefIdeal.nD → PrngReg), Pre_GdnORefIdeal m →
    θ_run (Cert.GdnORefIdeal.defs (F := Ideal)) (onTc (τ := Cert.GdnORefIdeal.τ) (Cert.GdnORefIdeal.main (F := Ideal))) ⟨m, fun _ => 0, g⟩ (fun r => (∀ c : Dev Cert.GdnORefIdeal.nD,
      r.2.mem ((c.tc : Thread Cert.GdnORefIdeal.nD Cert.GdnORefIdeal.τ).loc Cert.GdnORefIdeal.main_arg0) = m ((c.tc : Thread Cert.GdnORefIdeal.nD Cert.GdnORefIdeal.τ).loc Cert.GdnORefIdeal.main_arg0)
      ∧ r.2.mem ((c.tc : Thread Cert.GdnORefIdeal.nD Cert.GdnORefIdeal.τ).loc Cert.GdnORefIdeal.main_arg1) = m ((c.tc : Thread Cert.GdnORefIdeal.nD Cert.GdnORefIdeal.τ).loc Cert.GdnORefIdeal.main_arg1)
      ∧ r.2.mem ((c.tc : Thread Cert.GdnORefIdeal.nD Cert.GdnORefIdeal.τ).loc Cert.GdnORefIdeal.main_arg2) = m ((c.tc : Thread Cert.GdnORefIdeal.nD Cert.GdnORefIdeal.τ).loc Cert.GdnORefIdeal.main_arg2)
      ∧ r.2.mem ((c.tc : Thread Cert.GdnORefIdeal.nD Cert.GdnORefIdeal.τ).loc Cert.GdnORefIdeal.main_arg3) = m ((c.tc : Thread Cert.GdnORefIdeal.nD Cert.GdnORefIdeal.τ).loc Cert.GdnORefIdeal.main_arg3)
      ∧ r.2.mem ((c.tc : Thread Cert.GdnORefIdeal.nD Cert.GdnORefIdeal.τ).loc Cert.GdnORefIdeal.main_arg4) = m ((c.tc : Thread Cert.GdnORefIdeal.nD Cert.GdnORefIdeal.τ).loc Cert.GdnORefIdeal.main_arg4))
      ∧ r.2.sem = fun _ => 0)

def quiescent_GdnP [hGdnP : Cert.GdnP.Facts] : Prop :=
  ∀ (m : (ℓ : Loc Cert.GdnP.nD Cert.GdnP.τ Cert.GdnP.sig) → Buf (Elt Bits) ℓ) (g : Dev Cert.GdnP.nD → PrngReg), Pre_GdnP m →
    θ_run (Cert.GdnP.defs (F := Bits)) (onTc (τ := Cert.GdnP.τ) (Cert.GdnP.main (F := Bits))) ⟨m, fun _ => 0, g⟩ (fun r => (∀ c : Dev Cert.GdnP.nD,
      r.2.mem ((c.tc : Thread Cert.GdnP.nD Cert.GdnP.τ).loc Cert.GdnP.main_arg0) = m ((c.tc : Thread Cert.GdnP.nD Cert.GdnP.τ).loc Cert.GdnP.main_arg0)
      ∧ r.2.mem ((c.tc : Thread Cert.GdnP.nD Cert.GdnP.τ).loc Cert.GdnP.main_arg1) = m ((c.tc : Thread Cert.GdnP.nD Cert.GdnP.τ).loc Cert.GdnP.main_arg1)
      ∧ r.2.mem ((c.tc : Thread Cert.GdnP.nD Cert.GdnP.τ).loc Cert.GdnP.main_arg2) = m ((c.tc : Thread Cert.GdnP.nD Cert.GdnP.τ).loc Cert.GdnP.main_arg2)
      ∧ r.2.mem ((c.tc : Thread Cert.GdnP.nD Cert.GdnP.τ).loc Cert.GdnP.main_arg3) = m ((c.tc : Thread Cert.GdnP.nD Cert.GdnP.τ).loc Cert.GdnP.main_arg3)
      ∧ r.2.mem ((c.tc : Thread Cert.GdnP.nD Cert.GdnP.τ).loc Cert.GdnP.main_arg4) = m ((c.tc : Thread Cert.GdnP.nD Cert.GdnP.τ).loc Cert.GdnP.main_arg4)
      ∧ r.2.mem ((c.tc : Thread Cert.GdnP.nD Cert.GdnP.τ).loc Cert.GdnP.main_arg5) = m ((c.tc : Thread Cert.GdnP.nD Cert.GdnP.τ).loc Cert.GdnP.main_arg5))
      ∧ r.2.sem = fun _ => 0)

def quiescent_GdnPIdeal [hGdnPIdeal : Cert.GdnPIdeal.Facts] : Prop :=
  ∀ (m : (ℓ : Loc Cert.GdnPIdeal.nD Cert.GdnPIdeal.τ Cert.GdnPIdeal.sig) → Buf (Elt Ideal) ℓ) (g : Dev Cert.GdnPIdeal.nD → PrngReg), Pre_GdnPIdeal m →
    θ_run (Cert.GdnPIdeal.defs (F := Ideal)) (onTc (τ := Cert.GdnPIdeal.τ) (Cert.GdnPIdeal.main (F := Ideal))) ⟨m, fun _ => 0, g⟩ (fun r => (∀ c : Dev Cert.GdnPIdeal.nD,
      r.2.mem ((c.tc : Thread Cert.GdnPIdeal.nD Cert.GdnPIdeal.τ).loc Cert.GdnPIdeal.main_arg0) = m ((c.tc : Thread Cert.GdnPIdeal.nD Cert.GdnPIdeal.τ).loc Cert.GdnPIdeal.main_arg0)
      ∧ r.2.mem ((c.tc : Thread Cert.GdnPIdeal.nD Cert.GdnPIdeal.τ).loc Cert.GdnPIdeal.main_arg1) = m ((c.tc : Thread Cert.GdnPIdeal.nD Cert.GdnPIdeal.τ).loc Cert.GdnPIdeal.main_arg1)
      ∧ r.2.mem ((c.tc : Thread Cert.GdnPIdeal.nD Cert.GdnPIdeal.τ).loc Cert.GdnPIdeal.main_arg2) = m ((c.tc : Thread Cert.GdnPIdeal.nD Cert.GdnPIdeal.τ).loc Cert.GdnPIdeal.main_arg2)
      ∧ r.2.mem ((c.tc : Thread Cert.GdnPIdeal.nD Cert.GdnPIdeal.τ).loc Cert.GdnPIdeal.main_arg3) = m ((c.tc : Thread Cert.GdnPIdeal.nD Cert.GdnPIdeal.τ).loc Cert.GdnPIdeal.main_arg3)
      ∧ r.2.mem ((c.tc : Thread Cert.GdnPIdeal.nD Cert.GdnPIdeal.τ).loc Cert.GdnPIdeal.main_arg4) = m ((c.tc : Thread Cert.GdnPIdeal.nD Cert.GdnPIdeal.τ).loc Cert.GdnPIdeal.main_arg4)
      ∧ r.2.mem ((c.tc : Thread Cert.GdnPIdeal.nD Cert.GdnPIdeal.τ).loc Cert.GdnPIdeal.main_arg5) = m ((c.tc : Thread Cert.GdnPIdeal.nD Cert.GdnPIdeal.τ).loc Cert.GdnPIdeal.main_arg5))
      ∧ r.2.sem = fun _ => 0)

def quiescent_GdnPRefIdeal [hGdnPRefIdeal : Cert.GdnPRefIdeal.Facts] : Prop :=
  ∀ (m : (ℓ : Loc Cert.GdnPRefIdeal.nD Cert.GdnPRefIdeal.τ Cert.GdnPRefIdeal.sig) → Buf (Elt Ideal) ℓ) (g : Dev Cert.GdnPRefIdeal.nD → PrngReg), Pre_GdnPRefIdeal m →
    θ_run (Cert.GdnPRefIdeal.defs (F := Ideal)) (onTc (τ := Cert.GdnPRefIdeal.τ) (Cert.GdnPRefIdeal.main (F := Ideal))) ⟨m, fun _ => 0, g⟩ (fun r => (∀ c : Dev Cert.GdnPRefIdeal.nD,
      r.2.mem ((c.tc : Thread Cert.GdnPRefIdeal.nD Cert.GdnPRefIdeal.τ).loc Cert.GdnPRefIdeal.main_arg0) = m ((c.tc : Thread Cert.GdnPRefIdeal.nD Cert.GdnPRefIdeal.τ).loc Cert.GdnPRefIdeal.main_arg0)
      ∧ r.2.mem ((c.tc : Thread Cert.GdnPRefIdeal.nD Cert.GdnPRefIdeal.τ).loc Cert.GdnPRefIdeal.main_arg1) = m ((c.tc : Thread Cert.GdnPRefIdeal.nD Cert.GdnPRefIdeal.τ).loc Cert.GdnPRefIdeal.main_arg1)
      ∧ r.2.mem ((c.tc : Thread Cert.GdnPRefIdeal.nD Cert.GdnPRefIdeal.τ).loc Cert.GdnPRefIdeal.main_arg2) = m ((c.tc : Thread Cert.GdnPRefIdeal.nD Cert.GdnPRefIdeal.τ).loc Cert.GdnPRefIdeal.main_arg2)
      ∧ r.2.mem ((c.tc : Thread Cert.GdnPRefIdeal.nD Cert.GdnPRefIdeal.τ).loc Cert.GdnPRefIdeal.main_arg3) = m ((c.tc : Thread Cert.GdnPRefIdeal.nD Cert.GdnPRefIdeal.τ).loc Cert.GdnPRefIdeal.main_arg3)
      ∧ r.2.mem ((c.tc : Thread Cert.GdnPRefIdeal.nD Cert.GdnPRefIdeal.τ).loc Cert.GdnPRefIdeal.main_arg4) = m ((c.tc : Thread Cert.GdnPRefIdeal.nD Cert.GdnPRefIdeal.τ).loc Cert.GdnPRefIdeal.main_arg4)
      ∧ r.2.mem ((c.tc : Thread Cert.GdnPRefIdeal.nD Cert.GdnPRefIdeal.τ).loc Cert.GdnPRefIdeal.main_arg5) = m ((c.tc : Thread Cert.GdnPRefIdeal.nD Cert.GdnPRefIdeal.τ).loc Cert.GdnPRefIdeal.main_arg5))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v59) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v27_0)) (v1 : (c : Dev Cert.InprojIdeal.nD) → Buf (Elt Ideal) ((c.tc : Thread Cert.InprojIdeal.nD Cert.InprojIdeal.τ).loc Cert.InprojIdeal.main_v27_1)) (v2 : (c : Dev Cert.InprojIdeal.nD) → Buf (Elt Ideal) ((c.tc : Thread Cert.InprojIdeal.nD Cert.InprojIdeal.τ).loc Cert.InprojIdeal.main_v27_2)) (v3 : (c : Dev Cert.InprojIdeal.nD) → Buf (Elt Ideal) ((c.tc : Thread Cert.InprojIdeal.nD Cert.InprojIdeal.τ).loc Cert.InprojIdeal.main_v27_3)) (v4 : (c : Dev Cert.InprojIdeal.nD) → Buf (Elt Ideal) ((c.tc : Thread Cert.InprojIdeal.nD Cert.InprojIdeal.τ).loc Cert.InprojIdeal.main_v27_4)) (v5 : (c : Dev Cert.InprojIdeal.nD) → Buf (Elt Ideal) ((c.tc : Thread Cert.InprojIdeal.nD Cert.InprojIdeal.τ).loc Cert.InprojIdeal.main_v27_5)) (v6 : (c : Dev Cert.InprojIdeal.nD) → Buf (Elt Ideal) ((c.tc : Thread Cert.InprojIdeal.nD Cert.InprojIdeal.τ).loc Cert.InprojIdeal.main_v27_6)) (v7 : (c : Dev Cert.InprojIdeal.nD) → Buf (Elt Ideal) ((c.tc : Thread Cert.InprojIdeal.nD Cert.InprojIdeal.τ).loc Cert.InprojIdeal.main_v27_7)) (v8 : (c : Dev Cert.InprojIdeal.nD) → Buf (Elt Ideal) ((c.tc : Thread Cert.InprojIdeal.nD Cert.InprojIdeal.τ).loc Cert.InprojIdeal.main_v27_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v27_0) = v0 c
          ∧ r.2.mem ((c.tc : Thread Cert.InprojIdeal.nD Cert.InprojIdeal.τ).loc Cert.InprojIdeal.main_v27_1) = v1 c
          ∧ r.2.mem ((c.tc : Thread Cert.InprojIdeal.nD Cert.InprojIdeal.τ).loc Cert.InprojIdeal.main_v27_2) = v2 c
          ∧ r.2.mem ((c.tc : Thread Cert.InprojIdeal.nD Cert.InprojIdeal.τ).loc Cert.InprojIdeal.main_v27_3) = v3 c
          ∧ r.2.mem ((c.tc : Thread Cert.InprojIdeal.nD Cert.InprojIdeal.τ).loc Cert.InprojIdeal.main_v27_4) = v4 c
          ∧ r.2.mem ((c.tc : Thread Cert.InprojIdeal.nD Cert.InprojIdeal.τ).loc Cert.InprojIdeal.main_v27_5) = v5 c
          ∧ r.2.mem ((c.tc : Thread Cert.InprojIdeal.nD Cert.InprojIdeal.τ).loc Cert.InprojIdeal.main_v27_6) = v6 c
          ∧ r.2.mem ((c.tc : Thread Cert.InprojIdeal.nD Cert.InprojIdeal.τ).loc Cert.InprojIdeal.main_v27_7) = v7 c
          ∧ r.2.mem ((c.tc : Thread Cert.InprojIdeal.nD Cert.InprojIdeal.τ).loc Cert.InprojIdeal.main_v27_8) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v50) = v0 c
          ∧ r.2.mem ((c.tc : Thread Cert.InprojRefIdeal.nD Cert.InprojRefIdeal.τ).loc Cert.InprojRefIdeal.main_v51) = v1 c
          ∧ r.2.mem ((c.tc : Thread Cert.InprojRefIdeal.nD Cert.InprojRefIdeal.τ).loc Cert.InprojRefIdeal.main_v53) = v2 c
          ∧ r.2.mem ((c.tc : Thread Cert.InprojRefIdeal.nD Cert.InprojRefIdeal.τ).loc Cert.InprojRefIdeal.main_v54) = v3 c
          ∧ r.2.mem ((c.tc : Thread Cert.InprojRefIdeal.nD Cert.InprojRefIdeal.τ).loc Cert.InprojRefIdeal.main_v48) = v4 c
          ∧ r.2.mem ((c.tc : Thread Cert.InprojRefIdeal.nD Cert.InprojRefIdeal.τ).loc Cert.InprojRefIdeal.main_v49) = v5 c
          ∧ r.2.mem ((c.tc : Thread Cert.InprojRefIdeal.nD Cert.InprojRefIdeal.τ).loc Cert.InprojRefIdeal.main_v57) = v6 c
          ∧ r.2.mem ((c.tc : Thread Cert.InprojRefIdeal.nD Cert.InprojRefIdeal.τ).loc Cert.InprojRefIdeal.main_v58) = v7 c
          ∧ r.2.mem ((c.tc : Thread Cert.InprojRefIdeal.nD Cert.InprojRefIdeal.τ).loc Cert.InprojRefIdeal.main_v59) = v8 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v7_0)) (v1 : (c : Dev Cert.PostIdeal.nD) → Buf (Elt Ideal) ((c.tc : Thread Cert.PostIdeal.nD Cert.PostIdeal.τ).loc Cert.PostIdeal.main_v7_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v7_0) = v0 c
          ∧ r.2.mem ((c.tc : Thread Cert.PostIdeal.nD Cert.PostIdeal.τ).loc Cert.PostIdeal.main_v7_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v51) = v0 c
          ∧ r.2.mem ((c.tc : Thread Cert.PostRefIdeal.nD Cert.PostRefIdeal.τ).loc Cert.PostRefIdeal.main_v52) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_InprojS_InprojSIdeal : Prop :=
  True

def algebraic_InprojSIdeal_InprojSRefIdeal [hInprojSIdeal : Cert.InprojSIdeal.Facts] [hInprojSRefIdeal : Cert.InprojSRefIdeal.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)
      ∧ m' ((c.tc : Thread Cert.InprojSRefIdeal.nD Cert.InprojSRefIdeal.τ).loc Cert.InprojSRefIdeal.main_arg3) = m ((c.tc : Thread Cert.InprojSIdeal.nD Cert.InprojSIdeal.τ).loc Cert.InprojSIdeal.main_arg3)
      ∧ m' ((c.tc : Thread Cert.InprojSRefIdeal.nD Cert.InprojSRefIdeal.τ).loc Cert.InprojSRefIdeal.main_arg4) = m ((c.tc : Thread Cert.InprojSIdeal.nD Cert.InprojSIdeal.τ).loc Cert.InprojSIdeal.main_arg4)) →
    ∃ (v0 : (c : Dev Cert.InprojSIdeal.nD) → Buf (Elt Ideal) ((c.tc : Thread Cert.InprojSIdeal.nD Cert.InprojSIdeal.τ).loc Cert.InprojSIdeal.main_v28_0)) (v1 : (c : Dev Cert.InprojSIdeal.nD) → Buf (Elt Ideal) ((c.tc : Thread Cert.InprojSIdeal.nD Cert.InprojSIdeal.τ).loc Cert.InprojSIdeal.main_v28_1)) (v2 : (c : Dev Cert.InprojSIdeal.nD) → Buf (Elt Ideal) ((c.tc : Thread Cert.InprojSIdeal.nD Cert.InprojSIdeal.τ).loc Cert.InprojSIdeal.main_v28_2)) (v3 : (c : Dev Cert.InprojSIdeal.nD) → Buf (Elt Ideal) ((c.tc : Thread Cert.InprojSIdeal.nD Cert.InprojSIdeal.τ).loc Cert.InprojSIdeal.main_v28_3)) (v4 : (c : Dev Cert.InprojSIdeal.nD) → Buf (Elt Ideal) ((c.tc : Thread Cert.InprojSIdeal.nD Cert.InprojSIdeal.τ).loc Cert.InprojSIdeal.main_v28_4)) (v5 : (c : Dev Cert.InprojSIdeal.nD) → Buf (Elt Ideal) ((c.tc : Thread Cert.InprojSIdeal.nD Cert.InprojSIdeal.τ).loc Cert.InprojSIdeal.main_v28_5)) (v6 : (c : Dev Cert.InprojSIdeal.nD) → Buf (Elt Ideal) ((c.tc : Thread Cert.InprojSIdeal.nD Cert.InprojSIdeal.τ).loc Cert.InprojSIdeal.main_v28_6)) (v7 : (c : Dev Cert.InprojSIdeal.nD) → Buf (Elt Ideal) ((c.tc : Thread Cert.InprojSIdeal.nD Cert.InprojSIdeal.τ).loc Cert.InprojSIdeal.main_v28_7)) (v8 : (c : Dev Cert.InprojSIdeal.nD) → Buf (Elt Ideal) ((c.tc : Thread Cert.InprojSIdeal.nD Cert.InprojSIdeal.τ).loc Cert.InprojSIdeal.main_v28_8)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v28_0) = v0 c
          ∧ r.2.mem ((c.tc : Thread Cert.InprojSIdeal.nD Cert.InprojSIdeal.τ).loc Cert.InprojSIdeal.main_v28_1) = v1 c
          ∧ r.2.mem ((c.tc : Thread Cert.InprojSIdeal.nD Cert.InprojSIdeal.τ).loc Cert.InprojSIdeal.main_v28_2) = v2 c
          ∧ r.2.mem ((c.tc : Thread Cert.InprojSIdeal.nD Cert.InprojSIdeal.τ).loc Cert.InprojSIdeal.main_v28_3) = v3 c
          ∧ r.2.mem ((c.tc : Thread Cert.InprojSIdeal.nD Cert.InprojSIdeal.τ).loc Cert.InprojSIdeal.main_v28_4) = v4 c
          ∧ r.2.mem ((c.tc : Thread Cert.InprojSIdeal.nD Cert.InprojSIdeal.τ).loc Cert.InprojSIdeal.main_v28_5) = v5 c
          ∧ r.2.mem ((c.tc : Thread Cert.InprojSIdeal.nD Cert.InprojSIdeal.τ).loc Cert.InprojSIdeal.main_v28_6) = v6 c
          ∧ r.2.mem ((c.tc : Thread Cert.InprojSIdeal.nD Cert.InprojSIdeal.τ).loc Cert.InprojSIdeal.main_v28_7) = v7 c
          ∧ r.2.mem ((c.tc : Thread Cert.InprojSIdeal.nD Cert.InprojSIdeal.τ).loc Cert.InprojSIdeal.main_v28_8) = v8 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
          ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
          ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v51) = v0 c
          ∧ r.2.mem ((c.tc : Thread Cert.InprojSRefIdeal.nD Cert.InprojSRefIdeal.τ).loc Cert.InprojSRefIdeal.main_v52) = v1 c
          ∧ r.2.mem ((c.tc : Thread Cert.InprojSRefIdeal.nD Cert.InprojSRefIdeal.τ).loc Cert.InprojSRefIdeal.main_v54) = v2 c
          ∧ r.2.mem ((c.tc : Thread Cert.InprojSRefIdeal.nD Cert.InprojSRefIdeal.τ).loc Cert.InprojSRefIdeal.main_v55) = v3 c
          ∧ r.2.mem ((c.tc : Thread Cert.InprojSRefIdeal.nD Cert.InprojSRefIdeal.τ).loc Cert.InprojSRefIdeal.main_v49) = v4 c
          ∧ r.2.mem ((c.tc : Thread Cert.InprojSRefIdeal.nD Cert.InprojSRefIdeal.τ).loc Cert.InprojSRefIdeal.main_v50) = v5 c
          ∧ r.2.mem ((c.tc : Thread Cert.InprojSRefIdeal.nD Cert.InprojSRefIdeal.τ).loc Cert.InprojSRefIdeal.main_v58) = v6 c
          ∧ r.2.mem ((c.tc : Thread Cert.InprojSRefIdeal.nD Cert.InprojSRefIdeal.τ).loc Cert.InprojSRefIdeal.main_v59) = v7 c
          ∧ r.2.mem ((c.tc : Thread Cert.InprojSRefIdeal.nD Cert.InprojSRefIdeal.τ).loc Cert.InprojSRefIdeal.main_v60) = v8 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2)
          ∧ r.2.mem ((c.tc : Thread Cert.InprojSRefIdeal.nD Cert.InprojSRefIdeal.τ).loc Cert.InprojSRefIdeal.main_arg3) = m' ((c.tc : Thread Cert.InprojSRefIdeal.nD Cert.InprojSRefIdeal.τ).loc Cert.InprojSRefIdeal.main_arg3)
          ∧ r.2.mem ((c.tc : Thread Cert.InprojSRefIdeal.nD Cert.InprojSRefIdeal.τ).loc Cert.InprojSRefIdeal.main_arg4) = m' ((c.tc : Thread Cert.InprojSRefIdeal.nD Cert.InprojSRefIdeal.τ).loc Cert.InprojSRefIdeal.main_arg4))

def preserves_PostS_PostSIdeal : Prop :=
  True

def algebraic_PostSIdeal_PostSRefIdeal [hPostSIdeal : Cert.PostSIdeal.Facts] [hPostSRefIdeal : Cert.PostSRefIdeal.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)
      ∧ m' ((c.tc : Thread Cert.PostSRefIdeal.nD Cert.PostSRefIdeal.τ).loc Cert.PostSRefIdeal.main_arg7) = m ((c.tc : Thread Cert.PostSIdeal.nD Cert.PostSIdeal.τ).loc Cert.PostSIdeal.main_arg7)
      ∧ m' ((c.tc : Thread Cert.PostSRefIdeal.nD Cert.PostSRefIdeal.τ).loc Cert.PostSRefIdeal.main_arg8) = m ((c.tc : Thread Cert.PostSIdeal.nD Cert.PostSIdeal.τ).loc Cert.PostSIdeal.main_arg8)
      ∧ m' ((c.tc : Thread Cert.PostSRefIdeal.nD Cert.PostSRefIdeal.τ).loc Cert.PostSRefIdeal.main_arg9) = m ((c.tc : Thread Cert.PostSIdeal.nD Cert.PostSIdeal.τ).loc Cert.PostSIdeal.main_arg9)) →
    ∃ (v0 : (c : Dev Cert.PostSIdeal.nD) → Buf (Elt Ideal) ((c.tc : Thread Cert.PostSIdeal.nD Cert.PostSIdeal.τ).loc Cert.PostSIdeal.main_v9_0)) (v1 : (c : Dev Cert.PostSIdeal.nD) → Buf (Elt Ideal) ((c.tc : Thread Cert.PostSIdeal.nD Cert.PostSIdeal.τ).loc Cert.PostSIdeal.main_v9_1)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v9_0) = v0 c
          ∧ r.2.mem ((c.tc : Thread Cert.PostSIdeal.nD Cert.PostSIdeal.τ).loc Cert.PostSIdeal.main_v9_1) = v1 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
          ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
          ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
          ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v52) = v0 c
          ∧ r.2.mem ((c.tc : Thread Cert.PostSRefIdeal.nD Cert.PostSRefIdeal.τ).loc Cert.PostSRefIdeal.main_v55) = v1 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5)
          ∧ r.2.mem ((c.tc : Thread Cert.PostSRefIdeal.nD Cert.PostSRefIdeal.τ).loc Cert.PostSRefIdeal.main_arg6) = m' ((c.tc : Thread Cert.PostSRefIdeal.nD Cert.PostSRefIdeal.τ).loc Cert.PostSRefIdeal.main_arg6)
          ∧ r.2.mem ((c.tc : Thread Cert.PostSRefIdeal.nD Cert.PostSRefIdeal.τ).loc Cert.PostSRefIdeal.main_arg7) = m' ((c.tc : Thread Cert.PostSRefIdeal.nD Cert.PostSRefIdeal.τ).loc Cert.PostSRefIdeal.main_arg7)
          ∧ r.2.mem ((c.tc : Thread Cert.PostSRefIdeal.nD Cert.PostSRefIdeal.τ).loc Cert.PostSRefIdeal.main_arg8) = m' ((c.tc : Thread Cert.PostSRefIdeal.nD Cert.PostSRefIdeal.τ).loc Cert.PostSRefIdeal.main_arg8)
          ∧ r.2.mem ((c.tc : Thread Cert.PostSRefIdeal.nD Cert.PostSRefIdeal.τ).loc Cert.PostSRefIdeal.main_arg9) = m' ((c.tc : Thread Cert.PostSRefIdeal.nD Cert.PostSRefIdeal.τ).loc Cert.PostSRefIdeal.main_arg9))

def preserves_GdnS_GdnSIdeal : Prop :=
  True

def algebraic_GdnSIdeal_GdnSRefIdeal [hGdnSIdeal : Cert.GdnSIdeal.Facts] [hGdnSRefIdeal : Cert.GdnSRefIdeal.Facts] : Prop :=
  ∀ (m : (ℓ : Loc Cert.GdnSIdeal.nD Cert.GdnSIdeal.τ Cert.GdnSIdeal.sig) → Buf (Elt Ideal) ℓ) (g : Dev Cert.GdnSIdeal.nD → PrngReg)
    (m' : (ℓ : Loc Cert.GdnSRefIdeal.nD Cert.GdnSRefIdeal.τ Cert.GdnSRefIdeal.sig) → Buf (Elt Ideal) ℓ) (g' : Dev Cert.GdnSRefIdeal.nD → PrngReg), Pre_GdnSIdeal m →
    (∀ c : Dev Cert.GdnSIdeal.nD,
      m' ((c.tc : Thread Cert.GdnSRefIdeal.nD Cert.GdnSRefIdeal.τ).loc Cert.GdnSRefIdeal.main_arg0) = m ((c.tc : Thread Cert.GdnSIdeal.nD Cert.GdnSIdeal.τ).loc Cert.GdnSIdeal.main_arg0)
      ∧ m' ((c.tc : Thread Cert.GdnSRefIdeal.nD Cert.GdnSRefIdeal.τ).loc Cert.GdnSRefIdeal.main_arg1) = m ((c.tc : Thread Cert.GdnSIdeal.nD Cert.GdnSIdeal.τ).loc Cert.GdnSIdeal.main_arg1)) →
    ∃ (v0 : (c : Dev Cert.GdnSIdeal.nD) → Buf (Elt Ideal) ((c.tc : Thread Cert.GdnSIdeal.nD Cert.GdnSIdeal.τ).loc Cert.GdnSIdeal.main_v0_0)) (v1 : (c : Dev Cert.GdnSIdeal.nD) → Buf (Elt Ideal) ((c.tc : Thread Cert.GdnSIdeal.nD Cert.GdnSIdeal.τ).loc Cert.GdnSIdeal.main_v0_1)),
      θ_run (Cert.GdnSIdeal.defs (F := Ideal)) (onTc (τ := Cert.GdnSIdeal.τ) (Cert.GdnSIdeal.main (F := Ideal))) ⟨m, fun _ => 0, g⟩ (fun r => ∀ c : Dev Cert.GdnSIdeal.nD,
          r.2.mem ((c.tc : Thread Cert.GdnSIdeal.nD Cert.GdnSIdeal.τ).loc Cert.GdnSIdeal.main_v0_0) = v0 c
          ∧ r.2.mem ((c.tc : Thread Cert.GdnSIdeal.nD Cert.GdnSIdeal.τ).loc Cert.GdnSIdeal.main_v0_1) = v1 c
          ∧ r.2.mem ((c.tc : Thread Cert.GdnSIdeal.nD Cert.GdnSIdeal.τ).loc Cert.GdnSIdeal.main_arg0) = m ((c.tc : Thread Cert.GdnSIdeal.nD Cert.GdnSIdeal.τ).loc Cert.GdnSIdeal.main_arg0)
          ∧ r.2.mem ((c.tc : Thread Cert.GdnSIdeal.nD Cert.GdnSIdeal.τ).loc Cert.GdnSIdeal.main_arg1) = m ((c.tc : Thread Cert.GdnSIdeal.nD Cert.GdnSIdeal.τ).loc Cert.GdnSIdeal.main_arg1))
      ∧ θ_run (Cert.GdnSRefIdeal.defs (F := Ideal)) (onTc (τ := Cert.GdnSRefIdeal.τ) (Cert.GdnSRefIdeal.main (F := Ideal))) ⟨m', fun _ => 0, g'⟩ (fun r => ∀ c : Dev Cert.GdnSRefIdeal.nD,
          r.2.mem ((c.tc : Thread Cert.GdnSRefIdeal.nD Cert.GdnSRefIdeal.τ).loc Cert.GdnSRefIdeal.main_v8) = v0 c
          ∧ r.2.mem ((c.tc : Thread Cert.GdnSRefIdeal.nD Cert.GdnSRefIdeal.τ).loc Cert.GdnSRefIdeal.main_v12) = v1 c
          ∧ r.2.mem ((c.tc : Thread Cert.GdnSRefIdeal.nD Cert.GdnSRefIdeal.τ).loc Cert.GdnSRefIdeal.main_arg0) = m' ((c.tc : Thread Cert.GdnSRefIdeal.nD Cert.GdnSRefIdeal.τ).loc Cert.GdnSRefIdeal.main_arg0)
          ∧ r.2.mem ((c.tc : Thread Cert.GdnSRefIdeal.nD Cert.GdnSRefIdeal.τ).loc Cert.GdnSRefIdeal.main_arg1) = m' ((c.tc : Thread Cert.GdnSRefIdeal.nD Cert.GdnSRefIdeal.τ).loc Cert.GdnSRefIdeal.main_arg1))

def preserves_GdnO_GdnOIdeal : Prop :=
  True

def algebraic_GdnOIdeal_GdnORefIdeal [hGdnOIdeal : Cert.GdnOIdeal.Facts] [hGdnORefIdeal : Cert.GdnORefIdeal.Facts] : Prop :=
  ∀ (m : (ℓ : Loc Cert.GdnOIdeal.nD Cert.GdnOIdeal.τ Cert.GdnOIdeal.sig) → Buf (Elt Ideal) ℓ) (g : Dev Cert.GdnOIdeal.nD → PrngReg)
    (m' : (ℓ : Loc Cert.GdnORefIdeal.nD Cert.GdnORefIdeal.τ Cert.GdnORefIdeal.sig) → Buf (Elt Ideal) ℓ) (g' : Dev Cert.GdnORefIdeal.nD → PrngReg), Pre_GdnOIdeal m →
    (∀ c : Dev Cert.GdnOIdeal.nD,
      m' ((c.tc : Thread Cert.GdnORefIdeal.nD Cert.GdnORefIdeal.τ).loc Cert.GdnORefIdeal.main_arg0) = m ((c.tc : Thread Cert.GdnOIdeal.nD Cert.GdnOIdeal.τ).loc Cert.GdnOIdeal.main_arg0)
      ∧ m' ((c.tc : Thread Cert.GdnORefIdeal.nD Cert.GdnORefIdeal.τ).loc Cert.GdnORefIdeal.main_arg1) = m ((c.tc : Thread Cert.GdnOIdeal.nD Cert.GdnOIdeal.τ).loc Cert.GdnOIdeal.main_arg1)
      ∧ m' ((c.tc : Thread Cert.GdnORefIdeal.nD Cert.GdnORefIdeal.τ).loc Cert.GdnORefIdeal.main_arg2) = m ((c.tc : Thread Cert.GdnOIdeal.nD Cert.GdnOIdeal.τ).loc Cert.GdnOIdeal.main_arg2)
      ∧ m' ((c.tc : Thread Cert.GdnORefIdeal.nD Cert.GdnORefIdeal.τ).loc Cert.GdnORefIdeal.main_arg3) = m ((c.tc : Thread Cert.GdnOIdeal.nD Cert.GdnOIdeal.τ).loc Cert.GdnOIdeal.main_arg3)
      ∧ m' ((c.tc : Thread Cert.GdnORefIdeal.nD Cert.GdnORefIdeal.τ).loc Cert.GdnORefIdeal.main_arg4) = m ((c.tc : Thread Cert.GdnOIdeal.nD Cert.GdnOIdeal.τ).loc Cert.GdnOIdeal.main_arg4)) →
    ∃ (v0 : (c : Dev Cert.GdnOIdeal.nD) → Buf (Elt Ideal) ((c.tc : Thread Cert.GdnOIdeal.nD Cert.GdnOIdeal.τ).loc Cert.GdnOIdeal.main_v1)),
      θ_run (Cert.GdnOIdeal.defs (F := Ideal)) (onTc (τ := Cert.GdnOIdeal.τ) (Cert.GdnOIdeal.main (F := Ideal))) ⟨m, fun _ => 0, g⟩ (fun r => ∀ c : Dev Cert.GdnOIdeal.nD,
          r.2.mem ((c.tc : Thread Cert.GdnOIdeal.nD Cert.GdnOIdeal.τ).loc Cert.GdnOIdeal.main_v1) = v0 c
          ∧ r.2.mem ((c.tc : Thread Cert.GdnOIdeal.nD Cert.GdnOIdeal.τ).loc Cert.GdnOIdeal.main_arg0) = m ((c.tc : Thread Cert.GdnOIdeal.nD Cert.GdnOIdeal.τ).loc Cert.GdnOIdeal.main_arg0)
          ∧ r.2.mem ((c.tc : Thread Cert.GdnOIdeal.nD Cert.GdnOIdeal.τ).loc Cert.GdnOIdeal.main_arg1) = m ((c.tc : Thread Cert.GdnOIdeal.nD Cert.GdnOIdeal.τ).loc Cert.GdnOIdeal.main_arg1)
          ∧ r.2.mem ((c.tc : Thread Cert.GdnOIdeal.nD Cert.GdnOIdeal.τ).loc Cert.GdnOIdeal.main_arg2) = m ((c.tc : Thread Cert.GdnOIdeal.nD Cert.GdnOIdeal.τ).loc Cert.GdnOIdeal.main_arg2)
          ∧ r.2.mem ((c.tc : Thread Cert.GdnOIdeal.nD Cert.GdnOIdeal.τ).loc Cert.GdnOIdeal.main_arg3) = m ((c.tc : Thread Cert.GdnOIdeal.nD Cert.GdnOIdeal.τ).loc Cert.GdnOIdeal.main_arg3)
          ∧ r.2.mem ((c.tc : Thread Cert.GdnOIdeal.nD Cert.GdnOIdeal.τ).loc Cert.GdnOIdeal.main_arg4) = m ((c.tc : Thread Cert.GdnOIdeal.nD Cert.GdnOIdeal.τ).loc Cert.GdnOIdeal.main_arg4))
      ∧ θ_run (Cert.GdnORefIdeal.defs (F := Ideal)) (onTc (τ := Cert.GdnORefIdeal.τ) (Cert.GdnORefIdeal.main (F := Ideal))) ⟨m', fun _ => 0, g'⟩ (fun r => ∀ c : Dev Cert.GdnORefIdeal.nD,
          r.2.mem ((c.tc : Thread Cert.GdnORefIdeal.nD Cert.GdnORefIdeal.τ).loc Cert.GdnORefIdeal.main_v35) = v0 c
          ∧ r.2.mem ((c.tc : Thread Cert.GdnORefIdeal.nD Cert.GdnORefIdeal.τ).loc Cert.GdnORefIdeal.main_arg0) = m' ((c.tc : Thread Cert.GdnORefIdeal.nD Cert.GdnORefIdeal.τ).loc Cert.GdnORefIdeal.main_arg0)
          ∧ r.2.mem ((c.tc : Thread Cert.GdnORefIdeal.nD Cert.GdnORefIdeal.τ).loc Cert.GdnORefIdeal.main_arg1) = m' ((c.tc : Thread Cert.GdnORefIdeal.nD Cert.GdnORefIdeal.τ).loc Cert.GdnORefIdeal.main_arg1)
          ∧ r.2.mem ((c.tc : Thread Cert.GdnORefIdeal.nD Cert.GdnORefIdeal.τ).loc Cert.GdnORefIdeal.main_arg2) = m' ((c.tc : Thread Cert.GdnORefIdeal.nD Cert.GdnORefIdeal.τ).loc Cert.GdnORefIdeal.main_arg2)
          ∧ r.2.mem ((c.tc : Thread Cert.GdnORefIdeal.nD Cert.GdnORefIdeal.τ).loc Cert.GdnORefIdeal.main_arg3) = m' ((c.tc : Thread Cert.GdnORefIdeal.nD Cert.GdnORefIdeal.τ).loc Cert.GdnORefIdeal.main_arg3)
          ∧ r.2.mem ((c.tc : Thread Cert.GdnORefIdeal.nD Cert.GdnORefIdeal.τ).loc Cert.GdnORefIdeal.main_arg4) = m' ((c.tc : Thread Cert.GdnORefIdeal.nD Cert.GdnORefIdeal.τ).loc Cert.GdnORefIdeal.main_arg4))

def preserves_GdnP_GdnPIdeal : Prop :=
  True

def algebraic_GdnPIdeal_GdnPRefIdeal [hGdnPIdeal : Cert.GdnPIdeal.Facts] [hGdnPRefIdeal : Cert.GdnPRefIdeal.Facts] : Prop :=
  ∀ (m : (ℓ : Loc Cert.GdnPIdeal.nD Cert.GdnPIdeal.τ Cert.GdnPIdeal.sig) → Buf (Elt Ideal) ℓ) (g : Dev Cert.GdnPIdeal.nD → PrngReg)
    (m' : (ℓ : Loc Cert.GdnPRefIdeal.nD Cert.GdnPRefIdeal.τ Cert.GdnPRefIdeal.sig) → Buf (Elt Ideal) ℓ) (g' : Dev Cert.GdnPRefIdeal.nD → PrngReg), Pre_GdnPIdeal m →
    (∀ c : Dev Cert.GdnPIdeal.nD,
      m' ((c.tc : Thread Cert.GdnPRefIdeal.nD Cert.GdnPRefIdeal.τ).loc Cert.GdnPRefIdeal.main_arg0) = m ((c.tc : Thread Cert.GdnPIdeal.nD Cert.GdnPIdeal.τ).loc Cert.GdnPIdeal.main_arg0)
      ∧ m' ((c.tc : Thread Cert.GdnPRefIdeal.nD Cert.GdnPRefIdeal.τ).loc Cert.GdnPRefIdeal.main_arg1) = m ((c.tc : Thread Cert.GdnPIdeal.nD Cert.GdnPIdeal.τ).loc Cert.GdnPIdeal.main_arg1)
      ∧ m' ((c.tc : Thread Cert.GdnPRefIdeal.nD Cert.GdnPRefIdeal.τ).loc Cert.GdnPRefIdeal.main_arg2) = m ((c.tc : Thread Cert.GdnPIdeal.nD Cert.GdnPIdeal.τ).loc Cert.GdnPIdeal.main_arg2)
      ∧ m' ((c.tc : Thread Cert.GdnPRefIdeal.nD Cert.GdnPRefIdeal.τ).loc Cert.GdnPRefIdeal.main_arg3) = m ((c.tc : Thread Cert.GdnPIdeal.nD Cert.GdnPIdeal.τ).loc Cert.GdnPIdeal.main_arg3)
      ∧ m' ((c.tc : Thread Cert.GdnPRefIdeal.nD Cert.GdnPRefIdeal.τ).loc Cert.GdnPRefIdeal.main_arg4) = m ((c.tc : Thread Cert.GdnPIdeal.nD Cert.GdnPIdeal.τ).loc Cert.GdnPIdeal.main_arg4)
      ∧ m' ((c.tc : Thread Cert.GdnPRefIdeal.nD Cert.GdnPRefIdeal.τ).loc Cert.GdnPRefIdeal.main_arg5) = m ((c.tc : Thread Cert.GdnPIdeal.nD Cert.GdnPIdeal.τ).loc Cert.GdnPIdeal.main_arg5)) →
    ∃ (v0 : (c : Dev Cert.GdnPIdeal.nD) → Buf (Elt Ideal) ((c.tc : Thread Cert.GdnPIdeal.nD Cert.GdnPIdeal.τ).loc Cert.GdnPIdeal.main_v0_0)) (v1 : (c : Dev Cert.GdnPIdeal.nD) → Buf (Elt Ideal) ((c.tc : Thread Cert.GdnPIdeal.nD Cert.GdnPIdeal.τ).loc Cert.GdnPIdeal.main_v0_1)),
      θ_run (Cert.GdnPIdeal.defs (F := Ideal)) (onTc (τ := Cert.GdnPIdeal.τ) (Cert.GdnPIdeal.main (F := Ideal))) ⟨m, fun _ => 0, g⟩ (fun r => ∀ c : Dev Cert.GdnPIdeal.nD,
          r.2.mem ((c.tc : Thread Cert.GdnPIdeal.nD Cert.GdnPIdeal.τ).loc Cert.GdnPIdeal.main_v0_0) = v0 c
          ∧ r.2.mem ((c.tc : Thread Cert.GdnPIdeal.nD Cert.GdnPIdeal.τ).loc Cert.GdnPIdeal.main_v0_1) = v1 c
          ∧ r.2.mem ((c.tc : Thread Cert.GdnPIdeal.nD Cert.GdnPIdeal.τ).loc Cert.GdnPIdeal.main_arg0) = m ((c.tc : Thread Cert.GdnPIdeal.nD Cert.GdnPIdeal.τ).loc Cert.GdnPIdeal.main_arg0)
          ∧ r.2.mem ((c.tc : Thread Cert.GdnPIdeal.nD Cert.GdnPIdeal.τ).loc Cert.GdnPIdeal.main_arg1) = m ((c.tc : Thread Cert.GdnPIdeal.nD Cert.GdnPIdeal.τ).loc Cert.GdnPIdeal.main_arg1)
          ∧ r.2.mem ((c.tc : Thread Cert.GdnPIdeal.nD Cert.GdnPIdeal.τ).loc Cert.GdnPIdeal.main_arg2) = m ((c.tc : Thread Cert.GdnPIdeal.nD Cert.GdnPIdeal.τ).loc Cert.GdnPIdeal.main_arg2)
          ∧ r.2.mem ((c.tc : Thread Cert.GdnPIdeal.nD Cert.GdnPIdeal.τ).loc Cert.GdnPIdeal.main_arg3) = m ((c.tc : Thread Cert.GdnPIdeal.nD Cert.GdnPIdeal.τ).loc Cert.GdnPIdeal.main_arg3)
          ∧ r.2.mem ((c.tc : Thread Cert.GdnPIdeal.nD Cert.GdnPIdeal.τ).loc Cert.GdnPIdeal.main_arg4) = m ((c.tc : Thread Cert.GdnPIdeal.nD Cert.GdnPIdeal.τ).loc Cert.GdnPIdeal.main_arg4)
          ∧ r.2.mem ((c.tc : Thread Cert.GdnPIdeal.nD Cert.GdnPIdeal.τ).loc Cert.GdnPIdeal.main_arg5) = m ((c.tc : Thread Cert.GdnPIdeal.nD Cert.GdnPIdeal.τ).loc Cert.GdnPIdeal.main_arg5))
      ∧ θ_run (Cert.GdnPRefIdeal.defs (F := Ideal)) (onTc (τ := Cert.GdnPRefIdeal.τ) (Cert.GdnPRefIdeal.main (F := Ideal))) ⟨m', fun _ => 0, g'⟩ (fun r => ∀ c : Dev Cert.GdnPRefIdeal.nD,
          r.2.mem ((c.tc : Thread Cert.GdnPRefIdeal.nD Cert.GdnPRefIdeal.τ).loc Cert.GdnPRefIdeal.main_v186) = v0 c
          ∧ r.2.mem ((c.tc : Thread Cert.GdnPRefIdeal.nD Cert.GdnPRefIdeal.τ).loc Cert.GdnPRefIdeal.main_v189) = v1 c
          ∧ r.2.mem ((c.tc : Thread Cert.GdnPRefIdeal.nD Cert.GdnPRefIdeal.τ).loc Cert.GdnPRefIdeal.main_arg0) = m' ((c.tc : Thread Cert.GdnPRefIdeal.nD Cert.GdnPRefIdeal.τ).loc Cert.GdnPRefIdeal.main_arg0)
          ∧ r.2.mem ((c.tc : Thread Cert.GdnPRefIdeal.nD Cert.GdnPRefIdeal.τ).loc Cert.GdnPRefIdeal.main_arg1) = m' ((c.tc : Thread Cert.GdnPRefIdeal.nD Cert.GdnPRefIdeal.τ).loc Cert.GdnPRefIdeal.main_arg1)
          ∧ r.2.mem ((c.tc : Thread Cert.GdnPRefIdeal.nD Cert.GdnPRefIdeal.τ).loc Cert.GdnPRefIdeal.main_arg2) = m' ((c.tc : Thread Cert.GdnPRefIdeal.nD Cert.GdnPRefIdeal.τ).loc Cert.GdnPRefIdeal.main_arg2)
          ∧ r.2.mem ((c.tc : Thread Cert.GdnPRefIdeal.nD Cert.GdnPRefIdeal.τ).loc Cert.GdnPRefIdeal.main_arg3) = m' ((c.tc : Thread Cert.GdnPRefIdeal.nD Cert.GdnPRefIdeal.τ).loc Cert.GdnPRefIdeal.main_arg3)
          ∧ r.2.mem ((c.tc : Thread Cert.GdnPRefIdeal.nD Cert.GdnPRefIdeal.τ).loc Cert.GdnPRefIdeal.main_arg4) = m' ((c.tc : Thread Cert.GdnPRefIdeal.nD Cert.GdnPRefIdeal.τ).loc Cert.GdnPRefIdeal.main_arg4)
          ∧ r.2.mem ((c.tc : Thread Cert.GdnPRefIdeal.nD Cert.GdnPRefIdeal.τ).loc Cert.GdnPRefIdeal.main_arg5) = m' ((c.tc : Thread Cert.GdnPRefIdeal.nD Cert.GdnPRefIdeal.τ).loc Cert.GdnPRefIdeal.main_arg5))

def Claim : Prop :=
  ∃ (hAttn : Cert.Attn.Facts) (hAttnIdeal : Cert.AttnIdeal.Facts) (hAttnRefIdeal : Cert.AttnRefIdeal.Facts) (hInproj : Cert.Inproj.Facts) (hInprojIdeal : Cert.InprojIdeal.Facts) (hInprojRefIdeal : Cert.InprojRefIdeal.Facts) (hPost : Cert.Post.Facts) (hPostIdeal : Cert.PostIdeal.Facts) (hPostRefIdeal : Cert.PostRefIdeal.Facts) (hInprojS : Cert.InprojS.Facts) (hInprojSIdeal : Cert.InprojSIdeal.Facts) (hInprojSRefIdeal : Cert.InprojSRefIdeal.Facts) (hPostS : Cert.PostS.Facts) (hPostSIdeal : Cert.PostSIdeal.Facts) (hPostSRefIdeal : Cert.PostSRefIdeal.Facts) (hGdnS : Cert.GdnS.Facts) (hGdnSIdeal : Cert.GdnSIdeal.Facts) (hGdnSRefIdeal : Cert.GdnSRefIdeal.Facts) (hGdnO : Cert.GdnO.Facts) (hGdnOIdeal : Cert.GdnOIdeal.Facts) (hGdnORefIdeal : Cert.GdnORefIdeal.Facts) (hGdnP : Cert.GdnP.Facts) (hGdnPIdeal : Cert.GdnPIdeal.Facts) (hGdnPRefIdeal : Cert.GdnPRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_Post (hPost := hPost)
    ∧ quiescent_PostIdeal (hPostIdeal := hPostIdeal)
    ∧ quiescent_PostRefIdeal (hPostRefIdeal := hPostRefIdeal)
    ∧ quiescent_InprojS (hInprojS := hInprojS)
    ∧ quiescent_InprojSIdeal (hInprojSIdeal := hInprojSIdeal)
    ∧ quiescent_InprojSRefIdeal (hInprojSRefIdeal := hInprojSRefIdeal)
    ∧ quiescent_PostS (hPostS := hPostS)
    ∧ quiescent_PostSIdeal (hPostSIdeal := hPostSIdeal)
    ∧ quiescent_PostSRefIdeal (hPostSRefIdeal := hPostSRefIdeal)
    ∧ quiescent_GdnS (hGdnS := hGdnS)
    ∧ quiescent_GdnSIdeal (hGdnSIdeal := hGdnSIdeal)
    ∧ quiescent_GdnSRefIdeal (hGdnSRefIdeal := hGdnSRefIdeal)
    ∧ quiescent_GdnO (hGdnO := hGdnO)
    ∧ quiescent_GdnOIdeal (hGdnOIdeal := hGdnOIdeal)
    ∧ quiescent_GdnORefIdeal (hGdnORefIdeal := hGdnORefIdeal)
    ∧ quiescent_GdnP (hGdnP := hGdnP)
    ∧ quiescent_GdnPIdeal (hGdnPIdeal := hGdnPIdeal)
    ∧ quiescent_GdnPRefIdeal (hGdnPRefIdeal := hGdnPRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Inproj_InprojIdeal
    ∧ algebraic_InprojIdeal_InprojRefIdeal (hInprojIdeal := hInprojIdeal) (hInprojRefIdeal := hInprojRefIdeal)
    ∧ preserves_Post_PostIdeal
    ∧ algebraic_PostIdeal_PostRefIdeal (hPostIdeal := hPostIdeal) (hPostRefIdeal := hPostRefIdeal)
    ∧ preserves_InprojS_InprojSIdeal
    ∧ algebraic_InprojSIdeal_InprojSRefIdeal (hInprojSIdeal := hInprojSIdeal) (hInprojSRefIdeal := hInprojSRefIdeal)
    ∧ preserves_PostS_PostSIdeal
    ∧ algebraic_PostSIdeal_PostSRefIdeal (hPostSIdeal := hPostSIdeal) (hPostSRefIdeal := hPostSRefIdeal)
    ∧ preserves_GdnS_GdnSIdeal
    ∧ algebraic_GdnSIdeal_GdnSRefIdeal (hGdnSIdeal := hGdnSIdeal) (hGdnSRefIdeal := hGdnSRefIdeal)
    ∧ preserves_GdnO_GdnOIdeal
    ∧ algebraic_GdnOIdeal_GdnORefIdeal (hGdnOIdeal := hGdnOIdeal) (hGdnORefIdeal := hGdnORefIdeal)
    ∧ preserves_GdnP_GdnPIdeal
    ∧ algebraic_GdnPIdeal_GdnPRefIdeal (hGdnPIdeal := hGdnPIdeal) (hGdnPRefIdeal := hGdnPRefIdeal)
-- ==== Pre_finite.lean ====
abbrev S16384x512 : Shape := ⟨2, ![16384, 512]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_v31 : IVec S_ 1) (main_v34 : IVec S1x64 1) : IVec S_ 1 :=
  let main_c_11 : IVec S_ 1 := constantI S_ 1 1#1
  let main_v35 : IVec S_ 1 := (fun x v => Host.reduce IntOp.andi x v reducesTo_S1x64_S_d0_1 h_S_) main_v34 main_c_11
  let main_v36 : IVec S_ 1 := andi main_v31 main_v35
  main_v36

def fn_part1 {F : FTy → Type} [FloatOps F] (main_arg4 : FVec F S1x64 .f32) (main_arg5 : FVec F S1x64 .f32) (main_arg6 : FVec F S1x64 .f32) (main_v16 : IVec S_ 1) (main_v17 : FVec F S1x64 .f32) : IVec S_ 1 :=
  let main_cst_4 : FVec F S_ .f32 := constant S_ .f32 0x7F800000#32
  let main_v18 : FVec F S1x64 .f32 := broadcastInDim S1x64 ![] bcast_S_S1x64 main_cst_4
  let main_v19 : IVec S1x64 1 := cmpf .olt main_v17 main_v18
  let main_c_5 : IVec S_ 1 := constantI S_ 1 1#1
  let main_v20 : IVec S_ 1 := (fun x v => Host.reduce IntOp.andi x v reducesTo_S1x64_S_d0_1 h_S_) main_v19 main_c_5
  let main_v21 : IVec S_ 1 := andi main_v16 main_v20
  let main_v22 : FVec F S1x64 .f32 := Host.absf main_arg4
  let main_cst_6 : FVec F S_ .f32 := constant S_ .f32 0x7F800000#32
  let main_v23 : FVec F S1x64 .f32 := broadcastInDim S1x64 ![] bcast_S_S1x64 main_cst_6
  let main_v24 : IVec S1x64 1 := cmpf .olt main_v22 main_v23
  let main_c_7 : IVec S_ 1 := constantI S_ 1 1#1
  let main_v25 : IVec S_ 1 := (fun x v => Host.reduce IntOp.andi x v reducesTo_S1x64_S_d0_1 h_S_) main_v24 main_c_7
  let main_v26 : IVec S_ 1 := andi main_v21 main_v25
  let main_v27 : FVec F S1x64 .f32 := Host.absf main_arg5
  let main_cst_8 : FVec F S_ .f32 := constant S_ .f32 0x7F800000#32
  let main_v28 : FVec F S1x64 .f32 := broadcastInDim S1x64 ![] bcast_S_S1x64 main_cst_8
  let main_v29 : IVec S1x64 1 := cmpf .olt main_v27 main_v28
  let main_c_9 : IVec S_ 1 := constantI S_ 1 1#1
  let main_v30 : IVec S_ 1 := (fun x v => Host.reduce IntOp.andi x v reducesTo_S1x64_S_d0_1 h_S_) main_v29 main_c_9
  let main_v31 : IVec S_ 1 := andi main_v26 main_v30
  let main_v32 : FVec F S1x64 .f32 := Host.absf main_arg6
  let main_cst_10 : FVec F S_ .f32 := constant S_ .f32 0x7F800000#32
  let main_v33 : FVec F S1x64 .f32 := broadcastInDim S1x64 ![] bcast_S_S1x64 main_cst_10
  let main_v34 : IVec S1x64 1 := cmpf .olt main_v32 main_v33
  fn_part2 (F := F) main_v31 main_v34

def fn {F : FTy → Type} [FloatOps F] (main_arg0 : FVec F S16384x512 .bf16) (main_arg1 : FVec F S16384x512 .bf16) (main_arg2 : FVec F S16384x512 .bf16) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S16384x512 .f32 := (extf .f32 · bitsLt_bf16_f32) main_arg2
  let main_v12 : FVec F S16384x512 .f32 := Host.absf main_v11
  let main_cst_2 : FVec F S_ .f32 := constant S_ .f32 0x7F800000#32
  let main_v13 : FVec F S16384x512 .f32 := broadcastInDim S16384x512 ![] bcast_S_S16384x512 main_cst_2
  let main_v14 : IVec S16384x512 1 := cmpf .olt main_v12 main_v13
  let main_c_3 : IVec S_ 1 := constantI S_ 1 1#1
  let main_v15 : IVec S_ 1 := (fun x v => Host.reduce IntOp.andi x v reducesTo_S16384x512_S_d0_1 h_S_) main_v14 main_c_3
  let main_v16 : IVec S_ 1 := andi main_v10 main_v15
  let main_v17 : FVec F S1x64 .f32 := Host.absf main_arg3
  fn_part1 (F := F) main_arg4 main_arg5 main_arg6 main_v16 main_v17
-- ==== Attn.lean ====
abbrev S16384x512 : Shape := ⟨2, ![16384, 512]⟩
abbrev S1x64 : Shape := ⟨2, ![1, 64]⟩
abbrev S1x128 : Shape := ⟨2, ![1, 128]⟩
abbrev S4x4096x512 : Shape := ⟨3, ![4, 4096, 512]⟩
abbrev S1x512x128 : Shape := ⟨3, ![1, 512, 128]⟩
abbrev S1x4096x128 : Shape := ⟨3, ![1, 4096, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S1 : Shape := ⟨1, ![1]⟩
abbrev S1x1 : Shape := ⟨2, ![1, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S4x4096x512, .bf16⟩
  | .hbm, ⟨9, _⟩ => ⟨S4x4096x512, .bf16⟩
  | .hbm, ⟨10, _⟩ => ⟨S4x4096x512, .bf16⟩
  | .hbm, ⟨11, _⟩ => ⟨S4x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x512x128, .bf16⟩
  | .local _ .vmem, ⟨12, _⟩ => ⟨S1x512x128, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_9 : BitVec 32 := 1#32
  ⟨c0_i32, v20, c1_i32_9⟩
def k0_mult1 (i : grid0.Coords) (k0_t1 : Fin (k0_t1_loop i).trips) : BitVec 32 :=
  let c0_i32 : BitVec 32 := 0#32
  let c1_i32_9 : BitVec 32 := 1#32
  let arg12 : BitVec 32 := Scf.iv c0_i32 c1_i32_9 k0_t1
  let c512_i32_46 : BitVec 32 := 512#32
  let v120 : BitVec 32 := Scalar.muli arg12 c512_i32_46
  v120
def k0_off1 (i : grid0.Coords) (k0_t1 : Fin (k0_t1_loop i).trips) : Fin 3 → Nat :=
  let c0_47 : Index := 0#32
  let c0_i32 : BitVec 32 := 0#32
  let c1_i32_9 : BitVec 32 := 1#32
  let arg12 : BitVec 32 := Scf.iv c0_i32 c1_i32_9 k0_t1
  let c512_i32_46 : BitVec 32 := 512#32
  let v120 : BitVec 32 := Scalar.muli arg12 c512_i32_46
  let v121 : BitVec 32 := v120
  let v122 : Index := Scalar.indexCast v121
  let c0_48 : Index := 0#32
  ![0, v122.toNat, 0]
def k0_mult2 (i : grid0.Coords) (k0_t1 : Fin (k0_t1_loop i).trips) : BitVec 32 :=
  let c0_i32 : BitVec 32 := 0#32
  let c1_i32_9 : BitVec 32 := 1#32
  let arg12 : BitVec 32 := Scf.iv c0_i32 c1_i32_9 k0_t1
  let c512_i32_49 : BitVec 32 := 512#32
  let v125 : BitVec 32 := Scalar.muli arg12 c512_i32_49
  v125
@[reducible] def k0_t2_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_10 : BitVec 32 := 1#32
  ⟨v20, v17, c1_i32_10⟩
def k0_mult3 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg12 : BitVec 32 := Scf.iv v20 c1_i32_10 k0_t2
  let c512_i32_46 : BitVec 32 := 512#32
  let v120 : BitVec 32 := Scalar.muli arg12 c512_i32_46
  v120
def k0_off2 (i : grid0.Coords) (k0_t2 : Fin (k0_t2_loop i).trips) : Fin 3 → Nat :=
  let c0_47 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg12 : BitVec 32 := Scf.iv v20 c1_i32_10 k0_t2
  let c512_i32_46 : BitVec 32 := 512#32
  let v120 : BitVec 32 := Scalar.muli arg12 c512_i32_46
  let v121 : BitVec 32 := v120
  let v122 : Index := Scalar.indexCast v121
  let c0_48 : Index := 0#32
  ![0, v122.toNat, 0]
def k0_mult4 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg12 : BitVec 32 := Scf.iv v20 c1_i32_10 k0_t2
  let c512_i32_49 : BitVec 32 := 512#32
  let v125 : BitVec 32 := Scalar.muli arg12 c512_i32_49
  v125
def k0_mult5 (i : grid0.Coords) : BitVec 32 :=
  let arg2 : BitVec 32 := BitVec.ofNat 32 (i 2).val
  let c512_i32 : BitVec 32 := 512#32
  let v23 : BitVec 32 := Scalar.muli arg2 c512_i32
  v23
def k0_off3 (i : grid0.Coords) : Fin 3 → Nat :=
  let c0_11 : Index := 0#32
  let arg2 : BitVec 32 := BitVec.ofNat 32 (i 2).val
  let c512_i32 : BitVec 32 := 512#32
  let v23 : BitVec 32 := Scalar.muli arg2 c512_i32
  let v24 : BitVec 32 := v23
  let v25 : Index := Scalar.indexCast v24
  let c0_12 : Index := 0#32
  ![0, v25.toNat, 0]
def k0_mult6 (i : grid0.Coords) : BitVec 32 :=
  let arg2 : BitVec 32 := BitVec.ofNat 32 (i 2).val
  let c512_i32_13 : BitVec 32 := 512#32
  let v28 : BitVec 32 := Scalar.muli arg2 c512_i32_13
  v28
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S16384x512 : Shape := ⟨2, ![16384, 512]⟩
abbrev S1x64 : Shape := ⟨2, ![1, 64]⟩
abbrev S1x128 : Shape := ⟨2, ![1, 128]⟩
abbrev S4x4096x4x2x64 : Shape := ⟨5, ![4, 4096, 4, 2, 64]⟩
abbrev S4x4096x4x128 : Shape := ⟨4, ![4, 4096, 4, 128]⟩
abbrev S_ : Shape := ⟨0, ![]⟩
abbrev S4096 : Shape := ⟨1, ![4096]⟩
abbrev S4x4x2x4096x4096 : Shape := ⟨5, ![4, 4, 2, 4096, 4096]⟩
abbrev S1x4096 : Shape := ⟨2, ![1, 4096]⟩
abbrev S4096x1 : Shape := ⟨2, ![4096, 1]⟩
abbrev S4096x4096 : Shape := ⟨2, ![4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S128 : Shape := ⟨1, ![128]⟩
abbrev S1x1x1x128 : Shape := ⟨4, ![1, 1, 1, 128]⟩
abbrev S4x4096x512 : Shape := ⟨3, ![4, 4096, 512]⟩

abbrev nBuf : Space → Nat
  | .hbm => 82
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S16384x512, .f32⟩
  | .hbm, ⟨9, _⟩ => ⟨S4x4096x4x2x64, .f32⟩
  | .hbm, ⟨10, _⟩ => ⟨S16384x512, .f32⟩
  | .hbm, ⟨11, _⟩ => ⟨S4x4096x4x2x64, .f32⟩
  | .hbm, ⟨12, _⟩ => ⟨S16384x512, .f32⟩
  | .hbm, ⟨13, _⟩ => ⟨S4x4096x4x128, .f32⟩
  | .hbm, ⟨14, _⟩ => ⟨S1x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .i32⟩
  | .hbm, ⟨26, _⟩ => ⟨S4x4x2x4096x4096, .f32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S4x4x2x4096x4096, .i1⟩
  | .hbm, ⟨35, _⟩ => ⟨S4x4x2x4096x4096, .f32⟩
  | .hbm, ⟨36, _⟩ => ⟨S4x4x2x4096x4096, .f32⟩
  | .hbm, ⟨37, _⟩ => ⟨S_, .f32⟩
  | .hbm, ⟨38, _⟩ => ⟨S4x4x2x4096, .f32⟩
  | .hbm, ⟨39, _⟩ => ⟨S_, .f32⟩
  | .hbm, ⟨40, _⟩ => ⟨S4x4x2x4096, .f32⟩
  | .hbm, ⟨41, _⟩ => ⟨S4x4x2x4096, .f32⟩
  | .hbm, ⟨42, _⟩ => ⟨S4x4x2x4096x1, .f32⟩
  | .hbm, ⟨43, _⟩ => ⟨S4x4x2x4096x4096, .f32⟩
  | .hbm, ⟨44, _⟩ => ⟨S4x4x2x4096x4096, .f32⟩
  | .hbm, ⟨45, _⟩ => ⟨S4x4x2x4096x4096, .f32⟩
  | .hbm, ⟨46, _⟩ => ⟨S_, .f32⟩
  | .hbm, ⟨47, _⟩ => ⟨S4x4x2x4096, .f32⟩
  | .hbm, ⟨48, _⟩ => ⟨S4x4x2x4096x1, .f32⟩
  | .hbm, ⟨49, _⟩ => ⟨S4x4x2x4096x4096, .f32⟩
  | .hbm, ⟨50, _⟩ => ⟨S4x4x2x4096x4096, .f32⟩
  | .hbm, ⟨51, _⟩ => ⟨S4x4x1x4096x4096, .f32⟩
  | .hbm, ⟨52, _⟩ => ⟨S4x4x4096x4096, .f32⟩
  | .hbm, ⟨53, _⟩ => ⟨S4x4x1x4096x4096, .f32⟩
  | .hbm, ⟨54, _⟩ => ⟨S4x4x4096x4096, .f32⟩
  | .hbm, ⟨55, _⟩ => ⟨S4x4x4096x4096, .f32⟩
  | .hbm, ⟨56, _⟩ => ⟨S4x4x4096x4096, .f32⟩
  | .hbm, ⟨57, _⟩ => ⟨S4x4x4096x4096, .f32⟩
  | .hbm, ⟨58, _⟩ => ⟨S4x4x128x4096, .f32⟩
  | .hbm, ⟨59, _⟩ => ⟨S4x4096x4x128, .f32⟩
  | .hbm, ⟨60, _⟩ => ⟨S4x4096x4x128, .f32⟩
  | .hbm, ⟨61, _⟩ => ⟨S_, .f32⟩
  | .hbm, ⟨62, _⟩ => ⟨S4x4096x4, .f32⟩
  | .hbm, ⟨63, _⟩ => ⟨S4x4096x4x1, .f32⟩
  | .hbm, ⟨64, _⟩ => ⟨S_, .f32⟩
  | .hbm, ⟨65, _⟩ => ⟨S4x4096x4x1, .f32⟩
  | .hbm, ⟨66, _⟩ => ⟨S4x4096x4x1, .f32⟩
  | .hbm, ⟨67, _⟩ => ⟨S_, .f32⟩
  | .hbm, ⟨68, _⟩ => ⟨S4x4096x4x1, .f32⟩
  | .hbm, ⟨69, _⟩ => ⟨S4x4096x4x1, .f32⟩
  | .hbm, ⟨70, _⟩ => ⟨S4x4096x4x1, .f32⟩
  | .hbm, ⟨71, _⟩ => ⟨S4x4096x4x128, .f32⟩
  | .hbm, ⟨72, _⟩ => ⟨S4x4096x4x128, .f32⟩
  | .hbm, ⟨73, _⟩ => ⟨S128, .f32⟩
  | .hbm, ⟨74, _⟩ => ⟨S1x1x1x128, .f32⟩
  | .hbm, ⟨75, _⟩ => ⟨S4x4096x4x128, .f32⟩
  | .hbm, ⟨76, _⟩ => ⟨S4x4096x4x128, .f32⟩
  | .hbm, ⟨77, _⟩ => ⟨S_, .f32⟩
  | .hbm, ⟨78, _⟩ => ⟨S4x4096x4x128, .f32⟩
  | .hbm, ⟨79, _⟩ => ⟨S4x4096x4x128, .f32⟩
  | .hbm, ⟨80, _⟩ => ⟨S4x4096x512, .f32⟩
  | .hbm, ⟨81, _⟩ => ⟨S4x4096x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Inproj.lean ====
abbrev S4x4096x1024 : Shape := ⟨3, ![4, 4096, 1024]⟩
abbrev S1024 : Shape := ⟨1, ![1024]⟩
abbrev S1024x3592 : Shape := ⟨2, ![1024, 3592]⟩
abbrev S64 : Shape := ⟨1, ![64]⟩
abbrev S1024x8 : Shape := ⟨2, ![1024, 8]⟩
abbrev S1024x2048 : Shape := ⟨2, ![1024, 2048]⟩
abbrev S1024x1536 : Shape := ⟨2, ![1024, 1536]⟩
abbrev S_ : Shape := ⟨0, ![]⟩
abbrev S1024x120 : Shape := ⟨2, ![1024, 120]⟩
abbrev S1024x3712 : Shape := ⟨2, ![1024, 3712]⟩
abbrev S8x1024 : Shape := ⟨2, ![8, 1024]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S512 : Shape := ⟨1, ![512]⟩
abbrev S512x1 : Shape := ⟨2, ![512, 1]⟩
abbrev S512x512 : Shape := ⟨2, ![512, 512]⟩
abbrev S1x1024 : Shape := ⟨2, ![1, 1024]⟩
abbrev S16384x1024 : Shape := ⟨2, ![16384, 1024]⟩
abbrev S16384x1536 : Shape := ⟨2, ![16384, 1536]⟩
abbrev S16384x512 : Shape := ⟨2, ![16384, 512]⟩
abbrev S16384x128 : Shape := ⟨2, ![16384, 128]⟩
abbrev S8x16384 : Shape := ⟨2, ![8, 16384]⟩
abbrev S256x1024 : Shape := ⟨2, ![256, 1024]⟩
abbrev S256x1536 : Shape := ⟨2, ![256, 1536]⟩
abbrev S256x512 : Shape := ⟨2, ![256, 512]⟩
abbrev S256x128 : Shape := ⟨2, ![256, 128]⟩
abbrev S8x256 : Shape := ⟨2, ![8, 256]⟩
abbrev S256 : Shape := ⟨1, ![256]⟩
abbrev S256x1 : Shape := ⟨2, ![256, 1]⟩
abbrev S256x3712 : Shape := ⟨2, ![256, 3712]⟩

abbrev nBuf : Space → Nat
  | .hbm => 63
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3592, .f32⟩
  | .hbm, ⟨3, _⟩ => ⟨S64, .f32⟩
  | .hbm, ⟨4, _⟩ => ⟨S64, .f32⟩
  | .hbm, ⟨5, _⟩ => ⟨S1024x8, .f32⟩
  | .hbm, ⟨6, _⟩ => ⟨S1024x2048, .f32⟩
  | .hbm, ⟨7, _⟩ => ⟨S1024x1536, .f32⟩
  | .hbm, ⟨8, _⟩ => ⟨S_, .f32⟩
  | .hbm, ⟨9, _⟩ => ⟨S1024x120, .f32⟩
  | .hbm, ⟨10, _⟩ => ⟨S1024x3712, .f32⟩
  | .hbm, ⟨11, _⟩ => ⟨S1024x3712, .bf16⟩
  | .hbm, ⟨12, _⟩ => ⟨S8x1024, .f32⟩
  | .hbm, ⟨13, _⟩ => ⟨S8x1024, .bf16⟩
  | .hbm, ⟨14, _⟩ => ⟨S1x64, .f32⟩
  | .hbm, ⟨15, _⟩ => ⟨S1x1x1x64, .f32⟩
  | .hbm, ⟨16, _⟩ => ⟨S1x1x8x64, .f32⟩
  | .hbm, ⟨17, _⟩ => ⟨S1x512, .f32⟩
  | .hbm, ⟨18, _⟩ => ⟨S1x64, .f32⟩
  | .hbm, ⟨19, _⟩ => ⟨S1x1x1x64, .f32⟩
  | .hbm, ⟨20, _⟩ => ⟨S1x1x8x64, .f32⟩
  | .hbm, ⟨21, _⟩ => ⟨S1x512, .f32⟩
  | .hbm, ⟨22, _⟩ => ⟨S512, .i32⟩
  | .hbm, ⟨23, _⟩ => ⟨S_, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i1⟩
  | .hbm, ⟨37, _⟩ => ⟨S_, .i32⟩
  | .hbm, ⟨38, _⟩ => ⟨S512, .i32⟩
  | .hbm, ⟨39, _⟩ => ⟨S512, .i32⟩
  | .hbm, ⟨40, _⟩ => ⟨S512, .i32⟩
  | .hbm, ⟨41, _⟩ => ⟨S512x1, .i32⟩
  | .hbm, ⟨42, _⟩ => ⟨S1x512, .i32⟩
  | .hbm, ⟨43, _⟩ => ⟨S512x512, .i32⟩
  | .hbm, ⟨44, _⟩ => ⟨S512x512, .i32⟩
  | .hbm, ⟨45, _⟩ => ⟨S512x512, .i1⟩
  | .hbm, ⟨46, _⟩ => ⟨S_, .f32⟩
  | .hbm, ⟨47, _⟩ => ⟨S_, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S512x512, .bf16⟩
  | .hbm, ⟨52, _⟩ => ⟨S1x1024, .f32⟩
  | .hbm, ⟨53, _⟩ => ⟨S16384x1024, .f32⟩
  | .hbm, ⟨54, _⟩ => ⟨S16384x1536, .f32⟩
  | .hbm, ⟨55, _⟩ => ⟨S16384x512, .f32⟩
  | .hbm, ⟨56, _⟩ => ⟨S16384x128, .f32⟩
  | .hbm, ⟨57, _⟩ => ⟨S8x16384, .f32⟩
  | .hbm, ⟨58, _⟩ => ⟨S16384x512, .f32⟩
  | .hbm, ⟨59, _⟩ => ⟨S16384x512, .f32⟩
  | .hbm, ⟨60, _⟩ => ⟨S16384x512, .bf16⟩
  | .hbm, ⟨61, _⟩ => ⟨S16384x512, .bf16⟩
  | .hbm, ⟨62, _⟩ => ⟨S16384x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3712, .bf16⟩
  | .local _ .vmem, ⟨4, _⟩ => ⟨S8x1024, .bf16⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S256x1536, .f32⟩
  | .local _ .vmem, ⟨9, _⟩ => ⟨S256x1536, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S8x256, .f32⟩
  | .local _ .vmem, ⟨15, _⟩ => ⟨S8x256, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_0 : Ref sig .tc := ⟨.hbm, 46, rfl⟩
abbrev main_cst_1 : Ref sig .tc := ⟨.hbm, 47, rfl⟩
abbrev main_call1_v0 : Ref sig .tc := ⟨.hbm, 48, rfl⟩
abbrev main_call1_v1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27_0 : Ref sig .tc := ⟨.hbm, 54, rfl⟩
abbrev main_v27_1 : Ref sig .tc := ⟨.hbm, 55, rfl⟩
abbrev main_v27_2 : Ref sig .tc := ⟨.hbm, 56, rfl⟩
abbrev main_v27_3 : Ref sig .tc := ⟨.hbm, 57, rfl⟩
abbrev main_v27_4 : Ref sig .tc := ⟨.hbm, 58, rfl⟩
abbrev main_v27_5 : Ref sig .tc := ⟨.hbm, 59, rfl⟩
abbrev main_v27_6 : Ref sig .tc := ⟨.hbm, 60, rfl⟩
abbrev main_v27_7 : Ref sig .tc := ⟨.hbm, 61, rfl⟩
abbrev main_v27_8 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InprojRefIdeal.lean ====
abbrev S4x4096x1024 : Shape := ⟨3, ![4, 4096, 1024]⟩
abbrev S1024 : Shape := ⟨1, ![1024]⟩
abbrev S1024x3592 : Shape := ⟨2, ![1024, 3592]⟩
abbrev S64 : Shape := ⟨1, ![64]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3592 : Shape := ⟨2, ![16384, 3592]⟩
abbrev S16384x1536 : Shape := ⟨2, ![16384, 1536]⟩
abbrev S16384x8 : Shape := ⟨2, ![16384, 8]⟩
abbrev S16384x512 : Shape := ⟨2, ![16384, 512]⟩
abbrev S16384x8x64 : Shape := ⟨3, ![16384, 8, 64]⟩
abbrev S16384x8x1 : Shape := ⟨3, ![16384, 8, 1]⟩
abbrev S1x1x64 : Shape := ⟨3, ![1, 1, 64]⟩
abbrev S16384x120 : Shape := ⟨2, ![16384, 120]⟩
abbrev S16384x128 : Shape := ⟨2, ![16384, 128]⟩
abbrev S8x16384 : Shape := ⟨2, ![8, 16384]⟩

abbrev nBuf : Space → Nat
  | .hbm => 76
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3592, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x3592, .f32⟩
  | .hbm, ⟨23, _⟩ => ⟨S16384x1536, .f32⟩
  | .hbm, ⟨24, _⟩ => ⟨S16384x8, .f32⟩
  | .hbm, ⟨25, _⟩ => ⟨S16384x512, .f32⟩
  | .hbm, ⟨26, _⟩ => ⟨S16384x8x64, .f32⟩
  | .hbm, ⟨27, _⟩ => ⟨S16384x8x64, .f32⟩
  | .hbm, ⟨28, _⟩ => ⟨S_, .f32⟩
  | .hbm, ⟨29, _⟩ => ⟨S16384x8, .f32⟩
  | .hbm, ⟨30, _⟩ => ⟨S16384x8x1, .f32⟩
  | .hbm, ⟨31, _⟩ => ⟨S_, .f32⟩
  | .hbm, ⟨32, _⟩ => ⟨S16384x8x1, .f32⟩
  | .hbm, ⟨33, _⟩ => ⟨S16384x8x1, .f32⟩
  | .hbm, ⟨34, _⟩ => ⟨S_, .f32⟩
  | .hbm, ⟨35, _⟩ => ⟨S16384x8x1, .f32⟩
  | .hbm, ⟨36, _⟩ => ⟨S16384x8x1, .f32⟩
  | .hbm, ⟨37, _⟩ => ⟨S16384x8x1, .f32⟩
  | .hbm, ⟨38, _⟩ => ⟨S16384x8x64, .f32⟩
  | .hbm, ⟨39, _⟩ => ⟨S16384x8x64, .f32⟩
  | .hbm, ⟨40, _⟩ => ⟨S1x1x64, .f32⟩
  | .hbm, ⟨41, _⟩ => ⟨S16384x8x64, .f32⟩
  | .hbm, ⟨42, _⟩ => ⟨S16384x8x64, .f32⟩
  | .hbm, ⟨43, _⟩ => ⟨S16384x512, .f32⟩
  | .hbm, ⟨44, _⟩ => ⟨S16384x512, .f32⟩
  | .hbm, ⟨45, _⟩ => ⟨S16384x8x64, .f32⟩
  | .hbm, ⟨46, _⟩ => ⟨S16384x8x64, .f32⟩
  | .hbm, ⟨47, _⟩ => ⟨S_, .f32⟩
  | .hbm, ⟨48, _⟩ => ⟨S16384x8, .f32⟩
  | .hbm, ⟨49, _⟩ => ⟨S16384x8x1, .f32⟩
  | .hbm, ⟨50, _⟩ => ⟨S_, .f32⟩
  | .hbm, ⟨51, _⟩ => ⟨S16384x8x1, .f32⟩
  | .hbm, ⟨52, _⟩ => ⟨S16384x8x1, .f32⟩
  | .hbm, ⟨53, _⟩ => ⟨S_, .f32⟩
  | .hbm, ⟨54, _⟩ => ⟨S16384x8x1, .f32⟩
  | .hbm, ⟨55, _⟩ => ⟨S16384x8x1, .f32⟩
  | .hbm, ⟨56, _⟩ => ⟨S16384x8x1, .f32⟩
  | .hbm, ⟨57, _⟩ => ⟨S16384x8x64, .f32⟩
  | .hbm, ⟨58, _⟩ => ⟨S16384x8x64, .f32⟩
  | .hbm, ⟨59, _⟩ => ⟨S1x1x64, .f32⟩
  | .hbm, ⟨60, _⟩ => ⟨S16384x8x64, .f32⟩
  | .hbm, ⟨61, _⟩ => ⟨S16384x8x64, .f32⟩
  | .hbm, ⟨62, _⟩ => ⟨S16384x512, .f32⟩
  | .hbm, ⟨63, _⟩ => ⟨S16384x512, .f32⟩
  | .hbm, ⟨64, _⟩ => ⟨S16384x1536, .f32⟩
  | .hbm, ⟨65, _⟩ => ⟨S16384x512, .f32⟩
  | .hbm, ⟨66, _⟩ => ⟨S_, .f32⟩
  | .hbm, ⟨67, _⟩ => ⟨S16384x120, .f32⟩
  | .hbm, ⟨68, _⟩ => ⟨S16384x128, .f32⟩
  | .hbm, ⟨69, _⟩ => ⟨S8x16384, .f32⟩
  | .hbm, ⟨70, _⟩ => ⟨S_, .f32⟩
  | .hbm, ⟨71, _⟩ => ⟨S16384x512, .f32⟩
  | .hbm, ⟨72, _⟩ => ⟨S16384x512, .f32⟩
  | .hbm, ⟨73, _⟩ => ⟨S16384x512, .bf16⟩
  | .hbm, ⟨74, _⟩ => ⟨S16384x512, .bf16⟩
  | .hbm, ⟨75, _⟩ => ⟨S16384x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Post.lean ====
abbrev S4x4096x1024 : Shape := ⟨3, ![4, 4096, 1024]⟩
abbrev S16384x512 : Shape := ⟨2, ![16384, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S16384x1024 : Shape := ⟨2, ![16384, 1024]⟩
abbrev S_ : Shape := ⟨0, ![]⟩
abbrev S4x8x5632 : Shape := ⟨3, ![4, 8, 5632]⟩
abbrev S256x1024 : Shape := ⟨2, ![256, 1024]⟩
abbrev S256x512 : Shape := ⟨2, ![256, 512]⟩
abbrev S1x8x5632 : Shape := ⟨3, ![1, 8, 5632]⟩
abbrev S264x5632 : Shape := ⟨2, ![264, 5632]⟩
abbrev S8x5632 : Shape := ⟨2, ![8, 5632]⟩
abbrev S512x1024 : Shape := ⟨2, ![512, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 19
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024x1024, .bf16⟩
  | .hbm, ⟨10, _⟩ => ⟨S1024x5632, .bf16⟩
  | .hbm, ⟨11, _⟩ => ⟨S2816x1024, .bf16⟩
  | .hbm, ⟨12, _⟩ => ⟨S1x1024, .f32⟩
  | .hbm, ⟨13, _⟩ => ⟨S1x5632, .f32⟩
  | .hbm, ⟨14, _⟩ => ⟨S16384x1024, .f32⟩
  | .hbm, ⟨15, _⟩ => ⟨S_, .f32⟩
  | .hbm, ⟨16, _⟩ => ⟨S4x8x5632, .f32⟩
  | .hbm, ⟨17, _⟩ => ⟨S16384x1024, .f32⟩
  | .hbm, ⟨18, _⟩ => ⟨S4x8x5632, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x8x5632, .f32⟩
  | .local _ .vmem, ⟨7, _⟩ => ⟨S1x8x5632, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S256x1024, .f32⟩
  | .local _ .vmem, ⟨15, _⟩ => ⟨S256x1024, .f32⟩
  | .local _ .vmem, ⟨16, _⟩ => ⟨S1x8x5632, .f32⟩
  | .local _ .vmem, ⟨17, _⟩ => ⟨S1x8x5632, .f32⟩
  | .local _ .vmem, ⟨18, _⟩ => ⟨S264x5632, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== PostRefIdeal.lean ====
abbrev S4x4096x1024 : Shape := ⟨3, ![4, 4096, 1024]⟩
abbrev S16384x512 : Shape := ⟨2, ![16384, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16384x1024 : Shape := ⟨2, ![16384, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x2x5632 : Shape := ⟨3, ![4, 2, 5632]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩
abbrev S4x8x5632 : Shape := ⟨3, ![4, 8, 5632]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S1x1x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x2x5632, .f32⟩
  | .hbm, ⟨33, _⟩ => ⟨S4x4096x5632, .f32⟩
  | .hbm, ⟨34, _⟩ => ⟨S4x4098x5632, .f32⟩
  | .hbm, ⟨35, _⟩ => ⟨S4x4096x5632, .f32⟩
  | .hbm, ⟨36, _⟩ => ⟨S1x5632, .f32⟩
  | .hbm, ⟨37, _⟩ => ⟨S5632, .f32⟩
  | .hbm, ⟨38, _⟩ => ⟨S1x1x5632, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S4x4096x5632, .f32⟩
  | .hbm, ⟨46, _⟩ => ⟨S4x4096x5632, .f32⟩
  | .hbm, ⟨47, _⟩ => ⟨S4x4096x5632, .f32⟩
  | .hbm, ⟨48, _⟩ => ⟨S4x4096x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S4x4096x5632, .f32⟩
  | .hbm, ⟨53, _⟩ => ⟨S4x4096x5632, .f32⟩
  | .hbm, ⟨54, _⟩ => ⟨S4x4096x5632, .f32⟩
  | .hbm, ⟨55, _⟩ => ⟨S1x1x5632, .f32⟩
  | .hbm, ⟨56, _⟩ => ⟨S4x4096x5632, .f32⟩
  | .hbm, ⟨57, _⟩ => ⟨S4x4096x5632, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S_, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x2816, .f32⟩
  | .hbm, ⟨70, _⟩ => ⟨S4x4096x1024, .f32⟩
  | .hbm, ⟨71, _⟩ => ⟨S4x4096x1024, .f32⟩
  | .hbm, ⟨72, _⟩ => ⟨S16384x1024, .f32⟩
  | .hbm, ⟨73, _⟩ => ⟨S4x8x5632, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== InprojS.lean ====
abbrev S128x4x1024 : Shape := ⟨3, ![128, 4, 1024]⟩
abbrev S1024 : Shape := ⟨1, ![1024]⟩
abbrev S1024x3592 : Shape := ⟨2, ![1024, 3592]⟩
abbrev S64 : Shape := ⟨1, ![64]⟩
abbrev S1024x8 : Shape := ⟨2, ![1024, 8]⟩
abbrev S1024x2048 : Shape := ⟨2, ![1024, 2048]⟩
abbrev S1024x1536 : Shape := ⟨2, ![1024, 1536]⟩
abbrev S_ : Shape := ⟨0, ![]⟩
abbrev S1024x120 : Shape := ⟨2, ![1024, 120]⟩
abbrev S1024x3712 : Shape := ⟨2, ![1024, 3712]⟩
abbrev S8x1024 : Shape := ⟨2, ![8, 1024]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S512 : Shape := ⟨1, ![512]⟩
abbrev S512x1 : Shape := ⟨2, ![512, 1]⟩
abbrev S512x512 : Shape := ⟨2, ![512, 512]⟩
abbrev S1x1024 : Shape := ⟨2, ![1, 1024]⟩
abbrev S4x128x1024 : Shape := ⟨3, ![4, 128, 1024]⟩
abbrev S512x1024 : Shape := ⟨2, ![512, 1024]⟩
abbrev S512x1536 : Shape := ⟨2, ![512, 1536]⟩
abbrev S512x128 : Shape := ⟨2, ![512, 128]⟩
abbrev S8x512 : Shape := ⟨2, ![8, 512]⟩
abbrev S256x1024 : Shape := ⟨2, ![256, 1024]⟩
abbrev S256x1536 : Shape := ⟨2, ![256, 1536]⟩
abbrev S256x512 : Shape := ⟨2, ![256, 512]⟩
abbrev S256x128 : Shape := ⟨2, ![256, 128]⟩
abbrev S8x256 : Shape := ⟨2, ![8, 256]⟩
abbrev S256 : Shape := ⟨1, ![256]⟩
abbrev S256x1 : Shape := ⟨2, ![256, 1]⟩
abbrev S256x3712 : Shape := ⟨2, ![256, 3712]⟩

abbrev nBuf : Space → Nat
  | .hbm => 64
  | .vmem => 26
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x3592, .f32⟩
  | .hbm, ⟨3, _⟩ => ⟨S64, .f32⟩
  | .hbm, ⟨4, _⟩ => ⟨S64, .f32⟩
  | .hbm, ⟨5, _⟩ => ⟨S1024x8, .f32⟩
  | .hbm, ⟨6, _⟩ => ⟨S1024x2048, .f32⟩
  | .hbm, ⟨7, _⟩ => ⟨S1024x1536, .f32⟩
  | .hbm, ⟨8, _⟩ => ⟨S_, .f32⟩
  | .hbm, ⟨9, _⟩ => ⟨S1024x120, .f32⟩
  | .hbm, ⟨10, _⟩ => ⟨S1024x3712, .f32⟩
  | .hbm, ⟨11, _⟩ => ⟨S1024x3712, .bf16⟩
  | .hbm, ⟨12, _⟩ => ⟨S8x1024, .f32⟩
  | .hbm, ⟨13, _⟩ => ⟨S8x1024, .bf16⟩
  | .hbm, ⟨14, _⟩ => ⟨S1x64, .f32⟩
  | .hbm, ⟨15, _⟩ => ⟨S1x1x1x64, .f32⟩
  | .hbm, ⟨16, _⟩ => ⟨S1x1x8x64, .f32⟩
  | .hbm, ⟨17, _⟩ => ⟨S1x512, .f32⟩
  | .hbm, ⟨18, _⟩ => ⟨S1x64, .f32⟩
  | .hbm, ⟨19, _⟩ => ⟨S1x1x1x64, .f32⟩
  | .hbm, ⟨20, _⟩ => ⟨S1x1x8x64, .f32⟩
  | .hbm, ⟨21, _⟩ => ⟨S1x512, .f32⟩
  | .hbm, ⟨22, _⟩ => ⟨S512, .i32⟩
  | .hbm, ⟨23, _⟩ => ⟨S_, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i1⟩
  | .hbm, ⟨37, _⟩ => ⟨S_, .i32⟩
  | .hbm, ⟨38, _⟩ => ⟨S512, .i32⟩
  | .hbm, ⟨39, _⟩ => ⟨S512, .i32⟩
  | .hbm, ⟨40, _⟩ => ⟨S512, .i32⟩
  | .hbm, ⟨41, _⟩ => ⟨S512x1, .i32⟩
  | .hbm, ⟨42, _⟩ => ⟨S1x512, .i32⟩
  | .hbm, ⟨43, _⟩ => ⟨S512x512, .i32⟩
  | .hbm, ⟨44, _⟩ => ⟨S512x512, .i32⟩
  | .hbm, ⟨45, _⟩ => ⟨S512x512, .i1⟩
  | .hbm, ⟨46, _⟩ => ⟨S_, .f32⟩
  | .hbm, ⟨47, _⟩ => ⟨S_, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S512x512, .bf16⟩
  | .hbm, ⟨52, _⟩ => ⟨S1x1024, .f32⟩
  | .hbm, ⟨53, _⟩ => ⟨S4x128x1024, .f32⟩
  | .hbm, ⟨54, _⟩ => ⟨S512x1024, .f32⟩
  | .hbm, ⟨55, _⟩ => ⟨S512x1536, .f32⟩
  | .hbm, ⟨56, _⟩ => ⟨S512x512, .f32⟩
  | .hbm, ⟨57, _⟩ => ⟨S512x128, .f32⟩
  | .hbm, ⟨58, _⟩ => ⟨S8x512, .f32⟩
  | .hbm, ⟨59, _⟩ => ⟨S512x512, .f32⟩
  | .hbm, ⟨60, _⟩ => ⟨S512x512, .f32⟩
  | .hbm, ⟨61, _⟩ => ⟨S512x512, .bf16⟩
  | .hbm, ⟨62, _⟩ => ⟨S512x512, .bf16⟩
  | .hbm, ⟨63, _⟩ => ⟨S512x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3712, .bf16⟩
  | .local _ .vmem, ⟨4, _⟩ => ⟨S8x1024, .bf16⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S256x1536, .f32⟩
  | .local _ .vmem, ⟨9, _⟩ => ⟨S256x1536, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S8x256, .f32⟩
  | .local _ .vmem, ⟨15, _⟩ => ⟨S8x256, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_0 : Ref sig .tc := ⟨.hbm, 46, rfl⟩
abbrev main_cst_1 : Ref sig .tc := ⟨.hbm, 47, rfl⟩
abbrev main_call1_v0 : Ref sig .tc := ⟨.hbm, 48, rfl⟩
abbrev main_call1_v1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28_0 : Ref sig .tc := ⟨.hbm, 55, rfl⟩
abbrev main_v28_1 : Ref sig .tc := ⟨.hbm, 56, rfl⟩
abbrev main_v28_2 : Ref sig .tc := ⟨.hbm, 57, rfl⟩
abbrev main_v28_3 : Ref sig .tc := ⟨.hbm, 58, rfl⟩
abbrev main_v28_4 : Ref sig .tc := ⟨.hbm, 59, rfl⟩
abbrev main_v28_5 : Ref sig .tc := ⟨.hbm, 60, rfl⟩
abbrev main_v28_6 : Ref sig .tc := ⟨.hbm, 61, rfl⟩
abbrev main_v28_7 : Ref sig .tc := ⟨.hbm, 62, rfl⟩
abbrev main_v28_8 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InprojSRefIdeal.lean ====
abbrev S128x4x1024 : Shape := ⟨3, ![128, 4, 1024]⟩
abbrev S1024 : Shape := ⟨1, ![1024]⟩
abbrev S1024x3592 : Shape := ⟨2, ![1024, 3592]⟩
abbrev S64 : Shape := ⟨1, ![64]⟩
abbrev S4x128x1024 : Shape := ⟨3, ![4, 128, 1024]⟩
abbrev S512x1024 : Shape := ⟨2, ![512, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x3592 : Shape := ⟨2, ![512, 3592]⟩
abbrev S512x1536 : Shape := ⟨2, ![512, 1536]⟩
abbrev S512x8 : Shape := ⟨2, ![512, 8]⟩
abbrev S512x512 : Shape := ⟨2, ![512, 512]⟩
abbrev S512x8x64 : Shape := ⟨3, ![512, 8, 64]⟩
abbrev S512x8x1 : Shape := ⟨3, ![512, 8, 1]⟩
abbrev S1x1x64 : Shape := ⟨3, ![1, 1, 64]⟩
abbrev S512x120 : Shape := ⟨2, ![512, 120]⟩
abbrev S512x128 : Shape := ⟨2, ![512, 128]⟩
abbrev S8x512 : Shape := ⟨2, ![8, 512]⟩

abbrev nBuf : Space → Nat
  | .hbm => 77
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x3592, .f32⟩
  | .hbm, ⟨3, _⟩ => ⟨S64, .f32⟩
  | .hbm, ⟨4, _⟩ => ⟨S64, .f32⟩
  | .hbm, ⟨5, _⟩ => ⟨S4x128x1024, .f32⟩
  | .hbm, ⟨6, _⟩ => ⟨S512x1024, .f32⟩
  | .hbm, ⟨7, _⟩ => ⟨S512x1024, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x1024, .f32⟩
  | .hbm, ⟨19, _⟩ => ⟨S512x1024, .f32⟩
  | .hbm, ⟨20, _⟩ => ⟨S1x1024, .f32⟩
  | .hbm, ⟨21, _⟩ => ⟨S512x1024, .f32⟩
  | .hbm, ⟨22, _⟩ => ⟨S512x1024, .f32⟩
  | .hbm, ⟨23, _⟩ => ⟨S512x3592, .f32⟩
  | .hbm, ⟨24, _⟩ => ⟨S512x1536, .f32⟩
  | .hbm, ⟨25, _⟩ => ⟨S512x8, .f32⟩
  | .hbm, ⟨26, _⟩ => ⟨S512x512, .f32⟩
  | .hbm, ⟨27, _⟩ => ⟨S512x8x64, .f32⟩
  | .hbm, ⟨28, _⟩ => ⟨S512x8x64, .f32⟩
  | .hbm, ⟨29, _⟩ => ⟨S_, .f32⟩
  | .hbm, ⟨30, _⟩ => ⟨S512x8, .f32⟩
  | .hbm, ⟨31, _⟩ => ⟨S512x8x1, .f32⟩
  | .hbm, ⟨32, _⟩ => ⟨S_, .f32⟩
  | .hbm, ⟨33, _⟩ => ⟨S512x8x1, .f32⟩
  | .hbm, ⟨34, _⟩ => ⟨S512x8x1, .f32⟩
  | .hbm, ⟨35, _⟩ => ⟨S_, .f32⟩
  | .hbm, ⟨36, _⟩ => ⟨S512x8x1, .f32⟩
  | .hbm, ⟨37, _⟩ => ⟨S512x8x1, .f32⟩
  | .hbm, ⟨38, _⟩ => ⟨S512x8x1, .f32⟩
  | .hbm, ⟨39, _⟩ => ⟨S512x8x64, .f32⟩
  | .hbm, ⟨40, _⟩ => ⟨S512x8x64, .f32⟩
  | .hbm, ⟨41, _⟩ => ⟨S1x1x64, .f32⟩
  | .hbm, ⟨42, _⟩ => ⟨S512x8x64, .f32⟩
  | .hbm, ⟨43, _⟩ => ⟨S512x8x64, .f32⟩
  | .hbm, ⟨44, _⟩ => ⟨S512x512, .f32⟩
  | .hbm, ⟨45, _⟩ => ⟨S512x512, .f32⟩
  | .hbm, ⟨46, _⟩ => ⟨S512x8x64, .f32⟩
  | .hbm, ⟨47, _⟩ => ⟨S512x8x64, .f32⟩
  | .hbm, ⟨48, _⟩ => ⟨S_, .f32⟩
  | .hbm, ⟨49, _⟩ => ⟨S512x8, .f32⟩
  | .hbm, ⟨50, _⟩ => ⟨S512x8x1, .f32⟩
  | .hbm, ⟨51, _⟩ => ⟨S_, .f32⟩
  | .hbm, ⟨52, _⟩ => ⟨S512x8x1, .f32⟩
  | .hbm, ⟨53, _⟩ => ⟨S512x8x1, .f32⟩
  | .hbm, ⟨54, _⟩ => ⟨S_, .f32⟩
  | .hbm, ⟨55, _⟩ => ⟨S512x8x1, .f32⟩
  | .hbm, ⟨56, _⟩ => ⟨S512x8x1, .f32⟩
  | .hbm, ⟨57, _⟩ => ⟨S512x8x1, .f32⟩
  | .hbm, ⟨58, _⟩ => ⟨S512x8x64, .f32⟩
  | .hbm, ⟨59, _⟩ => ⟨S512x8x64, .f32⟩
  | .hbm, ⟨60, _⟩ => ⟨S1x1x64, .f32⟩
  | .hbm, ⟨61, _⟩ => ⟨S512x8x64, .f32⟩
  | .hbm, ⟨62, _⟩ => ⟨S512x8x64, .f32⟩
  | .hbm, ⟨63, _⟩ => ⟨S512x512, .f32⟩
  | .hbm, ⟨64, _⟩ => ⟨S512x512, .f32⟩
  | .hbm, ⟨65, _⟩ => ⟨S512x1536, .f32⟩
  | .hbm, ⟨66, _⟩ => ⟨S512x512, .f32⟩
  | .hbm, ⟨67, _⟩ => ⟨S_, .f32⟩
  | .hbm, ⟨68, _⟩ => ⟨S512x120, .f32⟩
  | .hbm, ⟨69, _⟩ => ⟨S512x128, .f32⟩
  | .hbm, ⟨70, _⟩ => ⟨S8x512, .f32⟩
  | .hbm, ⟨71, _⟩ => ⟨S_, .f32⟩
  | .hbm, ⟨72, _⟩ => ⟨S512x512, .f32⟩
  | .hbm, ⟨73, _⟩ => ⟨S512x512, .f32⟩
  | .hbm, ⟨74, _⟩ => ⟨S512x512, .bf16⟩
  | .hbm, ⟨75, _⟩ => ⟨S512x512, .bf16⟩
  | .hbm, ⟨76, _⟩ => ⟨S512x512, .bf16⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== PostS.lean ====
abbrev S128x4x1024 : Shape := ⟨3, ![128, 4, 1024]⟩
abbrev S512x512 : Shape := ⟨2, ![512, 512]⟩
abbrev S128x2x5632 : Shape := ⟨3, ![128, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S4x128x1024 : Shape := ⟨3, ![4, 128, 1024]⟩
abbrev S512x1024 : Shape := ⟨2, ![512, 1024]⟩
abbrev S2x128x5632 : Shape := ⟨3, ![2, 128, 5632]⟩
abbrev S1x256x5632 : Shape := ⟨3, ![1, 256, 5632]⟩
abbrev S128x1024 : Shape := ⟨2, ![128, 1024]⟩
abbrev S128x512 : Shape := ⟨2, ![128, 512]⟩
abbrev S384x5632 : Shape := ⟨2, ![384, 5632]⟩
abbrev S256x5632 : Shape := ⟨2, ![256, 5632]⟩
abbrev S128 : Shape := ⟨1, ![128]⟩
abbrev S128x1 : Shape := ⟨2, ![128, 1]⟩
abbrev S128x5632 : Shape := ⟨2, ![128, 5632]⟩
abbrev S128x2816 : Shape := ⟨2, ![128, 2816]⟩

abbrev nBuf : Space → Nat
  | .hbm => 21
  | .vmem => 17
  | .smem => 0
  | _ => 0

abbrev bufTy : (tb : Table) → Fin (tcTables nBuf tb) → BufTy
  | .hbm, ⟨0, _⟩ => ⟨S128x4x1024, .f32⟩
  | .hbm, ⟨1, _⟩ => ⟨S512x512, .bf16⟩
  | .hbm, ⟨2, _⟩ => ⟨S512x512, .bf16⟩
  | .hbm, ⟨3, _⟩ => ⟨S128x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024x1024, .bf16⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S1x5632, .f32⟩
  | .hbm, ⟨15, _⟩ => ⟨S4x128x1024, .f32⟩
  | .hbm, ⟨16, _⟩ => ⟨S512x1024, .f32⟩
  | .hbm, ⟨17, _⟩ => ⟨S2x128x5632, .f32⟩
  | .hbm, ⟨18, _⟩ => ⟨S1x256x5632, .f32⟩
  | .hbm, ⟨19, _⟩ => ⟨S512x1024, .f32⟩
  | .hbm, ⟨20, _⟩ => ⟨S1x256x5632, .f32⟩
  | .local _ .vmem, ⟨0, _⟩ => ⟨S128x1024, .f32⟩
  | .local _ .vmem, ⟨1, _⟩ => ⟨S128x1024, .f32⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S1x256x5632, .f32⟩
  | .local _ .vmem, ⟨7, _⟩ => ⟨S1024x1024, .bf16⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S2816x1024, .bf16⟩
  | .local _ .vmem, ⟨13, _⟩ => ⟨S128x1024, .f32⟩
  | .local _ .vmem, ⟨14, _⟩ => ⟨S128x1024, .f32⟩
  | .local _ .vmem, ⟨15, _⟩ => ⟨S1x256x5632, .f32⟩
  | .local _ .vmem, ⟨16, _⟩ => ⟨S384x5632, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x256x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== PostSRefIdeal.lean ====
abbrev S128x4x1024 : Shape := ⟨3, ![128, 4, 1024]⟩
abbrev S512x512 : Shape := ⟨2, ![512, 512]⟩
abbrev S128x2x5632 : Shape := ⟨3, ![128, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S512x1024 : Shape := ⟨2, ![512, 1024]⟩
abbrev S4x128x1024 : Shape := ⟨3, ![4, 128, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x5632 : Shape := ⟨3, ![128, 4, 5632]⟩
abbrev S128x6x5632 : Shape := ⟨3, ![128, 6, 5632]⟩
abbrev S1x5632 : Shape := ⟨2, ![1, 5632]⟩
abbrev S1x1x5632 : Shape := ⟨3, ![1, 1, 5632]⟩
abbrev S128x4x2816 : Shape := ⟨3, ![128, 4, 2816]⟩
abbrev S2x128x5632 : Shape := ⟨3, ![2, 128, 5632]⟩
abbrev S1x256x5632 : Shape := ⟨3, ![1, 256, 5632]⟩

abbrev nBuf : Space → Nat
  | .hbm => 77
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S512x512, .bf16⟩
  | .hbm, ⟨2, _⟩ => ⟨S512x512, .bf16⟩
  | .hbm, ⟨3, _⟩ => ⟨S128x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S512x512, .f32⟩
  | .hbm, ⟨11, _⟩ => ⟨S512x512, .f32⟩
  | .hbm, ⟨12, _⟩ => ⟨S512x1024, .f32⟩
  | .hbm, ⟨13, _⟩ => ⟨S4x128x1024, .f32⟩
  | .hbm, ⟨14, _⟩ => ⟨S128x4x1024, .f32⟩
  | .hbm, ⟨15, _⟩ => ⟨S128x4x1024, .f32⟩
  | .hbm, ⟨16, _⟩ => ⟨S128x4x1024, .f32⟩
  | .hbm, ⟨17, _⟩ => ⟨S128x4x1024, .f32⟩
  | .hbm, ⟨18, _⟩ => ⟨S_, .f32⟩
  | .hbm, ⟨19, _⟩ => ⟨S128x4, .f32⟩
  | .hbm, ⟨20, _⟩ => ⟨S128x4x1, .f32⟩
  | .hbm, ⟨21, _⟩ => ⟨S_, .f32⟩
  | .hbm, ⟨22, _⟩ => ⟨S128x4x1, .f32⟩
  | .hbm, ⟨23, _⟩ => ⟨S128x4x1, .f32⟩
  | .hbm, ⟨24, _⟩ => ⟨S_, .f32⟩
  | .hbm, ⟨25, _⟩ => ⟨S128x4x1, .f32⟩
  | .hbm, ⟨26, _⟩ => ⟨S128x4x1, .f32⟩
  | .hbm, ⟨27, _⟩ => ⟨S128x4x1, .f32⟩
  | .hbm, ⟨28, _⟩ => ⟨S128x4x1024, .f32⟩
  | .hbm, ⟨29, _⟩ => ⟨S128x4x1024, .f32⟩
  | .hbm, ⟨30, _⟩ => ⟨S1x1x1024, .f32⟩
  | .hbm, ⟨31, _⟩ => ⟨S128x4x1024, .f32⟩
  | .hbm, ⟨32, _⟩ => ⟨S128x4x1024, .f32⟩
  | .hbm, ⟨33, _⟩ => ⟨S128x4x5632, .f32⟩
  | .hbm, ⟨34, _⟩ => ⟨S128x6x5632, .f32⟩
  | .hbm, ⟨35, _⟩ => ⟨S128x4x5632, .f32⟩
  | .hbm, ⟨36, _⟩ => ⟨S1x5632, .f32⟩
  | .hbm, ⟨37, _⟩ => ⟨S5632, .f32⟩
  | .hbm, ⟨38, _⟩ => ⟨S1x1x5632, .f32⟩
  | .hbm, ⟨39, _⟩ => ⟨S128x4x5632, .f32⟩
  | .hbm, ⟨40, _⟩ => ⟨S128x4x5632, .f32⟩
  | .hbm, ⟨41, _⟩ => ⟨S128x4x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S128x4x5632, .f32⟩
  | .hbm, ⟨46, _⟩ => ⟨S128x4x5632, .f32⟩
  | .hbm, ⟨47, _⟩ => ⟨S128x4x5632, .f32⟩
  | .hbm, ⟨48, _⟩ => ⟨S128x4x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S128x4x5632, .f32⟩
  | .hbm, ⟨53, _⟩ => ⟨S128x4x5632, .f32⟩
  | .hbm, ⟨54, _⟩ => ⟨S128x4x5632, .f32⟩
  | .hbm, ⟨55, _⟩ => ⟨S1x1x5632, .f32⟩
  | .hbm, ⟨56, _⟩ => ⟨S128x4x5632, .f32⟩
  | .hbm, ⟨57, _⟩ => ⟨S128x4x5632, .f32⟩
  | .hbm, ⟨58, _⟩ => ⟨S128x4x2816, .f32⟩
  | .hbm, ⟨59, _⟩ => ⟨S128x4x2816, .f32⟩
  | .hbm, ⟨60, _⟩ => ⟨S128x4x2816, .f32⟩
  | .hbm, ⟨61, _⟩ => ⟨S_, .f32⟩
  | .hbm, ⟨62, _⟩ => ⟨S128x4x2816, .f32⟩
  | .hbm, ⟨63, _⟩ => ⟨S128x4x2816, .f32⟩
  | .hbm, ⟨64, _⟩ => ⟨S_, .f32⟩
  | .hbm, ⟨65, _⟩ => ⟨S128x4x2816, .f32⟩
  | .hbm, ⟨66, _⟩ => ⟨S128x4x2816, .f32⟩
  | .hbm, ⟨67, _⟩ => ⟨S128x4x2816, .f32⟩
  | .hbm, ⟨68, _⟩ => ⟨S128x4x2816, .f32⟩
  | .hbm, ⟨69, _⟩ => ⟨S128x4x2816, .f32⟩
  | .hbm, ⟨70, _⟩ => ⟨S128x4x1024, .f32⟩
  | .hbm, ⟨71, _⟩ => ⟨S128x4x1024, .f32⟩
  | .hbm, ⟨72, _⟩ => ⟨S4x128x1024, .f32⟩
  | .hbm, ⟨73, _⟩ => ⟨S512x1024, .f32⟩
  | .hbm, ⟨74, _⟩ => ⟨S128x2x5632, .f32⟩
  | .hbm, ⟨75, _⟩ => ⟨S2x128x5632, .f32⟩
  | .hbm, ⟨76, _⟩ => ⟨S1x256x5632, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== GdnS.lean ====
abbrev S128x4x24x128 : Shape := ⟨4, ![128, 4, 24, 128]⟩
abbrev S128x4x128x128 : Shape := ⟨4, ![128, 4, 128, 128]⟩
abbrev S128x4x8x128 : Shape := ⟨4, ![128, 4, 8, 128]⟩
abbrev S8x4x24x128 : Shape := ⟨4, ![8, 4, 24, 128]⟩
abbrev S8x4x128x128 : Shape := ⟨4, ![8, 4, 128, 128]⟩
abbrev S8x4x8x128 : Shape := ⟨4, ![8, 4, 8, 128]⟩
abbrev S8x128 : Shape := ⟨2, ![8, 128]⟩
abbrev S1x1x24x128 : Shape := ⟨4, ![1, 1, 24, 128]⟩
abbrev S24x128 : Shape := ⟨2, ![24, 128]⟩
abbrev S1x1x128x128 : Shape := ⟨4, ![1, 1, 128, 128]⟩
abbrev S128x128 : Shape := ⟨2, ![128, 128]⟩
abbrev S1x1x8x128 : Shape := ⟨4, ![1, 1, 8, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S128x4x24x128, .f32⟩
  | .hbm, ⟨1, _⟩ => ⟨S128x4x128x128, .f32⟩
  | .hbm, ⟨2, _⟩ => ⟨S128x4x8x128, .f32⟩
  | .hbm, ⟨3, _⟩ => ⟨S128x4x128x128, .f32⟩
  | .local _ .vmem, ⟨0, _⟩ => ⟨S8x4x24x128, .f32⟩
  | .local _ .vmem, ⟨1, _⟩ => ⟨S8x4x24x128, .f32⟩
  | .local _ .vmem, ⟨2, _⟩ => ⟨S8x4x128x128, .f32⟩
  | .local _ .vmem, ⟨3, _⟩ => ⟨S8x4x128x128, .f32⟩
  | .local _ .vmem, ⟨4, _⟩ => ⟨S8x4x8x128, .f32⟩
  | .local _ .vmem, ⟨5, _⟩ => ⟨S8x4x8x128, .f32⟩
  | .local _ .vmem, ⟨6, _⟩ => ⟨S8x4x128x128, .f32⟩
  | .local _ .vmem, ⟨7, _⟩ => ⟨S8x4x128x128, .f32⟩
  | _, _ => ⟨S128x4x24x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x4x24x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnSRefIdeal.lean ====
abbrev S128x4x24x128 : Shape := ⟨4, ![128, 4, 24, 128]⟩
abbrev S128x4x128x128 : Shape := ⟨4, ![128, 4, 128, 128]⟩
abbrev S128x4x4x128 : Shape := ⟨4, ![128, 4, 4, 128]⟩
abbrev S128x4x1x128 : Shape := ⟨4, ![128, 4, 1, 128]⟩
abbrev S128x4x8x128 : Shape := ⟨4, ![128, 4, 8, 128]⟩

abbrev nBuf : Space → Nat
  | .hbm => 15
  | .vmem => 0
  | .smem => 0
  | _ => 0

abbrev bufTy : (tb : Table) → Fin (tcTables nBuf tb) → BufTy
  | .hbm, ⟨0, _⟩ => ⟨S128x4x24x128, .f32⟩
  | .hbm, ⟨1, _⟩ => ⟨S128x4x128x128, .f32⟩
  | .hbm, ⟨2, _⟩ => ⟨S128x4x4x128, .f32⟩
  | .hbm, ⟨3, _⟩ => ⟨S128x4x4x128, .f32⟩
  | .hbm, ⟨4, _⟩ => ⟨S128x4x4x128, .f32⟩
  | .hbm, ⟨5, _⟩ => ⟨S128x4x4x128, .f32⟩
  | .hbm, ⟨6, _⟩ => ⟨S128x4x1x128, .f32⟩
  | .hbm, ⟨7, _⟩ => ⟨S128x4x4x128, .f32⟩
  | .hbm, ⟨8, _⟩ => ⟨S128x4x4x128, .f32⟩
  | .hbm, ⟨9, _⟩ => ⟨S128x4x8x128, .f32⟩
  | .hbm, ⟨10, _⟩ => ⟨S128x4x8x128, .f32⟩
  | .hbm, ⟨11, _⟩ => ⟨S128x4x128x128, .f32⟩
  | .hbm, ⟨12, _⟩ => ⟨S128x4x128x128, .f32⟩
  | .hbm, ⟨13, _⟩ => ⟨S128x4x128x128, .f32⟩
  | .hbm, ⟨14, _⟩ => ⟨S128x4x128x128, .f32⟩
  | _, _ => ⟨S128x4x24x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== GdnO.lean ====
abbrev S8x128x512 : Shape := ⟨3, ![8, 128, 512]⟩
abbrev S24x128x512 : Shape := ⟨3, ![24, 128, 512]⟩
abbrev S16x128x512 : Shape := ⟨3, ![16, 128, 512]⟩
abbrev S4x128x512 : Shape := ⟨3, ![4, 128, 512]⟩
abbrev S128 : Shape := ⟨1, ![128]⟩
abbrev S1x128 : Shape := ⟨2, ![1, 128]⟩
abbrev S1x128x128 : Shape := ⟨3, ![1, 128, 128]⟩
abbrev S128x128 : Shape := ⟨2, ![128, 128]⟩
abbrev S128x1 : Shape := ⟨2, ![128, 1]⟩

abbrev nBuf : Space → Nat
  | .hbm => 7
  | .vmem => 6
  | .smem => 0
  | _ => 0

abbrev bufTy : (tb : Table) → Fin (tcTables nBuf tb) → BufTy
  | .hbm, ⟨0, _⟩ => ⟨S8x128x512, .f32⟩
  | .hbm, ⟨1, _⟩ => ⟨S24x128x512, .f32⟩
  | .hbm, ⟨2, _⟩ => ⟨S16x128x512, .f32⟩
  | .hbm, ⟨3, _⟩ => ⟨S4x128x512, .f32⟩
  | .hbm, ⟨4, _⟩ => ⟨S128, .f32⟩
  | .hbm, ⟨5, _⟩ => ⟨S1x128, .f32⟩
  | .hbm, ⟨6, _⟩ => ⟨S4x128x512, .bf16⟩
  | .local _ .vmem, ⟨0, _⟩ => ⟨S8x128x512, .f32⟩
  | .local _ .vmem, ⟨1, _⟩ => ⟨S24x128x512, .f32⟩
  | .local _ .vmem, ⟨2, _⟩ => ⟨S16x128x512, .f32⟩
  | .local _ .vmem, ⟨3, _⟩ => ⟨S4x128x512, .f32⟩
  | .local _ .vmem, ⟨4, _⟩ => ⟨S1x128, .f32⟩
  | .local _ .vmem, ⟨5, _⟩ => ⟨S4x128x512, .bf16⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S24x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GdnORefIdeal.lean ====
abbrev S8x128x512 : Shape := ⟨3, ![8, 128, 512]⟩
abbrev S24x128x512 : Shape := ⟨3, ![24, 128, 512]⟩
abbrev S16x128x512 : Shape := ⟨3, ![16, 128, 512]⟩
abbrev S4x128x512 : Shape := ⟨3, ![4, 128, 512]⟩
abbrev S128 : Shape := ⟨1, ![128]⟩
abbrev S4x128x4x128 : Shape := ⟨4, ![4, 128, 4, 128]⟩
abbrev S4x4x128x4x128 : Shape := ⟨5, ![4, 4, 128, 4, 128]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S4x4x1x1x1 : Shape := ⟨5, ![4, 4, 1, 1, 1]⟩
abbrev S_ : Shape := ⟨0, ![]⟩
abbrev S128x4x128x4 : Shape := ⟨4, ![128, 4, 128, 4]⟩
abbrev S4x128x4 : Shape := ⟨3, ![4, 128, 4]⟩
abbrev S4x128x4x1 : Shape := ⟨4, ![4, 128, 4, 1]⟩
abbrev S1x1x1x128 : Shape := ⟨4, ![1, 1, 1, 128]⟩

abbrev nBuf : Space → Nat
  | .hbm => 56
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S24x128x512, .f32⟩
  | .hbm, ⟨2, _⟩ => ⟨S16x128x512, .f32⟩
  | .hbm, ⟨3, _⟩ => ⟨S4x128x512, .f32⟩
  | .hbm, ⟨4, _⟩ => ⟨S128, .f32⟩
  | .hbm, ⟨5, _⟩ => ⟨S4x128x512, .f32⟩
  | .hbm, ⟨6, _⟩ => ⟨S4x128x512, .f32⟩
  | .hbm, ⟨7, _⟩ => ⟨S4x128x512, .f32⟩
  | .hbm, ⟨8, _⟩ => ⟨S4x128x4x128, .f32⟩
  | .hbm, ⟨9, _⟩ => ⟨S4x4x128x4x128, .f32⟩
  | .hbm, ⟨10, _⟩ => ⟨S4, .i32⟩
  | .hbm, ⟨11, _⟩ => ⟨S1x4, .i32⟩
  | .hbm, ⟨12, _⟩ => ⟨S4x1, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4x1x1x1, .i1⟩
  | .hbm, ⟨17, _⟩ => ⟨S_, .f32⟩
  | .hbm, ⟨18, _⟩ => ⟨S_, .f32⟩
  | .hbm, ⟨19, _⟩ => ⟨S4x4x128x4x128, .i1⟩
  | .hbm, ⟨20, _⟩ => ⟨S4x4x128x4x128, .f32⟩
  | .hbm, ⟨21, _⟩ => ⟨S4x4x128x4x128, .f32⟩
  | .hbm, ⟨22, _⟩ => ⟨S4x128x512, .f32⟩
  | .hbm, ⟨23, _⟩ => ⟨S4x128x4x128, .f32⟩
  | .hbm, ⟨24, _⟩ => ⟨S128x4x128x4, .f32⟩
  | .hbm, ⟨25, _⟩ => ⟨S4x128x4x128, .f32⟩
  | .hbm, ⟨26, _⟩ => ⟨S4x128x4x128, .f32⟩
  | .hbm, ⟨27, _⟩ => ⟨S4x128x4x128, .f32⟩
  | .hbm, ⟨28, _⟩ => ⟨S_, .f32⟩
  | .hbm, ⟨29, _⟩ => ⟨S4x128x4, .f32⟩
  | .hbm, ⟨30, _⟩ => ⟨S4x128x4x1, .f32⟩
  | .hbm, ⟨31, _⟩ => ⟨S_, .f32⟩
  | .hbm, ⟨32, _⟩ => ⟨S4x128x4x1, .f32⟩
  | .hbm, ⟨33, _⟩ => ⟨S4x128x4x1, .f32⟩
  | .hbm, ⟨34, _⟩ => ⟨S_, .f32⟩
  | .hbm, ⟨35, _⟩ => ⟨S4x128x4x1, .f32⟩
  | .hbm, ⟨36, _⟩ => ⟨S4x128x4x1, .f32⟩
  | .hbm, ⟨37, _⟩ => ⟨S4x128x4x1, .f32⟩
  | .hbm, ⟨38, _⟩ => ⟨S4x128x4x128, .f32⟩
  | .hbm, ⟨39, _⟩ => ⟨S4x128x4x128, .f32⟩
  | .hbm, ⟨40, _⟩ => ⟨S1x1x1x128, .f32⟩
  | .hbm, ⟨41, _⟩ => ⟨S4x128x4x128, .f32⟩
  | .hbm, ⟨42, _⟩ => ⟨S4x128x4x128, .f32⟩
  | .hbm, ⟨43, _⟩ => ⟨S4x128x4x128, .f32⟩
  | .hbm, ⟨44, _⟩ => ⟨S4x128x4x128, .f32⟩
  | .hbm, ⟨45, _⟩ => ⟨S4x128x4x128, .f32⟩
  | .hbm, ⟨46, _⟩ => ⟨S_, .f32⟩
  | .hbm, ⟨47, _⟩ => ⟨S4x128x4x128, .f32⟩
  | .hbm, ⟨48, _⟩ => ⟨S4x128x4x128, .f32⟩
  | .hbm, ⟨49, _⟩ => ⟨S_, .f32⟩
  | .hbm, ⟨50, _⟩ => ⟨S4x128x4x128, .f32⟩
  | .hbm, ⟨51, _⟩ => ⟨S4x128x4x128, .f32⟩
  | .hbm, ⟨52, _⟩ => ⟨S4x128x4x128, .f32⟩
  | .hbm, ⟨53, _⟩ => ⟨S4x128x4x128, .f32⟩
  | .hbm, ⟨54, _⟩ => ⟨S4x128x512, .f32⟩
  | .hbm, ⟨55, _⟩ => ⟨S4x128x512, .bf16⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== GdnP.lean ====
abbrev S4x128x1536 : Shape := ⟨3, ![4, 128, 1536]⟩
abbrev S3x128x1536 : Shape := ⟨3, ![3, 128, 1536]⟩
abbrev S4x128x128 : Shape := ⟨3, ![4, 128, 128]⟩
abbrev S4x1536 : Shape := ⟨2, ![4, 1536]⟩
abbrev S1x128 : Shape := ⟨2, ![1, 128]⟩
abbrev S24x128x512 : Shape := ⟨3, ![24, 128, 512]⟩
abbrev S16x128x512 : Shape := ⟨3, ![16, 128, 512]⟩
abbrev S1x128x1536 : Shape := ⟨3, ![1, 128, 1536]⟩
abbrev S128x1536 : Shape := ⟨2, ![128, 1536]⟩
abbrev S1x1536 : Shape := ⟨2, ![1, 1536]⟩
abbrev S1x128x128 : Shape := ⟨3, ![1, 128, 128]⟩
abbrev S128x128 : Shape := ⟨2, ![128, 128]⟩
abbrev S128x1 : Shape := ⟨2, ![128, 1]⟩
abbrev S128 : Shape := ⟨1, ![128]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1536, .f32⟩
  | .hbm, ⟨1, _⟩ => ⟨S3x128x1536, .f32⟩
  | .hbm, ⟨2, _⟩ => ⟨S4x128x128, .f32⟩
  | .hbm, ⟨3, _⟩ => ⟨S4x1536, .f32⟩
  | .hbm, ⟨4, _⟩ => ⟨S1x128, .f32⟩
  | .hbm, ⟨5, _⟩ => ⟨S1x128, .f32⟩
  | .hbm, ⟨6, _⟩ => ⟨S24x128x512, .f32⟩
  | .hbm, ⟨7, _⟩ => ⟨S16x128x512, .f32⟩
  | .local _ .vmem, ⟨0, _⟩ => ⟨S4x128x1536, .f32⟩
  | .local _ .vmem, ⟨1, _⟩ => ⟨S3x128x1536, .f32⟩
  | .local _ .vmem, ⟨2, _⟩ => ⟨S4x128x128, .f32⟩
  | .local _ .vmem, ⟨3, _⟩ => ⟨S4x1536, .f32⟩
  | .local _ .vmem, ⟨4, _⟩ => ⟨S1x128, .f32⟩
  | .local _ .vmem, ⟨5, _⟩ => ⟨S1x128, .f32⟩
  | .local _ .vmem, ⟨6, _⟩ => ⟨S24x128x512, .f32⟩
  | .local _ .vmem, ⟨7, _⟩ => ⟨S16x128x512, .f32⟩
  | _, _ => ⟨S4x128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x128x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x128x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GdnPRefIdeal.lean ====
abbrev S4x128x1536 : Shape := ⟨3, ![4, 128, 1536]⟩
abbrev S3x128x1536 : Shape := ⟨3, ![3, 128, 1536]⟩
abbrev S4x128x128 : Shape := ⟨3, ![4, 128, 128]⟩
abbrev S4x1536 : Shape := ⟨2, ![4, 1536]⟩
abbrev S1x128 : Shape := ⟨2, ![1, 128]⟩
abbrev S7x128x1536 : Shape := ⟨3, ![7, 128, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S4x128x3x4x128 : Shape := ⟨5, ![4, 128, 3, 4, 128]⟩
abbrev S4x128x1x4x128 : Shape := ⟨5, ![4, 128, 1, 4, 128]⟩
abbrev S4x128x4x128 : Shape := ⟨4, ![4, 128, 4, 128]⟩
abbrev S4x128x4 : Shape := ⟨3, ![4, 128, 4]⟩
abbrev S4x128x4x1 : Shape := ⟨4, ![4, 128, 4, 1]⟩
abbrev S1x4 : Shape := ⟨2, ![1, 4]⟩
abbrev S4 : Shape := ⟨1, ![4]⟩
abbrev S1x1x4 : Shape := ⟨3, ![1, 1, 4]⟩
abbrev S4x1 : Shape := ⟨2, ![4, 1]⟩
abbrev S4x4 : Shape := ⟨2, ![4, 4]⟩
abbrev S4x4x1x1 : Shape := ⟨4, ![4, 4, 1, 1]⟩
abbrev S1x4x128x4 : Shape := ⟨4, ![1, 4, 128, 4]⟩
abbrev S4x4x128x4 : Shape := ⟨4, ![4, 4, 128, 4]⟩
abbrev S4x1x128x4 : Shape := ⟨4, ![4, 1, 128, 4]⟩
abbrev S128x4x4x4 : Shape := ⟨4, ![128, 4, 4, 4]⟩
abbrev S4x128x4x256 : Shape := ⟨4, ![4, 128, 4, 256]⟩
abbrev S1x128x4x256 : Shape := ⟨4, ![1, 128, 4, 256]⟩
abbrev S128x4x256 : Shape := ⟨3, ![128, 4, 256]⟩
abbrev S1x1x128x4 : Shape := ⟨4, ![1, 1, 128, 4]⟩
abbrev S128x4 : Shape := ⟨2, ![128, 4]⟩
abbrev S128x4x1 : Shape := ⟨3, ![128, 4, 1]⟩
abbrev S1x128x4 : Shape := ⟨3, ![1, 128, 4]⟩
abbrev S1x128x4x1 : Shape := ⟨4, ![1, 128, 4, 1]⟩
abbrev S1x128x4x128 : Shape := ⟨4, ![1, 128, 4, 128]⟩
abbrev S7x128x4x128 : Shape := ⟨4, ![7, 128, 4, 128]⟩
abbrev S24x128x4x128 : Shape := ⟨4, ![24, 128, 4, 128]⟩
abbrev S24x128x512 : Shape := ⟨3, ![24, 128, 512]⟩
abbrev S4x4x128x4x1 : Shape := ⟨5, ![4, 4, 128, 4, 1]⟩
abbrev S4x4x128x4x128 : Shape := ⟨5, ![4, 4, 128, 4, 128]⟩
abbrev S16x128x512 : Shape := ⟨3, ![16, 128, 512]⟩

abbrev nBuf : Space → Nat
  | .hbm => 223
  | .vmem => 0
  | .smem => 0
  | _ => 0

abbrev hbmTy0_0 (i : Nat) : BufTy := match i % 128 with
  | 0 => ⟨S4x128x1536, .f32⟩
  | 1 => ⟨S3x128x1536, .f32⟩
  | 2 => ⟨S4x128x128, .f32⟩
  | 3 => ⟨S4x1536, .f32⟩
  | 4 => ⟨S1x128, .f32⟩
  | 5 => ⟨S1x128, .f32⟩
  | 6 => ⟨S7x128x1536, .f32⟩
  | 7 => ⟨S1x1536, .f32⟩
  | 8 => ⟨S1536, .f32⟩
  | 9 => ⟨S4x128x1536, .f32⟩
  | 10 => ⟨S1x1x1536, .f32⟩
  | 11 => ⟨S4x128x1536, .f32⟩
  | 12 => ⟨S4x128x1536, .f32⟩
  | 13 => ⟨S1x1536, .f32⟩
  | 14 => ⟨S1536, .f32⟩
  | 15 => ⟨S4x128x1536, .f32⟩
  | 16 => ⟨S1x1x1536, .f32⟩
  | 17 => ⟨S4x128x1536, .f32⟩
  | 18 => ⟨S4x128x1536, .f32⟩
  | 19 => ⟨S4x128x1536, .f32⟩
  | 20 => ⟨S1x1536, .f32⟩
  | 21 => ⟨S1536, .f32⟩
  | 22 => ⟨S4x128x1536, .f32⟩
  | 23 => ⟨S1x1x1536, .f32⟩
  | 24 => ⟨S4x128x1536, .f32⟩
  | 25 => ⟨S4x128x1536, .f32⟩
  | 26 => ⟨S4x128x1536, .f32⟩
  | 27 => ⟨S1x1536, .f32⟩
  | 28 => ⟨S1536, .f32⟩
  | 29 => ⟨S4x128x1536, .f32⟩
  | 30 => ⟨S1x1x1536, .f32⟩
  | 31 => ⟨S4x128x1536, .f32⟩
  | 32 => ⟨S4x128x1536, .f32⟩
  | 33 => ⟨S4x128x1536, .f32⟩
  | 34 => ⟨S4x128x1536, .f32⟩
  | 35 => ⟨S4x128x1536, .f32⟩
  | 36 => ⟨S_, .f32⟩
  | 37 => ⟨S4x128x1536, .f32⟩
  | 38 => ⟨S4x128x1536, .f32⟩
  | 39 => ⟨S_, .f32⟩
  | 40 => ⟨S4x128x1536, .f32⟩
  | 41 => ⟨S4x128x1536, .f32⟩
  | 42 => ⟨S4x128x1536, .f32⟩
  | 43 => ⟨S4x128x3x4x128, .f32⟩
  | 44 => ⟨S4x128x1x4x128, .f32⟩
  | 45 => ⟨S4x128x4x128, .f32⟩
  | 46 => ⟨S4x128x4x128, .f32⟩
  | 47 => ⟨S_, .f32⟩
  | 48 => ⟨S4x128x4, .f32⟩
  | 49 => ⟨S4x128x4x1, .f32⟩
  | 50 => ⟨S_, .f32⟩
  | 51 => ⟨S4x128x4x1, .f32⟩
  | 52 => ⟨S4x128x4x1, .f32⟩
  | 53 => ⟨S4x128x4x1, .f32⟩
  | 54 => ⟨S4x128x4x128, .f32⟩
  | 55 => ⟨S4x128x4x128, .f32⟩
  | 56 => ⟨S_, .f32⟩
  | 57 => ⟨S4x128x4x128, .f32⟩
  | 58 => ⟨S4x128x4x128, .f32⟩
  | 59 => ⟨S4x128x1x4x128, .f32⟩
  | 60 => ⟨S4x128x4x128, .f32⟩
  | 61 => ⟨S4x128x4x128, .f32⟩
  | 62 => ⟨S_, .f32⟩
  | 63 => ⟨S4x128x4, .f32⟩
  | 64 => ⟨S4x128x4x1, .f32⟩
  | 65 => ⟨S_, .f32⟩
  | 66 => ⟨S4x128x4x1, .f32⟩
  | 67 => ⟨S4x128x4x1, .f32⟩
  | 68 => ⟨S4x128x4x1, .f32⟩
  | 69 => ⟨S4x128x4x128, .f32⟩
  | 70 => ⟨S4x128x4x128, .f32⟩
  | 71 => ⟨S4x128x1x4x128, .f32⟩
  | 72 => ⟨S4x128x4x128, .f32⟩
  | 73 => ⟨S4x128x4, .f32⟩
  | 74 => ⟨S4x128x4, .f32⟩
  | 75 => ⟨S4x128x4, .f32⟩
  | 76 => ⟨S_, .f32⟩
  | 77 => ⟨S4x128x4, .f32⟩
  | 78 => ⟨S4x128x4, .f32⟩
  | 79 => ⟨S_, .f32⟩
  | 80 => ⟨S4x128x4, .f32⟩
  | 81 => ⟨S4x128x4, .f32⟩
  | 82 => ⟨S1x4, .f32⟩
  | 83 => ⟨S4, .f32⟩
  | 84 => ⟨S4, .f32⟩
  | 85 => ⟨S4, .f32⟩
  | 86 => ⟨S4x128x4, .f32⟩
  | 87 => ⟨S1x4, .f32⟩
  | 88 => ⟨S4, .f32⟩
  | 89 => ⟨S1x1x4, .f32⟩
  | 90 => ⟨S4x128x4, .f32⟩
  | 91 => ⟨S4x128x4, .f32⟩
  | 92 => ⟨S_, .f32⟩
  | 93 => ⟨S4x128x4, .f32⟩
  | 94 => ⟨S4x128x4, .f32⟩
  | 95 => ⟨S4x128x4, .f32⟩
  | 96 => ⟨S4x128x4, .f32⟩
  | 97 => ⟨S4x128x4, .f32⟩
  | 98 => ⟨S4x128x4, .f32⟩
  | 99 => ⟨S4x128x4, .f32⟩
  | 100 => ⟨S1x1x4, .f32⟩
  | 101 => ⟨S4x128x4, .f32⟩
  | 102 => ⟨S4x128x4, .f32⟩
  | 103 => ⟨S4, .i32⟩
  | 104 => ⟨S1x4, .i32⟩
  | 105 => ⟨S4x1, .i32⟩
  | 106 => ⟨S4x4, .i32⟩
  | 107 => ⟨S4x4, .i32⟩
  | 108 => ⟨S4x4, .i1⟩
  | 109 => ⟨S4x4x1x1, .i1⟩
  | 110 => ⟨S1x4x128x4, .f32⟩
  | 111 => ⟨S_, .f32⟩
  | 112 => ⟨S_, .f32⟩
  | 113 => ⟨S4x4x128x4, .i1⟩
  | 114 => ⟨S4x4x128x4, .f32⟩
  | 115 => ⟨S4x4x128x4, .f32⟩
  | 116 => ⟨S4x4x128x4, .f32⟩
  | 117 => ⟨S_, .f32⟩
  | 118 => ⟨S4x128x4, .f32⟩
  | 119 => ⟨S4x1x128x4, .f32⟩
  | 120 => ⟨S1x4x128x4, .f32⟩
  | 121 => ⟨S4x4x128x4, .f32⟩
  | 122 => ⟨S4x4x128x4, .f32⟩
  | 123 => ⟨S4x4x128x4, .f32⟩
  | 124 => ⟨S4x4x128x4, .f32⟩
  | 125 => ⟨S_, .f32⟩
  | 126 => ⟨S_, .f32⟩
  | 127 => ⟨S4x4x128x4, .i1⟩
  | _ => ⟨S4x128x1536, .f32⟩

abbrev hbmTy0_1 (i : Nat) : BufTy := match i % 128 with
  | 0 => ⟨S4x4x128x4, .f32⟩
  | 1 => ⟨S4x4x128x4, .f32⟩
  | 2 => ⟨S4x1x128x4, .f32⟩
  | 3 => ⟨S128x4x4x4, .f32⟩
  | 4 => ⟨S4x4x128x4, .f32⟩
  | 5 => ⟨S4x4x128x4, .f32⟩
  | 6 => ⟨S4x4x128x4, .f32⟩
  | 7 => ⟨S4x4x128x4, .f32⟩
  | 8 => ⟨S4x128x4x1, .f32⟩
  | 9 => ⟨S4x128x4x128, .f32⟩
  | 10 => ⟨S4x128x4x128, .f32⟩
  | 11 => ⟨S4x128x4x1, .f32⟩
  | 12 => ⟨S4x128x4x128, .f32⟩
  | 13 => ⟨S4x128x4x128, .f32⟩
  | 14 => ⟨S4x128x4, .f32⟩
  | 15 => ⟨S4x128x4x1, .f32⟩
  | 16 => ⟨S4x128x4x128, .f32⟩
  | 17 => ⟨S4x128x4x128, .f32⟩
  | 18 => ⟨S4x128x4x256, .f32⟩
  | 19 => ⟨S1x128x4x256, .f32⟩
  | 20 => ⟨S128x4x256, .f32⟩
  | 21 => ⟨S1x128x4x256, .f32⟩
  | 22 => ⟨S128x4x256, .f32⟩
  | 23 => ⟨S1x1x128x4, .f32⟩
  | 24 => ⟨S128x4, .f32⟩
  | 25 => ⟨S128x4x1, .f32⟩
  | 26 => ⟨S128x4x256, .f32⟩
  | 27 => ⟨S128x4x256, .f32⟩
  | 28 => ⟨S128x4x256, .f32⟩
  | 29 => ⟨S1x128x4x256, .f32⟩
  | 30 => ⟨S128x4x256, .f32⟩
  | 31 => ⟨S1x1x128x4, .f32⟩
  | 32 => ⟨S128x4, .f32⟩
  | 33 => ⟨S128x4x1, .f32⟩
  | 34 => ⟨S128x4x256, .f32⟩
  | 35 => ⟨S128x4x256, .f32⟩
  | 36 => ⟨S128x4x256, .f32⟩
  | 37 => ⟨S1x1x128x4, .f32⟩
  | 38 => ⟨S128x4, .f32⟩
  | 39 => ⟨S128x4x1, .f32⟩
  | 40 => ⟨S128x4x256, .f32⟩
  | 41 => ⟨S128x4x256, .f32⟩
  | 42 => ⟨S128x4x256, .f32⟩
  | 43 => ⟨S1x128x4x256, .f32⟩
  | 44 => ⟨S128x4x256, .f32⟩
  | 45 => ⟨S1x1x128x4, .f32⟩
  | 46 => ⟨S128x4, .f32⟩
  | 47 => ⟨S128x4x1, .f32⟩
  | 48 => ⟨S128x4x256, .f32⟩
  | 49 => ⟨S128x4x256, .f32⟩
  | 50 => ⟨S128x4x256, .f32⟩
  | 51 => ⟨S1x1x128x4, .f32⟩
  | 52 => ⟨S128x4, .f32⟩
  | 53 => ⟨S128x4x1, .f32⟩
  | 54 => ⟨S128x4x256, .f32⟩
  | 55 => ⟨S128x4x256, .f32⟩
  | 56 => ⟨S128x4x256, .f32⟩
  | 57 => ⟨S1x1x128x4, .f32⟩
  | 58 => ⟨S128x4, .f32⟩
  | 59 => ⟨S128x4x1, .f32⟩
  | 60 => ⟨S128x4x256, .f32⟩
  | 61 => ⟨S128x4x256, .f32⟩
  | 62 => ⟨S128x4x256, .f32⟩
  | 63 => ⟨S1x128x4x256, .f32⟩
  | 64 => ⟨S1x128x4x256, .f32⟩
  | 65 => ⟨S1x128x4x256, .f32⟩
  | 66 => ⟨S1x128x4x256, .f32⟩
  | 67 => ⟨S4x128x4x256, .f32⟩
  | 68 => ⟨S1x128x4, .f32⟩
  | 69 => ⟨S1x128x4, .f32⟩
  | 70 => ⟨S1x128x4x1, .f32⟩
  | 71 => ⟨S1x128x4x128, .f32⟩
  | 72 => ⟨S4x128x4x128, .f32⟩
  | 73 => ⟨S4x128x4, .f32⟩
  | 74 => ⟨S4x128x4x1, .f32⟩
  | 75 => ⟨S4x128x4x128, .f32⟩
  | 76 => ⟨S4x128x4x128, .f32⟩
  | 77 => ⟨S4x128x4x128, .f32⟩
  | 78 => ⟨S1x128x4, .f32⟩
  | 79 => ⟨S4x128x4, .f32⟩
  | 80 => ⟨S4x128x4, .f32⟩
  | 81 => ⟨S4x128x4, .f32⟩
  | 82 => ⟨S4x128x4x1, .f32⟩
  | 83 => ⟨S4x128x4x128, .f32⟩
  | 84 => ⟨S4x128x4x128, .f32⟩
  | 85 => ⟨S_, .f32⟩
  | 86 => ⟨S7x128x4x128, .f32⟩
  | 87 => ⟨S24x128x4x128, .f32⟩
  | 88 => ⟨S128x4x4x4, .f32⟩
  | 89 => ⟨S4x4x128x4, .f32⟩
  | 90 => ⟨S4x4x128x4, .f32⟩
  | 91 => ⟨S24x128x512, .f32⟩
  | 92 => ⟨S4x4x128x4x1, .f32⟩
  | 93 => ⟨S4x4x128x4x128, .f32⟩
  | 94 => ⟨S16x128x512, .f32⟩
  | _ => ⟨S4x128x1536, .f32⟩

abbrev hbmTy (i : Nat) : BufTy := match i / 128 with
  | 0 => hbmTy0_0 i
  | 1 => hbmTy0_1 i
  | _ => ⟨S4x128x1536, .f32⟩

abbrev bufTy : (tb : Table) → Fin (tcTables nBuf tb) → BufTy
  | .hbm, ⟨i, _⟩ => hbmTy i
  | _, _ => ⟨S4x128x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_v33 : Ref sig .tc := ⟨.hbm, 48, rfl⟩
abbrev main_v34 : Ref sig .tc := ⟨.hbm, 49, rfl⟩
abbrev main_cst_0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_2 : Ref sig .tc := ⟨.hbm, 62, rfl⟩
abbrev main_v45 : Ref sig .tc := ⟨.hbm, 63, rfl⟩
abbrev main_v46 : Ref sig .tc := ⟨.hbm, 64, rfl⟩
abbrev main_cst_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_4 : Ref sig .tc := ⟨.hbm, 76, rfl⟩
abbrev main_v57 : Ref sig .tc := ⟨.hbm, 77, rfl⟩
abbrev main_v58 : Ref sig .tc := ⟨.hbm, 78, rfl⟩
abbrev main_cst_5 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_6 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_7 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_call1_v3 : Ref sig .tc := ⟨.hbm, 115, rfl⟩
abbrev main_v89 : Ref sig .tc := ⟨.hbm, 116, rfl⟩
abbrev main_cst_8 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_9 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_cst_10 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩

abbrev nD : Nat := 1
abbrev τ : Topo := Topo.v7x

variable {F : FTy → Type} [FloatOps F]
-- ==== Proof.AttnStep.lean ====
/-
  One block of keys in the prompt attention: how the block's scores change the running maximum, the running sum of
  exponentials and the running sum against the values, at one row and one lane. The body states these for both maps and
  for the full and the diagonal blocks; all of them are the three functions below.
-/
module

public import proofs.«01_k».proof.Proof.Gen.AttnIdeal.Skeleton
public import Idealize.ShloMosaic.Lib.Pointwise
public import Idealize.ShloMosaic.Lib.IdealHost
public import Idealize.ShloMosaic.Lib.WordCmp

@[expose] public section

set_option maxRecDepth 16384

noncomputable section

namespace Cert.AttnIdeal.Value

open Idealize.ShloMosaic Idealize.ShloMosaic.TcCoe Idealize.SL.Sem
open Cert.AttnIdeal Cert.AttnIdeal.Gen

/-- The running maximum after a block of scores. -/
def newMax (m : FVec Ideal S512x1 .f32) (s : FVec Ideal S512x512 .f32) : FVec Ideal S512x1 .f32 :=
  maximumf m (shapeCast S512x1 (multiReduction .maximumf [1] S512 s 0xFF800000#32 reduces_S512x512_S512 (.inl rfl) rfl) shapeCasts_S512_S512x1)

/-- The running sum of exponentials after a block of scores. -/
def newSum (m l : FVec Ideal S512x1 .f32) (s : FVec Ideal S512x512 .f32) : FVec Ideal S512x1 .f32 :=
  addf (mulf (exp (subf m (newMax m s))) l)
    (shapeCast S512x1 (multiReduction .add [1] S512 (exp (subf s (broadcastTo S512x512 (newMax m s) broadcasts_S512x1_S512x512))) 0x00000000#32 reduces_S512x512_S512 (.inl rfl) rfl) shapeCasts_S512_S512x1)

/-- The running sum against the values after a block of scores. -/
def newAcc (m : FVec Ideal S512x1 .f32) (a : FVec Ideal S512x128 .f32) (s : FVec Ideal S512x512 .f32) (V : Vec Ideal S1x512x128 .bf16) :
    FVec Ideal S512x128 .f32 :=
  addf (mulf (broadcastTo S512x128 (exp (subf m (newMax m s))) broadcasts_S512x1_S512x128) a)
    (matmul (φ₂ := .bf16) dot_S512x512_S512x128_S512x128_1_0_0_1_n_n none
      (truncf .bf16 (exp (subf s (broadcastTo S512x512 (newMax m s) broadcasts_S512x1_S512x512))) bitsLt_bf16_f32)
      (shapeCast S512x128 V shapeCasts_S1x512x128_S512x128) (constant S512x128 .f32 0x00000000#32))

theorem newMax_apply (m : FVec Ideal S512x1 .f32) (s : FVec Ideal S512x512 .f32) (r : Fin 512) :
    newMax m s (ix2 r 0) = max (m (ix2 r 0)) (Finset.univ.fold max ⊥ fun k : Fin 512 => s (ix2 r k)) := by
  pointwise! [newMax]

theorem newSum_apply (m l : FVec Ideal S512x1 .f32) (s : FVec Ideal S512x512 .f32) (r : Fin 512) :
    newSum m l s (ix2 r 0) = Ideal.exp (m (ix2 r 0) - newMax m s (ix2 r 0)) * l (ix2 r 0)
      + ∑ k : Fin 512, Ideal.exp (s (ix2 r k) - newMax m s (ix2 r 0)) := by
  pointwise! [newSum]

theorem newAcc_apply (m : FVec Ideal S512x1 .f32) (a : FVec Ideal S512x128 .f32) (s : FVec Ideal S512x512 .f32)
    (V : Vec Ideal S1x512x128 .bf16) (r : Fin 512) (d : Fin 128) :
    newAcc m a s V (ix2 r d) = Ideal.exp (m (ix2 r 0) - newMax m s (ix2 r 0)) * a (ix2 r d)
      + ∑ k : Fin 512, Ideal.exp (s (ix2 r k) - newMax m s (ix2 r 0)) * V (ix3 0 k d) := by
  pointwise! [newAcc]

/-- The scores of a block of keys against the queries of the first map (the first 64 lanes). -/
theorem score1_apply (q K : Vec Ideal S1x512x128 .bf16) (r k : Fin 512) :
    k0_pay4 (k0_pay34 q) K (ix2 r k)
      = ∑ d : Fin 64, q (ix3 0 r (⟨d.val, by omega⟩ : Fin 128)) * K (ix3 0 k (⟨d.val, by omega⟩ : Fin 128)) := by
  pointwise! [k0_pay4, k0_pay34, k0_pay2, k0_pay32, k0_pay33]
  rw [Fin.sum_univ_two_halves 64 64 rfl]
  refine (congrArg₂ (· + ·) (Finset.sum_congr rfl fun x _ => ?_) (Finset.sum_eq_zero fun x _ => ?_)).trans (add_zero _)
  · rw [WordCmp.cmpi_slt_ofNat (by omega) (by omega), decide_eq_true x.isLt]; rfl
  · rw [WordCmp.cmpi_slt_ofNat (by omega) (by omega), decide_eq_false (show ¬ 64 + x.val < 64 by omega)]; rfl

/-- The scores of a block of keys against the queries of the second map (the last 64 lanes). -/
theorem score2_apply (q K : Vec Ideal S1x512x128 .bf16) (r k : Fin 512) :
    k0_pay4 (k0_pay35 q) K (ix2 r k)
      = ∑ d : Fin 64, q (ix3 0 r (⟨64 + d.val, by omega⟩ : Fin 128)) * K (ix3 0 k (⟨64 + d.val, by omega⟩ : Fin 128)) := by
  pointwise! [k0_pay4, k0_pay35, k0_pay2, k0_pay32, k0_pay33]
  rw [Fin.sum_univ_two_halves 64 64 rfl]
  refine (congrArg₂ (· + ·) (Finset.sum_eq_zero fun x _ => ?_) (Finset.sum_congr rfl fun x _ => ?_)).trans (zero_add _)
  · rw [WordCmp.cmpi_sge_ofNat (by omega) (by omega), decide_eq_false (show ¬ 64 ≤ x.val by omega)]; rfl
  · rw [WordCmp.cmpi_sge_ofNat (by omega) (by omega), decide_eq_true (show 64 ≤ 64 + x.val by omega)]; rfl

/-- The diagonal block's scores: those of the keys after the query's row are masked. -/
theorem masked_apply (s : FVec Ideal S512x512 .f32) (r k : Fin 512) :
    k0_pay47 s (ix2 r k) = if k.val ≤ r.val then s (ix2 r k) else ⊥ := by
  pointwise! [k0_pay47]
  rw [IdealRules.named_const.ideal_named_scalar κ "mask" (φ := .f32) 0xF149F2CA#32 ⊥ rfl, WordCmp.cmpi_sle_ofNat (by omega) (by omega)]
  by_cases h : k.val ≤ r.val <;> simp [Scalar.select, h]

end Cert.AttnIdeal.Value

end
-- ==== Proof.Online.lean ====
/-
  The softmax that a kernel accumulates block by block, over the extended reals: a running maximum, the sum of the
  exponentials below it and their sum against the values. Whatever the maximum is, the two sums are the plain sums of
  exponentials scaled by one common factor, so their quotient is the quotient of the plain sums.
-/
module

public import Idealize.ShloMosaic.PureOps.Ideal

@[expose] public section

noncomputable section

namespace Cert.Online

open Idealize.ShloMosaic

/-- A finite sum of real numbers, read in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The score of a key: a real number where the key is seen, the bottom where it is masked. -/
def score (ok : Prop) [Decidable ok] (x : ℝ) : EReal := if ok then (x : EReal) else ⊥

/-- The weight of a key: the exponential of its score where it is seen, zero where it is masked. -/
def weight (ok : Prop) [Decidable ok] (x : ℝ) : ℝ := if ok then Real.exp x else 0

/-- The exponential of a score below a real shift is the weight scaled. -/
theorem exp_score_sub (ok : Prop) [Decidable ok] (x μ : ℝ) :
    Ideal.exp (score ok x - (μ : EReal)) = ((Real.exp (-μ) * weight ok x : ℝ) : EReal) := by
  by_cases h : ok
  · simp only [score, weight, if_pos h]
    rw [← EReal.coe_sub, Ideal.exp_coe, ← Real.exp_add]
    congr 2; ring
  · simp only [score, weight, if_neg h, mul_zero, EReal.coe_zero]
    rw [EReal.bot_sub, Ideal.exp_bot]

/-- A running maximum with a block of scores at least one of which is seen is a real number, whenever the maximum before
    it is not the top. -/
theorem max_real {n : ℕ} (m : EReal) (hm : m ≠ ⊤) (s : Fin n → EReal) (hs : ∀ k, s k ≠ ⊤) (k₀ : Fin n) (h₀ : s k₀ ≠ ⊥) :
    ∃ μ : ℝ, max m (Finset.univ.fold max ⊥ s) = (μ : EReal) := by
  have hle : s k₀ ≤ Finset.univ.fold max ⊥ s := (Finset.le_fold_max _).2 (Or.inr ⟨k₀, Finset.mem_univ _, le_rfl⟩)
  have hlt : Finset.univ.fold max ⊥ s < ⊤ := (Finset.fold_max_lt _).2 ⟨bot_lt_top, fun k _ => lt_top_iff_ne_top.2 (hs k)⟩
  have hb : max m (Finset.univ.fold max ⊥ s) ≠ ⊥ := by
    intro h
    exact h₀ (le_bot_iff.1 (hle.trans ((le_max_right _ _).trans h.le)))
  have ht : max m (Finset.univ.fold max ⊥ s) ≠ ⊤ := (max_lt (lt_top_iff_ne_top.2 hm) hlt).ne
  exact ⟨_, (EReal.coe_toReal ht hb).symm⟩

/-- What the accumulators hold: either nothing has been seen, or they are the plain sums `L` (of the weights) and `A` (of
    the weights against the values), scaled by the exponential below the running maximum. -/
def Holds (m l a : EReal) (L A : ℝ) : Prop :=
  (m = ⊥ ∧ l = 0 ∧ a = 0 ∧ L = 0 ∧ A = 0)
    ∨ ∃ μ : ℝ, m = (μ : EReal) ∧ l = ((Real.exp (-μ) * L : ℝ) : EReal) ∧ a = ((Real.exp (-μ) * A : ℝ) : EReal)

/-- Before the first block. -/
theorem Holds.init : Holds ⊥ 0 0 0 0 := Or.inl ⟨rfl, rfl, rfl, rfl, rfl⟩

/-- One block: the accumulators rescaled to the new maximum and the block's weights added. -/
theorem Holds.step {n : ℕ} {m l a : EReal} {L A : ℝ} (h : Holds m l a L A) (ok : Fin n → Prop) [∀ k, Decidable (ok k)]
    (x v : Fin n → ℝ) (k₀ : Fin n) (h₀ : ok k₀) (m' : EReal)
    (hm' : m' = max m (Finset.univ.fold max ⊥ fun k => score (ok k) (x k))) :
    Holds m' (Ideal.exp (m - m') * l + ∑ k, Ideal.exp (score (ok k) (x k) - m'))
      (Ideal.exp (m - m') * a + ∑ k, Ideal.exp (score (ok k) (x k) - m') * ((v k : ℝ) : EReal))
      (L + ∑ k, weight (ok k) (x k)) (A + ∑ k, weight (ok k) (x k) * v k) := by
  have hmt : m ≠ ⊤ := by
    rcases h with ⟨rfl, _⟩ | ⟨μ, rfl, _⟩
    · exact bot_ne_top
    · exact EReal.coe_ne_top μ
  obtain ⟨ν, hν⟩ := max_real m hmt (fun k => score (ok k) (x k))
    (fun k => by by_cases hk : ok k <;> simp [score, hk]) k₀ (by simp [score, h₀])
  rw [hν] at hm'
  subst hm'
  have e1 : ∑ k, Ideal.exp (score (ok k) (x k) - (ν : EReal)) = ((Real.exp (-ν) * ∑ k, weight (ok k) (x k) : ℝ) : EReal) := by
    rw [Finset.mul_sum, coe_sum]
    exact Finset.sum_congr rfl fun k _ => exp_score_sub _ _ _
  have e2 : ∑ k, Ideal.exp (score (ok k) (x k) - (ν : EReal)) * ((v k : ℝ) : EReal)
      = ((Real.exp (-ν) * ∑ k, weight (ok k) (x k) * v k : ℝ) : EReal) := by
    rw [Finset.mul_sum, coe_sum]
    refine Finset.sum_congr rfl fun k _ => ?_
    rw [exp_score_sub, ← EReal.coe_mul, mul_assoc]
  rw [e1, e2]
  refine Or.inr ⟨ν, rfl, ?_, ?_⟩
  · rcases h with ⟨rfl, rfl, rfl, rfl, rfl⟩ | ⟨μ, rfl, rfl, rfl⟩
    · rw [mul_zero, zero_add, zero_add]
    · rw [← EReal.coe_sub, Ideal.exp_coe, ← EReal.coe_mul, ← EReal.coe_add, ← mul_assoc, ← Real.exp_add, mul_add]
      congr 4; ring
  · rcases h with ⟨rfl, rfl, rfl, rfl, rfl⟩ | ⟨μ, rfl, rfl, rfl⟩
    · rw [mul_zero, zero_add, zero_add]
    · rw [← EReal.coe_sub, Ideal.exp_coe, ← EReal.coe_mul, ← EReal.coe_add, ← mul_assoc, ← Real.exp_add, mul_add]
      congr 4; ring

/-- The quotient of the accumulators is the quotient of the plain sums. -/
theorem Holds.div {m l a : EReal} {L A : ℝ} (h : Holds m l a L A) (hL : 0 < L) : Ideal.div a l = ((A / L : ℝ) : EReal) := by
  rcases h with ⟨_, _, _, h0, _⟩ | ⟨μ, _, rfl, rfl⟩
  · exact absurd h0 hL.ne'
  · have hp := Real.exp_pos (-μ)
    rw [Ideal.div_coe (mul_pos hp hL).ne', ← EReal.coe_mul]
    congr 1
    field_simp

/-- A row of the softmax computed at once: the weight of each key over the sum of the weights. -/
theorem softmax_row {n : ℕ} (ok : Fin n → Prop) [∀ k, Decidable (ok k)] (x : Fin n → ℝ) (k₀ : Fin n) (h₀ : ok k₀)
    (M : EReal) (hM : M = max ⊥ (Finset.univ.fold max ⊥ fun k => score (ok k) (x k))) (t : Fin n) :
    Ideal.div (Ideal.exp (score (ok t) (x t) - M)) (∑ k, Ideal.exp (score (ok k) (x k) - M))
      = ((weight (ok t) (x t) / ∑ k, weight (ok k) (x k) : ℝ) : EReal) := by
  have h := (Holds.init).step ok x (fun k => if k = t then 1 else 0) k₀ h₀ M hM
  have hpos : 0 < ∑ k, weight (ok k) (x k) :=
    Finset.sum_pos' (fun k _ => by unfold weight; split <;> positivity)
      ⟨k₀, Finset.mem_univ _, by simp only [weight, if_pos h₀]; exact Real.exp_pos _⟩
  have hd := h.div (by rw [zero_add]; exact hpos)
  have e : ∀ k, Ideal.exp (score (ok k) (x k) - M) * (((if k = t then 1 else 0 : ℝ) : ℝ) : EReal)
      = if k = t then Ideal.exp (score (ok k) (x k) - M) else 0 := fun k => by
    split <;> simp
  simp only [e, mul_zero, zero_add, Finset.sum_ite_eq', Finset.mem_univ, if_true, mul_ite, mul_one] at hd
  exact hd

end Cert.Online

end
-- ==== Proof.AttnRow.lean ====
/-
  One row of the accumulators of the prompt attention through the blocks of keys: the plain sums they stand for.
-/
module

public import proofs.«01_k».proof.Proof.AttnStep
public import proofs.«01_k».proof.Proof.Online

@[expose] public section

set_option maxRecDepth 16384

noncomputable section

namespace Cert.AttnIdeal.Value

open Idealize.ShloMosaic Idealize.ShloMosaic.TcCoe Idealize.SL.Sem
open Cert.AttnIdeal Cert.AttnIdeal.Gen Cert.Online

/-- One block at one row and one lane: the sums grow by the block's weights. -/
theorem row_step (m l : FVec Ideal S512x1 .f32) (a : FVec Ideal S512x128 .f32) (s : FVec Ideal S512x512 .f32)
    (V : Vec Ideal S1x512x128 .bf16) (r : Fin 512) (d : Fin 128) (ok : Fin 512 → Prop) [∀ k, Decidable (ok k)]
    (x v : Fin 512 → ℝ) (k₀ : Fin 512) (h₀ : ok k₀) (hs : ∀ k, s (ix2 r k) = score (ok k) (x k))
    (hv : ∀ k, V (ix3 0 k d) = ((v k : ℝ) : EReal)) (L A : ℝ) (h : Holds (m (ix2 r 0)) (l (ix2 r 0)) (a (ix2 r d)) L A) :
    Holds (newMax m s (ix2 r 0)) (newSum m l s (ix2 r 0)) (newAcc m a s V (ix2 r d))
      (L + ∑ k, weight (ok k) (x k)) (A + ∑ k, weight (ok k) (x k) * v k) := by
  rw [newSum_apply, newAcc_apply]
  simp only [hs, hv]
  refine h.step ok x v k₀ h₀ _ ?_
  rw [newMax_apply]
  simp only [hs]

/-- The accumulators of both maps: the maximum, the sum and the sum against the values of each. -/
abbrev Acc : Type := FVec Ideal S512x1 .f32 × FVec Ideal S512x1 .f32 × FVec Ideal S512x128 .f32
  × FVec Ideal S512x1 .f32 × FVec Ideal S512x1 .f32 × FVec Ideal S512x128 .f32

/-- The accumulators before the first block. -/
def acc0 : Acc := (k0_pay36, k0_pay37, k0_pay38, k0_pay39, k0_pay40, k0_pay41)

/-- The accumulators after a block whose scores are `s1` and `s2`. -/
def accStep (s1 s2 : FVec Ideal S512x512 .f32) (V : Vec Ideal S1x512x128 .bf16) (x : Acc) : Acc :=
  (newMax x.1 s1, newSum x.1 x.2.1 s1, newAcc x.1 x.2.2.1 s1 V,
    newMax x.2.2.2.1 s2, newSum x.2.2.2.1 x.2.2.2.2.1 s2, newAcc x.2.2.2.1 x.2.2.2.2.2 s2 V)

/-- Block `n` of the keys or of the values: 512 consecutive rows. -/
def blkN (K : Vec Ideal S1x4096x128 .bf16) (n : ℕ) : Vec Ideal S1x512x128 .bf16 :=
  fun j => K (ix3 0 (⟨(512 * n + (j 1).val) % 4096, Nat.mod_lt _ (by norm_num)⟩ : Fin 4096) (⟨(j 2).val, (j 2).isLt⟩ : Fin 128))

/-- The accumulators after `n` blocks of keys, none of them masked. -/
def accN (q : Vec Ideal S1x512x128 .bf16) (K V : Vec Ideal S1x4096x128 .bf16) : ℕ → Acc
  | 0 => acc0
  | n + 1 => accStep (k0_pay4 (k0_pay34 q) (blkN K n)) (k0_pay4 (k0_pay35 q) (blkN K n)) (blkN V n) (accN q K V n)

/-- The accumulators after the diagonal block too. -/
def accLast (q : Vec Ideal S1x512x128 .bf16) (K V : Vec Ideal S1x4096x128 .bf16) (n : ℕ) : Acc :=
  accStep (k0_pay47 (k0_pay4 (k0_pay34 q) (blkN K n))) (k0_pay47 (k0_pay4 (k0_pay35 q) (blkN K n))) (blkN V n) (accN q K V n)

theorem score_true (x : ℝ) : score True x = (x : EReal) := if_pos trivial

theorem weight_true (x : ℝ) : weight True x = Real.exp x := if_pos trivial

theorem init_row (r : Fin 512) (d : Fin 128) :
    Holds (acc0.1 (ix2 r 0)) (acc0.2.1 (ix2 r 0)) (acc0.2.2.1 (ix2 r d)) 0 0
      ∧ Holds (acc0.2.2.2.1 (ix2 r 0)) (acc0.2.2.2.2.1 (ix2 r 0)) (acc0.2.2.2.2.2 (ix2 r d)) 0 0 := by
  have e1 : (k0_pay36 : FVec Ideal S512x1 .f32) (ix2 r 0) = ⊥ := IdealRules.named_const.ideal_named_scalar κ "mask" (φ := .f32) 0xF149F2CA#32 ⊥ rfl
  have e2 : (k0_pay37 : FVec Ideal S512x1 .f32) (ix2 r 0) = 0 := by pointwise! [k0_pay37]
  have e3 : (k0_pay38 : FVec Ideal S512x128 .f32) (ix2 r d) = 0 := by pointwise! [k0_pay38]
  have h : Holds ((k0_pay36 : FVec Ideal S512x1 .f32) (ix2 r 0)) ((k0_pay37 : FVec Ideal S512x1 .f32) (ix2 r 0))
      ((k0_pay38 : FVec Ideal S512x128 .f32) (ix2 r d)) 0 0 := by
    rw [e1, e2, e3]; exact Holds.init
  exact ⟨h, h⟩

section Rows

variable (q : Vec Ideal S1x512x128 .bf16) (K V : Vec Ideal S1x4096x128 .bf16)
  (qr : Fin 512 → Fin 128 → ℝ) (kr vr : Fin 4096 → Fin 128 → ℝ)
  (hq : ∀ r d, q (ix3 0 r d) = ((qr r d : ℝ) : EReal)) (hk : ∀ t d, K (ix3 0 t d) = ((kr t d : ℝ) : EReal))
  (hv : ∀ t d, V (ix3 0 t d) = ((vr t d : ℝ) : EReal))

/-- Key `t` of the sequence, any number read as a position. -/
def pos (t : ℕ) : Fin 4096 := ⟨t % 4096, Nat.mod_lt _ (by norm_num)⟩

/-- The score of query `r` and key `t` in the first map. -/
def dot1 (r : Fin 512) (t : ℕ) : ℝ := ∑ d : Fin 64, qr r ⟨d.val, by omega⟩ * kr (pos t) ⟨d.val, by omega⟩

/-- The score of query `r` and key `t` in the second map. -/
def dot2 (r : Fin 512) (t : ℕ) : ℝ := ∑ d : Fin 64, qr r ⟨64 + d.val, by omega⟩ * kr (pos t) ⟨64 + d.val, by omega⟩

theorem blkN_apply (n : ℕ) (k : Fin 512) (d : Fin 128) : blkN K n (ix3 0 k d) = K (ix3 0 (pos (512 * n + k.val)) d) := rfl

include hq hk in
theorem score1_coe (n : ℕ) (r k : Fin 512) :
    k0_pay4 (k0_pay34 q) (blkN K n) (ix2 r k) = ((dot1 qr kr r (512 * n + k.val) : ℝ) : EReal) := by
  rw [score1_apply]
  unfold dot1
  rw [coe_sum]
  refine Finset.sum_congr rfl fun d _ => ?_
  rw [hq, blkN_apply, hk, EReal.coe_mul]

include hq hk in
theorem score2_coe (n : ℕ) (r k : Fin 512) :
    k0_pay4 (k0_pay35 q) (blkN K n) (ix2 r k) = ((dot2 qr kr r (512 * n + k.val) : ℝ) : EReal) := by
  rw [score2_apply]
  unfold dot2
  rw [coe_sum]
  refine Finset.sum_congr rfl fun d _ => ?_
  rw [hq, blkN_apply, hk, EReal.coe_mul]

include hq hk hv in
/-- After `n` blocks the accumulators stand for the sums over the first `512 n` keys. -/
theorem accN_holds (r : Fin 512) (d : Fin 128) : ∀ n : ℕ,
    Holds ((accN q K V n).1 (ix2 r 0)) ((accN q K V n).2.1 (ix2 r 0)) ((accN q K V n).2.2.1 (ix2 r d))
        (∑ t ∈ Finset.range (512 * n), Real.exp (dot1 qr kr r t)) (∑ t ∈ Finset.range (512 * n), Real.exp (dot1 qr kr r t) * vr (pos t) d)
      ∧ Holds ((accN q K V n).2.2.2.1 (ix2 r 0)) ((accN q K V n).2.2.2.2.1 (ix2 r 0)) ((accN q K V n).2.2.2.2.2 (ix2 r d))
        (∑ t ∈ Finset.range (512 * n), Real.exp (dot2 qr kr r t)) (∑ t ∈ Finset.range (512 * n), Real.exp (dot2 qr kr r t) * vr (pos t) d)
  | 0 => by
    rw [Nat.mul_zero, Finset.range_zero]
    simp only [Finset.sum_empty]
    exact init_row r d
  | n + 1 => by
    have ih := accN_holds r d n
    have hv' : ∀ k : Fin 512, blkN V n (ix3 0 k d) = ((vr (pos (512 * n + k.val)) d : ℝ) : EReal) := fun k => by
      rw [blkN_apply, hv]
    have h1 := row_step _ _ _ (k0_pay4 (k0_pay34 q) (blkN K n)) (blkN V n) r d (fun _ => True) _ _ 0 trivial
      (fun k => (score1_coe q K qr kr hq hk n r k).trans (score_true _).symm) hv' _ _ ih.1
    have h2 := row_step _ _ _ (k0_pay4 (k0_pay35 q) (blkN K n)) (blkN V n) r d (fun _ => True) _ _ 0 trivial
      (fun k => (score2_coe q K qr kr hq hk n r k).trans (score_true _).symm) hv' _ _ ih.2
    simp only [weight_true] at h1 h2
    rw [Nat.mul_succ]
    simp only [Finset.sum_range_add, Finset.sum_range (n := 512)]
    exact ⟨h1, h2⟩

include hq hk hv in
/-- After the diagonal block too: the sums over the keys up to the query's own position. -/
theorem accLast_holds (r : Fin 512) (d : Fin 128) (n : ℕ) :
    Holds ((accLast q K V n).1 (ix2 r 0)) ((accLast q K V n).2.1 (ix2 r 0)) ((accLast q K V n).2.2.1 (ix2 r d))
        (∑ t ∈ Finset.range (512 * n), Real.exp (dot1 qr kr r t) + ∑ k : Fin 512, weight (k.val ≤ r.val) (dot1 qr kr r (512 * n + k.val)))
        (∑ t ∈ Finset.range (512 * n), Real.exp (dot1 qr kr r t) * vr (pos t) d
          + ∑ k : Fin 512, weight (k.val ≤ r.val) (dot1 qr kr r (512 * n + k.val)) * vr (pos (512 * n + k.val)) d)
      ∧ Holds ((accLast q K V n).2.2.2.1 (ix2 r 0)) ((accLast q K V n).2.2.2.2.1 (ix2 r 0)) ((accLast q K V n).2.2.2.2.2 (ix2 r d))
        (∑ t ∈ Finset.range (512 * n), Real.exp (dot2 qr kr r t) + ∑ k : Fin 512, weight (k.val ≤ r.val) (dot2 qr kr r (512 * n + k.val)))
        (∑ t ∈ Finset.range (512 * n), Real.exp (dot2 qr kr r t) * vr (pos t) d
          + ∑ k : Fin 512, weight (k.val ≤ r.val) (dot2 qr kr r (512 * n + k.val)) * vr (pos (512 * n + k.val)) d) := by
  have ih := accN_holds q K V qr kr vr hq hk hv r d n
  have hv' : ∀ k : Fin 512, blkN V n (ix3 0 k d) = ((vr (pos (512 * n + k.val)) d : ℝ) : EReal) := fun k => by
    rw [blkN_apply, hv]
  exact ⟨row_step _ _ _ _ (blkN V n) r d (fun k => k.val ≤ r.val) _ _ r le_rfl
      (fun k => by rw [masked_apply, score1_coe q K qr kr hq hk n r k]; rfl) hv' _ _ ih.1,
    row_step _ _ _ _ (blkN V n) r d (fun k => k.val ≤ r.val) _ _ r le_rfl
      (fun k => by rw [masked_apply, score2_coe q K qr kr hq hk n r k]; rfl) hv' _ _ ih.2⟩

end Rows

/-- A sum over the full blocks and the seen part of the diagonal block is the sum over the seen keys of the sequence. -/
theorem sum_seen (f : ℕ → ℝ) (n : Fin 8) (r : Fin 512) :
    ∑ t ∈ Finset.range (512 * n.val), f t + ∑ k : Fin 512, (if k.val ≤ r.val then f (512 * n.val + k.val) else 0)
      = ∑ t : Fin 4096, if t.val ≤ 512 * n.val + r.val then f t.val else 0 := by
  rw [← Finset.sum_range (fun k => if k ≤ r.val then f (512 * n.val + k) else 0),
    ← Finset.sum_range (fun t => if t ≤ 512 * n.val + r.val then f t else 0)]
  have e : 4096 = 512 * n.val + (512 + (4096 - 512 * n.val - 512)) := by omega
  rw [e, Finset.sum_range_add, Finset.sum_range_add]
  have h1 : ∑ t ∈ Finset.range (512 * n.val), (if t ≤ 512 * n.val + r.val then f t else 0) = ∑ t ∈ Finset.range (512 * n.val), f t :=
    Finset.sum_congr rfl fun t ht => if_pos (by have := Finset.mem_range.1 ht; omega)
  have h2 : ∑ t ∈ Finset.range 512, (if 512 * n.val + t ≤ 512 * n.val + r.val then f (512 * n.val + t) else 0)
      = ∑ k ∈ Finset.range 512, (if k ≤ r.val then f (512 * n.val + k) else 0) :=
    Finset.sum_congr rfl fun t _ => by
      by_cases h : t ≤ r.val
      · rw [if_pos h, if_pos (by omega)]
      · rw [if_neg h, if_neg (by omega)]
  have h3 : ∑ t ∈ Finset.range (4096 - 512 * n.val - 512), (if 512 * n.val + (512 + t) ≤ 512 * n.val + r.val then f (512 * n.val + (512 + t)) else 0) = 0 :=
    Finset.sum_eq_zero fun t _ => if_neg (by omega)
  rw [h1, h2, h3, add_zero]

end Cert.AttnIdeal.Value

end
-- ==== Proof.AttnTrip.lean ====
/-
  The block the prompt attention writes at a grid point: the loop over the full blocks of keys and the diagonal block,
  read as the accumulators `accLast`.
-/
module

public import proofs.«01_k».proof.Proof.AttnRow
public import proofs.«01_k».proof.Proof.Gen.AttnIdeal.Frame
public import Idealize.ShloMosaic.Lib.Pipeline.ValueKit
public import Idealize.ShloMosaic.Lib.LoopRemainder

@[expose] public section

set_option maxRecDepth 16384

noncomputable section

namespace Cert.AttnIdeal.Value

open Idealize.ShloMosaic Idealize.ShloMosaic.TcCoe Idealize.SL.Sem
open Cert.AttnIdeal Cert.AttnIdeal.Gen

section Body

variable (c : Dev nD) (i : grid0.Coords) (arg3 : Memref sig .tc .vmem S1x512x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S1x64 .f32) (harg9 : arg9.IsWhole)
  (arg10 : Memref sig .tc .vmem S1x128 .f32) (harg10 : arg10.IsWhole) (arg11 : Memref sig .tc .vmem S1x512x128 .bf16) (harg11 : arg11.IsWhole)

/-- The loop over the full blocks makes as many trips as there are blocks before the diagonal one. -/
theorem trips1 : ∀ i : grid0.Coords, (k0_t1_loop i).trips = (i 2).val := by decide +kernel

/-- A load of 512 rows at the offset of block `n` reads that block. -/
theorem ld_blk (K : Vec Ideal S1x4096x128 .bf16) (n : ℕ) (hn : n < 8) (off : Fin 3 → ℕ) (e : off = ![0, 512 * n, 0])
    (h : ∀ a, off a + S1x512x128.size a ≤ S1x4096x128.size a) :
    View.ld K (Rect.unit (s := S1x4096x128) off S1x512x128.size h) = blkN K n := by
  subst e
  funext j
  idx_vars j
  have e0 : j0 = 0 := Subsingleton.elim _ _
  subst e0
  have hj : 512 * n + j1.val < 4096 := by omega
  have e1 : blkN K n (ix3 0 j1 j2) = K (ix3 0 (⟨512 * n + j1.val, hj⟩ : Fin 4096) j2) :=
    congrArg (fun t => K (ix3 0 t j2)) (Fin.ext (Nat.mod_eq_of_lt hj))
  rw [e1]
  pointwise

/-- What the load of a block of keys in the loop reads. -/
theorem load1 (K : Vec Ideal S1x4096x128 .bf16) (k : Fin (k0_t1_loop i).trips) :
    View.readAt (Elt Ideal) arg4.view (Rect.unit (s := S1x4096x128) (k0_off1 i k) S1x512x128.size (k0_off1_inb i k)).toLoadRect (harg4.unread K)
      = blkN K k.val := by
  rw [View.readAt_eq_ld, Memref.IsWhole.read_unread]
  exact ld_blk K k.val (by have := Nat.lt_of_lt_of_le k.isLt (k0_t1_abs i).2.1; omega) _ (k0_off1_eq i k) _

/-- What the load of the diagonal block reads. -/
theorem load3 (K : Vec Ideal S1x4096x128 .bf16) (h : ∀ a, (k0_off3 i) a + (![1, 512, 128] : Fin 3 → ℕ) a ≤ S1x4096x128.size a) :
    View.ld K (Rect.unit (s := S1x4096x128) (k0_off3 i) ![1, 512, 128] h) = blkN K (i 2).val :=
  ld_blk K (i 2).val (i 2).isLt _ (k0_off3_eq i) _

theorem trip_eq (v0 : Vec Ideal S1x512x128 .bf16) (K V : Vec Ideal S1x4096x128 .bf16) (k : Fin (k0_t1_loop i).trips) (x : Acc) :
    tripR_k0_t1 (F := Ideal) Variants.none c none i arg3 harg3 arg4 harg4 arg5 harg5 arg6 harg6 arg7 harg7 arg8 harg8 arg9 harg9 arg10 harg10 arg11 harg11 v0 (harg4.unread K) (harg5.unread V) k x
      = accStep (k0_pay4 (k0_pay34 v0) (blkN K k.val)) (k0_pay4 (k0_pay35 v0) (blkN K k.val)) (blkN V k.val) x := by
  have h : tripR_k0_t1 (F := Ideal) Variants.none c none i arg3 harg3 arg4 harg4 arg5 harg5 arg6 harg6 arg7 harg7 arg8 harg8 arg9 harg9 arg10 harg10 arg11 harg11 v0 (harg4.unread K) (harg5.unread V) k x
      = accStep (k0_pay4 (k0_pay34 v0) (View.readAt (Elt Ideal) arg4.view (Rect.unit (s := S1x4096x128) (k0_off1 i k) S1x512x128.size (k0_off1_inb i k)).toLoadRect (harg4.unread K)))
          (k0_pay4 (k0_pay35 v0) (View.readAt (Elt Ideal) arg4.view (Rect.unit (s := S1x4096x128) (k0_off1 i k) S1x512x128.size (k0_off1_inb i k)).toLoadRect (harg4.unread K)))
          (View.readAt (Elt Ideal) arg5.view (Rect.unit (s := S1x4096x128) (k0_off1 i k) S1x512x128.size (k0_off1_inb i k)).toLoadRect (harg5.unread V)) x := by
    unfold tripR_k0_t1 trip_k0_t1
    rfl
  rw [h, load1, load1]

/-- The accumulators before trip `n` of the loop. -/
theorem st_eq (v0 : Vec Ideal S1x512x128 .bf16) (K V : Vec Ideal S1x4096x128 .bf16) : ∀ n : ℕ, n ≤ (i 2).val →
    st_k0_t1 (F := Ideal) Variants.none c none i arg3 harg3 arg4 harg4 arg5 harg5 arg6 harg6 arg7 harg7 arg8 harg8 arg9 harg9 arg10 harg10 arg11 harg11 v0 (harg4.unread K) (harg5.unread V)
        (k0_pay36, k0_pay37, k0_pay38, k0_pay39, k0_pay40, k0_pay41) n
      = accN v0 K V n
  | 0, _ => rfl
  | n + 1, h => by
    have hn : n < (k0_t1_loop i).trips := by rw [trips1]; omega
    have e := st_k0_t1_succ (F := Ideal) Variants.none c none i arg3 harg3 arg4 harg4 arg5 harg5 arg6 harg6 arg7 harg7 arg8 harg8 arg9 harg9 arg10 harg10 arg11 harg11 v0 (harg4.unread K) (harg5.unread V)
        (k0_pay36, k0_pay37, k0_pay38, k0_pay39, k0_pay40, k0_pay41) ⟨n, hn⟩
    rw [st_eq v0 K V n (by omega), trip_eq] at e
    exact e

/-- The block written at a grid point, from the accumulators after the diagonal block. -/
theorem out_eq (q : Vec Ideal S1x512x128 .bf16) (K V : Vec Ideal S1x4096x128 .bf16) (l1 l2 l3 l4 : Vec Ideal S1x64 .f32) (g : Vec Ideal S1x128 .f32) :
    out0_A_8 (F := Ideal) c i arg3 harg3 arg4 harg4 arg5 harg5 arg6 harg6 arg7 harg7 arg8 harg8 arg9 harg9 arg10 harg10 arg11 harg11 q K V l1 l2 l3 l4 g
      = k0_pay1 (accLast q K V (i 2).val).2.1 (accLast q K V (i 2).val).2.2.1 (accLast q K V (i 2).val).2.2.2.2.1 (accLast q K V (i 2).val).2.2.2.2.2
          l1 l2 l3 l4 g := by
  frame_out
  simp only [Scf.rem_trips]
  have ht : Scf.trips (0#32) (Scalar.addi (0#32) (Scalar.muli (Scalar.divsi (Scalar.subi (BitVec.ofNat 32 (i 2).val) 0#32) 1#32) 1#32)) 1#32 = (i 2).val := trips1 i
  simp only [ht]
  rw [st_eq c i arg3 harg3 arg4 harg4 arg5 harg5 arg6 harg6 arg7 harg7 arg8 harg8 arg9 harg9 arg10 harg10 arg11 harg11 q K V _ le_rfl]
  rw [load3, load3]
  rfl

end Body

end Cert.AttnIdeal.Value

end
-- ==== Proof.AttnSpec.lean ====
/-
  The prompt attention as formulas: the result at a batch, a position, a head and a lane. Both programs are shown to
  hold it.
-/
module

public import proofs.«01_k».proof.Proof.Online
public import Idealize.ShloMosaic.Lib.Pointwise

@[expose] public section

noncomputable section

namespace Cert.AttnSpec

open Idealize.ShloMosaic Cert.Online

/-- One head of one batch of an array of rows: row `t`, lane `d`, as a real number. -/
def head (a : FVec Ideal ⟨2, ![16384, 512]⟩ .bf16) (b h : Fin 4) (t : Fin 4096) (d : Fin 128) : ℝ :=
  (a (ix2 (⟨4096 * b.val + t.val, by omega⟩ : Fin 16384) (⟨128 * h.val + d.val, by omega⟩ : Fin 512))).toReal

/-- Where the array is real, it is its head read back. -/
theorem head_coe (a : FVec Ideal ⟨2, ![16384, 512]⟩ .bf16) (ha : ∀ i, ∃ r : ℝ, a i = (r : EReal)) (b h : Fin 4) (t : Fin 4096) (d : Fin 128) :
    a (ix2 (⟨4096 * b.val + t.val, by omega⟩ : Fin 16384) (⟨128 * h.val + d.val, by omega⟩ : Fin 512)) = ((head a b h t d : ℝ) : EReal) := by
  obtain ⟨r, hr⟩ := ha (ix2 (⟨4096 * b.val + t.val, by omega⟩ : Fin 16384) (⟨128 * h.val + d.val, by omega⟩ : Fin 512))
  unfold head
  rw [hr, EReal.toReal_coe]

/-- The score of query `t` and key `u` in the first map: the lower half of the lanes. -/
def dotA (q k : Fin 4096 → Fin 128 → ℝ) (t u : Fin 4096) : ℝ := ∑ d : Fin 64, q t ⟨d.val, by omega⟩ * k u ⟨d.val, by omega⟩

/-- The score of query `t` and key `u` in the second map: the upper half of the lanes. -/
def dotB (q k : Fin 4096 → Fin 128 → ℝ) (t u : Fin 4096) : ℝ := ∑ d : Fin 64, q t ⟨64 + d.val, by omega⟩ * k u ⟨64 + d.val, by omega⟩

/-- The sum of the weights of the keys up to position `t`. -/
def total (x : Fin 4096 → ℝ) (t : Fin 4096) : ℝ := ∑ u : Fin 4096, weight (u.val ≤ t.val) (x u)

/-- The average of the values `v` up to position `t`, weighted by the exponentials of the scores `x`. -/
def avg (x : Fin 4096 → ℝ) (t : Fin 4096) (v : Fin 4096 → ℝ) : ℝ := (∑ u : Fin 4096, weight (u.val ≤ t.val) (x u) * v u) / total x t

theorem total_pos (x : Fin 4096 → ℝ) (t : Fin 4096) : 0 < total x t := by
  refine Finset.sum_pos' (fun u _ => ?_) ⟨t, Finset.mem_univ _, ?_⟩
  · unfold weight; split_ifs
    · exact (Real.exp_pos _).le
    · exact le_rfl
  · unfold weight; rw [if_pos le_rfl]; exact Real.exp_pos _

/-- The factor the second map is subtracted with. -/
def lam (l1 l2 l3 l4 : Fin 64 → EReal) : EReal :=
  Ideal.exp (∑ d, l1 d * l2 d) - Ideal.exp (∑ d, l3 d * l4 d) + Ideal.ofBits .f32 0x3E4CCCCD#32

/-- A row divided by its root mean square, times a gain, times the last factor of the layer. -/
def subln (o g : Fin 128 → EReal) (d : Fin 128) : EReal :=
  o d * Ideal.rsqrt (Ideal.div (∑ e, o e * o e) (Ideal.ofBits .f32 0x43000000#32) + Ideal.ofBits .f32 0x358637BD#32) * g d
    * Ideal.ofBits .f32 0x3F4CCCCD#32

/-- The result at batch `b`, position `t`, head `h`, lane `d`. -/
def out (q k v : FVec Ideal ⟨2, ![16384, 512]⟩ .bf16) (l1 l2 l3 l4 : FVec Ideal ⟨2, ![1, 64]⟩ .f32) (g : FVec Ideal ⟨2, ![1, 128]⟩ .f32)
    (b : Fin 4) (t : Fin 4096) (h : Fin 4) : Fin 128 → EReal :=
  subln (fun d => ((avg (dotA (head q b h) (head k b h) t) t (fun u => head v b h u d) : ℝ) : EReal)
      - lam (fun e => l1 (ix2 0 e)) (fun e => l2 (ix2 0 e)) (fun e => l3 (ix2 0 e)) (fun e => l4 (ix2 0 e))
        * ((avg (dotB (head q b h) (head k b h) t) t (fun u => head v b h u d) : ℝ) : EReal))
    (fun d => g (ix2 0 d))

/-- The result array: heads side by side in the last axis. -/
def G (q k v : FVec Ideal ⟨2, ![16384, 512]⟩ .bf16) (l1 l2 l3 l4 : FVec Ideal ⟨2, ![1, 64]⟩ .f32) (g : FVec Ideal ⟨2, ![1, 128]⟩ .f32) :
    FVec Ideal ⟨3, ![4, 4096, 512]⟩ .bf16 :=
  fun j => out q k v l1 l2 l3 l4 g (⟨(j 0).val, (j 0).isLt⟩ : Fin 4) (⟨(j 1).val, (j 1).isLt⟩ : Fin 4096)
    (⟨(j 2).val / 128, by have h : (j 2).val < 512 := (j 2).isLt; omega⟩ : Fin 4) (⟨(j 2).val % 128, by omega⟩ : Fin 128)

/-- The result array at a lane of a head. -/
theorem G_apply (q k v : FVec Ideal ⟨2, ![16384, 512]⟩ .bf16) (l1 l2 l3 l4 : FVec Ideal ⟨2, ![1, 64]⟩ .f32) (g : FVec Ideal ⟨2, ![1, 128]⟩ .f32)
    (b : Fin 4) (t : Fin 4096) (h : Fin 4) (d : Fin 128) :
    G q k v l1 l2 l3 l4 g (ix3 b t (⟨128 * h.val + d.val, by omega⟩ : Fin 512)) = out q k v l1 l2 l3 l4 g b t h d := by
  have e1 : (⟨(128 * h.val + d.val) / 128, by omega⟩ : Fin 4) = h := Fin.ext (by show (128 * h.val + d.val) / 128 = h.val; omega)
  have e2 : (⟨(128 * h.val + d.val) % 128, by omega⟩ : Fin 128) = d := Fin.ext (by show (128 * h.val + d.val) % 128 = d.val; omega)
  show out q k v l1 l2 l3 l4 g b t (⟨(128 * h.val + d.val) / 128, _⟩ : Fin 4) (⟨(128 * h.val + d.val) % 128, _⟩ : Fin 128) = _
  rw [e1, e2]

theorem ofBits_real : ∃ r : ℝ, Ideal.ofBits .f32 0x3E4CCCCD#32 = (r : EReal) :=
  ⟨(Ideal.ofBits .f32 0x3E4CCCCD#32).toReal, by simp [Ideal.ofBits, Ideal.ieee, -EReal.coe_mul]⟩

/-- The factor is real where its vectors are. -/
theorem lam_real (l1 l2 l3 l4 : Fin 64 → EReal) (h1 : ∀ i, ∃ r : ℝ, l1 i = (r : EReal)) (h2 : ∀ i, ∃ r : ℝ, l2 i = (r : EReal))
    (h3 : ∀ i, ∃ r : ℝ, l3 i = (r : EReal)) (h4 : ∀ i, ∃ r : ℝ, l4 i = (r : EReal)) : ∃ r : ℝ, lam l1 l2 l3 l4 = (r : EReal) := by
  choose r1 e1 using h1
  choose r2 e2 using h2
  choose r3 e3 using h3
  choose r4 e4 using h4
  obtain ⟨c, ec⟩ := ofBits_real
  refine ⟨Real.exp (∑ d, r1 d * r2 d) - Real.exp (∑ d, r3 d * r4 d) + c, ?_⟩
  unfold lam
  simp only [e1, e2, e3, e4, ec, ← EReal.coe_mul, ← coe_sum, Ideal.exp_coe, EReal.coe_add, EReal.coe_sub]

end Cert.AttnSpec

end
-- ==== Proof.AttnValue.lean ====
/-
  What the attention kernel's result array holds.
-/
module

public import proofs.«01_k».proof.Proof.AttnTrip
public import proofs.«01_k».proof.Proof.AttnSpec
public import proofs.«01_k».proof.Proof.Gen.AttnIdeal.Value
public import Idealize.ShloMosaic.Lib.Pipeline.ValueKit
public import Idealize.ShloMosaic.Lib.Claim

@[expose] public section

set_option maxRecDepth 16384

noncomputable section

namespace Cert.AttnIdeal.Value

open Idealize.ShloMosaic Idealize.ShloMosaic.TcCoe Idealize.SL.Sem
open Idealize.ShloMosaic.Pipeline (Dat)
open Cert.AttnIdeal Cert.AttnIdeal.Gen Cert.Online Cert.AttnSpec

/-- The last part of the kernel: the two quotients combined, normalised and scaled. -/
theorem pay1_apply (L1 : FVec Ideal S512x1 .f32) (A1 : FVec Ideal S512x128 .f32) (L2 : FVec Ideal S512x1 .f32) (A2 : FVec Ideal S512x128 .f32)
    (l1 l2 l3 l4 : Vec Ideal S1x64 .f32) (g : Vec Ideal S1x128 .f32) (r : Fin 512) (d : Fin 128) :
    k0_pay1 L1 A1 L2 A2 l1 l2 l3 l4 g (ix3 0 r d)
      = subln (fun e => Ideal.div (A1 (ix2 r e)) (L1 (ix2 r 0))
          - lam (fun e => l1 (ix2 0 e)) (fun e => l2 (ix2 0 e)) (fun e => l3 (ix2 0 e)) (fun e => l4 (ix2 0 e)) * Ideal.div (A2 (ix2 r e)) (L2 (ix2 r 0)))
        (fun e => g (ix2 0 e)) d := by
  unfold subln lam
  pointwise! [k0_pay1]

variable (m : (ℓ : Loc nD τ sig) → Buf (Elt Ideal) ℓ)

/-- The blocks each window visits, and the grid point's last coordinate. -/
theorem idx : ∀ t : Fin cfg0.N, win0_0.index t = ![t.val / 32, t.val % 8, t.val / 8 % 4] ∧ win0_1.index t = ![t.val / 32, 0, t.val / 8 % 4]
    ∧ win0_2.index t = ![t.val / 32, 0, t.val / 8 % 4] ∧ win0_3.index t = ![0, 0] ∧ win0_4.index t = ![0, 0] ∧ win0_5.index t = ![0, 0]
    ∧ win0_6.index t = ![0, 0] ∧ win0_7.index t = ![0, 0] ∧ win0_8.index t = ![t.val / 32, t.val % 8, t.val / 8 % 4]
    ∧ (grid0.coords t 2).val = t.val % 8 :=
  (by decide +kernel : ∀ t : Fin grid0.N, _)

section Point

variable (c : Dev nD) (t : Fin cfg0.N)

theorem t_lt : t.val < 128 := t.isLt

/-- The batch of a grid point. -/
def pb : Fin 4 := ⟨t.val / 32, by have := t_lt t; omega⟩

/-- The head of a grid point. -/
def ph : Fin 4 := ⟨t.val / 8 % 4, by omega⟩

/-- The position in the sequence of row `r` of a grid point. -/
def pr (r : Fin 512) : Fin 4096 := ⟨512 * (t.val % 8) + r.val, by omega⟩

theorem q_blk (r : Fin 512) (d : Fin 128) : iblk m c 0 t (ix3 0 r d)
    = m ((c : Thread nD τ).loc main_arg0) (ix2 (⟨4096 * (pb t).val + (pr t r).val, by omega⟩ : Fin 16384) (⟨128 * (ph t).val + d.val, by omega⟩ : Fin 512)) := by
  have ht := t_lt t
  unfold pb pr ph
  blk_simp [iblk, idx t]
  entry_read
  pointwise
  blk_ext [idx t]

theorem k_blk (u : Fin 4096) (d : Fin 128) : iblk m c 1 t (ix3 0 u d)
    = m ((c : Thread nD τ).loc main_arg1) (ix2 (⟨4096 * (pb t).val + u.val, by omega⟩ : Fin 16384) (⟨128 * (ph t).val + d.val, by omega⟩ : Fin 512)) := by
  have ht := t_lt t
  unfold pb ph
  blk_simp [iblk, idx t]
  entry_read
  pointwise
  blk_ext [idx t]

theorem v_blk (u : Fin 4096) (d : Fin 128) : iblk m c 2 t (ix3 0 u d)
    = m ((c : Thread nD τ).loc main_arg2) (ix2 (⟨4096 * (pb t).val + u.val, by omega⟩ : Fin 16384) (⟨128 * (ph t).val + d.val, by omega⟩ : Fin 512)) := by
  have ht := t_lt t
  unfold pb ph
  blk_simp [iblk, idx t]
  entry_read
  pointwise
  blk_ext [idx t]

theorem blk3 : iblk m c 3 t = m ((c : Thread nD τ).loc main_arg3) := by blk_ext! [iblk, V, idx t]
theorem blk4 : iblk m c 4 t = m ((c : Thread nD τ).loc main_arg4) := by blk_ext! [iblk, V, idx t]
theorem blk5 : iblk m c 5 t = m ((c : Thread nD τ).loc main_arg5) := by blk_ext! [iblk, V, idx t]
theorem blk6 : iblk m c 6 t = m ((c : Thread nD τ).loc main_arg6) := by blk_ext! [iblk, V, idx t]
theorem blk7 : iblk m c 7 t = m ((c : Thread nD τ).loc main_arg7) := by blk_ext! [iblk, V, idx t]

end Point

section Acc

variable (q k v : Fin 4096 → Fin 128 → ℝ) (n : Fin 8)

/-- Row `r` of block `n` of a sequence. -/
def row (n : Fin 8) (r : Fin 512) : Fin 4096 := ⟨512 * n.val + r.val, by omega⟩

theorem pos_val (u : Fin 4096) : pos u.val = u := Fin.ext (Nat.mod_eq_of_lt u.isLt)

theorem dot1_eq (r : Fin 512) (u : Fin 4096) : dot1 (fun r d => q (row n r) d) k r u.val = dotA q k (row n r) u := by
  unfold dot1 dotA; rw [pos_val]

theorem dot2_eq (r : Fin 512) (u : Fin 4096) : dot2 (fun r d => q (row n r) d) k r u.val = dotB q k (row n r) u := by
  unfold dot2 dotB; rw [pos_val]

/-- The sum of the weights a query has seen after its diagonal block. -/
theorem total_eq (x : ℕ → ℝ) (y : Fin 4096 → ℝ) (hxy : ∀ u : Fin 4096, x u.val = y u) (r : Fin 512) :
    ∑ t ∈ Finset.range (512 * n.val), Real.exp (x t) + ∑ j : Fin 512, weight (j.val ≤ r.val) (x (512 * n.val + j.val)) = total y (row n r) := by
  unfold weight
  rw [sum_seen (fun t => Real.exp (x t)) n r]
  unfold total weight
  refine Finset.sum_congr rfl fun u _ => ?_
  simp only [hxy]
  rfl

/-- The sum of the weighted values a query has seen after its diagonal block. -/
theorem weighted_eq (x : ℕ → ℝ) (y : Fin 4096 → ℝ) (hxy : ∀ u : Fin 4096, x u.val = y u) (w : Fin 4096 → ℝ) (r : Fin 512) :
    ∑ t ∈ Finset.range (512 * n.val), Real.exp (x t) * w (pos t)
        + ∑ j : Fin 512, weight (j.val ≤ r.val) (x (512 * n.val + j.val)) * w (pos (512 * n.val + j.val))
      = ∑ u : Fin 4096, weight (u.val ≤ (row n r).val) (y u) * w u := by
  unfold weight
  simp only [ite_mul, zero_mul]
  rw [sum_seen (fun t => Real.exp (x t) * w (pos t)) n r]
  refine Finset.sum_congr rfl fun u _ => ?_
  simp only [hxy, pos_val]
  rfl

/-- The block written for block `n` of the queries of one head. -/
theorem block_eq (Q : Vec Ideal S1x512x128 .bf16) (K V : Vec Ideal S1x4096x128 .bf16) (l1 l2 l3 l4 : Vec Ideal S1x64 .f32) (g : Vec Ideal S1x128 .f32)
    (hq : ∀ r d, Q (ix3 0 r d) = ((q (row n r) d : ℝ) : EReal)) (hk : ∀ u d, K (ix3 0 u d) = ((k u d : ℝ) : EReal))
    (hv : ∀ u d, V (ix3 0 u d) = ((v u d : ℝ) : EReal)) (r : Fin 512) (d : Fin 128) :
    k0_pay1 (accLast Q K V n.val).2.1 (accLast Q K V n.val).2.2.1 (accLast Q K V n.val).2.2.2.2.1 (accLast Q K V n.val).2.2.2.2.2
        l1 l2 l3 l4 g (ix3 0 r d)
      = subln (fun d => ((avg (dotA q k (row n r)) (row n r) (fun u => v u d) : ℝ) : EReal)
          - lam (fun e => l1 (ix2 0 e)) (fun e => l2 (ix2 0 e)) (fun e => l3 (ix2 0 e)) (fun e => l4 (ix2 0 e))
            * ((avg (dotB q k (row n r)) (row n r) (fun u => v u d) : ℝ) : EReal))
        (fun d => g (ix2 0 d)) d := by
  rw [pay1_apply]
  congr 1
  funext e
  have h := accLast_holds Q K V (fun r d => q (row n r) d) k v hq hk hv r e n.val
  have hA := h.1
  have hB := h.2
  rw [total_eq n _ _ (dot1_eq q k n r) r, weighted_eq n _ _ (dot1_eq q k n r) (fun u => v u e) r] at hA
  rw [total_eq n _ _ (dot2_eq q k n r) r, weighted_eq n _ _ (dot2_eq q k n r) (fun u => v u e) r] at hB
  rw [hA.div (total_pos _ _), hB.div (total_pos _ _)]
  rfl

end Acc

/-- The result array of the kernel, on real arguments. -/
theorem final (c : Dev nD) (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal)) :
    (dats m 0 c).arrAt 8 cfg0.N = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine (dats m 0 c).arrAt_eq_of_covers 8 _ (by decide +kernel) fun t _ y => ?_
  blk_simp
  rw [after0_8]
  have ht := t_lt t
  have hn : (grid0.coords t 2).val = t.val % 8 := (idx t).2.2.2.2.2.2.2.2.2
  unfold outsAt0
  rw [out_eq, hn]
  idx_vars y
  have e := block_eq (head (m ((c : Thread nD τ).loc main_arg0)) (pb t) (ph t)) (head (m ((c : Thread nD τ).loc main_arg1)) (pb t) (ph t))
    (head (m ((c : Thread nD τ).loc main_arg2)) (pb t) (ph t)) (⟨t.val % 8, by omega⟩ : Fin 8) (iblk m c 0 t) (iblk m c 1 t) (iblk m c 2 t)
    (iblk m c 3 t) (iblk m c 4 t) (iblk m c 5 t) (iblk m c 6 t) (iblk m c 7 t)
    (fun r d => (q_blk m c t r d).trans (head_coe _ h0 (pb t) (ph t) (pr t r) d))
    (fun u d => (k_blk m c t u d).trans (head_coe _ h1 (pb t) (ph t) u d))
    (fun u d => (v_blk m c t u d).trans (head_coe _ h2 (pb t) (ph t) u d))
  rw [blk3, blk4, blk5, blk6, blk7] at e ⊢
  obtain rfl : y0 = 0 := by omega
  rw [e]
  have hx : ((View.whole main_v3).slice (win0_8.rect t)).emb (ix3 0 y1 y2)
      = ix3 (pb t) (row ⟨t.val % 8, by omega⟩ y1) (⟨128 * (ph t).val + y2.val, by omega⟩ : Fin 512) := by
    unfold pb ph row
    blk_ext [idx t]
  rw [hx, G_apply]
  rfl

end Cert.AttnIdeal.Value

end
-- ==== Proof.AttnRefValue.lean ====
/-
  What the plain attention computes, array by array, at an index.
-/
module

public import proofs.«01_k».proof.Proof.AttnSpec
public import proofs.«01_k».proof.Proof.Gen.AttnRefIdeal.Run
public import Idealize.ShloMosaic.Lib.Pointwise
public import Idealize.ShloMosaic.Lib.IdealHost
public import Idealize.ShloMosaic.Lib.WordCmp
public import Idealize.ShloMosaic.Lib.Pipeline.ValueKit

@[expose] public section

set_option maxRecDepth 16384

noncomputable section

namespace Cert.AttnRefIdeal.Value

open Idealize.ShloMosaic Idealize.ShloMosaic.TcCoe Idealize.SL.Sem
open Cert.AttnRefIdeal Cert.AttnRefIdeal.Gen Cert.Online Cert.AttnSpec

/-- The products of queries and keys, per batch, head and map. -/
def dots (q k : FVec Ideal S16384x512 .bf16) : FVec Ideal S4x4x2x4096x4096 .f32 :=
  Host.dotGeneral dot_S4x4096x4x2x64_S4x4096x4x2x64_S4x4x2x4096x4096_4_4_1_1_023_023 none
    (shapeCast S4x4096x4x2x64 (extf .f32 q bitsLt_bf16_f32) shapeCasts_S16384x512_S4x4096x4x2x64)
    (shapeCast S4x4096x4x2x64 (extf .f32 k bitsLt_bf16_f32) shapeCasts_S16384x512_S4x4096x4x2x64)

/-- Where a key is no later than a query. -/
def seen : Vec Ideal S4096x4096 .i1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The scores, the bottom where a key is later than the query. -/
def scores (q k : FVec Ideal S16384x512 .bf16) : FVec Ideal S4x4x2x4096x4096 .f32 :=
  select (broadcastInDim S4x4x2x4096x4096 ![3, 4] bcast_S4096x4096_S4x4x2x4096x4096_3_4 seen) (dots q k)
    (broadcastInDim S4x4x2x4096x4096 ![] bcast_S_S4x4x2x4096x4096 (id (constant S_ .f32 0xFF800000#32)))

/-- The maximum of each row. -/
def rowMax (s : FVec Ideal S4x4x2x4096x4096 .f32) : FVec Ideal S4x4x2x4096 .f32 :=
  Host.reduce FloatOps.maximumf s (constant S_ .f32 0xFF800000#32) reducesTo_S4x4x2x4096x4096_S4x4x2x4096_d4 h_S_

/-- The largest score of each row. -/
def top (s : FVec Ideal S4x4x2x4096x4096 .f32) : FVec Ideal S4x4x2x4096 .f32 :=
  maximumf (broadcastInDim S4x4x2x4096 ![] bcast_S_S4x4x2x4096 (constant S_ .f32 0xFF800000#32)) (rowMax s)

/-- A row statistic at every entry of its row. -/
def wide (x : FVec Ideal S4x4x2x4096 .f32) : FVec Ideal S4x4x2x4096x4096 .f32 :=
  broadcastInDim S4x4x2x4096x4096 ![0, 1, 2, 3, 4] bcast_S4x4x2x4096x1_S4x4x2x4096x4096_0_1_2_3_4
    (broadcastInDim S4x4x2x4096x1 ![0, 1, 2, 3] bcast_S4x4x2x4096_S4x4x2x4096x1_0_1_2_3 x)

/-- The exponentials of the scores below their row's largest. -/
def exps (s : FVec Ideal S4x4x2x4096x4096 .f32) : FVec Ideal S4x4x2x4096x4096 .f32 := Host.exp (subf s (wide (top s)))

/-- The softmax of every row. -/
def soft (s : FVec Ideal S4x4x2x4096x4096 .f32) : FVec Ideal S4x4x2x4096x4096 .f32 :=
  Host.divf (exps s) (wide (Host.reduceAdd (exps s) (constant S_ .f32 0x00000000#32) reducesTo_S4x4x2x4096x4096_S4x4x2x4096_d4 h_S_))

/-- The factor of the second map. -/
def factor (l1 l2 l3 l4 : FVec Ideal S1x64 .f32) : FVec Ideal S_ .f32 :=
  addf (subf (Host.exp (Host.reduceAdd (mulf l1 l2) (constant S_ .f32 0x00000000#32) reducesTo_S1x64_S_d0_1 h_S_))
      (Host.exp (Host.reduceAdd (mulf l3 l4) (constant S_ .f32 0x00000000#32) reducesTo_S1x64_S_d0_1 h_S_)))
    (constant S_ .f32 0x3E4CCCCD#32)

/-- The first map less the factor times the second. -/
def maps (p : FVec Ideal S4x4x2x4096x4096 .f32) (f : FVec Ideal S_ .f32) : FVec Ideal S4x4x4096x4096 .f32 :=
  subf (shapeCast S4x4x4096x4096 (extractStridedSlice S4x4x1x4096x4096 ![0, 0, 0, 0, 0] p slices_S4x4x2x4096x4096_S4x4x1x4096x4096_0_0_0_0_0) shapeCasts_S4x4x1x4096x4096_S4x4x4096x4096)
    (mulf (broadcastInDim S4x4x4096x4096 ![] bcast_S_S4x4x4096x4096 f)
      (shapeCast S4x4x4096x4096 (extractStridedSlice S4x4x1x4096x4096 ![0, 0, 1, 0, 0] p slices_S4x4x2x4096x4096_S4x4x1x4096x4096_0_0_1_0_0) shapeCasts_S4x4x1x4096x4096_S4x4x4096x4096))

/-- The maps against the values. -/
def mixed (v : FVec Ideal S16384x512 .bf16) (a : FVec Ideal S4x4x4096x4096 .f32) : FVec Ideal S4x4096x4x128 .f32 :=
  transpose S4x4096x4x128 [0, 3, 1, 2]
    (Host.dotGeneral dot_S4x4096x4x128_S4x4x4096x4096_S4x4x128x4096_1_3_3_2_02_01 none
      (shapeCast S4x4096x4x128 (extf .f32 v bitsLt_bf16_f32) shapeCasts_S16384x512_S4x4096x4x128) a)
    transposes_S4x4x128x4096_S4x4096x4x128_0_3_1_2

/-- The last part: normalised, scaled, heads side by side. -/
def last (o : FVec Ideal S4x4096x4x128 .f32) (g : FVec Ideal S1x128 .f32) : FVec Ideal S4x4096x512 .bf16 :=
  truncf .bf16 (shapeCast S4x4096x512 (mulf (mulf (mulf o
    (broadcastInDim S4x4096x4x128 ![0, 1, 2, 3] bcast_S4x4096x4x1_S4x4096x4x128_0_1_2_3
      (Host.rsqrt (addf (Host.divf (broadcastInDim S4x4096x4x1 ![0, 1, 2] bcast_S4x4096x4_S4x4096x4x1_0_1_2
          (Host.reduceAdd (mulf o o) (constant S_ .f32 0x00000000#32) reducesTo_S4x4096x4x128_S4x4096x4_d3 h_S_))
        (broadcastInDim S4x4096x4x1 ![] bcast_S_S4x4096x4x1 (constant S_ .f32 0x43000000#32)))
        (broadcastInDim S4x4096x4x1 ![] bcast_S_S4x4096x4x1 (constant S_ .f32 0x358637BD#32))))))
    (broadcastInDim S4x4096x4x128 ![0, 1, 2, 3] bcast_S1x1x1x128_S4x4096x4x128_0_1_2_3
      (broadcastInDim S1x1x1x128 ![3] bcast_S128_S1x1x1x128_3 (shapeCast S128 g shapeCasts_S1x128_S128))))
    (broadcastInDim S4x4096x4x128 ![] bcast_S_S4x4096x4x128 (constant S_ .f32 0x3F4CCCCD#32)))
    shapeCasts_S4x4096x4x128_S4x4096x512) bitsLt_bf16_f32

/-- The result of the plain attention is these arrays composed. -/
theorem res_eq (m : (ℓ : Loc nD τ sig) → Buf (Elt Ideal) ℓ) (c : Dev nD) :
    res_out0 m c = last (mixed (m ((c.tc : Thread nD τ).loc main_arg2))
      (maps (soft (scores (m ((c.tc : Thread nD τ).loc main_arg0)) (m ((c.tc : Thread nD τ).loc main_arg1))))
        (factor (m ((c.tc : Thread nD τ).loc main_arg3)) (m ((c.tc : Thread nD τ).loc main_arg4)) (m ((c.tc : Thread nD τ).loc main_arg5)) (m ((c.tc : Thread nD τ).loc main_arg6)))))
      (m ((c.tc : Thread nD τ).loc main_arg7)) := rfl

theorem seen_apply (t u : Fin 4096) : seen (ix2 t u) = BitVec.ofBool (decide (u.val ≤ t.val)) := by
  have h1 : u.val < 4096 := u.isLt
  have h2 : t.val < 4096 := t.isLt
  unfold seen
  pointwise
  exact WordCmp.cmpi_sle_ofNat (by omega) (by omega)

theorem dots0_apply (q k : FVec Ideal S16384x512 .bf16) (b h : Fin 4) (t u : Fin 4096) :
    dots q k (ix5 b h 0 t u) = ∑ d : Fin 64, q (ix2 (⟨4096 * b.val + t.val, by omega⟩ : Fin 16384) (⟨128 * h.val + d.val, by omega⟩ : Fin 512))
      * k (ix2 (⟨4096 * b.val + u.val, by omega⟩ : Fin 16384) (⟨128 * h.val + d.val, by omega⟩ : Fin 512)) := by
  unfold dots
  pointwise
  blk_point []

theorem dots1_apply (q k : FVec Ideal S16384x512 .bf16) (b h : Fin 4) (t u : Fin 4096) :
    dots q k (ix5 b h 1 t u) = ∑ d : Fin 64, q (ix2 (⟨4096 * b.val + t.val, by omega⟩ : Fin 16384) (⟨128 * h.val + (64 + d.val), by omega⟩ : Fin 512))
      * k (ix2 (⟨4096 * b.val + u.val, by omega⟩ : Fin 16384) (⟨128 * h.val + (64 + d.val), by omega⟩ : Fin 512)) := by
  unfold dots
  pointwise
  blk_point []

theorem scores_apply (q k : FVec Ideal S16384x512 .bf16) (b h : Fin 4) (c : Fin 2) (t u : Fin 4096) :
    scores q k (ix5 b h c t u) = if u.val ≤ t.val then dots q k (ix5 b h c t u) else ⊥ := by
  have e : Ideal.ofBits .f32 0xFF800000#32 = ⊥ := by simp [Ideal.ofBits, Ideal.ieee, -EReal.coe_mul]
  unfold scores
  pointwise
  show Scalar.select (seen (ix2 t u)) (dots q k (ix5 b h c t u)) (Ideal.ofBits .f32 0xFF800000#32) = _
  rw [seen_apply, e]
  by_cases h : u.val ≤ t.val
  · rw [if_pos h]; simp [Scalar.select, h]
  · rw [if_neg h]; simp [Scalar.select, h]

/-- The fold by the maximum operation is the fold by the order's maximum. -/
theorem fold_max {ι : Type} (U : Finset ι) (b : EReal) (f : ι → EReal) :
    (U.fold (FloatOps.maximumf (F := Ideal) (φ := .f32)) b f : EReal) = U.fold max b f := rfl

theorem rowMax_apply (s : FVec Ideal S4x4x2x4096x4096 .f32) (b h : Fin 4) (c : Fin 2) (t : Fin 4096) :
    rowMax s (ix4 b h c t)
      = (Finset.univ.fold (FloatOps.maximumf (F := Ideal) (φ := .f32)) (Ideal.ofBits .f32 0xFF800000#32) fun u : Fin 4096 => s (ix5 b h c t u)) := by
  unfold rowMax
  rw [Host.reduce_eq_fold, Shape.ReducesTo.fold_fiber_r5_a4]
  generalize hU : (Finset.univ : Finset (Fin 4096)) = U
  exact congrArg (fun f => Finset.fold (FloatOps.maximumf (F := Ideal) (φ := .f32)) (Ideal.ofBits .f32 0xFF800000#32) f U) (funext fun u => rfl)

theorem max_splat (x : FVec Ideal S_ .f32) (R : FVec Ideal S4x4x2x4096 .f32) (b h : Fin 4) (c : Fin 2) (t : Fin 4096) :
    maximumf (broadcastInDim S4x4x2x4096 ![] bcast_S_S4x4x2x4096 x) R (ix4 b h c t) = max (x ix0) (R (ix4 b h c t)) := by
  pointwise!

theorem splat_apply (w : BitVec 32) : (constant S_ .f32 w : FVec Ideal S_ .f32) ix0 = Ideal.ofBits .f32 w := rfl

theorem top_max (s : FVec Ideal S4x4x2x4096x4096 .f32) (b h : Fin 4) (c : Fin 2) (t : Fin 4096) :
    top s (ix4 b h c t) = max (Ideal.ofBits .f32 0xFF800000#32) (rowMax s (ix4 b h c t)) := by
  unfold top
  rw [max_splat, splat_apply]

theorem ofBits_bot : Ideal.ofBits .f32 0xFF800000#32 = ⊥ := by simp [Ideal.ofBits, Ideal.ieee, -EReal.coe_mul]

theorem top_apply (s : FVec Ideal S4x4x2x4096x4096 .f32) (b h : Fin 4) (c : Fin 2) (t : Fin 4096) :
    top s (ix4 b h c t) = max ⊥ (Finset.univ.fold max ⊥ fun u : Fin 4096 => s (ix5 b h c t u)) := by
  generalize hs : (fun u : Fin 4096 => s (ix5 b h c t u)) = f
  refine (top_max s b h c t).trans ?_
  refine (congrArg (max (Ideal.ofBits .f32 0xFF800000#32)) (rowMax_apply s b h c t)).trans ?_
  rw [hs, ofBits_bot]
  generalize (Finset.univ : Finset (Fin 4096)) = U
  exact congrArg (max ⊥) (fold_max U ⊥ f)

theorem soft_apply (s : FVec Ideal S4x4x2x4096x4096 .f32) (b h : Fin 4) (c : Fin 2) (t u : Fin 4096) :
    soft s (ix5 b h c t u) = Ideal.div (Ideal.exp (s (ix5 b h c t u) - top s (ix4 b h c t)))
      (∑ w : Fin 4096, Ideal.exp (s (ix5 b h c t w) - top s (ix4 b h c t))) := by
  generalize hT : top s = T
  unfold soft exps wide
  rw [hT]
  pointwise!

theorem factor_apply (l1 l2 l3 l4 : FVec Ideal S1x64 .f32) (i : S_.Idx) :
    factor l1 l2 l3 l4 i = lam (fun e => l1 (ix2 0 e)) (fun e => l2 (ix2 0 e)) (fun e => l3 (ix2 0 e)) (fun e => l4 (ix2 0 e)) := by
  unfold factor lam
  pointwise
  simp only [Fin.sum_univ_one]

theorem maps_apply (p : FVec Ideal S4x4x2x4096x4096 .f32) (f : FVec Ideal S_ .f32) (f₀ : EReal) (hf : ∀ i, f i = f₀) (b h : Fin 4) (t u : Fin 4096) :
    maps p f (ix4 b h t u) = p (ix5 b h 0 t u) - f₀ * p (ix5 b h 1 t u) := by
  unfold maps
  pointwise
  rw [hf]

theorem mixed_apply (v : FVec Ideal S16384x512 .bf16) (a : FVec Ideal S4x4x4096x4096 .f32) (b h : Fin 4) (t : Fin 4096) (d : Fin 128) :
    mixed v a (ix4 b t h d) = ∑ u : Fin 4096, v (ix2 (⟨4096 * b.val + u.val, by omega⟩ : Fin 16384) (⟨128 * h.val + d.val, by omega⟩ : Fin 512)) * a (ix4 b h t u) := by
  unfold mixed
  pointwise
  blk_point []

theorem last_apply (o : FVec Ideal S4x4096x4x128 .f32) (g : FVec Ideal S1x128 .f32) (b h : Fin 4) (t : Fin 4096) (d : Fin 128) :
    last o g (ix3 b t (⟨128 * h.val + d.val, by omega⟩ : Fin 512)) = subln (fun d => o (ix4 b t h d)) (fun d => g (ix2 0 d)) d := by
  unfold last subln
  pointwise

section Final

variable (q k v : FVec Ideal S16384x512 .bf16) (hq : ∀ i, ∃ r : ℝ, q i = (r : EReal)) (hk : ∀ i, ∃ r : ℝ, k i = (r : EReal))
  (hv : ∀ i, ∃ r : ℝ, v i = (r : EReal))

include hq hk in
/-- On real arguments the masked scores of the first map. -/
theorem scores0 (b h : Fin 4) (t u : Fin 4096) :
    scores q k (ix5 b h 0 t u) = score (u.val ≤ t.val) (dotA (head q b h) (head k b h) t u) := by
  rw [scores_apply, dots0_apply]
  unfold score dotA
  rw [coe_sum]
  refine congrArg (fun z => if u.val ≤ t.val then z else ⊥) (Finset.sum_congr rfl fun d _ => ?_)
  rw [EReal.coe_mul, ← head_coe q hq, ← head_coe k hk]

include hq hk in
/-- On real arguments the masked scores of the second map. -/
theorem scores1 (b h : Fin 4) (t u : Fin 4096) :
    scores q k (ix5 b h 1 t u) = score (u.val ≤ t.val) (dotB (head q b h) (head k b h) t u) := by
  rw [scores_apply, dots1_apply]
  unfold score dotB
  rw [coe_sum]
  refine congrArg (fun z => if u.val ≤ t.val then z else ⊥) (Finset.sum_congr rfl fun d _ => ?_)
  rw [EReal.coe_mul, ← head_coe q hq, ← head_coe k hk]

/-- A row of the softmax whose scores are real up to the query's position. -/
theorem soft_row (s : FVec Ideal S4x4x2x4096x4096 .f32) (b h : Fin 4) (c : Fin 2) (t : Fin 4096) (x : Fin 4096 → ℝ)
    (hs : ∀ u, s (ix5 b h c t u) = score (u.val ≤ t.val) (x u)) (u : Fin 4096) :
    soft s (ix5 b h c t u) = ((weight (u.val ≤ t.val) (x u) / total x t : ℝ) : EReal) := by
  rw [soft_apply]
  have e := top_apply s b h c t
  simp only [hs] at e ⊢
  exact softmax_row (fun u : Fin 4096 => u.val ≤ t.val) x t le_rfl _ e u

/-- Two weighted averages combined are the combination of the averages. -/
theorem combine (v w₁ w₂ : Fin 4096 → ℝ) (T₁ T₂ l : ℝ) :
    ∑ u, (v u : EReal) * (((w₁ u / T₁ : ℝ) : EReal) - (l : EReal) * ((w₂ u / T₂ : ℝ) : EReal))
      = (((∑ u, w₁ u * v u) / T₁ : ℝ) : EReal) - (l : EReal) * (((∑ u, w₂ u * v u) / T₂ : ℝ) : EReal) := by
  simp only [← EReal.coe_mul, ← EReal.coe_sub, ← coe_sum]
  congr 1
  rw [Finset.sum_div, Finset.sum_div, Finset.mul_sum, ← Finset.sum_sub_distrib]
  refine Finset.sum_congr rfl fun u _ => ?_
  ring

include hq hk hv in
/-- The plain attention on real arguments. -/
theorem last_eq (l1 l2 l3 l4 : FVec Ideal S1x64 .f32) (g : FVec Ideal S1x128 .f32) (h1 : ∀ i, ∃ r : ℝ, l1 i = (r : EReal))
    (h2 : ∀ i, ∃ r : ℝ, l2 i = (r : EReal)) (h3 : ∀ i, ∃ r : ℝ, l3 i = (r : EReal)) (h4 : ∀ i, ∃ r : ℝ, l4 i = (r : EReal)) :
    last (mixed v (maps (soft (scores q k)) (factor l1 l2 l3 l4))) g = G q k v l1 l2 l3 l4 g := by
  funext j
  idx_vars j
  obtain ⟨l, hl⟩ := lam_real (fun e => l1 (ix2 0 e)) (fun e => l2 (ix2 0 e)) (fun e => l3 (ix2 0 e)) (fun e => l4 (ix2 0 e))
    (fun _ => h1 _) (fun _ => h2 _) (fun _ => h3 _) (fun _ => h4 _)
  obtain ⟨h, d, rfl⟩ : ∃ (h : Fin 4) (d : Fin 128), j2 = (⟨128 * h.val + d.val, by omega⟩ : Fin 512) :=
    ⟨⟨j2.val / 128, by omega⟩, ⟨j2.val % 128, by omega⟩, Fin.ext (by show j2.val = 128 * (j2.val / 128) + j2.val % 128; omega)⟩
  rw [last_apply, G_apply]
  unfold out
  congr 1
  funext e
  rw [mixed_apply, hl]
  simp only [maps_apply _ _ _ (fun i => (factor_apply l1 l2 l3 l4 i).trans hl), head_coe v hv,
    soft_row _ _ _ _ _ _ (fun u => scores0 q k hq hk j0 h j1 u), soft_row _ _ _ _ _ _ (fun u => scores1 q k hq hk j0 h j1 u)]
  exact combine _ _ _ _ _ _

end Final

end Cert.AttnRefIdeal.Value

end
-- ==== Proof.AttnPre.lean ====
/-
  What the precondition says of the arguments: every entry of the queries, keys, values and of the four vectors that
  `lambda` is made of is a real number.
-/
module

public import proofs.«01_k».proof.Proof.Gen.Pre_finite
public import Idealize.ShloMosaic.Lib.ReduceAll
public import Idealize.ShloMosaic.Lib.Pointwise
public import Idealize.ShloMosaic.Lib.IdealHost

@[expose] public section

set_option maxRecDepth 16384

noncomputable section

namespace Cert.Pre_finite.Value

open Idealize.ShloMosaic Idealize.ShloMosaic.TcCoe Idealize.SL.Sem
open Cert.Pre_finite Cert.Pre_finite.Gen

/-- A value whose absolute value compares below the positive infinity is a real number. -/
theorem real_of_abs_lt (x : EReal) (h : Ideal.cmp .olt (max x (-x)) (Ideal.ofBits .f32 0x7F800000#32) = 1#1) :
    ∃ r : ℝ, x = (r : EReal) := by
  have e : Ideal.ofBits .f32 0x7F800000#32 = ⊤ := by simp [Ideal.ofBits, Ideal.ieee, -EReal.coe_mul]
  rw [e] at h
  have hlt : max x (-x) < ⊤ := by
    by_contra hn
    simp [Ideal.cmp, hn] at h
  refine ⟨x.toReal, (EReal.coe_toReal ?_ ?_).symm⟩ <;> rintro rfl <;> simp at hlt

/-- The precondition: the arguments it is stated of are real at every index. -/
theorem real_of_fn (a0 a1 a2 : FVec Ideal S16384x512 .bf16) (a3 a4 a5 a6 : FVec Ideal S1x64 .f32) (a7 : FVec Ideal S1x128 .f32)
    (h : Cert.Pre_finite.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  haveI : Subsingleton S_.Idx := ⟨fun a b => funext fun k => k.elim0⟩
  have h0 := congrFun h (Shape.Idx.first h_S_)
  unfold fn fn_part1 fn_part2 at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun i => real_of_abs_lt _ (Host.reduce_andi_all _ _ _ _ _ h0 i), fun i => real_of_abs_lt _ (Host.reduce_andi_all _ _ _ _ _ h1 i),
    fun i => real_of_abs_lt _ (Host.reduce_andi_all _ _ _ _ _ h2 i), fun i => real_of_abs_lt _ (Host.reduce_andi_all _ _ _ _ _ h3 i),
    fun i => real_of_abs_lt _ (Host.reduce_andi_all _ _ _ _ _ h4 i), fun i => real_of_abs_lt _ (Host.reduce_andi_all _ _ _ _ _ h5 i),
    fun i => real_of_abs_lt _ (Host.reduce_andi_all _ _ _ _ _ h6 i)⟩

end Cert.Pre_finite.Value

end
-- ==== Proof.AttnClaim.lean ====
/-
  The attention's claims: the kernel and the plain attention hold the same array.
-/
module

public import proofs.«01_k».proof.Defs
public import proofs.«01_k».proof.Proof.AttnValue
public import proofs.«01_k».proof.Proof.AttnRefValue
public import proofs.«01_k».proof.Proof.AttnPre
public import proofs.«01_k».proof.Proof.Gen.Attn.Frame
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The plain attention ends and leaves its arguments. -/
theorem attn_ref_frame : Cert.quiescent_AttnRefIdeal :=
  fun m g _ => (θ_run _ _ _).mono (fun r h => ⟨fun c => (h c).2, sem_eq_zero_of_no_sems (by decide) _⟩) (Cert.AttnRefIdeal.Value.run m g)

/-- The kernel and the plain attention give the same array. -/
theorem attn_eq :
    Cert.algebraic_AttnIdeal_AttnRefIdeal_pre_finite := by
  pair_intro
  · run_from Cert.AttnIdeal.Value.run_blocks m g
  · run_from Cert.AttnRefIdeal.Value.run m' g'
    obtain ⟨h0, h1, h2, h3, h4, h5, h6⟩ := Cert.Pre_finite.Value.real_of_fn _ _ _ _ _ _ _ _ (hpre c)
    obtain ⟨a0, a1, a2, a3, a4, a5, a6, a7⟩ := hagree c
    refine (Cert.AttnRefIdeal.Value.res_eq m' c).trans ?_
    rw [a0, a1, a2, a3, a4, a5, a6, a7, Cert.AttnIdeal.Value.final m c h0 h1 h2]
    exact Cert.AttnRefIdeal.Value.last_eq _ _ _ h0 h1 h2 _ _ _ _ _ h3 h4 h5 h6

end Cert.Proof

end
-- ==== Proof.InprojBlocks.lean ====
/-
  The blocks the input projection reads, at coordinates of the arguments.
-/
module

public import proofs.«01_k».proof.Proof.Gen.InprojIdeal.Value
public import Idealize.ShloMosaic.Lib.Pipeline.ValueKit
public import Idealize.ShloMosaic.Lib.Claim
public import Idealize.ShloMosaic.Lib.Pointwise
public import Idealize.ShloMosaic.Lib.IdealHost

@[expose] public section

set_option maxRecDepth 16384

noncomputable section

namespace Cert.InprojIdeal.Value

open Idealize.ShloMosaic Idealize.ShloMosaic.TcCoe Idealize.SL.Sem
open Idealize.ShloMosaic.Pipeline (Dat)
open Cert.InprojIdeal Cert.InprojIdeal.Gen

variable (m : (ℓ : Loc nD τ sig) → Buf (Elt Ideal) ℓ)

/-- The blocks each window visits. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![0, t.val] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

variable (c : Dev nD) (t : Fin cfg0.N)

theorem t_lt : t.val < 64 := t.isLt

theorem x_blk (r : Fin 256) (k : Fin 1024) : iblk m c 0 t (ix2 r k)
    = m ((c : Thread nD τ).loc main_arg0) (ix3 (⟨(256 * t.val + r.val) / 4096, by have := t_lt t; omega⟩ : Fin 4) (⟨(256 * t.val + r.val) % 4096, by omega⟩ : Fin 4096) k) := by
  have ht := t_lt t
  blk_simp [iblk, idx t]
  unfold V
  simp only [List.flatten_cons, List.flatten_nil, List.append_nil]
  simp only [hostOps0, hostOps0_1, hostOps0_2, hostOps0_3, hostOps0_4, List.cons_append, List.nil_append]
  entry_read
  pointwise
  blk_ext [idx t]

theorem g_blk (k : Fin 1024) : iblk m c 1 t (ix2 0 k) = m ((c : Thread nD τ).loc main_arg1) (ix1 k) := by
  have ht := t_lt t
  blk_simp [iblk, idx t]
  unfold V
  simp only [List.flatten_cons, List.flatten_nil, List.append_nil]
  simp only [hostOps0, hostOps0_1, hostOps0_2, hostOps0_3, hostOps0_4, List.cons_append, List.nil_append]
  entry_read
  pointwise
  blk_ext [idx t]

/-- Four blocks of columns laid side by side. -/
def side (a : FVec Ideal S1024x2048 .f32) (b : FVec Ideal S1024x1536 .f32) (u : FVec Ideal S1024x8 .f32) (v : FVec Ideal S1024x120 .f32) :
    FVec Ideal S1024x3712 .f32 :=
  concatenate S1024x3712 1 [⟨S1024x2048, a⟩, ⟨S1024x1536, b⟩, ⟨S1024x8, u⟩, ⟨S1024x120, v⟩] concatenates_S1024x2048_S1024x1536_S1024x8_S1024x120_S1024x3712_d1

/-- The weight's columns in the kernel's order: the first 2048, the last 1536, the eight of the gates, and zeros up to 3712. -/
def wmain (w : FVec Ideal S1024x3592 .f32) : FVec Ideal S1024x3712 .f32 :=
  side (extractStridedSlice S1024x2048 ![0, 0] w slices_S1024x3592_S1024x2048_0_0)
    (extractStridedSlice S1024x1536 ![0, 2056] w slices_S1024x3592_S1024x1536_0_2056)
    (extractStridedSlice S1024x8 ![0, 2048] w slices_S1024x3592_S1024x8_0_2048)
    (broadcastInDim S1024x120 ![] bcast_S_S1024x120 (constant (F := Ideal) S_ .f32 0x00000000#32))

theorem wmain_apply (w : FVec Ideal S1024x3592 .f32) (k : Fin 1024) (j : Fin 3712) : wmain w (ix2 k j)
    = if h : j.val < 2048 then w (ix2 k (⟨j.val, by omega⟩ : Fin 3592))
      else if h : j.val < 3584 then w (ix2 k (⟨j.val + 8, by omega⟩ : Fin 3592))
      else if h : j.val < 3592 then w (ix2 k (⟨j.val - 1536, by omega⟩ : Fin 3592)) else (0 : EReal) := by
  unfold wmain side
  pointwise
  by_cases h1 : j.val < 2048
  · simp only [h1, dif_pos]
  by_cases h2 : j.val < 3584
  · have h3 : j.val - 2048 < 1536 := by omega
    have e : (⟨2056 + (j.val - 2048), by omega⟩ : Fin 3592) = ⟨j.val + 8, by omega⟩ := Fin.ext (by simp only; omega)
    simp only [h1, h2, h3, dif_pos, dif_neg, not_false_eq_true, e]
  have h3 : ¬ j.val - 2048 < 1536 := by omega
  by_cases h4 : j.val < 3592
  · have h5 : j.val - 2048 - 1536 < 8 := by omega
    have e : (⟨2048 + (j.val - 2048 - 1536), by omega⟩ : Fin 3592) = ⟨j.val - 1536, by omega⟩ := Fin.ext (by simp only; omega)
    simp only [h1, h2, h3, h4, h5, dif_pos, dif_neg, not_false_eq_true, e]
  have h5 : ¬ j.val - 2048 - 1536 < 8 := by omega
  simp only [h1, h2, h3, h4, h5, dif_neg, not_false_eq_true]

/-- What the first five host operations leave. -/
def head (c : Dev nD) := StableHlo.after (List.take 5 hostOps0) (fun b => m (c, b))

theorem head_v0 : head m c (Proc.tc.devRef main_v0) = extractStridedSlice S1024x8 ![0, 2048] (m ((c : Thread nD τ).loc main_arg2)) slices_S1024x3592_S1024x8_0_2048 := by
  unfold head
  simp only [hostOps0, List.take_succ_cons, List.take_zero, StableHlo.after_cons, StableHlo.after_nil]
  after_results_simp

theorem head_v1 : head m c (Proc.tc.devRef main_v1) = extractStridedSlice S1024x2048 ![0, 0] (m ((c : Thread nD τ).loc main_arg2)) slices_S1024x3592_S1024x2048_0_0 := by
  unfold head
  simp only [hostOps0, List.take_succ_cons, List.take_zero, StableHlo.after_cons, StableHlo.after_nil]
  after_results_simp

theorem head_v2 : head m c (Proc.tc.devRef main_v2) = extractStridedSlice S1024x1536 ![0, 2056] (m ((c : Thread nD τ).loc main_arg2)) slices_S1024x3592_S1024x1536_0_2056 := by
  unfold head
  simp only [hostOps0, List.take_succ_cons, List.take_zero, StableHlo.after_cons, StableHlo.after_nil]
  after_results_simp

theorem head_v3 : head m c (Proc.tc.devRef main_v3) = broadcastInDim S1024x120 ![] bcast_S_S1024x120 (constant (F := Ideal) S_ .f32 0x00000000#32) := by
  unfold head
  simp only [hostOps0, List.take_succ_cons, List.take_zero, StableHlo.after_cons, StableHlo.after_nil]
  after_results_simp

/-- What the host operations after the first seven are. -/
def tail : List (HloOp τ sig (Elt Ideal)) := List.drop 7 hostOps0 ++ (hostOps0_1 ++ (hostOps0_2 ++ (hostOps0_3 ++ hostOps0_4)))

theorem V_v5 : V m c main_v5 = wmain (m ((c : Thread nD τ).loc main_arg2)) := by
  have h : V m c main_v5 = StableHlo.after tail (StableHlo.after (List.drop 5 (List.take 7 hostOps0)) (head m c)) (Proc.tc.devRef main_v5) := rfl
  rw [h, StableHlo.after_of_forall_not_mem (b := Proc.devRef .tc main_v5) _ _ (List.forall_iff_forall_mem.mp (by
    simp only [tail, hostOps0, hostOps0_1, hostOps0_2, hostOps0_3, hostOps0_4, List.drop_succ_cons, List.drop_zero, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))]
  simp only [hostOps0, List.take_succ_cons, List.take_zero, List.drop_succ_cons, List.drop_zero, StableHlo.after_cons, StableHlo.after_nil]
  rw [StableHlo.unary_result, StableHlo.nary_result]
  show side (head m c (Proc.tc.devRef main_v1)) (head m c (Proc.tc.devRef main_v2)) (head m c (Proc.tc.devRef main_v0))
    (head m c (Proc.tc.devRef main_v3)) = _
  rw [head_v0, head_v1, head_v2, head_v3]
  rfl

theorem w_blk (k : Fin 1024) (j : Fin 3712) : iblk m c 2 t (ix2 k j) = wmain (m ((c : Thread nD τ).loc main_arg2)) (ix2 k j) := by
  have ht := t_lt t
  blk_simp [iblk, idx t]
  rw [V_v5]
  have hx : ((View.whole main_v5).slice (win0_2.rect t)).emb (ix2 k j) = ix2 k j := by blk_ext [idx t]
  rw [hx]

theorem wt_blk (r : Fin 8) (k : Fin 1024) : iblk m c 3 t (ix2 r k)
    = m ((c : Thread nD τ).loc main_arg2) (ix2 k (⟨2048 + r.val, by omega⟩ : Fin 3592)) := by
  have ht := t_lt t
  blk_simp [iblk, idx t]
  unfold V
  simp only [List.flatten_cons, List.flatten_nil, List.append_nil]
  simp only [hostOps0, hostOps0_1, hostOps0_2, hostOps0_3, hostOps0_4, List.cons_append, List.nil_append]
  entry_read
  pointwise
  blk_ext [idx t]

theorem gq_blk (l : Fin 512) : iblk m c 4 t (ix2 0 l) = m ((c : Thread nD τ).loc main_arg3) (ix1 (⟨l.val % 64, by omega⟩ : Fin 64)) := by
  have ht := t_lt t
  blk_simp [iblk, idx t]
  unfold V
  simp only [List.flatten_cons, List.flatten_nil, List.append_nil]
  simp only [hostOps0, hostOps0_1, hostOps0_2, hostOps0_3, hostOps0_4, List.cons_append, List.nil_append]
  entry_read
  pointwise
  blk_ext [idx t]

theorem gk_blk (l : Fin 512) : iblk m c 5 t (ix2 0 l) = m ((c : Thread nD τ).loc main_arg4) (ix1 (⟨l.val % 64, by omega⟩ : Fin 64)) := by
  have ht := t_lt t
  blk_simp [iblk, idx t]
  unfold V
  simp only [List.flatten_cons, List.flatten_nil, List.append_nil]
  simp only [hostOps0, hostOps0_1, hostOps0_2, hostOps0_3, hostOps0_4, List.cons_append, List.nil_append]
  entry_read
  pointwise
  blk_ext [idx t]

/-- The quotient of each lane by 64 as the host computes it: less one where the signs differ and a remainder is left. -/
def gid : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem gid_apply : ∀ j : Fin 512, gid (ix1 j) = BitVec.ofNat 32 (j.val / 64) := by
  decide +kernel

/-- One 64th where two lanes are of one head, zero elsewhere. -/
def grp : FVec Ideal S512x512 .f32 :=
  select (cmpi .eq (broadcastInDim S512x512 ![0, 1] bcast_S512x1_S512x512_0_1 (broadcastInDim S512x1 ![0] bcast_S512_S512x1_0 gid))
      (broadcastInDim S512x512 ![0, 1] bcast_S1x512_S512x512_0_1 (broadcastInDim S1x512 ![1] bcast_S512_S1x512_1 gid)))
    (broadcastInDim S512x512 ![] bcast_S_S512x512 (constant (F := Ideal) S_ .f32 0x3C800000#32))
    (broadcastInDim S512x512 ![] bcast_S_S512x512 (constant (F := Ideal) S_ .f32 0x00000000#32))

theorem grp_apply (j l : Fin 512) : grp (ix2 j l) = if j.val / 64 = l.val / 64 then ((1 / 64 : ℝ) : EReal) else 0 := by
  unfold grp
  pointwise [gid_apply]
  have hc : Ideal.ofBits .f32 0x3C800000#32 = ((1 / 64 : ℝ) : EReal) := by
    simp [Ideal.ofBits, Ideal.ieee, -EReal.coe_mul]; norm_num
  rw [hc]
  have hj := j.isLt
  have hl := l.isLt
  by_cases h : j.val / 64 = l.val / 64
  · rw [if_pos h, h]
    simp [Scalar.select, IntOp.cmpi]
  · have hne : ¬ BitVec.ofNat 32 (j.val / 64) = BitVec.ofNat 32 (l.val / 64) := fun e => h (by
      have := congrArg BitVec.toNat e
      simp only [BitVec.toNat_ofNat] at this
      omega)
    rw [if_neg h]
    have hb : (BitVec.ofNat 32 (j.val / 64) == BitVec.ofNat 32 (l.val / 64)) = false := by simpa using hne
    simp [Scalar.select, IntOp.cmpi, hb]

theorem grp_blk (j l : Fin 512) : iblk m c 6 t (ix2 j l) = grp (ix2 j l) := by
  have ht := t_lt t
  blk_simp [iblk, idx t]
  unfold V
  simp only [List.flatten_cons, List.flatten_nil, List.append_nil]
  simp only [hostOps0, hostOps0_1, hostOps0_2, hostOps0_3, hostOps0_4, List.cons_append, List.nil_append]
  entry_read
  have hx : ((View.whole main_v24).slice (win0_6.rect t)).emb (ix2 j l) = ix2 j l := by blk_ext [idx t]
  rw [hx]
  rfl

end Cert.InprojIdeal.Value

end
-- ==== Proof.InprojSpec.lean ====
/-
  The input projection row by row: the normalised row, its product with the weight, and the normalisation of a head of 64 lanes.
-/
module

public import Idealize.ShloMosaic.Lib.Pipeline.ValueKit
public import Idealize.ShloMosaic.Lib.Claim
public import Idealize.ShloMosaic.Lib.Pointwise
public import Idealize.ShloMosaic.Lib.IdealHost

@[expose] public section

set_option maxRecDepth 16384

noncomputable section

namespace Cert.InprojSpec

open Idealize.ShloMosaic

/-- The small number added under the roots. -/
def eps : EReal := Ideal.ofBits .f32 0x358637BD#32

/-- Row `n` of the input, the batches one after another. -/
def row (x : (⟨3, ![4, 4096, 1024]⟩ : Shape).Idx → EReal) (n : Fin 16384) (k : Fin 1024) : EReal :=
  x (ix3 (⟨n.val / 4096, by omega⟩ : Fin 4) (⟨n.val % 4096, by omega⟩ : Fin 4096) k)

/-- A row divided by the root of its mean square, times the gain. -/
def xnorm (r : Fin 1024 → EReal) (g : (⟨1, ![1024]⟩ : Shape).Idx → EReal) (k : Fin 1024) : EReal :=
  r k * Ideal.rsqrt (Ideal.div (∑ e : Fin 1024, r e * r e) (Ideal.ofBits .f32 0x44800000#32) + eps) * g (ix1 k)

/-- Column `l` of the weight's columns from `s` on. -/
def col (s : ℕ) {n : ℕ} (h : s + n ≤ 3592) (l : Fin n) : Fin 3592 := ⟨s + l.val, by omega⟩

/-- The product of a normalised row with column `j` of the weight. -/
def proj (x : (⟨3, ![4, 4096, 1024]⟩ : Shape).Idx → EReal) (g : (⟨1, ![1024]⟩ : Shape).Idx → EReal)
    (w : (⟨2, ![1024, 3592]⟩ : Shape).Idx → EReal) (n : Fin 16384) (j : Fin 3592) : EReal :=
  ∑ k : Fin 1024, xnorm (row x n) g k * w (ix2 k j)

/-- The lane `e` of the head lane `l` belongs to. -/
def mate (l : Fin 512) (e : Fin 64) : Fin 512 := ⟨64 * (l.val / 64) + e.val, by omega⟩

/-- The mean square of the head of lane `l`. -/
def headMean (t : Fin 512 → EReal) (l : Fin 512) : EReal :=
  Ideal.div (∑ e : Fin 64, t (mate l e) * t (mate l e)) (Ideal.ofBits .f32 0x42800000#32)

/-- A lane divided by the root of the mean square of its head, times the gain. -/
def headNorm (t : Fin 512 → EReal) (q : (⟨1, ![64]⟩ : Shape).Idx → EReal) (l : Fin 512) : EReal :=
  t l * Ideal.rsqrt (headMean t l + eps) * q (ix1 (⟨l.val % 64, by omega⟩ : Fin 64))

theorem sq_nonneg (a : EReal) : 0 ≤ a * a := by
  rcases le_total 0 a with h | h
  · exact mul_nonneg h h
  · have := mul_nonneg (EReal.neg_nonneg.mpr h) (EReal.neg_nonneg.mpr h)
    rwa [neg_mul_neg] at this

/-- The sum of the squares against one 64th on a head and zero off it is the mean square of the head. -/
theorem group_mean (t : Fin 512 → EReal) (l : Fin 512) :
    ∑ j : Fin 512, t j * t j * (if j.val / 64 = l.val / 64 then ((1 / 64 : ℝ) : EReal) else 0) = headMean t l := by
  have hc : Ideal.ofBits .f32 0x42800000#32 = ((64 : ℝ) : EReal) := by
    simp [Ideal.ofBits, Ideal.ieee, -EReal.coe_mul]; norm_num
  have hl := l.isLt
  unfold headMean
  rw [hc, Ideal.div_coe (by norm_num : (64 : ℝ) ≠ 0)]
  have hn : (0 : EReal) ≤ ((1 / 64 : ℝ) : EReal) := by exact_mod_cast (by norm_num : (0 : ℝ) ≤ 1 / 64)
  have hd : ∀ (s : Finset (Fin 64)) (f : Fin 64 → EReal), ∑ e ∈ s, f e * ((1 / 64 : ℝ) : EReal) = (∑ e ∈ s, f e) * ((1 / 64 : ℝ) : EReal) := by
    intro s f
    induction s using Finset.induction_on with
    | empty => simp
    | insert a s ha ih =>
      rw [Finset.sum_insert ha, Finset.sum_insert ha, ih, EReal.right_distrib_of_nonneg_of_ne_top hn (EReal.coe_ne_top _)]
  rw [← hd]
  have h1 : ∀ j : Fin 512, t j * t j * (if j.val / 64 = l.val / 64 then ((1 / 64 : ℝ) : EReal) else 0)
      = if j.val / 64 = l.val / 64 then t j * t j * ((1 / 64 : ℝ) : EReal) else 0 := by
    intro j
    split_ifs
    · rfl
    · exact mul_zero _
  simp only [h1]
  rw [← Finset.sum_filter]
  symm
  refine Finset.sum_bij (fun e _ => mate l e) ?_ ?_ ?_ ?_
  · intro e _
    simp only [Finset.mem_filter, Finset.mem_univ, true_and, mate]
    have := e.isLt
    omega
  · intro a _ b _ h
    have := congrArg Fin.val h
    simp only [mate] at this
    exact Fin.ext (by omega)
  · intro j hj
    simp only [Finset.mem_filter, Finset.mem_univ, true_and] at hj
    exact ⟨⟨j.val % 64, by omega⟩, Finset.mem_univ _, Fin.ext (by simp only [mate]; omega)⟩
  · intro e _
    rfl

variable (x : (⟨3, ![4, 4096, 1024]⟩ : Shape).Idx → EReal) (g : (⟨1, ![1024]⟩ : Shape).Idx → EReal)
  (w : (⟨2, ![1024, 3592]⟩ : Shape).Idx → EReal) (q : (⟨1, ![64]⟩ : Shape).Idx → EReal)

/-- The columns of the recurrent branch. -/
def qkv : (⟨2, ![16384, 1536]⟩ : Shape).Idx → EReal := fun i => proj x g w (i 0 : Fin 16384) (col 0 (n := 1536) (by norm_num) (i 1))
/-- The columns of the output gate. -/
def z : (⟨2, ![16384, 512]⟩ : Shape).Idx → EReal := fun i => proj x g w (i 0 : Fin 16384) (col 1536 (n := 512) (by norm_num) (i 1))
/-- The eight columns of the rates, zeros up to 128. -/
def ba : (⟨2, ![16384, 128]⟩ : Shape).Idx → EReal := fun i =>
  if h : (i 1 : Fin 128).val < 8 then proj x g w (i 0 : Fin 16384) (⟨2048 + (i 1 : Fin 128).val, by omega⟩ : Fin 3592) else 0
/-- The eight columns of the rates as rows. -/
def bat : (⟨2, ![8, 16384]⟩ : Shape).Idx → EReal := fun i => proj x g w (i 1 : Fin 16384) (col 2048 (n := 8) (by norm_num) (i 0))
/-- The queries of row `n` before their normalisation. -/
def dq (n : Fin 16384) (l : Fin 512) : EReal := proj x g w n (col 2056 (by norm_num) l)
/-- The keys of row `n` before their normalisation. -/
def dk (n : Fin 16384) (l : Fin 512) : EReal := proj x g w n (col 2568 (by norm_num) l)
/-- The values of row `n`. -/
def dv (n : Fin 16384) (l : Fin 512) : EReal := proj x g w n (col 3080 (by norm_num) l)
/-- The queries, each head normalised, times one eighth. -/
def qs : (⟨2, ![16384, 512]⟩ : Shape).Idx → EReal := fun i => headNorm (dq x g w (i 0 : Fin 16384)) q (i 1 : Fin 512) * Ideal.ofBits .f32 0x3E000000#32
/-- The keys, each head normalised. -/
def ks : (⟨2, ![16384, 512]⟩ : Shape).Idx → EReal := fun i => headNorm (dk x g w (i 0 : Fin 16384)) q (i 1 : Fin 512)
/-- The values. -/
def vs : (⟨2, ![16384, 512]⟩ : Shape).Idx → EReal := fun i => dv x g w (i 0 : Fin 16384) (i 1 : Fin 512)

theorem ba_lt (n : Fin 16384) (j : Fin 128) (h : j.val < 8) : ba x g w (ix2 n j) = proj x g w n (⟨2048 + j.val, by omega⟩ : Fin 3592) := dif_pos h
theorem ba_ge (n : Fin 16384) (j : Fin 128) (h : ¬ j.val < 8) : ba x g w (ix2 n j) = 0 := dif_neg h
theorem bat_apply (j : Fin 8) (n : Fin 16384) : bat x g w (ix2 j n) = ∑ k : Fin 1024, xnorm (row x n) g k * w (ix2 k (⟨2048 + j.val, by omega⟩ : Fin 3592)) := rfl

end Cert.InprojSpec

end
-- ==== Proof.InprojValue.lean ====
/-
  What the kernel of the input projection leaves in its nine arrays.
-/
module

public import proofs.«01_k».proof.Proof.InprojBlocks
public import proofs.«01_k».proof.Proof.InprojSpec

@[expose] public section

set_option maxRecDepth 16384

noncomputable section

namespace Cert.InprojIdeal.Value

open Idealize.ShloMosaic Idealize.ShloMosaic.TcCoe Idealize.SL.Sem
open Idealize.ShloMosaic.Pipeline (Dat)
open Cert.InprojIdeal Cert.InprojIdeal.Gen Cert.InprojSpec

theorem pay1_apply (x : Vec Ideal S256x1024 .f32) (g : Vec Ideal S1x1024 .f32) (r : Fin 256) (k : Fin 1024) :
    k0_pay1 x g (ix2 r k) = xnorm (fun e => x (ix2 r e)) (fun i => g (ix2 0 (i 0))) k := by
  unfold k0_pay1 xnorm eps
  pointwise

theorem pay2_apply (x : Vec Ideal S256x1024 .f32) (g : Vec Ideal S1x1024 .f32) (w : Vec Ideal S1024x3712 .bf16) (r : Fin 256) (j : Fin 3712) :
    k0_pay2 x g w (ix2 r j) = ∑ k : Fin 1024, k0_pay1 x g (ix2 r k) * w (ix2 k j) := by
  unfold k0_pay2
  pointwise

theorem pay6_apply (x : Vec Ideal S256x1024 .f32) (g : Vec Ideal S1x1024 .f32) (w : Vec Ideal S8x1024 .bf16) (j : Fin 8) (r : Fin 256) :
    k0_pay6 x g w (ix2 j r) = ∑ k : Fin 1024, w (ix2 j k) * k0_pay1 x g (ix2 r k) := by
  unfold k0_pay6
  pointwise

theorem pay11_apply (v : FVec Ideal S256x512 .f32) (p : Vec Ideal S512x512 .bf16) (q : Vec Ideal S1x512 .f32) (r : Fin 256) (l : Fin 512) :
    k0_pay11 v p q (ix2 r l)
      = v (ix2 r l) * Ideal.rsqrt (∑ j : Fin 512, v (ix2 r j) * v (ix2 r j) * p (ix2 j l) + eps) * q (ix2 0 l) := by
  unfold k0_pay11 k0_pay10 eps
  pointwise

theorem pay12_apply (v : FVec Ideal S256x512 .f32) (p : Vec Ideal S512x512 .bf16) (q : Vec Ideal S1x512 .f32) (r : Fin 256) (l : Fin 512) :
    k0_pay12 v p q (ix2 r l)
      = v (ix2 r l) * Ideal.rsqrt (∑ j : Fin 512, v (ix2 r j) * v (ix2 r j) * p (ix2 j l) + eps) * q (ix2 0 l) * Ideal.ofBits .f32 0x3E000000#32 := by
  unfold k0_pay12 k0_pay10 eps
  pointwise

theorem pay3_apply (x : Vec Ideal S256x1024 .f32) (g : Vec Ideal S1x1024 .f32) (w : Vec Ideal S1024x3712 .bf16) (r : Fin 256) (j : Fin 1536) :
    k0_pay3 x g w (ix2 r j) = k0_pay2 x g w (ix2 r (⟨0 + j.val, by omega⟩ : Fin 3712)) := by
  unfold k0_pay3
  pointwise

theorem pay4_apply (x : Vec Ideal S256x1024 .f32) (g : Vec Ideal S1x1024 .f32) (w : Vec Ideal S1024x3712 .bf16) (r : Fin 256) (j : Fin 512) :
    k0_pay4 x g w (ix2 r j) = k0_pay2 x g w (ix2 r (⟨1536 + j.val, by omega⟩ : Fin 3712)) := by
  unfold k0_pay4
  pointwise

theorem pay5_apply (x : Vec Ideal S256x1024 .f32) (g : Vec Ideal S1x1024 .f32) (w : Vec Ideal S1024x3712 .bf16) (r : Fin 256) (j : Fin 128) :
    k0_pay5 x g w (ix2 r j) = k0_pay2 x g w (ix2 r (⟨3584 + j.val, by omega⟩ : Fin 3712)) := by
  unfold k0_pay5
  pointwise

theorem pay7_apply (x : Vec Ideal S256x1024 .f32) (g : Vec Ideal S1x1024 .f32) (w : Vec Ideal S1024x3712 .bf16) (r : Fin 256) (j : Fin 512) :
    k0_pay7 x g w (ix2 r j) = k0_pay2 x g w (ix2 r (⟨2048 + j.val, by omega⟩ : Fin 3712)) := by
  unfold k0_pay7
  pointwise

theorem pay8_apply (x : Vec Ideal S256x1024 .f32) (g : Vec Ideal S1x1024 .f32) (w : Vec Ideal S1024x3712 .bf16) (r : Fin 256) (j : Fin 512) :
    k0_pay8 x g w (ix2 r j) = k0_pay2 x g w (ix2 r (⟨2560 + j.val, by omega⟩ : Fin 3712)) := by
  unfold k0_pay8
  pointwise

theorem pay9_apply (x : Vec Ideal S256x1024 .f32) (g : Vec Ideal S1x1024 .f32) (w : Vec Ideal S1024x3712 .bf16) (r : Fin 256) (j : Fin 512) :
    k0_pay9 x g w (ix2 r j) = k0_pay2 x g w (ix2 r (⟨3072 + j.val, by omega⟩ : Fin 3712)) := by
  unfold k0_pay9
  pointwise

variable (m : (ℓ : Loc nD τ sig) → Buf (Elt Ideal) ℓ) (c : Dev nD) (t : Fin cfg0.N)

/-- Row `r` of tile `t` among all rows. -/
def trow (t : Fin cfg0.N) (r : Fin 256) : Fin 16384 := ⟨256 * t.val + r.val, by have := t_lt t; omega⟩

theorem pay1_blk (r : Fin 256) (k : Fin 1024) : k0_pay1 (iblk m c 0 t) (iblk m c 1 t) (ix2 r k)
    = xnorm (row (m ((c : Thread nD τ).loc main_arg0)) (trow t r)) (m ((c : Thread nD τ).loc main_arg1)) k := by
  rw [pay1_apply]
  have e1 : (fun e => iblk m c 0 t (ix2 r e)) = row (m ((c : Thread nD τ).loc main_arg0)) (trow t r) := by
    funext e
    exact x_blk m c t r e
  unfold xnorm
  rw [e1]
  have e2 : iblk m c 1 t (ix2 0 k) = m ((c : Thread nD τ).loc main_arg1) (ix1 k) := g_blk m c t k
  exact congrArg _ e2

theorem pay2_blk (r : Fin 256) (j : Fin 3712) (i : Fin 3592) (h : j.val < 2048 ∧ i.val = j.val ∨ 2048 ≤ j.val ∧ j.val < 3584 ∧ i.val = j.val + 8
      ∨ 3584 ≤ j.val ∧ j.val < 3592 ∧ i.val = j.val - 1536) :
    k0_pay2 (iblk m c 0 t) (iblk m c 1 t) (iblk m c 2 t) (ix2 r j)
      = proj (m ((c : Thread nD τ).loc main_arg0)) (m ((c : Thread nD τ).loc main_arg1)) (m ((c : Thread nD τ).loc main_arg2)) (trow t r) i := by
  rw [pay2_apply]
  unfold proj
  refine Finset.sum_congr rfl fun k _ => ?_
  rw [pay1_blk]
  have e : iblk m c 2 t (ix2 k j) = m ((c : Thread nD τ).loc main_arg2) (ix2 k i) := by
    rw [w_blk, wmain_apply]
    rcases h with ⟨a, b⟩ | ⟨a, a', b⟩ | ⟨a, a', b⟩
    · rw [dif_pos a]
      exact congrArg (fun i => m ((c : Thread nD τ).loc main_arg2) (ix2 k i)) (Fin.ext b.symm)
    · rw [dif_neg (by omega), dif_pos a']
      exact congrArg (fun i => m ((c : Thread nD τ).loc main_arg2) (ix2 k i)) (Fin.ext b.symm)
    · rw [dif_neg (by omega), dif_neg (by omega), dif_pos a']
      exact congrArg (fun i => m ((c : Thread nD τ).loc main_arg2) (ix2 k i)) (Fin.ext b.symm)
  exact congrArg _ e

theorem pay2_zero (r : Fin 256) (j : Fin 3712) (h : 3592 ≤ j.val) : k0_pay2 (iblk m c 0 t) (iblk m c 1 t) (iblk m c 2 t) (ix2 r j) = 0 := by
  rw [pay2_apply]
  refine Finset.sum_eq_zero fun k _ => ?_
  have e : iblk m c 2 t (ix2 k j) = (0 : EReal) := by
    rw [w_blk, wmain_apply, dif_neg (by omega), dif_neg (by omega), dif_neg (by omega)]
  exact (congrArg _ e).trans (mul_zero _)

/-- The queries of a block before their normalisation. -/
theorem dq_blk (r : Fin 256) (l : Fin 512) : k0_pay7 (iblk m c 0 t) (iblk m c 1 t) (iblk m c 2 t) (ix2 r l)
    = dq (m ((c : Thread nD τ).loc main_arg0)) (m ((c : Thread nD τ).loc main_arg1)) (m ((c : Thread nD τ).loc main_arg2)) (trow t r) l := by
  rw [pay7_apply]
  exact pay2_blk m c t _ _ _ (by simp only [col]; omega)

/-- The keys of a block before their normalisation. -/
theorem dk_blk (r : Fin 256) (l : Fin 512) : k0_pay8 (iblk m c 0 t) (iblk m c 1 t) (iblk m c 2 t) (ix2 r l)
    = dk (m ((c : Thread nD τ).loc main_arg0)) (m ((c : Thread nD τ).loc main_arg1)) (m ((c : Thread nD τ).loc main_arg2)) (trow t r) l := by
  rw [pay8_apply]
  exact pay2_blk m c t _ _ _ (by simp only [col]; omega)

/-- The values of a block. -/
theorem dv_blk (r : Fin 256) (l : Fin 512) : k0_pay9 (iblk m c 0 t) (iblk m c 1 t) (iblk m c 2 t) (ix2 r l)
    = dv (m ((c : Thread nD τ).loc main_arg0)) (m ((c : Thread nD τ).loc main_arg1)) (m ((c : Thread nD τ).loc main_arg2)) (trow t r) l := by
  rw [pay9_apply]
  exact pay2_blk m c t _ _ _ (by simp only [col]; omega)

/-- The columns of the recurrent branch of a block. -/
theorem qkv_blk (r : Fin 256) (l : Fin 1536) : k0_pay3 (iblk m c 0 t) (iblk m c 1 t) (iblk m c 2 t) (ix2 r l)
    = qkv (m ((c : Thread nD τ).loc main_arg0)) (m ((c : Thread nD τ).loc main_arg1)) (m ((c : Thread nD τ).loc main_arg2)) (ix2 (trow t r) l) := by
  rw [pay3_apply]
  have h : (col 0 (by norm_num) l).val = 0 + l.val := rfl
  have hl := l.isLt
  have e := pay2_blk m c t r (⟨0 + l.val, by omega⟩ : Fin 3712) (col 0 (by norm_num) l) (Or.inl ⟨by simp only; omega, h⟩)
  exact e

/-- The columns of the output gate of a block. -/
theorem z_blk (r : Fin 256) (l : Fin 512) : k0_pay4 (iblk m c 0 t) (iblk m c 1 t) (iblk m c 2 t) (ix2 r l)
    = z (m ((c : Thread nD τ).loc main_arg0)) (m ((c : Thread nD τ).loc main_arg1)) (m ((c : Thread nD τ).loc main_arg2)) (ix2 (trow t r) l) := by
  rw [pay4_apply]
  have h : (col 1536 (by norm_num) l).val = 1536 + l.val := rfl
  have hl := l.isLt
  have e := pay2_blk m c t r (⟨1536 + l.val, by omega⟩ : Fin 3712) (col 1536 (by norm_num) l) (Or.inl ⟨by simp only; omega, h⟩)
  exact e

/-- The rates of a block as rows. -/
theorem bat_blk (j : Fin 8) (r : Fin 256) : k0_pay6 (iblk m c 0 t) (iblk m c 1 t) (iblk m c 3 t) (ix2 j r)
    = bat (m ((c : Thread nD τ).loc main_arg0)) (m ((c : Thread nD τ).loc main_arg1)) (m ((c : Thread nD τ).loc main_arg2)) (ix2 j (trow t r)) := by
  rw [pay6_apply, bat_apply]
  refine Finset.sum_congr rfl fun k _ => ?_
  rw [pay1_blk]
  have e : iblk m c 3 t (ix2 j k) = m ((c : Thread nD τ).loc main_arg2) (ix2 k (⟨2048 + j.val, by omega⟩ : Fin 3592)) := wt_blk m c t j k
  exact (congrArg (fun a : EReal => a * xnorm (row (m ((c : Thread nD τ).loc main_arg0)) (trow t r)) (m ((c : Thread nD τ).loc main_arg1)) k) e).trans (mul_comm _ _)

theorem pay15_eq (x0 : Vec Ideal S256x1024 .f32) (x1 : Vec Ideal S1x1024 .f32) (x2 : Vec Ideal S1024x3712 .bf16) (x3 : Vec Ideal S8x1024 .bf16)
    (x4 : Vec Ideal S1x512 .f32) (x5 : Vec Ideal S1x512 .f32) (x6 : Vec Ideal S512x512 .bf16) :
    k0_pay15 x0 x1 x2 x3 x4 x5 x6 = k0_pay8 x0 x1 x2 := by
  unfold k0_pay15
  frame_out

theorem pay16_eq (x0 : Vec Ideal S256x1024 .f32) (x1 : Vec Ideal S1x1024 .f32) (x2 : Vec Ideal S1024x3712 .bf16) (x3 : Vec Ideal S8x1024 .bf16)
    (x4 : Vec Ideal S1x512 .f32) (x5 : Vec Ideal S1x512 .f32) (x6 : Vec Ideal S512x512 .bf16) :
    k0_pay16 x0 x1 x2 x3 x4 x5 x6 = k0_pay9 x0 x1 x2 := by
  unfold k0_pay16
  frame_out

theorem pay13_eq (v : FVec Ideal S256x512 .f32) (p : Vec Ideal S512x512 .bf16) (q : Vec Ideal S1x512 .f32) : k0_pay13 v p q = k0_pay11 v p q := rfl

theorem pay14_eq (v : FVec Ideal S256x512 .f32) : k0_pay14 v = v := rfl

/-- A mean over the lanes against the head table is the mean of the head. -/
theorem mean_blk (v : Fin 512 → EReal) (l : Fin 512) : ∑ j : Fin 512, v j * v j * iblk m c 6 t (ix2 j l) = headMean v l := by
  rw [← group_mean]
  refine Finset.sum_congr rfl fun j _ => ?_
  have e : iblk m c 6 t (ix2 j l) = (if j.val / 64 = l.val / 64 then ((1 / 64 : ℝ) : EReal) else 0) := (grp_blk m c t j l).trans (grp_apply j l)
  exact congrArg _ e

theorem qs_blk (r : Fin 256) (l : Fin 512) :
    k0_pay12 (k0_pay7 (iblk m c 0 t) (iblk m c 1 t) (iblk m c 2 t)) (iblk m c 6 t) (iblk m c 4 t) (ix2 r l)
      = qs (m ((c : Thread nD τ).loc main_arg0)) (m ((c : Thread nD τ).loc main_arg1)) (m ((c : Thread nD τ).loc main_arg2)) (m ((c : Thread nD τ).loc main_arg3)) (ix2 (trow t r) l) := by
  rw [pay12_apply]
  simp only [dq_blk]
  rw [mean_blk]
  have e : iblk m c 4 t (ix2 0 l) = (m ((c : Thread nD τ).loc main_arg3)) (ix1 (⟨l.val % 64, by omega⟩ : Fin 64)) := gq_blk m c t l
  exact congrArg (fun a => dq (m ((c : Thread nD τ).loc main_arg0)) (m ((c : Thread nD τ).loc main_arg1)) (m ((c : Thread nD τ).loc main_arg2)) (trow t r) l * Ideal.rsqrt (headMean (dq (m ((c : Thread nD τ).loc main_arg0)) (m ((c : Thread nD τ).loc main_arg1)) (m ((c : Thread nD τ).loc main_arg2)) (trow t r)) l + eps) * a * Ideal.ofBits .f32 0x3E000000#32) e

theorem ks_blk (r : Fin 256) (l : Fin 512) :
    k0_pay11 (k0_pay8 (iblk m c 0 t) (iblk m c 1 t) (iblk m c 2 t)) (iblk m c 6 t) (iblk m c 5 t) (ix2 r l)
      = ks (m ((c : Thread nD τ).loc main_arg0)) (m ((c : Thread nD τ).loc main_arg1)) (m ((c : Thread nD τ).loc main_arg2)) (m ((c : Thread nD τ).loc main_arg4)) (ix2 (trow t r) l) := by
  rw [pay11_apply]
  simp only [dk_blk]
  rw [mean_blk]
  have e : iblk m c 5 t (ix2 0 l) = (m ((c : Thread nD τ).loc main_arg4)) (ix1 (⟨l.val % 64, by omega⟩ : Fin 64)) := gk_blk m c t l
  exact congrArg (fun a => dk (m ((c : Thread nD τ).loc main_arg0)) (m ((c : Thread nD τ).loc main_arg1)) (m ((c : Thread nD τ).loc main_arg2)) (trow t r) l * Ideal.rsqrt (headMean (dk (m ((c : Thread nD τ).loc main_arg0)) (m ((c : Thread nD τ).loc main_arg1)) (m ((c : Thread nD τ).loc main_arg2)) (trow t r)) l + eps) * a) e

theorem final7 : (dats m 0 c).arrAt 7 cfg0.N = qkv (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  have ht := t_lt t
  idx_vars y
  frame_out
  have hx : ((View.whole main_v27_0).slice (win0_7.rect t)).emb (ix2 y0 y1) = ix2 (trow t y0) y1 := by
    unfold trow
    blk_ext [idx t]
  rw [hx]
  exact qkv_blk m c t y0 y1

theorem final8 : (dats m 0 c).arrAt 8 cfg0.N = z (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  have ht := t_lt t
  idx_vars y
  frame_out
  have hx : ((View.whole main_v27_1).slice (win0_8.rect t)).emb (ix2 y0 y1) = ix2 (trow t y0) y1 := by
    unfold trow
    blk_ext [idx t]
  rw [hx]
  exact z_blk m c t y0 y1

theorem final9 : (dats m 0 c).arrAt 9 cfg0.N = ba (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  have ht := t_lt t
  idx_vars y
  frame_out
  have hx : ((View.whole main_v27_2).slice (win0_9.rect t)).emb (ix2 y0 y1) = ix2 (trow t y0) y1 := by
    unfold trow
    blk_ext [idx t]
  rw [hx]
  rw [pay5_apply]
  by_cases h : y1.val < 8
  · refine (pay2_blk m c t y0 _ (⟨2048 + y1.val, by omega⟩ : Fin 3592) (by simp only; omega)).trans ?_
    exact (ba_lt _ _ _ _ _ h).symm
  · refine (pay2_zero m c t y0 _ (by simp only; omega)).trans ?_
    exact (ba_ge _ _ _ _ _ h).symm

theorem final10 : (dats m 0 c).arrAt 10 cfg0.N = bat (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  have ht := t_lt t
  idx_vars y
  frame_out
  have hx : ((View.whole main_v27_3).slice (win0_10.rect t)).emb (ix2 y0 y1) = ix2 y0 (trow t y1) := by
    unfold trow
    blk_ext [idx t]
  rw [hx]
  exact bat_blk m c t y0 y1

theorem final11 : (dats m 0 c).arrAt 11 cfg0.N = ks (m ((c : Thread nD τ).loc main_arg0)) (m ((c : Thread nD τ).loc main_arg1)) (m ((c : Thread nD τ).loc main_arg2)) (m ((c : Thread nD τ).loc main_arg4)) := by
  refine (dats m 0 c).arrAt_eq_of_covers 11 _ (by decide +kernel) fun t _ y => ?_
  blk_simp
  rw [after0_11]
  have ht := t_lt t
  idx_vars y
  frame_out
  have hx : ((View.whole main_v27_4).slice (win0_11.rect t)).emb (ix2 y0 y1) = ix2 (trow t y0) y1 := by
    unfold trow
    blk_ext [idx t]
  rw [hx]
  rw [pay15_eq]
  exact ks_blk m c t y0 y1

theorem final12 : (dats m 0 c).arrAt 12 cfg0.N = vs (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  have ht := t_lt t
  idx_vars y
  frame_out
  have hx : ((View.whole main_v27_5).slice (win0_12.rect t)).emb (ix2 y0 y1) = ix2 (trow t y0) y1 := by
    unfold trow
    blk_ext [idx t]
  rw [hx]
  rw [pay16_eq]
  exact dv_blk m c t y0 y1

theorem final13 : (dats m 0 c).arrAt 13 cfg0.N = qs (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t _ y => ?_
  blk_simp
  rw [after0_13]
  have ht := t_lt t
  idx_vars y
  frame_out
  have hx : ((View.whole main_v27_6).slice (win0_13.rect t)).emb (ix2 y0 y1) = ix2 (trow t y0) y1 := by
    unfold trow
    blk_ext [idx t]
  rw [hx]
  exact qs_blk m c t y0 y1

theorem final14 : (dats m 0 c).arrAt 14 cfg0.N = ks (m ((c : Thread nD τ).loc main_arg0)) (m ((c : Thread nD τ).loc main_arg1)) (m ((c : Thread nD τ).loc main_arg2)) (m ((c : Thread nD τ).loc main_arg4)) := by
  refine (dats m 0 c).arrAt_eq_of_covers 14 _ (by decide +kernel) fun t _ y => ?_
  blk_simp
  rw [after0_14]
  have ht := t_lt t
  idx_vars y
  frame_out
  have hx : ((View.whole main_v27_7).slice (win0_14.rect t)).emb (ix2 y0 y1) = ix2 (trow t y0) y1 := by
    unfold trow
    blk_ext [idx t]
  rw [hx]
  rw [pay13_eq, pay15_eq]
  exact ks_blk m c t y0 y1

theorem final15 : (dats m 0 c).arrAt 15 cfg0.N = vs (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]
  have ht := t_lt t
  idx_vars y
  frame_out
  have hx : ((View.whole main_v27_8).slice (win0_15.rect t)).emb (ix2 y0 y1) = ix2 (trow t y0) y1 := by
    unfold trow
    blk_ext [idx t]
  rw [hx]
  rw [pay14_eq, pay16_eq]
  exact dv_blk m c t y0 y1

end Cert.InprojIdeal.Value

end
-- ==== Proof.InprojRefValue.lean ====
/-
  What the plain input projection computes, array by array, at an index.
-/
module

public import proofs.«01_k».proof.Proof.InprojSpec
public import proofs.«01_k».proof.Proof.Gen.InprojRefIdeal.Run
public import Idealize.ShloMosaic.Lib.Pointwise
public import Idealize.ShloMosaic.Lib.IdealHost
public import Idealize.ShloMosaic.Lib.Pipeline.ValueKit

@[expose] public section

set_option maxRecDepth 16384

noncomputable section

namespace Cert.InprojRefIdeal.Value

open Idealize.ShloMosaic Idealize.ShloMosaic.TcCoe Idealize.SL.Sem
open Cert.InprojRefIdeal Cert.InprojRefIdeal.Gen Cert.InprojSpec

/-- The batches' rows one after another. -/
def rows (x : FVec Ideal S4x4096x1024 .f32) : FVec Ideal S16384x1024 .f32 := shapeCast _ x shapeCasts_S4x4096x1024_S16384x1024

/-- The mean square of each row. -/
def meanSq (r : FVec Ideal S16384x1024 .f32) : FVec Ideal S16384x1 .f32 :=
  Host.divf (broadcastInDim S16384x1 ![0] bcast_S16384_S16384x1_0 (Host.reduceAdd (mulf r r) (constant S_ .f32 0x00000000#32) reducesTo_S16384x1024_S16384_d1 h_S_))
    (broadcastInDim S16384x1 ![] bcast_S_S16384x1 (constant S_ .f32 0x44800000#32))

/-- The rows normalised. -/
def normed (x : FVec Ideal S4x4096x1024 .f32) (g : FVec Ideal S1024 .f32) : FVec Ideal S16384x1024 .f32 :=
  mulf (mulf (rows x) (broadcastInDim S16384x1024 ![0, 1] bcast_S16384x1_S16384x1024_0_1
    (Host.rsqrt (addf (meanSq (rows x)) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The normalised rows times the weight. -/
def prod (x : FVec Ideal S4x4096x1024 .f32) (g : FVec Ideal S1024 .f32) (w : FVec Ideal S1024x3592 .f32) : FVec Ideal S16384x3592 .f32 :=
  Host.dotGeneral dot_S16384x1024_S1024x3592_S16384x3592_1_0_0_1_n_n none (normed x g) w

/-- The heads of a row, each over the root of its mean square, times the gain. -/
def heads (v : FVec Ideal S16384x512 .f32) (q : FVec Ideal S64 .f32) : FVec Ideal S16384x512 .f32 :=
  shapeCast _ (mulf (mulf (shapeCast S16384x8x64 v shapeCasts_S16384x512_S16384x8x64) (broadcastInDim S16384x8x64 ![0, 1, 2] bcast_S16384x8x1_S16384x8x64_0_1_2
    (Host.rsqrt (addf (Host.divf (broadcastInDim S16384x8x1 ![0, 1] bcast_S16384x8_S16384x8x1_0_1
      (Host.reduceAdd (mulf (shapeCast S16384x8x64 v shapeCasts_S16384x512_S16384x8x64) (shapeCast S16384x8x64 v shapeCasts_S16384x512_S16384x8x64))
        (constant S_ .f32 0x00000000#32) reducesTo_S16384x8x64_S16384x8_d2 h_S_)) (broadcastInDim S16384x8x1 ![] bcast_S_S16384x8x1 (constant S_ .f32 0x42800000#32)))
      (broadcastInDim S16384x8x1 ![] bcast_S_S16384x8x1 (constant S_ .f32 0x358637BD#32))))))
    (broadcastInDim S16384x8x64 ![0, 1, 2] bcast_S1x1x64_S16384x8x64_0_1_2 (broadcastInDim S1x1x64 ![2] bcast_S64_S1x1x64_2 q))) shapeCasts_S16384x8x64_S16384x512

/-- The last 1536 columns. -/
def late (p : FVec Ideal S16384x3592 .f32) : FVec Ideal S16384x1536 .f32 := extractStridedSlice S16384x1536 ![0, 2056] p slices_S16384x3592_S16384x1536_0_2056

theorem normed_apply (x : FVec Ideal S4x4096x1024 .f32) (g : FVec Ideal S1024 .f32) (n : Fin 16384) (k : Fin 1024) :
    normed x g (ix2 n k) = xnorm (row x n) g k := by
  unfold normed meanSq rows xnorm row eps
  pointwise

theorem prod_apply (x : FVec Ideal S4x4096x1024 .f32) (g : FVec Ideal S1024 .f32) (w : FVec Ideal S1024x3592 .f32) (n : Fin 16384) (j : Fin 3592) :
    prod x g w (ix2 n j) = proj x g w n j := by
  unfold prod proj
  pointwise [normed_apply]

theorem heads_apply (v : FVec Ideal S16384x512 .f32) (q : FVec Ideal S64 .f32) (n : Fin 16384) (l : Fin 512) :
    heads v q (ix2 n l) = headNorm (fun e => v (ix2 n e)) q l := by
  unfold heads headNorm headMean eps mate
  pointwise
  simp only [Nat.mul_comm (l.val / 64) 64]

variable (x : FVec Ideal S4x4096x1024 .f32) (g : FVec Ideal S1024 .f32) (w : FVec Ideal S1024x3592 .f32) (q : FVec Ideal S64 .f32)

theorem qkv_eq : extractStridedSlice S16384x1536 ![0, 0] (prod x g w) slices_S16384x3592_S16384x1536_0_0 = qkv x g w := by
  funext i
  idx_vars i
  pointwise [prod_apply, qkv, col]

theorem z_eq : extractStridedSlice S16384x512 ![0, 1536] (prod x g w) slices_S16384x3592_S16384x512_0_1536 = z x g w := by
  funext i
  idx_vars i
  pointwise [prod_apply, z, col]

theorem bat_eq : transpose S8x16384 [1, 0] (extractStridedSlice S16384x8 ![0, 2048] (prod x g w) slices_S16384x3592_S16384x8_0_2048) transposes_S16384x8_S8x16384_1_0
    = bat x g w := by
  funext i
  idx_vars i
  pointwise [prod_apply, bat, col]

theorem ba_eq : concatenate S16384x128 1 [⟨S16384x8, (extractStridedSlice S16384x8 ![0, 2048] (prod x g w) slices_S16384x3592_S16384x8_0_2048)⟩,
    ⟨S16384x120, (broadcastInDim S16384x120 ![] bcast_S_S16384x120 (constant S_ .f32 0x00000000#32))⟩] concatenates_S16384x8_S16384x120_S16384x128_d1
    = ba x g w := by
  funext i
  idx_vars i
  pointwise [prod_apply, ba]

theorem dv_apply (n : Fin 16384) (l : Fin 512) : extractStridedSlice S16384x512 ![0, 1024] (late (prod x g w)) slices_S16384x1536_S16384x512_0_1024 (ix2 n l)
    = dv x g w n l := by
  unfold late dv
  pointwise [prod_apply, col]
  congr 1
  exact Fin.ext (by simp only; omega)

theorem dk_apply (n : Fin 16384) (l : Fin 512) : extractStridedSlice S16384x512 ![0, 512] (late (prod x g w)) slices_S16384x1536_S16384x512_0_512 (ix2 n l)
    = dk x g w n l := by
  unfold late dk
  pointwise [prod_apply, col]
  congr 1
  exact Fin.ext (by simp only; omega)

theorem dq_apply (n : Fin 16384) (l : Fin 512) : extractStridedSlice S16384x512 ![0, 0] (late (prod x g w)) slices_S16384x1536_S16384x512_0_0 (ix2 n l)
    = dq x g w n l := by
  unfold late dq
  pointwise [prod_apply, col]

theorem vs_eq : extractStridedSlice S16384x512 ![0, 1024] (late (prod x g w)) slices_S16384x1536_S16384x512_0_1024 = vs x g w := by
  funext i
  idx_vars i
  exact dv_apply x g w i0 i1

theorem ks_eq : heads (extractStridedSlice S16384x512 ![0, 512] (late (prod x g w)) slices_S16384x1536_S16384x512_0_512) q = ks x g w q := by
  funext i
  idx_vars i
  rw [heads_apply]
  simp only [dk_apply]
  rfl

theorem qs_eq : mulf (heads (extractStridedSlice S16384x512 ![0, 0] (late (prod x g w)) slices_S16384x1536_S16384x512_0_0) q)
    (broadcastInDim S16384x512 ![] bcast_S_S16384x512 (constant S_ .f32 0x3E000000#32)) = qs x g w q := by
  funext i
  idx_vars i
  pointwise [heads_apply, dq_apply, qs]

variable (m : (ℓ : Loc nD τ sig) → Buf (Elt Ideal) ℓ) (c : Dev nD)

theorem res_v48 : res_main_v48 m c = heads (extractStridedSlice S16384x512 ![0, 512] (late (prod (m ((c.tc : Thread nD τ).loc main_arg0)) (m ((c.tc : Thread nD τ).loc main_arg1))
    (m ((c.tc : Thread nD τ).loc main_arg2)))) slices_S16384x1536_S16384x512_0_512) (m ((c.tc : Thread nD τ).loc main_arg4)) := rfl

theorem res_v58 : res_main_v58 m c = heads (extractStridedSlice S16384x512 ![0, 512] (late (prod (m ((c.tc : Thread nD τ).loc main_arg0)) (m ((c.tc : Thread nD τ).loc main_arg1))
    (m ((c.tc : Thread nD τ).loc main_arg2)))) slices_S16384x1536_S16384x512_0_512) (m ((c.tc : Thread nD τ).loc main_arg4)) := rfl

theorem res_v57 : res_main_v57 m c = mulf (heads (extractStridedSlice S16384x512 ![0, 0] (late (prod (m ((c.tc : Thread nD τ).loc main_arg0)) (m ((c.tc : Thread nD τ).loc main_arg1))
    (m ((c.tc : Thread nD τ).loc main_arg2)))) slices_S16384x1536_S16384x512_0_0) (m ((c.tc : Thread nD τ).loc main_arg3)))
    (broadcastInDim S16384x512 ![] bcast_S_S16384x512 (constant S_ .f32 0x3E000000#32)) := rfl

end Cert.InprojRefIdeal.Value

end
-- ==== Proof.InprojClaim.lean ====
/-
  The input projection's claim: the kernel and the plain projection hold the same nine arrays.
-/
module

public import proofs.«01_k».proof.Defs
public import proofs.«01_k».proof.Proof.InprojValue
public import proofs.«01_k».proof.Proof.InprojRefValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

set_option maxHeartbeats 8000000 in
/-- The kernel and the plain projection give the same arrays. -/
theorem inproj_eq : Cert.algebraic_InprojIdeal_InprojRefIdeal := by
  pair_intro
  · run_from Cert.InprojIdeal.Value.run_blocks m g
  · run_from Cert.InprojRefIdeal.Value.run m' g'
    all_goals obtain ⟨a0, a1, a2, a3, a4⟩ := hagree c
    · rw [Cert.InprojIdeal.Value.final7 m c]
      refine (Cert.InprojRefIdeal.Value.qkv_eq _ _ _).trans ?_
      first | rw [a0, a1, a2] | rfl
    · rw [Cert.InprojIdeal.Value.final8 m c]
      refine (Cert.InprojRefIdeal.Value.z_eq _ _ _).trans ?_
      first | rw [a0, a1, a2] | rfl
    · rw [Cert.InprojIdeal.Value.final9 m c]
      refine (Cert.InprojRefIdeal.Value.ba_eq _ _ _).trans ?_
      first | rw [a0, a1, a2] | rfl
    · rw [Cert.InprojIdeal.Value.final10 m c]
      refine (Cert.InprojRefIdeal.Value.bat_eq _ _ _).trans ?_
      first | rw [a0, a1, a2] | rfl
    · rw [Cert.InprojIdeal.Value.final11 m c]
      refine ((Cert.InprojRefIdeal.Value.res_v48 m' c).trans (Cert.InprojRefIdeal.Value.ks_eq _ _ _ _)).trans ?_
      first | rw [a0, a1, a2, a4] | rfl
    · rw [Cert.InprojIdeal.Value.final12 m c]
      refine (Cert.InprojRefIdeal.Value.vs_eq _ _ _).trans ?_
      first | rw [a0, a1, a2] | rfl
    · rw [Cert.InprojIdeal.Value.final13 m c]
      refine ((Cert.InprojRefIdeal.Value.res_v57 m' c).trans (Cert.InprojRefIdeal.Value.qs_eq _ _ _ _)).trans ?_
      first | rw [a0, a1, a2, a3] | rfl
    · rw [Cert.InprojIdeal.Value.final14 m c]
      refine ((Cert.InprojRefIdeal.Value.res_v58 m' c).trans (Cert.InprojRefIdeal.Value.ks_eq _ _ _ _)).trans ?_
      first | rw [a0, a1, a2, a4] | rfl
    · rw [Cert.InprojIdeal.Value.final15 m c]
      refine (Cert.InprojRefIdeal.Value.vs_eq _ _ _).trans ?_
      first | rw [a0, a1, a2] | rfl

end Cert.Proof

end
-- ==== Proof.PostSpec.lean ====
/-
  The output projection and the feed-forward at a position of a sequence: the residual stream after the mixers, its
  up-projection, the convolution over three positions, the gate, and the down-projection.
-/
module

public import proofs.«01_k».proof.Proof.InprojSpec

@[expose] public section

set_option maxRecDepth 16384

noncomputable section

namespace Cert.PostSpec

open Idealize.ShloMosaic
open Cert.InprojSpec (eps xnorm)

/-- The row of position `p` of sequence `b`, the sequences one after another. -/
def flat (b : Fin 4) (p : Fin 4096) : Fin 16384 := ⟨b.val * 4096 + p.val, by omega⟩

/-- The sequence of a row, and its position there. -/
def seqOf (n : Fin 16384) : Fin 4 := ⟨n.val / 4096, by omega⟩
def posOf (n : Fin 16384) : Fin 4096 := ⟨n.val % 4096, by omega⟩

/-- The position of the `r`-th of a sequence's last eight rows. -/
def lastPos (r : Fin 8) : Fin 4096 := ⟨4088 + r.val, by omega⟩

/-- The two mixers' outputs side by side. -/
def mix (og od : (⟨2, ![16384, 512]⟩ : Shape).Idx → EReal) (n : Fin 16384) (j : Fin 1024) : EReal :=
  if h : j.val < 512 then og (ix2 n (⟨j.val, h⟩ : Fin 512)) else od (ix2 n (⟨j.val - 512, by omega⟩ : Fin 512))

variable (x : (⟨3, ![4, 4096, 1024]⟩ : Shape).Idx → EReal) (og od : (⟨2, ![16384, 512]⟩ : Shape).Idx → EReal)
  (wo : (⟨2, ![1024, 1024]⟩ : Shape).Idx → EReal) (g : (⟨1, ![1024]⟩ : Shape).Idx → EReal)
  (wu : (⟨2, ![1024, 5632]⟩ : Shape).Idx → EReal) (cw : (⟨2, ![3, 5632]⟩ : Shape).Idx → EReal)
  (cb : (⟨1, ![5632]⟩ : Shape).Idx → EReal) (wd : (⟨2, ![2816, 1024]⟩ : Shape).Idx → EReal)

/-- The residual stream after the mixers. -/
def res (b : Fin 4) (p : Fin 4096) (k : Fin 1024) : EReal :=
  x (ix3 b p k) + ∑ j : Fin 1024, mix og od (flat b p) j * wo (ix2 j k)

/-- The up-projection of the normalised stream. -/
def up (b : Fin 4) (p : Fin 4096) (l : Fin 5632) : EReal :=
  ∑ k : Fin 1024, xnorm (res x og od wo b p) g k * wu (ix2 k l)

/-- The up-projected rows behind two rows of zeros. -/
def padded (b : Fin 4) (s : Fin 4098) (l : Fin 5632) : EReal :=
  if h : s.val < 2 then 0 else up x og od wo g wu b (⟨s.val - 2, by omega⟩ : Fin 4096) l

/-- The convolution over a position and the two before it. -/
def conv (b : Fin 4) (p : Fin 4096) (l : Fin 5632) : EReal :=
  padded x og od wo g wu b (⟨p.val, by omega⟩ : Fin 4098) l * cw (ix2 0 l) + padded x og od wo g wu b (⟨1 + p.val, by omega⟩ : Fin 4098) l * cw (ix2 1 l)
    + padded x og od wo g wu b (⟨2 + p.val, by omega⟩ : Fin 4098) l * cw (ix2 2 l) + cb (ix1 l)

/-- The gate's lane of 5632 and the value's. -/
def gateLane (l : Fin 2816) : Fin 5632 := ⟨l.val, by omega⟩
def valueLane (l : Fin 2816) : Fin 5632 := ⟨2816 + l.val, by omega⟩

/-- A gate value times its logistic, times the value. -/
def gated (a v : EReal) : EReal := a * Ideal.logistic a * v

/-- The gated rows. -/
def act (b : Fin 4) (p : Fin 4096) (l : Fin 2816) : EReal :=
  gated (conv x og od wo g wu cw cb b p (gateLane l)) (conv x og od wo g wu cw cb b p (valueLane l))

/-- The stream after the feed-forward. -/
def y (b : Fin 4) (p : Fin 4096) (k : Fin 1024) : EReal :=
  res x og od wo b p k + ∑ l : Fin 2816, act x og od wo g wu cw cb b p l * wd (ix2 l k)

/-- The stream after the feed-forward, the sequences one after another. -/
def out : (⟨2, ![16384, 1024]⟩ : Shape).Idx → EReal := fun i =>
  y x og od wo g wu cw cb wd (seqOf (i 0)) (posOf (i 0)) (i 1)

/-- The last eight up-projected rows of every sequence. -/
def last : (⟨3, ![4, 8, 5632]⟩ : Shape).Idx → EReal := fun i =>
  up x og od wo g wu (i 0 : Fin 4) (lastPos (i 1)) (i 2)

/-- The sum over both mixers' columns is the sum over the first's plus the sum over the second's. -/
theorem mix_sum (n : Fin 16384) (k : Fin 1024) : ∑ j : Fin 1024, mix og od n j * wo (ix2 j k)
    = ∑ j : Fin 512, og (ix2 n j) * wo (ix2 (⟨j.val, by omega⟩ : Fin 1024) k) + ∑ j : Fin 512, od (ix2 n j) * wo (ix2 (⟨512 + j.val, by omega⟩ : Fin 1024) k) := by
  have e := Fin.sum_univ_add (a := 512) (b := 512) (fun j : Fin (512 + 512) => mix og od n j * wo (ix2 j k))
  refine (show _ = _ from e).trans (congrArg₂ (· + ·) ?_ ?_)
  · refine Finset.sum_congr rfl fun j _ => ?_
    have h : (Fin.castAdd 512 j).val < 512 := j.isLt
    unfold mix
    rw [dif_pos h]
    rfl
  · refine Finset.sum_congr rfl fun j _ => ?_
    have h : ¬ (Fin.natAdd 512 j).val < 512 := by simp [Fin.natAdd]
    unfold mix
    rw [dif_neg h]
    have e1 : (⟨(Fin.natAdd 512 j).val - 512, by have := j.isLt; simp [Fin.natAdd]⟩ : Fin 512) = j := Fin.ext (by simp [Fin.natAdd])
    rw [e1]
    rfl

end Cert.PostSpec

end
-- ==== Proof.PostBlocks.lean ====
/-
  The blocks the output projection and the feed-forward read, at coordinates of the arguments.
-/
module

public import proofs.«01_k».proof.Proof.PostSpec
public import proofs.«01_k».proof.Proof.Gen.PostIdeal.Value
public import Idealize.ShloMosaic.Lib.Pipeline.ValueKit
public import Idealize.ShloMosaic.Lib.Claim
public import Idealize.ShloMosaic.Lib.Pointwise
public import Idealize.ShloMosaic.Lib.IdealHost

@[expose] public section

set_option maxRecDepth 16384

noncomputable section

namespace Cert.PostIdeal.Value

open Idealize.ShloMosaic Idealize.ShloMosaic.TcCoe Idealize.SL.Sem
open Idealize.ShloMosaic.Pipeline (Dat)
open Cert.PostIdeal Cert.PostIdeal.Gen

variable (m : (ℓ : Loc nD τ sig) → Buf (Elt Ideal) ℓ)

/-- The blocks each window visits. -/
theorem idx : ∀ t : Fin cfg0.N, win0_0.index t = ![t.val, 0] ∧ win0_1.index t = ![t.val, 0] ∧ win0_2.index t = ![t.val, 0]
    ∧ win0_3.index t = ![t.val / 16, 0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![t.val / 16, 0, 0] :=
  (by decide +kernel : ∀ t : Fin grid0.N, _)

variable (c : Dev nD) (t : Fin cfg0.N)

theorem t_lt (t : Fin cfg0.N) : t.val < 64 := t.isLt

/-- The sequence of tile `t`, and the position there of its row `r`. -/
def bt (t : Fin cfg0.N) : Fin 4 := ⟨t.val / 16, by have := t_lt t; omega⟩
def pt (t : Fin cfg0.N) (r : Fin 256) : Fin 4096 := ⟨256 * (t.val % 16) + r.val, by have := r.isLt; omega⟩

theorem x_blk (r : Fin 256) (k : Fin 1024) : iblk m c 0 t (ix2 r k) = m ((c : Thread nD τ).loc main_arg0) (ix3 (bt t) (pt t r) k) := by
  have ht := t_lt t
  blk_simp [iblk, idx t]
  unfold bt pt
  entry_read
  pointwise
  blk_ext [idx t]

theorem og_blk (r : Fin 256) (j : Fin 512) : iblk m c 1 t (ix2 r j) = m ((c : Thread nD τ).loc main_arg1) (ix2 (PostSpec.flat (bt t) (pt t r)) j) := by
  have ht := t_lt t
  blk_simp [iblk, V, idx t]
  unfold bt pt PostSpec.flat
  blk_ext [idx t]

theorem od_blk (r : Fin 256) (j : Fin 512) : iblk m c 2 t (ix2 r j) = m ((c : Thread nD τ).loc main_arg2) (ix2 (PostSpec.flat (bt t) (pt t r)) j) := by
  have ht := t_lt t
  blk_simp [iblk, V, idx t]
  unfold bt pt PostSpec.flat
  blk_ext [idx t]

theorem hist_blk (r : Fin 8) (l : Fin 5632) : iblk m c 3 t (ix3 0 r l) = (0 : EReal) := by
  have ht := t_lt t
  blk_simp [iblk, idx t]
  entry_read
  pointwise

theorem wo_blk (j k : Fin 1024) : iblk m c 4 t (ix2 j k) = m ((c : Thread nD τ).loc main_arg3) (ix2 j k) := by
  have ht := t_lt t
  blk_simp [iblk, idx t]
  entry_read
  pointwise
  blk_ext [idx t]

theorem g_blk (k : Fin 1024) : iblk m c 5 t (ix2 0 k) = m ((c : Thread nD τ).loc main_arg4) (ix1 k) := by
  have ht := t_lt t
  blk_simp [iblk, idx t]
  entry_read
  pointwise
  blk_ext [idx t]

theorem wu_blk (k : Fin 1024) (l : Fin 5632) : iblk m c 6 t (ix2 k l) = m ((c : Thread nD τ).loc main_arg5) (ix2 k l) := by
  have ht := t_lt t
  blk_simp [iblk, idx t]
  entry_read
  pointwise
  blk_ext [idx t]

theorem cw_blk (k : Fin 3) (l : Fin 5632) : iblk m c 7 t (ix2 k l) = m ((c : Thread nD τ).loc main_arg6) (ix2 k l) := by
  have ht := t_lt t
  blk_simp [iblk, V, idx t]
  blk_ext [idx t]

theorem cb_blk (l : Fin 5632) : iblk m c 8 t (ix2 0 l) = m ((c : Thread nD τ).loc main_arg7) (ix1 l) := by
  have ht := t_lt t
  blk_simp [iblk, idx t]
  entry_read
  pointwise
  blk_ext [idx t]

theorem wd_blk (l : Fin 2816) (k : Fin 1024) : iblk m c 9 t (ix2 l k) = m ((c : Thread nD τ).loc main_arg8) (ix2 l k) := by
  have ht := t_lt t
  blk_simp [iblk, idx t]
  entry_read
  pointwise
  blk_ext [idx t]

end Cert.PostIdeal.Value

end
-- ==== Proof.PostStep.lean ====
/-
  One tile of the feed-forward: its payloads at an index, and the buffer of up-projected rows it reads back.
-/
module

public import proofs.«01_k».proof.Proof.PostBlocks
public import Idealize.ShloMosaic.Lib.WritesUnit
public import Idealize.ShloMosaic.Lib.Pipeline.ReadBack

@[expose] public section

set_option maxRecDepth 16384

noncomputable section

namespace Cert.PostIdeal.Value

open Idealize.ShloMosaic Idealize.ShloMosaic.TcCoe Idealize.SL.Sem
open Idealize.ShloMosaic.Pipeline (Dat)
open Cert.PostIdeal Cert.PostIdeal.Gen
open Cert.InprojSpec (eps xnorm)

theorem pay1_apply (h : FVec Ideal S256x1024 .f32) (a : FVec Ideal S256x2816 .bf16) (w : FVec Ideal S2816x1024 .bf16) (r : Fin 256) (k : Fin 1024) :
    k0_pay1 h a w (constant S256x1024 .f32 0x00000000#32) (ix2 r k) = h (ix2 r k) + ∑ l : Fin 2816, a (ix2 r l) * w (ix2 l k) := by
  unfold k0_pay1
  pointwise

theorem pay2_apply (v : Vec Ideal S1x8x5632 .f32) (r : Fin 8) (l : Fin 5632) : k0_pay2 v (ix2 r l) = v (ix3 0 r l) := by
  unfold k0_pay2
  pointwise

theorem pay3_apply (x : Vec Ideal S256x1024 .f32) (a : Vec Ideal S256x512 .bf16) (u : Vec Ideal S512x1024 .bf16) (b : Vec Ideal S256x512 .bf16)
    (v : Vec Ideal S512x1024 .bf16) (r : Fin 256) (k : Fin 1024) :
    k0_pay3 x a u b v (ix2 r k) = x (ix2 r k) + ∑ j : Fin 512, a (ix2 r j) * u (ix2 j k) + ∑ j : Fin 512, b (ix2 r j) * v (ix2 j k) := by
  unfold k0_pay3
  pointwise

theorem pay4_apply (x : Vec Ideal S256x1024 .f32) (a : Vec Ideal S256x512 .bf16) (u : Vec Ideal S512x1024 .bf16) (b : Vec Ideal S256x512 .bf16)
    (v : Vec Ideal S512x1024 .bf16) (g : Vec Ideal S1x1024 .f32) (w : Vec Ideal S1024x5632 .bf16) (r : Fin 256) (l : Fin 5632) :
    k0_pay4 x a u b v g w (ix2 r l)
      = ∑ k : Fin 1024, xnorm (fun e => k0_pay3 x a u b v (ix2 r e)) (fun i => g (ix2 0 (i 0))) k * w (ix2 k l) := by
  unfold k0_pay4 xnorm eps
  pointwise

theorem pay5_apply (v : FVec Ideal S256x5632 .f32) (r : Fin 256) (l : Fin 5632) : k0_pay5 v (ix2 r l) = v (ix2 r l) := by
  unfold k0_pay5
  pointwise

theorem pay6_apply (v : Vec Ideal S8x5632 .f32) (z : Fin 1) (r : Fin 8) (l : Fin 5632) : k0_pay6 v (ix3 z r l) = v (ix2 r l) := by
  unfold k0_pay6
  pointwise

theorem pay7_apply (v : Vec Ideal S8x5632 .f32) (r : Fin 8) (l : Fin 5632) : k0_pay7 v (ix2 r l) = v (ix2 r l) := by
  unfold k0_pay7
  pointwise

/-- The convolution of one lane from the three rows and the lane's weights. -/
def convAt (w : Vec Ideal S3x5632 .f32) (b : Vec Ideal S1x5632 .f32) (u0 u1 u2 : Vec Ideal S256x5632 .f32) (r : Fin 256) (l : Fin 5632) : EReal :=
  w (ix2 2 l) * u0 (ix2 r l) + b (ix2 0 l) + w (ix2 1 l) * u1 (ix2 r l) + w (ix2 0 l) * u2 (ix2 r l)

theorem pay8_apply (w : Vec Ideal S3x5632 .f32) (u0 : Vec Ideal S256x5632 .f32) (b : Vec Ideal S1x5632 .f32) (u1 u2 : Vec Ideal S256x5632 .f32)
    (r : Fin 256) (l : Fin 2816) : k0_pay8 w u0 b u1 u2 (ix2 r l)
      = PostSpec.gated (convAt w b u0 u1 u2 r (PostSpec.gateLane l)) (convAt w b u0 u1 u2 r (PostSpec.valueLane l)) := by
  unfold k0_pay8 PostSpec.gated convAt PostSpec.gateLane PostSpec.valueLane
  pointwise

theorem pay9_apply (v : Vec Ideal S2816x1024 .bf16) (l : Fin 2816) (k : Fin 1024) : k0_pay9 v (ix2 l k) = v (ix2 l k) := by
  unfold k0_pay9
  pointwise

/-- A row from the eighth on reads the tile's row, whatever the buffer held. -/
theorem read_hi (f : (View.whole cc0_scratch0).ty.Contents (Elt Ideal)) (U : Vec Ideal S256x5632 .f32) (L : List (View.Piece (Elt Ideal) S264x5632 .f32))
    (y : S264x5632.Idx) (r : Fin 256) (l : Fin 5632) (h0 : (y 0).val = 8 + r.val) (h1 : (y 1).val = l.val) :
    View.read (Elt Ideal) (View.whole cc0_scratch0) ((View.whole cc0_scratch0).writes (Elt Ideal) f
      (⟨Rect.unit (s := S264x5632) ![8, 0] ![256, 5632] inb_S264x5632_S256x5632_8_0, U⟩ :: L)) y = U (ix2 r l) :=
  View.read_writes_cons_rows_of_mem (View.whole cc0_scratch0) f inb_S264x5632_S256x5632_8_0 U L y (ix2 r l) rfl h0 h1

/-- An earlier row reads what was there. -/
theorem read_lo (f : (View.whole cc0_scratch0).ty.Contents (Elt Ideal)) (U : Vec Ideal S256x5632 .f32) (L : List (View.Piece (Elt Ideal) S264x5632 .f32))
    (y : S264x5632.Idx) (h0 : (y 0).val < 8) :
    View.read (Elt Ideal) (View.whole cc0_scratch0) ((View.whole cc0_scratch0).writes (Elt Ideal) f
      (⟨Rect.unit (s := S264x5632) ![8, 0] ![256, 5632] inb_S264x5632_S256x5632_8_0, U⟩ :: L)) y
      = View.read (Elt Ideal) (View.whole cc0_scratch0) ((View.whole cc0_scratch0).writes (Elt Ideal) f L) y :=
  View.read_writes_cons_rows_of_not_mem (View.whole cc0_scratch0) f inb_S264x5632_S256x5632_8_0 U L y rfl rfl (Or.inl h0)

/-- An earlier row after the history was put there reads the history. -/
theorem read_hist (f : (View.whole cc0_scratch0).ty.Contents (Elt Ideal)) (H : Vec Ideal S8x5632 .f32) (y : S264x5632.Idx) (r : Fin 8) (l : Fin 5632)
    (h0 : (y 0).val = r.val) (h1 : (y 1).val = l.val) :
    View.read (Elt Ideal) (View.whole cc0_scratch0) ((View.whole cc0_scratch0).writes (Elt Ideal) f
      [⟨Rect.unit (s := S264x5632) ![0, 0] ![8, 5632] inb_S264x5632_S8x5632_0_0, H⟩]) y = H (ix2 r l) :=
  View.read_writes_cons_rows_of_mem (View.whole cc0_scratch0) f inb_S264x5632_S8x5632_0_0 H [] y (ix2 r l) rfl
    (by rw [h0]; exact (Nat.zero_add _).symm) h1

variable (m : (ℓ : Loc nD τ sig) → Buf (Elt Ideal) ℓ) (c : Dev nD) (t : Fin cfg0.N)

/-- The residual stream of the arguments. -/
def mres : Fin 4 → Fin 4096 → Fin 1024 → EReal :=
  PostSpec.res (m ((c : Thread nD τ).loc main_arg0)) (m ((c : Thread nD τ).loc main_arg1)) (m ((c : Thread nD τ).loc main_arg2)) (m ((c : Thread nD τ).loc main_arg3))

/-- The up-projected rows of the arguments. -/
def mup : Fin 4 → Fin 4096 → Fin 5632 → EReal :=
  PostSpec.up (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The up-projected rows of the arguments behind two rows of zeros. -/
def mpad : Fin 4 → Fin 4098 → Fin 5632 → EReal :=
  PostSpec.padded (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The halves of the output projection a tile loads. -/
def woTop : Vec Ideal S512x1024 .bf16 := View.ld (Val := Elt Ideal) (e' := .bf16) (iblk m c 4 t) (Rect.unit (s := S1024x1024) ![0, 0] ![512, 1024] inb_S1024x1024_S512x1024_0_0)
def woBot : Vec Ideal S512x1024 .bf16 := View.ld (Val := Elt Ideal) (e' := .bf16) (iblk m c 4 t) (Rect.unit (s := S1024x1024) ![512, 0] ![512, 1024] inb_S1024x1024_S512x1024_512_0)

/-- The tile's residual stream, and its up-projected rows. -/
def tileRes : FVec Ideal S256x1024 .f32 := k0_pay3 (iblk m c 0 t) (iblk m c 1 t) (woTop m c t) (iblk m c 2 t) (woBot m c t)
def tileUp : FVec Ideal S256x5632 .f32 := k0_pay4 (iblk m c 0 t) (iblk m c 1 t) (woTop m c t) (iblk m c 2 t) (woBot m c t) (iblk m c 5 t) (iblk m c 6 t)

theorem woTop_apply (j : Fin 512) (k : Fin 1024) : woTop m c t (ix2 j k) = m ((c : Thread nD τ).loc main_arg3) (ix2 (⟨j.val, by omega⟩ : Fin 1024) k) := by
  refine (show _ = iblk m c 4 t (ix2 (⟨j.val, by omega⟩ : Fin 1024) k) from ?_).trans (wo_blk m c t _ k)
  unfold woTop
  refine congrArg (iblk m c 4 t) (funext fun a => ?_)
  fin_cases a
  · exact Fin.ext (by show 0 + 1 * j.val = j.val; omega)
  · exact Fin.ext (by show 0 + 1 * k.val = k.val; omega)

theorem woBot_apply (j : Fin 512) (k : Fin 1024) : woBot m c t (ix2 j k) = m ((c : Thread nD τ).loc main_arg3) (ix2 (⟨512 + j.val, by omega⟩ : Fin 1024) k) := by
  refine (show _ = iblk m c 4 t (ix2 (⟨512 + j.val, by omega⟩ : Fin 1024) k) from ?_).trans (wo_blk m c t _ k)
  unfold woBot
  refine congrArg (iblk m c 4 t) (funext fun a => ?_)
  fin_cases a
  · exact Fin.ext (by show 512 + 1 * j.val = 512 + j.val; omega)
  · exact Fin.ext (by show 0 + 1 * k.val = k.val; omega)

theorem tileRes_apply (r : Fin 256) (k : Fin 1024) : tileRes m c t (ix2 r k) = mres m c (bt t) (pt t r) k := by
  unfold tileRes mres PostSpec.res
  rw [pay3_apply, PostSpec.mix_sum, add_assoc]
  refine congrArg₂ (· + ·) (x_blk m c t r k) (congrArg₂ (· + ·) (Finset.sum_congr rfl fun j _ => ?_) (Finset.sum_congr rfl fun j _ => ?_))
  · exact congrArg₂ (fun a b : EReal => a * b) (og_blk m c t r j) (woTop_apply m c t j k)
  · exact congrArg₂ (fun a b : EReal => a * b) (od_blk m c t r j) (woBot_apply m c t j k)

theorem tileUp_apply (r : Fin 256) (l : Fin 5632) : tileUp m c t (ix2 r l) = mup m c (bt t) (pt t r) l := by
  unfold tileUp mup PostSpec.up
  rw [pay4_apply]
  refine Finset.sum_congr rfl fun k _ => congrArg₂ (fun a b : EReal => a * b) ?_ (wu_blk m c t k l)
  have e1 : (fun e => k0_pay3 (iblk m c 0 t) (iblk m c 1 t) (woTop m c t) (iblk m c 2 t) (woBot m c t) (ix2 r e)) = mres m c (bt t) (pt t r) :=
    funext fun e => tileRes_apply m c t r e
  unfold xnorm
  rw [e1]
  exact congrArg₂ (fun a b : EReal => a * b) rfl (g_blk m c t k)

end Cert.PostIdeal.Value

end
-- ==== Proof.PostValue.lean ====
/-
  What the feed-forward of a tile leaves, and what the whole grid leaves: the tile convolves its up-projected rows behind the last rows of the tile
  before it.
-/
module

public import proofs.«01_k».proof.Proof.PostStep

@[expose] public section

set_option maxRecDepth 16384

noncomputable section

namespace Cert.PostIdeal.Value

open Idealize.ShloMosaic Idealize.ShloMosaic.TcCoe Idealize.SL.Sem
open Idealize.ShloMosaic.Pipeline (Dat)
open Cert.PostIdeal Cert.PostIdeal.Gen

variable (m : (ℓ : Loc nD τ sig) → Buf (Elt Ideal) ℓ) (c : Dev nD) (t : Fin cfg0.N)

/-- The row of the buffer, and its row among the last eight of the tile. -/
def lowRow (r : Fin 8) : Fin 264 := ⟨r.val, by omega⟩
def tailRow (r : Fin 8) : Fin 256 := ⟨248 + r.val, by omega⟩

/-- The buffer's last eight rows are the last of the tile. -/
theorem cov_tail (U : Vec Ideal S256x5632 .f32) (L : List (View.Piece (Elt Ideal) S264x5632 .f32)) (r : Fin 8) (l : Fin 5632) :
    (View.whole cc0_scratch0).readCov (⟨Rect.unit (s := S264x5632) ![8, 0] ![256, 5632] inb_S264x5632_S256x5632_8_0, U⟩ :: L)
      (Rect.unit (s := S264x5632) ![256, 0] ![8, 5632] inb_S264x5632_S8x5632_256_0).toLoadRect (ix2 r l) = U (ix2 (tailRow r) l) := by
  have h0 : ((Rect.unit (s := S264x5632) ![256, 0] ![8, 5632] inb_S264x5632_S8x5632_256_0).toLoadRect.idx (ix2 r l) 0).val = 8 + (tailRow r).val := by
    show 256 + 1 * r.val = 8 + (248 + r.val)
    omega
  have h1 : ((Rect.unit (s := S264x5632) ![256, 0] ![8, 5632] inb_S264x5632_S8x5632_256_0).toLoadRect.idx (ix2 r l) 1).val = l.val := by
    show 0 + 1 * l.val = l.val
    omega
  unfold View.readCov
  exact read_hi (View.whole cc0_scratch0).junk U L ((Rect.unit (s := S264x5632) ![256, 0] ![8, 5632] inb_S264x5632_S8x5632_256_0).toLoadRect.idx (ix2 r l)) (tailRow r) l h0 h1

/-- A tile leaves the last eight of its up-projected rows on top of the buffer. -/
theorem tail_carry (r : Fin 8) (l : Fin 5632) : (outsAt0 m c t.val t.isLt).2.2 (ix2 (lowRow r) l) = mup m c (bt t) (pt t (tailRow r)) l := by
  refine Eq.trans ?_ (tileUp_apply m c t (tailRow r) l)
  have hy : (ix2 (lowRow r) l : S264x5632.Idx) = (Rect.unit (s := S264x5632) ![0, 0] ![8, 5632] inb_S264x5632_S8x5632_0_0).emb (ix2 r l) :=
    funext fun a => by
      fin_cases a
      · exact Fin.ext (by show r.val = 0 + 1 * r.val; omega)
      · exact Fin.ext (by show l.val = 0 + 1 * l.val; omega)
  by_cases h : t.val % 16 = 0
  · rw [outsAt0_A m c t h]
    frame_out
    rw [hy]
    refine (View.canon_cons_emb (Rect.unit (s := S264x5632) ![0, 0] ![8, 5632] inb_S264x5632_S8x5632_0_0) _ _ (ix2 r l)).trans ?_
    refine (pay7_apply _ r l).trans ?_
    refine (cov_tail _ _ r l).trans ?_
    exact pay5_apply _ _ _
  · rw [outsAt0_B m c t h]
    frame_out
    rw [hy]
    refine (View.canon_cons_emb (Rect.unit (s := S264x5632) ![0, 0] ![8, 5632] inb_S264x5632_S8x5632_0_0) _ _ (ix2 r l)).trans ?_
    refine (pay7_apply _ r l).trans ?_
    refine (cov_tail _ _ r l).trans ?_
    exact pay5_apply _ _ _

/-- So does the tile's eight-row output. -/
theorem tail_out (z : Fin 1) (r : Fin 8) (l : Fin 5632) : (outsAt0 m c t.val t.isLt).2.1 (ix3 z r l) = mup m c (bt t) (pt t (tailRow r)) l := by
  refine Eq.trans ?_ (tileUp_apply m c t (tailRow r) l)
  by_cases h : t.val % 16 = 0
  · rw [outsAt0_A m c t h]
    frame_out
    refine (pay6_apply _ z r l).trans ?_
    refine (cov_tail _ _ r l).trans ?_
    exact pay5_apply _ _ _
  · rw [outsAt0_B m c t h]
    frame_out
    refine (pay6_apply _ z r l).trans ?_
    refine (cov_tail _ _ r l).trans ?_
    exact pay5_apply _ _ _

/-- The padded row that row `6 + s` of the buffer holds. -/
def padRow (t : Fin cfg0.N) (s : Fin 258) : Fin 4098 := ⟨256 * (t.val % 16) + s.val, by have := s.isLt; omega⟩

/-- The three rows a convolution at row `r` reads. -/
def tap0 (r : Fin 256) : Fin 258 := ⟨r.val, by omega⟩
def tap1 (r : Fin 256) : Fin 258 := ⟨1 + r.val, by omega⟩
def tap2 (r : Fin 256) : Fin 258 := ⟨2 + r.val, by omega⟩

/-- A row of the tile in the buffer is a padded row. -/
theorem pad_tile (s : Fin 258) (h : 2 ≤ s.val) (l : Fin 5632) :
    mup m c (bt t) (pt t (⟨s.val - 2, by omega⟩ : Fin 256)) l = mpad m c (bt t) (padRow t s) l := by
  unfold mpad PostSpec.padded
  have hn : ¬ (padRow t s).val < 2 := by
    show ¬ 256 * (t.val % 16) + s.val < 2
    omega
  rw [dif_neg hn]
  refine congrArg (fun p => mup m c (bt t) p l) (Fin.ext ?_)
  show 256 * (t.val % 16) + (s.val - 2) = 256 * (t.val % 16) + s.val - 2
  omega

/-- The two rows before the tile in the buffer, on a sequence's first tile. -/
theorem pad_first (h : t.val % 16 = 0) (s : Fin 258) (hs : s.val < 2) (l : Fin 5632) : (0 : EReal) = mpad m c (bt t) (padRow t s) l := by
  unfold mpad PostSpec.padded
  have hn : (padRow t s).val < 2 := by
    show 256 * (t.val % 16) + s.val < 2
    omega
  rw [dif_pos hn]

/-- The tile before. -/
def prev (t : Fin cfg0.N) : Fin cfg0.N := ⟨t.val - 1, Nat.lt_of_le_of_lt (Nat.sub_le _ _) t.isLt⟩

/-- The two rows before the tile in the buffer, on a later tile, are the last two of the tile before. -/
theorem pad_later (h : ¬ t.val % 16 = 0) (s : Fin 258) (hs : s.val < 2) (l : Fin 5632) :
    mup m c (bt (prev t)) (pt (prev t) (tailRow (⟨6 + s.val, by omega⟩ : Fin 8))) l = mpad m c (bt t) (padRow t s) l := by
  unfold mpad PostSpec.padded
  have hn : ¬ (padRow t s).val < 2 := by
    show ¬ 256 * (t.val % 16) + s.val < 2
    omega
  rw [dif_neg hn]
  have hb : bt (prev t) = bt t := Fin.ext (by show (t.val - 1) / 16 = t.val / 16; omega)
  rw [hb]
  refine congrArg (fun p => mup m c (bt t) p l) (Fin.ext ?_)
  show 256 * ((t.val - 1) % 16) + (248 + (6 + s.val)) = 256 * (t.val % 16) + s.val - 2
  omega

/-- The buffer of a sequence's first tile, from row six on. -/
theorem held_first (h : t.val % 16 = 0) (f : (View.whole cc0_scratch0).ty.Contents (Elt Ideal)) (s : Fin 258) (l : Fin 5632) (y : S264x5632.Idx)
    (h0 : (y 0).val = 6 + s.val) (h1 : (y 1).val = l.val) :
    View.read (Elt Ideal) (View.whole cc0_scratch0) ((View.whole cc0_scratch0).writes (Elt Ideal) f
      [⟨Rect.unit (s := S264x5632) ![8, 0] ![256, 5632] inb_S264x5632_S256x5632_8_0, k0_pay5 (tileUp m c t)⟩,
        ⟨Rect.unit (s := S264x5632) ![0, 0] ![8, 5632] inb_S264x5632_S8x5632_0_0, k0_pay2 (iblk m c 3 t)⟩]) y = mpad m c (bt t) (padRow t s) l := by
  by_cases hs : s.val < 2
  · refine (read_lo f _ _ y (by omega)).trans ?_
    refine (read_hist f _ y (⟨6 + s.val, by omega⟩ : Fin 8) l h0 h1).trans ?_
    exact (pay2_apply _ _ l).trans ((hist_blk m c t _ l).trans (pad_first m c t h s hs l))
  · refine (read_hi f _ _ y (⟨s.val - 2, by omega⟩ : Fin 256) l (by show (y 0).val = 8 + (s.val - 2); omega) h1).trans ?_
    exact (pay5_apply _ _ l).trans ((tileUp_apply m c t _ l).trans (pad_tile m c t s (by omega) l))

/-- The buffer of a later tile, from row six on. -/
theorem held_later (h : ¬ t.val % 16 = 0) (f : (View.whole cc0_scratch0).ty.Contents (Elt Ideal))
    (hf : View.read (Elt Ideal) (View.whole cc0_scratch0) f = (outsAt0 m c (prev t).val (prev t).isLt).2.2) (s : Fin 258) (l : Fin 5632)
    (y : S264x5632.Idx) (h0 : (y 0).val = 6 + s.val) (h1 : (y 1).val = l.val) :
    View.read (Elt Ideal) (View.whole cc0_scratch0) ((View.whole cc0_scratch0).writes (Elt Ideal) f
      [⟨Rect.unit (s := S264x5632) ![8, 0] ![256, 5632] inb_S264x5632_S256x5632_8_0, k0_pay5 (tileUp m c t)⟩]) y = mpad m c (bt t) (padRow t s) l := by
  by_cases hs : s.val < 2
  · refine (read_lo f _ _ y (by omega)).trans ?_
    have hy : y = ix2 (lowRow (⟨6 + s.val, by omega⟩ : Fin 8)) l := funext fun a => by
      fin_cases a
      · exact Fin.ext h0
      · exact Fin.ext h1
    rw [hy]
    refine (congrFun hf _).trans ?_
    exact (tail_carry m c (prev t) _ l).trans (pad_later m c t h s hs l)
  · refine (read_hi f _ _ y (⟨s.val - 2, by omega⟩ : Fin 256) l (by show (y 0).val = 8 + (s.val - 2); omega) h1).trans ?_
    exact (pay5_apply _ _ l).trans ((tileUp_apply m c t _ l).trans (pad_tile m c t s (by omega) l))

/-- The convolution, the gate and the down-projection of the arguments. -/
def mconv : Fin 4 → Fin 4096 → Fin 5632 → EReal :=
  PostSpec.conv (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
def my : Fin 4 → Fin 4096 → Fin 1024 → EReal :=
  PostSpec.y (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8))

/-- The kernel adds the convolution's terms in another order. -/
theorem conv_order (a0 a1 a2 w0 w1 w2 b : EReal) : w2 * a2 + b + w1 * a1 + w0 * a0 = a0 * w0 + a1 * w1 + a2 * w2 + b := by
  rw [mul_comm w2, mul_comm w1, mul_comm w0]
  abel

/-- Three rows that hold the padded rows convolve to the specification's convolution. -/
theorem conv_tile (u0 u1 u2 : Vec Ideal S256x5632 .f32) (r : Fin 256) (l : Fin 5632)
    (h0 : u0 (ix2 r l) = mpad m c (bt t) (padRow t (tap2 r)) l) (h1 : u1 (ix2 r l) = mpad m c (bt t) (padRow t (tap1 r)) l)
    (h2 : u2 (ix2 r l) = mpad m c (bt t) (padRow t (tap0 r)) l) : convAt (iblk m c 7 t) (iblk m c 8 t) u0 u1 u2 r l = mconv m c (bt t) (pt t r) l := by
  unfold convAt
  rw [h0, h1, h2, cw_blk m c t 0 l, cw_blk m c t 1 l, cw_blk m c t 2 l, cb_blk m c t l]
  refine (conv_order _ _ _ _ _ _ _).trans ?_
  have e0 : padRow t (tap0 r) = (⟨(pt t r).val, by omega⟩ : Fin 4098) := rfl
  have e1 : padRow t (tap1 r) = (⟨1 + (pt t r).val, by omega⟩ : Fin 4098) :=
    Fin.ext (by show 256 * (t.val % 16) + (1 + r.val) = 1 + (256 * (t.val % 16) + r.val); omega)
  have e2 : padRow t (tap2 r) = (⟨2 + (pt t r).val, by omega⟩ : Fin 4098) :=
    Fin.ext (by show 256 * (t.val % 16) + (2 + r.val) = 2 + (256 * (t.val % 16) + r.val); omega)
  rw [e0, e1, e2]
  rfl

/-- A tile whose three loads hold the padded rows leaves the stream after the feed-forward. -/
theorem y_tile (u0 u1 u2 : Vec Ideal S256x5632 .f32) (h0 : ∀ r l, u0 (ix2 r l) = mpad m c (bt t) (padRow t (tap2 r)) l)
    (h1 : ∀ r l, u1 (ix2 r l) = mpad m c (bt t) (padRow t (tap1 r)) l) (h2 : ∀ r l, u2 (ix2 r l) = mpad m c (bt t) (padRow t (tap0 r)) l)
    (r : Fin 256) (k : Fin 1024) :
    k0_pay1 (tileRes m c t) (k0_pay8 (iblk m c 7 t) u0 (iblk m c 8 t) u1 u2) (k0_pay9 (iblk m c 9 t)) (constant S256x1024 .f32 0x00000000#32) (ix2 r k)
      = my m c (bt t) (pt t r) k := by
  refine (pay1_apply _ _ _ r k).trans ?_
  unfold my PostSpec.y
  refine congrArg₂ (fun a b : EReal => a + b) (tileRes_apply m c t r k) (Finset.sum_congr rfl fun l _ => ?_)
  refine congrArg₂ (fun a b : EReal => a * b) ((pay8_apply _ _ _ _ _ r l).trans ?_) ((pay9_apply _ l k).trans (wd_blk m c t l k))
  exact congrArg₂ PostSpec.gated (conv_tile m c t u0 u1 u2 r _ (h0 _ _) (h1 _ _) (h2 _ _)) (conv_tile m c t u0 u1 u2 r _ (h0 _ _) (h1 _ _) (h2 _ _))

/-! What a sequence's first tile loads for the convolution. -/

theorem first_tap2 (h : t.val % 16 = 0) (r : Fin 256) (l : Fin 5632) :
    (View.whole cc0_scratch0).readCov (Val := Elt Ideal)
      [⟨Rect.unit (s := S264x5632) ![8, 0] ![256, 5632] inb_S264x5632_S256x5632_8_0, k0_pay5 (tileUp m c t)⟩,
        ⟨Rect.unit (s := S264x5632) ![0, 0] ![8, 5632] inb_S264x5632_S8x5632_0_0, k0_pay2 (iblk m c 3 t)⟩]
      (Rect.unit (s := S264x5632) ![8, 0] ![256, 5632] inb_S264x5632_S256x5632_8_0).toLoadRect (ix2 r l) = mpad m c (bt t) (padRow t (tap2 r)) l := by
  have h0 : ((Rect.unit (s := S264x5632) ![8, 0] ![256, 5632] inb_S264x5632_S256x5632_8_0).toLoadRect.idx (ix2 r l) 0).val = 6 + (tap2 r).val := by
    show 8 + 1 * r.val = 6 + (2 + r.val)
    omega
  have h1 : ((Rect.unit (s := S264x5632) ![8, 0] ![256, 5632] inb_S264x5632_S256x5632_8_0).toLoadRect.idx (ix2 r l) 1).val = l.val := by
    show 0 + 1 * l.val = l.val
    omega
  unfold View.readCov
  exact held_first m c t h (View.whole cc0_scratch0).junk (tap2 r) l ((Rect.unit (s := S264x5632) ![8, 0] ![256, 5632] inb_S264x5632_S256x5632_8_0).toLoadRect.idx (ix2 r l)) h0 h1

theorem first_tap1 (h : t.val % 16 = 0) (r : Fin 256) (l : Fin 5632) :
    (View.whole cc0_scratch0).readCov (Val := Elt Ideal)
      [⟨Rect.unit (s := S264x5632) ![8, 0] ![256, 5632] inb_S264x5632_S256x5632_8_0, k0_pay5 (tileUp m c t)⟩,
        ⟨Rect.unit (s := S264x5632) ![0, 0] ![8, 5632] inb_S264x5632_S8x5632_0_0, k0_pay2 (iblk m c 3 t)⟩]
      (Rect.unit (s := S264x5632) ![7, 0] ![256, 5632] inb_S264x5632_S256x5632_7_0).toLoadRect (ix2 r l) = mpad m c (bt t) (padRow t (tap1 r)) l := by
  have h0 : ((Rect.unit (s := S264x5632) ![7, 0] ![256, 5632] inb_S264x5632_S256x5632_7_0).toLoadRect.idx (ix2 r l) 0).val = 6 + (tap1 r).val := by
    show 7 + 1 * r.val = 6 + (1 + r.val)
    omega
  have h1 : ((Rect.unit (s := S264x5632) ![7, 0] ![256, 5632] inb_S264x5632_S256x5632_7_0).toLoadRect.idx (ix2 r l) 1).val = l.val := by
    show 0 + 1 * l.val = l.val
    omega
  unfold View.readCov
  exact held_first m c t h (View.whole cc0_scratch0).junk (tap1 r) l ((Rect.unit (s := S264x5632) ![7, 0] ![256, 5632] inb_S264x5632_S256x5632_7_0).toLoadRect.idx (ix2 r l)) h0 h1

theorem first_tap0 (h : t.val % 16 = 0) (r : Fin 256) (l : Fin 5632) :
    (View.whole cc0_scratch0).readCov (Val := Elt Ideal)
      [⟨Rect.unit (s := S264x5632) ![8, 0] ![256, 5632] inb_S264x5632_S256x5632_8_0, k0_pay5 (tileUp m c t)⟩,
        ⟨Rect.unit (s := S264x5632) ![0, 0] ![8, 5632] inb_S264x5632_S8x5632_0_0, k0_pay2 (iblk m c 3 t)⟩]
      (Rect.unit (s := S264x5632) ![6, 0] ![256, 5632] inb_S264x5632_S256x5632_6_0).toLoadRect (ix2 r l) = mpad m c (bt t) (padRow t (tap0 r)) l := by
  have h0 : ((Rect.unit (s := S264x5632) ![6, 0] ![256, 5632] inb_S264x5632_S256x5632_6_0).toLoadRect.idx (ix2 r l) 0).val = 6 + (tap0 r).val := by
    show 6 + 1 * r.val = 6 + r.val
    omega
  have h1 : ((Rect.unit (s := S264x5632) ![6, 0] ![256, 5632] inb_S264x5632_S256x5632_6_0).toLoadRect.idx (ix2 r l) 1).val = l.val := by
    show 0 + 1 * l.val = l.val
    omega
  unfold View.readCov
  exact held_first m c t h (View.whole cc0_scratch0).junk (tap0 r) l ((Rect.unit (s := S264x5632) ![6, 0] ![256, 5632] inb_S264x5632_S256x5632_6_0).toLoadRect.idx (ix2 r l)) h0 h1

/-- What any other tile loads of its own rows. -/
theorem later_tap2 (r : Fin 256) (l : Fin 5632) :
    (View.whole cc0_scratch0).readCov (Val := Elt Ideal)
      [⟨Rect.unit (s := S264x5632) ![8, 0] ![256, 5632] inb_S264x5632_S256x5632_8_0, k0_pay5 (tileUp m c t)⟩]
      (Rect.unit (s := S264x5632) ![8, 0] ![256, 5632] inb_S264x5632_S256x5632_8_0).toLoadRect (ix2 r l) = mpad m c (bt t) (padRow t (tap2 r)) l := by
  have h0 : ((Rect.unit (s := S264x5632) ![8, 0] ![256, 5632] inb_S264x5632_S256x5632_8_0).toLoadRect.idx (ix2 r l) 0).val = 8 + r.val := by
    show 8 + 1 * r.val = 8 + r.val
    omega
  have h1 : ((Rect.unit (s := S264x5632) ![8, 0] ![256, 5632] inb_S264x5632_S256x5632_8_0).toLoadRect.idx (ix2 r l) 1).val = l.val := by
    show 0 + 1 * l.val = l.val
    omega
  have e : (⟨(tap2 r).val - 2, by have := (tap2 r).isLt; omega⟩ : Fin 256) = r := Fin.ext (by show 2 + r.val - 2 = r.val; omega)
  have hp := pad_tile m c t (tap2 r) (by show 2 ≤ 2 + r.val; omega) l
  rw [e] at hp
  unfold View.readCov
  refine (read_hi (View.whole cc0_scratch0).junk _ [] ((Rect.unit (s := S264x5632) ![8, 0] ![256, 5632] inb_S264x5632_S256x5632_8_0).toLoadRect.idx (ix2 r l)) r l h0 h1).trans ?_
  exact (pay5_apply _ r l).trans ((tileUp_apply m c t r l).trans hp)

theorem y_first (h : t.val % 16 = 0) (r : Fin 256) (k : Fin 1024) : (outsAt0 m c t.val t.isLt).1 (ix2 r k) = my m c (bt t) (pt t r) k := by
  rw [outsAt0_A m c t h]
  frame_out
  exact y_tile m c t _ _ _ (first_tap2 m c t h) (first_tap1 m c t h) (first_tap0 m c t h) r k

theorem y_later (h : ¬ t.val % 16 = 0) (r : Fin 256) (k : Fin 1024) : (outsAt0 m c t.val t.isLt).1 (ix2 r k) = my m c (bt t) (pt t r) k := by
  rw [outsAt0_B m c t h]
  frame_out
  refine y_tile m c t _ _ _ (later_tap2 m c t) (fun r l => ?_) (fun r l => ?_) r k
  · refine held_later m c t h _ (read_unread_whole _ _ _) (tap1 r) l ((Rect.unit (s := S264x5632) ![7, 0] ![256, 5632] inb_S264x5632_S256x5632_7_0).toLoadRect.idx (ix2 r l)) ?_ ?_
    · show 7 + 1 * r.val = 6 + (1 + r.val)
      omega
    · show 0 + 1 * l.val = l.val
      omega
  · refine held_later m c t h _ (read_unread_whole _ _ _) (tap0 r) l ((Rect.unit (s := S264x5632) ![6, 0] ![256, 5632] inb_S264x5632_S256x5632_6_0).toLoadRect.idx (ix2 r l)) ?_ ?_
    · show 6 + 1 * r.val = 6 + r.val
      omega
    · show 0 + 1 * l.val = l.val
      omega

/-- The row of the whole output that a tile's row is. -/
def orow (t : Fin cfg0.N) (r : Fin 256) : Fin 16384 := ⟨256 * t.val + r.val, by have := t_lt t; have := r.isLt; omega⟩

theorem my_orow (r : Fin 256) (k : Fin 1024) :
    my m c (PostSpec.seqOf (orow t r)) (PostSpec.posOf (orow t r)) k = my m c (bt t) (pt t r) k := by
  have ht := t_lt t
  have e1 : PostSpec.seqOf (orow t r) = bt t := Fin.ext (by show (256 * t.val + r.val) / 4096 = t.val / 16; omega)
  have e2 : PostSpec.posOf (orow t r) = pt t r := Fin.ext (by show (256 * t.val + r.val) % 4096 = 256 * (t.val % 16) + r.val; omega)
  rw [e1, e2]

theorem y_tile_all (r : Fin 256) (k : Fin 1024) : (outsAt0 m c t.val t.isLt).1 (ix2 r k) = my m c (bt t) (pt t r) k := by
  by_cases h : t.val % 16 = 0
  · exact y_first m c t h r k
  · exact y_later m c t h r k

/-- The first result is the stream after the feed-forward. -/
theorem out_final : (dats m 0 c).arrAt 10 cfg0.N
    = PostSpec.out (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) := by
  refine (dats m 0 c).arrAt_eq_of_covers 10 _ (by decide +kernel) fun t _ y => ?_
  blk_simp
  rw [after0_10]
  have ht := t_lt t
  idx_vars y
  have hx : ((View.whole main_v7_0).slice (win0_10.rect t)).emb (ix2 y0 y1) = ix2 (orow t y0) y1 := by
    unfold orow
    blk_ext [idx t]
  rw [hx]
  exact (y_tile_all m c t y0 y1).trans (my_orow m c t y0 y1).symm

/-- The second result is the last eight up-projected rows of every sequence. -/
theorem last_final : (dats m 0 c).arrAt 11 cfg0.N
    = PostSpec.last (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 11 _ (by decide +kernel) fun t hf y => ?_
  have hl : t.val % 16 = 15 := (flush0_11 t).mp hf
  blk_simp
  rw [after0_11]
  have ht := t_lt t
  idx_vars y
  have hx : ((View.whole main_v7_1).slice (win0_11.rect t)).emb (ix3 y0 y1 y2) = ix3 (bt t) y1 y2 := by
    unfold bt
    blk_ext [idx t]
  rw [hx]
  refine (tail_out m c t y0 y1 y2).trans ?_
  have e : pt t (tailRow y1) = PostSpec.lastPos y1 :=
    Fin.ext (by show 256 * (t.val % 16) + (248 + y1.val) = 4088 + y1.val; omega)
  rw [e]
  rfl

end Cert.PostIdeal.Value

end
-- ==== Proof.PostRefValue.lean ====
/-
  What the plain output projection and feed-forward compute, array by array, at an index.
-/
module

public import proofs.«01_k».proof.Proof.PostSpec
public import proofs.«01_k».proof.Proof.Gen.PostRefIdeal.Run
public import Idealize.ShloMosaic.Lib.Pointwise
public import Idealize.ShloMosaic.Lib.IdealHost
public import Idealize.ShloMosaic.Lib.Pipeline.ValueKit

@[expose] public section

set_option maxRecDepth 16384

noncomputable section

namespace Cert.PostRefIdeal.Value

open Idealize.ShloMosaic Idealize.ShloMosaic.TcCoe Idealize.SL.Sem
open Cert.PostRefIdeal Cert.PostRefIdeal.Gen
open Cert.InprojSpec (eps xnorm)

/-- The two mixers' outputs side by side, by sequence and position. -/
def both (og od : FVec Ideal S16384x512 .bf16) : FVec Ideal S4x4096x1024 .f32 :=
  shapeCast _ (concatenate S16384x1024 1 [⟨S16384x512, extf .f32 og bitsLt_bf16_f32⟩, ⟨S16384x512, extf .f32 od bitsLt_bf16_f32⟩]
    concatenates_S16384x512_S16384x512_S16384x1024_d1) shapeCasts_S16384x1024_S4x4096x1024

variable (x : FVec Ideal S4x4096x1024 .f32) (og od : FVec Ideal S16384x512 .bf16) (wo : FVec Ideal S1024x1024 .f32) (g : FVec Ideal S1024 .f32)
  (wu : FVec Ideal S1024x5632 .f32) (cw : FVec Ideal S3x5632 .f32) (cb : FVec Ideal S5632 .f32) (wd : FVec Ideal S2816x1024 .f32)

/-- The residual stream after the mixers. -/
def stream : FVec Ideal S4x4096x1024 .f32 :=
  addf x (Host.dotGeneral dot_S4x4096x1024_S1024x1024_S4x4096x1024_2_0_01_1_n_n none (both og od) wo)

/-- Every position of a stream over the root of its mean square, times the gain. -/
def normed (h : FVec Ideal S4x4096x1024 .f32) : FVec Ideal S4x4096x1024 .f32 :=
  mulf (mulf h (broadcastInDim S4x4096x1024 ![0, 1, 2] bcast_S4x4096x1_S4x4096x1024_0_1_2 (Host.rsqrt (addf (Host.divf
    (broadcastInDim S4x4096x1 ![0, 1] bcast_S4x4096_S4x4096x1_0_1 (Host.reduceAdd (mulf h h) (constant S_ .f32 0x00000000#32) reducesTo_S4x4096x1024_S4x4096_d2 h_S_))
    (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The up-projection of the normalised stream. -/
def ups : FVec Ideal S4x4096x5632 .f32 :=
  Host.dotGeneral dot_S4x4096x1024_S1024x5632_S4x4096x5632_2_0_01_1_n_n none (normed g (stream x og od wo)) wu

/-- Two rows of zeros before every sequence. -/
def behind (v : FVec Ideal S4x4096x5632 .f32) : FVec Ideal S4x4098x5632 .f32 :=
  concatenate S4x4098x5632 1 [⟨S4x2x5632, (broadcastInDim S4x2x5632 ![] bcast_S_S4x2x5632 (constant S_ .f32 0x00000000#32))⟩, ⟨S4x4096x5632, v⟩]
    concatenates_S4x2x5632_S4x4096x5632_S4x4098x5632_d1

/-- A row of the convolution's weight at every position. -/
def spread (v : FVec Ideal S5632 .f32) : FVec Ideal S4x4096x5632 .f32 :=
  broadcastInDim S4x4096x5632 ![0, 1, 2] bcast_S1x1x5632_S4x4096x5632_0_1_2 (broadcastInDim S1x1x5632 ![2] bcast_S5632_S1x1x5632_2 v)

/-- The convolution of a padded array. -/
def conved (v : FVec Ideal S4x4098x5632 .f32) : FVec Ideal S4x4096x5632 .f32 :=
  addf (addf (addf (mulf (extractStridedSlice S4x4096x5632 ![0, 0, 0] v slices_S4x4098x5632_S4x4096x5632_0_0_0)
      (spread (shapeCast _ (extractStridedSlice S1x5632 ![0, 0] cw slices_S3x5632_S1x5632_0_0) shapeCasts_S1x5632_S5632)))
    (mulf (extractStridedSlice S4x4096x5632 ![0, 1, 0] v slices_S4x4098x5632_S4x4096x5632_0_1_0)
      (spread (shapeCast _ (extractStridedSlice S1x5632 ![1, 0] cw slices_S3x5632_S1x5632_1_0) shapeCasts_S1x5632_S5632))))
    (mulf (extractStridedSlice S4x4096x5632 ![0, 2, 0] v slices_S4x4098x5632_S4x4096x5632_0_2_0)
      (spread (shapeCast _ (extractStridedSlice S1x5632 ![2, 0] cw slices_S3x5632_S1x5632_2_0) shapeCasts_S1x5632_S5632)))) (spread cb)

/-- The logistic of an array. -/
def sigm (a : FVec Ideal S4x4096x2816 .f32) : FVec Ideal S4x4096x2816 .f32 :=
  Host.divf (broadcastInDim S4x4096x2816 ![] bcast_S_S4x4096x2816 (constant S_ .f32 0x3F800000#32))
    (addf (broadcastInDim S4x4096x2816 ![] bcast_S_S4x4096x2816 (constant S_ .f32 0x3F800000#32)) (Host.exp (Host.negf a)))

/-- The gated lanes of a convolved array. -/
def gate (u : FVec Ideal S4x4096x5632 .f32) : FVec Ideal S4x4096x2816 .f32 :=
  mulf (mulf (extractStridedSlice S4x4096x2816 ![0, 0, 0] u slices_S4x4096x5632_S4x4096x2816_0_0_0)
    (sigm (extractStridedSlice S4x4096x2816 ![0, 0, 0] u slices_S4x4096x5632_S4x4096x2816_0_0_0)))
    (extractStridedSlice S4x4096x2816 ![0, 0, 2816] u slices_S4x4096x5632_S4x4096x2816_0_0_2816)

/-- The stream after the feed-forward. -/
def after : FVec Ideal S4x4096x1024 .f32 :=
  addf (stream x og od wo) (Host.dotGeneral dot_S4x4096x2816_S2816x1024_S4x4096x1024_2_0_01_1_n_n none
    (gate (conved cw cb (behind (ups x og od wo g wu)))) wd)

theorem both_apply (b : Fin 4) (p : Fin 4096) (j : Fin 1024) : both og od (ix3 b p j) = PostSpec.mix og od (PostSpec.flat b p) j := by
  unfold both PostSpec.mix PostSpec.flat
  pointwise

theorem stream_apply (b : Fin 4) (p : Fin 4096) (k : Fin 1024) : stream x og od wo (ix3 b p k) = PostSpec.res x og od wo b p k := by
  unfold stream PostSpec.res
  pointwise [both_apply]

theorem normed_apply (h : FVec Ideal S4x4096x1024 .f32) (b : Fin 4) (p : Fin 4096) (k : Fin 1024) :
    normed g h (ix3 b p k) = xnorm (fun k => h (ix3 b p k)) g k := by
  unfold normed xnorm eps
  pointwise

theorem ups_apply (b : Fin 4) (p : Fin 4096) (l : Fin 5632) : ups x og od wo g wu (ix3 b p l) = PostSpec.up x og od wo g wu b p l := by
  unfold ups PostSpec.up
  pointwise [normed_apply, stream_apply]

theorem behind_apply (b : Fin 4) (s : Fin 4098) (l : Fin 5632) : behind (ups x og od wo g wu) (ix3 b s l) = PostSpec.padded x og od wo g wu b s l := by
  unfold behind PostSpec.padded
  pointwise [ups_apply]

theorem conved_apply (b : Fin 4) (p : Fin 4096) (l : Fin 5632) :
    conved cw cb (behind (ups x og od wo g wu)) (ix3 b p l) = PostSpec.conv x og od wo g wu cw cb b p l := by
  unfold conved spread PostSpec.conv
  pointwise [behind_apply]

theorem sigm_apply (a : FVec Ideal S4x4096x2816 .f32) (b : Fin 4) (p : Fin 4096) (l : Fin 2816) : sigm a (ix3 b p l) = Ideal.logistic (a (ix3 b p l)) := by
  unfold sigm Ideal.logistic
  pointwise

theorem gate_apply (b : Fin 4) (p : Fin 4096) (l : Fin 2816) :
    gate (conved cw cb (behind (ups x og od wo g wu))) (ix3 b p l) = PostSpec.act x og od wo g wu cw cb b p l := by
  unfold gate PostSpec.act PostSpec.gated PostSpec.gateLane PostSpec.valueLane
  pointwise [sigm_apply, conved_apply]

theorem after_apply (b : Fin 4) (p : Fin 4096) (k : Fin 1024) : after x og od wo g wu cw cb wd (ix3 b p k) = PostSpec.y x og od wo g wu cw cb wd b p k := by
  unfold after PostSpec.y
  pointwise [stream_apply, gate_apply]

theorem out_eq : shapeCast S16384x1024 (after x og od wo g wu cw cb wd) shapeCasts_S4x4096x1024_S16384x1024 = PostSpec.out x og od wo g wu cw cb wd := by
  funext i
  idx_vars i
  unfold PostSpec.out PostSpec.seqOf PostSpec.posOf
  pointwise [after_apply]

theorem last_eq : extractStridedSlice S4x8x5632 ![0, 4090, 0] (behind (ups x og od wo g wu)) slices_S4x4098x5632_S4x8x5632_0_4090_0
    = PostSpec.last x og od wo g wu := by
  funext i
  idx_vars i
  unfold PostSpec.last PostSpec.lastPos
  pointwise [behind_apply]
  unfold PostSpec.padded
  rw [dif_neg (by simp only; omega)]
  exact congrArg (fun p => PostSpec.up x og od wo g wu i0 p i2) (Fin.ext (by simp only; omega))

theorem res_v51 (m : (ℓ : Loc nD τ sig) → Buf (Elt Ideal) ℓ) (c : Dev nD) : res_main_v51 m c
    = shapeCast S16384x1024 (after (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8))) shapeCasts_S4x4096x1024_S16384x1024 := rfl

end Cert.PostRefIdeal.Value

end
-- ==== Proof.PostClaim.lean ====
/-
  The claim of the output projection and feed-forward: the kernel and the plain computation hold the same two arrays.
-/
module

public import proofs.«01_k».proof.Defs
public import proofs.«01_k».proof.Proof.PostValue
public import proofs.«01_k».proof.Proof.PostRefValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

set_option maxHeartbeats 8000000 in
/-- The kernel and the plain computation give the same arrays. -/
theorem post_eq : Cert.algebraic_PostIdeal_PostRefIdeal := by
  pair_intro
  · run_from Cert.PostIdeal.Value.run_blocks m g
  · run_from Cert.PostRefIdeal.Value.run m' g'
    all_goals obtain ⟨a0, a1, a2, a3, a4, a5, a6, a7, a8⟩ := hagree c
    · rw [Cert.PostIdeal.Value.out_final m c]
      refine ((Cert.PostRefIdeal.Value.res_v51 m' c).trans (Cert.PostRefIdeal.Value.out_eq _ _ _ _ _ _ _ _ _)).trans ?_
      first | rw [a0, a1, a2, a3, a4, a5, a6, a7, a8] | rfl
    · rw [Cert.PostIdeal.Value.last_final m c]
      refine (Cert.PostRefIdeal.Value.last_eq _ _ _ _ _ _).trans ?_
      rw [a4, a5]

end Cert.Proof

end
-- ==== Proof.InprojSBlocks.lean ====
/-
  The blocks the input projection of the sample group reads, at coordinates of the arguments.
-/
module

public import proofs.«01_k».proof.Proof.Gen.InprojSIdeal.Value
public import Idealize.ShloMosaic.Lib.Pipeline.ValueKit
public import Idealize.ShloMosaic.Lib.Claim
public import Idealize.ShloMosaic.Lib.Pointwise
public import Idealize.ShloMosaic.Lib.IdealHost

@[expose] public section

set_option maxRecDepth 16384

noncomputable section

namespace Cert.InprojSIdeal.Value

open Idealize.ShloMosaic Idealize.ShloMosaic.TcCoe Idealize.SL.Sem
open Idealize.ShloMosaic.Pipeline (Dat)
open Cert.InprojSIdeal Cert.InprojSIdeal.Gen

variable (m : (ℓ : Loc nD τ sig) → Buf (Elt Ideal) ℓ)

/-- The blocks each window visits. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![0, t.val] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

variable (c : Dev nD) (t : Fin cfg0.N)

theorem t_lt : t.val < 2 := t.isLt

theorem x_blk (r : Fin 256) (k : Fin 1024) : iblk m c 0 t (ix2 r k)
    = m ((c : Thread nD τ).loc main_arg0) (ix3 (⟨(256 * t.val + r.val) % 128, by omega⟩ : Fin 128) (⟨(256 * t.val + r.val) / 128, by have := t_lt t; omega⟩ : Fin 4) k) := by
  have ht := t_lt t
  blk_simp [iblk, idx t]
  unfold V
  simp only [List.flatten_cons, List.flatten_nil, List.append_nil]
  simp only [hostOps0, hostOps0_1, hostOps0_2, hostOps0_3, hostOps0_4, List.cons_append, List.nil_append]
  entry_read
  pointwise
  blk_ext [idx t]

theorem g_blk (k : Fin 1024) : iblk m c 1 t (ix2 0 k) = m ((c : Thread nD τ).loc main_arg1) (ix1 k) := by
  have ht := t_lt t
  blk_simp [iblk, idx t]
  unfold V
  simp only [List.flatten_cons, List.flatten_nil, List.append_nil]
  simp only [hostOps0, hostOps0_1, hostOps0_2, hostOps0_3, hostOps0_4, List.cons_append, List.nil_append]
  entry_read
  pointwise
  blk_ext [idx t]

/-- Four blocks of columns laid side by side. -/
def side (a : FVec Ideal S1024x2048 .f32) (b : FVec Ideal S1024x1536 .f32) (u : FVec Ideal S1024x8 .f32) (v : FVec Ideal S1024x120 .f32) :
    FVec Ideal S1024x3712 .f32 :=
  concatenate S1024x3712 1 [⟨S1024x2048, a⟩, ⟨S1024x1536, b⟩, ⟨S1024x8, u⟩, ⟨S1024x120, v⟩] concatenates_S1024x2048_S1024x1536_S1024x8_S1024x120_S1024x3712_d1

/-- The weight's columns in the kernel's order: the first 2048, the last 1536, the eight of the gates, and zeros up to 3712. -/
def wmain (w : FVec Ideal S1024x3592 .f32) : FVec Ideal S1024x3712 .f32 :=
  side (extractStridedSlice S1024x2048 ![0, 0] w slices_S1024x3592_S1024x2048_0_0)
    (extractStridedSlice S1024x1536 ![0, 2056] w slices_S1024x3592_S1024x1536_0_2056)
    (extractStridedSlice S1024x8 ![0, 2048] w slices_S1024x3592_S1024x8_0_2048)
    (broadcastInDim S1024x120 ![] bcast_S_S1024x120 (constant (F := Ideal) S_ .f32 0x00000000#32))

theorem wmain_apply (w : FVec Ideal S1024x3592 .f32) (k : Fin 1024) (j : Fin 3712) : wmain w (ix2 k j)
    = if h : j.val < 2048 then w (ix2 k (⟨j.val, by omega⟩ : Fin 3592))
      else if h : j.val < 3584 then w (ix2 k (⟨j.val + 8, by omega⟩ : Fin 3592))
      else if h : j.val < 3592 then w (ix2 k (⟨j.val - 1536, by omega⟩ : Fin 3592)) else (0 : EReal) := by
  unfold wmain side
  pointwise
  by_cases h1 : j.val < 2048
  · simp only [h1, dif_pos]
  by_cases h2 : j.val < 3584
  · have h3 : j.val - 2048 < 1536 := by omega
    have e : (⟨2056 + (j.val - 2048), by omega⟩ : Fin 3592) = ⟨j.val + 8, by omega⟩ := Fin.ext (by simp only; omega)
    simp only [h1, h2, h3, dif_pos, dif_neg, not_false_eq_true, e]
  have h3 : ¬ j.val - 2048 < 1536 := by omega
  by_cases h4 : j.val < 3592
  · have h5 : j.val - 2048 - 1536 < 8 := by omega
    have e : (⟨2048 + (j.val - 2048 - 1536), by omega⟩ : Fin 3592) = ⟨j.val - 1536, by omega⟩ := Fin.ext (by simp only; omega)
    simp only [h1, h2, h3, h4, h5, dif_pos, dif_neg, not_false_eq_true, e]
  have h5 : ¬ j.val - 2048 - 1536 < 8 := by omega
  simp only [h1, h2, h3, h4, h5, dif_neg, not_false_eq_true]

/-- What the first five host operations leave. -/
def head (c : Dev nD) := StableHlo.after (List.take 5 hostOps0) (fun b => m (c, b))

theorem head_v0 : head m c (Proc.tc.devRef main_v0) = extractStridedSlice S1024x8 ![0, 2048] (m ((c : Thread nD τ).loc main_arg2)) slices_S1024x3592_S1024x8_0_2048 := by
  unfold head
  simp only [hostOps0, List.take_succ_cons, List.take_zero, StableHlo.after_cons, StableHlo.after_nil]
  after_results_simp

theorem head_v1 : head m c (Proc.tc.devRef main_v1) = extractStridedSlice S1024x2048 ![0, 0] (m ((c : Thread nD τ).loc main_arg2)) slices_S1024x3592_S1024x2048_0_0 := by
  unfold head
  simp only [hostOps0, List.take_succ_cons, List.take_zero, StableHlo.after_cons, StableHlo.after_nil]
  after_results_simp

theorem head_v2 : head m c (Proc.tc.devRef main_v2) = extractStridedSlice S1024x1536 ![0, 2056] (m ((c : Thread nD τ).loc main_arg2)) slices_S1024x3592_S1024x1536_0_2056 := by
  unfold head
  simp only [hostOps0, List.take_succ_cons, List.take_zero, StableHlo.after_cons, StableHlo.after_nil]
  after_results_simp

theorem head_v3 : head m c (Proc.tc.devRef main_v3) = broadcastInDim S1024x120 ![] bcast_S_S1024x120 (constant (F := Ideal) S_ .f32 0x00000000#32) := by
  unfold head
  simp only [hostOps0, List.take_succ_cons, List.take_zero, StableHlo.after_cons, StableHlo.after_nil]
  after_results_simp

/-- What the host operations after the first seven are. -/
def tail : List (HloOp τ sig (Elt Ideal)) := List.drop 7 hostOps0 ++ (hostOps0_1 ++ (hostOps0_2 ++ (hostOps0_3 ++ hostOps0_4)))

theorem V_v5 : V m c main_v5 = wmain (m ((c : Thread nD τ).loc main_arg2)) := by
  have h : V m c main_v5 = StableHlo.after tail (StableHlo.after (List.drop 5 (List.take 7 hostOps0)) (head m c)) (Proc.tc.devRef main_v5) := rfl
  rw [h, StableHlo.after_of_forall_not_mem (b := Proc.devRef .tc main_v5) _ _ (List.forall_iff_forall_mem.mp (by
    simp only [tail, hostOps0, hostOps0_1, hostOps0_2, hostOps0_3, hostOps0_4, List.drop_succ_cons, List.drop_zero, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))]
  simp only [hostOps0, List.take_succ_cons, List.take_zero, List.drop_succ_cons, List.drop_zero, StableHlo.after_cons, StableHlo.after_nil]
  rw [StableHlo.unary_result, StableHlo.nary_result]
  show side (head m c (Proc.tc.devRef main_v1)) (head m c (Proc.tc.devRef main_v2)) (head m c (Proc.tc.devRef main_v0))
    (head m c (Proc.tc.devRef main_v3)) = _
  rw [head_v0, head_v1, head_v2, head_v3]
  rfl

theorem w_blk (k : Fin 1024) (j : Fin 3712) : iblk m c 2 t (ix2 k j) = wmain (m ((c : Thread nD τ).loc main_arg2)) (ix2 k j) := by
  have ht := t_lt t
  blk_simp [iblk, idx t]
  rw [V_v5]
  have hx : ((View.whole main_v5).slice (win0_2.rect t)).emb (ix2 k j) = ix2 k j := by blk_ext [idx t]
  rw [hx]

theorem wt_blk (r : Fin 8) (k : Fin 1024) : iblk m c 3 t (ix2 r k)
    = m ((c : Thread nD τ).loc main_arg2) (ix2 k (⟨2048 + r.val, by omega⟩ : Fin 3592)) := by
  have ht := t_lt t
  blk_simp [iblk, idx t]
  unfold V
  simp only [List.flatten_cons, List.flatten_nil, List.append_nil]
  simp only [hostOps0, hostOps0_1, hostOps0_2, hostOps0_3, hostOps0_4, List.cons_append, List.nil_append]
  entry_read
  pointwise
  blk_ext [idx t]

theorem gq_blk (l : Fin 512) : iblk m c 4 t (ix2 0 l) = m ((c : Thread nD τ).loc main_arg3) (ix1 (⟨l.val % 64, by omega⟩ : Fin 64)) := by
  have ht := t_lt t
  blk_simp [iblk, idx t]
  unfold V
  simp only [List.flatten_cons, List.flatten_nil, List.append_nil]
  simp only [hostOps0, hostOps0_1, hostOps0_2, hostOps0_3, hostOps0_4, List.cons_append, List.nil_append]
  entry_read
  pointwise
  blk_ext [idx t]

theorem gk_blk (l : Fin 512) : iblk m c 5 t (ix2 0 l) = m ((c : Thread nD τ).loc main_arg4) (ix1 (⟨l.val % 64, by omega⟩ : Fin 64)) := by
  have ht := t_lt t
  blk_simp [iblk, idx t]
  unfold V
  simp only [List.flatten_cons, List.flatten_nil, List.append_nil]
  simp only [hostOps0, hostOps0_1, hostOps0_2, hostOps0_3, hostOps0_4, List.cons_append, List.nil_append]
  entry_read
  pointwise
  blk_ext [idx t]

/-- The quotient of each lane by 64 as the host computes it: less one where the signs differ and a remainder is left. -/
def gid : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem gid_apply : ∀ j : Fin 512, gid (ix1 j) = BitVec.ofNat 32 (j.val / 64) := by
  decide +kernel

/-- One 64th where two lanes are of one head, zero elsewhere. -/
def grp : FVec Ideal S512x512 .f32 :=
  select (cmpi .eq (broadcastInDim S512x512 ![0, 1] bcast_S512x1_S512x512_0_1 (broadcastInDim S512x1 ![0] bcast_S512_S512x1_0 gid))
      (broadcastInDim S512x512 ![0, 1] bcast_S1x512_S512x512_0_1 (broadcastInDim S1x512 ![1] bcast_S512_S1x512_1 gid)))
    (broadcastInDim S512x512 ![] bcast_S_S512x512 (constant (F := Ideal) S_ .f32 0x3C800000#32))
    (broadcastInDim S512x512 ![] bcast_S_S512x512 (constant (F := Ideal) S_ .f32 0x00000000#32))

theorem grp_apply (j l : Fin 512) : grp (ix2 j l) = if j.val / 64 = l.val / 64 then ((1 / 64 : ℝ) : EReal) else 0 := by
  unfold grp
  pointwise [gid_apply]
  have hc : Ideal.ofBits .f32 0x3C800000#32 = ((1 / 64 : ℝ) : EReal) := by
    simp [Ideal.ofBits, Ideal.ieee, -EReal.coe_mul]; norm_num
  rw [hc]
  have hj := j.isLt
  have hl := l.isLt
  by_cases h : j.val / 64 = l.val / 64
  · rw [if_pos h, h]
    simp [Scalar.select, IntOp.cmpi]
  · have hne : ¬ BitVec.ofNat 32 (j.val / 64) = BitVec.ofNat 32 (l.val / 64) := fun e => h (by
      have := congrArg BitVec.toNat e
      simp only [BitVec.toNat_ofNat] at this
      omega)
    rw [if_neg h]
    have hb : (BitVec.ofNat 32 (j.val / 64) == BitVec.ofNat 32 (l.val / 64)) = false := by simpa using hne
    simp [Scalar.select, IntOp.cmpi, hb]

theorem grp_blk (j l : Fin 512) : iblk m c 6 t (ix2 j l) = grp (ix2 j l) := by
  have ht := t_lt t
  blk_simp [iblk, idx t]
  unfold V
  simp only [List.flatten_cons, List.flatten_nil, List.append_nil]
  simp only [hostOps0, hostOps0_1, hostOps0_2, hostOps0_3, hostOps0_4, List.cons_append, List.nil_append]
  entry_read
  have hx : ((View.whole main_v24).slice (win0_6.rect t)).emb (ix2 j l) = ix2 j l := by blk_ext [idx t]
  rw [hx]
  rfl

end Cert.InprojSIdeal.Value

end
-- ==== Proof.InprojSSpec.lean ====
/-
  The input projection of the sample group row by row; the rows are the samples of one time after another.
-/
module

public import proofs.«01_k».proof.Proof.InprojSpec

@[expose] public section

set_option maxRecDepth 16384

noncomputable section

namespace Cert.InprojSSpec

open Idealize.ShloMosaic
open Cert.InprojSpec (eps xnorm col mate headMean headNorm group_mean)

/-- Row `n` of the input, the samples one after another at time 0, then at time 1, and so on. -/
def row (x : (⟨3, ![128, 4, 1024]⟩ : Shape).Idx → EReal) (n : Fin 512) (k : Fin 1024) : EReal :=
  x (ix3 (⟨n.val % 128, by omega⟩ : Fin 128) (⟨n.val / 128, by omega⟩ : Fin 4) k)

/-- The product of a normalised row with column `j` of the weight. -/
def proj (x : (⟨3, ![128, 4, 1024]⟩ : Shape).Idx → EReal) (g : (⟨1, ![1024]⟩ : Shape).Idx → EReal)
    (w : (⟨2, ![1024, 3592]⟩ : Shape).Idx → EReal) (n : Fin 512) (j : Fin 3592) : EReal :=
  ∑ k : Fin 1024, xnorm (row x n) g k * w (ix2 k j)

variable (x : (⟨3, ![128, 4, 1024]⟩ : Shape).Idx → EReal) (g : (⟨1, ![1024]⟩ : Shape).Idx → EReal)
  (w : (⟨2, ![1024, 3592]⟩ : Shape).Idx → EReal) (q : (⟨1, ![64]⟩ : Shape).Idx → EReal)

/-- The columns of the recurrent branch. -/
def qkv : (⟨2, ![512, 1536]⟩ : Shape).Idx → EReal := fun i => proj x g w (i 0 : Fin 512) (col 0 (n := 1536) (by norm_num) (i 1))
/-- The columns of the output gate. -/
def z : (⟨2, ![512, 512]⟩ : Shape).Idx → EReal := fun i => proj x g w (i 0 : Fin 512) (col 1536 (n := 512) (by norm_num) (i 1))
/-- The eight columns of the rates, zeros up to 128. -/
def ba : (⟨2, ![512, 128]⟩ : Shape).Idx → EReal := fun i =>
  if h : (i 1 : Fin 128).val < 8 then proj x g w (i 0 : Fin 512) (⟨2048 + (i 1 : Fin 128).val, by omega⟩ : Fin 3592) else 0
/-- The eight columns of the rates as rows. -/
def bat : (⟨2, ![8, 512]⟩ : Shape).Idx → EReal := fun i => proj x g w (i 1 : Fin 512) (col 2048 (n := 8) (by norm_num) (i 0))
/-- The queries of row `n` before their normalisation. -/
def dq (n : Fin 512) (l : Fin 512) : EReal := proj x g w n (col 2056 (by norm_num) l)
/-- The keys of row `n` before their normalisation. -/
def dk (n : Fin 512) (l : Fin 512) : EReal := proj x g w n (col 2568 (by norm_num) l)
/-- The values of row `n`. -/
def dv (n : Fin 512) (l : Fin 512) : EReal := proj x g w n (col 3080 (by norm_num) l)
/-- The queries, each head normalised, times one eighth. -/
def qs : (⟨2, ![512, 512]⟩ : Shape).Idx → EReal := fun i => headNorm (dq x g w (i 0 : Fin 512)) q (i 1 : Fin 512) * Ideal.ofBits .f32 0x3E000000#32
/-- The keys, each head normalised. -/
def ks : (⟨2, ![512, 512]⟩ : Shape).Idx → EReal := fun i => headNorm (dk x g w (i 0 : Fin 512)) q (i 1 : Fin 512)
/-- The values. -/
def vs : (⟨2, ![512, 512]⟩ : Shape).Idx → EReal := fun i => dv x g w (i 0 : Fin 512) (i 1 : Fin 512)

theorem ba_lt (n : Fin 512) (j : Fin 128) (h : j.val < 8) : ba x g w (ix2 n j) = proj x g w n (⟨2048 + j.val, by omega⟩ : Fin 3592) := dif_pos h
theorem ba_ge (n : Fin 512) (j : Fin 128) (h : ¬ j.val < 8) : ba x g w (ix2 n j) = 0 := dif_neg h
theorem bat_apply (j : Fin 8) (n : Fin 512) : bat x g w (ix2 j n) = ∑ k : Fin 1024, xnorm (row x n) g k * w (ix2 k (⟨2048 + j.val, by omega⟩ : Fin 3592)) := rfl

end Cert.InprojSSpec

end
-- ==== Proof.InprojSValue.lean ====
/-
  What the kernel of the input projection of the sample group leaves in its nine arrays.
-/
module

public import proofs.«01_k».proof.Proof.InprojSBlocks
public import proofs.«01_k».proof.Proof.InprojSSpec

@[expose] public section

set_option maxRecDepth 16384

noncomputable section

namespace Cert.InprojSIdeal.Value

open Idealize.ShloMosaic Idealize.ShloMosaic.TcCoe Idealize.SL.Sem
open Idealize.ShloMosaic.Pipeline (Dat)
open Cert.InprojSIdeal Cert.InprojSIdeal.Gen Cert.InprojSSpec
open Cert.InprojSpec (eps xnorm col mate headMean headNorm group_mean)

theorem pay1_apply (x : Vec Ideal S256x1024 .f32) (g : Vec Ideal S1x1024 .f32) (r : Fin 256) (k : Fin 1024) :
    k0_pay1 x g (ix2 r k) = xnorm (fun e => x (ix2 r e)) (fun i => g (ix2 0 (i 0))) k := by
  unfold k0_pay1 xnorm eps
  pointwise

theorem pay2_apply (x : Vec Ideal S256x1024 .f32) (g : Vec Ideal S1x1024 .f32) (w : Vec Ideal S1024x3712 .bf16) (r : Fin 256) (j : Fin 3712) :
    k0_pay2 x g w (ix2 r j) = ∑ k : Fin 1024, k0_pay1 x g (ix2 r k) * w (ix2 k j) := by
  unfold k0_pay2
  pointwise

theorem pay6_apply (x : Vec Ideal S256x1024 .f32) (g : Vec Ideal S1x1024 .f32) (w : Vec Ideal S8x1024 .bf16) (j : Fin 8) (r : Fin 256) :
    k0_pay6 x g w (ix2 j r) = ∑ k : Fin 1024, w (ix2 j k) * k0_pay1 x g (ix2 r k) := by
  unfold k0_pay6
  pointwise

theorem pay11_apply (v : FVec Ideal S256x512 .f32) (p : Vec Ideal S512x512 .bf16) (q : Vec Ideal S1x512 .f32) (r : Fin 256) (l : Fin 512) :
    k0_pay11 v p q (ix2 r l)
      = v (ix2 r l) * Ideal.rsqrt (∑ j : Fin 512, v (ix2 r j) * v (ix2 r j) * p (ix2 j l) + eps) * q (ix2 0 l) := by
  unfold k0_pay11 k0_pay10 eps
  pointwise

theorem pay12_apply (v : FVec Ideal S256x512 .f32) (p : Vec Ideal S512x512 .bf16) (q : Vec Ideal S1x512 .f32) (r : Fin 256) (l : Fin 512) :
    k0_pay12 v p q (ix2 r l)
      = v (ix2 r l) * Ideal.rsqrt (∑ j : Fin 512, v (ix2 r j) * v (ix2 r j) * p (ix2 j l) + eps) * q (ix2 0 l) * Ideal.ofBits .f32 0x3E000000#32 := by
  unfold k0_pay12 k0_pay10 eps
  pointwise

theorem pay3_apply (x : Vec Ideal S256x1024 .f32) (g : Vec Ideal S1x1024 .f32) (w : Vec Ideal S1024x3712 .bf16) (r : Fin 256) (j : Fin 1536) :
    k0_pay3 x g w (ix2 r j) = k0_pay2 x g w (ix2 r (⟨0 + j.val, by omega⟩ : Fin 3712)) := by
  unfold k0_pay3
  pointwise

theorem pay4_apply (x : Vec Ideal S256x1024 .f32) (g : Vec Ideal S1x1024 .f32) (w : Vec Ideal S1024x3712 .bf16) (r : Fin 256) (j : Fin 512) :
    k0_pay4 x g w (ix2 r j) = k0_pay2 x g w (ix2 r (⟨1536 + j.val, by omega⟩ : Fin 3712)) := by
  unfold k0_pay4
  pointwise

theorem pay5_apply (x : Vec Ideal S256x1024 .f32) (g : Vec Ideal S1x1024 .f32) (w : Vec Ideal S1024x3712 .bf16) (r : Fin 256) (j : Fin 128) :
    k0_pay5 x g w (ix2 r j) = k0_pay2 x g w (ix2 r (⟨3584 + j.val, by omega⟩ : Fin 3712)) := by
  unfold k0_pay5
  pointwise

theorem pay7_apply (x : Vec Ideal S256x1024 .f32) (g : Vec Ideal S1x1024 .f32) (w : Vec Ideal S1024x3712 .bf16) (r : Fin 256) (j : Fin 512) :
    k0_pay7 x g w (ix2 r j) = k0_pay2 x g w (ix2 r (⟨2048 + j.val, by omega⟩ : Fin 3712)) := by
  unfold k0_pay7
  pointwise

theorem pay8_apply (x : Vec Ideal S256x1024 .f32) (g : Vec Ideal S1x1024 .f32) (w : Vec Ideal S1024x3712 .bf16) (r : Fin 256) (j : Fin 512) :
    k0_pay8 x g w (ix2 r j) = k0_pay2 x g w (ix2 r (⟨2560 + j.val, by omega⟩ : Fin 3712)) := by
  unfold k0_pay8
  pointwise

theorem pay9_apply (x : Vec Ideal S256x1024 .f32) (g : Vec Ideal S1x1024 .f32) (w : Vec Ideal S1024x3712 .bf16) (r : Fin 256) (j : Fin 512) :
    k0_pay9 x g w (ix2 r j) = k0_pay2 x g w (ix2 r (⟨3072 + j.val, by omega⟩ : Fin 3712)) := by
  unfold k0_pay9
  pointwise

variable (m : (ℓ : Loc nD τ sig) → Buf (Elt Ideal) ℓ) (c : Dev nD) (t : Fin cfg0.N)

/-- Row `r` of tile `t` among all rows. -/
def trow (t : Fin cfg0.N) (r : Fin 256) : Fin 512 := ⟨256 * t.val + r.val, by have := t_lt t; omega⟩

theorem pay1_blk (r : Fin 256) (k : Fin 1024) : k0_pay1 (iblk m c 0 t) (iblk m c 1 t) (ix2 r k)
    = xnorm (row (m ((c : Thread nD τ).loc main_arg0)) (trow t r)) (m ((c : Thread nD τ).loc main_arg1)) k := by
  rw [pay1_apply]
  have e1 : (fun e => iblk m c 0 t (ix2 r e)) = row (m ((c : Thread nD τ).loc main_arg0)) (trow t r) := by
    funext e
    exact x_blk m c t r e
  unfold xnorm
  rw [e1]
  have e2 : iblk m c 1 t (ix2 0 k) = m ((c : Thread nD τ).loc main_arg1) (ix1 k) := g_blk m c t k
  exact congrArg _ e2

theorem pay2_blk (r : Fin 256) (j : Fin 3712) (i : Fin 3592) (h : j.val < 2048 ∧ i.val = j.val ∨ 2048 ≤ j.val ∧ j.val < 3584 ∧ i.val = j.val + 8
      ∨ 3584 ≤ j.val ∧ j.val < 3592 ∧ i.val = j.val - 1536) :
    k0_pay2 (iblk m c 0 t) (iblk m c 1 t) (iblk m c 2 t) (ix2 r j)
      = proj (m ((c : Thread nD τ).loc main_arg0)) (m ((c : Thread nD τ).loc main_arg1)) (m ((c : Thread nD τ).loc main_arg2)) (trow t r) i := by
  rw [pay2_apply]
  unfold proj
  refine Finset.sum_congr rfl fun k _ => ?_
  rw [pay1_blk]
  have e : iblk m c 2 t (ix2 k j) = m ((c : Thread nD τ).loc main_arg2) (ix2 k i) := by
    rw [w_blk, wmain_apply]
    rcases h with ⟨a, b⟩ | ⟨a, a', b⟩ | ⟨a, a', b⟩
    · rw [dif_pos a]
      exact congrArg (fun i => m ((c : Thread nD τ).loc main_arg2) (ix2 k i)) (Fin.ext b.symm)
    · rw [dif_neg (by omega), dif_pos a']
      exact congrArg (fun i => m ((c : Thread nD τ).loc main_arg2) (ix2 k i)) (Fin.ext b.symm)
    · rw [dif_neg (by omega), dif_neg (by omega), dif_pos a']
      exact congrArg (fun i => m ((c : Thread nD τ).loc main_arg2) (ix2 k i)) (Fin.ext b.symm)
  exact congrArg _ e

theorem pay2_zero (r : Fin 256) (j : Fin 3712) (h : 3592 ≤ j.val) : k0_pay2 (iblk m c 0 t) (iblk m c 1 t) (iblk m c 2 t) (ix2 r j) = 0 := by
  rw [pay2_apply]
  refine Finset.sum_eq_zero fun k _ => ?_
  have e : iblk m c 2 t (ix2 k j) = (0 : EReal) := by
    rw [w_blk, wmain_apply, dif_neg (by omega), dif_neg (by omega), dif_neg (by omega)]
  exact (congrArg _ e).trans (mul_zero _)

/-- The queries of a block before their normalisation. -/
theorem dq_blk (r : Fin 256) (l : Fin 512) : k0_pay7 (iblk m c 0 t) (iblk m c 1 t) (iblk m c 2 t) (ix2 r l)
    = dq (m ((c : Thread nD τ).loc main_arg0)) (m ((c : Thread nD τ).loc main_arg1)) (m ((c : Thread nD τ).loc main_arg2)) (trow t r) l := by
  rw [pay7_apply]
  exact pay2_blk m c t _ _ _ (by simp only [col]; omega)

/-- The keys of a block before their normalisation. -/
theorem dk_blk (r : Fin 256) (l : Fin 512) : k0_pay8 (iblk m c 0 t) (iblk m c 1 t) (iblk m c 2 t) (ix2 r l)
    = dk (m ((c : Thread nD τ).loc main_arg0)) (m ((c : Thread nD τ).loc main_arg1)) (m ((c : Thread nD τ).loc main_arg2)) (trow t r) l := by
  rw [pay8_apply]
  exact pay2_blk m c t _ _ _ (by simp only [col]; omega)

/-- The values of a block. -/
theorem dv_blk (r : Fin 256) (l : Fin 512) : k0_pay9 (iblk m c 0 t) (iblk m c 1 t) (iblk m c 2 t) (ix2 r l)
    = dv (m ((c : Thread nD τ).loc main_arg0)) (m ((c : Thread nD τ).loc main_arg1)) (m ((c : Thread nD τ).loc main_arg2)) (trow t r) l := by
  rw [pay9_apply]
  exact pay2_blk m c t _ _ _ (by simp only [col]; omega)

/-- The columns of the recurrent branch of a block. -/
theorem qkv_blk (r : Fin 256) (l : Fin 1536) : k0_pay3 (iblk m c 0 t) (iblk m c 1 t) (iblk m c 2 t) (ix2 r l)
    = qkv (m ((c : Thread nD τ).loc main_arg0)) (m ((c : Thread nD τ).loc main_arg1)) (m ((c : Thread nD τ).loc main_arg2)) (ix2 (trow t r) l) := by
  rw [pay3_apply]
  have h : (col 0 (by norm_num) l).val = 0 + l.val := rfl
  have hl := l.isLt
  have e := pay2_blk m c t r (⟨0 + l.val, by omega⟩ : Fin 3712) (col 0 (by norm_num) l) (Or.inl ⟨by simp only; omega, h⟩)
  exact e

/-- The columns of the output gate of a block. -/
theorem z_blk (r : Fin 256) (l : Fin 512) : k0_pay4 (iblk m c 0 t) (iblk m c 1 t) (iblk m c 2 t) (ix2 r l)
    = z (m ((c : Thread nD τ).loc main_arg0)) (m ((c : Thread nD τ).loc main_arg1)) (m ((c : Thread nD τ).loc main_arg2)) (ix2 (trow t r) l) := by
  rw [pay4_apply]
  have h : (col 1536 (by norm_num) l).val = 1536 + l.val := rfl
  have hl := l.isLt
  have e := pay2_blk m c t r (⟨1536 + l.val, by omega⟩ : Fin 3712) (col 1536 (by norm_num) l) (Or.inl ⟨by simp only; omega, h⟩)
  exact e

/-- The rates of a block as rows. -/
theorem bat_blk (j : Fin 8) (r : Fin 256) : k0_pay6 (iblk m c 0 t) (iblk m c 1 t) (iblk m c 3 t) (ix2 j r)
    = bat (m ((c : Thread nD τ).loc main_arg0)) (m ((c : Thread nD τ).loc main_arg1)) (m ((c : Thread nD τ).loc main_arg2)) (ix2 j (trow t r)) := by
  rw [pay6_apply, bat_apply]
  refine Finset.sum_congr rfl fun k _ => ?_
  rw [pay1_blk]
  have e : iblk m c 3 t (ix2 j k) = m ((c : Thread nD τ).loc main_arg2) (ix2 k (⟨2048 + j.val, by omega⟩ : Fin 3592)) := wt_blk m c t j k
  exact (congrArg (fun a : EReal => a * xnorm (row (m ((c : Thread nD τ).loc main_arg0)) (trow t r)) (m ((c : Thread nD τ).loc main_arg1)) k) e).trans (mul_comm _ _)

theorem pay15_eq (x0 : Vec Ideal S256x1024 .f32) (x1 : Vec Ideal S1x1024 .f32) (x2 : Vec Ideal S1024x3712 .bf16) (x3 : Vec Ideal S8x1024 .bf16)
    (x4 : Vec Ideal S1x512 .f32) (x5 : Vec Ideal S1x512 .f32) (x6 : Vec Ideal S512x512 .bf16) :
    k0_pay15 x0 x1 x2 x3 x4 x5 x6 = k0_pay8 x0 x1 x2 := by
  unfold k0_pay15
  frame_out

theorem pay16_eq (x0 : Vec Ideal S256x1024 .f32) (x1 : Vec Ideal S1x1024 .f32) (x2 : Vec Ideal S1024x3712 .bf16) (x3 : Vec Ideal S8x1024 .bf16)
    (x4 : Vec Ideal S1x512 .f32) (x5 : Vec Ideal S1x512 .f32) (x6 : Vec Ideal S512x512 .bf16) :
    k0_pay16 x0 x1 x2 x3 x4 x5 x6 = k0_pay9 x0 x1 x2 := by
  unfold k0_pay16
  frame_out

theorem pay13_eq (v : FVec Ideal S256x512 .f32) (p : Vec Ideal S512x512 .bf16) (q : Vec Ideal S1x512 .f32) : k0_pay13 v p q = k0_pay11 v p q := rfl

theorem pay14_eq (v : FVec Ideal S256x512 .f32) : k0_pay14 v = v := rfl

/-- A mean over the lanes against the head table is the mean of the head. -/
theorem mean_blk (v : Fin 512 → EReal) (l : Fin 512) : ∑ j : Fin 512, v j * v j * iblk m c 6 t (ix2 j l) = headMean v l := by
  rw [← group_mean]
  refine Finset.sum_congr rfl fun j _ => ?_
  have e : iblk m c 6 t (ix2 j l) = (if j.val / 64 = l.val / 64 then ((1 / 64 : ℝ) : EReal) else 0) := (grp_blk m c t j l).trans (grp_apply j l)
  exact congrArg _ e

theorem qs_blk (r : Fin 256) (l : Fin 512) :
    k0_pay12 (k0_pay7 (iblk m c 0 t) (iblk m c 1 t) (iblk m c 2 t)) (iblk m c 6 t) (iblk m c 4 t) (ix2 r l)
      = qs (m ((c : Thread nD τ).loc main_arg0)) (m ((c : Thread nD τ).loc main_arg1)) (m ((c : Thread nD τ).loc main_arg2)) (m ((c : Thread nD τ).loc main_arg3)) (ix2 (trow t r) l) := by
  rw [pay12_apply]
  simp only [dq_blk]
  rw [mean_blk]
  have e : iblk m c 4 t (ix2 0 l) = (m ((c : Thread nD τ).loc main_arg3)) (ix1 (⟨l.val % 64, by omega⟩ : Fin 64)) := gq_blk m c t l
  exact congrArg (fun a => dq (m ((c : Thread nD τ).loc main_arg0)) (m ((c : Thread nD τ).loc main_arg1)) (m ((c : Thread nD τ).loc main_arg2)) (trow t r) l * Ideal.rsqrt (headMean (dq (m ((c : Thread nD τ).loc main_arg0)) (m ((c : Thread nD τ).loc main_arg1)) (m ((c : Thread nD τ).loc main_arg2)) (trow t r)) l + eps) * a * Ideal.ofBits .f32 0x3E000000#32) e

theorem ks_blk (r : Fin 256) (l : Fin 512) :
    k0_pay11 (k0_pay8 (iblk m c 0 t) (iblk m c 1 t) (iblk m c 2 t)) (iblk m c 6 t) (iblk m c 5 t) (ix2 r l)
      = ks (m ((c : Thread nD τ).loc main_arg0)) (m ((c : Thread nD τ).loc main_arg1)) (m ((c : Thread nD τ).loc main_arg2)) (m ((c : Thread nD τ).loc main_arg4)) (ix2 (trow t r) l) := by
  rw [pay11_apply]
  simp only [dk_blk]
  rw [mean_blk]
  have e : iblk m c 5 t (ix2 0 l) = (m ((c : Thread nD τ).loc main_arg4)) (ix1 (⟨l.val % 64, by omega⟩ : Fin 64)) := gk_blk m c t l
  exact congrArg (fun a => dk (m ((c : Thread nD τ).loc main_arg0)) (m ((c : Thread nD τ).loc main_arg1)) (m ((c : Thread nD τ).loc main_arg2)) (trow t r) l * Ideal.rsqrt (headMean (dk (m ((c : Thread nD τ).loc main_arg0)) (m ((c : Thread nD τ).loc main_arg1)) (m ((c : Thread nD τ).loc main_arg2)) (trow t r)) l + eps) * a) e

theorem final7 : (dats m 0 c).arrAt 7 cfg0.N = qkv (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  have ht := t_lt t
  idx_vars y
  frame_out
  have hx : ((View.whole main_v28_0).slice (win0_7.rect t)).emb (ix2 y0 y1) = ix2 (trow t y0) y1 := by
    unfold trow
    blk_ext [idx t]
  rw [hx]
  exact qkv_blk m c t y0 y1

theorem final8 : (dats m 0 c).arrAt 8 cfg0.N = z (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  have ht := t_lt t
  idx_vars y
  frame_out
  have hx : ((View.whole main_v28_1).slice (win0_8.rect t)).emb (ix2 y0 y1) = ix2 (trow t y0) y1 := by
    unfold trow
    blk_ext [idx t]
  rw [hx]
  exact z_blk m c t y0 y1

theorem final9 : (dats m 0 c).arrAt 9 cfg0.N = ba (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  have ht := t_lt t
  idx_vars y
  frame_out
  have hx : ((View.whole main_v28_2).slice (win0_9.rect t)).emb (ix2 y0 y1) = ix2 (trow t y0) y1 := by
    unfold trow
    blk_ext [idx t]
  rw [hx]
  rw [pay5_apply]
  by_cases h : y1.val < 8
  · refine (pay2_blk m c t y0 _ (⟨2048 + y1.val, by omega⟩ : Fin 3592) (by simp only; omega)).trans ?_
    exact (ba_lt _ _ _ _ _ h).symm
  · refine (pay2_zero m c t y0 _ (by simp only; omega)).trans ?_
    exact (ba_ge _ _ _ _ _ h).symm

theorem final10 : (dats m 0 c).arrAt 10 cfg0.N = bat (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  have ht := t_lt t
  idx_vars y
  frame_out
  have hx : ((View.whole main_v28_3).slice (win0_10.rect t)).emb (ix2 y0 y1) = ix2 y0 (trow t y1) := by
    unfold trow
    blk_ext [idx t]
  rw [hx]
  exact bat_blk m c t y0 y1

theorem final11 : (dats m 0 c).arrAt 11 cfg0.N = ks (m ((c : Thread nD τ).loc main_arg0)) (m ((c : Thread nD τ).loc main_arg1)) (m ((c : Thread nD τ).loc main_arg2)) (m ((c : Thread nD τ).loc main_arg4)) := by
  refine (dats m 0 c).arrAt_eq_of_covers 11 _ (by decide +kernel) fun t _ y => ?_
  blk_simp
  rw [after0_11]
  have ht := t_lt t
  idx_vars y
  frame_out
  have hx : ((View.whole main_v28_4).slice (win0_11.rect t)).emb (ix2 y0 y1) = ix2 (trow t y0) y1 := by
    unfold trow
    blk_ext [idx t]
  rw [hx]
  rw [pay15_eq]
  exact ks_blk m c t y0 y1

theorem final12 : (dats m 0 c).arrAt 12 cfg0.N = vs (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  have ht := t_lt t
  idx_vars y
  frame_out
  have hx : ((View.whole main_v28_5).slice (win0_12.rect t)).emb (ix2 y0 y1) = ix2 (trow t y0) y1 := by
    unfold trow
    blk_ext [idx t]
  rw [hx]
  rw [pay16_eq]
  exact dv_blk m c t y0 y1

theorem final13 : (dats m 0 c).arrAt 13 cfg0.N = qs (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t _ y => ?_
  blk_simp
  rw [after0_13]
  have ht := t_lt t
  idx_vars y
  frame_out
  have hx : ((View.whole main_v28_6).slice (win0_13.rect t)).emb (ix2 y0 y1) = ix2 (trow t y0) y1 := by
    unfold trow
    blk_ext [idx t]
  rw [hx]
  exact qs_blk m c t y0 y1

theorem final14 : (dats m 0 c).arrAt 14 cfg0.N = ks (m ((c : Thread nD τ).loc main_arg0)) (m ((c : Thread nD τ).loc main_arg1)) (m ((c : Thread nD τ).loc main_arg2)) (m ((c : Thread nD τ).loc main_arg4)) := by
  refine (dats m 0 c).arrAt_eq_of_covers 14 _ (by decide +kernel) fun t _ y => ?_
  blk_simp
  rw [after0_14]
  have ht := t_lt t
  idx_vars y
  frame_out
  have hx : ((View.whole main_v28_7).slice (win0_14.rect t)).emb (ix2 y0 y1) = ix2 (trow t y0) y1 := by
    unfold trow
    blk_ext [idx t]
  rw [hx]
  rw [pay13_eq, pay15_eq]
  exact ks_blk m c t y0 y1

theorem final15 : (dats m 0 c).arrAt 15 cfg0.N = vs (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]
  have ht := t_lt t
  idx_vars y
  frame_out
  have hx : ((View.whole main_v28_8).slice (win0_15.rect t)).emb (ix2 y0 y1) = ix2 (trow t y0) y1 := by
    unfold trow
    blk_ext [idx t]
  rw [hx]
  rw [pay14_eq, pay16_eq]
  exact dv_blk m c t y0 y1

end Cert.InprojSIdeal.Value

end
-- ==== Proof.InprojSRefValue.lean ====
/-
  What the plain input projection of the sample group computes, array by array, at an index.
-/
module

public import proofs.«01_k».proof.Proof.InprojSSpec
public import proofs.«01_k».proof.Proof.Gen.InprojSRefIdeal.Run
public import Idealize.ShloMosaic.Lib.Pointwise
public import Idealize.ShloMosaic.Lib.IdealHost
public import Idealize.ShloMosaic.Lib.Pipeline.ValueKit

@[expose] public section

set_option maxRecDepth 16384

noncomputable section

namespace Cert.InprojSRefIdeal.Value

open Idealize.ShloMosaic Idealize.ShloMosaic.TcCoe Idealize.SL.Sem
open Cert.InprojSRefIdeal Cert.InprojSRefIdeal.Gen Cert.InprojSSpec
open Cert.InprojSpec (eps xnorm col mate headMean headNorm group_mean)

/-- The samples' rows one time after another. -/
def rows (x : FVec Ideal S128x4x1024 .f32) : FVec Ideal S512x1024 .f32 := shapeCast _ (transpose S4x128x1024 [1, 0, 2] x transposes_S128x4x1024_S4x128x1024_1_0_2) shapeCasts_S4x128x1024_S512x1024

/-- The mean square of each row. -/
def meanSq (r : FVec Ideal S512x1024 .f32) : FVec Ideal S512x1 .f32 :=
  Host.divf (broadcastInDim S512x1 ![0] bcast_S512_S512x1_0 (Host.reduceAdd (mulf r r) (constant S_ .f32 0x00000000#32) reducesTo_S512x1024_S512_d1 h_S_))
    (broadcastInDim S512x1 ![] bcast_S_S512x1 (constant S_ .f32 0x44800000#32))

/-- The rows normalised. -/
def normed (x : FVec Ideal S128x4x1024 .f32) (g : FVec Ideal S1024 .f32) : FVec Ideal S512x1024 .f32 :=
  mulf (mulf (rows x) (broadcastInDim S512x1024 ![0, 1] bcast_S512x1_S512x1024_0_1
    (Host.rsqrt (addf (meanSq (rows x)) (broadcastInDim S512x1 ![] bcast_S_S512x1 (constant S_ .f32 0x358637BD#32))))))
    (broadcastInDim S512x1024 ![0, 1] bcast_S1x1024_S512x1024_0_1 (broadcastInDim S1x1024 ![1] bcast_S1024_S1x1024_1 g))

/-- The normalised rows times the weight. -/
def prod (x : FVec Ideal S128x4x1024 .f32) (g : FVec Ideal S1024 .f32) (w : FVec Ideal S1024x3592 .f32) : FVec Ideal S512x3592 .f32 :=
  Host.dotGeneral dot_S512x1024_S1024x3592_S512x3592_1_0_0_1_n_n none (normed x g) w

/-- The heads of a row, each over the root of its mean square, times the gain. -/
def heads (v : FVec Ideal S512x512 .f32) (q : FVec Ideal S64 .f32) : FVec Ideal S512x512 .f32 :=
  shapeCast _ (mulf (mulf (shapeCast S512x8x64 v shapeCasts_S512x512_S512x8x64) (broadcastInDim S512x8x64 ![0, 1, 2] bcast_S512x8x1_S512x8x64_0_1_2
    (Host.rsqrt (addf (Host.divf (broadcastInDim S512x8x1 ![0, 1] bcast_S512x8_S512x8x1_0_1
      (Host.reduceAdd (mulf (shapeCast S512x8x64 v shapeCasts_S512x512_S512x8x64) (shapeCast S512x8x64 v shapeCasts_S512x512_S512x8x64))
        (constant S_ .f32 0x00000000#32) reducesTo_S512x8x64_S512x8_d2 h_S_)) (broadcastInDim S512x8x1 ![] bcast_S_S512x8x1 (constant S_ .f32 0x42800000#32)))
      (broadcastInDim S512x8x1 ![] bcast_S_S512x8x1 (constant S_ .f32 0x358637BD#32))))))
    (broadcastInDim S512x8x64 ![0, 1, 2] bcast_S1x1x64_S512x8x64_0_1_2 (broadcastInDim S1x1x64 ![2] bcast_S64_S1x1x64_2 q))) shapeCasts_S512x8x64_S512x512

/-- The last 1536 columns. -/
def late (p : FVec Ideal S512x3592 .f32) : FVec Ideal S512x1536 .f32 := extractStridedSlice S512x1536 ![0, 2056] p slices_S512x3592_S512x1536_0_2056

theorem normed_apply (x : FVec Ideal S128x4x1024 .f32) (g : FVec Ideal S1024 .f32) (n : Fin 512) (k : Fin 1024) :
    normed x g (ix2 n k) = xnorm (row x n) g k := by
  unfold normed meanSq rows xnorm row eps
  pointwise

theorem prod_apply (x : FVec Ideal S128x4x1024 .f32) (g : FVec Ideal S1024 .f32) (w : FVec Ideal S1024x3592 .f32) (n : Fin 512) (j : Fin 3592) :
    prod x g w (ix2 n j) = proj x g w n j := by
  unfold prod proj
  pointwise [normed_apply]

theorem heads_apply (v : FVec Ideal S512x512 .f32) (q : FVec Ideal S64 .f32) (n : Fin 512) (l : Fin 512) :
    heads v q (ix2 n l) = headNorm (fun e => v (ix2 n e)) q l := by
  unfold heads headNorm headMean eps mate
  pointwise
  simp only [Nat.mul_comm (l.val / 64) 64]

variable (x : FVec Ideal S128x4x1024 .f32) (g : FVec Ideal S1024 .f32) (w : FVec Ideal S1024x3592 .f32) (q : FVec Ideal S64 .f32)

theorem qkv_eq : extractStridedSlice S512x1536 ![0, 0] (prod x g w) slices_S512x3592_S512x1536_0_0 = qkv x g w := by
  funext i
  idx_vars i
  pointwise [prod_apply, qkv, col]

theorem z_eq : extractStridedSlice S512x512 ![0, 1536] (prod x g w) slices_S512x3592_S512x512_0_1536 = z x g w := by
  funext i
  idx_vars i
  pointwise [prod_apply, z, col]

theorem bat_eq : transpose S8x512 [1, 0] (extractStridedSlice S512x8 ![0, 2048] (prod x g w) slices_S512x3592_S512x8_0_2048) transposes_S512x8_S8x512_1_0
    = bat x g w := by
  funext i
  idx_vars i
  pointwise [prod_apply, bat, col]

theorem ba_eq : concatenate S512x128 1 [⟨S512x8, (extractStridedSlice S512x8 ![0, 2048] (prod x g w) slices_S512x3592_S512x8_0_2048)⟩,
    ⟨S512x120, (broadcastInDim S512x120 ![] bcast_S_S512x120 (constant S_ .f32 0x00000000#32))⟩] concatenates_S512x8_S512x120_S512x128_d1
    = ba x g w := by
  funext i
  idx_vars i
  pointwise [prod_apply, ba]

theorem dv_apply (n : Fin 512) (l : Fin 512) : extractStridedSlice S512x512 ![0, 1024] (late (prod x g w)) slices_S512x1536_S512x512_0_1024 (ix2 n l)
    = dv x g w n l := by
  unfold late dv
  pointwise [prod_apply, col]
  congr 1
  exact Fin.ext (by simp only; omega)

theorem dk_apply (n : Fin 512) (l : Fin 512) : extractStridedSlice S512x512 ![0, 512] (late (prod x g w)) slices_S512x1536_S512x512_0_512 (ix2 n l)
    = dk x g w n l := by
  unfold late dk
  pointwise [prod_apply, col]
  congr 1
  exact Fin.ext (by simp only; omega)

theorem dq_apply (n : Fin 512) (l : Fin 512) : extractStridedSlice S512x512 ![0, 0] (late (prod x g w)) slices_S512x1536_S512x512_0_0 (ix2 n l)
    = dq x g w n l := by
  unfold late dq
  pointwise [prod_apply, col]

theorem vs_eq : extractStridedSlice S512x512 ![0, 1024] (late (prod x g w)) slices_S512x1536_S512x512_0_1024 = vs x g w := by
  funext i
  idx_vars i
  exact dv_apply x g w i0 i1

theorem ks_eq : heads (extractStridedSlice S512x512 ![0, 512] (late (prod x g w)) slices_S512x1536_S512x512_0_512) q = ks x g w q := by
  funext i
  idx_vars i
  rw [heads_apply]
  simp only [dk_apply]
  rfl

theorem qs_eq : mulf (heads (extractStridedSlice S512x512 ![0, 0] (late (prod x g w)) slices_S512x1536_S512x512_0_0) q)
    (broadcastInDim S512x512 ![] bcast_S_S512x512 (constant S_ .f32 0x3E000000#32)) = qs x g w q := by
  funext i
  idx_vars i
  pointwise [heads_apply, dq_apply, qs]

variable (m : (ℓ : Loc nD τ sig) → Buf (Elt Ideal) ℓ) (c : Dev nD)

theorem res_v49 : res_main_v49 m c = heads (extractStridedSlice S512x512 ![0, 512] (late (prod (m ((c.tc : Thread nD τ).loc main_arg0)) (m ((c.tc : Thread nD τ).loc main_arg1))
    (m ((c.tc : Thread nD τ).loc main_arg2)))) slices_S512x1536_S512x512_0_512) (m ((c.tc : Thread nD τ).loc main_arg4)) := rfl

theorem res_v59 : res_main_v59 m c = heads (extractStridedSlice S512x512 ![0, 512] (late (prod (m ((c.tc : Thread nD τ).loc main_arg0)) (m ((c.tc : Thread nD τ).loc main_arg1))
    (m ((c.tc : Thread nD τ).loc main_arg2)))) slices_S512x1536_S512x512_0_512) (m ((c.tc : Thread nD τ).loc main_arg4)) := rfl

theorem res_v58 : res_main_v58 m c = mulf (heads (extractStridedSlice S512x512 ![0, 0] (late (prod (m ((c.tc : Thread nD τ).loc main_arg0)) (m ((c.tc : Thread nD τ).loc main_arg1))
    (m ((c.tc : Thread nD τ).loc main_arg2)))) slices_S512x1536_S512x512_0_0) (m ((c.tc : Thread nD τ).loc main_arg3)))
    (broadcastInDim S512x512 ![] bcast_S_S512x512 (constant S_ .f32 0x3E000000#32)) := rfl

end Cert.InprojSRefIdeal.Value

end
-- ==== Proof.InprojSClaim.lean ====
/-
  The claim of the sample group's input projection: the kernel and the plain projection hold the same nine arrays.
-/
module

public import proofs.«01_k».proof.Defs
public import proofs.«01_k».proof.Proof.InprojSValue
public import proofs.«01_k».proof.Proof.InprojSRefValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

set_option maxHeartbeats 8000000 in
/-- The kernel and the plain projection give the same arrays. -/
theorem inproj_s_eq : Cert.algebraic_InprojSIdeal_InprojSRefIdeal := by
  pair_intro
  · run_from Cert.InprojSIdeal.Value.run_blocks m g
  · run_from Cert.InprojSRefIdeal.Value.run m' g'
    all_goals obtain ⟨a0, a1, a2, a3, a4⟩ := hagree c
    · rw [Cert.InprojSIdeal.Value.final7 m c]
      refine (Cert.InprojSRefIdeal.Value.qkv_eq _ _ _).trans ?_
      first | rw [a0, a1, a2] | rfl
    · rw [Cert.InprojSIdeal.Value.final8 m c]
      refine (Cert.InprojSRefIdeal.Value.z_eq _ _ _).trans ?_
      first | rw [a0, a1, a2] | rfl
    · rw [Cert.InprojSIdeal.Value.final9 m c]
      refine (Cert.InprojSRefIdeal.Value.ba_eq _ _ _).trans ?_
      first | rw [a0, a1, a2] | rfl
    · rw [Cert.InprojSIdeal.Value.final10 m c]
      refine (Cert.InprojSRefIdeal.Value.bat_eq _ _ _).trans ?_
      first | rw [a0, a1, a2] | rfl
    · rw [Cert.InprojSIdeal.Value.final11 m c]
      refine ((Cert.InprojSRefIdeal.Value.res_v49 m' c).trans (Cert.InprojSRefIdeal.Value.ks_eq _ _ _ _)).trans ?_
      first | rw [a0, a1, a2, a4] | rfl
    · rw [Cert.InprojSIdeal.Value.final12 m c]
      refine (Cert.InprojSRefIdeal.Value.vs_eq _ _ _).trans ?_
      first | rw [a0, a1, a2] | rfl
    · rw [Cert.InprojSIdeal.Value.final13 m c]
      refine ((Cert.InprojSRefIdeal.Value.res_v58 m' c).trans (Cert.InprojSRefIdeal.Value.qs_eq _ _ _ _)).trans ?_
      first | rw [a0, a1, a2, a3] | rfl
    · rw [Cert.InprojSIdeal.Value.final14 m c]
      refine ((Cert.InprojSRefIdeal.Value.res_v59 m' c).trans (Cert.InprojSRefIdeal.Value.ks_eq _ _ _ _)).trans ?_
      first | rw [a0, a1, a2, a4] | rfl
    · rw [Cert.InprojSIdeal.Value.final15 m c]
      refine (Cert.InprojSRefIdeal.Value.vs_eq _ _ _).trans ?_
      first | rw [a0, a1, a2] | rfl

end Cert.Proof

end
-- ==== Proof.PostSSpec.lean ====
/-
  The output projection and the feed-forward at a position of a sequence: the residual stream after the mixers, its
  up-projection, the convolution over three positions, the gate, and the down-projection.
-/
module

public import proofs.«01_k».proof.Proof.InprojSpec

@[expose] public section

set_option maxRecDepth 16384

noncomputable section

namespace Cert.PostSSpec

open Idealize.ShloMosaic
open Cert.InprojSpec (eps xnorm)

/-- The row of sample `b` at time `p`, the samples of one time after another. -/
def flat (b : Fin 128) (p : Fin 4) : Fin 512 := ⟨p.val * 128 + b.val, by omega⟩

/-- The sample of a row, and its time. -/
def seqOf (n : Fin 512) : Fin 128 := ⟨n.val % 128, by omega⟩
def posOf (n : Fin 512) : Fin 4 := ⟨n.val / 128, by omega⟩

/-- The sample of the `r`-th of the rows kept, and its padded row. -/
def keptSeq (r : Fin 256) : Fin 128 := ⟨r.val % 128, by omega⟩
def keptRow (r : Fin 256) : Fin 6 := ⟨4 + r.val / 128, by omega⟩

/-- The two mixers' outputs side by side. -/
def mix (og od : (⟨2, ![512, 512]⟩ : Shape).Idx → EReal) (n : Fin 512) (j : Fin 1024) : EReal :=
  if h : j.val < 512 then og (ix2 n (⟨j.val, h⟩ : Fin 512)) else od (ix2 n (⟨j.val - 512, by omega⟩ : Fin 512))

variable (x : (⟨3, ![128, 4, 1024]⟩ : Shape).Idx → EReal) (og od : (⟨2, ![512, 512]⟩ : Shape).Idx → EReal)
  (h0 : (⟨3, ![128, 2, 5632]⟩ : Shape).Idx → EReal) (wo : (⟨2, ![1024, 1024]⟩ : Shape).Idx → EReal) (g : (⟨1, ![1024]⟩ : Shape).Idx → EReal)
  (wu : (⟨2, ![1024, 5632]⟩ : Shape).Idx → EReal) (cw : (⟨2, ![3, 5632]⟩ : Shape).Idx → EReal)
  (cb : (⟨1, ![5632]⟩ : Shape).Idx → EReal) (wd : (⟨2, ![2816, 1024]⟩ : Shape).Idx → EReal)

/-- The residual stream after the mixers. -/
def res (b : Fin 128) (p : Fin 4) (k : Fin 1024) : EReal :=
  x (ix3 b p k) + ∑ j : Fin 1024, mix og od (flat b p) j * wo (ix2 j k)

/-- The up-projection of the normalised stream. -/
def up (b : Fin 128) (p : Fin 4) (l : Fin 5632) : EReal :=
  ∑ k : Fin 1024, xnorm (res x og od wo b p) g k * wu (ix2 k l)

/-- The up-projected rows behind the two rows kept of the sample. -/
def padded (b : Fin 128) (s : Fin 6) (l : Fin 5632) : EReal :=
  if h : s.val < 2 then h0 (ix3 b (⟨s.val, h⟩ : Fin 2) l) else up x og od wo g wu b (⟨s.val - 2, by omega⟩ : Fin 4) l

/-- The convolution over a position and the two before it. -/
def conv (b : Fin 128) (p : Fin 4) (l : Fin 5632) : EReal :=
  padded x og od h0 wo g wu b (⟨p.val, by omega⟩ : Fin 6) l * cw (ix2 0 l) + padded x og od h0 wo g wu b (⟨1 + p.val, by omega⟩ : Fin 6) l * cw (ix2 1 l)
    + padded x og od h0 wo g wu b (⟨2 + p.val, by omega⟩ : Fin 6) l * cw (ix2 2 l) + cb (ix1 l)

/-- The gate's lane of 5632 and the value's. -/
def gateLane (l : Fin 2816) : Fin 5632 := ⟨l.val, by omega⟩
def valueLane (l : Fin 2816) : Fin 5632 := ⟨2816 + l.val, by omega⟩

/-- A gate value times its logistic, times the value. -/
def gated (a v : EReal) : EReal := a * Ideal.logistic a * v

/-- The gated rows. -/
def act (b : Fin 128) (p : Fin 4) (l : Fin 2816) : EReal :=
  gated (conv x og od h0 wo g wu cw cb b p (gateLane l)) (conv x og od h0 wo g wu cw cb b p (valueLane l))

/-- The stream after the feed-forward. -/
def y (b : Fin 128) (p : Fin 4) (k : Fin 1024) : EReal :=
  res x og od wo b p k + ∑ l : Fin 2816, act x og od h0 wo g wu cw cb b p l * wd (ix2 l k)

/-- The stream after the feed-forward, the sequences one after another. -/
def out : (⟨2, ![512, 1024]⟩ : Shape).Idx → EReal := fun i =>
  y x og od h0 wo g wu cw cb wd (seqOf (i 0)) (posOf (i 0)) (i 1)

/-- The last two padded rows of every sample, the samples of one time after another. -/
def last : (⟨3, ![1, 256, 5632]⟩ : Shape).Idx → EReal := fun i =>
  padded x og od h0 wo g wu (keptSeq (i 1)) (keptRow (i 1)) (i 2)

/-- The sum over both mixers' columns is the sum over the first's plus the sum over the second's. -/
theorem mix_sum (n : Fin 512) (k : Fin 1024) : ∑ j : Fin 1024, mix og od n j * wo (ix2 j k)
    = ∑ j : Fin 512, og (ix2 n j) * wo (ix2 (⟨j.val, by omega⟩ : Fin 1024) k) + ∑ j : Fin 512, od (ix2 n j) * wo (ix2 (⟨512 + j.val, by omega⟩ : Fin 1024) k) := by
  have e := Fin.sum_univ_add (a := 512) (b := 512) (fun j : Fin (512 + 512) => mix og od n j * wo (ix2 j k))
  refine (show _ = _ from e).trans (congrArg₂ (· + ·) ?_ ?_)
  · refine Finset.sum_congr rfl fun j _ => ?_
    have h : (Fin.castAdd 512 j).val < 512 := j.isLt
    unfold mix
    rw [dif_pos h]
    rfl
  · refine Finset.sum_congr rfl fun j _ => ?_
    have h : ¬ (Fin.natAdd 512 j).val < 512 := by simp [Fin.natAdd]
    unfold mix
    rw [dif_neg h]
    have e1 : (⟨(Fin.natAdd 512 j).val - 512, by have := j.isLt; simp [Fin.natAdd]⟩ : Fin 512) = j := Fin.ext (by simp [Fin.natAdd])
    rw [e1]
    rfl

end Cert.PostSSpec

end
-- ==== Proof.PostSBlocks.lean ====
/-
  The blocks the output projection and the feed-forward read, at coordinates of the arguments.
-/
module

public import proofs.«01_k».proof.Proof.PostSSpec
public import proofs.«01_k».proof.Proof.Gen.PostSIdeal.Value
public import Idealize.ShloMosaic.Lib.Pipeline.ValueKit
public import Idealize.ShloMosaic.Lib.Claim
public import Idealize.ShloMosaic.Lib.Pointwise
public import Idealize.ShloMosaic.Lib.IdealHost

@[expose] public section

set_option maxRecDepth 16384

noncomputable section

namespace Cert.PostSIdeal.Value

open Idealize.ShloMosaic Idealize.ShloMosaic.TcCoe Idealize.SL.Sem
open Idealize.ShloMosaic.Pipeline (Dat)
open Cert.PostSIdeal Cert.PostSIdeal.Gen

variable (m : (ℓ : Loc nD τ sig) → Buf (Elt Ideal) ℓ)

/-- The blocks each window visits. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![0, 0, 0] :=
  (by decide +kernel : ∀ t : Fin grid0.N, _)

variable (c : Dev nD) (t : Fin cfg0.N)

theorem t_lt (t : Fin cfg0.N) : t.val < 4 := t.isLt

/-- The time of tile `t`; its row `r` is sample `r`. -/
def tt (t : Fin cfg0.N) : Fin 4 := ⟨t.val, t_lt t⟩

theorem x_blk (r : Fin 128) (k : Fin 1024) : iblk m c 0 t (ix2 r k) = m ((c : Thread nD τ).loc main_arg0) (ix3 r (tt t) k) := by
  have ht := t_lt t
  blk_simp [iblk, idx t]
  unfold tt
  entry_read
  pointwise
  blk_ext [idx t]

theorem og_blk (r : Fin 128) (j : Fin 512) : iblk m c 1 t (ix2 r j) = m ((c : Thread nD τ).loc main_arg1) (ix2 (PostSSpec.flat r (tt t)) j) := by
  have ht := t_lt t
  blk_simp [iblk, V, idx t]
  unfold tt PostSSpec.flat
  blk_ext [idx t]

theorem od_blk (r : Fin 128) (j : Fin 512) : iblk m c 2 t (ix2 r j) = m ((c : Thread nD τ).loc main_arg2) (ix2 (PostSSpec.flat r (tt t)) j) := by
  have ht := t_lt t
  blk_simp [iblk, V, idx t]
  unfold tt PostSSpec.flat
  blk_ext [idx t]

/-- The time of a kept row. -/
def keptTime (r : Fin 256) : Fin 2 := ⟨r.val / 128, by omega⟩

theorem hist_blk (r : Fin 256) (l : Fin 5632) : iblk m c 3 t (ix3 0 r l) = m ((c : Thread nD τ).loc main_arg3) (ix3 (PostSSpec.keptSeq r) (keptTime r) l) := by
  have ht := t_lt t
  blk_simp [iblk, idx t]
  unfold PostSSpec.keptSeq keptTime
  entry_read
  pointwise
  blk_ext [idx t]

theorem wo_blk (j k : Fin 1024) : iblk m c 4 t (ix2 j k) = m ((c : Thread nD τ).loc main_arg4) (ix2 j k) := by
  have ht := t_lt t
  blk_simp [iblk, idx t]
  entry_read
  pointwise
  blk_ext [idx t]

theorem g_blk (k : Fin 1024) : iblk m c 5 t (ix2 0 k) = m ((c : Thread nD τ).loc main_arg5) (ix1 k) := by
  have ht := t_lt t
  blk_simp [iblk, idx t]
  entry_read
  pointwise
  blk_ext [idx t]

theorem wu_blk (k : Fin 1024) (l : Fin 5632) : iblk m c 6 t (ix2 k l) = m ((c : Thread nD τ).loc main_arg6) (ix2 k l) := by
  have ht := t_lt t
  blk_simp [iblk, idx t]
  entry_read
  pointwise
  blk_ext [idx t]

theorem cw_blk (k : Fin 3) (l : Fin 5632) : iblk m c 7 t (ix2 k l) = m ((c : Thread nD τ).loc main_arg7) (ix2 k l) := by
  have ht := t_lt t
  blk_simp [iblk, V, idx t]
  blk_ext [idx t]

theorem cb_blk (l : Fin 5632) : iblk m c 8 t (ix2 0 l) = m ((c : Thread nD τ).loc main_arg8) (ix1 l) := by
  have ht := t_lt t
  blk_simp [iblk, idx t]
  entry_read
  pointwise
  blk_ext [idx t]

theorem wd_blk (l : Fin 2816) (k : Fin 1024) : iblk m c 9 t (ix2 l k) = m ((c : Thread nD τ).loc main_arg9) (ix2 l k) := by
  have ht := t_lt t
  blk_simp [iblk, idx t]
  entry_read
  pointwise
  blk_ext [idx t]

end Cert.PostSIdeal.Value

end
-- ==== Proof.PostSStep.lean ====
/-
  One tile of the feed-forward of the sample group: its payloads at an index, and the buffer of up-projected rows it reads back.
-/
module

public import proofs.«01_k».proof.Proof.PostSBlocks
public import Idealize.ShloMosaic.Lib.WritesUnit
public import Idealize.ShloMosaic.Lib.Pipeline.ReadBack

@[expose] public section

set_option maxRecDepth 16384

noncomputable section

namespace Cert.PostSIdeal.Value

open Idealize.ShloMosaic Idealize.ShloMosaic.TcCoe Idealize.SL.Sem
open Idealize.ShloMosaic.Pipeline (Dat)
open Cert.PostSIdeal Cert.PostSIdeal.Gen
open Cert.InprojSpec (eps xnorm)

theorem pay1_apply (h : FVec Ideal S128x1024 .f32) (a : FVec Ideal S128x2816 .bf16) (w : FVec Ideal S2816x1024 .bf16) (r : Fin 128) (k : Fin 1024) :
    k0_pay1 h a w (constant S128x1024 .f32 0x00000000#32) (ix2 r k) = h (ix2 r k) + ∑ l : Fin 2816, a (ix2 r l) * w (ix2 l k) := by
  unfold k0_pay1
  pointwise

theorem pay2_apply (v : Vec Ideal S1x256x5632 .f32) (r : Fin 256) (l : Fin 5632) : k0_pay2 v (ix2 r l) = v (ix3 0 r l) := by
  unfold k0_pay2
  pointwise

theorem pay3_apply (x : Vec Ideal S128x1024 .f32) (a : Vec Ideal S128x512 .bf16) (u : Vec Ideal S512x1024 .bf16) (b : Vec Ideal S128x512 .bf16)
    (v : Vec Ideal S512x1024 .bf16) (r : Fin 128) (k : Fin 1024) :
    k0_pay3 x a u b v (ix2 r k) = x (ix2 r k) + ∑ j : Fin 512, a (ix2 r j) * u (ix2 j k) + ∑ j : Fin 512, b (ix2 r j) * v (ix2 j k) := by
  unfold k0_pay3
  pointwise

theorem pay4_apply (x : Vec Ideal S128x1024 .f32) (a : Vec Ideal S128x512 .bf16) (u : Vec Ideal S512x1024 .bf16) (b : Vec Ideal S128x512 .bf16)
    (v : Vec Ideal S512x1024 .bf16) (g : Vec Ideal S1x1024 .f32) (w : Vec Ideal S1024x5632 .bf16) (r : Fin 128) (l : Fin 5632) :
    k0_pay4 x a u b v g w (ix2 r l)
      = ∑ k : Fin 1024, xnorm (fun e => k0_pay3 x a u b v (ix2 r e)) (fun i => g (ix2 0 (i 0))) k * w (ix2 k l) := by
  unfold k0_pay4 xnorm eps
  pointwise

theorem pay5_apply (v : FVec Ideal S128x5632 .f32) (r : Fin 128) (l : Fin 5632) : k0_pay5 v (ix2 r l) = v (ix2 r l) := by
  unfold k0_pay5
  pointwise

theorem pay6_apply (v : Vec Ideal S256x5632 .f32) (z : Fin 1) (r : Fin 256) (l : Fin 5632) : k0_pay6 v (ix3 z r l) = v (ix2 r l) := by
  unfold k0_pay6
  pointwise

theorem pay7_apply (v : Vec Ideal S256x5632 .f32) (r : Fin 256) (l : Fin 5632) : k0_pay7 v (ix2 r l) = v (ix2 r l) := by
  unfold k0_pay7
  pointwise

/-- The convolution of one lane from the three rows and the lane's weights. -/
def convAt (w : Vec Ideal S3x5632 .f32) (b : Vec Ideal S1x5632 .f32) (u0 u1 u2 : Vec Ideal S128x5632 .f32) (r : Fin 128) (l : Fin 5632) : EReal :=
  w (ix2 2 l) * u0 (ix2 r l) + b (ix2 0 l) + w (ix2 1 l) * u1 (ix2 r l) + w (ix2 0 l) * u2 (ix2 r l)

theorem pay8_apply (w : Vec Ideal S3x5632 .f32) (u0 : Vec Ideal S128x5632 .f32) (b : Vec Ideal S1x5632 .f32) (u1 u2 : Vec Ideal S128x5632 .f32)
    (r : Fin 128) (l : Fin 2816) : k0_pay8 w u0 b u1 u2 (ix2 r l)
      = PostSSpec.gated (convAt w b u0 u1 u2 r (PostSSpec.gateLane l)) (convAt w b u0 u1 u2 r (PostSSpec.valueLane l)) := by
  unfold k0_pay8 PostSSpec.gated convAt PostSSpec.gateLane PostSSpec.valueLane
  pointwise

theorem pay9_apply (v : Vec Ideal S2816x1024 .bf16) (l : Fin 2816) (k : Fin 1024) : k0_pay9 v (ix2 l k) = v (ix2 l k) := by
  unfold k0_pay9
  pointwise

/-- A row from number 256 on reads the tile's row, whatever the buffer held. -/
theorem read_hi (f : (View.whole cc0_scratch0).ty.Contents (Elt Ideal)) (U : Vec Ideal S128x5632 .f32) (L : List (View.Piece (Elt Ideal) S384x5632 .f32))
    (y : S384x5632.Idx) (r : Fin 128) (l : Fin 5632) (h0 : (y 0).val = 256 + r.val) (h1 : (y 1).val = l.val) :
    View.read (Elt Ideal) (View.whole cc0_scratch0) ((View.whole cc0_scratch0).writes (Elt Ideal) f
      (⟨Rect.unit (s := S384x5632) ![256, 0] ![128, 5632] inb_S384x5632_S128x5632_256_0, U⟩ :: L)) y = U (ix2 r l) :=
  View.read_writes_cons_rows_of_mem (View.whole cc0_scratch0) f inb_S384x5632_S128x5632_256_0 U L y (ix2 r l) rfl h0 h1

/-- An earlier row reads what was there. -/
theorem read_lo (f : (View.whole cc0_scratch0).ty.Contents (Elt Ideal)) (U : Vec Ideal S128x5632 .f32) (L : List (View.Piece (Elt Ideal) S384x5632 .f32))
    (y : S384x5632.Idx) (h0 : (y 0).val < 256) :
    View.read (Elt Ideal) (View.whole cc0_scratch0) ((View.whole cc0_scratch0).writes (Elt Ideal) f
      (⟨Rect.unit (s := S384x5632) ![256, 0] ![128, 5632] inb_S384x5632_S128x5632_256_0, U⟩ :: L)) y
      = View.read (Elt Ideal) (View.whole cc0_scratch0) ((View.whole cc0_scratch0).writes (Elt Ideal) f L) y :=
  View.read_writes_cons_rows_of_not_mem (View.whole cc0_scratch0) f inb_S384x5632_S128x5632_256_0 U L y rfl rfl (Or.inl h0)

/-- An earlier row after the history was put there reads the history. -/
theorem read_hist (f : (View.whole cc0_scratch0).ty.Contents (Elt Ideal)) (H : Vec Ideal S256x5632 .f32) (y : S384x5632.Idx) (r : Fin 256) (l : Fin 5632)
    (h0 : (y 0).val = r.val) (h1 : (y 1).val = l.val) :
    View.read (Elt Ideal) (View.whole cc0_scratch0) ((View.whole cc0_scratch0).writes (Elt Ideal) f
      [⟨Rect.unit (s := S384x5632) ![0, 0] ![256, 5632] inb_S384x5632_S256x5632_0_0, H⟩]) y = H (ix2 r l) :=
  View.read_writes_cons_rows_of_mem (View.whole cc0_scratch0) f inb_S384x5632_S256x5632_0_0 H [] y (ix2 r l) rfl
    (by rw [h0]; exact (Nat.zero_add _).symm) h1

variable (m : (ℓ : Loc nD τ sig) → Buf (Elt Ideal) ℓ) (c : Dev nD) (t : Fin cfg0.N)

/-- The residual stream of the arguments. -/
def mres : Fin 128 → Fin 4 → Fin 1024 → EReal :=
  PostSSpec.res (m ((c : Thread nD τ).loc main_arg0)) (m ((c : Thread nD τ).loc main_arg1)) (m ((c : Thread nD τ).loc main_arg2)) (m ((c : Thread nD τ).loc main_arg4))

/-- The up-projected rows of the arguments. -/
def mup : Fin 128 → Fin 4 → Fin 5632 → EReal :=
  PostSSpec.up (m ((c : Thread nD τ).loc main_arg0)) (m ((c : Thread nD τ).loc main_arg1)) (m ((c : Thread nD τ).loc main_arg2)) (m ((c : Thread nD τ).loc main_arg4))
    (m ((c : Thread nD τ).loc main_arg5)) (m ((c : Thread nD τ).loc main_arg6))

/-- The up-projected rows of the arguments behind the two rows kept of the sample. -/
def mpad : Fin 128 → Fin 6 → Fin 5632 → EReal :=
  PostSSpec.padded (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6))

/-- The halves of the output projection a tile loads. -/
def woTop : Vec Ideal S512x1024 .bf16 := View.ld (Val := Elt Ideal) (e' := .bf16) (iblk m c 4 t) (Rect.unit (s := S1024x1024) ![0, 0] ![512, 1024] inb_S1024x1024_S512x1024_0_0)
def woBot : Vec Ideal S512x1024 .bf16 := View.ld (Val := Elt Ideal) (e' := .bf16) (iblk m c 4 t) (Rect.unit (s := S1024x1024) ![512, 0] ![512, 1024] inb_S1024x1024_S512x1024_512_0)

/-- The tile's residual stream, and its up-projected rows. -/
def tileRes : FVec Ideal S128x1024 .f32 := k0_pay3 (iblk m c 0 t) (iblk m c 1 t) (woTop m c t) (iblk m c 2 t) (woBot m c t)
def tileUp : FVec Ideal S128x5632 .f32 := k0_pay4 (iblk m c 0 t) (iblk m c 1 t) (woTop m c t) (iblk m c 2 t) (woBot m c t) (iblk m c 5 t) (iblk m c 6 t)

theorem woTop_apply (j : Fin 512) (k : Fin 1024) : woTop m c t (ix2 j k) = m ((c : Thread nD τ).loc main_arg4) (ix2 (⟨j.val, by omega⟩ : Fin 1024) k) := by
  refine (show _ = iblk m c 4 t (ix2 (⟨j.val, by omega⟩ : Fin 1024) k) from ?_).trans (wo_blk m c t _ k)
  unfold woTop
  refine congrArg (iblk m c 4 t) (funext fun a => ?_)
  fin_cases a
  · exact Fin.ext (by show 0 + 1 * j.val = j.val; omega)
  · exact Fin.ext (by show 0 + 1 * k.val = k.val; omega)

theorem woBot_apply (j : Fin 512) (k : Fin 1024) : woBot m c t (ix2 j k) = m ((c : Thread nD τ).loc main_arg4) (ix2 (⟨512 + j.val, by omega⟩ : Fin 1024) k) := by
  refine (show _ = iblk m c 4 t (ix2 (⟨512 + j.val, by omega⟩ : Fin 1024) k) from ?_).trans (wo_blk m c t _ k)
  unfold woBot
  refine congrArg (iblk m c 4 t) (funext fun a => ?_)
  fin_cases a
  · exact Fin.ext (by show 512 + 1 * j.val = 512 + j.val; omega)
  · exact Fin.ext (by show 0 + 1 * k.val = k.val; omega)

theorem tileRes_apply (r : Fin 128) (k : Fin 1024) : tileRes m c t (ix2 r k) = mres m c r (tt t) k := by
  unfold tileRes mres PostSSpec.res
  rw [pay3_apply, PostSSpec.mix_sum, add_assoc]
  refine congrArg₂ (· + ·) (x_blk m c t r k) (congrArg₂ (· + ·) (Finset.sum_congr rfl fun j _ => ?_) (Finset.sum_congr rfl fun j _ => ?_))
  · exact congrArg₂ (fun a b : EReal => a * b) (og_blk m c t r j) (woTop_apply m c t j k)
  · exact congrArg₂ (fun a b : EReal => a * b) (od_blk m c t r j) (woBot_apply m c t j k)

theorem tileUp_apply (r : Fin 128) (l : Fin 5632) : tileUp m c t (ix2 r l) = mup m c r (tt t) l := by
  unfold tileUp mup PostSSpec.up
  rw [pay4_apply]
  refine Finset.sum_congr rfl fun k _ => congrArg₂ (fun a b : EReal => a * b) ?_ (wu_blk m c t k l)
  have e1 : (fun e => k0_pay3 (iblk m c 0 t) (iblk m c 1 t) (woTop m c t) (iblk m c 2 t) (woBot m c t) (ix2 r e)) = mres m c r (tt t) :=
    funext fun e => tileRes_apply m c t r e
  unfold xnorm
  rw [e1]
  exact congrArg₂ (fun a b : EReal => a * b) rfl (g_blk m c t k)

end Cert.PostSIdeal.Value

end
-- ==== Proof.PostSValue.lean ====
/-
  What the feed-forward of the sample group leaves at a time, and what the whole grid leaves: the time's up-projected rows are convolved behind the
  rows of the two times before it.
-/
module

public import proofs.«01_k».proof.Proof.PostSStep

@[expose] public section

set_option maxRecDepth 16384

noncomputable section

namespace Cert.PostSIdeal.Value

open Idealize.ShloMosaic Idealize.ShloMosaic.TcCoe Idealize.SL.Sem
open Idealize.ShloMosaic.Pipeline (Dat)
open Cert.PostSIdeal Cert.PostSIdeal.Gen

variable (m : (ℓ : Loc nD τ sig) → Buf (Elt Ideal) ℓ) (c : Dev nD) (t : Fin cfg0.N)

/-- The sample of a row of the buffer, and its padded row at tile `t`. -/
def bufSeq (q : Fin 384) : Fin 128 := ⟨q.val % 128, by omega⟩
def bufRow (t : Fin cfg0.N) (q : Fin 384) : Fin 6 := ⟨t.val + q.val / 128, by have := t_lt t; have := q.isLt; omega⟩

/-- The first 256 rows of the buffer, the next 256, and the tile's own. -/
def low (r : Fin 256) : Fin 384 := ⟨r.val, by omega⟩
def high (r : Fin 256) : Fin 384 := ⟨128 + r.val, by omega⟩
def tap0 (r : Fin 128) : Fin 384 := ⟨r.val, by omega⟩
def tap1 (r : Fin 128) : Fin 384 := ⟨128 + r.val, by omega⟩
def tap2 (r : Fin 128) : Fin 384 := ⟨256 + r.val, by omega⟩

/-- What row `q` of the buffer holds while tile `t` runs. -/
def held (t : Fin cfg0.N) (q : Fin 384) (l : Fin 5632) : EReal := mpad m c (bufSeq q) (bufRow t q) l

theorem pad_tile (q : Fin 384) (h : 256 ≤ q.val) (l : Fin 5632) : mup m c (⟨q.val - 256, by omega⟩ : Fin 128) (tt t) l = held m c t q l := by
  unfold held mpad PostSSpec.padded
  have hq := q.isLt
  have hn : ¬ (bufRow t q).val < 2 := by
    show ¬ t.val + q.val / 128 < 2
    omega
  rw [dif_neg hn]
  have e1 : bufSeq q = (⟨q.val - 256, by omega⟩ : Fin 128) := Fin.ext (by show q.val % 128 = q.val - 256; omega)
  rw [e1]
  refine congrArg (fun p => mup m c _ p l) (Fin.ext ?_)
  show t.val = t.val + q.val / 128 - 2
  omega

theorem pad_first (h : t.val % 4 = 0) (r : Fin 256) (l : Fin 5632) :
    m ((c : Thread nD τ).loc main_arg3) (ix3 (PostSSpec.keptSeq r) (keptTime r) l) = held m c t (low r) l := by
  unfold held mpad PostSSpec.padded
  have ht := t_lt t
  have hr := r.isLt
  have hn : (bufRow t (low r)).val < 2 := by
    show t.val + r.val / 128 < 2
    omega
  rw [dif_pos hn]
  have e : (⟨(bufRow t (low r)).val, hn⟩ : Fin 2) = keptTime r := Fin.ext (by show t.val + r.val / 128 = r.val / 128; omega)
  rw [e]
  rfl

/-- The buffer of the first tile. -/
theorem held_first (h : t.val % 4 = 0) (f : (View.whole cc0_scratch0).ty.Contents (Elt Ideal)) (q : Fin 384) (l : Fin 5632) (y : S384x5632.Idx)
    (h0 : (y 0).val = q.val) (h1 : (y 1).val = l.val) :
    View.read (Elt Ideal) (View.whole cc0_scratch0) ((View.whole cc0_scratch0).writes (Elt Ideal) f
      [⟨Rect.unit (s := S384x5632) ![256, 0] ![128, 5632] inb_S384x5632_S128x5632_256_0, k0_pay5 (tileUp m c t)⟩,
        ⟨Rect.unit (s := S384x5632) ![0, 0] ![256, 5632] inb_S384x5632_S256x5632_0_0, k0_pay2 (iblk m c 3 t)⟩]) y = held m c t q l := by
  have hq := q.isLt
  by_cases hs : q.val < 256
  · refine (read_lo f _ _ y (by omega)).trans ?_
    refine (read_hist f _ y (⟨q.val, hs⟩ : Fin 256) l h0 h1).trans ?_
    exact (pay2_apply _ _ l).trans ((hist_blk m c t _ l).trans (pad_first m c t h _ l))
  · refine (read_hi f _ _ y (⟨q.val - 256, by omega⟩ : Fin 128) l (by show (y 0).val = 256 + (q.val - 256); omega) h1).trans ?_
    exact (pay5_apply _ _ l).trans ((tileUp_apply m c t _ l).trans (pad_tile m c t q (by omega) l))

/-- The buffer of a later tile, over a buffer whose first rows hold what they should. -/
theorem held_later (X : Vec Ideal S384x5632 .f32) (hX : ∀ (r : Fin 256) (l : Fin 5632), X (ix2 (low r) l) = held m c t (low r) l)
    (f : (View.whole cc0_scratch0).ty.Contents (Elt Ideal)) (hf : View.read (Elt Ideal) (View.whole cc0_scratch0) f = X) (q : Fin 384) (l : Fin 5632)
    (y : S384x5632.Idx) (h0 : (y 0).val = q.val) (h1 : (y 1).val = l.val) :
    View.read (Elt Ideal) (View.whole cc0_scratch0) ((View.whole cc0_scratch0).writes (Elt Ideal) f
      [⟨Rect.unit (s := S384x5632) ![256, 0] ![128, 5632] inb_S384x5632_S128x5632_256_0, k0_pay5 (tileUp m c t)⟩]) y = held m c t q l := by
  have hq := q.isLt
  by_cases hs : q.val < 256
  · refine (read_lo f _ _ y (by omega)).trans ?_
    have hy : y = ix2 (low (⟨q.val, hs⟩ : Fin 256)) l := funext fun a => by
      fin_cases a
      · exact Fin.ext h0
      · exact Fin.ext h1
    rw [hy]
    exact (congrFun hf _).trans (hX _ l)
  · refine (read_hi f _ _ y (⟨q.val - 256, by omega⟩ : Fin 128) l (by show (y 0).val = 256 + (q.val - 256); omega) h1).trans ?_
    exact (pay5_apply _ _ l).trans ((tileUp_apply m c t _ l).trans (pad_tile m c t q (by omega) l))

theorem emb_low (r : Fin 256) (l : Fin 5632) :
    (ix2 (low r) l : S384x5632.Idx) = (Rect.unit (s := S384x5632) ![0, 0] ![256, 5632] inb_S384x5632_S256x5632_0_0).emb (ix2 r l) :=
  funext fun a => by
    fin_cases a
    · exact Fin.ext (by show r.val = 0 + 1 * r.val; omega)
    · exact Fin.ext (by show l.val = 0 + 1 * l.val; omega)

/-! What the first tile loads. -/

theorem first_high (h : t.val % 4 = 0) (r : Fin 256) (l : Fin 5632) :
    (View.whole cc0_scratch0).readCov (Val := Elt Ideal)
      [⟨Rect.unit (s := S384x5632) ![256, 0] ![128, 5632] inb_S384x5632_S128x5632_256_0, k0_pay5 (tileUp m c t)⟩,
        ⟨Rect.unit (s := S384x5632) ![0, 0] ![256, 5632] inb_S384x5632_S256x5632_0_0, k0_pay2 (iblk m c 3 t)⟩]
      (Rect.unit (s := S384x5632) ![128, 0] ![256, 5632] inb_S384x5632_S256x5632_128_0).toLoadRect (ix2 r l) = held m c t (high r) l := by
  have h0 : ((Rect.unit (s := S384x5632) ![128, 0] ![256, 5632] inb_S384x5632_S256x5632_128_0).toLoadRect.idx (ix2 r l) 0).val = (high r).val := by
    show 128 + 1 * r.val = 128 + r.val
    omega
  have h1 : ((Rect.unit (s := S384x5632) ![128, 0] ![256, 5632] inb_S384x5632_S256x5632_128_0).toLoadRect.idx (ix2 r l) 1).val = l.val := by
    show 0 + 1 * l.val = l.val
    omega
  unfold View.readCov
  exact held_first m c t h (View.whole cc0_scratch0).junk (high r) l ((Rect.unit (s := S384x5632) ![128, 0] ![256, 5632] inb_S384x5632_S256x5632_128_0).toLoadRect.idx (ix2 r l)) h0 h1

theorem first_tap2 (h : t.val % 4 = 0) (r : Fin 128) (l : Fin 5632) :
    (View.whole cc0_scratch0).readCov (Val := Elt Ideal)
      [⟨Rect.unit (s := S384x5632) ![256, 0] ![128, 5632] inb_S384x5632_S128x5632_256_0, k0_pay5 (tileUp m c t)⟩,
        ⟨Rect.unit (s := S384x5632) ![0, 0] ![256, 5632] inb_S384x5632_S256x5632_0_0, k0_pay2 (iblk m c 3 t)⟩]
      (Rect.unit (s := S384x5632) ![256, 0] ![128, 5632] inb_S384x5632_S128x5632_256_0).toLoadRect (ix2 r l) = held m c t (tap2 r) l := by
  have h0 : ((Rect.unit (s := S384x5632) ![256, 0] ![128, 5632] inb_S384x5632_S128x5632_256_0).toLoadRect.idx (ix2 r l) 0).val = (tap2 r).val := by
    show 256 + 1 * r.val = 256 + r.val
    omega
  have h1 : ((Rect.unit (s := S384x5632) ![256, 0] ![128, 5632] inb_S384x5632_S128x5632_256_0).toLoadRect.idx (ix2 r l) 1).val = l.val := by
    show 0 + 1 * l.val = l.val
    omega
  unfold View.readCov
  exact held_first m c t h (View.whole cc0_scratch0).junk (tap2 r) l ((Rect.unit (s := S384x5632) ![256, 0] ![128, 5632] inb_S384x5632_S128x5632_256_0).toLoadRect.idx (ix2 r l)) h0 h1

theorem first_tap1 (h : t.val % 4 = 0) (r : Fin 128) (l : Fin 5632) :
    (View.whole cc0_scratch0).readCov (Val := Elt Ideal)
      [⟨Rect.unit (s := S384x5632) ![256, 0] ![128, 5632] inb_S384x5632_S128x5632_256_0, k0_pay5 (tileUp m c t)⟩,
        ⟨Rect.unit (s := S384x5632) ![0, 0] ![256, 5632] inb_S384x5632_S256x5632_0_0, k0_pay2 (iblk m c 3 t)⟩]
      (Rect.unit (s := S384x5632) ![128, 0] ![128, 5632] inb_S384x5632_S128x5632_128_0).toLoadRect (ix2 r l) = held m c t (tap1 r) l := by
  have h0 : ((Rect.unit (s := S384x5632) ![128, 0] ![128, 5632] inb_S384x5632_S128x5632_128_0).toLoadRect.idx (ix2 r l) 0).val = (tap1 r).val := by
    show 128 + 1 * r.val = 128 + r.val
    omega
  have h1 : ((Rect.unit (s := S384x5632) ![128, 0] ![128, 5632] inb_S384x5632_S128x5632_128_0).toLoadRect.idx (ix2 r l) 1).val = l.val := by
    show 0 + 1 * l.val = l.val
    omega
  unfold View.readCov
  exact held_first m c t h (View.whole cc0_scratch0).junk (tap1 r) l ((Rect.unit (s := S384x5632) ![128, 0] ![128, 5632] inb_S384x5632_S128x5632_128_0).toLoadRect.idx (ix2 r l)) h0 h1

theorem first_tap0 (h : t.val % 4 = 0) (r : Fin 128) (l : Fin 5632) :
    (View.whole cc0_scratch0).readCov (Val := Elt Ideal)
      [⟨Rect.unit (s := S384x5632) ![256, 0] ![128, 5632] inb_S384x5632_S128x5632_256_0, k0_pay5 (tileUp m c t)⟩,
        ⟨Rect.unit (s := S384x5632) ![0, 0] ![256, 5632] inb_S384x5632_S256x5632_0_0, k0_pay2 (iblk m c 3 t)⟩]
      (Rect.unit (s := S384x5632) ![0, 0] ![128, 5632] inb_S384x5632_S128x5632_0_0).toLoadRect (ix2 r l) = held m c t (tap0 r) l := by
  have h0 : ((Rect.unit (s := S384x5632) ![0, 0] ![128, 5632] inb_S384x5632_S128x5632_0_0).toLoadRect.idx (ix2 r l) 0).val = (tap0 r).val := by
    show 0 + 1 * r.val = r.val
    omega
  have h1 : ((Rect.unit (s := S384x5632) ![0, 0] ![128, 5632] inb_S384x5632_S128x5632_0_0).toLoadRect.idx (ix2 r l) 1).val = l.val := by
    show 0 + 1 * l.val = l.val
    omega
  unfold View.readCov
  exact held_first m c t h (View.whole cc0_scratch0).junk (tap0 r) l ((Rect.unit (s := S384x5632) ![0, 0] ![128, 5632] inb_S384x5632_S128x5632_0_0).toLoadRect.idx (ix2 r l)) h0 h1

/-- What any other tile loads of its own rows. -/
theorem later_tap2 (r : Fin 128) (l : Fin 5632) :
    (View.whole cc0_scratch0).readCov (Val := Elt Ideal)
      [⟨Rect.unit (s := S384x5632) ![256, 0] ![128, 5632] inb_S384x5632_S128x5632_256_0, k0_pay5 (tileUp m c t)⟩]
      (Rect.unit (s := S384x5632) ![256, 0] ![128, 5632] inb_S384x5632_S128x5632_256_0).toLoadRect (ix2 r l) = held m c t (tap2 r) l := by
  have h0 : ((Rect.unit (s := S384x5632) ![256, 0] ![128, 5632] inb_S384x5632_S128x5632_256_0).toLoadRect.idx (ix2 r l) 0).val = 256 + r.val := by
    show 256 + 1 * r.val = 256 + r.val
    omega
  have h1 : ((Rect.unit (s := S384x5632) ![256, 0] ![128, 5632] inb_S384x5632_S128x5632_256_0).toLoadRect.idx (ix2 r l) 1).val = l.val := by
    show 0 + 1 * l.val = l.val
    omega
  have e : (⟨(tap2 r).val - 256, by have := (tap2 r).isLt; omega⟩ : Fin 128) = r := Fin.ext (by show 256 + r.val - 256 = r.val; omega)
  have hp := pad_tile m c t (tap2 r) (by show 256 ≤ 256 + r.val; omega) l
  rw [e] at hp
  unfold View.readCov
  refine (read_hi (View.whole cc0_scratch0).junk _ [] ((Rect.unit (s := S384x5632) ![256, 0] ![128, 5632] inb_S384x5632_S128x5632_256_0).toLoadRect.idx (ix2 r l)) r l h0 h1).trans ?_
  exact (pay5_apply _ r l).trans ((tileUp_apply m c t r l).trans hp)

/-- The tile before. -/
def prev (t : Fin cfg0.N) : Fin cfg0.N := ⟨t.val - 1, Nat.lt_of_le_of_lt (Nat.sub_le _ _) t.isLt⟩

/-- The first rows of the buffer are what tile `t` should find there. -/
def Found (t : Fin cfg0.N) : Prop :=
  ∀ (r : Fin 256) (l : Fin 5632), (outsAt0 m c (prev t).val (prev t).isLt).2.2 (ix2 (low r) l) = held m c t (low r) l

theorem carry_first (h : t.val % 4 = 0) (r : Fin 256) (l : Fin 5632) : (outsAt0 m c t.val t.isLt).2.2 (ix2 (low r) l) = held m c t (high r) l := by
  rw [outsAt0_A m c t h]
  frame_out
  rw [emb_low]
  refine (View.canon_cons_emb (Rect.unit (s := S384x5632) ![0, 0] ![256, 5632] inb_S384x5632_S256x5632_0_0) _ _ (ix2 r l)).trans ?_
  refine (pay7_apply _ r l).trans ?_
  exact first_high m c t h r l

theorem carry_later (h : ¬ t.val % 4 = 0) (hp : Found m c t) (r : Fin 256) (l : Fin 5632) :
    (outsAt0 m c t.val t.isLt).2.2 (ix2 (low r) l) = held m c t (high r) l := by
  rw [outsAt0_B m c t h]
  frame_out
  rw [emb_low]
  refine (View.canon_cons_emb (Rect.unit (s := S384x5632) ![0, 0] ![256, 5632] inb_S384x5632_S256x5632_0_0) _ _ (ix2 r l)).trans ?_
  refine (pay7_apply _ r l).trans ?_
  refine held_later m c t _ hp _ (read_unread_whole _ _ _) (high r) l ((Rect.unit (s := S384x5632) ![128, 0] ![256, 5632] inb_S384x5632_S256x5632_128_0).toLoadRect.idx (ix2 r l)) ?_ ?_
  · show 128 + 1 * r.val = 128 + r.val
    omega
  · show 0 + 1 * l.val = l.val
    omega

/-- What a tile leaves is what the next should find. -/
theorem next_held (n : ℕ) (h : n + 1 < cfg0.N) (r : Fin 256) (l : Fin 5632) :
    held m c ⟨n, Nat.lt_of_succ_lt h⟩ (high r) l = held m c ⟨n + 1, h⟩ (low r) l := by
  unfold held
  have e1 : bufSeq (high r) = bufSeq (low r) := Fin.ext (by show (128 + r.val) % 128 = r.val % 128; omega)
  have e2 : bufRow ⟨n, Nat.lt_of_succ_lt h⟩ (high r) = bufRow ⟨n + 1, h⟩ (low r) :=
    Fin.ext (by show n + (128 + r.val) / 128 = n + 1 + r.val / 128; omega)
  rw [e1, e2]

theorem carry : ∀ (n : ℕ) (h : n < cfg0.N) (r : Fin 256) (l : Fin 5632), (outsAt0 m c n h).2.2 (ix2 (low r) l) = held m c ⟨n, h⟩ (high r) l := by
  intro n
  induction n with
  | zero =>
    intro h r l
    exact carry_first m c ⟨0, h⟩ rfl r l
  | succ n ih =>
    intro h r l
    have hn : n + 1 < 4 := t_lt ⟨n + 1, h⟩
    have hm : ¬ (n + 1) % 4 = 0 := by omega
    exact carry_later m c ⟨n + 1, h⟩ hm (fun r l => (ih (Nat.lt_of_succ_lt h) r l).trans (next_held m c n h r l)) r l

theorem found (h : ¬ t.val % 4 = 0) : Found m c t := by
  obtain ⟨n, hn⟩ := t
  cases n with
  | zero => exact absurd rfl h
  | succ n => exact fun r l => (carry m c n (Nat.lt_of_succ_lt hn) r l).trans (next_held m c n hn r l)

/-- The last tile's output of kept rows. -/
theorem last_later (h : ¬ t.val % 4 = 0) (z : Fin 1) (r : Fin 256) (l : Fin 5632) : (outsAt0 m c t.val t.isLt).2.1 (ix3 z r l) = held m c t (high r) l := by
  have hp := found m c t h
  rw [outsAt0_B m c t h]
  frame_out
  refine (pay6_apply _ z r l).trans ?_
  refine held_later m c t _ hp _ (read_unread_whole _ _ _) (high r) l ((Rect.unit (s := S384x5632) ![128, 0] ![256, 5632] inb_S384x5632_S256x5632_128_0).toLoadRect.idx (ix2 r l)) ?_ ?_
  · show 128 + 1 * r.val = 128 + r.val
    omega
  · show 0 + 1 * l.val = l.val
    omega

/-- The convolution, the gate and the down-projection of the arguments. -/
def mconv : Fin 128 → Fin 4 → Fin 5632 → EReal :=
  PostSSpec.conv (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
def my : Fin 128 → Fin 4 → Fin 1024 → EReal :=
  PostSSpec.y (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9))

/-- The kernel adds the convolution's terms in another order. -/
theorem conv_order (a0 a1 a2 w0 w1 w2 b : EReal) : w2 * a2 + b + w1 * a1 + w0 * a0 = a0 * w0 + a1 * w1 + a2 * w2 + b := by
  rw [mul_comm w2, mul_comm w1, mul_comm w0]
  abel

/-- Three rows that hold the padded rows convolve to the specification's convolution. -/
theorem conv_tile (u0 u1 u2 : Vec Ideal S128x5632 .f32) (r : Fin 128) (l : Fin 5632)
    (h0 : u0 (ix2 r l) = held m c t (tap2 r) l) (h1 : u1 (ix2 r l) = held m c t (tap1 r) l)
    (h2 : u2 (ix2 r l) = held m c t (tap0 r) l) : convAt (iblk m c 7 t) (iblk m c 8 t) u0 u1 u2 r l = mconv m c r (tt t) l := by
  unfold convAt
  rw [h0, h1, h2, cw_blk m c t 0 l, cw_blk m c t 1 l, cw_blk m c t 2 l, cb_blk m c t l]
  refine (conv_order _ _ _ _ _ _ _).trans ?_
  have hr := r.isLt
  have s0 : bufSeq (tap0 r) = r := Fin.ext (by show r.val % 128 = r.val; omega)
  have s1 : bufSeq (tap1 r) = r := Fin.ext (by show (128 + r.val) % 128 = r.val; omega)
  have s2 : bufSeq (tap2 r) = r := Fin.ext (by show (256 + r.val) % 128 = r.val; omega)
  have e0 : bufRow t (tap0 r) = (⟨(tt t).val, by omega⟩ : Fin 6) := Fin.ext (by show t.val + r.val / 128 = t.val; omega)
  have e1 : bufRow t (tap1 r) = (⟨1 + (tt t).val, by omega⟩ : Fin 6) := Fin.ext (by show t.val + (128 + r.val) / 128 = 1 + t.val; omega)
  have e2 : bufRow t (tap2 r) = (⟨2 + (tt t).val, by omega⟩ : Fin 6) := Fin.ext (by show t.val + (256 + r.val) / 128 = 2 + t.val; omega)
  unfold held
  rw [s0, s1, s2, e0, e1, e2]
  rfl

/-- A tile whose three loads hold the padded rows leaves the stream after the feed-forward. -/
theorem y_tile (u0 u1 u2 : Vec Ideal S128x5632 .f32) (h0 : ∀ r l, u0 (ix2 r l) = held m c t (tap2 r) l)
    (h1 : ∀ r l, u1 (ix2 r l) = held m c t (tap1 r) l) (h2 : ∀ r l, u2 (ix2 r l) = held m c t (tap0 r) l)
    (r : Fin 128) (k : Fin 1024) :
    k0_pay1 (tileRes m c t) (k0_pay8 (iblk m c 7 t) u0 (iblk m c 8 t) u1 u2) (k0_pay9 (iblk m c 9 t)) (constant S128x1024 .f32 0x00000000#32) (ix2 r k)
      = my m c r (tt t) k := by
  refine (pay1_apply _ _ _ r k).trans ?_
  unfold my PostSSpec.y
  refine congrArg₂ (fun a b : EReal => a + b) (tileRes_apply m c t r k) (Finset.sum_congr rfl fun l _ => ?_)
  refine congrArg₂ (fun a b : EReal => a * b) ((pay8_apply _ _ _ _ _ r l).trans ?_) ((pay9_apply _ l k).trans (wd_blk m c t l k))
  exact congrArg₂ PostSSpec.gated (conv_tile m c t u0 u1 u2 r _ (h0 _ _) (h1 _ _) (h2 _ _)) (conv_tile m c t u0 u1 u2 r _ (h0 _ _) (h1 _ _) (h2 _ _))

/-- The rows of a tap among the first 256. -/
def lowTap0 (r : Fin 128) : Fin 256 := ⟨r.val, by omega⟩
def lowTap1 (r : Fin 128) : Fin 256 := ⟨128 + r.val, by omega⟩

theorem y_first (h : t.val % 4 = 0) (r : Fin 128) (k : Fin 1024) : (outsAt0 m c t.val t.isLt).1 (ix2 r k) = my m c r (tt t) k := by
  rw [outsAt0_A m c t h]
  frame_out
  exact y_tile m c t _ _ _ (first_tap2 m c t h) (first_tap1 m c t h) (first_tap0 m c t h) r k

theorem y_later (h : ¬ t.val % 4 = 0) (r : Fin 128) (k : Fin 1024) : (outsAt0 m c t.val t.isLt).1 (ix2 r k) = my m c r (tt t) k := by
  have hp := found m c t h
  rw [outsAt0_B m c t h]
  frame_out
  refine y_tile m c t _ _ _ (later_tap2 m c t) (fun r l => ?_) (fun r l => ?_) r k
  · rw [read_unread_whole]
    unfold View.ld
    refine Eq.trans ?_ (hp (lowTap1 r) l)
    refine congrArg (outsAt0 m c (prev t).val (prev t).isLt).2.2 (funext fun a => ?_)
    fin_cases a
    · exact Fin.ext (by show 128 + 1 * r.val = 128 + r.val; omega)
    · exact Fin.ext (by show 0 + 1 * l.val = l.val; omega)
  · rw [read_unread_whole]
    unfold View.ld
    refine Eq.trans ?_ (hp (lowTap0 r) l)
    refine congrArg (outsAt0 m c (prev t).val (prev t).isLt).2.2 (funext fun a => ?_)
    fin_cases a
    · exact Fin.ext (by show 0 + 1 * r.val = r.val; omega)
    · exact Fin.ext (by show 0 + 1 * l.val = l.val; omega)

/-- The row of the whole output that a tile's row is. -/
def orow (t : Fin cfg0.N) (r : Fin 128) : Fin 512 := ⟨128 * t.val + r.val, by have := t_lt t; have := r.isLt; omega⟩

theorem my_orow (r : Fin 128) (k : Fin 1024) : my m c (PostSSpec.seqOf (orow t r)) (PostSSpec.posOf (orow t r)) k = my m c r (tt t) k := by
  have ht := t_lt t
  have hr := r.isLt
  have e1 : PostSSpec.seqOf (orow t r) = r := Fin.ext (by show (128 * t.val + r.val) % 128 = r.val; omega)
  have e2 : PostSSpec.posOf (orow t r) = tt t := Fin.ext (by show (128 * t.val + r.val) / 128 = t.val; omega)
  rw [e1, e2]

theorem y_tile_all (r : Fin 128) (k : Fin 1024) : (outsAt0 m c t.val t.isLt).1 (ix2 r k) = my m c r (tt t) k := by
  by_cases h : t.val % 4 = 0
  · exact y_first m c t h r k
  · exact y_later m c t h r k

/-- The first result is the stream after the feed-forward. -/
theorem out_final : (dats m 0 c).arrAt 10 cfg0.N
    = PostSSpec.out (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) := by
  refine (dats m 0 c).arrAt_eq_of_covers 10 _ (by decide +kernel) fun t _ y => ?_
  blk_simp
  rw [after0_10]
  have ht := t_lt t
  idx_vars y
  have hx : ((View.whole main_v9_0).slice (win0_10.rect t)).emb (ix2 y0 y1) = ix2 (orow t y0) y1 := by
    unfold orow
    blk_ext [idx t]
  rw [hx]
  exact (y_tile_all m c t y0 y1).trans (my_orow m c t y0 y1).symm

/-- The second result is the last two padded rows of every sample. -/
theorem last_final : (dats m 0 c).arrAt 11 cfg0.N
    = PostSSpec.last (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 11 _ (by decide +kernel) fun t hf y => ?_
  have hl : t.val % 4 = 3 := (flush0_11 t).mp hf
  blk_simp
  rw [after0_11]
  have ht := t_lt t
  idx_vars y
  have hx : ((View.whole main_v9_1).slice (win0_11.rect t)).emb (ix3 y0 y1 y2) = ix3 y0 y1 y2 := by
    blk_ext [idx t]
  rw [hx]
  refine (last_later m c t (by omega) y0 y1 y2).trans ?_
  unfold held
  have e1 : bufSeq (high y1) = PostSSpec.keptSeq y1 := Fin.ext (by show (128 + y1.val) % 128 = y1.val % 128; omega)
  have e2 : bufRow t (high y1) = PostSSpec.keptRow y1 := Fin.ext (by show t.val + (128 + y1.val) / 128 = 4 + y1.val / 128; omega)
  rw [e1, e2]
  rfl

end Cert.PostSIdeal.Value

end
-- ==== Proof.PostSRefValue.lean ====
/-
  What the plain output projection and feed-forward compute, array by array, at an index.
-/
module

public import proofs.«01_k».proof.Proof.PostSSpec
public import proofs.«01_k».proof.Proof.Gen.PostSRefIdeal.Run
public import Idealize.ShloMosaic.Lib.Pointwise
public import Idealize.ShloMosaic.Lib.IdealHost
public import Idealize.ShloMosaic.Lib.Pipeline.ValueKit

@[expose] public section

set_option maxRecDepth 16384

noncomputable section

namespace Cert.PostSRefIdeal.Value

open Idealize.ShloMosaic Idealize.ShloMosaic.TcCoe Idealize.SL.Sem
open Cert.PostSRefIdeal Cert.PostSRefIdeal.Gen
open Cert.InprojSpec (eps xnorm)

/-- The two mixers' outputs side by side, by sample and time. -/
def both (og od : FVec Ideal S512x512 .bf16) : FVec Ideal S128x4x1024 .f32 :=
  transpose S128x4x1024 [1, 0, 2] (shapeCast S4x128x1024 (concatenate S512x1024 1 [⟨S512x512, extf .f32 og bitsLt_bf16_f32⟩, ⟨S512x512, extf .f32 od bitsLt_bf16_f32⟩]
    concatenates_S512x512_S512x512_S512x1024_d1) shapeCasts_S512x1024_S4x128x1024) transposes_S4x128x1024_S128x4x1024_1_0_2

variable (x : FVec Ideal S128x4x1024 .f32) (og od : FVec Ideal S512x512 .bf16) (h0 : FVec Ideal S128x2x5632 .f32) (wo : FVec Ideal S1024x1024 .f32) (g : FVec Ideal S1024 .f32)
  (wu : FVec Ideal S1024x5632 .f32) (cw : FVec Ideal S3x5632 .f32) (cb : FVec Ideal S5632 .f32) (wd : FVec Ideal S2816x1024 .f32)

/-- The residual stream after the mixers. -/
def stream : FVec Ideal S128x4x1024 .f32 :=
  addf x (Host.dotGeneral dot_S128x4x1024_S1024x1024_S128x4x1024_2_0_01_1_n_n none (both og od) wo)

/-- Every position of a stream over the root of its mean square, times the gain. -/
def normed (h : FVec Ideal S128x4x1024 .f32) : FVec Ideal S128x4x1024 .f32 :=
  mulf (mulf h (broadcastInDim S128x4x1024 ![0, 1, 2] bcast_S128x4x1_S128x4x1024_0_1_2 (Host.rsqrt (addf (Host.divf
    (broadcastInDim S128x4x1 ![0, 1] bcast_S128x4_S128x4x1_0_1 (Host.reduceAdd (mulf h h) (constant S_ .f32 0x00000000#32) reducesTo_S128x4x1024_S128x4_d2 h_S_))
    (broadcastInDim S128x4x1 ![] bcast_S_S128x4x1 (constant S_ .f32 0x44800000#32))) (broadcastInDim S128x4x1 ![] bcast_S_S128x4x1 (constant S_ .f32 0x358637BD#32))))))
    (broadcastInDim S128x4x1024 ![0, 1, 2] bcast_S1x1x1024_S128x4x1024_0_1_2 (broadcastInDim S1x1x1024 ![2] bcast_S1024_S1x1x1024_2 g))

/-- The up-projection of the normalised stream. -/
def ups : FVec Ideal S128x4x5632 .f32 :=
  Host.dotGeneral dot_S128x4x1024_S1024x5632_S128x4x5632_2_0_01_1_n_n none (normed g (stream x og od wo)) wu

/-- The two rows kept of every sample before it. -/
def behind (v : FVec Ideal S128x4x5632 .f32) : FVec Ideal S128x6x5632 .f32 :=
  concatenate S128x6x5632 1 [⟨S128x2x5632, h0⟩, ⟨S128x4x5632, v⟩]
    concatenates_S128x2x5632_S128x4x5632_S128x6x5632_d1

/-- A row of the convolution's weight at every position. -/
def spread (v : FVec Ideal S5632 .f32) : FVec Ideal S128x4x5632 .f32 :=
  broadcastInDim S128x4x5632 ![0, 1, 2] bcast_S1x1x5632_S128x4x5632_0_1_2 (broadcastInDim S1x1x5632 ![2] bcast_S5632_S1x1x5632_2 v)

/-- The convolution of a padded array. -/
def conved (v : FVec Ideal S128x6x5632 .f32) : FVec Ideal S128x4x5632 .f32 :=
  addf (addf (addf (mulf (extractStridedSlice S128x4x5632 ![0, 0, 0] v slices_S128x6x5632_S128x4x5632_0_0_0)
      (spread (shapeCast _ (extractStridedSlice S1x5632 ![0, 0] cw slices_S3x5632_S1x5632_0_0) shapeCasts_S1x5632_S5632)))
    (mulf (extractStridedSlice S128x4x5632 ![0, 1, 0] v slices_S128x6x5632_S128x4x5632_0_1_0)
      (spread (shapeCast _ (extractStridedSlice S1x5632 ![1, 0] cw slices_S3x5632_S1x5632_1_0) shapeCasts_S1x5632_S5632))))
    (mulf (extractStridedSlice S128x4x5632 ![0, 2, 0] v slices_S128x6x5632_S128x4x5632_0_2_0)
      (spread (shapeCast _ (extractStridedSlice S1x5632 ![2, 0] cw slices_S3x5632_S1x5632_2_0) shapeCasts_S1x5632_S5632)))) (spread cb)

/-- The logistic of an array. -/
def sigm (a : FVec Ideal S128x4x2816 .f32) : FVec Ideal S128x4x2816 .f32 :=
  Host.divf (broadcastInDim S128x4x2816 ![] bcast_S_S128x4x2816 (constant S_ .f32 0x3F800000#32))
    (addf (broadcastInDim S128x4x2816 ![] bcast_S_S128x4x2816 (constant S_ .f32 0x3F800000#32)) (Host.exp (Host.negf a)))

/-- The gated lanes of a convolved array. -/
def gate (u : FVec Ideal S128x4x5632 .f32) : FVec Ideal S128x4x2816 .f32 :=
  mulf (mulf (extractStridedSlice S128x4x2816 ![0, 0, 0] u slices_S128x4x5632_S128x4x2816_0_0_0)
    (sigm (extractStridedSlice S128x4x2816 ![0, 0, 0] u slices_S128x4x5632_S128x4x2816_0_0_0)))
    (extractStridedSlice S128x4x2816 ![0, 0, 2816] u slices_S128x4x5632_S128x4x2816_0_0_2816)

/-- The stream after the feed-forward. -/
def after : FVec Ideal S128x4x1024 .f32 :=
  addf (stream x og od wo) (Host.dotGeneral dot_S128x4x2816_S2816x1024_S128x4x1024_2_0_01_1_n_n none
    (gate (conved cw cb (behind h0 (ups x og od wo g wu)))) wd)

theorem both_apply (b : Fin 128) (p : Fin 4) (j : Fin 1024) : both og od (ix3 b p j) = PostSSpec.mix og od (PostSSpec.flat b p) j := by
  unfold both PostSSpec.mix PostSSpec.flat
  pointwise

theorem stream_apply (b : Fin 128) (p : Fin 4) (k : Fin 1024) : stream x og od wo (ix3 b p k) = PostSSpec.res x og od wo b p k := by
  unfold stream PostSSpec.res
  pointwise [both_apply]

theorem normed_apply (h : FVec Ideal S128x4x1024 .f32) (b : Fin 128) (p : Fin 4) (k : Fin 1024) :
    normed g h (ix3 b p k) = xnorm (fun k => h (ix3 b p k)) g k := by
  unfold normed xnorm eps
  pointwise

theorem ups_apply (b : Fin 128) (p : Fin 4) (l : Fin 5632) : ups x og od wo g wu (ix3 b p l) = PostSSpec.up x og od wo g wu b p l := by
  unfold ups PostSSpec.up
  pointwise [normed_apply, stream_apply]

theorem behind_apply (b : Fin 128) (s : Fin 6) (l : Fin 5632) : behind h0 (ups x og od wo g wu) (ix3 b s l) = PostSSpec.padded x og od h0 wo g wu b s l := by
  unfold behind PostSSpec.padded
  pointwise [ups_apply]

theorem conved_apply (b : Fin 128) (p : Fin 4) (l : Fin 5632) :
    conved cw cb (behind h0 (ups x og od wo g wu)) (ix3 b p l) = PostSSpec.conv x og od h0 wo g wu cw cb b p l := by
  unfold conved spread PostSSpec.conv
  pointwise [behind_apply]

theorem sigm_apply (a : FVec Ideal S128x4x2816 .f32) (b : Fin 128) (p : Fin 4) (l : Fin 2816) : sigm a (ix3 b p l) = Ideal.logistic (a (ix3 b p l)) := by
  unfold sigm Ideal.logistic
  pointwise

theorem gate_apply (b : Fin 128) (p : Fin 4) (l : Fin 2816) :
    gate (conved cw cb (behind h0 (ups x og od wo g wu))) (ix3 b p l) = PostSSpec.act x og od h0 wo g wu cw cb b p l := by
  unfold gate PostSSpec.act PostSSpec.gated PostSSpec.gateLane PostSSpec.valueLane
  pointwise [sigm_apply, conved_apply]

theorem after_apply (b : Fin 128) (p : Fin 4) (k : Fin 1024) : after x og od h0 wo g wu cw cb wd (ix3 b p k) = PostSSpec.y x og od h0 wo g wu cw cb wd b p k := by
  unfold after PostSSpec.y
  pointwise [stream_apply, gate_apply]

theorem out_eq : shapeCast S512x1024 (transpose S4x128x1024 [1, 0, 2] (after x og od h0 wo g wu cw cb wd) transposes_S128x4x1024_S4x128x1024_1_0_2) shapeCasts_S4x128x1024_S512x1024 = PostSSpec.out x og od h0 wo g wu cw cb wd := by
  funext i
  idx_vars i
  unfold PostSSpec.out PostSSpec.seqOf PostSSpec.posOf
  pointwise [after_apply]

theorem last_eq : shapeCast S1x256x5632 (transpose S2x128x5632 [1, 0, 2] (extractStridedSlice S128x2x5632 ![0, 4, 0] (behind h0 (ups x og od wo g wu))
    slices_S128x6x5632_S128x2x5632_0_4_0) transposes_S128x2x5632_S2x128x5632_1_0_2) shapeCasts_S2x128x5632_S1x256x5632 = PostSSpec.last x og od h0 wo g wu := by
  funext i
  idx_vars i
  unfold PostSSpec.last PostSSpec.keptSeq PostSSpec.keptRow
  pointwise [behind_apply]

theorem res_v52 (m : (ℓ : Loc nD τ sig) → Buf (Elt Ideal) ℓ) (c : Dev nD) : res_main_v52 m c
    = shapeCast S512x1024 (transpose S4x128x1024 [1, 0, 2] (after (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)))
      transposes_S128x4x1024_S4x128x1024_1_0_2) shapeCasts_S4x128x1024_S512x1024 := rfl

end Cert.PostSRefIdeal.Value

end
-- ==== Proof.PostSClaim.lean ====
/-
  The claim of the output projection and feed-forward of the sample group: the kernel and the plain computation hold the same two arrays.
-/
module

public import proofs.«01_k».proof.Defs
public import proofs.«01_k».proof.Proof.PostSValue
public import proofs.«01_k».proof.Proof.PostSRefValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

set_option maxHeartbeats 8000000 in
/-- The kernel and the plain computation give the same arrays. -/
theorem post_s_eq : Cert.algebraic_PostSIdeal_PostSRefIdeal := by
  pair_intro
  · run_from Cert.PostSIdeal.Value.run_blocks m g
  · run_from Cert.PostSRefIdeal.Value.run m' g'
    all_goals obtain ⟨a0, a1, a2, a3, a4, a5, a6, a7, a8, a9⟩ := hagree c
    · rw [Cert.PostSIdeal.Value.out_final m c]
      refine ((Cert.PostSRefIdeal.Value.res_v52 m' c).trans (Cert.PostSRefIdeal.Value.out_eq _ _ _ _ _ _ _ _ _ _)).trans ?_
      first | rw [a0, a1, a2, a3, a4, a5, a6, a7, a8, a9] | rfl
    · rw [Cert.PostSIdeal.Value.last_final m c]
      refine (Cert.PostSRefIdeal.Value.last_eq _ _ _ _ _ _ _).trans ?_
      rw [a4, a5, a6]

end Cert.Proof

end
-- ==== Proof.GdnSSpec.lean ====
/-
  The delta-rule state of one sample and head: the products of the chunk's rows with the old state, and the new state.
-/
module

public import proofs.«01_k».proof.Defs
public import Idealize.ShloMosaic.Lib.Claim
public import Idealize.ShloMosaic.Lib.Pipeline.ValueKit

@[expose] public section

noncomputable section

namespace Cert.GdnSSpec

open Idealize.ShloMosaic Idealize.ShloMosaic.TcCoe Idealize.SL.Sem

/-- Row `i` of the chunk's array against the old state. -/
def prodAt (R : Fin 24 → Fin 128 → EReal) (S : Fin 128 → Fin 128 → EReal) (i : Fin 24) (v : Fin 128) : EReal := ∑ j : Fin 128, R i j * S j v

/-- What token `i` of the chunk writes: its row of values less what the old state already answers. -/
def writeAt (R : Fin 24 → Fin 128 → EReal) (S : Fin 128 → Fin 128 → EReal) (i : Fin 4) (v : Fin 128) : EReal :=
  R (⟨8 + i.val, by omega⟩ : Fin 24) v - prodAt R S (⟨i.val, by omega⟩ : Fin 24) v

/-- The new state: the old one decayed, and each token's key times what it writes. -/
def stateAt (R : Fin 24 → Fin 128 → EReal) (S : Fin 128 → Fin 128 → EReal) (k v : Fin 128) : EReal :=
  S k v * R 16 v + ∑ i : Fin 4, R (⟨12 + i.val, by omega⟩ : Fin 24) k * writeAt R S i v

/-- The products of the first eight rows, all samples and heads. -/
def prod (r : FVec Ideal ⟨4, ![128, 4, 24, 128]⟩ .f32) (s : FVec Ideal ⟨4, ![128, 4, 128, 128]⟩ .f32) : FVec Ideal ⟨4, ![128, 4, 8, 128]⟩ .f32 :=
  fun i => prodAt (fun a j => r (ix4 (i 0) (i 1) a j)) (fun j v => s (ix4 (i 0) (i 1) j v)) (⟨(i 2).val, Nat.lt_of_lt_of_le (i 2).isLt (by decide)⟩ : Fin 24) (i 3)

/-- The new states, all samples and heads. -/
def state (r : FVec Ideal ⟨4, ![128, 4, 24, 128]⟩ .f32) (s : FVec Ideal ⟨4, ![128, 4, 128, 128]⟩ .f32) : FVec Ideal ⟨4, ![128, 4, 128, 128]⟩ .f32 :=
  fun i => stateAt (fun a j => r (ix4 (i 0) (i 1) a j)) (fun j v => s (ix4 (i 0) (i 1) j v)) (i 2) (i 3)

end Cert.GdnSSpec

end
-- ==== Proof.GdnSStep.lean ====
/-
  The state kernel's payloads of one sample and head at an index.
-/
module

public import proofs.«01_k».proof.Proof.GdnSSpec
public import proofs.«01_k».proof.Proof.Gen.GdnSIdeal.Value
public import Idealize.ShloMosaic.Lib.Pipeline.ValueKit
public import Idealize.ShloMosaic.Lib.Claim
public import Idealize.ShloMosaic.Lib.Pointwise
public import Idealize.ShloMosaic.Lib.IdealHost
public import Idealize.ShloMosaic.Lib.WordCmp

@[expose] public section

set_option maxRecDepth 16384

noncomputable section

namespace Cert.GdnSIdeal.Value

open Idealize.ShloMosaic Idealize.ShloMosaic.TcCoe Idealize.SL.Sem
open Idealize.ShloMosaic.Pipeline (Dat)
open Cert.GdnSIdeal Cert.GdnSIdeal.Gen Cert.GdnSSpec

theorem pay5_apply (r : Vec Ideal S1x1x24x128 .f32) (s : Vec Ideal S1x1x128x128 .f32) (i : Fin 8) (v : Fin 128) :
    k0_pay5 r s (ix2 i v) = prodAt (fun a j => r (ix4 0 0 a j)) (fun j v => s (ix4 0 0 j v)) (⟨i.val, by omega⟩ : Fin 24) v := by
  unfold k0_pay5 prodAt k0_pay3 k0_pay4
  pointwise

theorem pay6_apply (r : Vec Ideal S1x1x24x128 .f32) (s : Vec Ideal S1x1x128x128 .f32) (y z : Fin 1) (i : Fin 8) (v : Fin 128) :
    k0_pay6 r s (ix4 y z i v) = prodAt (fun a j => r (ix4 0 0 a j)) (fun j v => s (ix4 0 0 j v)) (⟨i.val, by omega⟩ : Fin 24) v := by
  unfold k0_pay6
  pointwise [pay5_apply]

/-- The comparison of a row's number with four. -/
theorem row_select (x : Fin 8) (a b : EReal) :
    Scalar.select (α := EReal) (IntOp.cmpi CmpIPredicate.slt (BitVec.ofNat 32 x.val) 4#32) a b = if x.val < 4 then a else b := by
  fin_cases x <;> rfl

theorem pay7_apply (r : Vec Ideal S1x1x24x128 .f32) (s : Vec Ideal S1x1x128x128 .f32) (y z : Fin 1) (k v : Fin 128) :
    k0_pay7 r s (ix4 y z k v) = stateAt (fun a j => r (ix4 0 0 a j)) (fun j v => s (ix4 0 0 j v)) k v := by
  unfold k0_pay7 k0_pay3 k0_pay4
  pointwise [pay5_apply]
  simp only [row_select]
  rw [Fin.sum_univ_eight]
  unfold stateAt writeAt
  rw [Fin.sum_univ_four]
  simp only [Fin.val_zero, Fin.val_one, Fin.val_two]
  norm_num

end Cert.GdnSIdeal.Value

end
-- ==== Proof.GdnSValue.lean ====
/-
  The state kernel's results as functions of the arguments: a grid point holds eight samples, their heads one store each.
-/
module

public import proofs.«01_k».proof.Proof.GdnSStep

@[expose] public section

set_option maxRecDepth 16384

noncomputable section

namespace Cert.GdnSIdeal.Value

open Idealize.ShloMosaic Idealize.ShloMosaic.TcCoe Idealize.SL.Sem
open Idealize.ShloMosaic.Pipeline (Dat)
open Cert.GdnSIdeal Cert.GdnSIdeal.Gen Cert.GdnSSpec

/-- The products of a block of eight samples. -/
def blkProd (r : Vec Ideal S8x4x24x128 .f32) (s : Vec Ideal S8x4x128x128 .f32) : Vec Ideal S8x4x8x128 .f32 :=
  fun i => prodAt (fun a j => r (ix4 (i 0) (i 1) a j)) (fun j v => s (ix4 (i 0) (i 1) j v)) (⟨(i 2).val, Nat.lt_of_lt_of_le (i 2).isLt (by decide)⟩ : Fin 24) (i 3)

/-- The new states of a block of eight samples. -/
def blkState (r : Vec Ideal S8x4x24x128 .f32) (s : Vec Ideal S8x4x128x128 .f32) : Vec Ideal S8x4x128x128 .f32 :=
  fun i => stateAt (fun a j => r (ix4 (i 0) (i 1) a j)) (fun j v => s (ix4 (i 0) (i 1) j v)) (i 2) (i 3)

theorem emb24 (b h : ℕ) (hb : b < 8) (hh : h < 4) (i : ∀ a, (![b, h, 0, 0] : Fin 4 → ℕ) a + S1x1x24x128.size a ≤ S8x4x24x128.size a) (y z : Fin 1) (a : Fin 24) (j : Fin 128) :
    (Rect.unit (s := S8x4x24x128) ![b, h, 0, 0] S1x1x24x128.size i).emb (ix4 y z a j) = ix4 (⟨b, hb⟩ : Fin 8) (⟨h, hh⟩ : Fin 4) a j := by
  funext d
  fin_cases d
  · exact Fin.ext (by show b + 1 * y.val = b; omega)
  · exact Fin.ext (by show h + 1 * z.val = h; omega)
  · exact Fin.ext (by show 0 + 1 * a.val = a.val; omega)
  · exact Fin.ext (by show 0 + 1 * j.val = j.val; omega)

theorem emb128 (b h : ℕ) (hb : b < 8) (hh : h < 4) (i : ∀ a, (![b, h, 0, 0] : Fin 4 → ℕ) a + S1x1x128x128.size a ≤ S8x4x128x128.size a) (y z : Fin 1) (a : Fin 128) (j : Fin 128) :
    (Rect.unit (s := S8x4x128x128) ![b, h, 0, 0] S1x1x128x128.size i).emb (ix4 y z a j) = ix4 (⟨b, hb⟩ : Fin 8) (⟨h, hh⟩ : Fin 4) a j := by
  funext d
  fin_cases d
  · exact Fin.ext (by show b + 1 * y.val = b; omega)
  · exact Fin.ext (by show h + 1 * z.val = h; omega)
  · exact Fin.ext (by show 0 + 1 * a.val = a.val; omega)
  · exact Fin.ext (by show 0 + 1 * j.val = j.val; omega)

theorem emb8 (b h : ℕ) (hb : b < 8) (hh : h < 4) (i : ∀ a, (![b, h, 0, 0] : Fin 4 → ℕ) a + S1x1x8x128.size a ≤ S8x4x8x128.size a) (y z : Fin 1) (a : Fin 8) (j : Fin 128) :
    (Rect.unit (s := S8x4x8x128) ![b, h, 0, 0] S1x1x8x128.size i).emb (ix4 y z a j) = ix4 (⟨b, hb⟩ : Fin 8) (⟨h, hh⟩ : Fin 4) a j := by
  funext d
  fin_cases d
  · exact Fin.ext (by show b + 1 * y.val = b; omega)
  · exact Fin.ext (by show h + 1 * z.val = h; omega)
  · exact Fin.ext (by show 0 + 1 * a.val = a.val; omega)
  · exact Fin.ext (by show 0 + 1 * j.val = j.val; omega)

theorem prod_piece (r : Vec Ideal S8x4x24x128 .f32) (s : Vec Ideal S8x4x128x128 .f32) (b h : ℕ) (hb : b < 8) (hh : h < 4)
    (i0 : ∀ a, (![b, h, 0, 0] : Fin 4 → ℕ) a + S1x1x24x128.size a ≤ S8x4x24x128.size a)
    (i1 : ∀ a, (![b, h, 0, 0] : Fin 4 → ℕ) a + S1x1x128x128.size a ≤ S8x4x128x128.size a)
    (i2 : ∀ a, (![b, h, 0, 0] : Fin 4 → ℕ) a + S1x1x8x128.size a ≤ S8x4x8x128.size a) (x : S1x1x8x128.Idx) :
    k0_pay6 (View.ld r (Rect.unit (s := S8x4x24x128) ![b, h, 0, 0] S1x1x24x128.size i0)) (View.ld s (Rect.unit (s := S8x4x128x128) ![b, h, 0, 0] S1x1x128x128.size i1)) x
      = blkProd r s ((Rect.unit (s := S8x4x8x128) ![b, h, 0, 0] S1x1x8x128.size i2).emb x) := by
  idx_vars x
  rw [emb8 b h hb hh i2 x0 x1 x2 x3, pay6_apply]
  have e0 : (fun a j => View.ld r (Rect.unit (s := S8x4x24x128) ![b, h, 0, 0] S1x1x24x128.size i0) (ix4 0 0 a j)) = fun a j => r (ix4 (⟨b, hb⟩ : Fin 8) (⟨h, hh⟩ : Fin 4) a j) :=
    funext fun a => funext fun j => congrArg r (emb24 b h hb hh i0 0 0 a j)
  have e1 : (fun a j => View.ld s (Rect.unit (s := S8x4x128x128) ![b, h, 0, 0] S1x1x128x128.size i1) (ix4 0 0 a j)) = fun a j => s (ix4 (⟨b, hb⟩ : Fin 8) (⟨h, hh⟩ : Fin 4) a j) :=
    funext fun a => funext fun j => congrArg s (emb128 b h hb hh i1 0 0 a j)
  rw [e0, e1]
  rfl

theorem state_piece (r : Vec Ideal S8x4x24x128 .f32) (s : Vec Ideal S8x4x128x128 .f32) (b h : ℕ) (hb : b < 8) (hh : h < 4)
    (i0 : ∀ a, (![b, h, 0, 0] : Fin 4 → ℕ) a + S1x1x24x128.size a ≤ S8x4x24x128.size a)
    (i1 : ∀ a, (![b, h, 0, 0] : Fin 4 → ℕ) a + S1x1x128x128.size a ≤ S8x4x128x128.size a)
    (i2 : ∀ a, (![b, h, 0, 0] : Fin 4 → ℕ) a + S1x1x128x128.size a ≤ S8x4x128x128.size a) (x : S1x1x128x128.Idx) :
    k0_pay7 (View.ld r (Rect.unit (s := S8x4x24x128) ![b, h, 0, 0] S1x1x24x128.size i0)) (View.ld s (Rect.unit (s := S8x4x128x128) ![b, h, 0, 0] S1x1x128x128.size i1)) x
      = blkState r s ((Rect.unit (s := S8x4x128x128) ![b, h, 0, 0] S1x1x128x128.size i2).emb x) := by
  idx_vars x
  rw [emb128 b h hb hh i2 x0 x1 x2 x3, pay7_apply]
  have e0 : (fun a j => View.ld r (Rect.unit (s := S8x4x24x128) ![b, h, 0, 0] S1x1x24x128.size i0) (ix4 0 0 a j)) = fun a j => r (ix4 (⟨b, hb⟩ : Fin 8) (⟨h, hh⟩ : Fin 4) a j) :=
    funext fun a => funext fun j => congrArg r (emb24 b h hb hh i0 0 0 a j)
  have e1 : (fun a j => View.ld s (Rect.unit (s := S8x4x128x128) ![b, h, 0, 0] S1x1x128x128.size i1) (ix4 0 0 a j)) = fun a j => s (ix4 (⟨b, hb⟩ : Fin 8) (⟨h, hh⟩ : Fin 4) a j) :=
    funext fun a => funext fun j => congrArg s (emb128 b h hb hh i1 0 0 a j)
  rw [e0, e1]
  rfl

/-- What a grid point leaves in its products. -/
theorem out_prod (r : Vec Ideal S8x4x24x128 .f32) (s : Vec Ideal S8x4x128x128 .f32) : out0_2 r s = blkProd r s := by
  funext y
  unfold out0_2
  refine View.canon_apply_of_pieces (blkProd r s) _ ?_ y (cover0_2 _ _ _ _ _ _ _ _ _ _ _ _ _ _ _ _ _ _ _ _ _ _ _ _ _ _ _ _ _ _ _ _ y)
  refine List.forall_mem_cons.mpr ⟨fun x => prod_piece r s 7 3 (by decide) (by decide) inb_S8x4x24x128_S1x1x24x128_7_3_0_0 inb_S8x4x128x128_S1x1x128x128_7_3_0_0 inb_S8x4x8x128_S1x1x8x128_7_3_0_0 x, ?_⟩
  refine List.forall_mem_cons.mpr ⟨fun x => prod_piece r s 7 2 (by decide) (by decide) inb_S8x4x24x128_S1x1x24x128_7_2_0_0 inb_S8x4x128x128_S1x1x128x128_7_2_0_0 inb_S8x4x8x128_S1x1x8x128_7_2_0_0 x, ?_⟩
  refine List.forall_mem_cons.mpr ⟨fun x => prod_piece r s 7 1 (by decide) (by decide) inb_S8x4x24x128_S1x1x24x128_7_1_0_0 inb_S8x4x128x128_S1x1x128x128_7_1_0_0 inb_S8x4x8x128_S1x1x8x128_7_1_0_0 x, ?_⟩
  refine List.forall_mem_cons.mpr ⟨fun x => prod_piece r s 7 0 (by decide) (by decide) inb_S8x4x24x128_S1x1x24x128_7_0_0_0 inb_S8x4x128x128_S1x1x128x128_7_0_0_0 inb_S8x4x8x128_S1x1x8x128_7_0_0_0 x, ?_⟩
  refine List.forall_mem_cons.mpr ⟨fun x => prod_piece r s 6 3 (by decide) (by decide) inb_S8x4x24x128_S1x1x24x128_6_3_0_0 inb_S8x4x128x128_S1x1x128x128_6_3_0_0 inb_S8x4x8x128_S1x1x8x128_6_3_0_0 x, ?_⟩
  refine List.forall_mem_cons.mpr ⟨fun x => prod_piece r s 6 2 (by decide) (by decide) inb_S8x4x24x128_S1x1x24x128_6_2_0_0 inb_S8x4x128x128_S1x1x128x128_6_2_0_0 inb_S8x4x8x128_S1x1x8x128_6_2_0_0 x, ?_⟩
  refine List.forall_mem_cons.mpr ⟨fun x => prod_piece r s 6 1 (by decide) (by decide) inb_S8x4x24x128_S1x1x24x128_6_1_0_0 inb_S8x4x128x128_S1x1x128x128_6_1_0_0 inb_S8x4x8x128_S1x1x8x128_6_1_0_0 x, ?_⟩
  refine List.forall_mem_cons.mpr ⟨fun x => prod_piece r s 6 0 (by decide) (by decide) inb_S8x4x24x128_S1x1x24x128_6_0_0_0 inb_S8x4x128x128_S1x1x128x128_6_0_0_0 inb_S8x4x8x128_S1x1x8x128_6_0_0_0 x, ?_⟩
  refine List.forall_mem_cons.mpr ⟨fun x => prod_piece r s 5 3 (by decide) (by decide) inb_S8x4x24x128_S1x1x24x128_5_3_0_0 inb_S8x4x128x128_S1x1x128x128_5_3_0_0 inb_S8x4x8x128_S1x1x8x128_5_3_0_0 x, ?_⟩
  refine List.forall_mem_cons.mpr ⟨fun x => prod_piece r s 5 2 (by decide) (by decide) inb_S8x4x24x128_S1x1x24x128_5_2_0_0 inb_S8x4x128x128_S1x1x128x128_5_2_0_0 inb_S8x4x8x128_S1x1x8x128_5_2_0_0 x, ?_⟩
  refine List.forall_mem_cons.mpr ⟨fun x => prod_piece r s 5 1 (by decide) (by decide) inb_S8x4x24x128_S1x1x24x128_5_1_0_0 inb_S8x4x128x128_S1x1x128x128_5_1_0_0 inb_S8x4x8x128_S1x1x8x128_5_1_0_0 x, ?_⟩
  refine List.forall_mem_cons.mpr ⟨fun x => prod_piece r s 5 0 (by decide) (by decide) inb_S8x4x24x128_S1x1x24x128_5_0_0_0 inb_S8x4x128x128_S1x1x128x128_5_0_0_0 inb_S8x4x8x128_S1x1x8x128_5_0_0_0 x, ?_⟩
  refine List.forall_mem_cons.mpr ⟨fun x => prod_piece r s 4 3 (by decide) (by decide) inb_S8x4x24x128_S1x1x24x128_4_3_0_0 inb_S8x4x128x128_S1x1x128x128_4_3_0_0 inb_S8x4x8x128_S1x1x8x128_4_3_0_0 x, ?_⟩
  refine List.forall_mem_cons.mpr ⟨fun x => prod_piece r s 4 2 (by decide) (by decide) inb_S8x4x24x128_S1x1x24x128_4_2_0_0 inb_S8x4x128x128_S1x1x128x128_4_2_0_0 inb_S8x4x8x128_S1x1x8x128_4_2_0_0 x, ?_⟩
  refine List.forall_mem_cons.mpr ⟨fun x => prod_piece r s 4 1 (by decide) (by decide) inb_S8x4x24x128_S1x1x24x128_4_1_0_0 inb_S8x4x128x128_S1x1x128x128_4_1_0_0 inb_S8x4x8x128_S1x1x8x128_4_1_0_0 x, ?_⟩
  refine List.forall_mem_cons.mpr ⟨fun x => prod_piece r s 4 0 (by decide) (by decide) inb_S8x4x24x128_S1x1x24x128_4_0_0_0 inb_S8x4x128x128_S1x1x128x128_4_0_0_0 inb_S8x4x8x128_S1x1x8x128_4_0_0_0 x, ?_⟩
  refine List.forall_mem_cons.mpr ⟨fun x => prod_piece r s 3 3 (by decide) (by decide) inb_S8x4x24x128_S1x1x24x128_3_3_0_0 inb_S8x4x128x128_S1x1x128x128_3_3_0_0 inb_S8x4x8x128_S1x1x8x128_3_3_0_0 x, ?_⟩
  refine List.forall_mem_cons.mpr ⟨fun x => prod_piece r s 3 2 (by decide) (by decide) inb_S8x4x24x128_S1x1x24x128_3_2_0_0 inb_S8x4x128x128_S1x1x128x128_3_2_0_0 inb_S8x4x8x128_S1x1x8x128_3_2_0_0 x, ?_⟩
  refine List.forall_mem_cons.mpr ⟨fun x => prod_piece r s 3 1 (by decide) (by decide) inb_S8x4x24x128_S1x1x24x128_3_1_0_0 inb_S8x4x128x128_S1x1x128x128_3_1_0_0 inb_S8x4x8x128_S1x1x8x128_3_1_0_0 x, ?_⟩
  refine List.forall_mem_cons.mpr ⟨fun x => prod_piece r s 3 0 (by decide) (by decide) inb_S8x4x24x128_S1x1x24x128_3_0_0_0 inb_S8x4x128x128_S1x1x128x128_3_0_0_0 inb_S8x4x8x128_S1x1x8x128_3_0_0_0 x, ?_⟩
  refine List.forall_mem_cons.mpr ⟨fun x => prod_piece r s 2 3 (by decide) (by decide) inb_S8x4x24x128_S1x1x24x128_2_3_0_0 inb_S8x4x128x128_S1x1x128x128_2_3_0_0 inb_S8x4x8x128_S1x1x8x128_2_3_0_0 x, ?_⟩
  refine List.forall_mem_cons.mpr ⟨fun x => prod_piece r s 2 2 (by decide) (by decide) inb_S8x4x24x128_S1x1x24x128_2_2_0_0 inb_S8x4x128x128_S1x1x128x128_2_2_0_0 inb_S8x4x8x128_S1x1x8x128_2_2_0_0 x, ?_⟩
  refine List.forall_mem_cons.mpr ⟨fun x => prod_piece r s 2 1 (by decide) (by decide) inb_S8x4x24x128_S1x1x24x128_2_1_0_0 inb_S8x4x128x128_S1x1x128x128_2_1_0_0 inb_S8x4x8x128_S1x1x8x128_2_1_0_0 x, ?_⟩
  refine List.forall_mem_cons.mpr ⟨fun x => prod_piece r s 2 0 (by decide) (by decide) inb_S8x4x24x128_S1x1x24x128_2_0_0_0 inb_S8x4x128x128_S1x1x128x128_2_0_0_0 inb_S8x4x8x128_S1x1x8x128_2_0_0_0 x, ?_⟩
  refine List.forall_mem_cons.mpr ⟨fun x => prod_piece r s 1 3 (by decide) (by decide) inb_S8x4x24x128_S1x1x24x128_1_3_0_0 inb_S8x4x128x128_S1x1x128x128_1_3_0_0 inb_S8x4x8x128_S1x1x8x128_1_3_0_0 x, ?_⟩
  refine List.forall_mem_cons.mpr ⟨fun x => prod_piece r s 1 2 (by decide) (by decide) inb_S8x4x24x128_S1x1x24x128_1_2_0_0 inb_S8x4x128x128_S1x1x128x128_1_2_0_0 inb_S8x4x8x128_S1x1x8x128_1_2_0_0 x, ?_⟩
  refine List.forall_mem_cons.mpr ⟨fun x => prod_piece r s 1 1 (by decide) (by decide) inb_S8x4x24x128_S1x1x24x128_1_1_0_0 inb_S8x4x128x128_S1x1x128x128_1_1_0_0 inb_S8x4x8x128_S1x1x8x128_1_1_0_0 x, ?_⟩
  refine List.forall_mem_cons.mpr ⟨fun x => prod_piece r s 1 0 (by decide) (by decide) inb_S8x4x24x128_S1x1x24x128_1_0_0_0 inb_S8x4x128x128_S1x1x128x128_1_0_0_0 inb_S8x4x8x128_S1x1x8x128_1_0_0_0 x, ?_⟩
  refine List.forall_mem_cons.mpr ⟨fun x => prod_piece r s 0 3 (by decide) (by decide) inb_S8x4x24x128_S1x1x24x128_0_3_0_0 inb_S8x4x128x128_S1x1x128x128_0_3_0_0 inb_S8x4x8x128_S1x1x8x128_0_3_0_0 x, ?_⟩
  refine List.forall_mem_cons.mpr ⟨fun x => prod_piece r s 0 2 (by decide) (by decide) inb_S8x4x24x128_S1x1x24x128_0_2_0_0 inb_S8x4x128x128_S1x1x128x128_0_2_0_0 inb_S8x4x8x128_S1x1x8x128_0_2_0_0 x, ?_⟩
  refine List.forall_mem_cons.mpr ⟨fun x => prod_piece r s 0 1 (by decide) (by decide) inb_S8x4x24x128_S1x1x24x128_0_1_0_0 inb_S8x4x128x128_S1x1x128x128_0_1_0_0 inb_S8x4x8x128_S1x1x8x128_0_1_0_0 x, ?_⟩
  refine List.forall_mem_cons.mpr ⟨fun x => prod_piece r s 0 0 (by decide) (by decide) inb_S8x4x24x128_S1x1x24x128_0_0_0_0 inb_S8x4x128x128_S1x1x128x128_0_0_0_0 inb_S8x4x8x128_S1x1x8x128_0_0_0_0 x, ?_⟩
  exact fun p hp => absurd hp List.not_mem_nil

/-- What a grid point leaves in its states. -/
theorem out_state (r : Vec Ideal S8x4x24x128 .f32) (s : Vec Ideal S8x4x128x128 .f32) : out0_3 r s = blkState r s := by
  funext y
  unfold out0_3
  refine View.canon_apply_of_pieces (blkState r s) _ ?_ y (cover0_3 _ _ _ _ _ _ _ _ _ _ _ _ _ _ _ _ _ _ _ _ _ _ _ _ _ _ _ _ _ _ _ _ y)
  refine List.forall_mem_cons.mpr ⟨fun x => state_piece r s 7 3 (by decide) (by decide) inb_S8x4x24x128_S1x1x24x128_7_3_0_0 inb_S8x4x128x128_S1x1x128x128_7_3_0_0 inb_S8x4x128x128_S1x1x128x128_7_3_0_0 x, ?_⟩
  refine List.forall_mem_cons.mpr ⟨fun x => state_piece r s 7 2 (by decide) (by decide) inb_S8x4x24x128_S1x1x24x128_7_2_0_0 inb_S8x4x128x128_S1x1x128x128_7_2_0_0 inb_S8x4x128x128_S1x1x128x128_7_2_0_0 x, ?_⟩
  refine List.forall_mem_cons.mpr ⟨fun x => state_piece r s 7 1 (by decide) (by decide) inb_S8x4x24x128_S1x1x24x128_7_1_0_0 inb_S8x4x128x128_S1x1x128x128_7_1_0_0 inb_S8x4x128x128_S1x1x128x128_7_1_0_0 x, ?_⟩
  refine List.forall_mem_cons.mpr ⟨fun x => state_piece r s 7 0 (by decide) (by decide) inb_S8x4x24x128_S1x1x24x128_7_0_0_0 inb_S8x4x128x128_S1x1x128x128_7_0_0_0 inb_S8x4x128x128_S1x1x128x128_7_0_0_0 x, ?_⟩
  refine List.forall_mem_cons.mpr ⟨fun x => state_piece r s 6 3 (by decide) (by decide) inb_S8x4x24x128_S1x1x24x128_6_3_0_0 inb_S8x4x128x128_S1x1x128x128_6_3_0_0 inb_S8x4x128x128_S1x1x128x128_6_3_0_0 x, ?_⟩
  refine List.forall_mem_cons.mpr ⟨fun x => state_piece r s 6 2 (by decide) (by decide) inb_S8x4x24x128_S1x1x24x128_6_2_0_0 inb_S8x4x128x128_S1x1x128x128_6_2_0_0 inb_S8x4x128x128_S1x1x128x128_6_2_0_0 x, ?_⟩
  refine List.forall_mem_cons.mpr ⟨fun x => state_piece r s 6 1 (by decide) (by decide) inb_S8x4x24x128_S1x1x24x128_6_1_0_0 inb_S8x4x128x128_S1x1x128x128_6_1_0_0 inb_S8x4x128x128_S1x1x128x128_6_1_0_0 x, ?_⟩
  refine List.forall_mem_cons.mpr ⟨fun x => state_piece r s 6 0 (by decide) (by decide) inb_S8x4x24x128_S1x1x24x128_6_0_0_0 inb_S8x4x128x128_S1x1x128x128_6_0_0_0 inb_S8x4x128x128_S1x1x128x128_6_0_0_0 x, ?_⟩
  refine List.forall_mem_cons.mpr ⟨fun x => state_piece r s 5 3 (by decide) (by decide) inb_S8x4x24x128_S1x1x24x128_5_3_0_0 inb_S8x4x128x128_S1x1x128x128_5_3_0_0 inb_S8x4x128x128_S1x1x128x128_5_3_0_0 x, ?_⟩
  refine List.forall_mem_cons.mpr ⟨fun x => state_piece r s 5 2 (by decide) (by decide) inb_S8x4x24x128_S1x1x24x128_5_2_0_0 inb_S8x4x128x128_S1x1x128x128_5_2_0_0 inb_S8x4x128x128_S1x1x128x128_5_2_0_0 x, ?_⟩
  refine List.forall_mem_cons.mpr ⟨fun x => state_piece r s 5 1 (by decide) (by decide) inb_S8x4x24x128_S1x1x24x128_5_1_0_0 inb_S8x4x128x128_S1x1x128x128_5_1_0_0 inb_S8x4x128x128_S1x1x128x128_5_1_0_0 x, ?_⟩
  refine List.forall_mem_cons.mpr ⟨fun x => state_piece r s 5 0 (by decide) (by decide) inb_S8x4x24x128_S1x1x24x128_5_0_0_0 inb_S8x4x128x128_S1x1x128x128_5_0_0_0 inb_S8x4x128x128_S1x1x128x128_5_0_0_0 x, ?_⟩
  refine List.forall_mem_cons.mpr ⟨fun x => state_piece r s 4 3 (by decide) (by decide) inb_S8x4x24x128_S1x1x24x128_4_3_0_0 inb_S8x4x128x128_S1x1x128x128_4_3_0_0 inb_S8x4x128x128_S1x1x128x128_4_3_0_0 x, ?_⟩
  refine List.forall_mem_cons.mpr ⟨fun x => state_piece r s 4 2 (by decide) (by decide) inb_S8x4x24x128_S1x1x24x128_4_2_0_0 inb_S8x4x128x128_S1x1x128x128_4_2_0_0 inb_S8x4x128x128_S1x1x128x128_4_2_0_0 x, ?_⟩
  refine List.forall_mem_cons.mpr ⟨fun x => state_piece r s 4 1 (by decide) (by decide) inb_S8x4x24x128_S1x1x24x128_4_1_0_0 inb_S8x4x128x128_S1x1x128x128_4_1_0_0 inb_S8x4x128x128_S1x1x128x128_4_1_0_0 x, ?_⟩
  refine List.forall_mem_cons.mpr ⟨fun x => state_piece r s 4 0 (by decide) (by decide) inb_S8x4x24x128_S1x1x24x128_4_0_0_0 inb_S8x4x128x128_S1x1x128x128_4_0_0_0 inb_S8x4x128x128_S1x1x128x128_4_0_0_0 x, ?_⟩
  refine List.forall_mem_cons.mpr ⟨fun x => state_piece r s 3 3 (by decide) (by decide) inb_S8x4x24x128_S1x1x24x128_3_3_0_0 inb_S8x4x128x128_S1x1x128x128_3_3_0_0 inb_S8x4x128x128_S1x1x128x128_3_3_0_0 x, ?_⟩
  refine List.forall_mem_cons.mpr ⟨fun x => state_piece r s 3 2 (by decide) (by decide) inb_S8x4x24x128_S1x1x24x128_3_2_0_0 inb_S8x4x128x128_S1x1x128x128_3_2_0_0 inb_S8x4x128x128_S1x1x128x128_3_2_0_0 x, ?_⟩
  refine List.forall_mem_cons.mpr ⟨fun x => state_piece r s 3 1 (by decide) (by decide) inb_S8x4x24x128_S1x1x24x128_3_1_0_0 inb_S8x4x128x128_S1x1x128x128_3_1_0_0 inb_S8x4x128x128_S1x1x128x128_3_1_0_0 x, ?_⟩
  refine List.forall_mem_cons.mpr ⟨fun x => state_piece r s 3 0 (by decide) (by decide) inb_S8x4x24x128_S1x1x24x128_3_0_0_0 inb_S8x4x128x128_S1x1x128x128_3_0_0_0 inb_S8x4x128x128_S1x1x128x128_3_0_0_0 x, ?_⟩
  refine List.forall_mem_cons.mpr ⟨fun x => state_piece r s 2 3 (by decide) (by decide) inb_S8x4x24x128_S1x1x24x128_2_3_0_0 inb_S8x4x128x128_S1x1x128x128_2_3_0_0 inb_S8x4x128x128_S1x1x128x128_2_3_0_0 x, ?_⟩
  refine List.forall_mem_cons.mpr ⟨fun x => state_piece r s 2 2 (by decide) (by decide) inb_S8x4x24x128_S1x1x24x128_2_2_0_0 inb_S8x4x128x128_S1x1x128x128_2_2_0_0 inb_S8x4x128x128_S1x1x128x128_2_2_0_0 x, ?_⟩
  refine List.forall_mem_cons.mpr ⟨fun x => state_piece r s 2 1 (by decide) (by decide) inb_S8x4x24x128_S1x1x24x128_2_1_0_0 inb_S8x4x128x128_S1x1x128x128_2_1_0_0 inb_S8x4x128x128_S1x1x128x128_2_1_0_0 x, ?_⟩
  refine List.forall_mem_cons.mpr ⟨fun x => state_piece r s 2 0 (by decide) (by decide) inb_S8x4x24x128_S1x1x24x128_2_0_0_0 inb_S8x4x128x128_S1x1x128x128_2_0_0_0 inb_S8x4x128x128_S1x1x128x128_2_0_0_0 x, ?_⟩
  refine List.forall_mem_cons.mpr ⟨fun x => state_piece r s 1 3 (by decide) (by decide) inb_S8x4x24x128_S1x1x24x128_1_3_0_0 inb_S8x4x128x128_S1x1x128x128_1_3_0_0 inb_S8x4x128x128_S1x1x128x128_1_3_0_0 x, ?_⟩
  refine List.forall_mem_cons.mpr ⟨fun x => state_piece r s 1 2 (by decide) (by decide) inb_S8x4x24x128_S1x1x24x128_1_2_0_0 inb_S8x4x128x128_S1x1x128x128_1_2_0_0 inb_S8x4x128x128_S1x1x128x128_1_2_0_0 x, ?_⟩
  refine List.forall_mem_cons.mpr ⟨fun x => state_piece r s 1 1 (by decide) (by decide) inb_S8x4x24x128_S1x1x24x128_1_1_0_0 inb_S8x4x128x128_S1x1x128x128_1_1_0_0 inb_S8x4x128x128_S1x1x128x128_1_1_0_0 x, ?_⟩
  refine List.forall_mem_cons.mpr ⟨fun x => state_piece r s 1 0 (by decide) (by decide) inb_S8x4x24x128_S1x1x24x128_1_0_0_0 inb_S8x4x128x128_S1x1x128x128_1_0_0_0 inb_S8x4x128x128_S1x1x128x128_1_0_0_0 x, ?_⟩
  refine List.forall_mem_cons.mpr ⟨fun x => state_piece r s 0 3 (by decide) (by decide) inb_S8x4x24x128_S1x1x24x128_0_3_0_0 inb_S8x4x128x128_S1x1x128x128_0_3_0_0 inb_S8x4x128x128_S1x1x128x128_0_3_0_0 x, ?_⟩
  refine List.forall_mem_cons.mpr ⟨fun x => state_piece r s 0 2 (by decide) (by decide) inb_S8x4x24x128_S1x1x24x128_0_2_0_0 inb_S8x4x128x128_S1x1x128x128_0_2_0_0 inb_S8x4x128x128_S1x1x128x128_0_2_0_0 x, ?_⟩
  refine List.forall_mem_cons.mpr ⟨fun x => state_piece r s 0 1 (by decide) (by decide) inb_S8x4x24x128_S1x1x24x128_0_1_0_0 inb_S8x4x128x128_S1x1x128x128_0_1_0_0 inb_S8x4x128x128_S1x1x128x128_0_1_0_0 x, ?_⟩
  refine List.forall_mem_cons.mpr ⟨fun x => state_piece r s 0 0 (by decide) (by decide) inb_S8x4x24x128_S1x1x24x128_0_0_0_0 inb_S8x4x128x128_S1x1x128x128_0_0_0_0 inb_S8x4x128x128_S1x1x128x128_0_0_0_0 x, ?_⟩
  exact fun p hp => absurd hp List.not_mem_nil

variable (m : (ℓ : Loc nD τ sig) → Buf (Elt Ideal) ℓ)

/-- The blocks each window visits. -/
theorem idx : ∀ t : Fin cfg0.N, win0_0.index t = ![t.val, 0, 0, 0] ∧ win0_1.index t = ![t.val, 0, 0, 0] ∧ win0_2.index t = ![t.val, 0, 0, 0]
    ∧ win0_3.index t = ![t.val, 0, 0, 0] :=
  (by decide +kernel : ∀ t : Fin grid0.N, _)

variable (c : Dev nD) (t : Fin cfg0.N)

theorem t_lt (t : Fin cfg0.N) : t.val < 16 := t.isLt

/-- The sample that sample `b` of a block is. -/
def sample (t : Fin cfg0.N) (b : Fin 8) : Fin 128 := ⟨8 * t.val + b.val, by have := t_lt t; omega⟩

theorem r_blk (b : Fin 8) (h : Fin 4) (a : Fin 24) (j : Fin 128) : iblk m c 0 t (ix4 b h a j) = m ((c : Thread nD τ).loc main_arg0) (ix4 (sample t b) h a j) := by
  have ht := t_lt t
  blk_simp [iblk, V, idx t]
  unfold sample
  blk_ext [idx t]

theorem s_blk (b : Fin 8) (h : Fin 4) (a : Fin 128) (j : Fin 128) : iblk m c 1 t (ix4 b h a j) = m ((c : Thread nD τ).loc main_arg1) (ix4 (sample t b) h a j) := by
  have ht := t_lt t
  blk_simp [iblk, V, idx t]
  unfold sample
  blk_ext [idx t]

theorem prod_final : (dats m 0 c).arrAt 2 cfg0.N = GdnSSpec.prod (m ((c : Thread nD τ).loc main_arg0)) (m ((c : Thread nD τ).loc main_arg1)) := by
  refine (dats m 0 c).arrAt_eq_of_covers 2 _ (by decide +kernel) fun t _ y => ?_
  blk_simp
  rw [after0_2]
  have ht := t_lt t
  idx_vars y
  have hx : ((View.whole main_v0_0).slice (win0_2.rect t)).emb (ix4 y0 y1 y2 y3) = ix4 (sample t y0) y1 y2 y3 := by
    unfold sample
    blk_ext [idx t]
  rw [hx, out_prod]
  have e0 : (fun a j => iblk m c 0 t (ix4 y0 y1 a j)) = fun a j => m ((c : Thread nD τ).loc main_arg0) (ix4 (sample t y0) y1 a j) :=
    funext fun a => funext fun j => r_blk m c t y0 y1 a j
  have e1 : (fun a j => iblk m c 1 t (ix4 y0 y1 a j)) = fun a j => m ((c : Thread nD τ).loc main_arg1) (ix4 (sample t y0) y1 a j) :=
    funext fun a => funext fun j => s_blk m c t y0 y1 a j
  exact (congrArg (fun R => prodAt R (fun a j => iblk m c 1 t (ix4 y0 y1 a j)) (⟨y2.val, by omega⟩ : Fin 24) y3) e0).trans
    (congrArg (fun S => prodAt (fun a j => m ((c : Thread nD τ).loc main_arg0) (ix4 (sample t y0) y1 a j)) S (⟨y2.val, by omega⟩ : Fin 24) y3) e1)

theorem state_final : (dats m 0 c).arrAt 3 cfg0.N = GdnSSpec.state (m ((c : Thread nD τ).loc main_arg0)) (m ((c : Thread nD τ).loc main_arg1)) := by
  refine (dats m 0 c).arrAt_eq_of_covers 3 _ (by decide +kernel) fun t _ y => ?_
  blk_simp
  rw [after0_3]
  have ht := t_lt t
  idx_vars y
  have hx : ((View.whole main_v0_1).slice (win0_3.rect t)).emb (ix4 y0 y1 y2 y3) = ix4 (sample t y0) y1 y2 y3 := by
    unfold sample
    blk_ext [idx t]
  rw [hx, out_state]
  have e0 : (fun a j => iblk m c 0 t (ix4 y0 y1 a j)) = fun a j => m ((c : Thread nD τ).loc main_arg0) (ix4 (sample t y0) y1 a j) :=
    funext fun a => funext fun j => r_blk m c t y0 y1 a j
  have e1 : (fun a j => iblk m c 1 t (ix4 y0 y1 a j)) = fun a j => m ((c : Thread nD τ).loc main_arg1) (ix4 (sample t y0) y1 a j) :=
    funext fun a => funext fun j => s_blk m c t y0 y1 a j
  exact (congrArg (fun R => stateAt R (fun a j => iblk m c 1 t (ix4 y0 y1 a j)) y2 y3) e0).trans
    (congrArg (fun S => stateAt (fun a j => m ((c : Thread nD τ).loc main_arg0) (ix4 (sample t y0) y1 a j)) S y2 y3) e1)

end Cert.GdnSIdeal.Value

end
-- ==== Proof.GdnSRefValue.lean ====
/-
  What the plain computation of the sample group's state computes, at an index.
-/
module

public import proofs.«01_k».proof.Proof.GdnSSpec
public import proofs.«01_k».proof.Proof.Gen.GdnSRefIdeal.Run
public import Idealize.ShloMosaic.Lib.Pointwise
public import Idealize.ShloMosaic.Lib.IdealHost
public import Idealize.ShloMosaic.Lib.Pipeline.ValueKit

@[expose] public section

set_option maxRecDepth 16384

noncomputable section

namespace Cert.GdnSRefIdeal.Value

open Idealize.ShloMosaic Idealize.ShloMosaic.TcCoe Idealize.SL.Sem
open Cert.GdnSRefIdeal Cert.GdnSRefIdeal.Gen Cert.GdnSSpec

variable (r : FVec Ideal S128x4x24x128 .f32) (s : FVec Ideal S128x4x128x128 .f32)

/-- The first eight rows. -/
def rows : FVec Ideal S128x4x8x128 .f32 :=
  concatenate S128x4x8x128 2 [⟨S128x4x4x128, (extractStridedSlice S128x4x4x128 ![0, 0, 0, 0] r slices_S128x4x24x128_S128x4x4x128_0_0_0_0)⟩,
    ⟨S128x4x4x128, (extractStridedSlice S128x4x4x128 ![0, 0, 4, 0] r slices_S128x4x24x128_S128x4x4x128_0_0_4_0)⟩] concatenates_S128x4x4x128_S128x4x4x128_S128x4x8x128_d2

theorem rows_apply (b : Fin 128) (h : Fin 4) (i : Fin 8) (j : Fin 128) : rows r (ix4 b h i j) = r (ix4 b h (⟨i.val, by omega⟩ : Fin 24) j) := by
  unfold rows
  pointwise
  split
  · rfl
  · exact congrArg r (congrArg (fun z => ix4 b h z j) (Fin.ext (by show 4 + (i.val - 4) = i.val; omega)))

/-- Their products with the old states. -/
def products : FVec Ideal S128x4x8x128 .f32 := Host.dotGeneral dot_S128x4x8x128_S128x4x128x128_S128x4x8x128_3_2_2_3_01_01 none (rows r) s

theorem products_eq : products r s = prod r s := by
  funext y
  idx_vars y
  unfold products prod prodAt
  pointwise [rows_apply]

/-- What the tokens write. -/
def writes : FVec Ideal S128x4x4x128 .f32 :=
  subf (extractStridedSlice S128x4x4x128 ![0, 0, 8, 0] r slices_S128x4x24x128_S128x4x4x128_0_0_8_0)
    (Host.dotGeneral dot_S128x4x4x128_S128x4x128x128_S128x4x4x128_3_2_2_3_01_01 none (extractStridedSlice S128x4x4x128 ![0, 0, 0, 0] r slices_S128x4x24x128_S128x4x4x128_0_0_0_0) s)

theorem writes_apply (b : Fin 128) (h : Fin 4) (i : Fin 4) (v : Fin 128) :
    writes r s (ix4 b h i v) = writeAt (fun a j => r (ix4 b h a j)) (fun j v => s (ix4 b h j v)) i v := by
  unfold writes writeAt prodAt
  pointwise

/-- The new states. -/
def states : FVec Ideal S128x4x128x128 .f32 :=
  addf (mulf s (broadcastInDim S128x4x128x128 ![0, 1, 2, 3] bcast_S128x4x1x128_S128x4x128x128_0_1_2_3 (extractStridedSlice S128x4x1x128 ![0, 0, 16, 0] r slices_S128x4x24x128_S128x4x1x128_0_0_16_0)))
    (Host.dotGeneral dot_S128x4x4x128_S128x4x4x128_S128x4x128x128_2_2_3_3_01_01 none (extractStridedSlice S128x4x4x128 ![0, 0, 12, 0] r slices_S128x4x24x128_S128x4x4x128_0_0_12_0) (writes r s))

theorem states_eq : states r s = state r s := by
  funext y
  idx_vars y
  unfold states state stateAt
  pointwise [writes_apply]

end Cert.GdnSRefIdeal.Value

end
-- ==== Proof.GdnSClaim.lean ====
/-
  The claim of the sample group's delta-rule state: the kernel and the plain computation hold the same two arrays.
-/
module

public import proofs.«01_k».proof.Defs
public import proofs.«01_k».proof.Proof.GdnSValue
public import proofs.«01_k».proof.Proof.GdnSRefValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel and the plain computation give the same arrays. -/
theorem gdn_s_eq : Cert.algebraic_GdnSIdeal_GdnSRefIdeal := by
  pair_intro
  · run_from Cert.GdnSIdeal.Value.run_blocks m g
  · run_from Cert.GdnSRefIdeal.Value.run m' g'
    all_goals obtain ⟨a0, a1⟩ := hagree c
    · rw [Cert.GdnSIdeal.Value.prod_final m c]
      refine (Cert.GdnSRefIdeal.Value.products_eq _ _).trans ?_
      first | rw [a0, a1] | rfl
    · rw [Cert.GdnSIdeal.Value.state_final m c]
      refine (Cert.GdnSRefIdeal.Value.states_eq _ _).trans ?_
      first | rw [a0, a1] | rfl

end Cert.Proof

end
-- ==== Proof.GdnOSpec.lean ====
/-
  The output of the sample group's delta rule for one sample and head: the queries against the old state, and the causal
  weights against what the tokens write; normalised, and gated.
-/
module

public import proofs.«01_k».proof.Defs
public import Idealize.ShloMosaic.Lib.Claim
public import Idealize.ShloMosaic.Lib.Pipeline.ValueKit

@[expose] public section

noncomputable section

namespace Cert.GdnOSpec

open Idealize.ShloMosaic Idealize.ShloMosaic.TcCoe Idealize.SL.Sem

/-- What token `s` of the chunk writes: its row of values less what the old state already answers. -/
def writeAt (W : Fin 8 → Fin 128 → EReal) (R : Fin 24 → Fin 128 → EReal) (s : Fin 4) (v : Fin 128) : EReal :=
  R (⟨8 + s.val, by omega⟩ : Fin 24) v - W (⟨s.val, by omega⟩ : Fin 8) v

/-- The weight of token `s` for token `t`: nothing from a later token. -/
def weightAt (A : Fin 16 → Fin 128 → EReal) (t s : Fin 4) (v : Fin 128) : EReal :=
  if s ≤ t then A (⟨t.val * 4 + s.val, by omega⟩ : Fin 16) v else 0

/-- Token `t`'s query against the old state, and its weights against what the tokens write. -/
def mixAt (W : Fin 8 → Fin 128 → EReal) (R : Fin 24 → Fin 128 → EReal) (A : Fin 16 → Fin 128 → EReal) (t : Fin 4) (v : Fin 128) : EReal :=
  W (⟨4 + t.val, by omega⟩ : Fin 8) v + ∑ s : Fin 4, weightAt A t s v * writeAt W R s v

/-- A row over the square root of its mean square, scaled by `g`, and gated by `z`. -/
def gateAt (o g z : Fin 128 → EReal) (v : Fin 128) : EReal :=
  o v * Ideal.rsqrt (Ideal.div (∑ e : Fin 128, o e * o e) (Ideal.ofBits .f32 0x43000000#32) + Ideal.ofBits .f32 0x358637BD#32) * g v
    * (z v * Ideal.logistic (z v))

/-- Lane `v` of head `h`. -/
def lane (h : Fin 4) (v : Fin 128) : Fin 512 := ⟨h.val * 128 + v.val, by omega⟩

/-- The output of token `t`, sample `b`, head `h`, lane `v`. -/
def outAt (w : (⟨3, ![8, 128, 512]⟩ : Shape).Idx → EReal) (r : (⟨3, ![24, 128, 512]⟩ : Shape).Idx → EReal) (a : (⟨3, ![16, 128, 512]⟩ : Shape).Idx → EReal)
    (z : (⟨3, ![4, 128, 512]⟩ : Shape).Idx → EReal) (g : Fin 128 → EReal) (t : Fin 4) (b : Fin 128) (h : Fin 4) (v : Fin 128) : EReal :=
  gateAt (mixAt (fun i v => w (ix3 i b (lane h v))) (fun i v => r (ix3 i b (lane h v))) (fun i v => a (ix3 i b (lane h v))) t) g
    (fun v => z (ix3 t b (lane h v))) v

/-- The output. -/
def out (w : (⟨3, ![8, 128, 512]⟩ : Shape).Idx → EReal) (r : (⟨3, ![24, 128, 512]⟩ : Shape).Idx → EReal) (a : (⟨3, ![16, 128, 512]⟩ : Shape).Idx → EReal)
    (z : (⟨3, ![4, 128, 512]⟩ : Shape).Idx → EReal) (g : Fin 128 → EReal) : (⟨3, ![4, 128, 512]⟩ : Shape).Idx → EReal :=
  fun y => outAt w r a z g (y 0) (y 1) (⟨(y 2).val / 128, by have : (y 2).val < 512 := (y 2).isLt; omega⟩ : Fin 4) (⟨(y 2).val % 128, by omega⟩ : Fin 128)

end Cert.GdnOSpec

end
-- ==== Proof.GdnOStep.lean ====
/-
  One token's stored row: what the body leaves for it, from the rows it loads.
-/
module

public import proofs.«01_k».proof.Proof.GdnOSpec
public import proofs.«01_k».proof.Proof.Gen.GdnOIdeal.Value
public import Idealize.ShloMosaic.Lib.Pointwise
public import Idealize.ShloMosaic.Lib.IdealHost
public import Idealize.ShloMosaic.Lib.Pipeline.ValueKit

@[expose] public section

set_option maxRecDepth 16384

noncomputable section

namespace Cert.GdnOIdeal.Value

open Idealize.ShloMosaic Idealize.ShloMosaic.TcCoe Idealize.SL.Sem
open Cert.GdnOIdeal Cert.GdnOIdeal.Gen Cert.GdnOSpec

/-- Token 0's row, normalised and gated. -/
theorem tok0_apply (r0 w0 a0 q z : Vec Ideal S1x128x128 .f32) (g : Vec Ideal S1x128 .f32) (y : Fin 1) (b v : Fin 128) :
    k0_pay8 (k0_pay6 r0 w0 q a0) (k0_pay7 r0 w0 q a0) g z (ix3 y b v)
      = gateAt (fun v => q (ix3 0 b v) + a0 (ix3 0 b v) * (r0 (ix3 0 b v) - w0 (ix3 0 b v))) (fun v => g (ix2 0 v)) (fun v => z (ix3 0 b v)) v := by
  unfold gateAt
  pointwise [k0_pay6, k0_pay7, k0_pay8, k0_pay2]

/-- Token 1's row, normalised and gated. -/
theorem tok1_apply (r0 w0 a0 r1 w1 a1 q z : Vec Ideal S1x128x128 .f32) (g : Vec Ideal S1x128 .f32) (y : Fin 1) (b v : Fin 128) :
    k0_pay12 (k0_pay9 (k0_pay2 r0 w0) (k0_pay3 r1 w1) q a0 a1) (k0_pay10 (k0_pay2 r0 w0) (k0_pay3 r1 w1) q a0 a1) (k0_pay11 (F := Ideal)) g z (ix3 y b v)
      = gateAt (fun v => q (ix3 0 b v) + a0 (ix3 0 b v) * (r0 (ix3 0 b v) - w0 (ix3 0 b v)) + a1 (ix3 0 b v) * (r1 (ix3 0 b v) - w1 (ix3 0 b v))) (fun v => g (ix2 0 v)) (fun v => z (ix3 0 b v)) v := by
  unfold gateAt
  pointwise [k0_pay2, k0_pay3, k0_pay9, k0_pay10, k0_pay11, k0_pay12]

/-- Token 2's row, normalised and gated. -/
theorem tok2_apply (r0 w0 a0 r1 w1 a1 r2 w2 a2 q z : Vec Ideal S1x128x128 .f32) (g : Vec Ideal S1x128 .f32) (y : Fin 1) (b v : Fin 128) :
    k0_pay15 (k0_pay13 (k0_pay2 r0 w0) (k0_pay3 r1 w1) (k0_pay4 r2 w2) q a0 a1 a2) (k0_pay14 (k0_pay2 r0 w0) (k0_pay3 r1 w1) (k0_pay4 r2 w2) q a0 a1 a2) (Scalar.ofBits .f32 0x358637BD#32) g z (ix3 y b v)
      = gateAt (fun v => q (ix3 0 b v) + a0 (ix3 0 b v) * (r0 (ix3 0 b v) - w0 (ix3 0 b v)) + a1 (ix3 0 b v) * (r1 (ix3 0 b v) - w1 (ix3 0 b v)) + a2 (ix3 0 b v) * (r2 (ix3 0 b v) - w2 (ix3 0 b v))) (fun v => g (ix2 0 v)) (fun v => z (ix3 0 b v)) v := by
  unfold gateAt
  pointwise [k0_pay2, k0_pay3, k0_pay4, k0_pay13, k0_pay14, k0_pay15]

/-- Token 3's row, normalised and gated. -/
theorem tok3_apply (r0 w0 a0 r1 w1 a1 r2 w2 a2 r3 w3 a3 q z : Vec Ideal S1x128x128 .f32) (g : Vec Ideal S1x128 .f32) (y : Fin 1) (b v : Fin 128) :
    k0_pay17 (k0_pay16 (k0_pay2 r0 w0) (k0_pay3 r1 w1) (k0_pay4 r2 w2) (k0_pay5 r3 w3) q a0 a1 a2 a3) g z (ix3 y b v)
      = gateAt (fun v => q (ix3 0 b v) + a0 (ix3 0 b v) * (r0 (ix3 0 b v) - w0 (ix3 0 b v)) + a1 (ix3 0 b v) * (r1 (ix3 0 b v) - w1 (ix3 0 b v)) + a2 (ix3 0 b v) * (r2 (ix3 0 b v) - w2 (ix3 0 b v)) + a3 (ix3 0 b v) * (r3 (ix3 0 b v) - w3 (ix3 0 b v))) (fun v => g (ix2 0 v)) (fun v => z (ix3 0 b v)) v := by
  unfold gateAt
  pointwise [k0_pay2, k0_pay3, k0_pay4, k0_pay5, k0_pay16, k0_pay17]

end Cert.GdnOIdeal.Value

end
-- ==== Proof.GdnOValue.lean ====
/-
  The output kernel's result as a function of the arguments: one grid point, one store for each token and head.
-/
module

public import proofs.«01_k».proof.Proof.GdnOStep

@[expose] public section

set_option maxRecDepth 16384

noncomputable section

namespace Cert.GdnOIdeal.Value

open Idealize.ShloMosaic Idealize.ShloMosaic.TcCoe Idealize.SL.Sem
open Idealize.ShloMosaic.Pipeline (Dat)
open Cert.GdnOIdeal Cert.GdnOIdeal.Gen Cert.GdnOSpec

/-- The rectangle of row `i`, lanes from `l` on, fits. -/
theorem fits {n : ℕ} (i l : ℕ) (hi : i < n) (hl : l + 128 ≤ 512) :
    ∀ d, (![i, 0, l] : Fin 3 → ℕ) d + S1x128x128.size d ≤ (⟨3, ![n, 128, 512]⟩ : Shape).size d := by
  intro d
  fin_cases d
  · show i + 1 ≤ n
    omega
  · show 0 + 128 ≤ 128
    omega
  · show l + 128 ≤ 512
    omega

/-- Row `i`, lanes from `l` on. -/
abbrev ld8 (x : Vec Ideal S8x128x512 .f32) (i l : ℕ) (hi : i < 8) (hl : l + 128 ≤ 512) : Vec Ideal S1x128x128 .f32 :=
  View.ld x (Rect.unit (s := S8x128x512) ![i, 0, l] S1x128x128.size (fits i l hi hl))

theorem emb8 (i l h : ℕ) (hi : i < 8) (hl : l + 128 ≤ 512) (hh : h < 4) (e : l = h * 128) (y : Fin 1) (b v : Fin 128) :
    (Rect.unit (s := S8x128x512) ![i, 0, l] S1x128x128.size (fits i l hi hl)).emb (ix3 y b v) = ix3 (⟨i, hi⟩ : Fin 8) b (lane (⟨h, hh⟩ : Fin 4) v) := by
  funext d
  fin_cases d
  · exact Fin.ext (by show i + 1 * y.val = i; omega)
  · exact Fin.ext (by show 0 + 1 * b.val = b.val; omega)
  · exact Fin.ext (by show l + 1 * v.val = h * 128 + v.val; omega)

theorem ld8_apply (x : Vec Ideal S8x128x512 .f32) (i l h : ℕ) (hi : i < 8) (hl : l + 128 ≤ 512) (hh : h < 4) (e : l = h * 128) (y : Fin 1) (b v : Fin 128) :
    ld8 x i l hi hl (ix3 y b v) = x (ix3 (⟨i, hi⟩ : Fin 8) b (lane (⟨h, hh⟩ : Fin 4) v)) :=
  congrArg x (emb8 i l h hi hl hh e y b v)

/-- Row `i`, lanes from `l` on. -/
abbrev ld24 (x : Vec Ideal S24x128x512 .f32) (i l : ℕ) (hi : i < 24) (hl : l + 128 ≤ 512) : Vec Ideal S1x128x128 .f32 :=
  View.ld x (Rect.unit (s := S24x128x512) ![i, 0, l] S1x128x128.size (fits i l hi hl))

theorem emb24 (i l h : ℕ) (hi : i < 24) (hl : l + 128 ≤ 512) (hh : h < 4) (e : l = h * 128) (y : Fin 1) (b v : Fin 128) :
    (Rect.unit (s := S24x128x512) ![i, 0, l] S1x128x128.size (fits i l hi hl)).emb (ix3 y b v) = ix3 (⟨i, hi⟩ : Fin 24) b (lane (⟨h, hh⟩ : Fin 4) v) := by
  funext d
  fin_cases d
  · exact Fin.ext (by show i + 1 * y.val = i; omega)
  · exact Fin.ext (by show 0 + 1 * b.val = b.val; omega)
  · exact Fin.ext (by show l + 1 * v.val = h * 128 + v.val; omega)

theorem ld24_apply (x : Vec Ideal S24x128x512 .f32) (i l h : ℕ) (hi : i < 24) (hl : l + 128 ≤ 512) (hh : h < 4) (e : l = h * 128) (y : Fin 1) (b v : Fin 128) :
    ld24 x i l hi hl (ix3 y b v) = x (ix3 (⟨i, hi⟩ : Fin 24) b (lane (⟨h, hh⟩ : Fin 4) v)) :=
  congrArg x (emb24 i l h hi hl hh e y b v)

/-- Row `i`, lanes from `l` on. -/
abbrev ld16 (x : Vec Ideal S16x128x512 .f32) (i l : ℕ) (hi : i < 16) (hl : l + 128 ≤ 512) : Vec Ideal S1x128x128 .f32 :=
  View.ld x (Rect.unit (s := S16x128x512) ![i, 0, l] S1x128x128.size (fits i l hi hl))

theorem emb16 (i l h : ℕ) (hi : i < 16) (hl : l + 128 ≤ 512) (hh : h < 4) (e : l = h * 128) (y : Fin 1) (b v : Fin 128) :
    (Rect.unit (s := S16x128x512) ![i, 0, l] S1x128x128.size (fits i l hi hl)).emb (ix3 y b v) = ix3 (⟨i, hi⟩ : Fin 16) b (lane (⟨h, hh⟩ : Fin 4) v) := by
  funext d
  fin_cases d
  · exact Fin.ext (by show i + 1 * y.val = i; omega)
  · exact Fin.ext (by show 0 + 1 * b.val = b.val; omega)
  · exact Fin.ext (by show l + 1 * v.val = h * 128 + v.val; omega)

theorem ld16_apply (x : Vec Ideal S16x128x512 .f32) (i l h : ℕ) (hi : i < 16) (hl : l + 128 ≤ 512) (hh : h < 4) (e : l = h * 128) (y : Fin 1) (b v : Fin 128) :
    ld16 x i l hi hl (ix3 y b v) = x (ix3 (⟨i, hi⟩ : Fin 16) b (lane (⟨h, hh⟩ : Fin 4) v)) :=
  congrArg x (emb16 i l h hi hl hh e y b v)

/-- Row `i`, lanes from `l` on. -/
abbrev ld4 (x : Vec Ideal S4x128x512 .f32) (i l : ℕ) (hi : i < 4) (hl : l + 128 ≤ 512) : Vec Ideal S1x128x128 .f32 :=
  View.ld x (Rect.unit (s := S4x128x512) ![i, 0, l] S1x128x128.size (fits i l hi hl))

theorem emb4 (i l h : ℕ) (hi : i < 4) (hl : l + 128 ≤ 512) (hh : h < 4) (e : l = h * 128) (y : Fin 1) (b v : Fin 128) :
    (Rect.unit (s := S4x128x512) ![i, 0, l] S1x128x128.size (fits i l hi hl)).emb (ix3 y b v) = ix3 (⟨i, hi⟩ : Fin 4) b (lane (⟨h, hh⟩ : Fin 4) v) := by
  funext d
  fin_cases d
  · exact Fin.ext (by show i + 1 * y.val = i; omega)
  · exact Fin.ext (by show 0 + 1 * b.val = b.val; omega)
  · exact Fin.ext (by show l + 1 * v.val = h * 128 + v.val; omega)

theorem ld4_apply (x : Vec Ideal S4x128x512 .f32) (i l h : ℕ) (hi : i < 4) (hl : l + 128 ≤ 512) (hh : h < 4) (e : l = h * 128) (y : Fin 1) (b v : Fin 128) :
    ld4 x i l hi hl (ix3 y b v) = x (ix3 (⟨i, hi⟩ : Fin 4) b (lane (⟨h, hh⟩ : Fin 4) v)) :=
  congrArg x (emb4 i l h hi hl hh e y b v)

/-- The scale's row. -/
abbrev ldg (x : Vec Ideal S1x128 .f32) : Vec Ideal S1x128 .f32 := View.ld x r0_10

theorem ldg_apply (x : Vec Ideal S1x128 .f32) (v : Fin 128) : ldg x (ix2 0 v) = x (ix2 0 v) := by
  refine congrArg x (funext fun d => ?_)
  fin_cases d
  · rfl
  · exact Fin.ext (by show 0 + 1 * v.val = v.val; omega)

/-- The output at lane `v` of head `h`. -/
theorem out_lane (w : Vec Ideal S8x128x512 .f32) (r : Vec Ideal S24x128x512 .f32) (a : Vec Ideal S16x128x512 .f32) (z : Vec Ideal S4x128x512 .f32)
    (g : Fin 128 → EReal) (t : Fin 4) (b : Fin 128) (h : Fin 4) (v : Fin 128) : out w r a z g (ix3 t b (lane h v)) = outAt w r a z g t b h v := by
  unfold out
  have e1 : (⟨(lane h v).val / 128, by have := (lane h v).isLt; omega⟩ : Fin 4) = h := Fin.ext (by unfold lane; show (h.val * 128 + v.val) / 128 = h.val; omega)
  have e2 : (⟨(lane h v).val % 128, by omega⟩ : Fin 128) = v := Fin.ext (by unfold lane; show (h.val * 128 + v.val) % 128 = v.val; omega)
  exact (congrArg (fun k => outAt w r a z g t b k _) e1).trans (congrArg (outAt w r a z g t b h) e2)

theorem gateAt_congr {o o' g g' z : Fin 128 → EReal} (ho : ∀ v, o v = o' v) (hg : ∀ v, g v = g' v) (v : Fin 128) : gateAt o g z v = gateAt o' g' z v := by
  rw [funext ho, funext hg]

variable (x0 : Vec Ideal S8x128x512 .f32) (x1 : Vec Ideal S24x128x512 .f32) (x2 : Vec Ideal S16x128x512 .f32) (x3 : Vec Ideal S4x128x512 .f32)
  (x4 : Vec Ideal S1x128 .f32)

/-- Token 0's stored row, at head `h`. -/
theorem piece0 (l h : ℕ) (hl : l + 128 ≤ 512) (hh : h < 4) (e : l = h * 128) (y : S1x128x128.Idx) :
    k0_pay8 (k0_pay6 (ld24 x1 8 l (by decide) hl) (ld8 x0 0 l (by decide) hl) (ld8 x0 4 l (by decide) hl) (ld16 x2 0 l (by decide) hl)) (k0_pay7 (ld24 x1 8 l (by decide) hl) (ld8 x0 0 l (by decide) hl) (ld8 x0 4 l (by decide) hl) (ld16 x2 0 l (by decide) hl)) (ldg x4) (ld4 x3 0 l (by decide) hl) y
      = out x0 x1 x2 x3 (fun v => x4 (ix2 0 v)) ((Rect.unit (s := S4x128x512) ![0, 0, l] S1x128x128.size (fits 0 l (by decide) hl)).emb y) := by
  idx_vars y
  rw [emb4 0 l h (by decide) hl hh e y0 y1 y2, out_lane, tok0_apply]
  simp only [ld8_apply x0 _ l h _ hl hh e, ld24_apply x1 _ l h _ hl hh e, ld16_apply x2 _ l h _ hl hh e, ld4_apply x3 _ l h _ hl hh e, ldg_apply]
  unfold outAt
  refine gateAt_congr (fun v => ?_) (fun v => ldg_apply x4 v) y2
  unfold mixAt weightAt writeAt
  rw [Fin.sum_univ_four]
  rw [if_pos (by decide : ((0 : Fin 4) ≤ ⟨0, by decide⟩))]
  rw [if_neg (by decide : ¬ ((1 : Fin 4) ≤ ⟨0, by decide⟩))]
  rw [if_neg (by decide : ¬ ((2 : Fin 4) ≤ ⟨0, by decide⟩))]
  rw [if_neg (by decide : ¬ ((3 : Fin 4) ≤ ⟨0, by decide⟩))]
  simp only [zero_mul, add_zero, add_assoc]
  rfl

/-- Token 1's stored row, at head `h`. -/
theorem piece1 (l h : ℕ) (hl : l + 128 ≤ 512) (hh : h < 4) (e : l = h * 128) (y : S1x128x128.Idx) :
    k0_pay12 (k0_pay9 (k0_pay2 (ld24 x1 8 l (by decide) hl) (ld8 x0 0 l (by decide) hl)) (k0_pay3 (ld24 x1 9 l (by decide) hl) (ld8 x0 1 l (by decide) hl)) (ld8 x0 5 l (by decide) hl) (ld16 x2 4 l (by decide) hl) (ld16 x2 5 l (by decide) hl)) (k0_pay10 (k0_pay2 (ld24 x1 8 l (by decide) hl) (ld8 x0 0 l (by decide) hl)) (k0_pay3 (ld24 x1 9 l (by decide) hl) (ld8 x0 1 l (by decide) hl)) (ld8 x0 5 l (by decide) hl) (ld16 x2 4 l (by decide) hl) (ld16 x2 5 l (by decide) hl)) (k0_pay11 (F := Ideal)) (ldg x4) (ld4 x3 1 l (by decide) hl) y
      = out x0 x1 x2 x3 (fun v => x4 (ix2 0 v)) ((Rect.unit (s := S4x128x512) ![1, 0, l] S1x128x128.size (fits 1 l (by decide) hl)).emb y) := by
  idx_vars y
  rw [emb4 1 l h (by decide) hl hh e y0 y1 y2, out_lane, tok1_apply]
  simp only [ld8_apply x0 _ l h _ hl hh e, ld24_apply x1 _ l h _ hl hh e, ld16_apply x2 _ l h _ hl hh e, ld4_apply x3 _ l h _ hl hh e, ldg_apply]
  unfold outAt
  refine gateAt_congr (fun v => ?_) (fun v => ldg_apply x4 v) y2
  unfold mixAt weightAt writeAt
  rw [Fin.sum_univ_four]
  rw [if_pos (by decide : ((0 : Fin 4) ≤ ⟨1, by decide⟩))]
  rw [if_pos (by decide : ((1 : Fin 4) ≤ ⟨1, by decide⟩))]
  rw [if_neg (by decide : ¬ ((2 : Fin 4) ≤ ⟨1, by decide⟩))]
  rw [if_neg (by decide : ¬ ((3 : Fin 4) ≤ ⟨1, by decide⟩))]
  simp only [zero_mul, add_zero, add_assoc]
  rfl

/-- Token 2's stored row, at head `h`. -/
theorem piece2 (l h : ℕ) (hl : l + 128 ≤ 512) (hh : h < 4) (e : l = h * 128) (y : S1x128x128.Idx) :
    k0_pay15 (k0_pay13 (k0_pay2 (ld24 x1 8 l (by decide) hl) (ld8 x0 0 l (by decide) hl)) (k0_pay3 (ld24 x1 9 l (by decide) hl) (ld8 x0 1 l (by decide) hl)) (k0_pay4 (ld24 x1 10 l (by decide) hl) (ld8 x0 2 l (by decide) hl)) (ld8 x0 6 l (by decide) hl) (ld16 x2 8 l (by decide) hl) (ld16 x2 9 l (by decide) hl) (ld16 x2 10 l (by decide) hl)) (k0_pay14 (k0_pay2 (ld24 x1 8 l (by decide) hl) (ld8 x0 0 l (by decide) hl)) (k0_pay3 (ld24 x1 9 l (by decide) hl) (ld8 x0 1 l (by decide) hl)) (k0_pay4 (ld24 x1 10 l (by decide) hl) (ld8 x0 2 l (by decide) hl)) (ld8 x0 6 l (by decide) hl) (ld16 x2 8 l (by decide) hl) (ld16 x2 9 l (by decide) hl) (ld16 x2 10 l (by decide) hl)) (Scalar.ofBits .f32 0x358637BD#32) (ldg x4) (ld4 x3 2 l (by decide) hl) y
      = out x0 x1 x2 x3 (fun v => x4 (ix2 0 v)) ((Rect.unit (s := S4x128x512) ![2, 0, l] S1x128x128.size (fits 2 l (by decide) hl)).emb y) := by
  idx_vars y
  rw [emb4 2 l h (by decide) hl hh e y0 y1 y2, out_lane, tok2_apply]
  simp only [ld8_apply x0 _ l h _ hl hh e, ld24_apply x1 _ l h _ hl hh e, ld16_apply x2 _ l h _ hl hh e, ld4_apply x3 _ l h _ hl hh e, ldg_apply]
  unfold outAt
  refine gateAt_congr (fun v => ?_) (fun v => ldg_apply x4 v) y2
  unfold mixAt weightAt writeAt
  rw [Fin.sum_univ_four]
  rw [if_pos (by decide : ((0 : Fin 4) ≤ ⟨2, by decide⟩))]
  rw [if_pos (by decide : ((1 : Fin 4) ≤ ⟨2, by decide⟩))]
  rw [if_pos (by decide : ((2 : Fin 4) ≤ ⟨2, by decide⟩))]
  rw [if_neg (by decide : ¬ ((3 : Fin 4) ≤ ⟨2, by decide⟩))]
  simp only [zero_mul, add_zero, add_assoc]
  rfl

/-- Token 3's stored row, at head `h`. -/
theorem piece3 (l h : ℕ) (hl : l + 128 ≤ 512) (hh : h < 4) (e : l = h * 128) (y : S1x128x128.Idx) :
    k0_pay17 (k0_pay16 (k0_pay2 (ld24 x1 8 l (by decide) hl) (ld8 x0 0 l (by decide) hl)) (k0_pay3 (ld24 x1 9 l (by decide) hl) (ld8 x0 1 l (by decide) hl)) (k0_pay4 (ld24 x1 10 l (by decide) hl) (ld8 x0 2 l (by decide) hl)) (k0_pay5 (ld24 x1 11 l (by decide) hl) (ld8 x0 3 l (by decide) hl)) (ld8 x0 7 l (by decide) hl) (ld16 x2 12 l (by decide) hl) (ld16 x2 13 l (by decide) hl) (ld16 x2 14 l (by decide) hl) (ld16 x2 15 l (by decide) hl)) (ldg x4) (ld4 x3 3 l (by decide) hl) y
      = out x0 x1 x2 x3 (fun v => x4 (ix2 0 v)) ((Rect.unit (s := S4x128x512) ![3, 0, l] S1x128x128.size (fits 3 l (by decide) hl)).emb y) := by
  idx_vars y
  rw [emb4 3 l h (by decide) hl hh e y0 y1 y2, out_lane, tok3_apply]
  simp only [ld8_apply x0 _ l h _ hl hh e, ld24_apply x1 _ l h _ hl hh e, ld16_apply x2 _ l h _ hl hh e, ld4_apply x3 _ l h _ hl hh e, ldg_apply]
  unfold outAt
  refine gateAt_congr (fun v => ?_) (fun v => ldg_apply x4 v) y2
  unfold mixAt weightAt writeAt
  rw [Fin.sum_univ_four]
  rw [if_pos (by decide : ((0 : Fin 4) ≤ ⟨3, by decide⟩))]
  rw [if_pos (by decide : ((1 : Fin 4) ≤ ⟨3, by decide⟩))]
  rw [if_pos (by decide : ((2 : Fin 4) ≤ ⟨3, by decide⟩))]
  rw [if_pos (by decide : ((3 : Fin 4) ≤ ⟨3, by decide⟩))]
  simp only [zero_mul, add_zero, add_assoc]
  rfl

/-- The output, of the loaded windows. -/
def blkOut : Vec Ideal S4x128x512 .bf16 := out x0 x1 x2 x3 (fun v => x4 (ix2 0 v))

/-- What the body leaves in the output. -/
theorem out_block : out0_5 x0 x1 x2 x3 x4 = blkOut x0 x1 x2 x3 x4 := by
  funext y
  unfold out0_5
  refine View.canon_apply_of_pieces (blkOut x0 x1 x2 x3 x4) _ ?_ y (cover0_5 _ _ _ _ _ _ _ _ _ _ _ _ _ _ _ _ y)
  refine List.forall_mem_cons.mpr ⟨fun y => piece3 x0 x1 x2 x3 x4 384 3 (by decide) (by decide) rfl y, ?_⟩
  refine List.forall_mem_cons.mpr ⟨fun y => piece2 x0 x1 x2 x3 x4 384 3 (by decide) (by decide) rfl y, ?_⟩
  refine List.forall_mem_cons.mpr ⟨fun y => piece1 x0 x1 x2 x3 x4 384 3 (by decide) (by decide) rfl y, ?_⟩
  refine List.forall_mem_cons.mpr ⟨fun y => piece0 x0 x1 x2 x3 x4 384 3 (by decide) (by decide) rfl y, ?_⟩
  refine List.forall_mem_cons.mpr ⟨fun y => piece3 x0 x1 x2 x3 x4 256 2 (by decide) (by decide) rfl y, ?_⟩
  refine List.forall_mem_cons.mpr ⟨fun y => piece2 x0 x1 x2 x3 x4 256 2 (by decide) (by decide) rfl y, ?_⟩
  refine List.forall_mem_cons.mpr ⟨fun y => piece1 x0 x1 x2 x3 x4 256 2 (by decide) (by decide) rfl y, ?_⟩
  refine List.forall_mem_cons.mpr ⟨fun y => piece0 x0 x1 x2 x3 x4 256 2 (by decide) (by decide) rfl y, ?_⟩
  refine List.forall_mem_cons.mpr ⟨fun y => piece3 x0 x1 x2 x3 x4 128 1 (by decide) (by decide) rfl y, ?_⟩
  refine List.forall_mem_cons.mpr ⟨fun y => piece2 x0 x1 x2 x3 x4 128 1 (by decide) (by decide) rfl y, ?_⟩
  refine List.forall_mem_cons.mpr ⟨fun y => piece1 x0 x1 x2 x3 x4 128 1 (by decide) (by decide) rfl y, ?_⟩
  refine List.forall_mem_cons.mpr ⟨fun y => piece0 x0 x1 x2 x3 x4 128 1 (by decide) (by decide) rfl y, ?_⟩
  refine List.forall_mem_cons.mpr ⟨fun y => piece3 x0 x1 x2 x3 x4 0 0 (by decide) (by decide) rfl y, ?_⟩
  refine List.forall_mem_cons.mpr ⟨fun y => piece2 x0 x1 x2 x3 x4 0 0 (by decide) (by decide) rfl y, ?_⟩
  refine List.forall_mem_cons.mpr ⟨fun y => piece1 x0 x1 x2 x3 x4 0 0 (by decide) (by decide) rfl y, ?_⟩
  refine List.forall_mem_cons.mpr ⟨fun y => piece0 x0 x1 x2 x3 x4 0 0 (by decide) (by decide) rfl y, ?_⟩
  exact fun p hp => absurd hp List.not_mem_nil

variable (m : (ℓ : Loc nD τ sig) → Buf (Elt Ideal) ℓ)

/-- The blocks each window visits. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0] ∧ win0_5.index t = ![0, 0, 0] :=
  (by decide +kernel : ∀ t : Fin grid0.N, _)

variable (c : Dev nD) (t : Fin cfg0.N)

theorem w_blk : iblk m c 0 t = m ((c : Thread nD τ).loc main_arg0) := by
  funext y
  idx_vars y
  blk_simp [iblk, V, idx t]
  blk_ext [idx t]

theorem r_blk : iblk m c 1 t = m ((c : Thread nD τ).loc main_arg1) := by
  funext y
  idx_vars y
  blk_simp [iblk, V, idx t]
  blk_ext [idx t]

theorem a_blk : iblk m c 2 t = m ((c : Thread nD τ).loc main_arg2) := by
  funext y
  idx_vars y
  blk_simp [iblk, V, idx t]
  blk_ext [idx t]

theorem z_blk : iblk m c 3 t = m ((c : Thread nD τ).loc main_arg3) := by
  funext y
  idx_vars y
  blk_simp [iblk, V, idx t]
  blk_ext [idx t]

theorem g_blk (v : Fin 128) : iblk m c 4 t (ix2 0 v) = m ((c : Thread nD τ).loc main_arg4) (ix1 v) := by
  blk_simp [iblk, V, idx t]
  entry_read
  pointwise
  blk_ext [idx t]

theorem final : (dats m 0 c).arrAt 5 cfg0.N = out (m ((c : Thread nD τ).loc main_arg0)) (m ((c : Thread nD τ).loc main_arg1))
    (m ((c : Thread nD τ).loc main_arg2)) (m ((c : Thread nD τ).loc main_arg3)) (fun v => m ((c : Thread nD τ).loc main_arg4) (ix1 v)) := by
  refine (dats m 0 c).arrAt_eq_of_covers 5 _ (by decide +kernel) fun t _ y => ?_
  blk_simp
  rw [after0_5]
  idx_vars y
  have hx : ((View.whole main_v1).slice (win0_5.rect t)).emb (ix3 y0 y1 y2) = ix3 y0 y1 y2 := by
    blk_ext [idx t]
  rw [hx, out_block]
  unfold blkOut
  rw [w_blk, r_blk, a_blk, z_blk]
  exact congrArg (fun g => out _ _ _ _ g (ix3 y0 y1 y2)) (funext fun v => g_blk m c t v)

end Cert.GdnOIdeal.Value

end
-- ==== Proof.GdnORefValue.lean ====
/-
  What the plain computation of the sample group's output computes, at an index.
-/
module

public import proofs.«01_k».proof.Proof.GdnOSpec
public import proofs.«01_k».proof.Proof.Gen.GdnORefIdeal.Run
public import Idealize.ShloMosaic.Lib.Pointwise
public import Idealize.ShloMosaic.Lib.IdealHost
public import Idealize.ShloMosaic.Lib.Pipeline.ValueKit

@[expose] public section

set_option maxRecDepth 16384

noncomputable section

namespace Cert.GdnORefIdeal.Value

open Idealize.ShloMosaic Idealize.ShloMosaic.TcCoe Idealize.SL.Sem
open Cert.GdnORefIdeal Cert.GdnORefIdeal.Gen Cert.GdnOSpec

variable (w : FVec Ideal S8x128x512 .f32) (r : FVec Ideal S24x128x512 .f32) (a : FVec Ideal S16x128x512 .f32) (z : FVec Ideal S4x128x512 .f32)
  (g : FVec Ideal S128 .f32)

/-- What the tokens write, head by head. -/
def writes : FVec Ideal S4x128x4x128 .f32 :=
  shapeCast _ (subf (extractStridedSlice S4x128x512 ![8, 0, 0] r slices_S24x128x512_S4x128x512_8_0_0)
    (extractStridedSlice S4x128x512 ![0, 0, 0] w slices_S8x128x512_S4x128x512_0_0_0)) shapeCasts_S4x128x512_S4x128x4x128

theorem writes_apply (s : Fin 4) (b : Fin 128) (h : Fin 4) (v : Fin 128) :
    writes w r (ix4 s b h v) = writeAt (fun i v => w (ix3 i b (lane h v))) (fun i v => r (ix3 i b (lane h v))) s v := by
  unfold writes writeAt lane
  pointwise

/-- The weights, nothing from a later token. -/
def weights : FVec Ideal S4x4x128x4x128 .f32 :=
  select (broadcastInDim S4x4x128x4x128 ![0, 1, 2, 3, 4] bcast_S4x4x1x1x1_S4x4x128x4x128_0_1_2_3_4 (broadcastInDim S4x4x1x1x1 ![0, 1] bcast_S4x4_S4x4x1x1x1_0_1
      (cmpi .sle (broadcastInDim S4x4 ![0, 1] bcast_S1x4_S4x4_0_1 (broadcastInDim S1x4 ![1] bcast_S4_S1x4_1 (iotaInDim S4 32 0)))
        (broadcastInDim S4x4 ![0, 1] bcast_S4x1_S4x4_0_1 (broadcastInDim S4x1 ![0] bcast_S4_S4x1_0 (iotaInDim S4 32 0))))))
    (shapeCast _ a shapeCasts_S16x128x512_S4x4x128x4x128) (broadcastInDim S4x4x128x4x128 ![] bcast_S_S4x4x128x4x128 (id (constant S_ .f32 0x00000000#32)))

theorem weights_apply (t s : Fin 4) (b : Fin 128) (h : Fin 4) (v : Fin 128) :
    weights a (ix5 t s b h v) = weightAt (fun i v => a (ix3 i b (lane h v))) t s v := by
  unfold weights weightAt lane
  pointwise
  have e : (id (constant S_ .f32 0x00000000#32) : FVec Ideal S_ .f32) ix0 = 0 := (Ideal.ofBits_zero .f32 : _)
  rw [e]
  have k : IntOp.cmpi .sle (BitVec.ofNat 32 s.val) (BitVec.ofNat 32 t.val) = if s ≤ t then 1#1 else 0#1 := by
    revert s t
    decide
  rw [k]
  by_cases l : s ≤ t
  · rw [if_pos l, if_pos l]
    rfl
  · rw [if_neg l, if_neg l]
    rfl

/-- The queries against the old state, and the weights against what the tokens write. -/
def mixes : FVec Ideal S4x128x4x128 .f32 :=
  addf (shapeCast _ (extractStridedSlice S4x128x512 ![4, 0, 0] w slices_S8x128x512_S4x128x512_4_0_0) shapeCasts_S4x128x512_S4x128x4x128)
    (transpose S4x128x4x128 [3, 0, 1, 2] (Host.dotGeneral dot_S4x128x4x128_S4x4x128x4x128_S128x4x128x4_0_1_n_0_123_234 none (writes w r) (weights a))
      transposes_S128x4x128x4_S4x128x4x128_3_0_1_2)

theorem mixes_apply (t : Fin 4) (b : Fin 128) (h : Fin 4) (v : Fin 128) :
    mixes w r a (ix4 t b h v) = mixAt (fun i v => w (ix3 i b (lane h v))) (fun i v => r (ix3 i b (lane h v))) (fun i v => a (ix3 i b (lane h v))) t v := by
  unfold mixes mixAt
  pointwise [writes_apply, weights_apply]
  exact congrArg₂ (· + ·) rfl (Finset.sum_congr rfl fun s _ => mul_comm _ _)

/-- The logistic of an array. -/
def sigm (u : FVec Ideal S4x128x4x128 .f32) : FVec Ideal S4x128x4x128 .f32 :=
  Host.divf (broadcastInDim S4x128x4x128 ![] bcast_S_S4x128x4x128 (constant S_ .f32 0x3F800000#32))
    (addf (broadcastInDim S4x128x4x128 ![] bcast_S_S4x128x4x128 (constant S_ .f32 0x3F800000#32)) (Host.exp (Host.negf u)))

theorem sigm_apply (u : FVec Ideal S4x128x4x128 .f32) (t : Fin 4) (b : Fin 128) (h : Fin 4) (v : Fin 128) :
    sigm u (ix4 t b h v) = Ideal.logistic (u (ix4 t b h v)) := by
  unfold sigm Ideal.logistic
  pointwise

/-- The rows normalised per head, and scaled. -/
def normed : FVec Ideal S4x128x4x128 .f32 :=
  mulf (mulf (mixes w r a) (broadcastInDim S4x128x4x128 ![0, 1, 2, 3] bcast_S4x128x4x1_S4x128x4x128_0_1_2_3 (Host.rsqrt (addf (Host.divf
      (broadcastInDim S4x128x4x1 ![0, 1, 2] bcast_S4x128x4_S4x128x4x1_0_1_2
        (Host.reduceAdd (mulf (mixes w r a) (mixes w r a)) (constant S_ .f32 0x00000000#32) reducesTo_S4x128x4x128_S4x128x4_d3 h_S_))
      (broadcastInDim S4x128x4x1 ![] bcast_S_S4x128x4x1 (constant S_ .f32 0x43000000#32)))
      (broadcastInDim S4x128x4x1 ![] bcast_S_S4x128x4x1 (constant S_ .f32 0x358637BD#32))))))
    (broadcastInDim S4x128x4x128 ![0, 1, 2, 3] bcast_S1x1x1x128_S4x128x4x128_0_1_2_3 (broadcastInDim S1x1x1x128 ![3] bcast_S128_S1x1x1x128_3 g))

/-- The output. -/
def outs : FVec Ideal S4x128x512 .bf16 :=
  truncf .bf16 (shapeCast _ (mulf (normed w r a g) (mulf (shapeCast _ z shapeCasts_S4x128x512_S4x128x4x128)
    (sigm (shapeCast _ z shapeCasts_S4x128x512_S4x128x4x128)))) shapeCasts_S4x128x4x128_S4x128x512) bitsLt_bf16_f32

theorem outs_eq : outs w r a z g = out w r a z (fun v => g (ix1 v)) := by
  funext y
  idx_vars y
  unfold outs out outAt gateAt normed
  pointwise [mixes_apply, sigm_apply]
  have e : lane (⟨y2.val / 128, by omega⟩ : Fin 4) (⟨y2.val % 128, by omega⟩ : Fin 128) = y2 := Fin.ext (by unfold lane; show y2.val / 128 * 128 + y2.val % 128 = y2.val; omega)
  rw [e]

end Cert.GdnORefIdeal.Value

end
-- ==== Proof.GdnOClaim.lean ====
/-
  The claim of the output of the sample group's delta rule: the kernel and the plain computation hold the same array.
-/
module

public import proofs.«01_k».proof.Defs
public import proofs.«01_k».proof.Proof.GdnOValue
public import proofs.«01_k».proof.Proof.GdnORefValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel and the plain computation give the same array. -/
theorem gdn_o_eq : Cert.algebraic_GdnOIdeal_GdnORefIdeal := by
  pair_intro
  · run_from Cert.GdnOIdeal.Value.run_blocks m g
  · run_from Cert.GdnORefIdeal.Value.run m' g'
    obtain ⟨a0, a1, a2, a3, a4⟩ := hagree c
    rw [Cert.GdnOIdeal.Value.final m c]
    refine (Cert.GdnORefIdeal.Value.outs_eq _ _ _ _ _).trans ?_
    first | rw [a0, a1, a2, a3, a4] | rfl

end Cert.Proof

end
-- ==== Proof.GdnPSpec.lean ====
/-
  The preparation of the sample group's chunk for one sample and head: the convolved rows, their norms, the cumulative decay,
  and the rows solved against the chunk token by token.
-/
module

public import proofs.«01_k».proof.Defs
public import Idealize.ShloMosaic.Lib.Claim
public import Idealize.ShloMosaic.Lib.Pipeline.ValueKit

@[expose] public section

noncomputable section

namespace Cert.GdnPSpec

open Idealize.ShloMosaic Idealize.ShloMosaic.TcCoe Idealize.SL.Sem

/-- Three by four by 128 lanes: part `p` (queries, keys, values), head `h`, lane `v`. -/
def lane3 (p : Fin 3) (h : Fin 4) (v : Fin 128) : Fin 1536 := ⟨p.val * 512 + h.val * 128 + v.val, by omega⟩

/-- Lane `v` of head `h`. -/
def lane (h : Fin 4) (v : Fin 128) : Fin 512 := ⟨h.val * 128 + v.val, by omega⟩

/-- Row `i` of the three rows of history followed by the chunk's four. -/
def rowAt (x : (⟨3, ![4, 128, 1536]⟩ : Shape).Idx → EReal) (xh : (⟨3, ![3, 128, 1536]⟩ : Shape).Idx → EReal) (i : Fin 7) (b : Fin 128) (l : Fin 1536) : EReal :=
  if h : i.val < 3 then xh (ix3 (⟨i.val, h⟩ : Fin 3) b l) else x (ix3 (⟨i.val - 3, by omega⟩ : Fin 4) b l)

/-- The convolution at token `t`: four rows, weighted lane by lane. -/
def convAt (x : (⟨3, ![4, 128, 1536]⟩ : Shape).Idx → EReal) (xh : (⟨3, ![3, 128, 1536]⟩ : Shape).Idx → EReal) (cw : (⟨2, ![4, 1536]⟩ : Shape).Idx → EReal)
    (t : Fin 4) (b : Fin 128) (l : Fin 1536) : EReal :=
  cw (ix2 0 l) * rowAt x xh (⟨t.val, by omega⟩ : Fin 7) b l + cw (ix2 1 l) * rowAt x xh (⟨1 + t.val, by omega⟩ : Fin 7) b l
    + cw (ix2 2 l) * rowAt x xh (⟨2 + t.val, by omega⟩ : Fin 7) b l + cw (ix2 3 l) * rowAt x xh (⟨3 + t.val, by omega⟩ : Fin 7) b l

/-- The convolution through silu. -/
def actAt (x : (⟨3, ![4, 128, 1536]⟩ : Shape).Idx → EReal) (xh : (⟨3, ![3, 128, 1536]⟩ : Shape).Idx → EReal) (cw : (⟨2, ![4, 1536]⟩ : Shape).Idx → EReal)
    (t : Fin 4) (b : Fin 128) (l : Fin 1536) : EReal := convAt x xh cw t b l * Ideal.logistic (convAt x xh cw t b l)

/-- A row over its norm. -/
def normAt (o : Fin 128 → EReal) (v : Fin 128) : EReal := o v * Ideal.rsqrt ((∑ e : Fin 128, o e * o e) + Ideal.ofBits .f32 0x358637BD#32)

/-- The query row, scaled. -/
def qAt (o : Fin 128 → EReal) (v : Fin 128) : EReal := normAt o v * Ideal.ofBits .f32 0x3DB504F3#32

/-- The soft plus. -/
def softplus (z : EReal) : EReal := max z 0 + Ideal.log1p (Ideal.exp (-(max z (-z))))

/-- Token `t`'s log decay at head `h`. -/
def decayAt (ba : (⟨3, ![4, 128, 128]⟩ : Shape).Idx → EReal) (al dt : (⟨2, ![1, 128]⟩ : Shape).Idx → EReal) (b : Fin 128) (h : Fin 4) (t : Fin 4) : EReal :=
  -(Ideal.exp (al (ix2 0 (⟨4 + h.val, by omega⟩ : Fin 128))))
    * softplus (ba (ix3 t b (⟨4 + h.val, by omega⟩ : Fin 128)) + dt (ix2 0 (⟨4 + h.val, by omega⟩ : Fin 128)))

/-- The log decay up to token `t`. -/
def cumAt (g : Fin 4 → EReal) (t : Fin 4) : EReal := ∑ s : Fin 4, if s ≤ t then g s else 0

/-- Token `t`'s write gate at head `h`. -/
def betaAt (ba : (⟨3, ![4, 128, 128]⟩ : Shape).Idx → EReal) (b : Fin 128) (h : Fin 4) (t : Fin 4) : EReal :=
  Ideal.logistic (ba (ix3 t b (⟨h.val, by omega⟩ : Fin 128)))

/-- The product of two rows. -/
def dot (p q : Fin 128 → EReal) : EReal := ∑ e : Fin 128, p e * q e

/-- How much of token `s`'s row token `t` takes off. -/
def mAt (K : Fin 4 → Fin 128 → EReal) (β c : Fin 4 → EReal) (t s : Fin 4) : EReal := β t * dot (K t) (K s) * Ideal.exp (c t - c s)

/-- The first solved row. -/
def sol0 (r : Fin 4 → EReal) : EReal := r 0
/-- The second. -/
def sol1 (m : Fin 4 → Fin 4 → EReal) (r : Fin 4 → EReal) : EReal := r 1 - m 1 0 * sol0 r
/-- The third. -/
def sol2 (m : Fin 4 → Fin 4 → EReal) (r : Fin 4 → EReal) : EReal := r 2 - m 2 0 * sol0 r - m 2 1 * sol1 m r
/-- The last. -/
def sol3 (m : Fin 4 → Fin 4 → EReal) (r : Fin 4 → EReal) : EReal := r 3 - m 3 0 * sol0 r - m 3 1 * sol1 m r - m 3 2 * sol2 m r

/-- The row of the first result at token `t` of group `k`: keys solved, queries, values solved, keys for the state; then the whole decay, and zeros. -/
def rAt (Q K V : Fin 4 → Fin 128 → EReal) (β c : Fin 4 → EReal) (v : Fin 128) : Fin 24 → EReal :=
  ![sol0 fun t => K t v * β t * Ideal.exp (c t), sol1 (mAt K β c) fun t => K t v * β t * Ideal.exp (c t),
    sol2 (mAt K β c) fun t => K t v * β t * Ideal.exp (c t), sol3 (mAt K β c) fun t => K t v * β t * Ideal.exp (c t),
    Q 0 v * Ideal.exp (c 0), Q 1 v * Ideal.exp (c 1), Q 2 v * Ideal.exp (c 2), Q 3 v * Ideal.exp (c 3),
    sol0 fun t => V t v * β t, sol1 (mAt K β c) fun t => V t v * β t, sol2 (mAt K β c) fun t => V t v * β t, sol3 (mAt K β c) fun t => V t v * β t,
    K 0 v * Ideal.exp (c 3 - c 0), K 1 v * Ideal.exp (c 3 - c 1), K 2 v * Ideal.exp (c 3 - c 2), K 3 v * Ideal.exp (c 3 - c 3),
    Ideal.exp (c 3), 0, 0, 0, 0, 0, 0, 0]

/-- The weight of token `s` for token `t`: nothing from a later token. -/
def weightAt (Q K : Fin 4 → Fin 128 → EReal) (c : Fin 4 → EReal) (t s : Fin 4) : EReal :=
  if s ≤ t then dot (Q t) (K s) * Ideal.exp (c t - c s) else 0

section
variable (x : (⟨3, ![4, 128, 1536]⟩ : Shape).Idx → EReal) (xh : (⟨3, ![3, 128, 1536]⟩ : Shape).Idx → EReal) (ba : (⟨3, ![4, 128, 128]⟩ : Shape).Idx → EReal)
  (cw : (⟨2, ![4, 1536]⟩ : Shape).Idx → EReal) (al dt : (⟨2, ![1, 128]⟩ : Shape).Idx → EReal)

/-- The query rows of sample `b`, head `h`. -/
def qs (b : Fin 128) (h : Fin 4) (t : Fin 4) (v : Fin 128) : EReal := qAt (fun v => actAt x xh cw t b (lane3 0 h v)) v
/-- The key rows. -/
def ks (b : Fin 128) (h : Fin 4) (t : Fin 4) (v : Fin 128) : EReal := normAt (fun v => actAt x xh cw t b (lane3 1 h v)) v
/-- The value rows. -/
def vs (b : Fin 128) (h : Fin 4) (t : Fin 4) (v : Fin 128) : EReal := actAt x xh cw t b (lane3 2 h v)
/-- The cumulative log decays. -/
def cs (b : Fin 128) (h : Fin 4) (t : Fin 4) : EReal := cumAt (decayAt ba al dt b h) t

/-- The first result at row `i`, sample `b`, head `h`, lane `v`. -/
def rowsAt (i : Fin 24) (b : Fin 128) (h : Fin 4) (v : Fin 128) : EReal :=
  rAt (qs x xh cw b h) (ks x xh cw b h) (vs x xh cw b h) (betaAt ba b h) (cs ba al dt b h) v i

/-- The second result at row `4 t + s`, sample `b`, head `h`. -/
def weightsAt (i : Fin 16) (b : Fin 128) (h : Fin 4) : EReal :=
  weightAt (qs x xh cw b h) (ks x xh cw b h) (cs ba al dt b h) (⟨i.val / 4, by omega⟩ : Fin 4) (⟨i.val % 4, by omega⟩ : Fin 4)

/-- The first result. -/
def rows : (⟨3, ![24, 128, 512]⟩ : Shape).Idx → EReal :=
  fun y => rowsAt x xh ba cw al dt (y 0) (y 1) (⟨(y 2).val / 128, by have : (y 2).val < 512 := (y 2).isLt; omega⟩ : Fin 4) (⟨(y 2).val % 128, by omega⟩ : Fin 128)

/-- The second result. -/
def weights : (⟨3, ![16, 128, 512]⟩ : Shape).Idx → EReal :=
  fun y => weightsAt x xh ba cw al dt (y 0) (y 1) (⟨(y 2).val / 128, by have : (y 2).val < 512 := (y 2).isLt; omega⟩ : Fin 4)
end

end Cert.GdnPSpec

end
-- ==== Proof.GdnPBase.lean ====
/-
  The preparation kernel's blocks, entry by entry: the convolved rows, the gates and decays, the queries and the keys.
-/
module

public import proofs.«01_k».proof.Proof.GdnPSpec
public import proofs.«01_k».proof.Proof.Gen.GdnPIdeal.Value

@[expose] public section

set_option maxRecDepth 16384

noncomputable section

namespace Cert.GdnPIdeal.Value

open Idealize.ShloMosaic Idealize.ShloMosaic.TcCoe Idealize.SL.Sem
open Idealize.ShloMosaic.Pipeline (Dat)
open Cert.GdnPIdeal Cert.GdnPIdeal.Gen Cert.GdnPSpec

variable (x0 : Vec Ideal S4x128x1536 .f32) (x1 : Vec Ideal S3x128x1536 .f32) (x2 : Vec Ideal S4x128x128 .f32) (x3 : Vec Ideal S4x1536 .f32)
  (x4 x5 : Vec Ideal S1x128 .f32)

section
variable (ba : (⟨3, ![4, 128, 128]⟩ : Shape).Idx → EReal) (al dt : (⟨2, ![1, 128]⟩ : Shape).Idx → EReal) (b : Fin 128) (h : Fin 4)

theorem lane3_00 (v : Fin 128) : lane3 0 0 v = (⟨v.val, by omega⟩ : Fin 1536) := Fin.ext (by unfold lane3; show 0 * 512 + 0 * 128 + v.val = v.val; omega)

theorem cs_zero : cs ba al dt b h 0 = decayAt ba al dt b h 0 := by
  unfold cs cumAt
  rw [Fin.sum_univ_four, if_pos (by decide), if_neg (by decide), if_neg (by decide), if_neg (by decide)]
  simp only [add_zero]

theorem cs_1 : cs ba al dt b h 1 = cs ba al dt b h 0 + decayAt ba al dt b h 1 := by
  rw [cs_zero]
  unfold cs cumAt
  rw [Fin.sum_univ_four, if_pos (by decide), if_pos (by decide), if_neg (by decide), if_neg (by decide)]
  simp only [add_zero]

theorem cs_2 : cs ba al dt b h 2 = cs ba al dt b h 1 + decayAt ba al dt b h 2 := by
  rw [cs_1, cs_zero]
  unfold cs cumAt
  rw [Fin.sum_univ_four, if_pos (by decide), if_pos (by decide), if_pos (by decide), if_neg (by decide)]
  simp only [add_zero]

theorem cs_3 : cs ba al dt b h 3 = cs ba al dt b h 2 + decayAt ba al dt b h 3 := by
  rw [cs_2, cs_1, cs_zero]
  unfold cs cumAt
  rw [Fin.sum_univ_four, if_pos (by decide), if_pos (by decide), if_pos (by decide), if_pos (by decide)]

end

/-- Token 0's convolved row. -/
theorem act0_apply (b : Fin 128) (l : Fin 1536) : k0_pay378 x0 x1 x2 x3 x4 x5 (ix2 b l) = actAt x0 x1 x3 0 b l := by
  unfold actAt convAt rowAt Ideal.logistic
  pointwise [k0_pay3, k0_pay4, k0_pay5, k0_pay9, k0_pay378]
  rfl

/-- Token 1's convolved row. -/
theorem act1_apply (b : Fin 128) (l : Fin 1536) : k0_pay379 x0 x1 x2 x3 x4 x5 (ix2 b l) = actAt x0 x1 x3 1 b l := by
  unfold actAt convAt rowAt Ideal.logistic
  pointwise [k0_pay3, k0_pay4, k0_pay5, k0_pay6, k0_pay10, k0_pay11, k0_pay12, k0_pay374, k0_pay375, k0_pay376, k0_pay379]
  rfl

/-- Token 2's convolved row. -/
theorem act2_apply (b : Fin 128) (l : Fin 1536) : k0_pay380 x0 x1 x2 x3 x4 x5 (ix2 b l) = actAt x0 x1 x3 2 b l := by
  unfold actAt convAt rowAt Ideal.logistic
  pointwise [k0_pay4, k0_pay5, k0_pay6, k0_pay7, k0_pay13, k0_pay374, k0_pay375, k0_pay376, k0_pay377, k0_pay380]
  rfl

/-- Token 3's convolved row. -/
theorem act3_apply (b : Fin 128) (l : Fin 1536) : k0_pay381 x0 x1 x2 x3 x4 x5 (ix2 b l) = actAt x0 x1 x3 3 b l := by
  unfold actAt convAt rowAt Ideal.logistic
  pointwise [k0_pay5, k0_pay6, k0_pay7, k0_pay8, k0_pay14, k0_pay375, k0_pay376, k0_pay377, k0_pay381]
  rfl

/-- Token 0's write gate at head 0. -/
theorem beta00_apply (b v : Fin 128) : k0_pay385 x0 x1 x2 x3 x4 x5 (ix2 b v) = betaAt x2 b 0 0 := by
  unfold betaAt
  pointwise [k0_pay15, k0_pay16, k0_pay19, k0_pay383, k0_pay385]

/-- Token 0's write gate at head 1. -/
theorem beta01_apply (b v : Fin 128) : k0_pay386 x0 x1 x2 x3 x4 x5 (ix2 b v) = betaAt x2 b 1 0 := by
  unfold betaAt
  pointwise [k0_pay15, k0_pay16, k0_pay20, k0_pay383, k0_pay386]

/-- Token 0's write gate at head 2. -/
theorem beta02_apply (b v : Fin 128) : k0_pay387 x0 x1 x2 x3 x4 x5 (ix2 b v) = betaAt x2 b 2 0 := by
  unfold betaAt
  pointwise [k0_pay15, k0_pay16, k0_pay21, k0_pay383, k0_pay387]

/-- Token 0's write gate at head 3. -/
theorem beta03_apply (b v : Fin 128) : k0_pay388 x0 x1 x2 x3 x4 x5 (ix2 b v) = betaAt x2 b 3 0 := by
  unfold betaAt
  pointwise [k0_pay15, k0_pay16, k0_pay22, k0_pay383, k0_pay388]

/-- Token 1's write gate at head 0. -/
theorem beta10_apply (b v : Fin 128) : k0_pay396 x0 x1 x2 x3 x4 x5 (ix2 b v) = betaAt x2 b 0 1 := by
  unfold betaAt
  pointwise [k0_pay27, k0_pay28, k0_pay32, k0_pay393, k0_pay396]

/-- Token 1's write gate at head 1. -/
theorem beta11_apply (b v : Fin 128) : k0_pay397 x0 x1 x2 x3 x4 x5 (ix2 b v) = betaAt x2 b 1 1 := by
  unfold betaAt
  pointwise [k0_pay27, k0_pay28, k0_pay33, k0_pay393, k0_pay397]

/-- Token 1's write gate at head 2. -/
theorem beta12_apply (b v : Fin 128) : k0_pay398 x0 x1 x2 x3 x4 x5 (ix2 b v) = betaAt x2 b 2 1 := by
  unfold betaAt
  pointwise [k0_pay27, k0_pay28, k0_pay34, k0_pay393, k0_pay398]

/-- Token 1's write gate at head 3. -/
theorem beta13_apply (b v : Fin 128) : k0_pay399 x0 x1 x2 x3 x4 x5 (ix2 b v) = betaAt x2 b 3 1 := by
  unfold betaAt
  pointwise [k0_pay27, k0_pay28, k0_pay35, k0_pay393, k0_pay399]

/-- Token 2's write gate at head 0. -/
theorem beta20_apply (b v : Fin 128) : k0_pay408 x0 x1 x2 x3 x4 x5 (ix2 b v) = betaAt x2 b 0 2 := by
  unfold betaAt
  pointwise [k0_pay40, k0_pay41, k0_pay46, k0_pay404, k0_pay408]

/-- Token 2's write gate at head 1. -/
theorem beta21_apply (b v : Fin 128) : k0_pay409 x0 x1 x2 x3 x4 x5 (ix2 b v) = betaAt x2 b 1 2 := by
  unfold betaAt
  pointwise [k0_pay40, k0_pay41, k0_pay47, k0_pay404, k0_pay409]

/-- Token 2's write gate at head 2. -/
theorem beta22_apply (b v : Fin 128) : k0_pay410 x0 x1 x2 x3 x4 x5 (ix2 b v) = betaAt x2 b 2 2 := by
  unfold betaAt
  pointwise [k0_pay40, k0_pay41, k0_pay48, k0_pay404, k0_pay410]

/-- Token 2's write gate at head 3. -/
theorem beta23_apply (b v : Fin 128) : k0_pay411 x0 x1 x2 x3 x4 x5 (ix2 b v) = betaAt x2 b 3 2 := by
  unfold betaAt
  pointwise [k0_pay40, k0_pay41, k0_pay49, k0_pay404, k0_pay411]

/-- Token 3's write gate at head 0. -/
theorem beta30_apply (b v : Fin 128) : k0_pay420 x0 x1 x2 x3 x4 x5 (ix2 b v) = betaAt x2 b 0 3 := by
  unfold betaAt
  pointwise [k0_pay54, k0_pay55, k0_pay61, k0_pay416, k0_pay420]

/-- Token 3's write gate at head 1. -/
theorem beta31_apply (b v : Fin 128) : k0_pay421 x0 x1 x2 x3 x4 x5 (ix2 b v) = betaAt x2 b 1 3 := by
  unfold betaAt
  pointwise [k0_pay54, k0_pay55, k0_pay62, k0_pay416, k0_pay421]

/-- Token 3's write gate at head 2. -/
theorem beta32_apply (b v : Fin 128) : k0_pay422 x0 x1 x2 x3 x4 x5 (ix2 b v) = betaAt x2 b 2 3 := by
  unfold betaAt
  pointwise [k0_pay54, k0_pay55, k0_pay63, k0_pay416, k0_pay422]

/-- Token 3's write gate at head 3. -/
theorem beta33_apply (b v : Fin 128) : k0_pay423 x0 x1 x2 x3 x4 x5 (ix2 b v) = betaAt x2 b 3 3 := by
  unfold betaAt
  pointwise [k0_pay54, k0_pay55, k0_pay64, k0_pay416, k0_pay423]

/-- The log decay up to token 0 at head 0. -/
theorem gc00_apply (b v : Fin 128) : k0_pay389 x0 x1 x2 x3 x4 x5 (ix2 b v) = cs x2 x4 x5 b 0 0 := by
  have e : (Ideal.ofBits .f32 0x00000000#32) = 0 := Ideal.ofBits_zero .f32
  rw [cs_zero]
  unfold decayAt softplus
  pointwise [k0_pay15, k0_pay17, k0_pay18, k0_pay23, k0_pay382, k0_pay384, k0_pay389]
  simp only [e, zero_sub]
  rfl

/-- The log decay up to token 0 at head 1. -/
theorem gc01_apply (b v : Fin 128) : k0_pay390 x0 x1 x2 x3 x4 x5 (ix2 b v) = cs x2 x4 x5 b 1 0 := by
  have e : (Ideal.ofBits .f32 0x00000000#32) = 0 := Ideal.ofBits_zero .f32
  rw [cs_zero]
  unfold decayAt softplus
  pointwise [k0_pay15, k0_pay17, k0_pay18, k0_pay24, k0_pay382, k0_pay384, k0_pay390]
  simp only [e, zero_sub]
  rfl

/-- The log decay up to token 0 at head 2. -/
theorem gc02_apply (b v : Fin 128) : k0_pay391 x0 x1 x2 x3 x4 x5 (ix2 b v) = cs x2 x4 x5 b 2 0 := by
  have e : (Ideal.ofBits .f32 0x00000000#32) = 0 := Ideal.ofBits_zero .f32
  rw [cs_zero]
  unfold decayAt softplus
  pointwise [k0_pay15, k0_pay17, k0_pay18, k0_pay25, k0_pay382, k0_pay384, k0_pay391]
  simp only [e, zero_sub]
  rfl

/-- The log decay up to token 0 at head 3. -/
theorem gc03_apply (b v : Fin 128) : k0_pay392 x0 x1 x2 x3 x4 x5 (ix2 b v) = cs x2 x4 x5 b 3 0 := by
  have e : (Ideal.ofBits .f32 0x00000000#32) = 0 := Ideal.ofBits_zero .f32
  rw [cs_zero]
  unfold decayAt softplus
  pointwise [k0_pay15, k0_pay17, k0_pay18, k0_pay26, k0_pay382, k0_pay384, k0_pay392]
  simp only [e, zero_sub]
  rfl

/-- The log decay up to token 1 at head 0. -/
theorem gc10_apply (b v : Fin 128) : k0_pay400 x0 x1 x2 x3 x4 x5 (ix2 b v) = cs x2 x4 x5 b 0 1 := by
  have e : (Ideal.ofBits .f32 0x00000000#32) = 0 := Ideal.ofBits_zero .f32
  rw [cs_1]
  unfold decayAt softplus
  pointwise [k0_pay27, k0_pay29, k0_pay30, k0_pay31, k0_pay36, k0_pay394, k0_pay395, k0_pay400, gc00_apply]
  simp only [e, zero_sub]
  rfl

/-- The log decay up to token 1 at head 1. -/
theorem gc11_apply (b v : Fin 128) : k0_pay401 x0 x1 x2 x3 x4 x5 (ix2 b v) = cs x2 x4 x5 b 1 1 := by
  have e : (Ideal.ofBits .f32 0x00000000#32) = 0 := Ideal.ofBits_zero .f32
  rw [cs_1]
  unfold decayAt softplus
  pointwise [k0_pay27, k0_pay29, k0_pay30, k0_pay31, k0_pay37, k0_pay394, k0_pay395, k0_pay401, gc01_apply]
  simp only [e, zero_sub]
  rfl

/-- The log decay up to token 1 at head 2. -/
theorem gc12_apply (b v : Fin 128) : k0_pay402 x0 x1 x2 x3 x4 x5 (ix2 b v) = cs x2 x4 x5 b 2 1 := by
  have e : (Ideal.ofBits .f32 0x00000000#32) = 0 := Ideal.ofBits_zero .f32
  rw [cs_1]
  unfold decayAt softplus
  pointwise [k0_pay27, k0_pay29, k0_pay30, k0_pay31, k0_pay38, k0_pay394, k0_pay395, k0_pay402, gc02_apply]
  simp only [e, zero_sub]
  rfl

/-- The log decay up to token 1 at head 3. -/
theorem gc13_apply (b v : Fin 128) : k0_pay403 x0 x1 x2 x3 x4 x5 (ix2 b v) = cs x2 x4 x5 b 3 1 := by
  have e : (Ideal.ofBits .f32 0x00000000#32) = 0 := Ideal.ofBits_zero .f32
  rw [cs_1]
  unfold decayAt softplus
  pointwise [k0_pay27, k0_pay29, k0_pay30, k0_pay31, k0_pay39, k0_pay394, k0_pay395, k0_pay403, gc03_apply]
  simp only [e, zero_sub]
  rfl

/-- The log decay up to token 2 at head 0. -/
theorem gc20_apply (b v : Fin 128) : k0_pay412 x0 x1 x2 x3 x4 x5 (ix2 b v) = cs x2 x4 x5 b 0 2 := by
  have e : (Ideal.ofBits .f32 0x00000000#32) = 0 := Ideal.ofBits_zero .f32
  rw [cs_2]
  unfold decayAt softplus
  pointwise [k0_pay40, k0_pay42, k0_pay43, k0_pay44, k0_pay45, k0_pay50, k0_pay405, k0_pay406, k0_pay407, k0_pay412, gc10_apply]
  simp only [e, zero_sub]
  rfl

/-- The log decay up to token 2 at head 1. -/
theorem gc21_apply (b v : Fin 128) : k0_pay413 x0 x1 x2 x3 x4 x5 (ix2 b v) = cs x2 x4 x5 b 1 2 := by
  have e : (Ideal.ofBits .f32 0x00000000#32) = 0 := Ideal.ofBits_zero .f32
  rw [cs_2]
  unfold decayAt softplus
  pointwise [k0_pay40, k0_pay42, k0_pay43, k0_pay44, k0_pay45, k0_pay51, k0_pay405, k0_pay406, k0_pay407, k0_pay413, gc11_apply]
  simp only [e, zero_sub]
  rfl

/-- The log decay up to token 2 at head 2. -/
theorem gc22_apply (b v : Fin 128) : k0_pay414 x0 x1 x2 x3 x4 x5 (ix2 b v) = cs x2 x4 x5 b 2 2 := by
  have e : (Ideal.ofBits .f32 0x00000000#32) = 0 := Ideal.ofBits_zero .f32
  rw [cs_2]
  unfold decayAt softplus
  pointwise [k0_pay40, k0_pay42, k0_pay43, k0_pay44, k0_pay45, k0_pay52, k0_pay405, k0_pay406, k0_pay407, k0_pay414, gc12_apply]
  simp only [e, zero_sub]
  rfl

/-- The log decay up to token 2 at head 3. -/
theorem gc23_apply (b v : Fin 128) : k0_pay415 x0 x1 x2 x3 x4 x5 (ix2 b v) = cs x2 x4 x5 b 3 2 := by
  have e : (Ideal.ofBits .f32 0x00000000#32) = 0 := Ideal.ofBits_zero .f32
  rw [cs_2]
  unfold decayAt softplus
  pointwise [k0_pay40, k0_pay42, k0_pay43, k0_pay44, k0_pay45, k0_pay53, k0_pay405, k0_pay406, k0_pay407, k0_pay415, gc13_apply]
  simp only [e, zero_sub]
  rfl

/-- The log decay up to token 3 at head 0. -/
theorem gc30_apply (b v : Fin 128) : k0_pay424 x0 x1 x2 x3 x4 x5 (ix2 b v) = cs x2 x4 x5 b 0 3 := by
  have e : (Ideal.ofBits .f32 0x00000000#32) = 0 := Ideal.ofBits_zero .f32
  rw [cs_3]
  unfold decayAt softplus
  pointwise [k0_pay54, k0_pay56, k0_pay57, k0_pay58, k0_pay59, k0_pay60, k0_pay65, k0_pay417, k0_pay418, k0_pay419, k0_pay424, gc20_apply]
  simp only [e, zero_sub]
  rfl

/-- The log decay up to token 3 at head 1. -/
theorem gc31_apply (b v : Fin 128) : k0_pay425 x0 x1 x2 x3 x4 x5 (ix2 b v) = cs x2 x4 x5 b 1 3 := by
  have e : (Ideal.ofBits .f32 0x00000000#32) = 0 := Ideal.ofBits_zero .f32
  rw [cs_3]
  unfold decayAt softplus
  pointwise [k0_pay54, k0_pay56, k0_pay57, k0_pay58, k0_pay59, k0_pay60, k0_pay66, k0_pay417, k0_pay418, k0_pay419, k0_pay425, gc21_apply]
  simp only [e, zero_sub]
  rfl

/-- The log decay up to token 3 at head 2. -/
theorem gc32_apply (b v : Fin 128) : k0_pay426 x0 x1 x2 x3 x4 x5 (ix2 b v) = cs x2 x4 x5 b 2 3 := by
  have e : (Ideal.ofBits .f32 0x00000000#32) = 0 := Ideal.ofBits_zero .f32
  rw [cs_3]
  unfold decayAt softplus
  pointwise [k0_pay54, k0_pay56, k0_pay57, k0_pay58, k0_pay59, k0_pay60, k0_pay67, k0_pay417, k0_pay418, k0_pay419, k0_pay426, gc22_apply]
  simp only [e, zero_sub]
  rfl

/-- The log decay up to token 3 at head 3. -/
theorem gc33_apply (b v : Fin 128) : k0_pay427 x0 x1 x2 x3 x4 x5 (ix2 b v) = cs x2 x4 x5 b 3 3 := by
  have e : (Ideal.ofBits .f32 0x00000000#32) = 0 := Ideal.ofBits_zero .f32
  rw [cs_3]
  unfold decayAt softplus
  pointwise [k0_pay54, k0_pay56, k0_pay57, k0_pay58, k0_pay59, k0_pay60, k0_pay68, k0_pay417, k0_pay418, k0_pay419, k0_pay427, gc23_apply]
  simp only [e, zero_sub]
  rfl

/-- Token 0's query row at head 0. -/
theorem q00_apply (b v : Fin 128) : k0_pay429 x0 x1 x2 x3 x4 x5 (ix2 b v) = qs x0 x1 x3 b 0 0 v := by
  unfold qs qAt normAt
  pointwise [k0_pay71, k0_pay429, act0_apply]
  simp only [lane3_00]

/-- Token 1's query row at head 0. -/
theorem q10_apply (b v : Fin 128) : k0_pay432 x0 x1 x2 x3 x4 x5 (ix2 b v) = qs x0 x1 x3 b 0 1 v := by
  unfold qs qAt normAt
  pointwise [k0_pay75, k0_pay432, act1_apply]
  simp only [lane3_00]

/-- Token 2's query row at head 0. -/
theorem q20_apply (b v : Fin 128) : k0_pay434 x0 x1 x2 x3 x4 x5 (ix2 b v) = qs x0 x1 x3 b 0 2 v := by
  unfold qs qAt normAt
  pointwise [k0_pay78, k0_pay434, act2_apply]
  simp only [lane3_00]

/-- Token 3's query row at head 0. -/
theorem q30_apply (b v : Fin 128) : k0_pay436 x0 x1 x2 x3 x4 x5 (ix2 b v) = qs x0 x1 x3 b 0 3 v := by
  unfold qs qAt normAt
  pointwise [k0_pay81, k0_pay83, k0_pay84, k0_pay436, act3_apply]
  simp only [lane3_00]

/-- Token 0's query row at head 1. -/
theorem q01_apply (b v : Fin 128) : k0_pay445 x0 x1 x2 x3 x4 x5 (ix2 b v) = qs x0 x1 x3 b 1 0 v := by
  unfold qs qAt normAt
  pointwise [k0_pay149, k0_pay445, act0_apply]
  rfl

/-- Token 1's query row at head 1. -/
theorem q11_apply (b v : Fin 128) : k0_pay448 x0 x1 x2 x3 x4 x5 (ix2 b v) = qs x0 x1 x3 b 1 1 v := by
  unfold qs qAt normAt
  pointwise [k0_pay153, k0_pay448, act1_apply]
  rfl

/-- Token 2's query row at head 1. -/
theorem q21_apply (b v : Fin 128) : k0_pay451 x0 x1 x2 x3 x4 x5 (ix2 b v) = qs x0 x1 x3 b 1 2 v := by
  unfold qs qAt normAt
  pointwise [k0_pay157, k0_pay451, act2_apply]
  rfl

/-- Token 3's query row at head 1. -/
theorem q31_apply (b v : Fin 128) : k0_pay453 x0 x1 x2 x3 x4 x5 (ix2 b v) = qs x0 x1 x3 b 1 3 v := by
  unfold qs qAt normAt
  pointwise [k0_pay160, k0_pay453, act3_apply]
  rfl

/-- Token 0's query row at head 2. -/
theorem q02_apply (b v : Fin 128) : k0_pay462 x0 x1 x2 x3 x4 x5 (ix2 b v) = qs x0 x1 x3 b 2 0 v := by
  unfold qs qAt normAt
  pointwise [k0_pay224, k0_pay226, k0_pay227, k0_pay462, act0_apply]
  rfl

/-- Token 1's query row at head 2. -/
theorem q12_apply (b v : Fin 128) : k0_pay465 x0 x1 x2 x3 x4 x5 (ix2 b v) = qs x0 x1 x3 b 2 1 v := by
  unfold qs qAt normAt
  pointwise [k0_pay230, k0_pay465, act1_apply]
  rfl

/-- Token 2's query row at head 2. -/
theorem q22_apply (b v : Fin 128) : k0_pay467 x0 x1 x2 x3 x4 x5 (ix2 b v) = qs x0 x1 x3 b 2 2 v := by
  unfold qs qAt normAt
  pointwise [k0_pay234, k0_pay235, k0_pay467, act2_apply]
  rfl

/-- Token 3's query row at head 2. -/
theorem q32_apply (b v : Fin 128) : k0_pay469 x0 x1 x2 x3 x4 x5 (ix2 b v) = qs x0 x1 x3 b 2 3 v := by
  unfold qs qAt normAt
  pointwise [k0_pay238, k0_pay469, act3_apply]
  rfl

/-- Token 0's query row at head 3. -/
theorem q03_apply (b v : Fin 128) : k0_pay477 x0 x1 x2 x3 x4 x5 (ix2 b v) = qs x0 x1 x3 b 3 0 v := by
  unfold qs qAt normAt
  pointwise [k0_pay300, k0_pay477, act0_apply]
  rfl

/-- Token 1's query row at head 3. -/
theorem q13_apply (b v : Fin 128) : k0_pay480 x0 x1 x2 x3 x4 x5 (ix2 b v) = qs x0 x1 x3 b 3 1 v := by
  unfold qs qAt normAt
  pointwise [k0_pay303, k0_pay480, act1_apply]
  rfl

/-- Token 2's query row at head 3. -/
theorem q23_apply (b v : Fin 128) : k0_pay482 x0 x1 x2 x3 x4 x5 (ix2 b v) = qs x0 x1 x3 b 3 2 v := by
  unfold qs qAt normAt
  pointwise [k0_pay306, k0_pay482, act2_apply]
  rfl

/-- Token 3's query row at head 3. -/
theorem q33_apply (b v : Fin 128) : k0_pay484 x0 x1 x2 x3 x4 x5 (ix2 b v) = qs x0 x1 x3 b 3 3 v := by
  unfold qs qAt normAt
  pointwise [k0_pay309, k0_pay311, k0_pay312, k0_pay313, k0_pay484, act3_apply]
  rfl

/-- Token 0's key row at head 0. -/
theorem k00_apply (b v : Fin 128) : k0_pay430 x0 x1 x2 x3 x4 x5 (ix2 b v) = ks x0 x1 x3 b 0 0 v := by
  unfold ks normAt
  pointwise [k0_pay70, k0_pay72, k0_pay73, k0_pay430, act0_apply]
  rfl

/-- Token 1's key row at head 0. -/
theorem k10_apply (b v : Fin 128) : k0_pay433 x0 x1 x2 x3 x4 x5 (ix2 b v) = ks x0 x1 x3 b 0 1 v := by
  unfold ks normAt
  pointwise [k0_pay76, k0_pay433, act1_apply]
  rfl

/-- Token 2's key row at head 0. -/
theorem k20_apply (b v : Fin 128) : k0_pay435 x0 x1 x2 x3 x4 x5 (ix2 b v) = ks x0 x1 x3 b 0 2 v := by
  unfold ks normAt
  pointwise [k0_pay79, k0_pay435, act2_apply]
  rfl

/-- Token 3's key row at head 0. -/
theorem k30_apply (b v : Fin 128) : k0_pay437 x0 x1 x2 x3 x4 x5 (ix2 b v) = ks x0 x1 x3 b 0 3 v := by
  unfold ks normAt
  pointwise [k0_pay82, k0_pay85, k0_pay437, act3_apply]
  rfl

/-- Token 0's key row at head 1. -/
theorem k01_apply (b v : Fin 128) : k0_pay446 x0 x1 x2 x3 x4 x5 (ix2 b v) = ks x0 x1 x3 b 1 0 v := by
  unfold ks normAt
  pointwise [k0_pay150, k0_pay446, act0_apply]
  rfl

/-- Token 1's key row at head 1. -/
theorem k11_apply (b v : Fin 128) : k0_pay449 x0 x1 x2 x3 x4 x5 (ix2 b v) = ks x0 x1 x3 b 1 1 v := by
  unfold ks normAt
  pointwise [k0_pay152, k0_pay154, k0_pay155, k0_pay449, act1_apply]
  rfl

/-- Token 2's key row at head 1. -/
theorem k21_apply (b v : Fin 128) : k0_pay452 x0 x1 x2 x3 x4 x5 (ix2 b v) = ks x0 x1 x3 b 1 2 v := by
  unfold ks normAt
  pointwise [k0_pay158, k0_pay452, act2_apply]
  rfl

/-- Token 3's key row at head 1. -/
theorem k31_apply (b v : Fin 128) : k0_pay454 x0 x1 x2 x3 x4 x5 (ix2 b v) = ks x0 x1 x3 b 1 3 v := by
  unfold ks normAt
  pointwise [k0_pay161, k0_pay454, act3_apply]
  rfl

/-- Token 0's key row at head 2. -/
theorem k02_apply (b v : Fin 128) : k0_pay463 x0 x1 x2 x3 x4 x5 (ix2 b v) = ks x0 x1 x3 b 2 0 v := by
  unfold ks normAt
  pointwise [k0_pay225, k0_pay228, k0_pay463, act0_apply]
  rfl

/-- Token 1's key row at head 2. -/
theorem k12_apply (b v : Fin 128) : k0_pay466 x0 x1 x2 x3 x4 x5 (ix2 b v) = ks x0 x1 x3 b 2 1 v := by
  unfold ks normAt
  pointwise [k0_pay231, k0_pay466, act1_apply]
  rfl

/-- Token 2's key row at head 2. -/
theorem k22_apply (b v : Fin 128) : k0_pay468 x0 x1 x2 x3 x4 x5 (ix2 b v) = ks x0 x1 x3 b 2 2 v := by
  unfold ks normAt
  pointwise [k0_pay233, k0_pay236, k0_pay468, act2_apply]
  rfl

/-- Token 3's key row at head 2. -/
theorem k32_apply (b v : Fin 128) : k0_pay470 x0 x1 x2 x3 x4 x5 (ix2 b v) = ks x0 x1 x3 b 2 3 v := by
  unfold ks normAt
  pointwise [k0_pay239, k0_pay470, act3_apply]
  rfl

/-- Token 0's key row at head 3. -/
theorem k03_apply (b v : Fin 128) : k0_pay478 x0 x1 x2 x3 x4 x5 (ix2 b v) = ks x0 x1 x3 b 3 0 v := by
  unfold ks normAt
  pointwise [k0_pay301, k0_pay478, act0_apply]
  rfl

/-- Token 1's key row at head 3. -/
theorem k13_apply (b v : Fin 128) : k0_pay481 x0 x1 x2 x3 x4 x5 (ix2 b v) = ks x0 x1 x3 b 3 1 v := by
  unfold ks normAt
  pointwise [k0_pay304, k0_pay481, act1_apply]
  rfl

/-- Token 2's key row at head 3. -/
theorem k23_apply (b v : Fin 128) : k0_pay483 x0 x1 x2 x3 x4 x5 (ix2 b v) = ks x0 x1 x3 b 3 2 v := by
  unfold ks normAt
  pointwise [k0_pay307, k0_pay483, act2_apply]
  rfl

/-- Token 3's key row at head 3. -/
theorem k33_apply (b v : Fin 128) : k0_pay485 x0 x1 x2 x3 x4 x5 (ix2 b v) = ks x0 x1 x3 b 3 3 v := by
  unfold ks normAt
  pointwise [k0_pay310, k0_pay314, k0_pay485, act3_apply]
  rfl

end Cert.GdnPIdeal.Value

end
-- ==== Proof.GdnPPlace.lean ====
/-
  Where the preparation kernel's stores lie, and the two results read there.
-/
module

public import proofs.«01_k».proof.Proof.GdnPBase

@[expose] public section

set_option maxRecDepth 16384

noncomputable section

namespace Cert.GdnPIdeal.Value

open Idealize.ShloMosaic Idealize.ShloMosaic.TcCoe Idealize.SL.Sem
open Idealize.ShloMosaic.Pipeline (Dat)
open Cert.GdnPIdeal Cert.GdnPIdeal.Gen Cert.GdnPSpec

/-- The rectangle of row `i`, lanes from `l` on, fits. -/
theorem fits {n : ℕ} (i l : ℕ) (hi : i < n) (hl : l + 128 ≤ 512) :
    ∀ d, (![i, 0, l] : Fin 3 → ℕ) d + S1x128x128.size d ≤ (⟨3, ![n, 128, 512]⟩ : Shape).size d := by
  intro d
  fin_cases d
  · show i + 1 ≤ n
    omega
  · show 0 + 128 ≤ 128
    omega
  · show l + 128 ≤ 512
    omega

theorem emb24 (i l h : ℕ) (hi : i < 24) (hl : l + 128 ≤ 512) (hh : h < 4) (e : l = h * 128) (y : Fin 1) (b v : Fin 128) :
    (Rect.unit (s := S24x128x512) ![i, 0, l] S1x128x128.size (fits i l hi hl)).emb (ix3 y b v) = ix3 (⟨i, hi⟩ : Fin 24) b (lane (⟨h, hh⟩ : Fin 4) v) := by
  funext d
  fin_cases d
  · exact Fin.ext (by show i + 1 * y.val = i; omega)
  · exact Fin.ext (by show 0 + 1 * b.val = b.val; omega)
  · exact Fin.ext (by show l + 1 * v.val = h * 128 + v.val; omega)

theorem emb16 (i l h : ℕ) (hi : i < 16) (hl : l + 128 ≤ 512) (hh : h < 4) (e : l = h * 128) (y : Fin 1) (b v : Fin 128) :
    (Rect.unit (s := S16x128x512) ![i, 0, l] S1x128x128.size (fits i l hi hl)).emb (ix3 y b v) = ix3 (⟨i, hi⟩ : Fin 16) b (lane (⟨h, hh⟩ : Fin 4) v) := by
  funext d
  fin_cases d
  · exact Fin.ext (by show i + 1 * y.val = i; omega)
  · exact Fin.ext (by show 0 + 1 * b.val = b.val; omega)
  · exact Fin.ext (by show l + 1 * v.val = h * 128 + v.val; omega)

theorem lane_head (h : Fin 4) (v : Fin 128) : (⟨(lane h v).val / 128, by have := (lane h v).isLt; omega⟩ : Fin 4) = h :=
  Fin.ext (by unfold lane; show (h.val * 128 + v.val) / 128 = h.val; omega)

theorem lane_rest (h : Fin 4) (v : Fin 128) : (⟨(lane h v).val % 128, by omega⟩ : Fin 128) = v :=
  Fin.ext (by unfold lane; show (h.val * 128 + v.val) % 128 = v.val; omega)

variable (x0 : Vec Ideal S4x128x1536 .f32) (x1 : Vec Ideal S3x128x1536 .f32) (x2 : Vec Ideal S4x128x128 .f32) (x3 : Vec Ideal S4x1536 .f32)
  (x4 x5 : Vec Ideal S1x128 .f32)

theorem rows_lane (i : Fin 24) (b : Fin 128) (h : Fin 4) (v : Fin 128) : rows x0 x1 x2 x3 x4 x5 (ix3 i b (lane h v)) = rowsAt x0 x1 x2 x3 x4 x5 i b h v :=
  (congrArg (fun k => rowsAt x0 x1 x2 x3 x4 x5 i b k _) (lane_head h v)).trans (congrArg (rowsAt x0 x1 x2 x3 x4 x5 i b h) (lane_rest h v))

theorem weights_lane (i : Fin 16) (b : Fin 128) (h : Fin 4) (v : Fin 128) : weights x0 x1 x2 x3 x4 x5 (ix3 i b (lane h v)) = weightsAt x0 x1 x2 x3 x4 x5 i b h :=
  congrArg (fun k => weightsAt x0 x1 x2 x3 x4 x5 i b k) (lane_head h v)

theorem weightsAt_low (i : Fin 16) (t s : Fin 4) (b : Fin 128) (h : Fin 4) (ht : (⟨i.val / 4, by omega⟩ : Fin 4) = t) (hs : (⟨i.val % 4, by omega⟩ : Fin 4) = s)
    (l : s ≤ t) : weightsAt x0 x1 x2 x3 x4 x5 i b h
      = dot (qs x0 x1 x3 b h t) (ks x0 x1 x3 b h s) * Ideal.exp (cs x2 x4 x5 b h t - cs x2 x4 x5 b h s) := by
  unfold weightsAt weightAt
  rw [ht, hs, if_pos l]

theorem weightsAt_high (i : Fin 16) (t s : Fin 4) (b : Fin 128) (h : Fin 4) (ht : (⟨i.val / 4, by omega⟩ : Fin 4) = t) (hs : (⟨i.val % 4, by omega⟩ : Fin 4) = s)
    (l : ¬ s ≤ t) : weightsAt x0 x1 x2 x3 x4 x5 i b h = 0 := by
  unfold weightsAt weightAt
  rw [ht, hs, if_neg l]

/-- The first result, of the loaded windows. -/
def blkRows : Vec Ideal S24x128x512 .f32 := rows x0 x1 x2 x3 x4 x5

/-- The second. -/
def blkWeights : Vec Ideal S16x128x512 .f32 := weights x0 x1 x2 x3 x4 x5

end Cert.GdnPIdeal.Value

end
-- ==== Proof.GdnPStoresA.lean ====
/-
  The preparation kernel's stores at heads 0 and 1, entry by entry.
-/
module

public import proofs.«01_k».proof.Proof.GdnPPlace

@[expose] public section

set_option maxRecDepth 16384

noncomputable section

namespace Cert.GdnPIdeal.Value

open Idealize.ShloMosaic Idealize.ShloMosaic.TcCoe Idealize.SL.Sem
open Idealize.ShloMosaic.Pipeline (Dat)
open Cert.GdnPIdeal Cert.GdnPIdeal.Gen Cert.GdnPSpec

variable (x0 : Vec Ideal S4x128x1536 .f32) (x1 : Vec Ideal S3x128x1536 .f32) (x2 : Vec Ideal S4x128x128 .f32) (x3 : Vec Ideal S4x1536 .f32)
  (x4 x5 : Vec Ideal S1x128 .f32)

/-- Row 23 at head 1. -/
theorem row23_1 (y : S1x128x128.Idx) : (k0_pay223 (k0_pay428 x0 x1 x2 x3 x4 x5) : FVec Ideal S1x128x128 .f32) y = blkRows x0 x1 x2 x3 x4 x5 (r0_92.emb y) := by
  idx_vars y
  refine Eq.trans ?_ ((congrArg (rows x0 x1 x2 x3 x4 x5) (emb24 23 128 1 (by decide) (by decide) (by decide) rfl y0 y1 y2)).trans (rows_lane x0 x1 x2 x3 x4 x5 _ y1 _ y2)).symm
  pointwise [k0_pay69, k0_pay223, k0_pay428]
  all_goals first | rfl | exact Ideal.ofBits_zero .f32

/-- Row 22 at head 1. -/
theorem row22_1 (y : S1x128x128.Idx) : (k0_pay222 (k0_pay428 x0 x1 x2 x3 x4 x5) : FVec Ideal S1x128x128 .f32) y = blkRows x0 x1 x2 x3 x4 x5 (r0_91.emb y) := by
  idx_vars y
  refine Eq.trans ?_ ((congrArg (rows x0 x1 x2 x3 x4 x5) (emb24 22 128 1 (by decide) (by decide) (by decide) rfl y0 y1 y2)).trans (rows_lane x0 x1 x2 x3 x4 x5 _ y1 _ y2)).symm
  pointwise [k0_pay69, k0_pay222, k0_pay428]
  all_goals first | rfl | exact Ideal.ofBits_zero .f32

/-- Row 21 at head 1. -/
theorem row21_1 (y : S1x128x128.Idx) : (k0_pay221 (k0_pay428 x0 x1 x2 x3 x4 x5) : FVec Ideal S1x128x128 .f32) y = blkRows x0 x1 x2 x3 x4 x5 (r0_90.emb y) := by
  idx_vars y
  refine Eq.trans ?_ ((congrArg (rows x0 x1 x2 x3 x4 x5) (emb24 21 128 1 (by decide) (by decide) (by decide) rfl y0 y1 y2)).trans (rows_lane x0 x1 x2 x3 x4 x5 _ y1 _ y2)).symm
  pointwise [k0_pay69, k0_pay221, k0_pay428]
  all_goals first | rfl | exact Ideal.ofBits_zero .f32

/-- Row 20 at head 1. -/
theorem row20_1 (y : S1x128x128.Idx) : (k0_pay220 (k0_pay428 x0 x1 x2 x3 x4 x5) : FVec Ideal S1x128x128 .f32) y = blkRows x0 x1 x2 x3 x4 x5 (r0_89.emb y) := by
  idx_vars y
  refine Eq.trans ?_ ((congrArg (rows x0 x1 x2 x3 x4 x5) (emb24 20 128 1 (by decide) (by decide) (by decide) rfl y0 y1 y2)).trans (rows_lane x0 x1 x2 x3 x4 x5 _ y1 _ y2)).symm
  pointwise [k0_pay69, k0_pay220, k0_pay428]
  all_goals first | rfl | exact Ideal.ofBits_zero .f32

/-- Row 19 at head 1. -/
theorem row19_1 (y : S1x128x128.Idx) : (k0_pay219 (k0_pay428 x0 x1 x2 x3 x4 x5) : FVec Ideal S1x128x128 .f32) y = blkRows x0 x1 x2 x3 x4 x5 (r0_88.emb y) := by
  idx_vars y
  refine Eq.trans ?_ ((congrArg (rows x0 x1 x2 x3 x4 x5) (emb24 19 128 1 (by decide) (by decide) (by decide) rfl y0 y1 y2)).trans (rows_lane x0 x1 x2 x3 x4 x5 _ y1 _ y2)).symm
  pointwise [k0_pay69, k0_pay219, k0_pay428]
  all_goals first | rfl | exact Ideal.ofBits_zero .f32

/-- Row 18 at head 1. -/
theorem row18_1 (y : S1x128x128.Idx) : (k0_pay218 (k0_pay428 x0 x1 x2 x3 x4 x5) : FVec Ideal S1x128x128 .f32) y = blkRows x0 x1 x2 x3 x4 x5 (r0_87.emb y) := by
  idx_vars y
  refine Eq.trans ?_ ((congrArg (rows x0 x1 x2 x3 x4 x5) (emb24 18 128 1 (by decide) (by decide) (by decide) rfl y0 y1 y2)).trans (rows_lane x0 x1 x2 x3 x4 x5 _ y1 _ y2)).symm
  pointwise [k0_pay69, k0_pay218, k0_pay428]
  all_goals first | rfl | exact Ideal.ofBits_zero .f32

/-- Row 17 at head 1. -/
theorem row17_1 (y : S1x128x128.Idx) : (k0_pay217 (k0_pay428 x0 x1 x2 x3 x4 x5) : FVec Ideal S1x128x128 .f32) y = blkRows x0 x1 x2 x3 x4 x5 (r0_86.emb y) := by
  idx_vars y
  refine Eq.trans ?_ ((congrArg (rows x0 x1 x2 x3 x4 x5) (emb24 17 128 1 (by decide) (by decide) (by decide) rfl y0 y1 y2)).trans (rows_lane x0 x1 x2 x3 x4 x5 _ y1 _ y2)).symm
  pointwise [k0_pay69, k0_pay217, k0_pay428]
  all_goals first | rfl | exact Ideal.ofBits_zero .f32

/-- Row 16 at head 1. -/
theorem row16_1 (y : S1x128x128.Idx) : (k0_pay216 (k0_pay215 (k0_pay425 x0 x1 x2 x3 x4 x5)) : FVec Ideal S1x128x128 .f32) y = blkRows x0 x1 x2 x3 x4 x5 (r0_85.emb y) := by
  idx_vars y
  refine Eq.trans ?_ ((congrArg (rows x0 x1 x2 x3 x4 x5) (emb24 16 128 1 (by decide) (by decide) (by decide) rfl y0 y1 y2)).trans (rows_lane x0 x1 x2 x3 x4 x5 _ y1 _ y2)).symm
  have e : rowsAt x0 x1 x2 x3 x4 x5 (⟨16, by decide⟩ : Fin 24) y1 (⟨1, by decide⟩ : Fin 4) y2 = Ideal.exp (cs x2 x4 x5 y1 1 3) := rfl
  rw [e]
  pointwise [k0_pay215, k0_pay216, gc31_apply]
  all_goals rfl

/-- Row 15 at head 1. -/
theorem row15_1 (y : S1x128x128.Idx) : (k0_pay209 (k0_pay425 x0 x1 x2 x3 x4 x5) (k0_pay454 x0 x1 x2 x3 x4 x5) : FVec Ideal S1x128x128 .f32) y = blkRows x0 x1 x2 x3 x4 x5 (r0_80.emb y) := by
  idx_vars y
  refine Eq.trans ?_ ((congrArg (rows x0 x1 x2 x3 x4 x5) (emb24 15 128 1 (by decide) (by decide) (by decide) rfl y0 y1 y2)).trans (rows_lane x0 x1 x2 x3 x4 x5 _ y1 _ y2)).symm
  have e : rowsAt x0 x1 x2 x3 x4 x5 (⟨15, by decide⟩ : Fin 24) y1 (⟨1, by decide⟩ : Fin 4) y2 = ks x0 x1 x3 y1 1 3 y2 * Ideal.exp (cs x2 x4 x5 y1 1 3 - cs x2 x4 x5 y1 1 3) := rfl
  rw [e]
  pointwise [k0_pay209, gc31_apply, k31_apply]
  all_goals rfl

/-- Row 11 at head 1. -/
theorem row11_1 (y : S1x128x128.Idx) : (k0_pay208 (k0_pay178 (k0_pay390 x0 x1 x2 x3 x4 x5) (k0_pay401 x0 x1 x2 x3 x4 x5) (k0_pay413 x0 x1 x2 x3 x4 x5) (k0_pay421 x0 x1 x2 x3 x4 x5) (k0_pay425 x0 x1 x2 x3 x4 x5) (k0_pay449 x0 x1 x2 x3 x4 x5) (k0_pay452 x0 x1 x2 x3 x4 x5) (k0_pay454 x0 x1 x2 x3 x4 x5) (k0_pay455 x0 x1 x2 x3 x4 x5) (k0_pay457 x0 x1 x2 x3 x4 x5) (k0_pay459 x0 x1 x2 x3 x4 x5) (k0_pay172 (k0_pay421 x0 x1 x2 x3 x4 x5) (k0_pay162 (k0_pay381 x0 x1 x2 x3 x4 x5))) (k0_pay461 x0 x1 x2 x3 x4 x5)) : FVec Ideal S1x128x128 .f32) y = blkRows x0 x1 x2 x3 x4 x5 (r0_79.emb y) := by
  idx_vars y
  refine Eq.trans ?_ ((congrArg (rows x0 x1 x2 x3 x4 x5) (emb24 11 128 1 (by decide) (by decide) (by decide) rfl y0 y1 y2)).trans (rows_lane x0 x1 x2 x3 x4 x5 _ y1 _ y2)).symm
  have e : rowsAt x0 x1 x2 x3 x4 x5 (⟨11, by decide⟩ : Fin 24) y1 (⟨1, by decide⟩ : Fin 4) y2 = sol3 (mAt (ks x0 x1 x3 y1 1) (betaAt x2 y1 1) (cs x2 x4 x5 y1 1)) fun t => vs x0 x1 x3 y1 1 t y2 * betaAt x2 y1 1 t := rfl
  rw [e]
  unfold sol3 sol2 sol1 sol0 mAt dot
  unfold vs
  pointwise [k0_pay151, k0_pay156, k0_pay159, k0_pay162, k0_pay163, k0_pay165, k0_pay166, k0_pay168, k0_pay169, k0_pay170, k0_pay172, k0_pay174, k0_pay175, k0_pay176, k0_pay177, k0_pay178, k0_pay208, k0_pay447, k0_pay450, k0_pay455, k0_pay457, k0_pay459, k0_pay461, act0_apply, act1_apply, act2_apply, act3_apply, beta01_apply, gc01_apply, beta11_apply, gc11_apply, beta21_apply, gc21_apply, beta31_apply, gc31_apply, k01_apply, k11_apply, k21_apply, k31_apply]
  all_goals rfl

/-- Row 7 at head 1. -/
theorem row7_1 (y : S1x128x128.Idx) : (k0_pay207 (k0_pay425 x0 x1 x2 x3 x4 x5) (k0_pay453 x0 x1 x2 x3 x4 x5) : FVec Ideal S1x128x128 .f32) y = blkRows x0 x1 x2 x3 x4 x5 (r0_78.emb y) := by
  idx_vars y
  refine Eq.trans ?_ ((congrArg (rows x0 x1 x2 x3 x4 x5) (emb24 7 128 1 (by decide) (by decide) (by decide) rfl y0 y1 y2)).trans (rows_lane x0 x1 x2 x3 x4 x5 _ y1 _ y2)).symm
  have e : rowsAt x0 x1 x2 x3 x4 x5 (⟨7, by decide⟩ : Fin 24) y1 (⟨1, by decide⟩ : Fin 4) y2 = qs x0 x1 x3 y1 1 3 y2 * Ideal.exp (cs x2 x4 x5 y1 1 3) := rfl
  rw [e]
  pointwise [k0_pay207, gc31_apply, q31_apply]
  all_goals rfl

/-- Row 3 at head 1. -/
theorem row3_1 (y : S1x128x128.Idx) : (k0_pay206 (k0_pay179 (k0_pay390 x0 x1 x2 x3 x4 x5) (k0_pay401 x0 x1 x2 x3 x4 x5) (k0_pay413 x0 x1 x2 x3 x4 x5) (k0_pay421 x0 x1 x2 x3 x4 x5) (k0_pay425 x0 x1 x2 x3 x4 x5) (k0_pay449 x0 x1 x2 x3 x4 x5) (k0_pay452 x0 x1 x2 x3 x4 x5) (k0_pay454 x0 x1 x2 x3 x4 x5) (k0_pay456 x0 x1 x2 x3 x4 x5) (k0_pay458 x0 x1 x2 x3 x4 x5) (k0_pay460 x0 x1 x2 x3 x4 x5) (k0_pay173 (k0_pay421 x0 x1 x2 x3 x4 x5) (k0_pay425 x0 x1 x2 x3 x4 x5) (k0_pay454 x0 x1 x2 x3 x4 x5)) (k0_pay461 x0 x1 x2 x3 x4 x5)) : FVec Ideal S1x128x128 .f32) y = blkRows x0 x1 x2 x3 x4 x5 (r0_77.emb y) := by
  idx_vars y
  refine Eq.trans ?_ ((congrArg (rows x0 x1 x2 x3 x4 x5) (emb24 3 128 1 (by decide) (by decide) (by decide) rfl y0 y1 y2)).trans (rows_lane x0 x1 x2 x3 x4 x5 _ y1 _ y2)).symm
  have e : rowsAt x0 x1 x2 x3 x4 x5 (⟨3, by decide⟩ : Fin 24) y1 (⟨1, by decide⟩ : Fin 4) y2 = sol3 (mAt (ks x0 x1 x3 y1 1) (betaAt x2 y1 1) (cs x2 x4 x5 y1 1)) fun t => ks x0 x1 x3 y1 1 t y2 * betaAt x2 y1 1 t * Ideal.exp (cs x2 x4 x5 y1 1 t) := rfl
  rw [e]
  unfold sol3 sol2 sol1 sol0 mAt dot
  pointwise [k0_pay164, k0_pay165, k0_pay167, k0_pay168, k0_pay169, k0_pay171, k0_pay173, k0_pay174, k0_pay175, k0_pay176, k0_pay177, k0_pay179, k0_pay206, k0_pay456, k0_pay458, k0_pay460, k0_pay461, beta01_apply, gc01_apply, beta11_apply, gc11_apply, beta21_apply, gc21_apply, beta31_apply, gc31_apply, k01_apply, k11_apply, k21_apply, k31_apply]
  all_goals rfl

/-- Row 14 at head 1. -/
theorem row14_1 (y : S1x128x128.Idx) : (k0_pay200 (k0_pay413 x0 x1 x2 x3 x4 x5) (k0_pay425 x0 x1 x2 x3 x4 x5) (k0_pay452 x0 x1 x2 x3 x4 x5) : FVec Ideal S1x128x128 .f32) y = blkRows x0 x1 x2 x3 x4 x5 (r0_72.emb y) := by
  idx_vars y
  refine Eq.trans ?_ ((congrArg (rows x0 x1 x2 x3 x4 x5) (emb24 14 128 1 (by decide) (by decide) (by decide) rfl y0 y1 y2)).trans (rows_lane x0 x1 x2 x3 x4 x5 _ y1 _ y2)).symm
  have e : rowsAt x0 x1 x2 x3 x4 x5 (⟨14, by decide⟩ : Fin 24) y1 (⟨1, by decide⟩ : Fin 4) y2 = ks x0 x1 x3 y1 1 2 y2 * Ideal.exp (cs x2 x4 x5 y1 1 3 - cs x2 x4 x5 y1 1 2) := rfl
  rw [e]
  pointwise [k0_pay200, gc21_apply, gc31_apply, k21_apply]
  all_goals rfl

/-- Row 10 at head 1. -/
theorem row10_1 (y : S1x128x128.Idx) : (k0_pay199 (k0_pay459 x0 x1 x2 x3 x4 x5) : FVec Ideal S1x128x128 .f32) y = blkRows x0 x1 x2 x3 x4 x5 (r0_71.emb y) := by
  idx_vars y
  refine Eq.trans ?_ ((congrArg (rows x0 x1 x2 x3 x4 x5) (emb24 10 128 1 (by decide) (by decide) (by decide) rfl y0 y1 y2)).trans (rows_lane x0 x1 x2 x3 x4 x5 _ y1 _ y2)).symm
  have e : rowsAt x0 x1 x2 x3 x4 x5 (⟨10, by decide⟩ : Fin 24) y1 (⟨1, by decide⟩ : Fin 4) y2 = sol2 (mAt (ks x0 x1 x3 y1 1) (betaAt x2 y1 1) (cs x2 x4 x5 y1 1)) fun t => vs x0 x1 x3 y1 1 t y2 * betaAt x2 y1 1 t := rfl
  rw [e]
  unfold sol2 sol1 sol0 mAt dot
  unfold vs
  pointwise [k0_pay151, k0_pay156, k0_pay159, k0_pay163, k0_pay165, k0_pay166, k0_pay168, k0_pay169, k0_pay170, k0_pay199, k0_pay447, k0_pay450, k0_pay459, act0_apply, act1_apply, act2_apply, beta01_apply, gc01_apply, beta11_apply, gc11_apply, beta21_apply, gc21_apply, k01_apply, k11_apply, k21_apply]
  all_goals rfl

/-- Row 6 at head 1. -/
theorem row6_1 (y : S1x128x128.Idx) : (k0_pay198 (k0_pay413 x0 x1 x2 x3 x4 x5) (k0_pay451 x0 x1 x2 x3 x4 x5) : FVec Ideal S1x128x128 .f32) y = blkRows x0 x1 x2 x3 x4 x5 (r0_70.emb y) := by
  idx_vars y
  refine Eq.trans ?_ ((congrArg (rows x0 x1 x2 x3 x4 x5) (emb24 6 128 1 (by decide) (by decide) (by decide) rfl y0 y1 y2)).trans (rows_lane x0 x1 x2 x3 x4 x5 _ y1 _ y2)).symm
  have e : rowsAt x0 x1 x2 x3 x4 x5 (⟨6, by decide⟩ : Fin 24) y1 (⟨1, by decide⟩ : Fin 4) y2 = qs x0 x1 x3 y1 1 2 y2 * Ideal.exp (cs x2 x4 x5 y1 1 2) := rfl
  rw [e]
  pointwise [k0_pay198, gc21_apply, q21_apply]
  all_goals rfl

/-- Row 2 at head 1. -/
theorem row2_1 (y : S1x128x128.Idx) : (k0_pay197 (k0_pay460 x0 x1 x2 x3 x4 x5) : FVec Ideal S1x128x128 .f32) y = blkRows x0 x1 x2 x3 x4 x5 (r0_69.emb y) := by
  idx_vars y
  refine Eq.trans ?_ ((congrArg (rows x0 x1 x2 x3 x4 x5) (emb24 2 128 1 (by decide) (by decide) (by decide) rfl y0 y1 y2)).trans (rows_lane x0 x1 x2 x3 x4 x5 _ y1 _ y2)).symm
  have e : rowsAt x0 x1 x2 x3 x4 x5 (⟨2, by decide⟩ : Fin 24) y1 (⟨1, by decide⟩ : Fin 4) y2 = sol2 (mAt (ks x0 x1 x3 y1 1) (betaAt x2 y1 1) (cs x2 x4 x5 y1 1)) fun t => ks x0 x1 x3 y1 1 t y2 * betaAt x2 y1 1 t * Ideal.exp (cs x2 x4 x5 y1 1 t) := rfl
  rw [e]
  unfold sol2 sol1 sol0 mAt dot
  pointwise [k0_pay164, k0_pay165, k0_pay167, k0_pay168, k0_pay169, k0_pay171, k0_pay197, k0_pay460, beta01_apply, gc01_apply, beta11_apply, gc11_apply, beta21_apply, gc21_apply, k01_apply, k11_apply, k21_apply]
  all_goals rfl

/-- Row 13 at head 1. -/
theorem row13_1 (y : S1x128x128.Idx) : (k0_pay192 (k0_pay401 x0 x1 x2 x3 x4 x5) (k0_pay425 x0 x1 x2 x3 x4 x5) (k0_pay449 x0 x1 x2 x3 x4 x5) : FVec Ideal S1x128x128 .f32) y = blkRows x0 x1 x2 x3 x4 x5 (r0_64.emb y) := by
  idx_vars y
  refine Eq.trans ?_ ((congrArg (rows x0 x1 x2 x3 x4 x5) (emb24 13 128 1 (by decide) (by decide) (by decide) rfl y0 y1 y2)).trans (rows_lane x0 x1 x2 x3 x4 x5 _ y1 _ y2)).symm
  have e : rowsAt x0 x1 x2 x3 x4 x5 (⟨13, by decide⟩ : Fin 24) y1 (⟨1, by decide⟩ : Fin 4) y2 = ks x0 x1 x3 y1 1 1 y2 * Ideal.exp (cs x2 x4 x5 y1 1 3 - cs x2 x4 x5 y1 1 1) := rfl
  rw [e]
  pointwise [k0_pay192, gc11_apply, gc31_apply, k11_apply]
  all_goals rfl

/-- Row 9 at head 1. -/
theorem row9_1 (y : S1x128x128.Idx) : (k0_pay191 (k0_pay457 x0 x1 x2 x3 x4 x5) : FVec Ideal S1x128x128 .f32) y = blkRows x0 x1 x2 x3 x4 x5 (r0_63.emb y) := by
  idx_vars y
  refine Eq.trans ?_ ((congrArg (rows x0 x1 x2 x3 x4 x5) (emb24 9 128 1 (by decide) (by decide) (by decide) rfl y0 y1 y2)).trans (rows_lane x0 x1 x2 x3 x4 x5 _ y1 _ y2)).symm
  have e : rowsAt x0 x1 x2 x3 x4 x5 (⟨9, by decide⟩ : Fin 24) y1 (⟨1, by decide⟩ : Fin 4) y2 = sol1 (mAt (ks x0 x1 x3 y1 1) (betaAt x2 y1 1) (cs x2 x4 x5 y1 1)) fun t => vs x0 x1 x3 y1 1 t y2 * betaAt x2 y1 1 t := rfl
  rw [e]
  unfold sol1 sol0 mAt dot
  unfold vs
  pointwise [k0_pay151, k0_pay156, k0_pay163, k0_pay165, k0_pay166, k0_pay191, k0_pay447, k0_pay450, k0_pay457, act0_apply, act1_apply, beta01_apply, gc01_apply, beta11_apply, gc11_apply, k01_apply, k11_apply]
  all_goals rfl

/-- Row 5 at head 1. -/
theorem row5_1 (y : S1x128x128.Idx) : (k0_pay190 (k0_pay401 x0 x1 x2 x3 x4 x5) (k0_pay448 x0 x1 x2 x3 x4 x5) : FVec Ideal S1x128x128 .f32) y = blkRows x0 x1 x2 x3 x4 x5 (r0_62.emb y) := by
  idx_vars y
  refine Eq.trans ?_ ((congrArg (rows x0 x1 x2 x3 x4 x5) (emb24 5 128 1 (by decide) (by decide) (by decide) rfl y0 y1 y2)).trans (rows_lane x0 x1 x2 x3 x4 x5 _ y1 _ y2)).symm
  have e : rowsAt x0 x1 x2 x3 x4 x5 (⟨5, by decide⟩ : Fin 24) y1 (⟨1, by decide⟩ : Fin 4) y2 = qs x0 x1 x3 y1 1 1 y2 * Ideal.exp (cs x2 x4 x5 y1 1 1) := rfl
  rw [e]
  pointwise [k0_pay190, gc11_apply, q11_apply]
  all_goals rfl

/-- Row 1 at head 1. -/
theorem row1_1 (y : S1x128x128.Idx) : (k0_pay189 (k0_pay458 x0 x1 x2 x3 x4 x5) : FVec Ideal S1x128x128 .f32) y = blkRows x0 x1 x2 x3 x4 x5 (r0_61.emb y) := by
  idx_vars y
  refine Eq.trans ?_ ((congrArg (rows x0 x1 x2 x3 x4 x5) (emb24 1 128 1 (by decide) (by decide) (by decide) rfl y0 y1 y2)).trans (rows_lane x0 x1 x2 x3 x4 x5 _ y1 _ y2)).symm
  have e : rowsAt x0 x1 x2 x3 x4 x5 (⟨1, by decide⟩ : Fin 24) y1 (⟨1, by decide⟩ : Fin 4) y2 = sol1 (mAt (ks x0 x1 x3 y1 1) (betaAt x2 y1 1) (cs x2 x4 x5 y1 1)) fun t => ks x0 x1 x3 y1 1 t y2 * betaAt x2 y1 1 t * Ideal.exp (cs x2 x4 x5 y1 1 t) := rfl
  rw [e]
  unfold sol1 sol0 mAt dot
  pointwise [k0_pay164, k0_pay165, k0_pay167, k0_pay189, k0_pay458, beta01_apply, gc01_apply, beta11_apply, gc11_apply, k01_apply, k11_apply]
  all_goals rfl

/-- Row 12 at head 1. -/
theorem row12_1 (y : S1x128x128.Idx) : (k0_pay184 (k0_pay183 (k0_pay390 x0 x1 x2 x3 x4 x5) (k0_pay425 x0 x1 x2 x3 x4 x5) (k0_pay446 x0 x1 x2 x3 x4 x5)) : FVec Ideal S1x128x128 .f32) y = blkRows x0 x1 x2 x3 x4 x5 (r0_56.emb y) := by
  idx_vars y
  refine Eq.trans ?_ ((congrArg (rows x0 x1 x2 x3 x4 x5) (emb24 12 128 1 (by decide) (by decide) (by decide) rfl y0 y1 y2)).trans (rows_lane x0 x1 x2 x3 x4 x5 _ y1 _ y2)).symm
  have e : rowsAt x0 x1 x2 x3 x4 x5 (⟨12, by decide⟩ : Fin 24) y1 (⟨1, by decide⟩ : Fin 4) y2 = ks x0 x1 x3 y1 1 0 y2 * Ideal.exp (cs x2 x4 x5 y1 1 3 - cs x2 x4 x5 y1 1 0) := rfl
  rw [e]
  pointwise [k0_pay183, k0_pay184, gc01_apply, gc31_apply, k01_apply]
  all_goals rfl

/-- Row 8 at head 1. -/
theorem row8_1 (y : S1x128x128.Idx) : (k0_pay182 (k0_pay455 x0 x1 x2 x3 x4 x5) : FVec Ideal S1x128x128 .f32) y = blkRows x0 x1 x2 x3 x4 x5 (r0_55.emb y) := by
  idx_vars y
  refine Eq.trans ?_ ((congrArg (rows x0 x1 x2 x3 x4 x5) (emb24 8 128 1 (by decide) (by decide) (by decide) rfl y0 y1 y2)).trans (rows_lane x0 x1 x2 x3 x4 x5 _ y1 _ y2)).symm
  have e : rowsAt x0 x1 x2 x3 x4 x5 (⟨8, by decide⟩ : Fin 24) y1 (⟨1, by decide⟩ : Fin 4) y2 = sol0 fun t => vs x0 x1 x3 y1 1 t y2 * betaAt x2 y1 1 t := rfl
  rw [e]
  unfold sol0
  unfold vs
  pointwise [k0_pay151, k0_pay163, k0_pay182, k0_pay447, k0_pay455, act0_apply, beta01_apply]
  all_goals rfl

/-- Row 4 at head 1. -/
theorem row4_1 (y : S1x128x128.Idx) : (k0_pay181 (k0_pay390 x0 x1 x2 x3 x4 x5) (k0_pay445 x0 x1 x2 x3 x4 x5) : FVec Ideal S1x128x128 .f32) y = blkRows x0 x1 x2 x3 x4 x5 (r0_54.emb y) := by
  idx_vars y
  refine Eq.trans ?_ ((congrArg (rows x0 x1 x2 x3 x4 x5) (emb24 4 128 1 (by decide) (by decide) (by decide) rfl y0 y1 y2)).trans (rows_lane x0 x1 x2 x3 x4 x5 _ y1 _ y2)).symm
  have e : rowsAt x0 x1 x2 x3 x4 x5 (⟨4, by decide⟩ : Fin 24) y1 (⟨1, by decide⟩ : Fin 4) y2 = qs x0 x1 x3 y1 1 0 y2 * Ideal.exp (cs x2 x4 x5 y1 1 0) := rfl
  rw [e]
  pointwise [k0_pay181, gc01_apply, q01_apply]
  all_goals rfl

/-- Row 0 at head 1. -/
theorem row0_1 (y : S1x128x128.Idx) : (k0_pay180 (k0_pay456 x0 x1 x2 x3 x4 x5) : FVec Ideal S1x128x128 .f32) y = blkRows x0 x1 x2 x3 x4 x5 (r0_53.emb y) := by
  idx_vars y
  refine Eq.trans ?_ ((congrArg (rows x0 x1 x2 x3 x4 x5) (emb24 0 128 1 (by decide) (by decide) (by decide) rfl y0 y1 y2)).trans (rows_lane x0 x1 x2 x3 x4 x5 _ y1 _ y2)).symm
  have e : rowsAt x0 x1 x2 x3 x4 x5 (⟨0, by decide⟩ : Fin 24) y1 (⟨1, by decide⟩ : Fin 4) y2 = sol0 fun t => ks x0 x1 x3 y1 1 t y2 * betaAt x2 y1 1 t * Ideal.exp (cs x2 x4 x5 y1 1 t) := rfl
  rw [e]
  unfold sol0
  pointwise [k0_pay164, k0_pay180, k0_pay456, beta01_apply, gc01_apply, k01_apply]
  all_goals rfl

/-- Row 23 at head 0. -/
theorem row23_0 (y : S1x128x128.Idx) : (k0_pay148 (k0_pay428 x0 x1 x2 x3 x4 x5) : FVec Ideal S1x128x128 .f32) y = blkRows x0 x1 x2 x3 x4 x5 (r0_52.emb y) := by
  idx_vars y
  refine Eq.trans ?_ ((congrArg (rows x0 x1 x2 x3 x4 x5) (emb24 23 0 0 (by decide) (by decide) (by decide) rfl y0 y1 y2)).trans (rows_lane x0 x1 x2 x3 x4 x5 _ y1 _ y2)).symm
  pointwise [k0_pay69, k0_pay148, k0_pay428]
  all_goals first | rfl | exact Ideal.ofBits_zero .f32

/-- Row 22 at head 0. -/
theorem row22_0 (y : S1x128x128.Idx) : (k0_pay147 (k0_pay428 x0 x1 x2 x3 x4 x5) : FVec Ideal S1x128x128 .f32) y = blkRows x0 x1 x2 x3 x4 x5 (r0_51.emb y) := by
  idx_vars y
  refine Eq.trans ?_ ((congrArg (rows x0 x1 x2 x3 x4 x5) (emb24 22 0 0 (by decide) (by decide) (by decide) rfl y0 y1 y2)).trans (rows_lane x0 x1 x2 x3 x4 x5 _ y1 _ y2)).symm
  pointwise [k0_pay69, k0_pay147, k0_pay428]
  all_goals first | rfl | exact Ideal.ofBits_zero .f32

/-- Row 21 at head 0. -/
theorem row21_0 (y : S1x128x128.Idx) : (k0_pay146 (k0_pay428 x0 x1 x2 x3 x4 x5) : FVec Ideal S1x128x128 .f32) y = blkRows x0 x1 x2 x3 x4 x5 (r0_50.emb y) := by
  idx_vars y
  refine Eq.trans ?_ ((congrArg (rows x0 x1 x2 x3 x4 x5) (emb24 21 0 0 (by decide) (by decide) (by decide) rfl y0 y1 y2)).trans (rows_lane x0 x1 x2 x3 x4 x5 _ y1 _ y2)).symm
  pointwise [k0_pay69, k0_pay146, k0_pay428]
  all_goals first | rfl | exact Ideal.ofBits_zero .f32

/-- Row 20 at head 0. -/
theorem row20_0 (y : S1x128x128.Idx) : (k0_pay145 (k0_pay428 x0 x1 x2 x3 x4 x5) : FVec Ideal S1x128x128 .f32) y = blkRows x0 x1 x2 x3 x4 x5 (r0_49.emb y) := by
  idx_vars y
  refine Eq.trans ?_ ((congrArg (rows x0 x1 x2 x3 x4 x5) (emb24 20 0 0 (by decide) (by decide) (by decide) rfl y0 y1 y2)).trans (rows_lane x0 x1 x2 x3 x4 x5 _ y1 _ y2)).symm
  pointwise [k0_pay69, k0_pay145, k0_pay428]
  all_goals first | rfl | exact Ideal.ofBits_zero .f32

/-- Row 19 at head 0. -/
theorem row19_0 (y : S1x128x128.Idx) : (k0_pay144 (k0_pay428 x0 x1 x2 x3 x4 x5) : FVec Ideal S1x128x128 .f32) y = blkRows x0 x1 x2 x3 x4 x5 (r0_48.emb y) := by
  idx_vars y
  refine Eq.trans ?_ ((congrArg (rows x0 x1 x2 x3 x4 x5) (emb24 19 0 0 (by decide) (by decide) (by decide) rfl y0 y1 y2)).trans (rows_lane x0 x1 x2 x3 x4 x5 _ y1 _ y2)).symm
  pointwise [k0_pay69, k0_pay144, k0_pay428]
  all_goals first | rfl | exact Ideal.ofBits_zero .f32

/-- Row 18 at head 0. -/
theorem row18_0 (y : S1x128x128.Idx) : (k0_pay143 (k0_pay428 x0 x1 x2 x3 x4 x5) : FVec Ideal S1x128x128 .f32) y = blkRows x0 x1 x2 x3 x4 x5 (r0_47.emb y) := by
  idx_vars y
  refine Eq.trans ?_ ((congrArg (rows x0 x1 x2 x3 x4 x5) (emb24 18 0 0 (by decide) (by decide) (by decide) rfl y0 y1 y2)).trans (rows_lane x0 x1 x2 x3 x4 x5 _ y1 _ y2)).symm
  pointwise [k0_pay69, k0_pay143, k0_pay428]
  all_goals first | rfl | exact Ideal.ofBits_zero .f32

/-- Row 17 at head 0. -/
theorem row17_0 (y : S1x128x128.Idx) : (k0_pay142 (k0_pay428 x0 x1 x2 x3 x4 x5) : FVec Ideal S1x128x128 .f32) y = blkRows x0 x1 x2 x3 x4 x5 (r0_46.emb y) := by
  idx_vars y
  refine Eq.trans ?_ ((congrArg (rows x0 x1 x2 x3 x4 x5) (emb24 17 0 0 (by decide) (by decide) (by decide) rfl y0 y1 y2)).trans (rows_lane x0 x1 x2 x3 x4 x5 _ y1 _ y2)).symm
  pointwise [k0_pay69, k0_pay142, k0_pay428]
  all_goals first | rfl | exact Ideal.ofBits_zero .f32

/-- Row 16 at head 0. -/
theorem row16_0 (y : S1x128x128.Idx) : (k0_pay141 (k0_pay424 x0 x1 x2 x3 x4 x5) : FVec Ideal S1x128x128 .f32) y = blkRows x0 x1 x2 x3 x4 x5 (r0_45.emb y) := by
  idx_vars y
  refine Eq.trans ?_ ((congrArg (rows x0 x1 x2 x3 x4 x5) (emb24 16 0 0 (by decide) (by decide) (by decide) rfl y0 y1 y2)).trans (rows_lane x0 x1 x2 x3 x4 x5 _ y1 _ y2)).symm
  have e : rowsAt x0 x1 x2 x3 x4 x5 (⟨16, by decide⟩ : Fin 24) y1 (⟨0, by decide⟩ : Fin 4) y2 = Ideal.exp (cs x2 x4 x5 y1 0 3) := rfl
  rw [e]
  pointwise [k0_pay141, gc30_apply]
  all_goals rfl

/-- Row 15 at head 0. -/
theorem row15_0 (y : S1x128x128.Idx) : (k0_pay135 (k0_pay424 x0 x1 x2 x3 x4 x5) (k0_pay437 x0 x1 x2 x3 x4 x5) : FVec Ideal S1x128x128 .f32) y = blkRows x0 x1 x2 x3 x4 x5 (r0_40.emb y) := by
  idx_vars y
  refine Eq.trans ?_ ((congrArg (rows x0 x1 x2 x3 x4 x5) (emb24 15 0 0 (by decide) (by decide) (by decide) rfl y0 y1 y2)).trans (rows_lane x0 x1 x2 x3 x4 x5 _ y1 _ y2)).symm
  have e : rowsAt x0 x1 x2 x3 x4 x5 (⟨15, by decide⟩ : Fin 24) y1 (⟨0, by decide⟩ : Fin 4) y2 = ks x0 x1 x3 y1 0 3 y2 * Ideal.exp (cs x2 x4 x5 y1 0 3 - cs x2 x4 x5 y1 0 3) := rfl
  rw [e]
  pointwise [k0_pay135, gc30_apply, k30_apply]
  all_goals rfl

/-- Row 11 at head 0. -/
theorem row11_0 (y : S1x128x128.Idx) : (k0_pay134 (k0_pay102 (k0_pay389 x0 x1 x2 x3 x4 x5) (k0_pay400 x0 x1 x2 x3 x4 x5) (k0_pay408 x0 x1 x2 x3 x4 x5) (k0_pay412 x0 x1 x2 x3 x4 x5) (k0_pay420 x0 x1 x2 x3 x4 x5) (k0_pay424 x0 x1 x2 x3 x4 x5) (k0_pay430 x0 x1 x2 x3 x4 x5) (k0_pay433 x0 x1 x2 x3 x4 x5) (k0_pay435 x0 x1 x2 x3 x4 x5) (k0_pay437 x0 x1 x2 x3 x4 x5) (k0_pay86 (k0_pay381 x0 x1 x2 x3 x4 x5)) (k0_pay438 x0 x1 x2 x3 x4 x5) (k0_pay440 x0 x1 x2 x3 x4 x5) (k0_pay442 x0 x1 x2 x3 x4 x5) (k0_pay444 x0 x1 x2 x3 x4 x5)) : FVec Ideal S1x128x128 .f32) y = blkRows x0 x1 x2 x3 x4 x5 (r0_39.emb y) := by
  idx_vars y
  refine Eq.trans ?_ ((congrArg (rows x0 x1 x2 x3 x4 x5) (emb24 11 0 0 (by decide) (by decide) (by decide) rfl y0 y1 y2)).trans (rows_lane x0 x1 x2 x3 x4 x5 _ y1 _ y2)).symm
  have e : rowsAt x0 x1 x2 x3 x4 x5 (⟨11, by decide⟩ : Fin 24) y1 (⟨0, by decide⟩ : Fin 4) y2 = sol3 (mAt (ks x0 x1 x3 y1 0) (betaAt x2 y1 0) (cs x2 x4 x5 y1 0)) fun t => vs x0 x1 x3 y1 0 t y2 * betaAt x2 y1 0 t := rfl
  rw [e]
  unfold sol3 sol2 sol1 sol0 mAt dot
  unfold vs
  pointwise [k0_pay74, k0_pay77, k0_pay80, k0_pay86, k0_pay87, k0_pay89, k0_pay90, k0_pay92, k0_pay93, k0_pay95, k0_pay96, k0_pay97, k0_pay99, k0_pay100, k0_pay101, k0_pay102, k0_pay134, k0_pay431, k0_pay438, k0_pay440, k0_pay442, k0_pay444, act0_apply, act1_apply, act2_apply, act3_apply, beta00_apply, gc00_apply, beta10_apply, gc10_apply, beta20_apply, gc20_apply, beta30_apply, gc30_apply, k00_apply, k10_apply, k20_apply, k30_apply]
  all_goals rfl

/-- Row 7 at head 0. -/
theorem row7_0 (y : S1x128x128.Idx) : (k0_pay133 (k0_pay132 (k0_pay424 x0 x1 x2 x3 x4 x5) (k0_pay436 x0 x1 x2 x3 x4 x5)) : FVec Ideal S1x128x128 .f32) y = blkRows x0 x1 x2 x3 x4 x5 (r0_38.emb y) := by
  idx_vars y
  refine Eq.trans ?_ ((congrArg (rows x0 x1 x2 x3 x4 x5) (emb24 7 0 0 (by decide) (by decide) (by decide) rfl y0 y1 y2)).trans (rows_lane x0 x1 x2 x3 x4 x5 _ y1 _ y2)).symm
  have e : rowsAt x0 x1 x2 x3 x4 x5 (⟨7, by decide⟩ : Fin 24) y1 (⟨0, by decide⟩ : Fin 4) y2 = qs x0 x1 x3 y1 0 3 y2 * Ideal.exp (cs x2 x4 x5 y1 0 3) := rfl
  rw [e]
  pointwise [k0_pay132, k0_pay133, gc30_apply, q30_apply]
  all_goals rfl

/-- Row 3 at head 0. -/
theorem row3_0 (y : S1x128x128.Idx) : (k0_pay131 (k0_pay103 (k0_pay389 x0 x1 x2 x3 x4 x5) (k0_pay400 x0 x1 x2 x3 x4 x5) (k0_pay408 x0 x1 x2 x3 x4 x5) (k0_pay412 x0 x1 x2 x3 x4 x5) (k0_pay420 x0 x1 x2 x3 x4 x5) (k0_pay424 x0 x1 x2 x3 x4 x5) (k0_pay430 x0 x1 x2 x3 x4 x5) (k0_pay433 x0 x1 x2 x3 x4 x5) (k0_pay435 x0 x1 x2 x3 x4 x5) (k0_pay437 x0 x1 x2 x3 x4 x5) (k0_pay439 x0 x1 x2 x3 x4 x5) (k0_pay441 x0 x1 x2 x3 x4 x5) (k0_pay443 x0 x1 x2 x3 x4 x5) (k0_pay444 x0 x1 x2 x3 x4 x5)) : FVec Ideal S1x128x128 .f32) y = blkRows x0 x1 x2 x3 x4 x5 (r0_37.emb y) := by
  idx_vars y
  refine Eq.trans ?_ ((congrArg (rows x0 x1 x2 x3 x4 x5) (emb24 3 0 0 (by decide) (by decide) (by decide) rfl y0 y1 y2)).trans (rows_lane x0 x1 x2 x3 x4 x5 _ y1 _ y2)).symm
  have e : rowsAt x0 x1 x2 x3 x4 x5 (⟨3, by decide⟩ : Fin 24) y1 (⟨0, by decide⟩ : Fin 4) y2 = sol3 (mAt (ks x0 x1 x3 y1 0) (betaAt x2 y1 0) (cs x2 x4 x5 y1 0)) fun t => ks x0 x1 x3 y1 0 t y2 * betaAt x2 y1 0 t * Ideal.exp (cs x2 x4 x5 y1 0 t) := rfl
  rw [e]
  unfold sol3 sol2 sol1 sol0 mAt dot
  pointwise [k0_pay88, k0_pay89, k0_pay91, k0_pay92, k0_pay94, k0_pay95, k0_pay96, k0_pay98, k0_pay99, k0_pay100, k0_pay101, k0_pay103, k0_pay131, k0_pay439, k0_pay441, k0_pay443, k0_pay444, beta00_apply, gc00_apply, beta10_apply, gc10_apply, beta20_apply, gc20_apply, beta30_apply, gc30_apply, k00_apply, k10_apply, k20_apply, k30_apply]
  all_goals rfl

/-- Row 14 at head 0. -/
theorem row14_0 (y : S1x128x128.Idx) : (k0_pay124 (k0_pay412 x0 x1 x2 x3 x4 x5) (k0_pay424 x0 x1 x2 x3 x4 x5) (k0_pay435 x0 x1 x2 x3 x4 x5) : FVec Ideal S1x128x128 .f32) y = blkRows x0 x1 x2 x3 x4 x5 (r0_32.emb y) := by
  idx_vars y
  refine Eq.trans ?_ ((congrArg (rows x0 x1 x2 x3 x4 x5) (emb24 14 0 0 (by decide) (by decide) (by decide) rfl y0 y1 y2)).trans (rows_lane x0 x1 x2 x3 x4 x5 _ y1 _ y2)).symm
  have e : rowsAt x0 x1 x2 x3 x4 x5 (⟨14, by decide⟩ : Fin 24) y1 (⟨0, by decide⟩ : Fin 4) y2 = ks x0 x1 x3 y1 0 2 y2 * Ideal.exp (cs x2 x4 x5 y1 0 3 - cs x2 x4 x5 y1 0 2) := rfl
  rw [e]
  pointwise [k0_pay124, gc20_apply, gc30_apply, k20_apply]
  all_goals rfl

/-- Row 10 at head 0. -/
theorem row10_0 (y : S1x128x128.Idx) : (k0_pay123 (k0_pay97 (k0_pay400 x0 x1 x2 x3 x4 x5) (k0_pay408 x0 x1 x2 x3 x4 x5) (k0_pay412 x0 x1 x2 x3 x4 x5) (k0_pay440 x0 x1 x2 x3 x4 x5) (k0_pay442 x0 x1 x2 x3 x4 x5) (k0_pay444 x0 x1 x2 x3 x4 x5)) : FVec Ideal S1x128x128 .f32) y = blkRows x0 x1 x2 x3 x4 x5 (r0_31.emb y) := by
  idx_vars y
  refine Eq.trans ?_ ((congrArg (rows x0 x1 x2 x3 x4 x5) (emb24 10 0 0 (by decide) (by decide) (by decide) rfl y0 y1 y2)).trans (rows_lane x0 x1 x2 x3 x4 x5 _ y1 _ y2)).symm
  have e : rowsAt x0 x1 x2 x3 x4 x5 (⟨10, by decide⟩ : Fin 24) y1 (⟨0, by decide⟩ : Fin 4) y2 = sol2 (mAt (ks x0 x1 x3 y1 0) (betaAt x2 y1 0) (cs x2 x4 x5 y1 0)) fun t => vs x0 x1 x3 y1 0 t y2 * betaAt x2 y1 0 t := rfl
  rw [e]
  unfold sol2 sol1 sol0 mAt dot
  unfold vs
  pointwise [k0_pay74, k0_pay77, k0_pay80, k0_pay87, k0_pay89, k0_pay90, k0_pay92, k0_pay93, k0_pay95, k0_pay96, k0_pay97, k0_pay123, k0_pay431, k0_pay440, k0_pay442, k0_pay444, act0_apply, act1_apply, act2_apply, beta00_apply, gc00_apply, beta10_apply, gc10_apply, beta20_apply, gc20_apply, k00_apply, k10_apply, k20_apply]
  all_goals rfl

/-- Row 6 at head 0. -/
theorem row6_0 (y : S1x128x128.Idx) : (k0_pay122 (k0_pay412 x0 x1 x2 x3 x4 x5) (k0_pay434 x0 x1 x2 x3 x4 x5) : FVec Ideal S1x128x128 .f32) y = blkRows x0 x1 x2 x3 x4 x5 (r0_30.emb y) := by
  idx_vars y
  refine Eq.trans ?_ ((congrArg (rows x0 x1 x2 x3 x4 x5) (emb24 6 0 0 (by decide) (by decide) (by decide) rfl y0 y1 y2)).trans (rows_lane x0 x1 x2 x3 x4 x5 _ y1 _ y2)).symm
  have e : rowsAt x0 x1 x2 x3 x4 x5 (⟨6, by decide⟩ : Fin 24) y1 (⟨0, by decide⟩ : Fin 4) y2 = qs x0 x1 x3 y1 0 2 y2 * Ideal.exp (cs x2 x4 x5 y1 0 2) := rfl
  rw [e]
  pointwise [k0_pay122, gc20_apply, q20_apply]
  all_goals rfl

/-- Row 2 at head 0. -/
theorem row2_0 (y : S1x128x128.Idx) : (k0_pay121 (k0_pay98 (k0_pay400 x0 x1 x2 x3 x4 x5) (k0_pay408 x0 x1 x2 x3 x4 x5) (k0_pay412 x0 x1 x2 x3 x4 x5) (k0_pay441 x0 x1 x2 x3 x4 x5) (k0_pay443 x0 x1 x2 x3 x4 x5) (k0_pay444 x0 x1 x2 x3 x4 x5)) : FVec Ideal S1x128x128 .f32) y = blkRows x0 x1 x2 x3 x4 x5 (r0_29.emb y) := by
  idx_vars y
  refine Eq.trans ?_ ((congrArg (rows x0 x1 x2 x3 x4 x5) (emb24 2 0 0 (by decide) (by decide) (by decide) rfl y0 y1 y2)).trans (rows_lane x0 x1 x2 x3 x4 x5 _ y1 _ y2)).symm
  have e : rowsAt x0 x1 x2 x3 x4 x5 (⟨2, by decide⟩ : Fin 24) y1 (⟨0, by decide⟩ : Fin 4) y2 = sol2 (mAt (ks x0 x1 x3 y1 0) (betaAt x2 y1 0) (cs x2 x4 x5 y1 0)) fun t => ks x0 x1 x3 y1 0 t y2 * betaAt x2 y1 0 t * Ideal.exp (cs x2 x4 x5 y1 0 t) := rfl
  rw [e]
  unfold sol2 sol1 sol0 mAt dot
  pointwise [k0_pay88, k0_pay89, k0_pay91, k0_pay92, k0_pay94, k0_pay95, k0_pay96, k0_pay98, k0_pay121, k0_pay441, k0_pay443, k0_pay444, beta00_apply, gc00_apply, beta10_apply, gc10_apply, beta20_apply, gc20_apply, k00_apply, k10_apply, k20_apply]
  all_goals rfl

/-- Row 13 at head 0. -/
theorem row13_0 (y : S1x128x128.Idx) : (k0_pay115 (k0_pay400 x0 x1 x2 x3 x4 x5) (k0_pay424 x0 x1 x2 x3 x4 x5) (k0_pay433 x0 x1 x2 x3 x4 x5) : FVec Ideal S1x128x128 .f32) y = blkRows x0 x1 x2 x3 x4 x5 (r0_24.emb y) := by
  idx_vars y
  refine Eq.trans ?_ ((congrArg (rows x0 x1 x2 x3 x4 x5) (emb24 13 0 0 (by decide) (by decide) (by decide) rfl y0 y1 y2)).trans (rows_lane x0 x1 x2 x3 x4 x5 _ y1 _ y2)).symm
  have e : rowsAt x0 x1 x2 x3 x4 x5 (⟨13, by decide⟩ : Fin 24) y1 (⟨0, by decide⟩ : Fin 4) y2 = ks x0 x1 x3 y1 0 1 y2 * Ideal.exp (cs x2 x4 x5 y1 0 3 - cs x2 x4 x5 y1 0 1) := rfl
  rw [e]
  pointwise [k0_pay115, gc10_apply, gc30_apply, k10_apply]
  all_goals rfl

/-- Row 9 at head 0. -/
theorem row9_0 (y : S1x128x128.Idx) : (k0_pay114 (k0_pay440 x0 x1 x2 x3 x4 x5) : FVec Ideal S1x128x128 .f32) y = blkRows x0 x1 x2 x3 x4 x5 (r0_23.emb y) := by
  idx_vars y
  refine Eq.trans ?_ ((congrArg (rows x0 x1 x2 x3 x4 x5) (emb24 9 0 0 (by decide) (by decide) (by decide) rfl y0 y1 y2)).trans (rows_lane x0 x1 x2 x3 x4 x5 _ y1 _ y2)).symm
  have e : rowsAt x0 x1 x2 x3 x4 x5 (⟨9, by decide⟩ : Fin 24) y1 (⟨0, by decide⟩ : Fin 4) y2 = sol1 (mAt (ks x0 x1 x3 y1 0) (betaAt x2 y1 0) (cs x2 x4 x5 y1 0)) fun t => vs x0 x1 x3 y1 0 t y2 * betaAt x2 y1 0 t := rfl
  rw [e]
  unfold sol1 sol0 mAt dot
  unfold vs
  pointwise [k0_pay74, k0_pay77, k0_pay87, k0_pay89, k0_pay90, k0_pay114, k0_pay431, k0_pay440, act0_apply, act1_apply, beta00_apply, gc00_apply, beta10_apply, gc10_apply, k00_apply, k10_apply]
  all_goals rfl

/-- Row 5 at head 0. -/
theorem row5_0 (y : S1x128x128.Idx) : (k0_pay113 (k0_pay400 x0 x1 x2 x3 x4 x5) (k0_pay432 x0 x1 x2 x3 x4 x5) : FVec Ideal S1x128x128 .f32) y = blkRows x0 x1 x2 x3 x4 x5 (r0_22.emb y) := by
  idx_vars y
  refine Eq.trans ?_ ((congrArg (rows x0 x1 x2 x3 x4 x5) (emb24 5 0 0 (by decide) (by decide) (by decide) rfl y0 y1 y2)).trans (rows_lane x0 x1 x2 x3 x4 x5 _ y1 _ y2)).symm
  have e : rowsAt x0 x1 x2 x3 x4 x5 (⟨5, by decide⟩ : Fin 24) y1 (⟨0, by decide⟩ : Fin 4) y2 = qs x0 x1 x3 y1 0 1 y2 * Ideal.exp (cs x2 x4 x5 y1 0 1) := rfl
  rw [e]
  pointwise [k0_pay113, gc10_apply, q10_apply]
  all_goals rfl

/-- Row 1 at head 0. -/
theorem row1_0 (y : S1x128x128.Idx) : (k0_pay112 (k0_pay441 x0 x1 x2 x3 x4 x5) : FVec Ideal S1x128x128 .f32) y = blkRows x0 x1 x2 x3 x4 x5 (r0_21.emb y) := by
  idx_vars y
  refine Eq.trans ?_ ((congrArg (rows x0 x1 x2 x3 x4 x5) (emb24 1 0 0 (by decide) (by decide) (by decide) rfl y0 y1 y2)).trans (rows_lane x0 x1 x2 x3 x4 x5 _ y1 _ y2)).symm
  have e : rowsAt x0 x1 x2 x3 x4 x5 (⟨1, by decide⟩ : Fin 24) y1 (⟨0, by decide⟩ : Fin 4) y2 = sol1 (mAt (ks x0 x1 x3 y1 0) (betaAt x2 y1 0) (cs x2 x4 x5 y1 0)) fun t => ks x0 x1 x3 y1 0 t y2 * betaAt x2 y1 0 t * Ideal.exp (cs x2 x4 x5 y1 0 t) := rfl
  rw [e]
  unfold sol1 sol0 mAt dot
  pointwise [k0_pay88, k0_pay89, k0_pay91, k0_pay112, k0_pay441, beta00_apply, gc00_apply, beta10_apply, gc10_apply, k00_apply, k10_apply]
  all_goals rfl

/-- Row 12 at head 0. -/
theorem row12_0 (y : S1x128x128.Idx) : (k0_pay107 (k0_pay389 x0 x1 x2 x3 x4 x5) (k0_pay424 x0 x1 x2 x3 x4 x5) (k0_pay430 x0 x1 x2 x3 x4 x5) : FVec Ideal S1x128x128 .f32) y = blkRows x0 x1 x2 x3 x4 x5 (r0_16.emb y) := by
  idx_vars y
  refine Eq.trans ?_ ((congrArg (rows x0 x1 x2 x3 x4 x5) (emb24 12 0 0 (by decide) (by decide) (by decide) rfl y0 y1 y2)).trans (rows_lane x0 x1 x2 x3 x4 x5 _ y1 _ y2)).symm
  have e : rowsAt x0 x1 x2 x3 x4 x5 (⟨12, by decide⟩ : Fin 24) y1 (⟨0, by decide⟩ : Fin 4) y2 = ks x0 x1 x3 y1 0 0 y2 * Ideal.exp (cs x2 x4 x5 y1 0 3 - cs x2 x4 x5 y1 0 0) := rfl
  rw [e]
  pointwise [k0_pay107, gc00_apply, gc30_apply, k00_apply]
  all_goals rfl

/-- Row 8 at head 0. -/
theorem row8_0 (y : S1x128x128.Idx) : (k0_pay106 (k0_pay438 x0 x1 x2 x3 x4 x5) : FVec Ideal S1x128x128 .f32) y = blkRows x0 x1 x2 x3 x4 x5 (r0_15.emb y) := by
  idx_vars y
  refine Eq.trans ?_ ((congrArg (rows x0 x1 x2 x3 x4 x5) (emb24 8 0 0 (by decide) (by decide) (by decide) rfl y0 y1 y2)).trans (rows_lane x0 x1 x2 x3 x4 x5 _ y1 _ y2)).symm
  have e : rowsAt x0 x1 x2 x3 x4 x5 (⟨8, by decide⟩ : Fin 24) y1 (⟨0, by decide⟩ : Fin 4) y2 = sol0 fun t => vs x0 x1 x3 y1 0 t y2 * betaAt x2 y1 0 t := rfl
  rw [e]
  unfold sol0
  unfold vs
  pointwise [k0_pay74, k0_pay87, k0_pay106, k0_pay431, k0_pay438, act0_apply, beta00_apply]
  all_goals rfl

/-- Row 4 at head 0. -/
theorem row4_0 (y : S1x128x128.Idx) : (k0_pay105 (k0_pay389 x0 x1 x2 x3 x4 x5) (k0_pay429 x0 x1 x2 x3 x4 x5) : FVec Ideal S1x128x128 .f32) y = blkRows x0 x1 x2 x3 x4 x5 (r0_14.emb y) := by
  idx_vars y
  refine Eq.trans ?_ ((congrArg (rows x0 x1 x2 x3 x4 x5) (emb24 4 0 0 (by decide) (by decide) (by decide) rfl y0 y1 y2)).trans (rows_lane x0 x1 x2 x3 x4 x5 _ y1 _ y2)).symm
  have e : rowsAt x0 x1 x2 x3 x4 x5 (⟨4, by decide⟩ : Fin 24) y1 (⟨0, by decide⟩ : Fin 4) y2 = qs x0 x1 x3 y1 0 0 y2 * Ideal.exp (cs x2 x4 x5 y1 0 0) := rfl
  rw [e]
  pointwise [k0_pay105, gc00_apply, q00_apply]
  all_goals rfl

/-- Row 0 at head 0. -/
theorem row0_0 (y : S1x128x128.Idx) : (k0_pay104 (k0_pay439 x0 x1 x2 x3 x4 x5) : FVec Ideal S1x128x128 .f32) y = blkRows x0 x1 x2 x3 x4 x5 (r0_13.emb y) := by
  idx_vars y
  refine Eq.trans ?_ ((congrArg (rows x0 x1 x2 x3 x4 x5) (emb24 0 0 0 (by decide) (by decide) (by decide) rfl y0 y1 y2)).trans (rows_lane x0 x1 x2 x3 x4 x5 _ y1 _ y2)).symm
  have e : rowsAt x0 x1 x2 x3 x4 x5 (⟨0, by decide⟩ : Fin 24) y1 (⟨0, by decide⟩ : Fin 4) y2 = sol0 fun t => ks x0 x1 x3 y1 0 t y2 * betaAt x2 y1 0 t * Ideal.exp (cs x2 x4 x5 y1 0 t) := rfl
  rw [e]
  unfold sol0
  pointwise [k0_pay88, k0_pay104, k0_pay439, beta00_apply, gc00_apply, k00_apply]
  all_goals rfl

/-- The weight of token 3 for token 3 at head 1. -/
theorem weight33_1 (y : S1x128x128.Idx) : (k0_pay214 (k0_pay425 x0 x1 x2 x3 x4 x5) (k0_pay453 x0 x1 x2 x3 x4 x5) (k0_pay454 x0 x1 x2 x3 x4 x5) : FVec Ideal S1x128x128 .f32) y = blkWeights x0 x1 x2 x3 x4 x5 (r0_84.emb y) := by
  idx_vars y
  refine Eq.trans ?_ ((congrArg (weights x0 x1 x2 x3 x4 x5) (emb16 15 128 1 (by decide) (by decide) (by decide) rfl y0 y1 y2)).trans (weights_lane x0 x1 x2 x3 x4 x5 _ y1 _ y2)).symm
  refine Eq.trans ?_ (weightsAt_low x0 x1 x2 x3 x4 x5 _ 3 3 y1 1 rfl rfl (by decide)).symm
  unfold dot
  pointwise [k0_pay214, gc31_apply, q31_apply, k31_apply]

/-- The weight of token 2 for token 3 at head 1. -/
theorem weight32_1 (y : S1x128x128.Idx) : (k0_pay213 (k0_pay413 x0 x1 x2 x3 x4 x5) (k0_pay425 x0 x1 x2 x3 x4 x5) (k0_pay452 x0 x1 x2 x3 x4 x5) (k0_pay453 x0 x1 x2 x3 x4 x5) : FVec Ideal S1x128x128 .f32) y = blkWeights x0 x1 x2 x3 x4 x5 (r0_83.emb y) := by
  idx_vars y
  refine Eq.trans ?_ ((congrArg (weights x0 x1 x2 x3 x4 x5) (emb16 14 128 1 (by decide) (by decide) (by decide) rfl y0 y1 y2)).trans (weights_lane x0 x1 x2 x3 x4 x5 _ y1 _ y2)).symm
  refine Eq.trans ?_ (weightsAt_low x0 x1 x2 x3 x4 x5 _ 3 2 y1 1 rfl rfl (by decide)).symm
  unfold dot
  pointwise [k0_pay213, gc21_apply, gc31_apply, k21_apply, q31_apply]

/-- The weight of token 1 for token 3 at head 1. -/
theorem weight31_1 (y : S1x128x128.Idx) : (k0_pay212 (k0_pay401 x0 x1 x2 x3 x4 x5) (k0_pay425 x0 x1 x2 x3 x4 x5) (k0_pay449 x0 x1 x2 x3 x4 x5) (k0_pay453 x0 x1 x2 x3 x4 x5) : FVec Ideal S1x128x128 .f32) y = blkWeights x0 x1 x2 x3 x4 x5 (r0_82.emb y) := by
  idx_vars y
  refine Eq.trans ?_ ((congrArg (weights x0 x1 x2 x3 x4 x5) (emb16 13 128 1 (by decide) (by decide) (by decide) rfl y0 y1 y2)).trans (weights_lane x0 x1 x2 x3 x4 x5 _ y1 _ y2)).symm
  refine Eq.trans ?_ (weightsAt_low x0 x1 x2 x3 x4 x5 _ 3 1 y1 1 rfl rfl (by decide)).symm
  unfold dot
  pointwise [k0_pay212, gc11_apply, gc31_apply, k11_apply, q31_apply]

/-- The weight of token 0 for token 3 at head 1. -/
theorem weight30_1 (y : S1x128x128.Idx) : (k0_pay211 (k0_pay390 x0 x1 x2 x3 x4 x5) (k0_pay425 x0 x1 x2 x3 x4 x5) (k0_pay210 (k0_pay446 x0 x1 x2 x3 x4 x5) (k0_pay453 x0 x1 x2 x3 x4 x5)) : FVec Ideal S1x128x128 .f32) y = blkWeights x0 x1 x2 x3 x4 x5 (r0_81.emb y) := by
  idx_vars y
  refine Eq.trans ?_ ((congrArg (weights x0 x1 x2 x3 x4 x5) (emb16 12 128 1 (by decide) (by decide) (by decide) rfl y0 y1 y2)).trans (weights_lane x0 x1 x2 x3 x4 x5 _ y1 _ y2)).symm
  refine Eq.trans ?_ (weightsAt_low x0 x1 x2 x3 x4 x5 _ 3 0 y1 1 rfl rfl (by decide)).symm
  unfold dot
  pointwise [k0_pay210, k0_pay211, gc01_apply, gc31_apply, k01_apply, q31_apply]

/-- The weight of token 3 for token 2 at head 1. -/
theorem weight23_1 (y : S1x128x128.Idx) : (k0_pay205 (k0_pay428 x0 x1 x2 x3 x4 x5) : FVec Ideal S1x128x128 .f32) y = blkWeights x0 x1 x2 x3 x4 x5 (r0_76.emb y) := by
  idx_vars y
  refine Eq.trans ?_ ((congrArg (weights x0 x1 x2 x3 x4 x5) (emb16 11 128 1 (by decide) (by decide) (by decide) rfl y0 y1 y2)).trans (weights_lane x0 x1 x2 x3 x4 x5 _ y1 _ y2)).symm
  refine Eq.trans ?_ (weightsAt_high x0 x1 x2 x3 x4 x5 _ 2 3 y1 _ rfl rfl (by decide)).symm
  pointwise [k0_pay69, k0_pay205, k0_pay428]
  all_goals exact Ideal.ofBits_zero .f32

/-- The weight of token 2 for token 2 at head 1. -/
theorem weight22_1 (y : S1x128x128.Idx) : (k0_pay204 (k0_pay413 x0 x1 x2 x3 x4 x5) (k0_pay451 x0 x1 x2 x3 x4 x5) (k0_pay452 x0 x1 x2 x3 x4 x5) : FVec Ideal S1x128x128 .f32) y = blkWeights x0 x1 x2 x3 x4 x5 (r0_75.emb y) := by
  idx_vars y
  refine Eq.trans ?_ ((congrArg (weights x0 x1 x2 x3 x4 x5) (emb16 10 128 1 (by decide) (by decide) (by decide) rfl y0 y1 y2)).trans (weights_lane x0 x1 x2 x3 x4 x5 _ y1 _ y2)).symm
  refine Eq.trans ?_ (weightsAt_low x0 x1 x2 x3 x4 x5 _ 2 2 y1 1 rfl rfl (by decide)).symm
  unfold dot
  pointwise [k0_pay204, gc21_apply, q21_apply, k21_apply]

/-- The weight of token 1 for token 2 at head 1. -/
theorem weight21_1 (y : S1x128x128.Idx) : (k0_pay203 (k0_pay202 (k0_pay401 x0 x1 x2 x3 x4 x5) (k0_pay413 x0 x1 x2 x3 x4 x5) (k0_pay449 x0 x1 x2 x3 x4 x5) (k0_pay451 x0 x1 x2 x3 x4 x5)) : FVec Ideal S1x128x128 .f32) y = blkWeights x0 x1 x2 x3 x4 x5 (r0_74.emb y) := by
  idx_vars y
  refine Eq.trans ?_ ((congrArg (weights x0 x1 x2 x3 x4 x5) (emb16 9 128 1 (by decide) (by decide) (by decide) rfl y0 y1 y2)).trans (weights_lane x0 x1 x2 x3 x4 x5 _ y1 _ y2)).symm
  refine Eq.trans ?_ (weightsAt_low x0 x1 x2 x3 x4 x5 _ 2 1 y1 1 rfl rfl (by decide)).symm
  unfold dot
  pointwise [k0_pay202, k0_pay203, gc11_apply, gc21_apply, k11_apply, q21_apply]

/-- The weight of token 0 for token 2 at head 1. -/
theorem weight20_1 (y : S1x128x128.Idx) : (k0_pay201 (k0_pay390 x0 x1 x2 x3 x4 x5) (k0_pay413 x0 x1 x2 x3 x4 x5) (k0_pay446 x0 x1 x2 x3 x4 x5) (k0_pay451 x0 x1 x2 x3 x4 x5) : FVec Ideal S1x128x128 .f32) y = blkWeights x0 x1 x2 x3 x4 x5 (r0_73.emb y) := by
  idx_vars y
  refine Eq.trans ?_ ((congrArg (weights x0 x1 x2 x3 x4 x5) (emb16 8 128 1 (by decide) (by decide) (by decide) rfl y0 y1 y2)).trans (weights_lane x0 x1 x2 x3 x4 x5 _ y1 _ y2)).symm
  refine Eq.trans ?_ (weightsAt_low x0 x1 x2 x3 x4 x5 _ 2 0 y1 1 rfl rfl (by decide)).symm
  unfold dot
  pointwise [k0_pay201, gc01_apply, gc21_apply, k01_apply, q21_apply]

/-- The weight of token 3 for token 1 at head 1. -/
theorem weight13_1 (y : S1x128x128.Idx) : (k0_pay196 (k0_pay428 x0 x1 x2 x3 x4 x5) : FVec Ideal S1x128x128 .f32) y = blkWeights x0 x1 x2 x3 x4 x5 (r0_68.emb y) := by
  idx_vars y
  refine Eq.trans ?_ ((congrArg (weights x0 x1 x2 x3 x4 x5) (emb16 7 128 1 (by decide) (by decide) (by decide) rfl y0 y1 y2)).trans (weights_lane x0 x1 x2 x3 x4 x5 _ y1 _ y2)).symm
  refine Eq.trans ?_ (weightsAt_high x0 x1 x2 x3 x4 x5 _ 1 3 y1 _ rfl rfl (by decide)).symm
  pointwise [k0_pay69, k0_pay196, k0_pay428]
  all_goals exact Ideal.ofBits_zero .f32

/-- The weight of token 2 for token 1 at head 1. -/
theorem weight12_1 (y : S1x128x128.Idx) : (k0_pay195 (k0_pay428 x0 x1 x2 x3 x4 x5) : FVec Ideal S1x128x128 .f32) y = blkWeights x0 x1 x2 x3 x4 x5 (r0_67.emb y) := by
  idx_vars y
  refine Eq.trans ?_ ((congrArg (weights x0 x1 x2 x3 x4 x5) (emb16 6 128 1 (by decide) (by decide) (by decide) rfl y0 y1 y2)).trans (weights_lane x0 x1 x2 x3 x4 x5 _ y1 _ y2)).symm
  refine Eq.trans ?_ (weightsAt_high x0 x1 x2 x3 x4 x5 _ 1 2 y1 _ rfl rfl (by decide)).symm
  pointwise [k0_pay69, k0_pay195, k0_pay428]
  all_goals exact Ideal.ofBits_zero .f32

/-- The weight of token 1 for token 1 at head 1. -/
theorem weight11_1 (y : S1x128x128.Idx) : (k0_pay194 (k0_pay401 x0 x1 x2 x3 x4 x5) (k0_pay448 x0 x1 x2 x3 x4 x5) (k0_pay449 x0 x1 x2 x3 x4 x5) : FVec Ideal S1x128x128 .f32) y = blkWeights x0 x1 x2 x3 x4 x5 (r0_66.emb y) := by
  idx_vars y
  refine Eq.trans ?_ ((congrArg (weights x0 x1 x2 x3 x4 x5) (emb16 5 128 1 (by decide) (by decide) (by decide) rfl y0 y1 y2)).trans (weights_lane x0 x1 x2 x3 x4 x5 _ y1 _ y2)).symm
  refine Eq.trans ?_ (weightsAt_low x0 x1 x2 x3 x4 x5 _ 1 1 y1 1 rfl rfl (by decide)).symm
  unfold dot
  pointwise [k0_pay194, gc11_apply, q11_apply, k11_apply]

/-- The weight of token 0 for token 1 at head 1. -/
theorem weight10_1 (y : S1x128x128.Idx) : (k0_pay193 (k0_pay390 x0 x1 x2 x3 x4 x5) (k0_pay401 x0 x1 x2 x3 x4 x5) (k0_pay446 x0 x1 x2 x3 x4 x5) (k0_pay448 x0 x1 x2 x3 x4 x5) : FVec Ideal S1x128x128 .f32) y = blkWeights x0 x1 x2 x3 x4 x5 (r0_65.emb y) := by
  idx_vars y
  refine Eq.trans ?_ ((congrArg (weights x0 x1 x2 x3 x4 x5) (emb16 4 128 1 (by decide) (by decide) (by decide) rfl y0 y1 y2)).trans (weights_lane x0 x1 x2 x3 x4 x5 _ y1 _ y2)).symm
  refine Eq.trans ?_ (weightsAt_low x0 x1 x2 x3 x4 x5 _ 1 0 y1 1 rfl rfl (by decide)).symm
  unfold dot
  pointwise [k0_pay193, gc01_apply, gc11_apply, k01_apply, q11_apply]

/-- The weight of token 3 for token 0 at head 1. -/
theorem weight03_1 (y : S1x128x128.Idx) : (k0_pay188 (k0_pay428 x0 x1 x2 x3 x4 x5) : FVec Ideal S1x128x128 .f32) y = blkWeights x0 x1 x2 x3 x4 x5 (r0_60.emb y) := by
  idx_vars y
  refine Eq.trans ?_ ((congrArg (weights x0 x1 x2 x3 x4 x5) (emb16 3 128 1 (by decide) (by decide) (by decide) rfl y0 y1 y2)).trans (weights_lane x0 x1 x2 x3 x4 x5 _ y1 _ y2)).symm
  refine Eq.trans ?_ (weightsAt_high x0 x1 x2 x3 x4 x5 _ 0 3 y1 _ rfl rfl (by decide)).symm
  pointwise [k0_pay69, k0_pay188, k0_pay428]
  all_goals exact Ideal.ofBits_zero .f32

/-- The weight of token 2 for token 0 at head 1. -/
theorem weight02_1 (y : S1x128x128.Idx) : (k0_pay187 (k0_pay428 x0 x1 x2 x3 x4 x5) : FVec Ideal S1x128x128 .f32) y = blkWeights x0 x1 x2 x3 x4 x5 (r0_59.emb y) := by
  idx_vars y
  refine Eq.trans ?_ ((congrArg (weights x0 x1 x2 x3 x4 x5) (emb16 2 128 1 (by decide) (by decide) (by decide) rfl y0 y1 y2)).trans (weights_lane x0 x1 x2 x3 x4 x5 _ y1 _ y2)).symm
  refine Eq.trans ?_ (weightsAt_high x0 x1 x2 x3 x4 x5 _ 0 2 y1 _ rfl rfl (by decide)).symm
  pointwise [k0_pay69, k0_pay187, k0_pay428]
  all_goals exact Ideal.ofBits_zero .f32

/-- The weight of token 1 for token 0 at head 1. -/
theorem weight01_1 (y : S1x128x128.Idx) : (k0_pay186 (k0_pay428 x0 x1 x2 x3 x4 x5) : FVec Ideal S1x128x128 .f32) y = blkWeights x0 x1 x2 x3 x4 x5 (r0_58.emb y) := by
  idx_vars y
  refine Eq.trans ?_ ((congrArg (weights x0 x1 x2 x3 x4 x5) (emb16 1 128 1 (by decide) (by decide) (by decide) rfl y0 y1 y2)).trans (weights_lane x0 x1 x2 x3 x4 x5 _ y1 _ y2)).symm
  refine Eq.trans ?_ (weightsAt_high x0 x1 x2 x3 x4 x5 _ 0 1 y1 _ rfl rfl (by decide)).symm
  pointwise [k0_pay69, k0_pay186, k0_pay428]
  all_goals exact Ideal.ofBits_zero .f32

/-- The weight of token 0 for token 0 at head 1. -/
theorem weight00_1 (y : S1x128x128.Idx) : (k0_pay185 (k0_pay390 x0 x1 x2 x3 x4 x5) (k0_pay445 x0 x1 x2 x3 x4 x5) (k0_pay446 x0 x1 x2 x3 x4 x5) : FVec Ideal S1x128x128 .f32) y = blkWeights x0 x1 x2 x3 x4 x5 (r0_57.emb y) := by
  idx_vars y
  refine Eq.trans ?_ ((congrArg (weights x0 x1 x2 x3 x4 x5) (emb16 0 128 1 (by decide) (by decide) (by decide) rfl y0 y1 y2)).trans (weights_lane x0 x1 x2 x3 x4 x5 _ y1 _ y2)).symm
  refine Eq.trans ?_ (weightsAt_low x0 x1 x2 x3 x4 x5 _ 0 0 y1 1 rfl rfl (by decide)).symm
  unfold dot
  pointwise [k0_pay185, gc01_apply, q01_apply, k01_apply]

/-- The weight of token 3 for token 3 at head 0. -/
theorem weight33_0 (y : S1x128x128.Idx) : (k0_pay140 (k0_pay424 x0 x1 x2 x3 x4 x5) (k0_pay436 x0 x1 x2 x3 x4 x5) (k0_pay437 x0 x1 x2 x3 x4 x5) : FVec Ideal S1x128x128 .f32) y = blkWeights x0 x1 x2 x3 x4 x5 (r0_44.emb y) := by
  idx_vars y
  refine Eq.trans ?_ ((congrArg (weights x0 x1 x2 x3 x4 x5) (emb16 15 0 0 (by decide) (by decide) (by decide) rfl y0 y1 y2)).trans (weights_lane x0 x1 x2 x3 x4 x5 _ y1 _ y2)).symm
  refine Eq.trans ?_ (weightsAt_low x0 x1 x2 x3 x4 x5 _ 3 3 y1 0 rfl rfl (by decide)).symm
  unfold dot
  pointwise [k0_pay140, gc30_apply, q30_apply, k30_apply]

/-- The weight of token 2 for token 3 at head 0. -/
theorem weight32_0 (y : S1x128x128.Idx) : (k0_pay139 (k0_pay138 (k0_pay412 x0 x1 x2 x3 x4 x5) (k0_pay424 x0 x1 x2 x3 x4 x5) (k0_pay435 x0 x1 x2 x3 x4 x5) (k0_pay436 x0 x1 x2 x3 x4 x5)) : FVec Ideal S1x128x128 .f32) y = blkWeights x0 x1 x2 x3 x4 x5 (r0_43.emb y) := by
  idx_vars y
  refine Eq.trans ?_ ((congrArg (weights x0 x1 x2 x3 x4 x5) (emb16 14 0 0 (by decide) (by decide) (by decide) rfl y0 y1 y2)).trans (weights_lane x0 x1 x2 x3 x4 x5 _ y1 _ y2)).symm
  refine Eq.trans ?_ (weightsAt_low x0 x1 x2 x3 x4 x5 _ 3 2 y1 0 rfl rfl (by decide)).symm
  unfold dot
  pointwise [k0_pay138, k0_pay139, gc20_apply, gc30_apply, k20_apply, q30_apply]

/-- The weight of token 1 for token 3 at head 0. -/
theorem weight31_0 (y : S1x128x128.Idx) : (k0_pay137 (k0_pay400 x0 x1 x2 x3 x4 x5) (k0_pay424 x0 x1 x2 x3 x4 x5) (k0_pay433 x0 x1 x2 x3 x4 x5) (k0_pay436 x0 x1 x2 x3 x4 x5) : FVec Ideal S1x128x128 .f32) y = blkWeights x0 x1 x2 x3 x4 x5 (r0_42.emb y) := by
  idx_vars y
  refine Eq.trans ?_ ((congrArg (weights x0 x1 x2 x3 x4 x5) (emb16 13 0 0 (by decide) (by decide) (by decide) rfl y0 y1 y2)).trans (weights_lane x0 x1 x2 x3 x4 x5 _ y1 _ y2)).symm
  refine Eq.trans ?_ (weightsAt_low x0 x1 x2 x3 x4 x5 _ 3 1 y1 0 rfl rfl (by decide)).symm
  unfold dot
  pointwise [k0_pay137, gc10_apply, gc30_apply, k10_apply, q30_apply]

/-- The weight of token 0 for token 3 at head 0. -/
theorem weight30_0 (y : S1x128x128.Idx) : (k0_pay136 (k0_pay389 x0 x1 x2 x3 x4 x5) (k0_pay424 x0 x1 x2 x3 x4 x5) (k0_pay430 x0 x1 x2 x3 x4 x5) (k0_pay436 x0 x1 x2 x3 x4 x5) : FVec Ideal S1x128x128 .f32) y = blkWeights x0 x1 x2 x3 x4 x5 (r0_41.emb y) := by
  idx_vars y
  refine Eq.trans ?_ ((congrArg (weights x0 x1 x2 x3 x4 x5) (emb16 12 0 0 (by decide) (by decide) (by decide) rfl y0 y1 y2)).trans (weights_lane x0 x1 x2 x3 x4 x5 _ y1 _ y2)).symm
  refine Eq.trans ?_ (weightsAt_low x0 x1 x2 x3 x4 x5 _ 3 0 y1 0 rfl rfl (by decide)).symm
  unfold dot
  pointwise [k0_pay136, gc00_apply, gc30_apply, k00_apply, q30_apply]

/-- The weight of token 3 for token 2 at head 0. -/
theorem weight23_0 (y : S1x128x128.Idx) : (k0_pay130 (k0_pay428 x0 x1 x2 x3 x4 x5) : FVec Ideal S1x128x128 .f32) y = blkWeights x0 x1 x2 x3 x4 x5 (r0_36.emb y) := by
  idx_vars y
  refine Eq.trans ?_ ((congrArg (weights x0 x1 x2 x3 x4 x5) (emb16 11 0 0 (by decide) (by decide) (by decide) rfl y0 y1 y2)).trans (weights_lane x0 x1 x2 x3 x4 x5 _ y1 _ y2)).symm
  refine Eq.trans ?_ (weightsAt_high x0 x1 x2 x3 x4 x5 _ 2 3 y1 _ rfl rfl (by decide)).symm
  pointwise [k0_pay69, k0_pay130, k0_pay428]
  all_goals exact Ideal.ofBits_zero .f32

/-- The weight of token 2 for token 2 at head 0. -/
theorem weight22_0 (y : S1x128x128.Idx) : (k0_pay129 (k0_pay412 x0 x1 x2 x3 x4 x5) (k0_pay434 x0 x1 x2 x3 x4 x5) (k0_pay435 x0 x1 x2 x3 x4 x5) : FVec Ideal S1x128x128 .f32) y = blkWeights x0 x1 x2 x3 x4 x5 (r0_35.emb y) := by
  idx_vars y
  refine Eq.trans ?_ ((congrArg (weights x0 x1 x2 x3 x4 x5) (emb16 10 0 0 (by decide) (by decide) (by decide) rfl y0 y1 y2)).trans (weights_lane x0 x1 x2 x3 x4 x5 _ y1 _ y2)).symm
  refine Eq.trans ?_ (weightsAt_low x0 x1 x2 x3 x4 x5 _ 2 2 y1 0 rfl rfl (by decide)).symm
  unfold dot
  pointwise [k0_pay129, gc20_apply, q20_apply, k20_apply]

/-- The weight of token 1 for token 2 at head 0. -/
theorem weight21_0 (y : S1x128x128.Idx) : (k0_pay128 (k0_pay400 x0 x1 x2 x3 x4 x5) (k0_pay412 x0 x1 x2 x3 x4 x5) (k0_pay433 x0 x1 x2 x3 x4 x5) (k0_pay434 x0 x1 x2 x3 x4 x5) : FVec Ideal S1x128x128 .f32) y = blkWeights x0 x1 x2 x3 x4 x5 (r0_34.emb y) := by
  idx_vars y
  refine Eq.trans ?_ ((congrArg (weights x0 x1 x2 x3 x4 x5) (emb16 9 0 0 (by decide) (by decide) (by decide) rfl y0 y1 y2)).trans (weights_lane x0 x1 x2 x3 x4 x5 _ y1 _ y2)).symm
  refine Eq.trans ?_ (weightsAt_low x0 x1 x2 x3 x4 x5 _ 2 1 y1 0 rfl rfl (by decide)).symm
  unfold dot
  pointwise [k0_pay128, gc10_apply, gc20_apply, k10_apply, q20_apply]

/-- The weight of token 0 for token 2 at head 0. -/
theorem weight20_0 (y : S1x128x128.Idx) : (k0_pay127 (k0_pay125 (k0_pay430 x0 x1 x2 x3 x4 x5) (k0_pay434 x0 x1 x2 x3 x4 x5)) (k0_pay126 (k0_pay389 x0 x1 x2 x3 x4 x5) (k0_pay412 x0 x1 x2 x3 x4 x5)) : FVec Ideal S1x128x128 .f32) y = blkWeights x0 x1 x2 x3 x4 x5 (r0_33.emb y) := by
  idx_vars y
  refine Eq.trans ?_ ((congrArg (weights x0 x1 x2 x3 x4 x5) (emb16 8 0 0 (by decide) (by decide) (by decide) rfl y0 y1 y2)).trans (weights_lane x0 x1 x2 x3 x4 x5 _ y1 _ y2)).symm
  refine Eq.trans ?_ (weightsAt_low x0 x1 x2 x3 x4 x5 _ 2 0 y1 0 rfl rfl (by decide)).symm
  unfold dot
  pointwise [k0_pay125, k0_pay126, k0_pay127, gc00_apply, gc20_apply, k00_apply, q20_apply]

/-- The weight of token 3 for token 1 at head 0. -/
theorem weight13_0 (y : S1x128x128.Idx) : (k0_pay120 (k0_pay428 x0 x1 x2 x3 x4 x5) : FVec Ideal S1x128x128 .f32) y = blkWeights x0 x1 x2 x3 x4 x5 (r0_28.emb y) := by
  idx_vars y
  refine Eq.trans ?_ ((congrArg (weights x0 x1 x2 x3 x4 x5) (emb16 7 0 0 (by decide) (by decide) (by decide) rfl y0 y1 y2)).trans (weights_lane x0 x1 x2 x3 x4 x5 _ y1 _ y2)).symm
  refine Eq.trans ?_ (weightsAt_high x0 x1 x2 x3 x4 x5 _ 1 3 y1 _ rfl rfl (by decide)).symm
  pointwise [k0_pay69, k0_pay120, k0_pay428]
  all_goals exact Ideal.ofBits_zero .f32

/-- The weight of token 2 for token 1 at head 0. -/
theorem weight12_0 (y : S1x128x128.Idx) : (k0_pay119 (k0_pay428 x0 x1 x2 x3 x4 x5) : FVec Ideal S1x128x128 .f32) y = blkWeights x0 x1 x2 x3 x4 x5 (r0_27.emb y) := by
  idx_vars y
  refine Eq.trans ?_ ((congrArg (weights x0 x1 x2 x3 x4 x5) (emb16 6 0 0 (by decide) (by decide) (by decide) rfl y0 y1 y2)).trans (weights_lane x0 x1 x2 x3 x4 x5 _ y1 _ y2)).symm
  refine Eq.trans ?_ (weightsAt_high x0 x1 x2 x3 x4 x5 _ 1 2 y1 _ rfl rfl (by decide)).symm
  pointwise [k0_pay69, k0_pay119, k0_pay428]
  all_goals exact Ideal.ofBits_zero .f32

/-- The weight of token 1 for token 1 at head 0. -/
theorem weight11_0 (y : S1x128x128.Idx) : (k0_pay118 (k0_pay117 (k0_pay400 x0 x1 x2 x3 x4 x5) (k0_pay432 x0 x1 x2 x3 x4 x5) (k0_pay433 x0 x1 x2 x3 x4 x5)) : FVec Ideal S1x128x128 .f32) y = blkWeights x0 x1 x2 x3 x4 x5 (r0_26.emb y) := by
  idx_vars y
  refine Eq.trans ?_ ((congrArg (weights x0 x1 x2 x3 x4 x5) (emb16 5 0 0 (by decide) (by decide) (by decide) rfl y0 y1 y2)).trans (weights_lane x0 x1 x2 x3 x4 x5 _ y1 _ y2)).symm
  refine Eq.trans ?_ (weightsAt_low x0 x1 x2 x3 x4 x5 _ 1 1 y1 0 rfl rfl (by decide)).symm
  unfold dot
  pointwise [k0_pay117, k0_pay118, gc10_apply, q10_apply, k10_apply]

/-- The weight of token 0 for token 1 at head 0. -/
theorem weight10_0 (y : S1x128x128.Idx) : (k0_pay116 (k0_pay389 x0 x1 x2 x3 x4 x5) (k0_pay400 x0 x1 x2 x3 x4 x5) (k0_pay430 x0 x1 x2 x3 x4 x5) (k0_pay432 x0 x1 x2 x3 x4 x5) : FVec Ideal S1x128x128 .f32) y = blkWeights x0 x1 x2 x3 x4 x5 (r0_25.emb y) := by
  idx_vars y
  refine Eq.trans ?_ ((congrArg (weights x0 x1 x2 x3 x4 x5) (emb16 4 0 0 (by decide) (by decide) (by decide) rfl y0 y1 y2)).trans (weights_lane x0 x1 x2 x3 x4 x5 _ y1 _ y2)).symm
  refine Eq.trans ?_ (weightsAt_low x0 x1 x2 x3 x4 x5 _ 1 0 y1 0 rfl rfl (by decide)).symm
  unfold dot
  pointwise [k0_pay116, gc00_apply, gc10_apply, k00_apply, q10_apply]

/-- The weight of token 3 for token 0 at head 0. -/
theorem weight03_0 (y : S1x128x128.Idx) : (k0_pay111 (k0_pay428 x0 x1 x2 x3 x4 x5) : FVec Ideal S1x128x128 .f32) y = blkWeights x0 x1 x2 x3 x4 x5 (r0_20.emb y) := by
  idx_vars y
  refine Eq.trans ?_ ((congrArg (weights x0 x1 x2 x3 x4 x5) (emb16 3 0 0 (by decide) (by decide) (by decide) rfl y0 y1 y2)).trans (weights_lane x0 x1 x2 x3 x4 x5 _ y1 _ y2)).symm
  refine Eq.trans ?_ (weightsAt_high x0 x1 x2 x3 x4 x5 _ 0 3 y1 _ rfl rfl (by decide)).symm
  pointwise [k0_pay69, k0_pay111, k0_pay428]
  all_goals exact Ideal.ofBits_zero .f32

/-- The weight of token 2 for token 0 at head 0. -/
theorem weight02_0 (y : S1x128x128.Idx) : (k0_pay110 (k0_pay428 x0 x1 x2 x3 x4 x5) : FVec Ideal S1x128x128 .f32) y = blkWeights x0 x1 x2 x3 x4 x5 (r0_19.emb y) := by
  idx_vars y
  refine Eq.trans ?_ ((congrArg (weights x0 x1 x2 x3 x4 x5) (emb16 2 0 0 (by decide) (by decide) (by decide) rfl y0 y1 y2)).trans (weights_lane x0 x1 x2 x3 x4 x5 _ y1 _ y2)).symm
  refine Eq.trans ?_ (weightsAt_high x0 x1 x2 x3 x4 x5 _ 0 2 y1 _ rfl rfl (by decide)).symm
  pointwise [k0_pay69, k0_pay110, k0_pay428]
  all_goals exact Ideal.ofBits_zero .f32

/-- The weight of token 1 for token 0 at head 0. -/
theorem weight01_0 (y : S1x128x128.Idx) : (k0_pay109 (k0_pay428 x0 x1 x2 x3 x4 x5) : FVec Ideal S1x128x128 .f32) y = blkWeights x0 x1 x2 x3 x4 x5 (r0_18.emb y) := by
  idx_vars y
  refine Eq.trans ?_ ((congrArg (weights x0 x1 x2 x3 x4 x5) (emb16 1 0 0 (by decide) (by decide) (by decide) rfl y0 y1 y2)).trans (weights_lane x0 x1 x2 x3 x4 x5 _ y1 _ y2)).symm
  refine Eq.trans ?_ (weightsAt_high x0 x1 x2 x3 x4 x5 _ 0 1 y1 _ rfl rfl (by decide)).symm
  pointwise [k0_pay69, k0_pay109, k0_pay428]
  all_goals exact Ideal.ofBits_zero .f32

/-- The weight of token 0 for token 0 at head 0. -/
theorem weight00_0 (y : S1x128x128.Idx) : (k0_pay108 (k0_pay389 x0 x1 x2 x3 x4 x5) (k0_pay429 x0 x1 x2 x3 x4 x5) (k0_pay430 x0 x1 x2 x3 x4 x5) : FVec Ideal S1x128x128 .f32) y = blkWeights x0 x1 x2 x3 x4 x5 (r0_17.emb y) := by
  idx_vars y
  refine Eq.trans ?_ ((congrArg (weights x0 x1 x2 x3 x4 x5) (emb16 0 0 0 (by decide) (by decide) (by decide) rfl y0 y1 y2)).trans (weights_lane x0 x1 x2 x3 x4 x5 _ y1 _ y2)).symm
  refine Eq.trans ?_ (weightsAt_low x0 x1 x2 x3 x4 x5 _ 0 0 y1 0 rfl rfl (by decide)).symm
  unfold dot
  pointwise [k0_pay108, gc00_apply, q00_apply, k00_apply]

end Cert.GdnPIdeal.Value

end
-- ==== Proof.GdnPStoresB.lean ====
/-
  The preparation kernel's stores at heads 2 and 3, entry by entry.
-/
module

public import proofs.«01_k».proof.Proof.GdnPPlace

@[expose] public section

set_option maxRecDepth 16384

noncomputable section

namespace Cert.GdnPIdeal.Value

open Idealize.ShloMosaic Idealize.ShloMosaic.TcCoe Idealize.SL.Sem
open Idealize.ShloMosaic.Pipeline (Dat)
open Cert.GdnPIdeal Cert.GdnPIdeal.Gen Cert.GdnPSpec

variable (x0 : Vec Ideal S4x128x1536 .f32) (x1 : Vec Ideal S3x128x1536 .f32) (x2 : Vec Ideal S4x128x128 .f32) (x3 : Vec Ideal S4x1536 .f32)
  (x4 x5 : Vec Ideal S1x128 .f32)

/-- Row 23 at head 3. -/
theorem row23_3 (y : S1x128x128.Idx) : (k0_pay2 (k0_pay428 x0 x1 x2 x3 x4 x5) : FVec Ideal S1x128x128 .f32) y = blkRows x0 x1 x2 x3 x4 x5 (r0_172.emb y) := by
  idx_vars y
  refine Eq.trans ?_ ((congrArg (rows x0 x1 x2 x3 x4 x5) (emb24 23 384 3 (by decide) (by decide) (by decide) rfl y0 y1 y2)).trans (rows_lane x0 x1 x2 x3 x4 x5 _ y1 _ y2)).symm
  pointwise [k0_pay2, k0_pay69, k0_pay428]
  all_goals first | rfl | exact Ideal.ofBits_zero .f32

/-- Row 22 at head 3. -/
theorem row22_3 (y : S1x128x128.Idx) : (k0_pay1 (k0_pay428 x0 x1 x2 x3 x4 x5) : FVec Ideal S1x128x128 .f32) y = blkRows x0 x1 x2 x3 x4 x5 (r0_171.emb y) := by
  idx_vars y
  refine Eq.trans ?_ ((congrArg (rows x0 x1 x2 x3 x4 x5) (emb24 22 384 3 (by decide) (by decide) (by decide) rfl y0 y1 y2)).trans (rows_lane x0 x1 x2 x3 x4 x5 _ y1 _ y2)).symm
  pointwise [k0_pay1, k0_pay69, k0_pay428]
  all_goals first | rfl | exact Ideal.ofBits_zero .f32

/-- Row 21 at head 3. -/
theorem row21_3 (y : S1x128x128.Idx) : (k0_pay373 (k0_pay428 x0 x1 x2 x3 x4 x5) : FVec Ideal S1x128x128 .f32) y = blkRows x0 x1 x2 x3 x4 x5 (r0_170.emb y) := by
  idx_vars y
  refine Eq.trans ?_ ((congrArg (rows x0 x1 x2 x3 x4 x5) (emb24 21 384 3 (by decide) (by decide) (by decide) rfl y0 y1 y2)).trans (rows_lane x0 x1 x2 x3 x4 x5 _ y1 _ y2)).symm
  pointwise [k0_pay69, k0_pay373, k0_pay428]
  all_goals first | rfl | exact Ideal.ofBits_zero .f32

/-- Row 20 at head 3. -/
theorem row20_3 (y : S1x128x128.Idx) : (k0_pay372 (k0_pay428 x0 x1 x2 x3 x4 x5) : FVec Ideal S1x128x128 .f32) y = blkRows x0 x1 x2 x3 x4 x5 (r0_169.emb y) := by
  idx_vars y
  refine Eq.trans ?_ ((congrArg (rows x0 x1 x2 x3 x4 x5) (emb24 20 384 3 (by decide) (by decide) (by decide) rfl y0 y1 y2)).trans (rows_lane x0 x1 x2 x3 x4 x5 _ y1 _ y2)).symm
  pointwise [k0_pay69, k0_pay372, k0_pay428]
  all_goals first | rfl | exact Ideal.ofBits_zero .f32

/-- Row 19 at head 3. -/
theorem row19_3 (y : S1x128x128.Idx) : (k0_pay371 (k0_pay428 x0 x1 x2 x3 x4 x5) : FVec Ideal S1x128x128 .f32) y = blkRows x0 x1 x2 x3 x4 x5 (r0_168.emb y) := by
  idx_vars y
  refine Eq.trans ?_ ((congrArg (rows x0 x1 x2 x3 x4 x5) (emb24 19 384 3 (by decide) (by decide) (by decide) rfl y0 y1 y2)).trans (rows_lane x0 x1 x2 x3 x4 x5 _ y1 _ y2)).symm
  pointwise [k0_pay69, k0_pay371, k0_pay428]
  all_goals first | rfl | exact Ideal.ofBits_zero .f32

/-- Row 18 at head 3. -/
theorem row18_3 (y : S1x128x128.Idx) : (k0_pay370 (k0_pay428 x0 x1 x2 x3 x4 x5) : FVec Ideal S1x128x128 .f32) y = blkRows x0 x1 x2 x3 x4 x5 (r0_167.emb y) := by
  idx_vars y
  refine Eq.trans ?_ ((congrArg (rows x0 x1 x2 x3 x4 x5) (emb24 18 384 3 (by decide) (by decide) (by decide) rfl y0 y1 y2)).trans (rows_lane x0 x1 x2 x3 x4 x5 _ y1 _ y2)).symm
  pointwise [k0_pay69, k0_pay370, k0_pay428]
  all_goals first | rfl | exact Ideal.ofBits_zero .f32

/-- Row 17 at head 3. -/
theorem row17_3 (y : S1x128x128.Idx) : (k0_pay369 (k0_pay428 x0 x1 x2 x3 x4 x5) : FVec Ideal S1x128x128 .f32) y = blkRows x0 x1 x2 x3 x4 x5 (r0_166.emb y) := by
  idx_vars y
  refine Eq.trans ?_ ((congrArg (rows x0 x1 x2 x3 x4 x5) (emb24 17 384 3 (by decide) (by decide) (by decide) rfl y0 y1 y2)).trans (rows_lane x0 x1 x2 x3 x4 x5 _ y1 _ y2)).symm
  pointwise [k0_pay69, k0_pay369, k0_pay428]
  all_goals first | rfl | exact Ideal.ofBits_zero .f32

/-- Row 16 at head 3. -/
theorem row16_3 (y : S1x128x128.Idx) : (k0_pay368 (k0_pay427 x0 x1 x2 x3 x4 x5) : FVec Ideal S1x128x128 .f32) y = blkRows x0 x1 x2 x3 x4 x5 (r0_165.emb y) := by
  idx_vars y
  refine Eq.trans ?_ ((congrArg (rows x0 x1 x2 x3 x4 x5) (emb24 16 384 3 (by decide) (by decide) (by decide) rfl y0 y1 y2)).trans (rows_lane x0 x1 x2 x3 x4 x5 _ y1 _ y2)).symm
  have e : rowsAt x0 x1 x2 x3 x4 x5 (⟨16, by decide⟩ : Fin 24) y1 (⟨3, by decide⟩ : Fin 4) y2 = Ideal.exp (cs x2 x4 x5 y1 3 3) := rfl
  rw [e]
  pointwise [k0_pay368, gc33_apply]
  all_goals rfl

/-- Row 15 at head 3. -/
theorem row15_3 (y : S1x128x128.Idx) : (k0_pay363 (k0_pay427 x0 x1 x2 x3 x4 x5) (k0_pay485 x0 x1 x2 x3 x4 x5) : FVec Ideal S1x128x128 .f32) y = blkRows x0 x1 x2 x3 x4 x5 (r0_160.emb y) := by
  idx_vars y
  refine Eq.trans ?_ ((congrArg (rows x0 x1 x2 x3 x4 x5) (emb24 15 384 3 (by decide) (by decide) (by decide) rfl y0 y1 y2)).trans (rows_lane x0 x1 x2 x3 x4 x5 _ y1 _ y2)).symm
  have e : rowsAt x0 x1 x2 x3 x4 x5 (⟨15, by decide⟩ : Fin 24) y1 (⟨3, by decide⟩ : Fin 4) y2 = ks x0 x1 x3 y1 3 3 y2 * Ideal.exp (cs x2 x4 x5 y1 3 3 - cs x2 x4 x5 y1 3 3) := rfl
  rw [e]
  pointwise [k0_pay363, gc33_apply, k33_apply]
  all_goals rfl

/-- Row 11 at head 3. -/
theorem row11_3 (y : S1x128x128.Idx) : (k0_pay362 (k0_pay331 (k0_pay392 x0 x1 x2 x3 x4 x5) (k0_pay403 x0 x1 x2 x3 x4 x5) (k0_pay411 x0 x1 x2 x3 x4 x5) (k0_pay415 x0 x1 x2 x3 x4 x5) (k0_pay423 x0 x1 x2 x3 x4 x5) (k0_pay427 x0 x1 x2 x3 x4 x5) (k0_pay478 x0 x1 x2 x3 x4 x5) (k0_pay481 x0 x1 x2 x3 x4 x5) (k0_pay483 x0 x1 x2 x3 x4 x5) (k0_pay485 x0 x1 x2 x3 x4 x5) (k0_pay315 (k0_pay381 x0 x1 x2 x3 x4 x5)) (k0_pay486 x0 x1 x2 x3 x4 x5) (k0_pay488 x0 x1 x2 x3 x4 x5) (k0_pay490 x0 x1 x2 x3 x4 x5) (k0_pay492 x0 x1 x2 x3 x4 x5)) : FVec Ideal S1x128x128 .f32) y = blkRows x0 x1 x2 x3 x4 x5 (r0_159.emb y) := by
  idx_vars y
  refine Eq.trans ?_ ((congrArg (rows x0 x1 x2 x3 x4 x5) (emb24 11 384 3 (by decide) (by decide) (by decide) rfl y0 y1 y2)).trans (rows_lane x0 x1 x2 x3 x4 x5 _ y1 _ y2)).symm
  have e : rowsAt x0 x1 x2 x3 x4 x5 (⟨11, by decide⟩ : Fin 24) y1 (⟨3, by decide⟩ : Fin 4) y2 = sol3 (mAt (ks x0 x1 x3 y1 3) (betaAt x2 y1 3) (cs x2 x4 x5 y1 3)) fun t => vs x0 x1 x3 y1 3 t y2 * betaAt x2 y1 3 t := rfl
  rw [e]
  unfold sol3 sol2 sol1 sol0 mAt dot
  unfold vs
  pointwise [k0_pay302, k0_pay305, k0_pay308, k0_pay315, k0_pay316, k0_pay318, k0_pay319, k0_pay321, k0_pay322, k0_pay324, k0_pay325, k0_pay326, k0_pay328, k0_pay329, k0_pay330, k0_pay331, k0_pay362, k0_pay479, k0_pay486, k0_pay488, k0_pay490, k0_pay492, act0_apply, act1_apply, act2_apply, act3_apply, beta03_apply, gc03_apply, beta13_apply, gc13_apply, beta23_apply, gc23_apply, beta33_apply, gc33_apply, k03_apply, k13_apply, k23_apply, k33_apply]
  all_goals rfl

/-- Row 7 at head 3. -/
theorem row7_3 (y : S1x128x128.Idx) : (k0_pay361 (k0_pay427 x0 x1 x2 x3 x4 x5) (k0_pay484 x0 x1 x2 x3 x4 x5) : FVec Ideal S1x128x128 .f32) y = blkRows x0 x1 x2 x3 x4 x5 (r0_158.emb y) := by
  idx_vars y
  refine Eq.trans ?_ ((congrArg (rows x0 x1 x2 x3 x4 x5) (emb24 7 384 3 (by decide) (by decide) (by decide) rfl y0 y1 y2)).trans (rows_lane x0 x1 x2 x3 x4 x5 _ y1 _ y2)).symm
  have e : rowsAt x0 x1 x2 x3 x4 x5 (⟨7, by decide⟩ : Fin 24) y1 (⟨3, by decide⟩ : Fin 4) y2 = qs x0 x1 x3 y1 3 3 y2 * Ideal.exp (cs x2 x4 x5 y1 3 3) := rfl
  rw [e]
  pointwise [k0_pay361, gc33_apply, q33_apply]
  all_goals rfl

/-- Row 3 at head 3. -/
theorem row3_3 (y : S1x128x128.Idx) : (k0_pay360 (k0_pay332 (k0_pay392 x0 x1 x2 x3 x4 x5) (k0_pay403 x0 x1 x2 x3 x4 x5) (k0_pay411 x0 x1 x2 x3 x4 x5) (k0_pay415 x0 x1 x2 x3 x4 x5) (k0_pay423 x0 x1 x2 x3 x4 x5) (k0_pay427 x0 x1 x2 x3 x4 x5) (k0_pay478 x0 x1 x2 x3 x4 x5) (k0_pay481 x0 x1 x2 x3 x4 x5) (k0_pay483 x0 x1 x2 x3 x4 x5) (k0_pay485 x0 x1 x2 x3 x4 x5) (k0_pay487 x0 x1 x2 x3 x4 x5) (k0_pay489 x0 x1 x2 x3 x4 x5) (k0_pay491 x0 x1 x2 x3 x4 x5) (k0_pay492 x0 x1 x2 x3 x4 x5)) : FVec Ideal S1x128x128 .f32) y = blkRows x0 x1 x2 x3 x4 x5 (r0_157.emb y) := by
  idx_vars y
  refine Eq.trans ?_ ((congrArg (rows x0 x1 x2 x3 x4 x5) (emb24 3 384 3 (by decide) (by decide) (by decide) rfl y0 y1 y2)).trans (rows_lane x0 x1 x2 x3 x4 x5 _ y1 _ y2)).symm
  have e : rowsAt x0 x1 x2 x3 x4 x5 (⟨3, by decide⟩ : Fin 24) y1 (⟨3, by decide⟩ : Fin 4) y2 = sol3 (mAt (ks x0 x1 x3 y1 3) (betaAt x2 y1 3) (cs x2 x4 x5 y1 3)) fun t => ks x0 x1 x3 y1 3 t y2 * betaAt x2 y1 3 t * Ideal.exp (cs x2 x4 x5 y1 3 t) := rfl
  rw [e]
  unfold sol3 sol2 sol1 sol0 mAt dot
  pointwise [k0_pay317, k0_pay318, k0_pay320, k0_pay321, k0_pay323, k0_pay324, k0_pay325, k0_pay327, k0_pay328, k0_pay329, k0_pay330, k0_pay332, k0_pay360, k0_pay487, k0_pay489, k0_pay491, k0_pay492, beta03_apply, gc03_apply, beta13_apply, gc13_apply, beta23_apply, gc23_apply, beta33_apply, gc33_apply, k03_apply, k13_apply, k23_apply, k33_apply]
  all_goals rfl

/-- Row 14 at head 3. -/
theorem row14_3 (y : S1x128x128.Idx) : (k0_pay354 (k0_pay415 x0 x1 x2 x3 x4 x5) (k0_pay427 x0 x1 x2 x3 x4 x5) (k0_pay483 x0 x1 x2 x3 x4 x5) : FVec Ideal S1x128x128 .f32) y = blkRows x0 x1 x2 x3 x4 x5 (r0_152.emb y) := by
  idx_vars y
  refine Eq.trans ?_ ((congrArg (rows x0 x1 x2 x3 x4 x5) (emb24 14 384 3 (by decide) (by decide) (by decide) rfl y0 y1 y2)).trans (rows_lane x0 x1 x2 x3 x4 x5 _ y1 _ y2)).symm
  have e : rowsAt x0 x1 x2 x3 x4 x5 (⟨14, by decide⟩ : Fin 24) y1 (⟨3, by decide⟩ : Fin 4) y2 = ks x0 x1 x3 y1 3 2 y2 * Ideal.exp (cs x2 x4 x5 y1 3 3 - cs x2 x4 x5 y1 3 2) := rfl
  rw [e]
  pointwise [k0_pay354, gc23_apply, gc33_apply, k23_apply]
  all_goals rfl

/-- Row 10 at head 3. -/
theorem row10_3 (y : S1x128x128.Idx) : (k0_pay353 (k0_pay326 (k0_pay403 x0 x1 x2 x3 x4 x5) (k0_pay411 x0 x1 x2 x3 x4 x5) (k0_pay415 x0 x1 x2 x3 x4 x5) (k0_pay488 x0 x1 x2 x3 x4 x5) (k0_pay490 x0 x1 x2 x3 x4 x5) (k0_pay492 x0 x1 x2 x3 x4 x5)) : FVec Ideal S1x128x128 .f32) y = blkRows x0 x1 x2 x3 x4 x5 (r0_151.emb y) := by
  idx_vars y
  refine Eq.trans ?_ ((congrArg (rows x0 x1 x2 x3 x4 x5) (emb24 10 384 3 (by decide) (by decide) (by decide) rfl y0 y1 y2)).trans (rows_lane x0 x1 x2 x3 x4 x5 _ y1 _ y2)).symm
  have e : rowsAt x0 x1 x2 x3 x4 x5 (⟨10, by decide⟩ : Fin 24) y1 (⟨3, by decide⟩ : Fin 4) y2 = sol2 (mAt (ks x0 x1 x3 y1 3) (betaAt x2 y1 3) (cs x2 x4 x5 y1 3)) fun t => vs x0 x1 x3 y1 3 t y2 * betaAt x2 y1 3 t := rfl
  rw [e]
  unfold sol2 sol1 sol0 mAt dot
  unfold vs
  pointwise [k0_pay302, k0_pay305, k0_pay308, k0_pay316, k0_pay318, k0_pay319, k0_pay321, k0_pay322, k0_pay324, k0_pay325, k0_pay326, k0_pay353, k0_pay479, k0_pay488, k0_pay490, k0_pay492, act0_apply, act1_apply, act2_apply, beta03_apply, gc03_apply, beta13_apply, gc13_apply, beta23_apply, gc23_apply, k03_apply, k13_apply, k23_apply]
  all_goals rfl

/-- Row 6 at head 3. -/
theorem row6_3 (y : S1x128x128.Idx) : (k0_pay352 (k0_pay415 x0 x1 x2 x3 x4 x5) (k0_pay482 x0 x1 x2 x3 x4 x5) : FVec Ideal S1x128x128 .f32) y = blkRows x0 x1 x2 x3 x4 x5 (r0_150.emb y) := by
  idx_vars y
  refine Eq.trans ?_ ((congrArg (rows x0 x1 x2 x3 x4 x5) (emb24 6 384 3 (by decide) (by decide) (by decide) rfl y0 y1 y2)).trans (rows_lane x0 x1 x2 x3 x4 x5 _ y1 _ y2)).symm
  have e : rowsAt x0 x1 x2 x3 x4 x5 (⟨6, by decide⟩ : Fin 24) y1 (⟨3, by decide⟩ : Fin 4) y2 = qs x0 x1 x3 y1 3 2 y2 * Ideal.exp (cs x2 x4 x5 y1 3 2) := rfl
  rw [e]
  pointwise [k0_pay352, gc23_apply, q23_apply]
  all_goals rfl

/-- Row 2 at head 3. -/
theorem row2_3 (y : S1x128x128.Idx) : (k0_pay351 (k0_pay327 (k0_pay403 x0 x1 x2 x3 x4 x5) (k0_pay411 x0 x1 x2 x3 x4 x5) (k0_pay415 x0 x1 x2 x3 x4 x5) (k0_pay489 x0 x1 x2 x3 x4 x5) (k0_pay491 x0 x1 x2 x3 x4 x5) (k0_pay492 x0 x1 x2 x3 x4 x5)) : FVec Ideal S1x128x128 .f32) y = blkRows x0 x1 x2 x3 x4 x5 (r0_149.emb y) := by
  idx_vars y
  refine Eq.trans ?_ ((congrArg (rows x0 x1 x2 x3 x4 x5) (emb24 2 384 3 (by decide) (by decide) (by decide) rfl y0 y1 y2)).trans (rows_lane x0 x1 x2 x3 x4 x5 _ y1 _ y2)).symm
  have e : rowsAt x0 x1 x2 x3 x4 x5 (⟨2, by decide⟩ : Fin 24) y1 (⟨3, by decide⟩ : Fin 4) y2 = sol2 (mAt (ks x0 x1 x3 y1 3) (betaAt x2 y1 3) (cs x2 x4 x5 y1 3)) fun t => ks x0 x1 x3 y1 3 t y2 * betaAt x2 y1 3 t * Ideal.exp (cs x2 x4 x5 y1 3 t) := rfl
  rw [e]
  unfold sol2 sol1 sol0 mAt dot
  pointwise [k0_pay317, k0_pay318, k0_pay320, k0_pay321, k0_pay323, k0_pay324, k0_pay325, k0_pay327, k0_pay351, k0_pay489, k0_pay491, k0_pay492, beta03_apply, gc03_apply, beta13_apply, gc13_apply, beta23_apply, gc23_apply, k03_apply, k13_apply, k23_apply]
  all_goals rfl

/-- Row 13 at head 3. -/
theorem row13_3 (y : S1x128x128.Idx) : (k0_pay345 (k0_pay403 x0 x1 x2 x3 x4 x5) (k0_pay427 x0 x1 x2 x3 x4 x5) (k0_pay481 x0 x1 x2 x3 x4 x5) : FVec Ideal S1x128x128 .f32) y = blkRows x0 x1 x2 x3 x4 x5 (r0_144.emb y) := by
  idx_vars y
  refine Eq.trans ?_ ((congrArg (rows x0 x1 x2 x3 x4 x5) (emb24 13 384 3 (by decide) (by decide) (by decide) rfl y0 y1 y2)).trans (rows_lane x0 x1 x2 x3 x4 x5 _ y1 _ y2)).symm
  have e : rowsAt x0 x1 x2 x3 x4 x5 (⟨13, by decide⟩ : Fin 24) y1 (⟨3, by decide⟩ : Fin 4) y2 = ks x0 x1 x3 y1 3 1 y2 * Ideal.exp (cs x2 x4 x5 y1 3 3 - cs x2 x4 x5 y1 3 1) := rfl
  rw [e]
  pointwise [k0_pay345, gc13_apply, gc33_apply, k13_apply]
  all_goals rfl

/-- Row 9 at head 3. -/
theorem row9_3 (y : S1x128x128.Idx) : (k0_pay344 (k0_pay488 x0 x1 x2 x3 x4 x5) : FVec Ideal S1x128x128 .f32) y = blkRows x0 x1 x2 x3 x4 x5 (r0_143.emb y) := by
  idx_vars y
  refine Eq.trans ?_ ((congrArg (rows x0 x1 x2 x3 x4 x5) (emb24 9 384 3 (by decide) (by decide) (by decide) rfl y0 y1 y2)).trans (rows_lane x0 x1 x2 x3 x4 x5 _ y1 _ y2)).symm
  have e : rowsAt x0 x1 x2 x3 x4 x5 (⟨9, by decide⟩ : Fin 24) y1 (⟨3, by decide⟩ : Fin 4) y2 = sol1 (mAt (ks x0 x1 x3 y1 3) (betaAt x2 y1 3) (cs x2 x4 x5 y1 3)) fun t => vs x0 x1 x3 y1 3 t y2 * betaAt x2 y1 3 t := rfl
  rw [e]
  unfold sol1 sol0 mAt dot
  unfold vs
  pointwise [k0_pay302, k0_pay305, k0_pay316, k0_pay318, k0_pay319, k0_pay344, k0_pay479, k0_pay488, act0_apply, act1_apply, beta03_apply, gc03_apply, beta13_apply, gc13_apply, k03_apply, k13_apply]
  all_goals rfl

/-- Row 5 at head 3. -/
theorem row5_3 (y : S1x128x128.Idx) : (k0_pay343 (k0_pay403 x0 x1 x2 x3 x4 x5) (k0_pay480 x0 x1 x2 x3 x4 x5) : FVec Ideal S1x128x128 .f32) y = blkRows x0 x1 x2 x3 x4 x5 (r0_142.emb y) := by
  idx_vars y
  refine Eq.trans ?_ ((congrArg (rows x0 x1 x2 x3 x4 x5) (emb24 5 384 3 (by decide) (by decide) (by decide) rfl y0 y1 y2)).trans (rows_lane x0 x1 x2 x3 x4 x5 _ y1 _ y2)).symm
  have e : rowsAt x0 x1 x2 x3 x4 x5 (⟨5, by decide⟩ : Fin 24) y1 (⟨3, by decide⟩ : Fin 4) y2 = qs x0 x1 x3 y1 3 1 y2 * Ideal.exp (cs x2 x4 x5 y1 3 1) := rfl
  rw [e]
  pointwise [k0_pay343, gc13_apply, q13_apply]
  all_goals rfl

/-- Row 1 at head 3. -/
theorem row1_3 (y : S1x128x128.Idx) : (k0_pay342 (k0_pay489 x0 x1 x2 x3 x4 x5) : FVec Ideal S1x128x128 .f32) y = blkRows x0 x1 x2 x3 x4 x5 (r0_141.emb y) := by
  idx_vars y
  refine Eq.trans ?_ ((congrArg (rows x0 x1 x2 x3 x4 x5) (emb24 1 384 3 (by decide) (by decide) (by decide) rfl y0 y1 y2)).trans (rows_lane x0 x1 x2 x3 x4 x5 _ y1 _ y2)).symm
  have e : rowsAt x0 x1 x2 x3 x4 x5 (⟨1, by decide⟩ : Fin 24) y1 (⟨3, by decide⟩ : Fin 4) y2 = sol1 (mAt (ks x0 x1 x3 y1 3) (betaAt x2 y1 3) (cs x2 x4 x5 y1 3)) fun t => ks x0 x1 x3 y1 3 t y2 * betaAt x2 y1 3 t * Ideal.exp (cs x2 x4 x5 y1 3 t) := rfl
  rw [e]
  unfold sol1 sol0 mAt dot
  pointwise [k0_pay317, k0_pay318, k0_pay320, k0_pay342, k0_pay489, beta03_apply, gc03_apply, beta13_apply, gc13_apply, k03_apply, k13_apply]
  all_goals rfl

/-- Row 12 at head 3. -/
theorem row12_3 (y : S1x128x128.Idx) : (k0_pay337 (k0_pay392 x0 x1 x2 x3 x4 x5) (k0_pay427 x0 x1 x2 x3 x4 x5) (k0_pay478 x0 x1 x2 x3 x4 x5) : FVec Ideal S1x128x128 .f32) y = blkRows x0 x1 x2 x3 x4 x5 (r0_136.emb y) := by
  idx_vars y
  refine Eq.trans ?_ ((congrArg (rows x0 x1 x2 x3 x4 x5) (emb24 12 384 3 (by decide) (by decide) (by decide) rfl y0 y1 y2)).trans (rows_lane x0 x1 x2 x3 x4 x5 _ y1 _ y2)).symm
  have e : rowsAt x0 x1 x2 x3 x4 x5 (⟨12, by decide⟩ : Fin 24) y1 (⟨3, by decide⟩ : Fin 4) y2 = ks x0 x1 x3 y1 3 0 y2 * Ideal.exp (cs x2 x4 x5 y1 3 3 - cs x2 x4 x5 y1 3 0) := rfl
  rw [e]
  pointwise [k0_pay337, gc03_apply, gc33_apply, k03_apply]
  all_goals rfl

/-- Row 8 at head 3. -/
theorem row8_3 (y : S1x128x128.Idx) : (k0_pay336 (k0_pay486 x0 x1 x2 x3 x4 x5) : FVec Ideal S1x128x128 .f32) y = blkRows x0 x1 x2 x3 x4 x5 (r0_135.emb y) := by
  idx_vars y
  refine Eq.trans ?_ ((congrArg (rows x0 x1 x2 x3 x4 x5) (emb24 8 384 3 (by decide) (by decide) (by decide) rfl y0 y1 y2)).trans (rows_lane x0 x1 x2 x3 x4 x5 _ y1 _ y2)).symm
  have e : rowsAt x0 x1 x2 x3 x4 x5 (⟨8, by decide⟩ : Fin 24) y1 (⟨3, by decide⟩ : Fin 4) y2 = sol0 fun t => vs x0 x1 x3 y1 3 t y2 * betaAt x2 y1 3 t := rfl
  rw [e]
  unfold sol0
  unfold vs
  pointwise [k0_pay302, k0_pay316, k0_pay336, k0_pay479, k0_pay486, act0_apply, beta03_apply]
  all_goals rfl

/-- Row 4 at head 3. -/
theorem row4_3 (y : S1x128x128.Idx) : (k0_pay335 (k0_pay477 x0 x1 x2 x3 x4 x5) (k0_pay334 (k0_pay392 x0 x1 x2 x3 x4 x5)) : FVec Ideal S1x128x128 .f32) y = blkRows x0 x1 x2 x3 x4 x5 (r0_134.emb y) := by
  idx_vars y
  refine Eq.trans ?_ ((congrArg (rows x0 x1 x2 x3 x4 x5) (emb24 4 384 3 (by decide) (by decide) (by decide) rfl y0 y1 y2)).trans (rows_lane x0 x1 x2 x3 x4 x5 _ y1 _ y2)).symm
  have e : rowsAt x0 x1 x2 x3 x4 x5 (⟨4, by decide⟩ : Fin 24) y1 (⟨3, by decide⟩ : Fin 4) y2 = qs x0 x1 x3 y1 3 0 y2 * Ideal.exp (cs x2 x4 x5 y1 3 0) := rfl
  rw [e]
  pointwise [k0_pay334, k0_pay335, gc03_apply, q03_apply]
  all_goals rfl

/-- Row 0 at head 3. -/
theorem row0_3 (y : S1x128x128.Idx) : (k0_pay333 (k0_pay487 x0 x1 x2 x3 x4 x5) : FVec Ideal S1x128x128 .f32) y = blkRows x0 x1 x2 x3 x4 x5 (r0_133.emb y) := by
  idx_vars y
  refine Eq.trans ?_ ((congrArg (rows x0 x1 x2 x3 x4 x5) (emb24 0 384 3 (by decide) (by decide) (by decide) rfl y0 y1 y2)).trans (rows_lane x0 x1 x2 x3 x4 x5 _ y1 _ y2)).symm
  have e : rowsAt x0 x1 x2 x3 x4 x5 (⟨0, by decide⟩ : Fin 24) y1 (⟨3, by decide⟩ : Fin 4) y2 = sol0 fun t => ks x0 x1 x3 y1 3 t y2 * betaAt x2 y1 3 t * Ideal.exp (cs x2 x4 x5 y1 3 t) := rfl
  rw [e]
  unfold sol0
  pointwise [k0_pay317, k0_pay333, k0_pay487, beta03_apply, gc03_apply, k03_apply]
  all_goals rfl

/-- Row 23 at head 2. -/
theorem row23_2 (y : S1x128x128.Idx) : (k0_pay299 (k0_pay428 x0 x1 x2 x3 x4 x5) : FVec Ideal S1x128x128 .f32) y = blkRows x0 x1 x2 x3 x4 x5 (r0_132.emb y) := by
  idx_vars y
  refine Eq.trans ?_ ((congrArg (rows x0 x1 x2 x3 x4 x5) (emb24 23 256 2 (by decide) (by decide) (by decide) rfl y0 y1 y2)).trans (rows_lane x0 x1 x2 x3 x4 x5 _ y1 _ y2)).symm
  pointwise [k0_pay69, k0_pay299, k0_pay428]
  all_goals first | rfl | exact Ideal.ofBits_zero .f32

/-- Row 22 at head 2. -/
theorem row22_2 (y : S1x128x128.Idx) : (k0_pay298 (k0_pay428 x0 x1 x2 x3 x4 x5) : FVec Ideal S1x128x128 .f32) y = blkRows x0 x1 x2 x3 x4 x5 (r0_131.emb y) := by
  idx_vars y
  refine Eq.trans ?_ ((congrArg (rows x0 x1 x2 x3 x4 x5) (emb24 22 256 2 (by decide) (by decide) (by decide) rfl y0 y1 y2)).trans (rows_lane x0 x1 x2 x3 x4 x5 _ y1 _ y2)).symm
  pointwise [k0_pay69, k0_pay298, k0_pay428]
  all_goals first | rfl | exact Ideal.ofBits_zero .f32

/-- Row 21 at head 2. -/
theorem row21_2 (y : S1x128x128.Idx) : (k0_pay297 (k0_pay428 x0 x1 x2 x3 x4 x5) : FVec Ideal S1x128x128 .f32) y = blkRows x0 x1 x2 x3 x4 x5 (r0_130.emb y) := by
  idx_vars y
  refine Eq.trans ?_ ((congrArg (rows x0 x1 x2 x3 x4 x5) (emb24 21 256 2 (by decide) (by decide) (by decide) rfl y0 y1 y2)).trans (rows_lane x0 x1 x2 x3 x4 x5 _ y1 _ y2)).symm
  pointwise [k0_pay69, k0_pay297, k0_pay428]
  all_goals first | rfl | exact Ideal.ofBits_zero .f32

/-- Row 20 at head 2. -/
theorem row20_2 (y : S1x128x128.Idx) : (k0_pay296 (k0_pay428 x0 x1 x2 x3 x4 x5) : FVec Ideal S1x128x128 .f32) y = blkRows x0 x1 x2 x3 x4 x5 (r0_129.emb y) := by
  idx_vars y
  refine Eq.trans ?_ ((congrArg (rows x0 x1 x2 x3 x4 x5) (emb24 20 256 2 (by decide) (by decide) (by decide) rfl y0 y1 y2)).trans (rows_lane x0 x1 x2 x3 x4 x5 _ y1 _ y2)).symm
  pointwise [k0_pay69, k0_pay296, k0_pay428]
  all_goals first | rfl | exact Ideal.ofBits_zero .f32

/-- Row 19 at head 2. -/
theorem row19_2 (y : S1x128x128.Idx) : (k0_pay295 (k0_pay428 x0 x1 x2 x3 x4 x5) : FVec Ideal S1x128x128 .f32) y = blkRows x0 x1 x2 x3 x4 x5 (r0_128.emb y) := by
  idx_vars y
  refine Eq.trans ?_ ((congrArg (rows x0 x1 x2 x3 x4 x5) (emb24 19 256 2 (by decide) (by decide) (by decide) rfl y0 y1 y2)).trans (rows_lane x0 x1 x2 x3 x4 x5 _ y1 _ y2)).symm
  pointwise [k0_pay69, k0_pay295, k0_pay428]
  all_goals first | rfl | exact Ideal.ofBits_zero .f32

/-- Row 18 at head 2. -/
theorem row18_2 (y : S1x128x128.Idx) : (k0_pay294 (k0_pay428 x0 x1 x2 x3 x4 x5) : FVec Ideal S1x128x128 .f32) y = blkRows x0 x1 x2 x3 x4 x5 (r0_127.emb y) := by
  idx_vars y
  refine Eq.trans ?_ ((congrArg (rows x0 x1 x2 x3 x4 x5) (emb24 18 256 2 (by decide) (by decide) (by decide) rfl y0 y1 y2)).trans (rows_lane x0 x1 x2 x3 x4 x5 _ y1 _ y2)).symm
  pointwise [k0_pay69, k0_pay294, k0_pay428]
  all_goals first | rfl | exact Ideal.ofBits_zero .f32

/-- Row 17 at head 2. -/
theorem row17_2 (y : S1x128x128.Idx) : (k0_pay293 (k0_pay428 x0 x1 x2 x3 x4 x5) : FVec Ideal S1x128x128 .f32) y = blkRows x0 x1 x2 x3 x4 x5 (r0_126.emb y) := by
  idx_vars y
  refine Eq.trans ?_ ((congrArg (rows x0 x1 x2 x3 x4 x5) (emb24 17 256 2 (by decide) (by decide) (by decide) rfl y0 y1 y2)).trans (rows_lane x0 x1 x2 x3 x4 x5 _ y1 _ y2)).symm
  pointwise [k0_pay69, k0_pay293, k0_pay428]
  all_goals first | rfl | exact Ideal.ofBits_zero .f32

/-- Row 16 at head 2. -/
theorem row16_2 (y : S1x128x128.Idx) : (k0_pay292 (k0_pay426 x0 x1 x2 x3 x4 x5) : FVec Ideal S1x128x128 .f32) y = blkRows x0 x1 x2 x3 x4 x5 (r0_125.emb y) := by
  idx_vars y
  refine Eq.trans ?_ ((congrArg (rows x0 x1 x2 x3 x4 x5) (emb24 16 256 2 (by decide) (by decide) (by decide) rfl y0 y1 y2)).trans (rows_lane x0 x1 x2 x3 x4 x5 _ y1 _ y2)).symm
  have e : rowsAt x0 x1 x2 x3 x4 x5 (⟨16, by decide⟩ : Fin 24) y1 (⟨2, by decide⟩ : Fin 4) y2 = Ideal.exp (cs x2 x4 x5 y1 2 3) := rfl
  rw [e]
  pointwise [k0_pay292, gc32_apply]
  all_goals rfl

/-- Row 15 at head 2. -/
theorem row15_2 (y : S1x128x128.Idx) : (k0_pay286 (k0_pay426 x0 x1 x2 x3 x4 x5) (k0_pay470 x0 x1 x2 x3 x4 x5) : FVec Ideal S1x128x128 .f32) y = blkRows x0 x1 x2 x3 x4 x5 (r0_120.emb y) := by
  idx_vars y
  refine Eq.trans ?_ ((congrArg (rows x0 x1 x2 x3 x4 x5) (emb24 15 256 2 (by decide) (by decide) (by decide) rfl y0 y1 y2)).trans (rows_lane x0 x1 x2 x3 x4 x5 _ y1 _ y2)).symm
  have e : rowsAt x0 x1 x2 x3 x4 x5 (⟨15, by decide⟩ : Fin 24) y1 (⟨2, by decide⟩ : Fin 4) y2 = ks x0 x1 x3 y1 2 3 y2 * Ideal.exp (cs x2 x4 x5 y1 2 3 - cs x2 x4 x5 y1 2 3) := rfl
  rw [e]
  pointwise [k0_pay286, gc32_apply, k32_apply]
  all_goals rfl

/-- Row 11 at head 2. -/
theorem row11_2 (y : S1x128x128.Idx) : (k0_pay285 (k0_pay255 (k0_pay414 x0 x1 x2 x3 x4 x5) (k0_pay422 x0 x1 x2 x3 x4 x5) (k0_pay426 x0 x1 x2 x3 x4 x5) (k0_pay468 x0 x1 x2 x3 x4 x5) (k0_pay470 x0 x1 x2 x3 x4 x5) (k0_pay475 x0 x1 x2 x3 x4 x5) (k0_pay252 (k0_pay391 x0 x1 x2 x3 x4 x5) (k0_pay402 x0 x1 x2 x3 x4 x5) (k0_pay422 x0 x1 x2 x3 x4 x5) (k0_pay426 x0 x1 x2 x3 x4 x5) (k0_pay463 x0 x1 x2 x3 x4 x5) (k0_pay466 x0 x1 x2 x3 x4 x5) (k0_pay470 x0 x1 x2 x3 x4 x5) (k0_pay240 (k0_pay381 x0 x1 x2 x3 x4 x5)) (k0_pay471 x0 x1 x2 x3 x4 x5) (k0_pay473 x0 x1 x2 x3 x4 x5))) : FVec Ideal S1x128x128 .f32) y = blkRows x0 x1 x2 x3 x4 x5 (r0_119.emb y) := by
  idx_vars y
  refine Eq.trans ?_ ((congrArg (rows x0 x1 x2 x3 x4 x5) (emb24 11 256 2 (by decide) (by decide) (by decide) rfl y0 y1 y2)).trans (rows_lane x0 x1 x2 x3 x4 x5 _ y1 _ y2)).symm
  have e : rowsAt x0 x1 x2 x3 x4 x5 (⟨11, by decide⟩ : Fin 24) y1 (⟨2, by decide⟩ : Fin 4) y2 = sol3 (mAt (ks x0 x1 x3 y1 2) (betaAt x2 y1 2) (cs x2 x4 x5 y1 2)) fun t => vs x0 x1 x3 y1 2 t y2 * betaAt x2 y1 2 t := rfl
  rw [e]
  unfold sol3 sol2 sol1 sol0 mAt dot
  unfold vs
  pointwise [k0_pay229, k0_pay232, k0_pay237, k0_pay240, k0_pay241, k0_pay243, k0_pay244, k0_pay246, k0_pay247, k0_pay248, k0_pay250, k0_pay251, k0_pay252, k0_pay254, k0_pay255, k0_pay285, k0_pay464, k0_pay471, k0_pay473, k0_pay475, act0_apply, act1_apply, act2_apply, act3_apply, beta02_apply, gc02_apply, beta12_apply, gc12_apply, beta22_apply, gc22_apply, beta32_apply, gc32_apply, k02_apply, k12_apply, k22_apply, k32_apply]
  all_goals rfl

/-- Row 7 at head 2. -/
theorem row7_2 (y : S1x128x128.Idx) : (k0_pay284 (k0_pay426 x0 x1 x2 x3 x4 x5) (k0_pay469 x0 x1 x2 x3 x4 x5) : FVec Ideal S1x128x128 .f32) y = blkRows x0 x1 x2 x3 x4 x5 (r0_118.emb y) := by
  idx_vars y
  refine Eq.trans ?_ ((congrArg (rows x0 x1 x2 x3 x4 x5) (emb24 7 256 2 (by decide) (by decide) (by decide) rfl y0 y1 y2)).trans (rows_lane x0 x1 x2 x3 x4 x5 _ y1 _ y2)).symm
  have e : rowsAt x0 x1 x2 x3 x4 x5 (⟨7, by decide⟩ : Fin 24) y1 (⟨2, by decide⟩ : Fin 4) y2 = qs x0 x1 x3 y1 2 3 y2 * Ideal.exp (cs x2 x4 x5 y1 2 3) := rfl
  rw [e]
  pointwise [k0_pay284, gc32_apply, q32_apply]
  all_goals rfl

/-- Row 3 at head 2. -/
theorem row3_2 (y : S1x128x128.Idx) : (k0_pay283 (k0_pay256 (k0_pay414 x0 x1 x2 x3 x4 x5) (k0_pay422 x0 x1 x2 x3 x4 x5) (k0_pay426 x0 x1 x2 x3 x4 x5) (k0_pay468 x0 x1 x2 x3 x4 x5) (k0_pay470 x0 x1 x2 x3 x4 x5) (k0_pay476 x0 x1 x2 x3 x4 x5) (k0_pay253 (k0_pay391 x0 x1 x2 x3 x4 x5) (k0_pay402 x0 x1 x2 x3 x4 x5) (k0_pay422 x0 x1 x2 x3 x4 x5) (k0_pay426 x0 x1 x2 x3 x4 x5) (k0_pay463 x0 x1 x2 x3 x4 x5) (k0_pay466 x0 x1 x2 x3 x4 x5) (k0_pay470 x0 x1 x2 x3 x4 x5) (k0_pay472 x0 x1 x2 x3 x4 x5) (k0_pay474 x0 x1 x2 x3 x4 x5))) : FVec Ideal S1x128x128 .f32) y = blkRows x0 x1 x2 x3 x4 x5 (r0_117.emb y) := by
  idx_vars y
  refine Eq.trans ?_ ((congrArg (rows x0 x1 x2 x3 x4 x5) (emb24 3 256 2 (by decide) (by decide) (by decide) rfl y0 y1 y2)).trans (rows_lane x0 x1 x2 x3 x4 x5 _ y1 _ y2)).symm
  have e : rowsAt x0 x1 x2 x3 x4 x5 (⟨3, by decide⟩ : Fin 24) y1 (⟨2, by decide⟩ : Fin 4) y2 = sol3 (mAt (ks x0 x1 x3 y1 2) (betaAt x2 y1 2) (cs x2 x4 x5 y1 2)) fun t => ks x0 x1 x3 y1 2 t y2 * betaAt x2 y1 2 t * Ideal.exp (cs x2 x4 x5 y1 2 t) := rfl
  rw [e]
  unfold sol3 sol2 sol1 sol0 mAt dot
  pointwise [k0_pay242, k0_pay243, k0_pay245, k0_pay246, k0_pay247, k0_pay249, k0_pay250, k0_pay251, k0_pay253, k0_pay254, k0_pay256, k0_pay283, k0_pay472, k0_pay474, k0_pay476, beta02_apply, gc02_apply, beta12_apply, gc12_apply, beta22_apply, gc22_apply, beta32_apply, gc32_apply, k02_apply, k12_apply, k22_apply, k32_apply]
  all_goals rfl

/-- Row 14 at head 2. -/
theorem row14_2 (y : S1x128x128.Idx) : (k0_pay278 (k0_pay414 x0 x1 x2 x3 x4 x5) (k0_pay426 x0 x1 x2 x3 x4 x5) (k0_pay468 x0 x1 x2 x3 x4 x5) : FVec Ideal S1x128x128 .f32) y = blkRows x0 x1 x2 x3 x4 x5 (r0_112.emb y) := by
  idx_vars y
  refine Eq.trans ?_ ((congrArg (rows x0 x1 x2 x3 x4 x5) (emb24 14 256 2 (by decide) (by decide) (by decide) rfl y0 y1 y2)).trans (rows_lane x0 x1 x2 x3 x4 x5 _ y1 _ y2)).symm
  have e : rowsAt x0 x1 x2 x3 x4 x5 (⟨14, by decide⟩ : Fin 24) y1 (⟨2, by decide⟩ : Fin 4) y2 = ks x0 x1 x3 y1 2 2 y2 * Ideal.exp (cs x2 x4 x5 y1 2 3 - cs x2 x4 x5 y1 2 2) := rfl
  rw [e]
  pointwise [k0_pay278, gc22_apply, gc32_apply, k22_apply]
  all_goals rfl

/-- Row 10 at head 2. -/
theorem row10_2 (y : S1x128x128.Idx) : (k0_pay277 (k0_pay475 x0 x1 x2 x3 x4 x5) : FVec Ideal S1x128x128 .f32) y = blkRows x0 x1 x2 x3 x4 x5 (r0_111.emb y) := by
  idx_vars y
  refine Eq.trans ?_ ((congrArg (rows x0 x1 x2 x3 x4 x5) (emb24 10 256 2 (by decide) (by decide) (by decide) rfl y0 y1 y2)).trans (rows_lane x0 x1 x2 x3 x4 x5 _ y1 _ y2)).symm
  have e : rowsAt x0 x1 x2 x3 x4 x5 (⟨10, by decide⟩ : Fin 24) y1 (⟨2, by decide⟩ : Fin 4) y2 = sol2 (mAt (ks x0 x1 x3 y1 2) (betaAt x2 y1 2) (cs x2 x4 x5 y1 2)) fun t => vs x0 x1 x3 y1 2 t y2 * betaAt x2 y1 2 t := rfl
  rw [e]
  unfold sol2 sol1 sol0 mAt dot
  unfold vs
  pointwise [k0_pay229, k0_pay232, k0_pay237, k0_pay241, k0_pay243, k0_pay244, k0_pay246, k0_pay247, k0_pay248, k0_pay277, k0_pay464, k0_pay471, k0_pay473, k0_pay475, act0_apply, act1_apply, act2_apply, beta02_apply, gc02_apply, beta12_apply, gc12_apply, beta22_apply, gc22_apply, k02_apply, k12_apply, k22_apply]
  all_goals rfl

/-- Row 6 at head 2. -/
theorem row6_2 (y : S1x128x128.Idx) : (k0_pay276 (k0_pay414 x0 x1 x2 x3 x4 x5) (k0_pay467 x0 x1 x2 x3 x4 x5) : FVec Ideal S1x128x128 .f32) y = blkRows x0 x1 x2 x3 x4 x5 (r0_110.emb y) := by
  idx_vars y
  refine Eq.trans ?_ ((congrArg (rows x0 x1 x2 x3 x4 x5) (emb24 6 256 2 (by decide) (by decide) (by decide) rfl y0 y1 y2)).trans (rows_lane x0 x1 x2 x3 x4 x5 _ y1 _ y2)).symm
  have e : rowsAt x0 x1 x2 x3 x4 x5 (⟨6, by decide⟩ : Fin 24) y1 (⟨2, by decide⟩ : Fin 4) y2 = qs x0 x1 x3 y1 2 2 y2 * Ideal.exp (cs x2 x4 x5 y1 2 2) := rfl
  rw [e]
  pointwise [k0_pay276, gc22_apply, q22_apply]
  all_goals rfl

/-- Row 2 at head 2. -/
theorem row2_2 (y : S1x128x128.Idx) : (k0_pay275 (k0_pay476 x0 x1 x2 x3 x4 x5) : FVec Ideal S1x128x128 .f32) y = blkRows x0 x1 x2 x3 x4 x5 (r0_109.emb y) := by
  idx_vars y
  refine Eq.trans ?_ ((congrArg (rows x0 x1 x2 x3 x4 x5) (emb24 2 256 2 (by decide) (by decide) (by decide) rfl y0 y1 y2)).trans (rows_lane x0 x1 x2 x3 x4 x5 _ y1 _ y2)).symm
  have e : rowsAt x0 x1 x2 x3 x4 x5 (⟨2, by decide⟩ : Fin 24) y1 (⟨2, by decide⟩ : Fin 4) y2 = sol2 (mAt (ks x0 x1 x3 y1 2) (betaAt x2 y1 2) (cs x2 x4 x5 y1 2)) fun t => ks x0 x1 x3 y1 2 t y2 * betaAt x2 y1 2 t * Ideal.exp (cs x2 x4 x5 y1 2 t) := rfl
  rw [e]
  unfold sol2 sol1 sol0 mAt dot
  pointwise [k0_pay242, k0_pay243, k0_pay245, k0_pay246, k0_pay247, k0_pay249, k0_pay275, k0_pay472, k0_pay474, k0_pay476, beta02_apply, gc02_apply, beta12_apply, gc12_apply, beta22_apply, gc22_apply, k02_apply, k12_apply, k22_apply]
  all_goals rfl

/-- Row 13 at head 2. -/
theorem row13_2 (y : S1x128x128.Idx) : (k0_pay268 (k0_pay402 x0 x1 x2 x3 x4 x5) (k0_pay426 x0 x1 x2 x3 x4 x5) (k0_pay466 x0 x1 x2 x3 x4 x5) : FVec Ideal S1x128x128 .f32) y = blkRows x0 x1 x2 x3 x4 x5 (r0_104.emb y) := by
  idx_vars y
  refine Eq.trans ?_ ((congrArg (rows x0 x1 x2 x3 x4 x5) (emb24 13 256 2 (by decide) (by decide) (by decide) rfl y0 y1 y2)).trans (rows_lane x0 x1 x2 x3 x4 x5 _ y1 _ y2)).symm
  have e : rowsAt x0 x1 x2 x3 x4 x5 (⟨13, by decide⟩ : Fin 24) y1 (⟨2, by decide⟩ : Fin 4) y2 = ks x0 x1 x3 y1 2 1 y2 * Ideal.exp (cs x2 x4 x5 y1 2 3 - cs x2 x4 x5 y1 2 1) := rfl
  rw [e]
  pointwise [k0_pay268, gc12_apply, gc32_apply, k12_apply]
  all_goals rfl

/-- Row 9 at head 2. -/
theorem row9_2 (y : S1x128x128.Idx) : (k0_pay267 (k0_pay473 x0 x1 x2 x3 x4 x5) : FVec Ideal S1x128x128 .f32) y = blkRows x0 x1 x2 x3 x4 x5 (r0_103.emb y) := by
  idx_vars y
  refine Eq.trans ?_ ((congrArg (rows x0 x1 x2 x3 x4 x5) (emb24 9 256 2 (by decide) (by decide) (by decide) rfl y0 y1 y2)).trans (rows_lane x0 x1 x2 x3 x4 x5 _ y1 _ y2)).symm
  have e : rowsAt x0 x1 x2 x3 x4 x5 (⟨9, by decide⟩ : Fin 24) y1 (⟨2, by decide⟩ : Fin 4) y2 = sol1 (mAt (ks x0 x1 x3 y1 2) (betaAt x2 y1 2) (cs x2 x4 x5 y1 2)) fun t => vs x0 x1 x3 y1 2 t y2 * betaAt x2 y1 2 t := rfl
  rw [e]
  unfold sol1 sol0 mAt dot
  unfold vs
  pointwise [k0_pay229, k0_pay232, k0_pay241, k0_pay243, k0_pay244, k0_pay267, k0_pay464, k0_pay473, act0_apply, act1_apply, beta02_apply, gc02_apply, beta12_apply, gc12_apply, k02_apply, k12_apply]
  all_goals rfl

/-- Row 5 at head 2. -/
theorem row5_2 (y : S1x128x128.Idx) : (k0_pay266 (k0_pay402 x0 x1 x2 x3 x4 x5) (k0_pay465 x0 x1 x2 x3 x4 x5) : FVec Ideal S1x128x128 .f32) y = blkRows x0 x1 x2 x3 x4 x5 (r0_102.emb y) := by
  idx_vars y
  refine Eq.trans ?_ ((congrArg (rows x0 x1 x2 x3 x4 x5) (emb24 5 256 2 (by decide) (by decide) (by decide) rfl y0 y1 y2)).trans (rows_lane x0 x1 x2 x3 x4 x5 _ y1 _ y2)).symm
  have e : rowsAt x0 x1 x2 x3 x4 x5 (⟨5, by decide⟩ : Fin 24) y1 (⟨2, by decide⟩ : Fin 4) y2 = qs x0 x1 x3 y1 2 1 y2 * Ideal.exp (cs x2 x4 x5 y1 2 1) := rfl
  rw [e]
  pointwise [k0_pay266, gc12_apply, q12_apply]
  all_goals rfl

/-- Row 1 at head 2. -/
theorem row1_2 (y : S1x128x128.Idx) : (k0_pay265 (k0_pay474 x0 x1 x2 x3 x4 x5) : FVec Ideal S1x128x128 .f32) y = blkRows x0 x1 x2 x3 x4 x5 (r0_101.emb y) := by
  idx_vars y
  refine Eq.trans ?_ ((congrArg (rows x0 x1 x2 x3 x4 x5) (emb24 1 256 2 (by decide) (by decide) (by decide) rfl y0 y1 y2)).trans (rows_lane x0 x1 x2 x3 x4 x5 _ y1 _ y2)).symm
  have e : rowsAt x0 x1 x2 x3 x4 x5 (⟨1, by decide⟩ : Fin 24) y1 (⟨2, by decide⟩ : Fin 4) y2 = sol1 (mAt (ks x0 x1 x3 y1 2) (betaAt x2 y1 2) (cs x2 x4 x5 y1 2)) fun t => ks x0 x1 x3 y1 2 t y2 * betaAt x2 y1 2 t * Ideal.exp (cs x2 x4 x5 y1 2 t) := rfl
  rw [e]
  unfold sol1 sol0 mAt dot
  pointwise [k0_pay242, k0_pay243, k0_pay245, k0_pay265, k0_pay474, beta02_apply, gc02_apply, beta12_apply, gc12_apply, k02_apply, k12_apply]
  all_goals rfl

/-- Row 12 at head 2. -/
theorem row12_2 (y : S1x128x128.Idx) : (k0_pay260 (k0_pay391 x0 x1 x2 x3 x4 x5) (k0_pay426 x0 x1 x2 x3 x4 x5) (k0_pay463 x0 x1 x2 x3 x4 x5) : FVec Ideal S1x128x128 .f32) y = blkRows x0 x1 x2 x3 x4 x5 (r0_96.emb y) := by
  idx_vars y
  refine Eq.trans ?_ ((congrArg (rows x0 x1 x2 x3 x4 x5) (emb24 12 256 2 (by decide) (by decide) (by decide) rfl y0 y1 y2)).trans (rows_lane x0 x1 x2 x3 x4 x5 _ y1 _ y2)).symm
  have e : rowsAt x0 x1 x2 x3 x4 x5 (⟨12, by decide⟩ : Fin 24) y1 (⟨2, by decide⟩ : Fin 4) y2 = ks x0 x1 x3 y1 2 0 y2 * Ideal.exp (cs x2 x4 x5 y1 2 3 - cs x2 x4 x5 y1 2 0) := rfl
  rw [e]
  pointwise [k0_pay260, gc02_apply, gc32_apply, k02_apply]
  all_goals rfl

/-- Row 8 at head 2. -/
theorem row8_2 (y : S1x128x128.Idx) : (k0_pay259 (k0_pay471 x0 x1 x2 x3 x4 x5) : FVec Ideal S1x128x128 .f32) y = blkRows x0 x1 x2 x3 x4 x5 (r0_95.emb y) := by
  idx_vars y
  refine Eq.trans ?_ ((congrArg (rows x0 x1 x2 x3 x4 x5) (emb24 8 256 2 (by decide) (by decide) (by decide) rfl y0 y1 y2)).trans (rows_lane x0 x1 x2 x3 x4 x5 _ y1 _ y2)).symm
  have e : rowsAt x0 x1 x2 x3 x4 x5 (⟨8, by decide⟩ : Fin 24) y1 (⟨2, by decide⟩ : Fin 4) y2 = sol0 fun t => vs x0 x1 x3 y1 2 t y2 * betaAt x2 y1 2 t := rfl
  rw [e]
  unfold sol0
  unfold vs
  pointwise [k0_pay229, k0_pay241, k0_pay259, k0_pay464, k0_pay471, act0_apply, beta02_apply]
  all_goals rfl

/-- Row 4 at head 2. -/
theorem row4_2 (y : S1x128x128.Idx) : (k0_pay258 (k0_pay391 x0 x1 x2 x3 x4 x5) (k0_pay462 x0 x1 x2 x3 x4 x5) : FVec Ideal S1x128x128 .f32) y = blkRows x0 x1 x2 x3 x4 x5 (r0_94.emb y) := by
  idx_vars y
  refine Eq.trans ?_ ((congrArg (rows x0 x1 x2 x3 x4 x5) (emb24 4 256 2 (by decide) (by decide) (by decide) rfl y0 y1 y2)).trans (rows_lane x0 x1 x2 x3 x4 x5 _ y1 _ y2)).symm
  have e : rowsAt x0 x1 x2 x3 x4 x5 (⟨4, by decide⟩ : Fin 24) y1 (⟨2, by decide⟩ : Fin 4) y2 = qs x0 x1 x3 y1 2 0 y2 * Ideal.exp (cs x2 x4 x5 y1 2 0) := rfl
  rw [e]
  pointwise [k0_pay258, gc02_apply, q02_apply]
  all_goals rfl

/-- Row 0 at head 2. -/
theorem row0_2 (y : S1x128x128.Idx) : (k0_pay257 (k0_pay472 x0 x1 x2 x3 x4 x5) : FVec Ideal S1x128x128 .f32) y = blkRows x0 x1 x2 x3 x4 x5 (r0_93.emb y) := by
  idx_vars y
  refine Eq.trans ?_ ((congrArg (rows x0 x1 x2 x3 x4 x5) (emb24 0 256 2 (by decide) (by decide) (by decide) rfl y0 y1 y2)).trans (rows_lane x0 x1 x2 x3 x4 x5 _ y1 _ y2)).symm
  have e : rowsAt x0 x1 x2 x3 x4 x5 (⟨0, by decide⟩ : Fin 24) y1 (⟨2, by decide⟩ : Fin 4) y2 = sol0 fun t => ks x0 x1 x3 y1 2 t y2 * betaAt x2 y1 2 t * Ideal.exp (cs x2 x4 x5 y1 2 t) := rfl
  rw [e]
  unfold sol0
  pointwise [k0_pay242, k0_pay257, k0_pay472, beta02_apply, gc02_apply, k02_apply]
  all_goals rfl

/-- The weight of token 3 for token 3 at head 3. -/
theorem weight33_3 (y : S1x128x128.Idx) : (k0_pay367 (k0_pay427 x0 x1 x2 x3 x4 x5) (k0_pay484 x0 x1 x2 x3 x4 x5) (k0_pay485 x0 x1 x2 x3 x4 x5) : FVec Ideal S1x128x128 .f32) y = blkWeights x0 x1 x2 x3 x4 x5 (r0_164.emb y) := by
  idx_vars y
  refine Eq.trans ?_ ((congrArg (weights x0 x1 x2 x3 x4 x5) (emb16 15 384 3 (by decide) (by decide) (by decide) rfl y0 y1 y2)).trans (weights_lane x0 x1 x2 x3 x4 x5 _ y1 _ y2)).symm
  refine Eq.trans ?_ (weightsAt_low x0 x1 x2 x3 x4 x5 _ 3 3 y1 3 rfl rfl (by decide)).symm
  unfold dot
  pointwise [k0_pay367, gc33_apply, q33_apply, k33_apply]

/-- The weight of token 2 for token 3 at head 3. -/
theorem weight32_3 (y : S1x128x128.Idx) : (k0_pay366 (k0_pay415 x0 x1 x2 x3 x4 x5) (k0_pay427 x0 x1 x2 x3 x4 x5) (k0_pay483 x0 x1 x2 x3 x4 x5) (k0_pay484 x0 x1 x2 x3 x4 x5) : FVec Ideal S1x128x128 .f32) y = blkWeights x0 x1 x2 x3 x4 x5 (r0_163.emb y) := by
  idx_vars y
  refine Eq.trans ?_ ((congrArg (weights x0 x1 x2 x3 x4 x5) (emb16 14 384 3 (by decide) (by decide) (by decide) rfl y0 y1 y2)).trans (weights_lane x0 x1 x2 x3 x4 x5 _ y1 _ y2)).symm
  refine Eq.trans ?_ (weightsAt_low x0 x1 x2 x3 x4 x5 _ 3 2 y1 3 rfl rfl (by decide)).symm
  unfold dot
  pointwise [k0_pay366, gc23_apply, gc33_apply, k23_apply, q33_apply]

/-- The weight of token 1 for token 3 at head 3. -/
theorem weight31_3 (y : S1x128x128.Idx) : (k0_pay365 (k0_pay403 x0 x1 x2 x3 x4 x5) (k0_pay427 x0 x1 x2 x3 x4 x5) (k0_pay481 x0 x1 x2 x3 x4 x5) (k0_pay484 x0 x1 x2 x3 x4 x5) : FVec Ideal S1x128x128 .f32) y = blkWeights x0 x1 x2 x3 x4 x5 (r0_162.emb y) := by
  idx_vars y
  refine Eq.trans ?_ ((congrArg (weights x0 x1 x2 x3 x4 x5) (emb16 13 384 3 (by decide) (by decide) (by decide) rfl y0 y1 y2)).trans (weights_lane x0 x1 x2 x3 x4 x5 _ y1 _ y2)).symm
  refine Eq.trans ?_ (weightsAt_low x0 x1 x2 x3 x4 x5 _ 3 1 y1 3 rfl rfl (by decide)).symm
  unfold dot
  pointwise [k0_pay365, gc13_apply, gc33_apply, k13_apply, q33_apply]

/-- The weight of token 0 for token 3 at head 3. -/
theorem weight30_3 (y : S1x128x128.Idx) : (k0_pay364 (k0_pay392 x0 x1 x2 x3 x4 x5) (k0_pay427 x0 x1 x2 x3 x4 x5) (k0_pay478 x0 x1 x2 x3 x4 x5) (k0_pay484 x0 x1 x2 x3 x4 x5) : FVec Ideal S1x128x128 .f32) y = blkWeights x0 x1 x2 x3 x4 x5 (r0_161.emb y) := by
  idx_vars y
  refine Eq.trans ?_ ((congrArg (weights x0 x1 x2 x3 x4 x5) (emb16 12 384 3 (by decide) (by decide) (by decide) rfl y0 y1 y2)).trans (weights_lane x0 x1 x2 x3 x4 x5 _ y1 _ y2)).symm
  refine Eq.trans ?_ (weightsAt_low x0 x1 x2 x3 x4 x5 _ 3 0 y1 3 rfl rfl (by decide)).symm
  unfold dot
  pointwise [k0_pay364, gc03_apply, gc33_apply, k03_apply, q33_apply]

/-- The weight of token 3 for token 2 at head 3. -/
theorem weight23_3 (y : S1x128x128.Idx) : (k0_pay359 (k0_pay428 x0 x1 x2 x3 x4 x5) : FVec Ideal S1x128x128 .f32) y = blkWeights x0 x1 x2 x3 x4 x5 (r0_156.emb y) := by
  idx_vars y
  refine Eq.trans ?_ ((congrArg (weights x0 x1 x2 x3 x4 x5) (emb16 11 384 3 (by decide) (by decide) (by decide) rfl y0 y1 y2)).trans (weights_lane x0 x1 x2 x3 x4 x5 _ y1 _ y2)).symm
  refine Eq.trans ?_ (weightsAt_high x0 x1 x2 x3 x4 x5 _ 2 3 y1 _ rfl rfl (by decide)).symm
  pointwise [k0_pay69, k0_pay359, k0_pay428]
  all_goals exact Ideal.ofBits_zero .f32

/-- The weight of token 2 for token 2 at head 3. -/
theorem weight22_3 (y : S1x128x128.Idx) : (k0_pay358 (k0_pay415 x0 x1 x2 x3 x4 x5) (k0_pay482 x0 x1 x2 x3 x4 x5) (k0_pay483 x0 x1 x2 x3 x4 x5) : FVec Ideal S1x128x128 .f32) y = blkWeights x0 x1 x2 x3 x4 x5 (r0_155.emb y) := by
  idx_vars y
  refine Eq.trans ?_ ((congrArg (weights x0 x1 x2 x3 x4 x5) (emb16 10 384 3 (by decide) (by decide) (by decide) rfl y0 y1 y2)).trans (weights_lane x0 x1 x2 x3 x4 x5 _ y1 _ y2)).symm
  refine Eq.trans ?_ (weightsAt_low x0 x1 x2 x3 x4 x5 _ 2 2 y1 3 rfl rfl (by decide)).symm
  unfold dot
  pointwise [k0_pay358, gc23_apply, q23_apply, k23_apply]

/-- The weight of token 1 for token 2 at head 3. -/
theorem weight21_3 (y : S1x128x128.Idx) : (k0_pay357 (k0_pay403 x0 x1 x2 x3 x4 x5) (k0_pay415 x0 x1 x2 x3 x4 x5) (k0_pay481 x0 x1 x2 x3 x4 x5) (k0_pay482 x0 x1 x2 x3 x4 x5) : FVec Ideal S1x128x128 .f32) y = blkWeights x0 x1 x2 x3 x4 x5 (r0_154.emb y) := by
  idx_vars y
  refine Eq.trans ?_ ((congrArg (weights x0 x1 x2 x3 x4 x5) (emb16 9 384 3 (by decide) (by decide) (by decide) rfl y0 y1 y2)).trans (weights_lane x0 x1 x2 x3 x4 x5 _ y1 _ y2)).symm
  refine Eq.trans ?_ (weightsAt_low x0 x1 x2 x3 x4 x5 _ 2 1 y1 3 rfl rfl (by decide)).symm
  unfold dot
  pointwise [k0_pay357, gc13_apply, gc23_apply, k13_apply, q23_apply]

/-- The weight of token 0 for token 2 at head 3. -/
theorem weight20_3 (y : S1x128x128.Idx) : (k0_pay356 (k0_pay355 (k0_pay392 x0 x1 x2 x3 x4 x5) (k0_pay415 x0 x1 x2 x3 x4 x5) (k0_pay478 x0 x1 x2 x3 x4 x5) (k0_pay482 x0 x1 x2 x3 x4 x5)) : FVec Ideal S1x128x128 .f32) y = blkWeights x0 x1 x2 x3 x4 x5 (r0_153.emb y) := by
  idx_vars y
  refine Eq.trans ?_ ((congrArg (weights x0 x1 x2 x3 x4 x5) (emb16 8 384 3 (by decide) (by decide) (by decide) rfl y0 y1 y2)).trans (weights_lane x0 x1 x2 x3 x4 x5 _ y1 _ y2)).symm
  refine Eq.trans ?_ (weightsAt_low x0 x1 x2 x3 x4 x5 _ 2 0 y1 3 rfl rfl (by decide)).symm
  unfold dot
  pointwise [k0_pay355, k0_pay356, gc03_apply, gc23_apply, k03_apply, q23_apply]

/-- The weight of token 3 for token 1 at head 3. -/
theorem weight13_3 (y : S1x128x128.Idx) : (k0_pay350 (k0_pay428 x0 x1 x2 x3 x4 x5) : FVec Ideal S1x128x128 .f32) y = blkWeights x0 x1 x2 x3 x4 x5 (r0_148.emb y) := by
  idx_vars y
  refine Eq.trans ?_ ((congrArg (weights x0 x1 x2 x3 x4 x5) (emb16 7 384 3 (by decide) (by decide) (by decide) rfl y0 y1 y2)).trans (weights_lane x0 x1 x2 x3 x4 x5 _ y1 _ y2)).symm
  refine Eq.trans ?_ (weightsAt_high x0 x1 x2 x3 x4 x5 _ 1 3 y1 _ rfl rfl (by decide)).symm
  pointwise [k0_pay69, k0_pay350, k0_pay428]
  all_goals exact Ideal.ofBits_zero .f32

/-- The weight of token 2 for token 1 at head 3. -/
theorem weight12_3 (y : S1x128x128.Idx) : (k0_pay349 (k0_pay428 x0 x1 x2 x3 x4 x5) : FVec Ideal S1x128x128 .f32) y = blkWeights x0 x1 x2 x3 x4 x5 (r0_147.emb y) := by
  idx_vars y
  refine Eq.trans ?_ ((congrArg (weights x0 x1 x2 x3 x4 x5) (emb16 6 384 3 (by decide) (by decide) (by decide) rfl y0 y1 y2)).trans (weights_lane x0 x1 x2 x3 x4 x5 _ y1 _ y2)).symm
  refine Eq.trans ?_ (weightsAt_high x0 x1 x2 x3 x4 x5 _ 1 2 y1 _ rfl rfl (by decide)).symm
  pointwise [k0_pay69, k0_pay349, k0_pay428]
  all_goals exact Ideal.ofBits_zero .f32

/-- The weight of token 1 for token 1 at head 3. -/
theorem weight11_3 (y : S1x128x128.Idx) : (k0_pay348 (k0_pay347 (k0_pay403 x0 x1 x2 x3 x4 x5) (k0_pay480 x0 x1 x2 x3 x4 x5) (k0_pay481 x0 x1 x2 x3 x4 x5)) : FVec Ideal S1x128x128 .f32) y = blkWeights x0 x1 x2 x3 x4 x5 (r0_146.emb y) := by
  idx_vars y
  refine Eq.trans ?_ ((congrArg (weights x0 x1 x2 x3 x4 x5) (emb16 5 384 3 (by decide) (by decide) (by decide) rfl y0 y1 y2)).trans (weights_lane x0 x1 x2 x3 x4 x5 _ y1 _ y2)).symm
  refine Eq.trans ?_ (weightsAt_low x0 x1 x2 x3 x4 x5 _ 1 1 y1 3 rfl rfl (by decide)).symm
  unfold dot
  pointwise [k0_pay347, k0_pay348, gc13_apply, q13_apply, k13_apply]

/-- The weight of token 0 for token 1 at head 3. -/
theorem weight10_3 (y : S1x128x128.Idx) : (k0_pay346 (k0_pay392 x0 x1 x2 x3 x4 x5) (k0_pay403 x0 x1 x2 x3 x4 x5) (k0_pay478 x0 x1 x2 x3 x4 x5) (k0_pay480 x0 x1 x2 x3 x4 x5) : FVec Ideal S1x128x128 .f32) y = blkWeights x0 x1 x2 x3 x4 x5 (r0_145.emb y) := by
  idx_vars y
  refine Eq.trans ?_ ((congrArg (weights x0 x1 x2 x3 x4 x5) (emb16 4 384 3 (by decide) (by decide) (by decide) rfl y0 y1 y2)).trans (weights_lane x0 x1 x2 x3 x4 x5 _ y1 _ y2)).symm
  refine Eq.trans ?_ (weightsAt_low x0 x1 x2 x3 x4 x5 _ 1 0 y1 3 rfl rfl (by decide)).symm
  unfold dot
  pointwise [k0_pay346, gc03_apply, gc13_apply, k03_apply, q13_apply]

/-- The weight of token 3 for token 0 at head 3. -/
theorem weight03_3 (y : S1x128x128.Idx) : (k0_pay341 (k0_pay428 x0 x1 x2 x3 x4 x5) : FVec Ideal S1x128x128 .f32) y = blkWeights x0 x1 x2 x3 x4 x5 (r0_140.emb y) := by
  idx_vars y
  refine Eq.trans ?_ ((congrArg (weights x0 x1 x2 x3 x4 x5) (emb16 3 384 3 (by decide) (by decide) (by decide) rfl y0 y1 y2)).trans (weights_lane x0 x1 x2 x3 x4 x5 _ y1 _ y2)).symm
  refine Eq.trans ?_ (weightsAt_high x0 x1 x2 x3 x4 x5 _ 0 3 y1 _ rfl rfl (by decide)).symm
  pointwise [k0_pay69, k0_pay341, k0_pay428]
  all_goals exact Ideal.ofBits_zero .f32

/-- The weight of token 2 for token 0 at head 3. -/
theorem weight02_3 (y : S1x128x128.Idx) : (k0_pay340 (k0_pay428 x0 x1 x2 x3 x4 x5) : FVec Ideal S1x128x128 .f32) y = blkWeights x0 x1 x2 x3 x4 x5 (r0_139.emb y) := by
  idx_vars y
  refine Eq.trans ?_ ((congrArg (weights x0 x1 x2 x3 x4 x5) (emb16 2 384 3 (by decide) (by decide) (by decide) rfl y0 y1 y2)).trans (weights_lane x0 x1 x2 x3 x4 x5 _ y1 _ y2)).symm
  refine Eq.trans ?_ (weightsAt_high x0 x1 x2 x3 x4 x5 _ 0 2 y1 _ rfl rfl (by decide)).symm
  pointwise [k0_pay69, k0_pay340, k0_pay428]
  all_goals exact Ideal.ofBits_zero .f32

/-- The weight of token 1 for token 0 at head 3. -/
theorem weight01_3 (y : S1x128x128.Idx) : (k0_pay339 (k0_pay428 x0 x1 x2 x3 x4 x5) : FVec Ideal S1x128x128 .f32) y = blkWeights x0 x1 x2 x3 x4 x5 (r0_138.emb y) := by
  idx_vars y
  refine Eq.trans ?_ ((congrArg (weights x0 x1 x2 x3 x4 x5) (emb16 1 384 3 (by decide) (by decide) (by decide) rfl y0 y1 y2)).trans (weights_lane x0 x1 x2 x3 x4 x5 _ y1 _ y2)).symm
  refine Eq.trans ?_ (weightsAt_high x0 x1 x2 x3 x4 x5 _ 0 1 y1 _ rfl rfl (by decide)).symm
  pointwise [k0_pay69, k0_pay339, k0_pay428]
  all_goals exact Ideal.ofBits_zero .f32

/-- The weight of token 0 for token 0 at head 3. -/
theorem weight00_3 (y : S1x128x128.Idx) : (k0_pay338 (k0_pay392 x0 x1 x2 x3 x4 x5) (k0_pay477 x0 x1 x2 x3 x4 x5) (k0_pay478 x0 x1 x2 x3 x4 x5) : FVec Ideal S1x128x128 .f32) y = blkWeights x0 x1 x2 x3 x4 x5 (r0_137.emb y) := by
  idx_vars y
  refine Eq.trans ?_ ((congrArg (weights x0 x1 x2 x3 x4 x5) (emb16 0 384 3 (by decide) (by decide) (by decide) rfl y0 y1 y2)).trans (weights_lane x0 x1 x2 x3 x4 x5 _ y1 _ y2)).symm
  refine Eq.trans ?_ (weightsAt_low x0 x1 x2 x3 x4 x5 _ 0 0 y1 3 rfl rfl (by decide)).symm
  unfold dot
  pointwise [k0_pay338, gc03_apply, q03_apply, k03_apply]

/-- The weight of token 3 for token 3 at head 2. -/
theorem weight33_2 (y : S1x128x128.Idx) : (k0_pay291 (k0_pay426 x0 x1 x2 x3 x4 x5) (k0_pay469 x0 x1 x2 x3 x4 x5) (k0_pay470 x0 x1 x2 x3 x4 x5) : FVec Ideal S1x128x128 .f32) y = blkWeights x0 x1 x2 x3 x4 x5 (r0_124.emb y) := by
  idx_vars y
  refine Eq.trans ?_ ((congrArg (weights x0 x1 x2 x3 x4 x5) (emb16 15 256 2 (by decide) (by decide) (by decide) rfl y0 y1 y2)).trans (weights_lane x0 x1 x2 x3 x4 x5 _ y1 _ y2)).symm
  refine Eq.trans ?_ (weightsAt_low x0 x1 x2 x3 x4 x5 _ 3 3 y1 2 rfl rfl (by decide)).symm
  unfold dot
  pointwise [k0_pay291, gc32_apply, q32_apply, k32_apply]

/-- The weight of token 2 for token 3 at head 2. -/
theorem weight32_2 (y : S1x128x128.Idx) : (k0_pay290 (k0_pay414 x0 x1 x2 x3 x4 x5) (k0_pay426 x0 x1 x2 x3 x4 x5) (k0_pay468 x0 x1 x2 x3 x4 x5) (k0_pay469 x0 x1 x2 x3 x4 x5) : FVec Ideal S1x128x128 .f32) y = blkWeights x0 x1 x2 x3 x4 x5 (r0_123.emb y) := by
  idx_vars y
  refine Eq.trans ?_ ((congrArg (weights x0 x1 x2 x3 x4 x5) (emb16 14 256 2 (by decide) (by decide) (by decide) rfl y0 y1 y2)).trans (weights_lane x0 x1 x2 x3 x4 x5 _ y1 _ y2)).symm
  refine Eq.trans ?_ (weightsAt_low x0 x1 x2 x3 x4 x5 _ 3 2 y1 2 rfl rfl (by decide)).symm
  unfold dot
  pointwise [k0_pay290, gc22_apply, gc32_apply, k22_apply, q32_apply]

/-- The weight of token 1 for token 3 at head 2. -/
theorem weight31_2 (y : S1x128x128.Idx) : (k0_pay289 (k0_pay288 (k0_pay402 x0 x1 x2 x3 x4 x5) (k0_pay426 x0 x1 x2 x3 x4 x5) (k0_pay466 x0 x1 x2 x3 x4 x5) (k0_pay469 x0 x1 x2 x3 x4 x5)) : FVec Ideal S1x128x128 .f32) y = blkWeights x0 x1 x2 x3 x4 x5 (r0_122.emb y) := by
  idx_vars y
  refine Eq.trans ?_ ((congrArg (weights x0 x1 x2 x3 x4 x5) (emb16 13 256 2 (by decide) (by decide) (by decide) rfl y0 y1 y2)).trans (weights_lane x0 x1 x2 x3 x4 x5 _ y1 _ y2)).symm
  refine Eq.trans ?_ (weightsAt_low x0 x1 x2 x3 x4 x5 _ 3 1 y1 2 rfl rfl (by decide)).symm
  unfold dot
  pointwise [k0_pay288, k0_pay289, gc12_apply, gc32_apply, k12_apply, q32_apply]

/-- The weight of token 0 for token 3 at head 2. -/
theorem weight30_2 (y : S1x128x128.Idx) : (k0_pay287 (k0_pay391 x0 x1 x2 x3 x4 x5) (k0_pay426 x0 x1 x2 x3 x4 x5) (k0_pay463 x0 x1 x2 x3 x4 x5) (k0_pay469 x0 x1 x2 x3 x4 x5) : FVec Ideal S1x128x128 .f32) y = blkWeights x0 x1 x2 x3 x4 x5 (r0_121.emb y) := by
  idx_vars y
  refine Eq.trans ?_ ((congrArg (weights x0 x1 x2 x3 x4 x5) (emb16 12 256 2 (by decide) (by decide) (by decide) rfl y0 y1 y2)).trans (weights_lane x0 x1 x2 x3 x4 x5 _ y1 _ y2)).symm
  refine Eq.trans ?_ (weightsAt_low x0 x1 x2 x3 x4 x5 _ 3 0 y1 2 rfl rfl (by decide)).symm
  unfold dot
  pointwise [k0_pay287, gc02_apply, gc32_apply, k02_apply, q32_apply]

/-- The weight of token 3 for token 2 at head 2. -/
theorem weight23_2 (y : S1x128x128.Idx) : (k0_pay282 (k0_pay428 x0 x1 x2 x3 x4 x5) : FVec Ideal S1x128x128 .f32) y = blkWeights x0 x1 x2 x3 x4 x5 (r0_116.emb y) := by
  idx_vars y
  refine Eq.trans ?_ ((congrArg (weights x0 x1 x2 x3 x4 x5) (emb16 11 256 2 (by decide) (by decide) (by decide) rfl y0 y1 y2)).trans (weights_lane x0 x1 x2 x3 x4 x5 _ y1 _ y2)).symm
  refine Eq.trans ?_ (weightsAt_high x0 x1 x2 x3 x4 x5 _ 2 3 y1 _ rfl rfl (by decide)).symm
  pointwise [k0_pay69, k0_pay282, k0_pay428]
  all_goals exact Ideal.ofBits_zero .f32

/-- The weight of token 2 for token 2 at head 2. -/
theorem weight22_2 (y : S1x128x128.Idx) : (k0_pay281 (k0_pay414 x0 x1 x2 x3 x4 x5) (k0_pay467 x0 x1 x2 x3 x4 x5) (k0_pay468 x0 x1 x2 x3 x4 x5) : FVec Ideal S1x128x128 .f32) y = blkWeights x0 x1 x2 x3 x4 x5 (r0_115.emb y) := by
  idx_vars y
  refine Eq.trans ?_ ((congrArg (weights x0 x1 x2 x3 x4 x5) (emb16 10 256 2 (by decide) (by decide) (by decide) rfl y0 y1 y2)).trans (weights_lane x0 x1 x2 x3 x4 x5 _ y1 _ y2)).symm
  refine Eq.trans ?_ (weightsAt_low x0 x1 x2 x3 x4 x5 _ 2 2 y1 2 rfl rfl (by decide)).symm
  unfold dot
  pointwise [k0_pay281, gc22_apply, q22_apply, k22_apply]

/-- The weight of token 1 for token 2 at head 2. -/
theorem weight21_2 (y : S1x128x128.Idx) : (k0_pay280 (k0_pay402 x0 x1 x2 x3 x4 x5) (k0_pay414 x0 x1 x2 x3 x4 x5) (k0_pay466 x0 x1 x2 x3 x4 x5) (k0_pay467 x0 x1 x2 x3 x4 x5) : FVec Ideal S1x128x128 .f32) y = blkWeights x0 x1 x2 x3 x4 x5 (r0_114.emb y) := by
  idx_vars y
  refine Eq.trans ?_ ((congrArg (weights x0 x1 x2 x3 x4 x5) (emb16 9 256 2 (by decide) (by decide) (by decide) rfl y0 y1 y2)).trans (weights_lane x0 x1 x2 x3 x4 x5 _ y1 _ y2)).symm
  refine Eq.trans ?_ (weightsAt_low x0 x1 x2 x3 x4 x5 _ 2 1 y1 2 rfl rfl (by decide)).symm
  unfold dot
  pointwise [k0_pay280, gc12_apply, gc22_apply, k12_apply, q22_apply]

/-- The weight of token 0 for token 2 at head 2. -/
theorem weight20_2 (y : S1x128x128.Idx) : (k0_pay279 (k0_pay391 x0 x1 x2 x3 x4 x5) (k0_pay414 x0 x1 x2 x3 x4 x5) (k0_pay463 x0 x1 x2 x3 x4 x5) (k0_pay467 x0 x1 x2 x3 x4 x5) : FVec Ideal S1x128x128 .f32) y = blkWeights x0 x1 x2 x3 x4 x5 (r0_113.emb y) := by
  idx_vars y
  refine Eq.trans ?_ ((congrArg (weights x0 x1 x2 x3 x4 x5) (emb16 8 256 2 (by decide) (by decide) (by decide) rfl y0 y1 y2)).trans (weights_lane x0 x1 x2 x3 x4 x5 _ y1 _ y2)).symm
  refine Eq.trans ?_ (weightsAt_low x0 x1 x2 x3 x4 x5 _ 2 0 y1 2 rfl rfl (by decide)).symm
  unfold dot
  pointwise [k0_pay279, gc02_apply, gc22_apply, k02_apply, q22_apply]

/-- The weight of token 3 for token 1 at head 2. -/
theorem weight13_2 (y : S1x128x128.Idx) : (k0_pay274 (k0_pay428 x0 x1 x2 x3 x4 x5) : FVec Ideal S1x128x128 .f32) y = blkWeights x0 x1 x2 x3 x4 x5 (r0_108.emb y) := by
  idx_vars y
  refine Eq.trans ?_ ((congrArg (weights x0 x1 x2 x3 x4 x5) (emb16 7 256 2 (by decide) (by decide) (by decide) rfl y0 y1 y2)).trans (weights_lane x0 x1 x2 x3 x4 x5 _ y1 _ y2)).symm
  refine Eq.trans ?_ (weightsAt_high x0 x1 x2 x3 x4 x5 _ 1 3 y1 _ rfl rfl (by decide)).symm
  pointwise [k0_pay69, k0_pay274, k0_pay428]
  all_goals exact Ideal.ofBits_zero .f32

/-- The weight of token 2 for token 1 at head 2. -/
theorem weight12_2 (y : S1x128x128.Idx) : (k0_pay273 (k0_pay428 x0 x1 x2 x3 x4 x5) : FVec Ideal S1x128x128 .f32) y = blkWeights x0 x1 x2 x3 x4 x5 (r0_107.emb y) := by
  idx_vars y
  refine Eq.trans ?_ ((congrArg (weights x0 x1 x2 x3 x4 x5) (emb16 6 256 2 (by decide) (by decide) (by decide) rfl y0 y1 y2)).trans (weights_lane x0 x1 x2 x3 x4 x5 _ y1 _ y2)).symm
  refine Eq.trans ?_ (weightsAt_high x0 x1 x2 x3 x4 x5 _ 1 2 y1 _ rfl rfl (by decide)).symm
  pointwise [k0_pay69, k0_pay273, k0_pay428]
  all_goals exact Ideal.ofBits_zero .f32

/-- The weight of token 1 for token 1 at head 2. -/
theorem weight11_2 (y : S1x128x128.Idx) : (k0_pay272 (k0_pay402 x0 x1 x2 x3 x4 x5) (k0_pay465 x0 x1 x2 x3 x4 x5) (k0_pay466 x0 x1 x2 x3 x4 x5) : FVec Ideal S1x128x128 .f32) y = blkWeights x0 x1 x2 x3 x4 x5 (r0_106.emb y) := by
  idx_vars y
  refine Eq.trans ?_ ((congrArg (weights x0 x1 x2 x3 x4 x5) (emb16 5 256 2 (by decide) (by decide) (by decide) rfl y0 y1 y2)).trans (weights_lane x0 x1 x2 x3 x4 x5 _ y1 _ y2)).symm
  refine Eq.trans ?_ (weightsAt_low x0 x1 x2 x3 x4 x5 _ 1 1 y1 2 rfl rfl (by decide)).symm
  unfold dot
  pointwise [k0_pay272, gc12_apply, q12_apply, k12_apply]

/-- The weight of token 0 for token 1 at head 2. -/
theorem weight10_2 (y : S1x128x128.Idx) : (k0_pay271 (k0_pay269 (k0_pay463 x0 x1 x2 x3 x4 x5) (k0_pay465 x0 x1 x2 x3 x4 x5)) (k0_pay270 (k0_pay391 x0 x1 x2 x3 x4 x5) (k0_pay402 x0 x1 x2 x3 x4 x5)) : FVec Ideal S1x128x128 .f32) y = blkWeights x0 x1 x2 x3 x4 x5 (r0_105.emb y) := by
  idx_vars y
  refine Eq.trans ?_ ((congrArg (weights x0 x1 x2 x3 x4 x5) (emb16 4 256 2 (by decide) (by decide) (by decide) rfl y0 y1 y2)).trans (weights_lane x0 x1 x2 x3 x4 x5 _ y1 _ y2)).symm
  refine Eq.trans ?_ (weightsAt_low x0 x1 x2 x3 x4 x5 _ 1 0 y1 2 rfl rfl (by decide)).symm
  unfold dot
  pointwise [k0_pay269, k0_pay270, k0_pay271, gc02_apply, gc12_apply, k02_apply, q12_apply]

/-- The weight of token 3 for token 0 at head 2. -/
theorem weight03_2 (y : S1x128x128.Idx) : (k0_pay264 (k0_pay428 x0 x1 x2 x3 x4 x5) : FVec Ideal S1x128x128 .f32) y = blkWeights x0 x1 x2 x3 x4 x5 (r0_100.emb y) := by
  idx_vars y
  refine Eq.trans ?_ ((congrArg (weights x0 x1 x2 x3 x4 x5) (emb16 3 256 2 (by decide) (by decide) (by decide) rfl y0 y1 y2)).trans (weights_lane x0 x1 x2 x3 x4 x5 _ y1 _ y2)).symm
  refine Eq.trans ?_ (weightsAt_high x0 x1 x2 x3 x4 x5 _ 0 3 y1 _ rfl rfl (by decide)).symm
  pointwise [k0_pay69, k0_pay264, k0_pay428]
  all_goals exact Ideal.ofBits_zero .f32

/-- The weight of token 2 for token 0 at head 2. -/
theorem weight02_2 (y : S1x128x128.Idx) : (k0_pay263 (k0_pay428 x0 x1 x2 x3 x4 x5) : FVec Ideal S1x128x128 .f32) y = blkWeights x0 x1 x2 x3 x4 x5 (r0_99.emb y) := by
  idx_vars y
  refine Eq.trans ?_ ((congrArg (weights x0 x1 x2 x3 x4 x5) (emb16 2 256 2 (by decide) (by decide) (by decide) rfl y0 y1 y2)).trans (weights_lane x0 x1 x2 x3 x4 x5 _ y1 _ y2)).symm
  refine Eq.trans ?_ (weightsAt_high x0 x1 x2 x3 x4 x5 _ 0 2 y1 _ rfl rfl (by decide)).symm
  pointwise [k0_pay69, k0_pay263, k0_pay428]
  all_goals exact Ideal.ofBits_zero .f32

/-- The weight of token 1 for token 0 at head 2. -/
theorem weight01_2 (y : S1x128x128.Idx) : (k0_pay262 (k0_pay428 x0 x1 x2 x3 x4 x5) : FVec Ideal S1x128x128 .f32) y = blkWeights x0 x1 x2 x3 x4 x5 (r0_98.emb y) := by
  idx_vars y
  refine Eq.trans ?_ ((congrArg (weights x0 x1 x2 x3 x4 x5) (emb16 1 256 2 (by decide) (by decide) (by decide) rfl y0 y1 y2)).trans (weights_lane x0 x1 x2 x3 x4 x5 _ y1 _ y2)).symm
  refine Eq.trans ?_ (weightsAt_high x0 x1 x2 x3 x4 x5 _ 0 1 y1 _ rfl rfl (by decide)).symm
  pointwise [k0_pay69, k0_pay262, k0_pay428]
  all_goals exact Ideal.ofBits_zero .f32

/-- The weight of token 0 for token 0 at head 2. -/
theorem weight00_2 (y : S1x128x128.Idx) : (k0_pay261 (k0_pay391 x0 x1 x2 x3 x4 x5) (k0_pay462 x0 x1 x2 x3 x4 x5) (k0_pay463 x0 x1 x2 x3 x4 x5) : FVec Ideal S1x128x128 .f32) y = blkWeights x0 x1 x2 x3 x4 x5 (r0_97.emb y) := by
  idx_vars y
  refine Eq.trans ?_ ((congrArg (weights x0 x1 x2 x3 x4 x5) (emb16 0 256 2 (by decide) (by decide) (by decide) rfl y0 y1 y2)).trans (weights_lane x0 x1 x2 x3 x4 x5 _ y1 _ y2)).symm
  refine Eq.trans ?_ (weightsAt_low x0 x1 x2 x3 x4 x5 _ 0 0 y1 2 rfl rfl (by decide)).symm
  unfold dot
  pointwise [k0_pay261, gc02_apply, q02_apply, k02_apply]

end Cert.GdnPIdeal.Value

end
-- ==== Proof.GdnPValue.lean ====
/-
  The preparation kernel's two results as functions of the arguments: one grid point, one store for each row and head.
-/
module

public import proofs.«01_k».proof.Proof.GdnPStoresA
public import proofs.«01_k».proof.Proof.GdnPStoresB

@[expose] public section

set_option maxRecDepth 16384

noncomputable section

namespace Cert.GdnPIdeal.Value

open Idealize.ShloMosaic Idealize.ShloMosaic.TcCoe Idealize.SL.Sem
open Idealize.ShloMosaic.Pipeline (Dat)
open Cert.GdnPIdeal Cert.GdnPIdeal.Gen Cert.GdnPSpec

variable (x0 : Vec Ideal S4x128x1536 .f32) (x1 : Vec Ideal S3x128x1536 .f32) (x2 : Vec Ideal S4x128x128 .f32) (x3 : Vec Ideal S4x1536 .f32)
  (x4 x5 : Vec Ideal S1x128 .f32)

/-- What the body leaves in the first result. -/
theorem rows_block : out0_6 x0 x1 x2 x3 x4 x5 = blkRows x0 x1 x2 x3 x4 x5 := by
  funext y
  unfold out0_6
  refine View.canon_apply_of_pieces (blkRows x0 x1 x2 x3 x4 x5) _ ?_ y (cover0_6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine List.forall_mem_cons.mpr ⟨fun y => row23_3 x0 x1 x2 x3 x4 x5 y, ?_⟩
  refine List.forall_mem_cons.mpr ⟨fun y => row22_3 x0 x1 x2 x3 x4 x5 y, ?_⟩
  refine List.forall_mem_cons.mpr ⟨fun y => row21_3 x0 x1 x2 x3 x4 x5 y, ?_⟩
  refine List.forall_mem_cons.mpr ⟨fun y => row20_3 x0 x1 x2 x3 x4 x5 y, ?_⟩
  refine List.forall_mem_cons.mpr ⟨fun y => row19_3 x0 x1 x2 x3 x4 x5 y, ?_⟩
  refine List.forall_mem_cons.mpr ⟨fun y => row18_3 x0 x1 x2 x3 x4 x5 y, ?_⟩
  refine List.forall_mem_cons.mpr ⟨fun y => row17_3 x0 x1 x2 x3 x4 x5 y, ?_⟩
  refine List.forall_mem_cons.mpr ⟨fun y => row16_3 x0 x1 x2 x3 x4 x5 y, ?_⟩
  refine List.forall_mem_cons.mpr ⟨fun y => row15_3 x0 x1 x2 x3 x4 x5 y, ?_⟩
  refine List.forall_mem_cons.mpr ⟨fun y => row11_3 x0 x1 x2 x3 x4 x5 y, ?_⟩
  refine List.forall_mem_cons.mpr ⟨fun y => row7_3 x0 x1 x2 x3 x4 x5 y, ?_⟩
  refine List.forall_mem_cons.mpr ⟨fun y => row3_3 x0 x1 x2 x3 x4 x5 y, ?_⟩
  refine List.forall_mem_cons.mpr ⟨fun y => row14_3 x0 x1 x2 x3 x4 x5 y, ?_⟩
  refine List.forall_mem_cons.mpr ⟨fun y => row10_3 x0 x1 x2 x3 x4 x5 y, ?_⟩
  refine List.forall_mem_cons.mpr ⟨fun y => row6_3 x0 x1 x2 x3 x4 x5 y, ?_⟩
  refine List.forall_mem_cons.mpr ⟨fun y => row2_3 x0 x1 x2 x3 x4 x5 y, ?_⟩
  refine List.forall_mem_cons.mpr ⟨fun y => row13_3 x0 x1 x2 x3 x4 x5 y, ?_⟩
  refine List.forall_mem_cons.mpr ⟨fun y => row9_3 x0 x1 x2 x3 x4 x5 y, ?_⟩
  refine List.forall_mem_cons.mpr ⟨fun y => row5_3 x0 x1 x2 x3 x4 x5 y, ?_⟩
  refine List.forall_mem_cons.mpr ⟨fun y => row1_3 x0 x1 x2 x3 x4 x5 y, ?_⟩
  refine List.forall_mem_cons.mpr ⟨fun y => row12_3 x0 x1 x2 x3 x4 x5 y, ?_⟩
  refine List.forall_mem_cons.mpr ⟨fun y => row8_3 x0 x1 x2 x3 x4 x5 y, ?_⟩
  refine List.forall_mem_cons.mpr ⟨fun y => row4_3 x0 x1 x2 x3 x4 x5 y, ?_⟩
  refine List.forall_mem_cons.mpr ⟨fun y => row0_3 x0 x1 x2 x3 x4 x5 y, ?_⟩
  refine List.forall_mem_cons.mpr ⟨fun y => row23_2 x0 x1 x2 x3 x4 x5 y, ?_⟩
  refine List.forall_mem_cons.mpr ⟨fun y => row22_2 x0 x1 x2 x3 x4 x5 y, ?_⟩
  refine List.forall_mem_cons.mpr ⟨fun y => row21_2 x0 x1 x2 x3 x4 x5 y, ?_⟩
  refine List.forall_mem_cons.mpr ⟨fun y => row20_2 x0 x1 x2 x3 x4 x5 y, ?_⟩
  refine List.forall_mem_cons.mpr ⟨fun y => row19_2 x0 x1 x2 x3 x4 x5 y, ?_⟩
  refine List.forall_mem_cons.mpr ⟨fun y => row18_2 x0 x1 x2 x3 x4 x5 y, ?_⟩
  refine List.forall_mem_cons.mpr ⟨fun y => row17_2 x0 x1 x2 x3 x4 x5 y, ?_⟩
  refine List.forall_mem_cons.mpr ⟨fun y => row16_2 x0 x1 x2 x3 x4 x5 y, ?_⟩
  refine List.forall_mem_cons.mpr ⟨fun y => row15_2 x0 x1 x2 x3 x4 x5 y, ?_⟩
  refine List.forall_mem_cons.mpr ⟨fun y => row11_2 x0 x1 x2 x3 x4 x5 y, ?_⟩
  refine List.forall_mem_cons.mpr ⟨fun y => row7_2 x0 x1 x2 x3 x4 x5 y, ?_⟩
  refine List.forall_mem_cons.mpr ⟨fun y => row3_2 x0 x1 x2 x3 x4 x5 y, ?_⟩
  refine List.forall_mem_cons.mpr ⟨fun y => row14_2 x0 x1 x2 x3 x4 x5 y, ?_⟩
  refine List.forall_mem_cons.mpr ⟨fun y => row10_2 x0 x1 x2 x3 x4 x5 y, ?_⟩
  refine List.forall_mem_cons.mpr ⟨fun y => row6_2 x0 x1 x2 x3 x4 x5 y, ?_⟩
  refine List.forall_mem_cons.mpr ⟨fun y => row2_2 x0 x1 x2 x3 x4 x5 y, ?_⟩
  refine List.forall_mem_cons.mpr ⟨fun y => row13_2 x0 x1 x2 x3 x4 x5 y, ?_⟩
  refine List.forall_mem_cons.mpr ⟨fun y => row9_2 x0 x1 x2 x3 x4 x5 y, ?_⟩
  refine List.forall_mem_cons.mpr ⟨fun y => row5_2 x0 x1 x2 x3 x4 x5 y, ?_⟩
  refine List.forall_mem_cons.mpr ⟨fun y => row1_2 x0 x1 x2 x3 x4 x5 y, ?_⟩
  refine List.forall_mem_cons.mpr ⟨fun y => row12_2 x0 x1 x2 x3 x4 x5 y, ?_⟩
  refine List.forall_mem_cons.mpr ⟨fun y => row8_2 x0 x1 x2 x3 x4 x5 y, ?_⟩
  refine List.forall_mem_cons.mpr ⟨fun y => row4_2 x0 x1 x2 x3 x4 x5 y, ?_⟩
  refine List.forall_mem_cons.mpr ⟨fun y => row0_2 x0 x1 x2 x3 x4 x5 y, ?_⟩
  refine List.forall_mem_cons.mpr ⟨fun y => row23_1 x0 x1 x2 x3 x4 x5 y, ?_⟩
  refine List.forall_mem_cons.mpr ⟨fun y => row22_1 x0 x1 x2 x3 x4 x5 y, ?_⟩
  refine List.forall_mem_cons.mpr ⟨fun y => row21_1 x0 x1 x2 x3 x4 x5 y, ?_⟩
  refine List.forall_mem_cons.mpr ⟨fun y => row20_1 x0 x1 x2 x3 x4 x5 y, ?_⟩
  refine List.forall_mem_cons.mpr ⟨fun y => row19_1 x0 x1 x2 x3 x4 x5 y, ?_⟩
  refine List.forall_mem_cons.mpr ⟨fun y => row18_1 x0 x1 x2 x3 x4 x5 y, ?_⟩
  refine List.forall_mem_cons.mpr ⟨fun y => row17_1 x0 x1 x2 x3 x4 x5 y, ?_⟩
  refine List.forall_mem_cons.mpr ⟨fun y => row16_1 x0 x1 x2 x3 x4 x5 y, ?_⟩
  refine List.forall_mem_cons.mpr ⟨fun y => row15_1 x0 x1 x2 x3 x4 x5 y, ?_⟩
  refine List.forall_mem_cons.mpr ⟨fun y => row11_1 x0 x1 x2 x3 x4 x5 y, ?_⟩
  refine List.forall_mem_cons.mpr ⟨fun y => row7_1 x0 x1 x2 x3 x4 x5 y, ?_⟩
  refine List.forall_mem_cons.mpr ⟨fun y => row3_1 x0 x1 x2 x3 x4 x5 y, ?_⟩
  refine List.forall_mem_cons.mpr ⟨fun y => row14_1 x0 x1 x2 x3 x4 x5 y, ?_⟩
  refine List.forall_mem_cons.mpr ⟨fun y => row10_1 x0 x1 x2 x3 x4 x5 y, ?_⟩
  refine List.forall_mem_cons.mpr ⟨fun y => row6_1 x0 x1 x2 x3 x4 x5 y, ?_⟩
  refine List.forall_mem_cons.mpr ⟨fun y => row2_1 x0 x1 x2 x3 x4 x5 y, ?_⟩
  refine List.forall_mem_cons.mpr ⟨fun y => row13_1 x0 x1 x2 x3 x4 x5 y, ?_⟩
  refine List.forall_mem_cons.mpr ⟨fun y => row9_1 x0 x1 x2 x3 x4 x5 y, ?_⟩
  refine List.forall_mem_cons.mpr ⟨fun y => row5_1 x0 x1 x2 x3 x4 x5 y, ?_⟩
  refine List.forall_mem_cons.mpr ⟨fun y => row1_1 x0 x1 x2 x3 x4 x5 y, ?_⟩
  refine List.forall_mem_cons.mpr ⟨fun y => row12_1 x0 x1 x2 x3 x4 x5 y, ?_⟩
  refine List.forall_mem_cons.mpr ⟨fun y => row8_1 x0 x1 x2 x3 x4 x5 y, ?_⟩
  refine List.forall_mem_cons.mpr ⟨fun y => row4_1 x0 x1 x2 x3 x4 x5 y, ?_⟩
  refine List.forall_mem_cons.mpr ⟨fun y => row0_1 x0 x1 x2 x3 x4 x5 y, ?_⟩
  refine List.forall_mem_cons.mpr ⟨fun y => row23_0 x0 x1 x2 x3 x4 x5 y, ?_⟩
  refine List.forall_mem_cons.mpr ⟨fun y => row22_0 x0 x1 x2 x3 x4 x5 y, ?_⟩
  refine List.forall_mem_cons.mpr ⟨fun y => row21_0 x0 x1 x2 x3 x4 x5 y, ?_⟩
  refine List.forall_mem_cons.mpr ⟨fun y => row20_0 x0 x1 x2 x3 x4 x5 y, ?_⟩
  refine List.forall_mem_cons.mpr ⟨fun y => row19_0 x0 x1 x2 x3 x4 x5 y, ?_⟩
  refine List.forall_mem_cons.mpr ⟨fun y => row18_0 x0 x1 x2 x3 x4 x5 y, ?_⟩
  refine List.forall_mem_cons.mpr ⟨fun y => row17_0 x0 x1 x2 x3 x4 x5 y, ?_⟩
  refine List.forall_mem_cons.mpr ⟨fun y => row16_0 x0 x1 x2 x3 x4 x5 y, ?_⟩
  refine List.forall_mem_cons.mpr ⟨fun y => row15_0 x0 x1 x2 x3 x4 x5 y, ?_⟩
  refine List.forall_mem_cons.mpr ⟨fun y => row11_0 x0 x1 x2 x3 x4 x5 y, ?_⟩
  refine List.forall_mem_cons.mpr ⟨fun y => row7_0 x0 x1 x2 x3 x4 x5 y, ?_⟩
  refine List.forall_mem_cons.mpr ⟨fun y => row3_0 x0 x1 x2 x3 x4 x5 y, ?_⟩
  refine List.forall_mem_cons.mpr ⟨fun y => row14_0 x0 x1 x2 x3 x4 x5 y, ?_⟩
  refine List.forall_mem_cons.mpr ⟨fun y => row10_0 x0 x1 x2 x3 x4 x5 y, ?_⟩
  refine List.forall_mem_cons.mpr ⟨fun y => row6_0 x0 x1 x2 x3 x4 x5 y, ?_⟩
  refine List.forall_mem_cons.mpr ⟨fun y => row2_0 x0 x1 x2 x3 x4 x5 y, ?_⟩
  refine List.forall_mem_cons.mpr ⟨fun y => row13_0 x0 x1 x2 x3 x4 x5 y, ?_⟩
  refine List.forall_mem_cons.mpr ⟨fun y => row9_0 x0 x1 x2 x3 x4 x5 y, ?_⟩
  refine List.forall_mem_cons.mpr ⟨fun y => row5_0 x0 x1 x2 x3 x4 x5 y, ?_⟩
  refine List.forall_mem_cons.mpr ⟨fun y => row1_0 x0 x1 x2 x3 x4 x5 y, ?_⟩
  refine List.forall_mem_cons.mpr ⟨fun y => row12_0 x0 x1 x2 x3 x4 x5 y, ?_⟩
  refine List.forall_mem_cons.mpr ⟨fun y => row8_0 x0 x1 x2 x3 x4 x5 y, ?_⟩
  refine List.forall_mem_cons.mpr ⟨fun y => row4_0 x0 x1 x2 x3 x4 x5 y, ?_⟩
  refine List.forall_mem_cons.mpr ⟨fun y => row0_0 x0 x1 x2 x3 x4 x5 y, ?_⟩
  exact fun p hp => absurd hp List.not_mem_nil

/-- What the body leaves in the second result. -/
theorem weights_block : out0_7 x0 x1 x2 x3 x4 x5 = blkWeights x0 x1 x2 x3 x4 x5 := by
  funext y
  unfold out0_7
  refine View.canon_apply_of_pieces (blkWeights x0 x1 x2 x3 x4 x5) _ ?_ y (cover0_7 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine List.forall_mem_cons.mpr ⟨fun y => weight33_3 x0 x1 x2 x3 x4 x5 y, ?_⟩
  refine List.forall_mem_cons.mpr ⟨fun y => weight32_3 x0 x1 x2 x3 x4 x5 y, ?_⟩
  refine List.forall_mem_cons.mpr ⟨fun y => weight31_3 x0 x1 x2 x3 x4 x5 y, ?_⟩
  refine List.forall_mem_cons.mpr ⟨fun y => weight30_3 x0 x1 x2 x3 x4 x5 y, ?_⟩
  refine List.forall_mem_cons.mpr ⟨fun y => weight23_3 x0 x1 x2 x3 x4 x5 y, ?_⟩
  refine List.forall_mem_cons.mpr ⟨fun y => weight22_3 x0 x1 x2 x3 x4 x5 y, ?_⟩
  refine List.forall_mem_cons.mpr ⟨fun y => weight21_3 x0 x1 x2 x3 x4 x5 y, ?_⟩
  refine List.forall_mem_cons.mpr ⟨fun y => weight20_3 x0 x1 x2 x3 x4 x5 y, ?_⟩
  refine List.forall_mem_cons.mpr ⟨fun y => weight13_3 x0 x1 x2 x3 x4 x5 y, ?_⟩
  refine List.forall_mem_cons.mpr ⟨fun y => weight12_3 x0 x1 x2 x3 x4 x5 y, ?_⟩
  refine List.forall_mem_cons.mpr ⟨fun y => weight11_3 x0 x1 x2 x3 x4 x5 y, ?_⟩
  refine List.forall_mem_cons.mpr ⟨fun y => weight10_3 x0 x1 x2 x3 x4 x5 y, ?_⟩
  refine List.forall_mem_cons.mpr ⟨fun y => weight03_3 x0 x1 x2 x3 x4 x5 y, ?_⟩
  refine List.forall_mem_cons.mpr ⟨fun y => weight02_3 x0 x1 x2 x3 x4 x5 y, ?_⟩
  refine List.forall_mem_cons.mpr ⟨fun y => weight01_3 x0 x1 x2 x3 x4 x5 y, ?_⟩
  refine List.forall_mem_cons.mpr ⟨fun y => weight00_3 x0 x1 x2 x3 x4 x5 y, ?_⟩
  refine List.forall_mem_cons.mpr ⟨fun y => weight33_2 x0 x1 x2 x3 x4 x5 y, ?_⟩
  refine List.forall_mem_cons.mpr ⟨fun y => weight32_2 x0 x1 x2 x3 x4 x5 y, ?_⟩
  refine List.forall_mem_cons.mpr ⟨fun y => weight31_2 x0 x1 x2 x3 x4 x5 y, ?_⟩
  refine List.forall_mem_cons.mpr ⟨fun y => weight30_2 x0 x1 x2 x3 x4 x5 y, ?_⟩
  refine List.forall_mem_cons.mpr ⟨fun y => weight23_2 x0 x1 x2 x3 x4 x5 y, ?_⟩
  refine List.forall_mem_cons.mpr ⟨fun y => weight22_2 x0 x1 x2 x3 x4 x5 y, ?_⟩
  refine List.forall_mem_cons.mpr ⟨fun y => weight21_2 x0 x1 x2 x3 x4 x5 y, ?_⟩
  refine List.forall_mem_cons.mpr ⟨fun y => weight20_2 x0 x1 x2 x3 x4 x5 y, ?_⟩
  refine List.forall_mem_cons.mpr ⟨fun y => weight13_2 x0 x1 x2 x3 x4 x5 y, ?_⟩
  refine List.forall_mem_cons.mpr ⟨fun y => weight12_2 x0 x1 x2 x3 x4 x5 y, ?_⟩
  refine List.forall_mem_cons.mpr ⟨fun y => weight11_2 x0 x1 x2 x3 x4 x5 y, ?_⟩
  refine List.forall_mem_cons.mpr ⟨fun y => weight10_2 x0 x1 x2 x3 x4 x5 y, ?_⟩
  refine List.forall_mem_cons.mpr ⟨fun y => weight03_2 x0 x1 x2 x3 x4 x5 y, ?_⟩
  refine List.forall_mem_cons.mpr ⟨fun y => weight02_2 x0 x1 x2 x3 x4 x5 y, ?_⟩
  refine List.forall_mem_cons.mpr ⟨fun y => weight01_2 x0 x1 x2 x3 x4 x5 y, ?_⟩
  refine List.forall_mem_cons.mpr ⟨fun y => weight00_2 x0 x1 x2 x3 x4 x5 y, ?_⟩
  refine List.forall_mem_cons.mpr ⟨fun y => weight33_1 x0 x1 x2 x3 x4 x5 y, ?_⟩
  refine List.forall_mem_cons.mpr ⟨fun y => weight32_1 x0 x1 x2 x3 x4 x5 y, ?_⟩
  refine List.forall_mem_cons.mpr ⟨fun y => weight31_1 x0 x1 x2 x3 x4 x5 y, ?_⟩
  refine List.forall_mem_cons.mpr ⟨fun y => weight30_1 x0 x1 x2 x3 x4 x5 y, ?_⟩
  refine List.forall_mem_cons.mpr ⟨fun y => weight23_1 x0 x1 x2 x3 x4 x5 y, ?_⟩
  refine List.forall_mem_cons.mpr ⟨fun y => weight22_1 x0 x1 x2 x3 x4 x5 y, ?_⟩
  refine List.forall_mem_cons.mpr ⟨fun y => weight21_1 x0 x1 x2 x3 x4 x5 y, ?_⟩
  refine List.forall_mem_cons.mpr ⟨fun y => weight20_1 x0 x1 x2 x3 x4 x5 y, ?_⟩
  refine List.forall_mem_cons.mpr ⟨fun y => weight13_1 x0 x1 x2 x3 x4 x5 y, ?_⟩
  refine List.forall_mem_cons.mpr ⟨fun y => weight12_1 x0 x1 x2 x3 x4 x5 y, ?_⟩
  refine List.forall_mem_cons.mpr ⟨fun y => weight11_1 x0 x1 x2 x3 x4 x5 y, ?_⟩
  refine List.forall_mem_cons.mpr ⟨fun y => weight10_1 x0 x1 x2 x3 x4 x5 y, ?_⟩
  refine List.forall_mem_cons.mpr ⟨fun y => weight03_1 x0 x1 x2 x3 x4 x5 y, ?_⟩
  refine List.forall_mem_cons.mpr ⟨fun y => weight02_1 x0 x1 x2 x3 x4 x5 y, ?_⟩
  refine List.forall_mem_cons.mpr ⟨fun y => weight01_1 x0 x1 x2 x3 x4 x5 y, ?_⟩
  refine List.forall_mem_cons.mpr ⟨fun y => weight00_1 x0 x1 x2 x3 x4 x5 y, ?_⟩
  refine List.forall_mem_cons.mpr ⟨fun y => weight33_0 x0 x1 x2 x3 x4 x5 y, ?_⟩
  refine List.forall_mem_cons.mpr ⟨fun y => weight32_0 x0 x1 x2 x3 x4 x5 y, ?_⟩
  refine List.forall_mem_cons.mpr ⟨fun y => weight31_0 x0 x1 x2 x3 x4 x5 y, ?_⟩
  refine List.forall_mem_cons.mpr ⟨fun y => weight30_0 x0 x1 x2 x3 x4 x5 y, ?_⟩
  refine List.forall_mem_cons.mpr ⟨fun y => weight23_0 x0 x1 x2 x3 x4 x5 y, ?_⟩
  refine List.forall_mem_cons.mpr ⟨fun y => weight22_0 x0 x1 x2 x3 x4 x5 y, ?_⟩
  refine List.forall_mem_cons.mpr ⟨fun y => weight21_0 x0 x1 x2 x3 x4 x5 y, ?_⟩
  refine List.forall_mem_cons.mpr ⟨fun y => weight20_0 x0 x1 x2 x3 x4 x5 y, ?_⟩
  refine List.forall_mem_cons.mpr ⟨fun y => weight13_0 x0 x1 x2 x3 x4 x5 y, ?_⟩
  refine List.forall_mem_cons.mpr ⟨fun y => weight12_0 x0 x1 x2 x3 x4 x5 y, ?_⟩
  refine List.forall_mem_cons.mpr ⟨fun y => weight11_0 x0 x1 x2 x3 x4 x5 y, ?_⟩
  refine List.forall_mem_cons.mpr ⟨fun y => weight10_0 x0 x1 x2 x3 x4 x5 y, ?_⟩
  refine List.forall_mem_cons.mpr ⟨fun y => weight03_0 x0 x1 x2 x3 x4 x5 y, ?_⟩
  refine List.forall_mem_cons.mpr ⟨fun y => weight02_0 x0 x1 x2 x3 x4 x5 y, ?_⟩
  refine List.forall_mem_cons.mpr ⟨fun y => weight01_0 x0 x1 x2 x3 x4 x5 y, ?_⟩
  refine List.forall_mem_cons.mpr ⟨fun y => weight00_0 x0 x1 x2 x3 x4 x5 y, ?_⟩
  exact fun p hp => absurd hp List.not_mem_nil

variable (m : (ℓ : Loc nD τ sig) → Buf (Elt Ideal) ℓ)

/-- The blocks each window visits. -/
theorem idx : ∀ t : Fin cfg0.N, win0_0.index t = ![0, 0, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0, 0] ∧ win0_7.index t = ![0, 0, 0] :=
  (by decide +kernel : ∀ t : Fin grid0.N, _)

variable (c : Dev nD) (t : Fin cfg0.N)

theorem blk0 : iblk m c 0 t = m ((c : Thread nD τ).loc main_arg0) := by
  funext y
  idx_vars y
  blk_simp [iblk, V, idx t]
  blk_ext [idx t]

theorem blk1 : iblk m c 1 t = m ((c : Thread nD τ).loc main_arg1) := by
  funext y
  idx_vars y
  blk_simp [iblk, V, idx t]
  blk_ext [idx t]

theorem blk2 : iblk m c 2 t = m ((c : Thread nD τ).loc main_arg2) := by
  funext y
  idx_vars y
  blk_simp [iblk, V, idx t]
  blk_ext [idx t]

theorem blk3 : iblk m c 3 t = m ((c : Thread nD τ).loc main_arg3) := by
  funext y
  idx_vars y
  blk_simp [iblk, V, idx t]
  blk_ext [idx t]

theorem blk4 : iblk m c 4 t = m ((c : Thread nD τ).loc main_arg4) := by
  funext y
  idx_vars y
  blk_simp [iblk, V, idx t]
  blk_ext [idx t]

theorem blk5 : iblk m c 5 t = m ((c : Thread nD τ).loc main_arg5) := by
  funext y
  idx_vars y
  blk_simp [iblk, V, idx t]
  blk_ext [idx t]

theorem rows_final : (dats m 0 c).arrAt 6 cfg0.N = rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  idx_vars y
  have hx : ((View.whole main_v0_0).slice (win0_6.rect t)).emb (ix3 y0 y1 y2) = ix3 y0 y1 y2 := by
    blk_ext [idx t]
  rw [hx, rows_block]
  unfold blkRows
  rw [blk0, blk1, blk2, blk3, blk4, blk5]

theorem weights_final : (dats m 0 c).arrAt 7 cfg0.N = weights (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  idx_vars y
  have hx : ((View.whole main_v0_1).slice (win0_7.rect t)).emb (ix3 y0 y1 y2) = ix3 y0 y1 y2 := by
    blk_ext [idx t]
  rw [hx, weights_block]
  unfold blkWeights
  rw [blk0, blk1, blk2, blk3, blk4, blk5]

end Cert.GdnPIdeal.Value

end
-- ==== Proof.GdnPRefValue.lean ====
/-
  The plain preparation's two results as functions of the arguments.
-/
module

public import proofs.«01_k».proof.Proof.GdnPSpec
public import proofs.«01_k».proof.Proof.Gen.GdnPRefIdeal.Run

@[expose] public section

set_option maxRecDepth 16384

noncomputable section

namespace Cert.GdnPRefIdeal.Value

open Idealize.ShloMosaic Idealize.ShloMosaic.TcCoe Idealize.SL.Sem
open Idealize.ShloMosaic.StableHlo (launchContents)
open Cert.GdnPRefIdeal Cert.GdnPRefIdeal.Gen Cert.GdnPSpec

variable (V0 : Valuation τ sig (Elt Ideal))

/-- The chunk's rows. -/
abbrev ax : Vec Ideal S4x128x1536 .f32 := V0 (Proc.devRef .tc main_arg0)
/-- The rows of history. -/
abbrev ah : Vec Ideal S3x128x1536 .f32 := V0 (Proc.devRef .tc main_arg1)
/-- The gates' rows. -/
abbrev ab : Vec Ideal S4x128x128 .f32 := V0 (Proc.devRef .tc main_arg2)
/-- The convolution's weights. -/
abbrev aw : Vec Ideal S4x1536 .f32 := V0 (Proc.devRef .tc main_arg3)
/-- The log rates. -/
abbrev al : Vec Ideal S1x128 .f32 := V0 (Proc.devRef .tc main_arg4)
/-- The biases. -/
abbrev ad : Vec Ideal S1x128 .f32 := V0 (Proc.devRef .tc main_arg5)

/-- The history followed by the chunk. -/
theorem v0_apply (i : Fin 7) (b : Fin 128) (l : Fin 1536) : res_main_v0 V0 (ix3 i b l) = rowAt (ax V0) (ah V0) i b l := by
  unfold rowAt
  pointwise [res_main_v0]

theorem v27_apply (t : Fin 4) (b : Fin 128) (l : Fin 1536) : res_main_v27 V0 (ix3 t b l) = convAt (ax V0) (ah V0) (aw V0) t b l := by
  unfold convAt
  pointwise [res_main_v27, v0_apply]

theorem v29_apply (t : Fin 4) (b : Fin 128) (p : Fin 3) (h : Fin 4) (v : Fin 128) :
    res_main_v29 V0 (ix5 t b p h v) = actAt (ax V0) (ah V0) (aw V0) t b (lane3 p h v) := by
  unfold actAt Ideal.logistic lane3
  pointwise [res_main_v29, v27_apply]

theorem v41_apply (t : Fin 4) (b : Fin 128) (h : Fin 4) (v : Fin 128) : res_main_v41 V0 (ix4 t b h v) = qs (ax V0) (ah V0) (aw V0) b h t v := by
  unfold qs qAt normAt
  pointwise [res_main_v41, res_main_v31, v29_apply]

theorem v51_apply (t : Fin 4) (b : Fin 128) (h : Fin 4) (v : Fin 128) : res_main_v51 V0 (ix4 t b h v) = ks (ax V0) (ah V0) (aw V0) b h t v := by
  unfold ks normAt
  pointwise [res_main_v51, res_main_v43, v29_apply]

theorem v60_apply (t : Fin 4) (b : Fin 128) (h : Fin 4) : res_main_v60 V0 (ix3 t b h) = betaAt (ab V0) b h t := by
  unfold betaAt Ideal.logistic
  pointwise [res_main_v60]

theorem sle_apply (s t : Fin 4) : IntOp.cmpi .sle (BitVec.ofNat 32 s.val) (BitVec.ofNat 32 t.val) = if s ≤ t then 1#1 else 0#1 := by
  revert s t
  decide

theorem select_le (s t : Fin 4) (x : EReal) :
    Scalar.select (if s ≤ t then 1#1 else 0#1) x ((id (constant S_ .f32 0x00000000#32) : FVec Ideal S_ .f32) ix0) = if s ≤ t then x else 0 := by
  have e : (id (constant S_ .f32 0x00000000#32) : FVec Ideal S_ .f32) ix0 = 0 := (Ideal.ofBits_zero .f32 : _)
  rw [e]
  by_cases l : s ≤ t
  · rw [if_pos l, if_pos l]
    rfl
  · rw [if_neg l, if_neg l]
    rfl

theorem v87_apply (t s : Fin 4) (y z : Fin 1) : res_main_v87 V0 (ix4 t s y z) = if s ≤ t then 1#1 else 0#1 := by
  pointwise [res_main_v87, res_main_v81]
  exact sle_apply s t

theorem v90_apply (t : Fin 4) (b : Fin 128) (h : Fin 4) : res_main_v90 V0 (ix3 t b h) = cs (ab V0) (al V0) (ad V0) b h t := by
  unfold cs cumAt decayAt softplus
  pointwise [res_main_v90, res_main_v70, v87_apply]
  have key : ∀ f : Fin 4 → EReal, (∑ s : Fin 4, Scalar.select (if s ≤ t then 1#1 else 0#1) (f s) ((id (constant S_ .f32 0x00000000#32) : FVec Ideal S_ .f32) ix0))
      = ∑ s : Fin 4, if s ≤ t then f s else 0 := fun f => Finset.sum_congr rfl fun s _ => select_le s t (f s)
  exact key _

theorem v97_apply (t s : Fin 4) (b : Fin 128) (h : Fin 4) : res_main_v97 V0 (ix4 t s b h)
    = if s ≤ t then Ideal.exp (cs (ab V0) (al V0) (ad V0) b h t - cs (ab V0) (al V0) (ad V0) b h s) else 0 := by
  pointwise [res_main_v97, v87_apply, v90_apply]
  exact select_le s t _

/-- What the solution takes off, from an earlier token. -/
theorem v103_apply (t s : Fin 4) (b : Fin 128) (h : Fin 4) (l : s ≤ t) : res_main_v103 V0 (ix4 t s b h)
    = mAt (ks (ax V0) (ah V0) (aw V0) b h) (betaAt (ab V0) b h) (cs (ab V0) (al V0) (ad V0) b h) t s := by
  unfold mAt dot
  pointwise [res_main_v103, v60_apply, v51_apply, v97_apply]
  rw [if_pos l]
  have key : ∀ p q : Fin 128 → EReal, (∑ e : Fin 128, p e * q e) = ∑ e : Fin 128, q e * p e := fun p q => Finset.sum_congr rfl fun e _ => mul_comm _ _
  rw [key]

/-- The rows to solve: the gated values, then the gated keys under their decay. -/
def gated (b : Fin 128) (h : Fin 4) (l : Fin 256) (t : Fin 4) : EReal :=
  if e : l.val < 128 then vs (ax V0) (ah V0) (aw V0) b h t ⟨l.val, e⟩ * betaAt (ab V0) b h t
  else ks (ax V0) (ah V0) (aw V0) b h t ⟨l.val - 128, by omega⟩ * betaAt (ab V0) b h t * Ideal.exp (cs (ab V0) (al V0) (ad V0) b h t)

theorem v114_apply (t : Fin 4) (b : Fin 128) (h : Fin 4) (l : Fin 256) : res_main_v114 V0 (ix4 t b h l) = gated V0 b h l t := by
  unfold gated vs
  pointwise [res_main_v114, v29_apply, v60_apply, v51_apply, v90_apply]

/-- What the solution takes off. -/
abbrev mm (b : Fin 128) (h : Fin 4) : Fin 4 → Fin 4 → EReal := mAt (ks (ax V0) (ah V0) (aw V0) b h) (betaAt (ab V0) b h) (cs (ab V0) (al V0) (ad V0) b h)

theorem v116_apply (b : Fin 128) (h : Fin 4) (l : Fin 256) : res_main_v116 V0 (ix3 b h l) = sol0 (gated V0 b h l) := by
  unfold sol0
  pointwise [res_main_v116, v114_apply]

theorem v124_apply (b : Fin 128) (h : Fin 4) (l : Fin 256) : res_main_v124 V0 (ix3 b h l) = sol1 (mm V0 b h) (gated V0 b h l) := by
  unfold sol1
  pointwise [res_main_v124, v114_apply, v116_apply]
  rw [v103_apply V0 1 0 b h (by decide)]

theorem v138_apply (b : Fin 128) (h : Fin 4) (l : Fin 256) : res_main_v138 V0 (ix3 b h l) = sol2 (mm V0 b h) (gated V0 b h l) := by
  unfold sol2
  pointwise [res_main_v138, v114_apply, v116_apply, v124_apply]
  rw [v103_apply V0 2 0 b h (by decide), v103_apply V0 2 1 b h (by decide)]

theorem v163_apply (t : Fin 4) (b : Fin 128) (h : Fin 4) (l : Fin 256) : res_main_v163 V0 (ix4 t b h l)
    = (![sol0 (gated V0 b h l), sol1 (mm V0 b h) (gated V0 b h l), sol2 (mm V0 b h) (gated V0 b h l), sol3 (mm V0 b h) (gated V0 b h l)] : Fin 4 → EReal) t := by
  unfold sol3
  pointwise [res_main_v163, v114_apply, v116_apply, v124_apply, v138_apply]
  rw [v103_apply V0 3 0 b h (by decide), v103_apply V0 3 1 b h (by decide), v103_apply V0 3 2 b h (by decide)]
  fin_cases t <;> rfl

/-- The first result's operations. -/
def rowsOut : FVec Ideal S24x128x512 .f32 :=
  shapeCast _ ((concatenate S24x128x4x128 0 [⟨S4x128x4x128, ((extractStridedSlice S4x128x4x128 ![0, 0, 0, 128] (res_main_v163 V0) slices_S4x128x4x256_S4x128x4x128_0_0_0_128) : (⟨S4x128x4x128, .f32⟩ : BufTy).Contents (Elt Ideal))⟩, ⟨S4x128x4x128, ((mulf (res_main_v41 V0) (broadcastInDim S4x128x4x128 ![0, 1, 2, 3] bcast_S4x128x4x1_S4x128x4x128_0_1_2_3 (broadcastInDim S4x128x4x1 ![0, 1, 2] bcast_S4x128x4_S4x128x4x1_0_1_2 (Host.exp (res_main_v90 V0))))) : (⟨S4x128x4x128, .f32⟩ : BufTy).Contents (Elt Ideal))⟩, ⟨S4x128x4x128, ((extractStridedSlice S4x128x4x128 ![0, 0, 0, 0] (res_main_v163 V0) slices_S4x128x4x256_S4x128x4x128_0_0_0_0) : (⟨S4x128x4x128, .f32⟩ : BufTy).Contents (Elt Ideal))⟩, ⟨S4x128x4x128, ((mulf (res_main_v51 V0) (broadcastInDim S4x128x4x128 ![0, 1, 2, 3] bcast_S4x128x4x1_S4x128x4x128_0_1_2_3 (broadcastInDim S4x128x4x1 ![0, 1, 2] bcast_S4x128x4_S4x128x4x1_0_1_2 (Host.exp (subf (broadcastInDim S4x128x4 ![0, 1, 2] bcast_S1x128x4_S4x128x4_0_1_2 (extractStridedSlice S1x128x4 ![3, 0, 0] (res_main_v90 V0) slices_S4x128x4_S1x128x4_3_0_0)) (res_main_v90 V0)))))) : (⟨S4x128x4x128, .f32⟩ : BufTy).Contents (Elt Ideal))⟩, ⟨S1x128x4x128, ((broadcastInDim S1x128x4x128 ![0, 1, 2, 3] bcast_S1x128x4x1_S1x128x4x128_0_1_2_3 (broadcastInDim S1x128x4x1 ![0, 1, 2] bcast_S1x128x4_S1x128x4x1_0_1_2 (Host.exp (extractStridedSlice S1x128x4 ![3, 0, 0] (res_main_v90 V0) slices_S4x128x4_S1x128x4_3_0_0)))) : (⟨S1x128x4x128, .f32⟩ : BufTy).Contents (Elt Ideal))⟩, ⟨S7x128x4x128, ((broadcastInDim S7x128x4x128 ![] bcast_S_S7x128x4x128 (constant (F := Ideal) S_ .f32 0x00000000#32)) : (⟨S7x128x4x128, .f32⟩ : BufTy).Contents (Elt Ideal))⟩] concatenates_S4x128x4x128_S4x128x4x128_S4x128x4x128_S4x128x4x128_S1x128x4x128_S7x128x4x128_S24x128x4x128_d0 : (⟨S24x128x4x128, .f32⟩ : BufTy).Contents (Elt Ideal))) shapeCasts_S24x128x4x128_S24x128x512

/-- The second's. -/
def weightsOut : FVec Ideal S16x128x512 .f32 :=
  shapeCast _ (broadcastInDim S4x4x128x4x128 ![0, 1, 2, 3, 4] bcast_S4x4x128x4x1_S4x4x128x4x128_0_1_2_3_4 (broadcastInDim S4x4x128x4x1 ![0, 1, 2, 3] bcast_S4x4x128x4_S4x4x128x4x1_0_1_2_3 (mulf (transpose S4x4x128x4 [3, 2, 0, 1] (Host.dotGeneral (φ₁ := .f32) (φ₂ := .f32) dot_S4x128x4x128_S4x128x4x128_S128x4x4x4_3_3_0_0_12_12 none (res_main_v51 V0) (res_main_v41 V0)) transposes_S128x4x4x4_S4x4x128x4_3_2_0_1) (res_main_v97 V0)))) shapeCasts_S4x4x128x4x128_S16x128x512

theorem masked (P : Prop) [Decidable P] (p q : Fin 128 → EReal) (e : EReal) :
    (∑ x : Fin 128, p x * q x) * (if P then e else 0) = if P then (∑ x : Fin 128, q x * p x) * e else 0 := by
  have key : (∑ x : Fin 128, p x * q x) = ∑ x : Fin 128, q x * p x := Finset.sum_congr rfl fun x _ => mul_comm _ _
  rw [key]
  by_cases l : P
  · rw [if_pos l, if_pos l]
  · rw [if_neg l, if_neg l, mul_zero]

theorem weightsOut_eq : weightsOut V0 = weights (ax V0) (ah V0) (ab V0) (aw V0) (al V0) (ad V0) := by
  funext y
  idx_vars y
  unfold weightsOut weights weightsAt weightAt dot
  pointwise [v51_apply, v41_apply, v97_apply]
  exact masked _ _ _ _

/-- Four groups of four rows, one row, and zeros. -/
theorem groups (w q u k : Fin 4 → EReal) (e : EReal) (i : Fin 24) :
    (if h : i.val < 4 then w ⟨i.val, h⟩ else if h : i.val - 4 < 4 then q ⟨i.val - 4, h⟩ else if h : i.val - 4 - 4 < 4 then u ⟨i.val - 4 - 4, h⟩
      else if h : i.val - 4 - 4 - 4 < 4 then k ⟨i.val - 4 - 4 - 4, h⟩ else if h : i.val - 4 - 4 - 4 - 4 < 1 then e else 0)
      = (![w 0, w 1, w 2, w 3, q 0, q 1, q 2, q 3, u 0, u 1, u 2, u 3, k 0, k 1, k 2, k 3, e, 0, 0, 0, 0, 0, 0, 0] : Fin 24 → EReal) i := by
  fin_cases i <;> rfl

/-- The four solved rows. -/
abbrev sols (b : Fin 128) (h : Fin 4) (r : Fin 4 → EReal) : Fin 4 → EReal := ![sol0 r, sol1 (mm V0 b h) r, sol2 (mm V0 b h) r, sol3 (mm V0 b h) r]

theorem gated_values (b : Fin 128) (h : Fin 4) (n : ℕ) (hn : n < 128) :
    gated V0 b h (⟨n, by omega⟩ : Fin 256) = fun t => vs (ax V0) (ah V0) (aw V0) b h t ⟨n, hn⟩ * betaAt (ab V0) b h t := by
  funext t
  unfold gated
  rw [dif_pos hn]

theorem gated_keys (b : Fin 128) (h : Fin 4) (n : ℕ) (hn : n < 128) : gated V0 b h (⟨128 + n, by omega⟩ : Fin 256)
      = fun t => ks (ax V0) (ah V0) (aw V0) b h t ⟨n, hn⟩ * betaAt (ab V0) b h t * Ideal.exp (cs (ab V0) (al V0) (ad V0) b h t) := by
  funext t
  unfold gated
  rw [dif_neg (by show ¬ 128 + n < 128; omega)]
  have e : (⟨128 + n - 128, by omega⟩ : Fin 128) = ⟨n, hn⟩ := Fin.ext (by show 128 + n - 128 = n; omega)
  exact congrArg (fun v => ks (ax V0) (ah V0) (aw V0) b h t v * betaAt (ab V0) b h t * Ideal.exp (cs (ab V0) (al V0) (ad V0) b h t)) e

/-- The first result at row `i`: the solved keys, the queries, the solved values, the keys for the state, the whole decay, and zeros. -/
theorem rowsOut_apply (i : Fin 24) (b : Fin 128) (l : Fin 512) (h : Fin 4) (v : Fin 128) (eh : h = (⟨l.val / 128, by omega⟩ : Fin 4)) (ev : v = (⟨l.val % 128, by omega⟩ : Fin 128)) :
    rowsOut V0 (ix3 i b l) = if h' : i.val < 4 then (sols V0 b h (gated V0 b h ⟨128 + v.val, by omega⟩)) ⟨i.val, h'⟩
      else if h' : i.val - 4 < 4 then qs (ax V0) (ah V0) (aw V0) b h ⟨i.val - 4, h'⟩ v * Ideal.exp (cs (ab V0) (al V0) (ad V0) b h ⟨i.val - 4, h'⟩)
      else if h' : i.val - 4 - 4 < 4 then (sols V0 b h (gated V0 b h ⟨v.val, by omega⟩)) ⟨i.val - 4 - 4, h'⟩
      else if h' : i.val - 4 - 4 - 4 < 4 then ks (ax V0) (ah V0) (aw V0) b h ⟨i.val - 4 - 4 - 4, h'⟩ v
        * Ideal.exp (cs (ab V0) (al V0) (ad V0) b h 3 - cs (ab V0) (al V0) (ad V0) b h ⟨i.val - 4 - 4 - 4, h'⟩)
      else if h' : i.val - 4 - 4 - 4 - 4 < 1 then Ideal.exp (cs (ab V0) (al V0) (ad V0) b h 3) else 0 := by
  subst eh
  subst ev
  unfold rowsOut
  pointwise [v163_apply, v51_apply, v41_apply, v90_apply]

theorem rowsOut_eq : rowsOut V0 = rows (ax V0) (ah V0) (ab V0) (aw V0) (al V0) (ad V0) := by
  funext y
  idx_vars y
  refine (rowsOut_apply V0 y0 y1 y2 _ (⟨y2.val % 128, by omega⟩ : Fin 128) rfl rfl).trans ?_
  rw [gated_keys V0 y1 _ (y2.val % 128) (by omega), gated_values V0 y1 _ (y2.val % 128) (by omega)]
  have hh : y2.val / 128 < 4 := by omega
  have hv : y2.val % 128 < 128 := by omega
  exact groups
    (sols V0 y1 ⟨y2.val / 128, hh⟩ fun t => ks (ax V0) (ah V0) (aw V0) y1 ⟨y2.val / 128, hh⟩ t ⟨y2.val % 128, hv⟩ * betaAt (ab V0) y1 ⟨y2.val / 128, hh⟩ t
      * Ideal.exp (cs (ab V0) (al V0) (ad V0) y1 ⟨y2.val / 128, hh⟩ t))
    (fun t => qs (ax V0) (ah V0) (aw V0) y1 ⟨y2.val / 128, hh⟩ t ⟨y2.val % 128, hv⟩ * Ideal.exp (cs (ab V0) (al V0) (ad V0) y1 ⟨y2.val / 128, hh⟩ t))
    (sols V0 y1 ⟨y2.val / 128, hh⟩ fun t => vs (ax V0) (ah V0) (aw V0) y1 ⟨y2.val / 128, hh⟩ t ⟨y2.val % 128, hv⟩ * betaAt (ab V0) y1 ⟨y2.val / 128, hh⟩ t)
    (fun t => ks (ax V0) (ah V0) (aw V0) y1 ⟨y2.val / 128, hh⟩ t ⟨y2.val % 128, hv⟩
      * Ideal.exp (cs (ab V0) (al V0) (ad V0) y1 ⟨y2.val / 128, hh⟩ 3 - cs (ab V0) (al V0) (ad V0) y1 ⟨y2.val / 128, hh⟩ t))
    (Ideal.exp (cs (ab V0) (al V0) (ad V0) y1 ⟨y2.val / 128, hh⟩ 3)) y0

theorem rows_launch (m : (ℓ : Loc nD τ sig) → Buf (Elt Ideal) ℓ) (c : Dev nD) : rowsOut (launchContents m c) = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  rowsOut_eq (launchContents m c)

theorem weights_launch (m : (ℓ : Loc nD τ sig) → Buf (Elt Ideal) ℓ) (c : Dev nD) : weightsOut (launchContents m c) = weights (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  weightsOut_eq (launchContents m c)

/-- Every run ends with the two results, and the arguments as they were. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v186) = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v189) = weights (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (rows_launch m c), (h c).2.1.trans (weights_launch m c), (h c).2.2⟩) (run m ρ)

end Cert.GdnPRefIdeal.Value

end
-- ==== Proof.GdnPClaim.lean ====
/-
  The claim of the sample group's preparation: the kernel and the plain computation hold the same two arrays.
-/
module

public import proofs.«01_k».proof.Defs
public import proofs.«01_k».proof.Proof.GdnPValue
public import proofs.«01_k».proof.Proof.GdnPRefValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel and the plain computation give the same arrays. -/
theorem gdn_p_eq : Cert.algebraic_GdnPIdeal_GdnPRefIdeal := by
  pair_intro
  · run_from Cert.GdnPIdeal.Value.run_blocks m g
  · run_from Cert.GdnPRefIdeal.Value.run_results m' g'
    all_goals obtain ⟨a0, a1, a2, a3, a4, a5⟩ := hagree c
    · rw [Cert.GdnPIdeal.Value.rows_final m c]
    · rw [Cert.GdnPIdeal.Value.weights_final m c]

end Cert.Proof

end
-- ==== Proof.lean ====
/-
  The claims, assembled: the frames of the twenty-four programs, the rule instances, and the value claims.
-/
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Pre_finite
public import proofs.«01_k».proof.Proof.Gen.AttnIdeal.Value
public import proofs.«01_k».proof.Proof.Gen.InprojIdeal.Value
public import proofs.«01_k».proof.Proof.Gen.PostIdeal.Value
public import proofs.«01_k».proof.Proof.Gen.AttnRefIdeal.Run
public import proofs.«01_k».proof.Proof.Gen.InprojRefIdeal.Run
public import proofs.«01_k».proof.Proof.Gen.PostRefIdeal.Run
public import proofs.«01_k».proof.Proof.Gen.InprojS
public import proofs.«01_k».proof.Proof.Gen.InprojS.Skeleton
public import proofs.«01_k».proof.Proof.Gen.InprojS.Launch
public import proofs.«01_k».proof.Proof.Gen.InprojS.Points
public import proofs.«01_k».proof.Proof.Gen.InprojS.Frame
public import proofs.«01_k».proof.Proof.Gen.InprojSIdeal
public import proofs.«01_k».proof.Proof.Gen.InprojSIdeal.Skeleton
public import proofs.«01_k».proof.Proof.Gen.InprojSIdeal.Launch
public import proofs.«01_k».proof.Proof.Gen.InprojSIdeal.Points
public import proofs.«01_k».proof.Proof.Gen.InprojSIdeal.Frame
public import proofs.«01_k».proof.Proof.Gen.InprojSRefIdeal
public import proofs.«01_k».proof.Proof.Gen.PostS
public import proofs.«01_k».proof.Proof.Gen.PostS.Skeleton
public import proofs.«01_k».proof.Proof.Gen.PostS.Launch
public import proofs.«01_k».proof.Proof.Gen.PostS.Points
public import proofs.«01_k».proof.Proof.Gen.PostS.Frame
public import proofs.«01_k».proof.Proof.Gen.PostSIdeal
public import proofs.«01_k».proof.Proof.Gen.PostSIdeal.Skeleton
public import proofs.«01_k».proof.Proof.Gen.PostSIdeal.Launch
public import proofs.«01_k».proof.Proof.Gen.PostSIdeal.Points
public import proofs.«01_k».proof.Proof.Gen.PostSIdeal.Frame
public import proofs.«01_k».proof.Proof.Gen.PostSRefIdeal
public import proofs.«01_k».proof.Proof.Gen.InprojSIdeal.Value
public import proofs.«01_k».proof.Proof.Gen.PostSIdeal.Value
public import proofs.«01_k».proof.Proof.Gen.InprojSRefIdeal.Run
public import proofs.«01_k».proof.Proof.Gen.PostSRefIdeal.Run
public import proofs.«01_k».proof.Proof.Gen.GdnS
public import proofs.«01_k».proof.Proof.Gen.GdnS.Skeleton
public import proofs.«01_k».proof.Proof.Gen.GdnS.Launch
public import proofs.«01_k».proof.Proof.Gen.GdnS.Points
public import proofs.«01_k».proof.Proof.Gen.GdnS.Frame
public import proofs.«01_k».proof.Proof.Gen.GdnSIdeal
public import proofs.«01_k».proof.Proof.Gen.GdnSIdeal.Skeleton
public import proofs.«01_k».proof.Proof.Gen.GdnSIdeal.Launch
public import proofs.«01_k».proof.Proof.Gen.GdnSIdeal.Points
public import proofs.«01_k».proof.Proof.Gen.GdnSIdeal.Frame
public import proofs.«01_k».proof.Proof.Gen.GdnSRefIdeal
public import proofs.«01_k».proof.Proof.Gen.GdnSIdeal.Value
public import proofs.«01_k».proof.Proof.Gen.GdnSRefIdeal.Run
public import proofs.«01_k».proof.Proof.Gen.GdnO
public import proofs.«01_k».proof.Proof.Gen.GdnO.Skeleton
public import proofs.«01_k».proof.Proof.Gen.GdnO.Launch
public import proofs.«01_k».proof.Proof.Gen.GdnO.Points
public import proofs.«01_k».proof.Proof.Gen.GdnO.Frame
public import proofs.«01_k».proof.Proof.Gen.GdnOIdeal
public import proofs.«01_k».proof.Proof.Gen.GdnOIdeal.Skeleton
public import proofs.«01_k».proof.Proof.Gen.GdnOIdeal.Launch
public import proofs.«01_k».proof.Proof.Gen.GdnOIdeal.Points
public import proofs.«01_k».proof.Proof.Gen.GdnOIdeal.Frame
public import proofs.«01_k».proof.Proof.Gen.GdnORefIdeal
public import proofs.«01_k».proof.Proof.Gen.GdnOIdeal.Value
public import proofs.«01_k».proof.Proof.Gen.GdnORefIdeal.Run
public import proofs.«01_k».proof.Proof.Gen.GdnP
public import proofs.«01_k».proof.Proof.Gen.GdnP.Skeleton
public import proofs.«01_k».proof.Proof.Gen.GdnP.Launch
public import proofs.«01_k».proof.Proof.Gen.GdnP.Points
public import proofs.«01_k».proof.Proof.Gen.GdnP.Frame
public import proofs.«01_k».proof.Proof.Gen.GdnPIdeal
public import proofs.«01_k».proof.Proof.Gen.GdnPIdeal.Skeleton
public import proofs.«01_k».proof.Proof.Gen.GdnPIdeal.Launch
public import proofs.«01_k».proof.Proof.Gen.GdnPIdeal.Points
public import proofs.«01_k».proof.Proof.Gen.GdnPIdeal.Frame
public import proofs.«01_k».proof.Proof.Gen.GdnPRefIdeal
public import proofs.«01_k».proof.Proof.Gen.GdnPIdeal.Value
public import proofs.«01_k».proof.Proof.Gen.GdnPRefIdeal.Run
public import proofs.«01_k».proof.Proof.AttnClaim
public import proofs.«01_k».proof.Proof.InprojClaim
public import proofs.«01_k».proof.Proof.PostClaim
public import proofs.«01_k».proof.Proof.InprojSClaim
public import proofs.«01_k».proof.Proof.PostSClaim
public import proofs.«01_k».proof.Proof.GdnSClaim
public import proofs.«01_k».proof.Proof.GdnOClaim
public import proofs.«01_k».proof.Proof.GdnPClaim
public import Idealize.ShloMosaic.Adequacy
public import Idealize.ShloMosaic.Init

@[expose] public section

noncomputable section

namespace Cert.Proof

open Idealize.ShloMosaic Idealize.ShloMosaic.TcCoe Idealize.SL.Sem

/-- The plain input projection ends and leaves its arguments. -/
theorem inproj_ref_frame : Cert.quiescent_InprojRefIdeal :=
  fun m g _ => (θ_run _ _ _).mono (fun r h => ⟨fun c => (h c).2.2.2.2.2.2.2.2.2, sem_eq_zero_of_no_sems (by decide) _⟩) (Cert.InprojRefIdeal.Value.run m g)

/-- The plain output projection and feed-forward end and leave their arguments. -/
theorem post_ref_frame : Cert.quiescent_PostRefIdeal :=
  fun m g _ => (θ_run _ _ _).mono (fun r h => ⟨fun c => (h c).2.2, sem_eq_zero_of_no_sems (by decide) _⟩) (Cert.PostRefIdeal.Value.run m g)

/-- The plain input projection of the sample group ends and leaves its arguments. -/
theorem inproj_s_ref_frame : Cert.quiescent_InprojSRefIdeal :=
  fun m g _ => (θ_run _ _ _).mono (fun r h => ⟨fun c => (h c).2.2.2.2.2.2.2.2.2, sem_eq_zero_of_no_sems (by decide) _⟩) (Cert.InprojSRefIdeal.Value.run m g)

/-- The plain output projection and feed-forward of the sample group end and leave their arguments. -/
theorem post_s_ref_frame : Cert.quiescent_PostSRefIdeal :=
  fun m g _ => (θ_run _ _ _).mono (fun r h => ⟨fun c => (h c).2.2, sem_eq_zero_of_no_sems (by decide) _⟩) (Cert.PostSRefIdeal.Value.run m g)

/-- The plain delta-rule state of the sample group ends and leaves its arguments. -/
theorem gdn_s_ref_frame : Cert.quiescent_GdnSRefIdeal :=
  fun m g _ => (θ_run _ _ _).mono (fun r h => ⟨fun c => (h c).2.2, sem_eq_zero_of_no_sems (by decide) _⟩) (Cert.GdnSRefIdeal.Value.run m g)

/-- The plain output of the sample group's delta rule ends and leaves its arguments. -/
theorem gdn_o_ref_frame : Cert.quiescent_GdnORefIdeal :=
  fun m g _ => (θ_run _ _ _).mono (fun r h => ⟨fun c => (h c).2, sem_eq_zero_of_no_sems (by decide) _⟩) (Cert.GdnORefIdeal.Value.run m g)

/-- The plain preparation of the sample group's chunk ends and leaves its arguments. -/
theorem gdn_p_ref_frame : Cert.quiescent_GdnPRefIdeal :=
  fun m g _ => (θ_run _ _ _).mono (fun r h => ⟨fun c => (h c).2.2, sem_eq_zero_of_no_sems (by decide) _⟩) (Cert.GdnPRefIdeal.Value.run m g)

theorem claim : Cert.Claim := ⟨Cert.Attn.Gen.facts, Cert.AttnIdeal.Gen.facts, Cert.AttnRefIdeal.Gen.facts, Cert.Inproj.Gen.facts, Cert.InprojIdeal.Gen.facts, Cert.InprojRefIdeal.Gen.facts, Cert.Post.Gen.facts, Cert.PostIdeal.Gen.facts, Cert.PostRefIdeal.Gen.facts,
  Cert.InprojS.Gen.facts, Cert.InprojSIdeal.Gen.facts, Cert.InprojSRefIdeal.Gen.facts, Cert.PostS.Gen.facts, Cert.PostSIdeal.Gen.facts, Cert.PostSRefIdeal.Gen.facts,
  Cert.GdnS.Gen.facts, Cert.GdnSIdeal.Gen.facts, Cert.GdnSRefIdeal.Gen.facts,
  Cert.GdnO.Gen.facts, Cert.GdnOIdeal.Gen.facts, Cert.GdnORefIdeal.Gen.facts,
  Cert.GdnP.Gen.facts, Cert.GdnPIdeal.Gen.facts, Cert.GdnPRefIdeal.Gen.facts, Cert.Pre_finite.Gen.facts,
  fun m ρ _ => Cert.Attn.Gen.frame m ρ, fun m ρ _ => Cert.AttnIdeal.Gen.frame m ρ, fun m ρ _ => Cert.AttnIdeal.Gen.frame m ρ,
  attn_ref_frame, fun m ρ _ => attn_ref_frame m ρ trivial,
  fun m ρ _ => Cert.Inproj.Gen.frame m ρ, fun m ρ _ => Cert.InprojIdeal.Gen.frame m ρ, inproj_ref_frame,
  fun m ρ _ => Cert.Post.Gen.frame m ρ, fun m ρ _ => Cert.PostIdeal.Gen.frame m ρ, post_ref_frame,
  fun m ρ _ => Cert.InprojS.Gen.frame m ρ, fun m ρ _ => Cert.InprojSIdeal.Gen.frame m ρ, inproj_s_ref_frame,
  fun m ρ _ => Cert.PostS.Gen.frame m ρ, fun m ρ _ => Cert.PostSIdeal.Gen.frame m ρ, post_s_ref_frame,
  fun m ρ _ => Cert.GdnS.Gen.frame m ρ, fun m ρ _ => Cert.GdnSIdeal.Gen.frame m ρ, gdn_s_ref_frame,
  fun m ρ _ => Cert.GdnO.Gen.frame m ρ, fun m ρ _ => Cert.GdnOIdeal.Gen.frame m ρ, gdn_o_ref_frame,
  fun m ρ _ => Cert.GdnP.Gen.frame m ρ, fun m ρ _ => Cert.GdnPIdeal.Gen.frame m ρ, gdn_p_ref_frame,
  IdealRules.named_const.statement Cert.AttnIdeal.κ "mask" .f32 0xF149F2CA#32 ⊥ rfl, attn_eq,
  trivial, inproj_eq, trivial, post_eq, trivial, inproj_s_eq, trivial, post_s_eq, trivial, gdn_s_eq, trivial, gdn_o_eq, trivial, gdn_p_eq⟩

end Cert.Proof

end
